-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_KernelFfnInDw (m : (ℓ : Loc Cert.KernelFfnInDw.nD Cert.KernelFfnInDw.τ Cert.KernelFfnInDw.sig) → Buf (Elt Bits) ℓ) : Prop :=
  True

def Pre_KernelFfnInDwIdeal (m : (ℓ : Loc Cert.KernelFfnInDwIdeal.nD Cert.KernelFfnInDwIdeal.τ Cert.KernelFfnInDwIdeal.sig) → Buf (Elt Ideal) ℓ) : Prop :=
  True

def Pre_ReferenceFfnInDwIdeal (m : (ℓ : Loc Cert.ReferenceFfnInDwIdeal.nD Cert.ReferenceFfnInDwIdeal.τ Cert.ReferenceFfnInDwIdeal.sig) → Buf (Elt Ideal) ℓ) : Prop :=
  True

def Pre_KernelFfnOutDw (m : (ℓ : Loc Cert.KernelFfnOutDw.nD Cert.KernelFfnOutDw.τ Cert.KernelFfnOutDw.sig) → Buf (Elt Bits) ℓ) : Prop :=
  True

def Pre_KernelFfnOutDwIdeal (m : (ℓ : Loc Cert.KernelFfnOutDwIdeal.nD Cert.KernelFfnOutDwIdeal.τ Cert.KernelFfnOutDwIdeal.sig) → Buf (Elt Ideal) ℓ) : Prop :=
  True

def Pre_ReferenceFfnOutDwIdeal (m : (ℓ : Loc Cert.ReferenceFfnOutDwIdeal.nD Cert.ReferenceFfnOutDwIdeal.τ Cert.ReferenceFfnOutDwIdeal.sig) → Buf (Elt Ideal) ℓ) : Prop :=
  True

def Pre_KernelMemODw (m : (ℓ : Loc Cert.KernelMemODw.nD Cert.KernelMemODw.τ Cert.KernelMemODw.sig) → Buf (Elt Bits) ℓ) : Prop :=
  True

def Pre_KernelMemODwIdeal (m : (ℓ : Loc Cert.KernelMemODwIdeal.nD Cert.KernelMemODwIdeal.τ Cert.KernelMemODwIdeal.sig) → Buf (Elt Ideal) ℓ) : Prop :=
  True

def Pre_ReferenceMemODwIdeal (m : (ℓ : Loc Cert.ReferenceMemODwIdeal.nD Cert.ReferenceMemODwIdeal.τ Cert.ReferenceMemODwIdeal.sig) → Buf (Elt Ideal) ℓ) : Prop :=
  True

def Pre_KernelMemQDw (m : (ℓ : Loc Cert.KernelMemQDw.nD Cert.KernelMemQDw.τ Cert.KernelMemQDw.sig) → Buf (Elt Bits) ℓ) : Prop :=
  True

def Pre_KernelMemQDwIdeal (m : (ℓ : Loc Cert.KernelMemQDwIdeal.nD Cert.KernelMemQDwIdeal.τ Cert.KernelMemQDwIdeal.sig) → Buf (Elt Ideal) ℓ) : Prop :=
  True

def Pre_ReferenceMemQDwIdeal (m : (ℓ : Loc Cert.ReferenceMemQDwIdeal.nD Cert.ReferenceMemQDwIdeal.τ Cert.ReferenceMemQDwIdeal.sig) → Buf (Elt Ideal) ℓ) : Prop :=
  True

def Pre_KernelMemKvDw (m : (ℓ : Loc Cert.KernelMemKvDw.nD Cert.KernelMemKvDw.τ Cert.KernelMemKvDw.sig) → Buf (Elt Bits) ℓ) : Prop :=
  True

def Pre_KernelMemKvDwIdeal (m : (ℓ : Loc Cert.KernelMemKvDwIdeal.nD Cert.KernelMemKvDwIdeal.τ Cert.KernelMemKvDwIdeal.sig) → Buf (Elt Ideal) ℓ) : Prop :=
  True

def Pre_ReferenceMemKvDwIdeal (m : (ℓ : Loc Cert.ReferenceMemKvDwIdeal.nD Cert.ReferenceMemKvDwIdeal.τ Cert.ReferenceMemKvDwIdeal.sig) → Buf (Elt Ideal) ℓ) : Prop :=
  True

def Pre_KernelInProjDw (m : (ℓ : Loc Cert.KernelInProjDw.nD Cert.KernelInProjDw.τ Cert.KernelInProjDw.sig) → Buf (Elt Bits) ℓ) : Prop :=
  True

def Pre_KernelInProjDwIdeal (m : (ℓ : Loc Cert.KernelInProjDwIdeal.nD Cert.KernelInProjDwIdeal.τ Cert.KernelInProjDwIdeal.sig) → Buf (Elt Ideal) ℓ) : Prop :=
  True

def Pre_ReferenceInProjDwIdeal (m : (ℓ : Loc Cert.ReferenceInProjDwIdeal.nD Cert.ReferenceInProjDwIdeal.τ Cert.ReferenceInProjDwIdeal.sig) → Buf (Elt Ideal) ℓ) : Prop :=
  True

def Pre_KernelQkvProjDw (m : (ℓ : Loc Cert.KernelQkvProjDw.nD Cert.KernelQkvProjDw.τ Cert.KernelQkvProjDw.sig) → Buf (Elt Bits) ℓ) : Prop :=
  True

def Pre_KernelQkvProjDwIdeal (m : (ℓ : Loc Cert.KernelQkvProjDwIdeal.nD Cert.KernelQkvProjDwIdeal.τ Cert.KernelQkvProjDwIdeal.sig) → Buf (Elt Ideal) ℓ) : Prop :=
  True

def Pre_ReferenceQkvProjDwIdeal (m : (ℓ : Loc Cert.ReferenceQkvProjDwIdeal.nD Cert.ReferenceQkvProjDwIdeal.τ Cert.ReferenceQkvProjDwIdeal.sig) → Buf (Elt Ideal) ℓ) : Prop :=
  True

def Pre_KernelSbOutProjDw (m : (ℓ : Loc Cert.KernelSbOutProjDw.nD Cert.KernelSbOutProjDw.τ Cert.KernelSbOutProjDw.sig) → Buf (Elt Bits) ℓ) : Prop :=
  True

def Pre_KernelSbOutProjDwIdeal (m : (ℓ : Loc Cert.KernelSbOutProjDwIdeal.nD Cert.KernelSbOutProjDwIdeal.τ Cert.KernelSbOutProjDwIdeal.sig) → Buf (Elt Ideal) ℓ) : Prop :=
  True

def Pre_ReferenceSbOutProjDwIdeal (m : (ℓ : Loc Cert.ReferenceSbOutProjDwIdeal.nD Cert.ReferenceSbOutProjDwIdeal.τ Cert.ReferenceSbOutProjDwIdeal.sig) → Buf (Elt Ideal) ℓ) : Prop :=
  True

def Pre_KernelFfnIn (m : (ℓ : Loc Cert.KernelFfnIn.nD Cert.KernelFfnIn.τ Cert.KernelFfnIn.sig) → Buf (Elt Bits) ℓ) : Prop :=
  True

def Pre_KernelFfnInIdeal (m : (ℓ : Loc Cert.KernelFfnInIdeal.nD Cert.KernelFfnInIdeal.τ Cert.KernelFfnInIdeal.sig) → Buf (Elt Ideal) ℓ) : Prop :=
  True

def Pre_ReferenceFfnInIdeal (m : (ℓ : Loc Cert.ReferenceFfnInIdeal.nD Cert.ReferenceFfnInIdeal.τ Cert.ReferenceFfnInIdeal.sig) → Buf (Elt Ideal) ℓ) : Prop :=
  True

def Pre_KernelFfnOutDx (m : (ℓ : Loc Cert.KernelFfnOutDx.nD Cert.KernelFfnOutDx.τ Cert.KernelFfnOutDx.sig) → Buf (Elt Bits) ℓ) : Prop :=
  True

def Pre_KernelFfnOutDxIdeal (m : (ℓ : Loc Cert.KernelFfnOutDxIdeal.nD Cert.KernelFfnOutDxIdeal.τ Cert.KernelFfnOutDxIdeal.sig) → Buf (Elt Ideal) ℓ) : Prop :=
  True

def Pre_ReferenceFfnOutDxIdeal (m : (ℓ : Loc Cert.ReferenceFfnOutDxIdeal.nD Cert.ReferenceFfnOutDxIdeal.τ Cert.ReferenceFfnOutDxIdeal.sig) → Buf (Elt Ideal) ℓ) : Prop :=
  True

def Pre_KernelQkvProj (m : (ℓ : Loc Cert.KernelQkvProj.nD Cert.KernelQkvProj.τ Cert.KernelQkvProj.sig) → Buf (Elt Bits) ℓ) : Prop :=
  True

def Pre_KernelQkvProjIdeal (m : (ℓ : Loc Cert.KernelQkvProjIdeal.nD Cert.KernelQkvProjIdeal.τ Cert.KernelQkvProjIdeal.sig) → Buf (Elt Ideal) ℓ) : Prop :=
  True

def Pre_ReferenceQkvProjIdeal (m : (ℓ : Loc Cert.ReferenceQkvProjIdeal.nD Cert.ReferenceQkvProjIdeal.τ Cert.ReferenceQkvProjIdeal.sig) → Buf (Elt Ideal) ℓ) : Prop :=
  True

def Pre_KernelInProj (m : (ℓ : Loc Cert.KernelInProj.nD Cert.KernelInProj.τ Cert.KernelInProj.sig) → Buf (Elt Bits) ℓ) : Prop :=
  True

def Pre_KernelInProjIdeal (m : (ℓ : Loc Cert.KernelInProjIdeal.nD Cert.KernelInProjIdeal.τ Cert.KernelInProjIdeal.sig) → Buf (Elt Ideal) ℓ) : Prop :=
  True

def Pre_ReferenceInProjIdeal (m : (ℓ : Loc Cert.ReferenceInProjIdeal.nD Cert.ReferenceInProjIdeal.τ Cert.ReferenceInProjIdeal.sig) → Buf (Elt Ideal) ℓ) : Prop :=
  True

def Pre_KernelMemQ (m : (ℓ : Loc Cert.KernelMemQ.nD Cert.KernelMemQ.τ Cert.KernelMemQ.sig) → Buf (Elt Bits) ℓ) : Prop :=
  True

def Pre_KernelMemQIdeal (m : (ℓ : Loc Cert.KernelMemQIdeal.nD Cert.KernelMemQIdeal.τ Cert.KernelMemQIdeal.sig) → Buf (Elt Ideal) ℓ) : Prop :=
  True

def Pre_ReferenceMemQIdeal (m : (ℓ : Loc Cert.ReferenceMemQIdeal.nD Cert.ReferenceMemQIdeal.τ Cert.ReferenceMemQIdeal.sig) → Buf (Elt Ideal) ℓ) : Prop :=
  True

def Pre_KernelMemO (m : (ℓ : Loc Cert.KernelMemO.nD Cert.KernelMemO.τ Cert.KernelMemO.sig) → Buf (Elt Bits) ℓ) : Prop :=
  True

def Pre_KernelMemOIdeal (m : (ℓ : Loc Cert.KernelMemOIdeal.nD Cert.KernelMemOIdeal.τ Cert.KernelMemOIdeal.sig) → Buf (Elt Ideal) ℓ) : Prop :=
  True

def Pre_ReferenceMemOIdeal (m : (ℓ : Loc Cert.ReferenceMemOIdeal.nD Cert.ReferenceMemOIdeal.τ Cert.ReferenceMemOIdeal.sig) → Buf (Elt Ideal) ℓ) : Prop :=
  True

def Pre_KernelMemQDx (m : (ℓ : Loc Cert.KernelMemQDx.nD Cert.KernelMemQDx.τ Cert.KernelMemQDx.sig) → Buf (Elt Bits) ℓ) : Prop :=
  True

def Pre_KernelMemQDxIdeal (m : (ℓ : Loc Cert.KernelMemQDxIdeal.nD Cert.KernelMemQDxIdeal.τ Cert.KernelMemQDxIdeal.sig) → Buf (Elt Ideal) ℓ) : Prop :=
  True

def Pre_ReferenceMemQDxIdeal (m : (ℓ : Loc Cert.ReferenceMemQDxIdeal.nD Cert.ReferenceMemQDxIdeal.τ Cert.ReferenceMemQDxIdeal.sig) → Buf (Elt Ideal) ℓ) : Prop :=
  True

def Pre_KernelMemODx (m : (ℓ : Loc Cert.KernelMemODx.nD Cert.KernelMemODx.τ Cert.KernelMemODx.sig) → Buf (Elt Bits) ℓ) : Prop :=
  True

def Pre_KernelMemODxIdeal (m : (ℓ : Loc Cert.KernelMemODxIdeal.nD Cert.KernelMemODxIdeal.τ Cert.KernelMemODxIdeal.sig) → Buf (Elt Ideal) ℓ) : Prop :=
  True

def Pre_ReferenceMemODxIdeal (m : (ℓ : Loc Cert.ReferenceMemODxIdeal.nD Cert.ReferenceMemODxIdeal.τ Cert.ReferenceMemODxIdeal.sig) → Buf (Elt Ideal) ℓ) : Prop :=
  True

def Pre_KernelOutProj (m : (ℓ : Loc Cert.KernelOutProj.nD Cert.KernelOutProj.τ Cert.KernelOutProj.sig) → Buf (Elt Bits) ℓ) : Prop :=
  True

def Pre_KernelOutProjIdeal (m : (ℓ : Loc Cert.KernelOutProjIdeal.nD Cert.KernelOutProjIdeal.τ Cert.KernelOutProjIdeal.sig) → Buf (Elt Ideal) ℓ) : Prop :=
  True

def Pre_ReferenceOutProjIdeal (m : (ℓ : Loc Cert.ReferenceOutProjIdeal.nD Cert.ReferenceOutProjIdeal.τ Cert.ReferenceOutProjIdeal.sig) → Buf (Elt Ideal) ℓ) : Prop :=
  True

def Pre_KernelOutProjDx (m : (ℓ : Loc Cert.KernelOutProjDx.nD Cert.KernelOutProjDx.τ Cert.KernelOutProjDx.sig) → Buf (Elt Bits) ℓ) : Prop :=
  True

def Pre_KernelOutProjDxIdeal (m : (ℓ : Loc Cert.KernelOutProjDxIdeal.nD Cert.KernelOutProjDxIdeal.τ Cert.KernelOutProjDxIdeal.sig) → Buf (Elt Ideal) ℓ) : Prop :=
  True

def Pre_ReferenceOutProjDxIdeal (m : (ℓ : Loc Cert.ReferenceOutProjDxIdeal.nD Cert.ReferenceOutProjDxIdeal.τ Cert.ReferenceOutProjDxIdeal.sig) → Buf (Elt Ideal) ℓ) : Prop :=
  True

def Pre_KernelSbOutProjDx (m : (ℓ : Loc Cert.KernelSbOutProjDx.nD Cert.KernelSbOutProjDx.τ Cert.KernelSbOutProjDx.sig) → Buf (Elt Bits) ℓ) : Prop :=
  True

def Pre_KernelSbOutProjDxIdeal (m : (ℓ : Loc Cert.KernelSbOutProjDxIdeal.nD Cert.KernelSbOutProjDxIdeal.τ Cert.KernelSbOutProjDxIdeal.sig) → Buf (Elt Ideal) ℓ) : Prop :=
  True

def Pre_ReferenceSbOutProjDxIdeal (m : (ℓ : Loc Cert.ReferenceSbOutProjDxIdeal.nD Cert.ReferenceSbOutProjDxIdeal.τ Cert.ReferenceSbOutProjDxIdeal.sig) → Buf (Elt Ideal) ℓ) : Prop :=
  True

def Pre_KernelMemKv (m : (ℓ : Loc Cert.KernelMemKv.nD Cert.KernelMemKv.τ Cert.KernelMemKv.sig) → Buf (Elt Bits) ℓ) : Prop :=
  True

def Pre_KernelMemKvIdeal (m : (ℓ : Loc Cert.KernelMemKvIdeal.nD Cert.KernelMemKvIdeal.τ Cert.KernelMemKvIdeal.sig) → Buf (Elt Ideal) ℓ) : Prop :=
  True

def Pre_ReferenceMemKvIdeal (m : (ℓ : Loc Cert.ReferenceMemKvIdeal.nD Cert.ReferenceMemKvIdeal.τ Cert.ReferenceMemKvIdeal.sig) → Buf (Elt Ideal) ℓ) : Prop :=
  True

def Pre_KernelSwigluFwd (m : (ℓ : Loc Cert.KernelSwigluFwd.nD Cert.KernelSwigluFwd.τ Cert.KernelSwigluFwd.sig) → Buf (Elt Bits) ℓ) : Prop :=
  True

def Pre_KernelSwigluFwdIdeal (m : (ℓ : Loc Cert.KernelSwigluFwdIdeal.nD Cert.KernelSwigluFwdIdeal.τ Cert.KernelSwigluFwdIdeal.sig) → Buf (Elt Ideal) ℓ) : Prop :=
  True

def Pre_ReferenceSwigluFwdIdeal (m : (ℓ : Loc Cert.ReferenceSwigluFwdIdeal.nD Cert.ReferenceSwigluFwdIdeal.τ Cert.ReferenceSwigluFwdIdeal.sig) → Buf (Elt Ideal) ℓ) : Prop :=
  True

def Pre_KernelSwigluBwd (m : (ℓ : Loc Cert.KernelSwigluBwd.nD Cert.KernelSwigluBwd.τ Cert.KernelSwigluBwd.sig) → Buf (Elt Bits) ℓ) : Prop :=
  True

def Pre_KernelSwigluBwdIdeal (m : (ℓ : Loc Cert.KernelSwigluBwdIdeal.nD Cert.KernelSwigluBwdIdeal.τ Cert.KernelSwigluBwdIdeal.sig) → Buf (Elt Ideal) ℓ) : Prop :=
  True

def Pre_ReferenceSwigluBwdIdeal (m : (ℓ : Loc Cert.ReferenceSwigluBwdIdeal.nD Cert.ReferenceSwigluBwdIdeal.τ Cert.ReferenceSwigluBwdIdeal.sig) → Buf (Elt Ideal) ℓ) : Prop :=
  True

def Pre_KernelLnFwd (m : (ℓ : Loc Cert.KernelLnFwd.nD Cert.KernelLnFwd.τ Cert.KernelLnFwd.sig) → Buf (Elt Bits) ℓ) : Prop :=
  True

def Pre_KernelLnFwdIdeal (m : (ℓ : Loc Cert.KernelLnFwdIdeal.nD Cert.KernelLnFwdIdeal.τ Cert.KernelLnFwdIdeal.sig) → Buf (Elt Ideal) ℓ) : Prop :=
  True

def Pre_ReferenceLnFwdIdeal (m : (ℓ : Loc Cert.ReferenceLnFwdIdeal.nD Cert.ReferenceLnFwdIdeal.τ Cert.ReferenceLnFwdIdeal.sig) → Buf (Elt Ideal) ℓ) : Prop :=
  True

def Pre_KernelXattnFwd (m : (ℓ : Loc Cert.KernelXattnFwd.nD Cert.KernelXattnFwd.τ Cert.KernelXattnFwd.sig) → Buf (Elt Bits) ℓ) : Prop :=
  True

def Pre_KernelXattnFwdIdeal (m : (ℓ : Loc Cert.KernelXattnFwdIdeal.nD Cert.KernelXattnFwdIdeal.τ Cert.KernelXattnFwdIdeal.sig) → Buf (Elt Ideal) ℓ) : Prop :=
  True

def Pre_ReferenceXattnFwdIdeal (m : (ℓ : Loc Cert.ReferenceXattnFwdIdeal.nD Cert.ReferenceXattnFwdIdeal.τ Cert.ReferenceXattnFwdIdeal.sig) → Buf (Elt Ideal) ℓ) : Prop :=
  True

def Pre_KernelFfnInDx0 (m : (ℓ : Loc Cert.KernelFfnInDx0.nD Cert.KernelFfnInDx0.τ Cert.KernelFfnInDx0.sig) → Buf (Elt Bits) ℓ) : Prop :=
  True

def Pre_KernelFfnInDx0Ideal (m : (ℓ : Loc Cert.KernelFfnInDx0Ideal.nD Cert.KernelFfnInDx0Ideal.τ Cert.KernelFfnInDx0Ideal.sig) → Buf (Elt Ideal) ℓ) : Prop :=
  True

def Pre_ReferenceFfnInDx0Ideal (m : (ℓ : Loc Cert.ReferenceFfnInDx0Ideal.nD Cert.ReferenceFfnInDx0Ideal.τ Cert.ReferenceFfnInDx0Ideal.sig) → Buf (Elt Ideal) ℓ) : Prop :=
  True

def Pre_KernelFfnInDx1 (m : (ℓ : Loc Cert.KernelFfnInDx1.nD Cert.KernelFfnInDx1.τ Cert.KernelFfnInDx1.sig) → Buf (Elt Bits) ℓ) : Prop :=
  True

def Pre_KernelFfnInDx1Ideal (m : (ℓ : Loc Cert.KernelFfnInDx1Ideal.nD Cert.KernelFfnInDx1Ideal.τ Cert.KernelFfnInDx1Ideal.sig) → Buf (Elt Ideal) ℓ) : Prop :=
  True

def Pre_ReferenceFfnInDx1Ideal (m : (ℓ : Loc Cert.ReferenceFfnInDx1Ideal.nD Cert.ReferenceFfnInDx1Ideal.τ Cert.ReferenceFfnInDx1Ideal.sig) → Buf (Elt Ideal) ℓ) : Prop :=
  True

def Pre_KernelFfnInDx2 (m : (ℓ : Loc Cert.KernelFfnInDx2.nD Cert.KernelFfnInDx2.τ Cert.KernelFfnInDx2.sig) → Buf (Elt Bits) ℓ) : Prop :=
  True

def Pre_KernelFfnInDx2Ideal (m : (ℓ : Loc Cert.KernelFfnInDx2Ideal.nD Cert.KernelFfnInDx2Ideal.τ Cert.KernelFfnInDx2Ideal.sig) → Buf (Elt Ideal) ℓ) : Prop :=
  True

def Pre_ReferenceFfnInDx2Ideal (m : (ℓ : Loc Cert.ReferenceFfnInDx2Ideal.nD Cert.ReferenceFfnInDx2Ideal.τ Cert.ReferenceFfnInDx2Ideal.sig) → Buf (Elt Ideal) ℓ) : Prop :=
  True

def Pre_KernelFfnInDx3 (m : (ℓ : Loc Cert.KernelFfnInDx3.nD Cert.KernelFfnInDx3.τ Cert.KernelFfnInDx3.sig) → Buf (Elt Bits) ℓ) : Prop :=
  True

def Pre_KernelFfnInDx3Ideal (m : (ℓ : Loc Cert.KernelFfnInDx3Ideal.nD Cert.KernelFfnInDx3Ideal.τ Cert.KernelFfnInDx3Ideal.sig) → Buf (Elt Ideal) ℓ) : Prop :=
  True

def Pre_ReferenceFfnInDx3Ideal (m : (ℓ : Loc Cert.ReferenceFfnInDx3Ideal.nD Cert.ReferenceFfnInDx3Ideal.τ Cert.ReferenceFfnInDx3Ideal.sig) → Buf (Elt Ideal) ℓ) : Prop :=
  True

def Pre_KernelFfnOut0 (m : (ℓ : Loc Cert.KernelFfnOut0.nD Cert.KernelFfnOut0.τ Cert.KernelFfnOut0.sig) → Buf (Elt Bits) ℓ) : Prop :=
  True

def Pre_KernelFfnOut0Ideal (m : (ℓ : Loc Cert.KernelFfnOut0Ideal.nD Cert.KernelFfnOut0Ideal.τ Cert.KernelFfnOut0Ideal.sig) → Buf (Elt Ideal) ℓ) : Prop :=
  True

def Pre_ReferenceFfnOut0Ideal (m : (ℓ : Loc Cert.ReferenceFfnOut0Ideal.nD Cert.ReferenceFfnOut0Ideal.τ Cert.ReferenceFfnOut0Ideal.sig) → Buf (Elt Ideal) ℓ) : Prop :=
  True

def Pre_KernelFfnOut1 (m : (ℓ : Loc Cert.KernelFfnOut1.nD Cert.KernelFfnOut1.τ Cert.KernelFfnOut1.sig) → Buf (Elt Bits) ℓ) : Prop :=
  True

def Pre_KernelFfnOut1Ideal (m : (ℓ : Loc Cert.KernelFfnOut1Ideal.nD Cert.KernelFfnOut1Ideal.τ Cert.KernelFfnOut1Ideal.sig) → Buf (Elt Ideal) ℓ) : Prop :=
  True

def Pre_ReferenceFfnOut1Ideal (m : (ℓ : Loc Cert.ReferenceFfnOut1Ideal.nD Cert.ReferenceFfnOut1Ideal.τ Cert.ReferenceFfnOut1Ideal.sig) → Buf (Elt Ideal) ℓ) : Prop :=
  True

def Pre_KernelFfnOut2 (m : (ℓ : Loc Cert.KernelFfnOut2.nD Cert.KernelFfnOut2.τ Cert.KernelFfnOut2.sig) → Buf (Elt Bits) ℓ) : Prop :=
  True

def Pre_KernelFfnOut2Ideal (m : (ℓ : Loc Cert.KernelFfnOut2Ideal.nD Cert.KernelFfnOut2Ideal.τ Cert.KernelFfnOut2Ideal.sig) → Buf (Elt Ideal) ℓ) : Prop :=
  True

def Pre_ReferenceFfnOut2Ideal (m : (ℓ : Loc Cert.ReferenceFfnOut2Ideal.nD Cert.ReferenceFfnOut2Ideal.τ Cert.ReferenceFfnOut2Ideal.sig) → Buf (Elt Ideal) ℓ) : Prop :=
  True

def Pre_KernelFfnOut3 (m : (ℓ : Loc Cert.KernelFfnOut3.nD Cert.KernelFfnOut3.τ Cert.KernelFfnOut3.sig) → Buf (Elt Bits) ℓ) : Prop :=
  True

def Pre_KernelFfnOut3Ideal (m : (ℓ : Loc Cert.KernelFfnOut3Ideal.nD Cert.KernelFfnOut3Ideal.τ Cert.KernelFfnOut3Ideal.sig) → Buf (Elt Ideal) ℓ) : Prop :=
  True

def Pre_ReferenceFfnOut3Ideal (m : (ℓ : Loc Cert.ReferenceFfnOut3Ideal.nD Cert.ReferenceFfnOut3Ideal.τ Cert.ReferenceFfnOut3Ideal.sig) → Buf (Elt Ideal) ℓ) : Prop :=
  True

def Pre_KernelQkvProjDx0 (m : (ℓ : Loc Cert.KernelQkvProjDx0.nD Cert.KernelQkvProjDx0.τ Cert.KernelQkvProjDx0.sig) → Buf (Elt Bits) ℓ) : Prop :=
  True

def Pre_KernelQkvProjDx0Ideal (m : (ℓ : Loc Cert.KernelQkvProjDx0Ideal.nD Cert.KernelQkvProjDx0Ideal.τ Cert.KernelQkvProjDx0Ideal.sig) → Buf (Elt Ideal) ℓ) : Prop :=
  True

def Pre_ReferenceQkvProjDx0Ideal (m : (ℓ : Loc Cert.ReferenceQkvProjDx0Ideal.nD Cert.ReferenceQkvProjDx0Ideal.τ Cert.ReferenceQkvProjDx0Ideal.sig) → Buf (Elt Ideal) ℓ) : Prop :=
  True

def Pre_KernelQkvProjDx1 (m : (ℓ : Loc Cert.KernelQkvProjDx1.nD Cert.KernelQkvProjDx1.τ Cert.KernelQkvProjDx1.sig) → Buf (Elt Bits) ℓ) : Prop :=
  True

def Pre_KernelQkvProjDx1Ideal (m : (ℓ : Loc Cert.KernelQkvProjDx1Ideal.nD Cert.KernelQkvProjDx1Ideal.τ Cert.KernelQkvProjDx1Ideal.sig) → Buf (Elt Ideal) ℓ) : Prop :=
  True

def Pre_ReferenceQkvProjDx1Ideal (m : (ℓ : Loc Cert.ReferenceQkvProjDx1Ideal.nD Cert.ReferenceQkvProjDx1Ideal.τ Cert.ReferenceQkvProjDx1Ideal.sig) → Buf (Elt Ideal) ℓ) : Prop :=
  True

def Pre_KernelInProjDx0 (m : (ℓ : Loc Cert.KernelInProjDx0.nD Cert.KernelInProjDx0.τ Cert.KernelInProjDx0.sig) → Buf (Elt Bits) ℓ) : Prop :=
  True

def Pre_KernelInProjDx0Ideal (m : (ℓ : Loc Cert.KernelInProjDx0Ideal.nD Cert.KernelInProjDx0Ideal.τ Cert.KernelInProjDx0Ideal.sig) → Buf (Elt Ideal) ℓ) : Prop :=
  True

def Pre_ReferenceInProjDx0Ideal (m : (ℓ : Loc Cert.ReferenceInProjDx0Ideal.nD Cert.ReferenceInProjDx0Ideal.τ Cert.ReferenceInProjDx0Ideal.sig) → Buf (Elt Ideal) ℓ) : Prop :=
  True

def Pre_KernelInProjDx1 (m : (ℓ : Loc Cert.KernelInProjDx1.nD Cert.KernelInProjDx1.τ Cert.KernelInProjDx1.sig) → Buf (Elt Bits) ℓ) : Prop :=
  True

def Pre_KernelInProjDx1Ideal (m : (ℓ : Loc Cert.KernelInProjDx1Ideal.nD Cert.KernelInProjDx1Ideal.τ Cert.KernelInProjDx1Ideal.sig) → Buf (Elt Ideal) ℓ) : Prop :=
  True

def Pre_ReferenceInProjDx1Ideal (m : (ℓ : Loc Cert.ReferenceInProjDx1Ideal.nD Cert.ReferenceInProjDx1Ideal.τ Cert.ReferenceInProjDx1Ideal.sig) → Buf (Elt Ideal) ℓ) : Prop :=
  True

def Pre_KernelSbOutProj0 (m : (ℓ : Loc Cert.KernelSbOutProj0.nD Cert.KernelSbOutProj0.τ Cert.KernelSbOutProj0.sig) → Buf (Elt Bits) ℓ) : Prop :=
  True

def Pre_KernelSbOutProj0Ideal (m : (ℓ : Loc Cert.KernelSbOutProj0Ideal.nD Cert.KernelSbOutProj0Ideal.τ Cert.KernelSbOutProj0Ideal.sig) → Buf (Elt Ideal) ℓ) : Prop :=
  True

def Pre_ReferenceSbOutProj0Ideal (m : (ℓ : Loc Cert.ReferenceSbOutProj0Ideal.nD Cert.ReferenceSbOutProj0Ideal.τ Cert.ReferenceSbOutProj0Ideal.sig) → Buf (Elt Ideal) ℓ) : Prop :=
  True

def Pre_KernelSbOutProj1 (m : (ℓ : Loc Cert.KernelSbOutProj1.nD Cert.KernelSbOutProj1.τ Cert.KernelSbOutProj1.sig) → Buf (Elt Bits) ℓ) : Prop :=
  True

def Pre_KernelSbOutProj1Ideal (m : (ℓ : Loc Cert.KernelSbOutProj1Ideal.nD Cert.KernelSbOutProj1Ideal.τ Cert.KernelSbOutProj1Ideal.sig) → Buf (Elt Ideal) ℓ) : Prop :=
  True

def Pre_ReferenceSbOutProj1Ideal (m : (ℓ : Loc Cert.ReferenceSbOutProj1Ideal.nD Cert.ReferenceSbOutProj1Ideal.τ Cert.ReferenceSbOutProj1Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelFfnInDw [hKernelFfnInDw : Cert.KernelFfnInDw.Facts] : Prop :=
  ∀ (m : (ℓ : Loc Cert.KernelFfnInDw.nD Cert.KernelFfnInDw.τ Cert.KernelFfnInDw.sig) → Buf (Elt Bits) ℓ) (g : Dev Cert.KernelFfnInDw.nD → PrngReg), Pre_KernelFfnInDw m →
    θ_run (Cert.KernelFfnInDw.defs (F := Bits)) (onTc (τ := Cert.KernelFfnInDw.τ) (Cert.KernelFfnInDw.main (F := Bits))) ⟨m, fun _ => 0, g⟩ (fun r => (∀ c : Dev Cert.KernelFfnInDw.nD,
      r.2.mem ((c.tc : Thread Cert.KernelFfnInDw.nD Cert.KernelFfnInDw.τ).loc Cert.KernelFfnInDw.main_arg0) = m ((c.tc : Thread Cert.KernelFfnInDw.nD Cert.KernelFfnInDw.τ).loc Cert.KernelFfnInDw.main_arg0)
      ∧ r.2.mem ((c.tc : Thread Cert.KernelFfnInDw.nD Cert.KernelFfnInDw.τ).loc Cert.KernelFfnInDw.main_arg1) = m ((c.tc : Thread Cert.KernelFfnInDw.nD Cert.KernelFfnInDw.τ).loc Cert.KernelFfnInDw.main_arg1))
      ∧ r.2.sem = fun _ => 0)

def quiescent_KernelFfnInDwIdeal [hKernelFfnInDwIdeal : Cert.KernelFfnInDwIdeal.Facts] : Prop :=
  ∀ (m : (ℓ : Loc Cert.KernelFfnInDwIdeal.nD Cert.KernelFfnInDwIdeal.τ Cert.KernelFfnInDwIdeal.sig) → Buf (Elt Ideal) ℓ) (g : Dev Cert.KernelFfnInDwIdeal.nD → PrngReg), Pre_KernelFfnInDwIdeal m →
    θ_run (Cert.KernelFfnInDwIdeal.defs (F := Ideal)) (onTc (τ := Cert.KernelFfnInDwIdeal.τ) (Cert.KernelFfnInDwIdeal.main (F := Ideal))) ⟨m, fun _ => 0, g⟩ (fun r => (∀ c : Dev Cert.KernelFfnInDwIdeal.nD,
      r.2.mem ((c.tc : Thread Cert.KernelFfnInDwIdeal.nD Cert.KernelFfnInDwIdeal.τ).loc Cert.KernelFfnInDwIdeal.main_arg0) = m ((c.tc : Thread Cert.KernelFfnInDwIdeal.nD Cert.KernelFfnInDwIdeal.τ).loc Cert.KernelFfnInDwIdeal.main_arg0)
      ∧ r.2.mem ((c.tc : Thread Cert.KernelFfnInDwIdeal.nD Cert.KernelFfnInDwIdeal.τ).loc Cert.KernelFfnInDwIdeal.main_arg1) = m ((c.tc : Thread Cert.KernelFfnInDwIdeal.nD Cert.KernelFfnInDwIdeal.τ).loc Cert.KernelFfnInDwIdeal.main_arg1))
      ∧ r.2.sem = fun _ => 0)

def quiescent_ReferenceFfnInDwIdeal [hReferenceFfnInDwIdeal : Cert.ReferenceFfnInDwIdeal.Facts] : Prop :=
  ∀ (m : (ℓ : Loc Cert.ReferenceFfnInDwIdeal.nD Cert.ReferenceFfnInDwIdeal.τ Cert.ReferenceFfnInDwIdeal.sig) → Buf (Elt Ideal) ℓ) (g : Dev Cert.ReferenceFfnInDwIdeal.nD → PrngReg), Pre_ReferenceFfnInDwIdeal m →
    θ_run (Cert.ReferenceFfnInDwIdeal.defs (F := Ideal)) (onTc (τ := Cert.ReferenceFfnInDwIdeal.τ) (Cert.ReferenceFfnInDwIdeal.main (F := Ideal))) ⟨m, fun _ => 0, g⟩ (fun r => (∀ c : Dev Cert.ReferenceFfnInDwIdeal.nD,
      r.2.mem ((c.tc : Thread Cert.ReferenceFfnInDwIdeal.nD Cert.ReferenceFfnInDwIdeal.τ).loc Cert.ReferenceFfnInDwIdeal.main_arg0) = m ((c.tc : Thread Cert.ReferenceFfnInDwIdeal.nD Cert.ReferenceFfnInDwIdeal.τ).loc Cert.ReferenceFfnInDwIdeal.main_arg0)
      ∧ r.2.mem ((c.tc : Thread Cert.ReferenceFfnInDwIdeal.nD Cert.ReferenceFfnInDwIdeal.τ).loc Cert.ReferenceFfnInDwIdeal.main_arg1) = m ((c.tc : Thread Cert.ReferenceFfnInDwIdeal.nD Cert.ReferenceFfnInDwIdeal.τ).loc Cert.ReferenceFfnInDwIdeal.main_arg1))
      ∧ r.2.sem = fun _ => 0)

def quiescent_KernelFfnOutDw [hKernelFfnOutDw : Cert.KernelFfnOutDw.Facts] : Prop :=
  ∀ (m : (ℓ : Loc Cert.KernelFfnOutDw.nD Cert.KernelFfnOutDw.τ Cert.KernelFfnOutDw.sig) → Buf (Elt Bits) ℓ) (g : Dev Cert.KernelFfnOutDw.nD → PrngReg), Pre_KernelFfnOutDw m →
    θ_run (Cert.KernelFfnOutDw.defs (F := Bits)) (onTc (τ := Cert.KernelFfnOutDw.τ) (Cert.KernelFfnOutDw.main (F := Bits))) ⟨m, fun _ => 0, g⟩ (fun r => (∀ c : Dev Cert.KernelFfnOutDw.nD,
      r.2.mem ((c.tc : Thread Cert.KernelFfnOutDw.nD Cert.KernelFfnOutDw.τ).loc Cert.KernelFfnOutDw.main_arg0) = m ((c.tc : Thread Cert.KernelFfnOutDw.nD Cert.KernelFfnOutDw.τ).loc Cert.KernelFfnOutDw.main_arg0)
      ∧ r.2.mem ((c.tc : Thread Cert.KernelFfnOutDw.nD Cert.KernelFfnOutDw.τ).loc Cert.KernelFfnOutDw.main_arg1) = m ((c.tc : Thread Cert.KernelFfnOutDw.nD Cert.KernelFfnOutDw.τ).loc Cert.KernelFfnOutDw.main_arg1))
      ∧ r.2.sem = fun _ => 0)

def quiescent_KernelFfnOutDwIdeal [hKernelFfnOutDwIdeal : Cert.KernelFfnOutDwIdeal.Facts] : Prop :=
  ∀ (m : (ℓ : Loc Cert.KernelFfnOutDwIdeal.nD Cert.KernelFfnOutDwIdeal.τ Cert.KernelFfnOutDwIdeal.sig) → Buf (Elt Ideal) ℓ) (g : Dev Cert.KernelFfnOutDwIdeal.nD → PrngReg), Pre_KernelFfnOutDwIdeal m →
    θ_run (Cert.KernelFfnOutDwIdeal.defs (F := Ideal)) (onTc (τ := Cert.KernelFfnOutDwIdeal.τ) (Cert.KernelFfnOutDwIdeal.main (F := Ideal))) ⟨m, fun _ => 0, g⟩ (fun r => (∀ c : Dev Cert.KernelFfnOutDwIdeal.nD,
      r.2.mem ((c.tc : Thread Cert.KernelFfnOutDwIdeal.nD Cert.KernelFfnOutDwIdeal.τ).loc Cert.KernelFfnOutDwIdeal.main_arg0) = m ((c.tc : Thread Cert.KernelFfnOutDwIdeal.nD Cert.KernelFfnOutDwIdeal.τ).loc Cert.KernelFfnOutDwIdeal.main_arg0)
      ∧ r.2.mem ((c.tc : Thread Cert.KernelFfnOutDwIdeal.nD Cert.KernelFfnOutDwIdeal.τ).loc Cert.KernelFfnOutDwIdeal.main_arg1) = m ((c.tc : Thread Cert.KernelFfnOutDwIdeal.nD Cert.KernelFfnOutDwIdeal.τ).loc Cert.KernelFfnOutDwIdeal.main_arg1))
      ∧ r.2.sem = fun _ => 0)

def quiescent_ReferenceFfnOutDwIdeal [hReferenceFfnOutDwIdeal : Cert.ReferenceFfnOutDwIdeal.Facts] : Prop :=
  ∀ (m : (ℓ : Loc Cert.ReferenceFfnOutDwIdeal.nD Cert.ReferenceFfnOutDwIdeal.τ Cert.ReferenceFfnOutDwIdeal.sig) → Buf (Elt Ideal) ℓ) (g : Dev Cert.ReferenceFfnOutDwIdeal.nD → PrngReg), Pre_ReferenceFfnOutDwIdeal m →
    θ_run (Cert.ReferenceFfnOutDwIdeal.defs (F := Ideal)) (onTc (τ := Cert.ReferenceFfnOutDwIdeal.τ) (Cert.ReferenceFfnOutDwIdeal.main (F := Ideal))) ⟨m, fun _ => 0, g⟩ (fun r => (∀ c : Dev Cert.ReferenceFfnOutDwIdeal.nD,
      r.2.mem ((c.tc : Thread Cert.ReferenceFfnOutDwIdeal.nD Cert.ReferenceFfnOutDwIdeal.τ).loc Cert.ReferenceFfnOutDwIdeal.main_arg0) = m ((c.tc : Thread Cert.ReferenceFfnOutDwIdeal.nD Cert.ReferenceFfnOutDwIdeal.τ).loc Cert.ReferenceFfnOutDwIdeal.main_arg0)
      ∧ r.2.mem ((c.tc : Thread Cert.ReferenceFfnOutDwIdeal.nD Cert.ReferenceFfnOutDwIdeal.τ).loc Cert.ReferenceFfnOutDwIdeal.main_arg1) = m ((c.tc : Thread Cert.ReferenceFfnOutDwIdeal.nD Cert.ReferenceFfnOutDwIdeal.τ).loc Cert.ReferenceFfnOutDwIdeal.main_arg1))
      ∧ r.2.sem = fun _ => 0)

def quiescent_KernelMemODw [hKernelMemODw : Cert.KernelMemODw.Facts] : Prop :=
  ∀ (m : (ℓ : Loc Cert.KernelMemODw.nD Cert.KernelMemODw.τ Cert.KernelMemODw.sig) → Buf (Elt Bits) ℓ) (g : Dev Cert.KernelMemODw.nD → PrngReg), Pre_KernelMemODw m →
    θ_run (Cert.KernelMemODw.defs (F := Bits)) (onTc (τ := Cert.KernelMemODw.τ) (Cert.KernelMemODw.main (F := Bits))) ⟨m, fun _ => 0, g⟩ (fun r => (∀ c : Dev Cert.KernelMemODw.nD,
      r.2.mem ((c.tc : Thread Cert.KernelMemODw.nD Cert.KernelMemODw.τ).loc Cert.KernelMemODw.main_arg0) = m ((c.tc : Thread Cert.KernelMemODw.nD Cert.KernelMemODw.τ).loc Cert.KernelMemODw.main_arg0)
      ∧ r.2.mem ((c.tc : Thread Cert.KernelMemODw.nD Cert.KernelMemODw.τ).loc Cert.KernelMemODw.main_arg1) = m ((c.tc : Thread Cert.KernelMemODw.nD Cert.KernelMemODw.τ).loc Cert.KernelMemODw.main_arg1))
      ∧ r.2.sem = fun _ => 0)

def quiescent_KernelMemODwIdeal [hKernelMemODwIdeal : Cert.KernelMemODwIdeal.Facts] : Prop :=
  ∀ (m : (ℓ : Loc Cert.KernelMemODwIdeal.nD Cert.KernelMemODwIdeal.τ Cert.KernelMemODwIdeal.sig) → Buf (Elt Ideal) ℓ) (g : Dev Cert.KernelMemODwIdeal.nD → PrngReg), Pre_KernelMemODwIdeal m →
    θ_run (Cert.KernelMemODwIdeal.defs (F := Ideal)) (onTc (τ := Cert.KernelMemODwIdeal.τ) (Cert.KernelMemODwIdeal.main (F := Ideal))) ⟨m, fun _ => 0, g⟩ (fun r => (∀ c : Dev Cert.KernelMemODwIdeal.nD,
      r.2.mem ((c.tc : Thread Cert.KernelMemODwIdeal.nD Cert.KernelMemODwIdeal.τ).loc Cert.KernelMemODwIdeal.main_arg0) = m ((c.tc : Thread Cert.KernelMemODwIdeal.nD Cert.KernelMemODwIdeal.τ).loc Cert.KernelMemODwIdeal.main_arg0)
      ∧ r.2.mem ((c.tc : Thread Cert.KernelMemODwIdeal.nD Cert.KernelMemODwIdeal.τ).loc Cert.KernelMemODwIdeal.main_arg1) = m ((c.tc : Thread Cert.KernelMemODwIdeal.nD Cert.KernelMemODwIdeal.τ).loc Cert.KernelMemODwIdeal.main_arg1))
      ∧ r.2.sem = fun _ => 0)

def quiescent_ReferenceMemODwIdeal [hReferenceMemODwIdeal : Cert.ReferenceMemODwIdeal.Facts] : Prop :=
  ∀ (m : (ℓ : Loc Cert.ReferenceMemODwIdeal.nD Cert.ReferenceMemODwIdeal.τ Cert.ReferenceMemODwIdeal.sig) → Buf (Elt Ideal) ℓ) (g : Dev Cert.ReferenceMemODwIdeal.nD → PrngReg), Pre_ReferenceMemODwIdeal m →
    θ_run (Cert.ReferenceMemODwIdeal.defs (F := Ideal)) (onTc (τ := Cert.ReferenceMemODwIdeal.τ) (Cert.ReferenceMemODwIdeal.main (F := Ideal))) ⟨m, fun _ => 0, g⟩ (fun r => (∀ c : Dev Cert.ReferenceMemODwIdeal.nD,
      r.2.mem ((c.tc : Thread Cert.ReferenceMemODwIdeal.nD Cert.ReferenceMemODwIdeal.τ).loc Cert.ReferenceMemODwIdeal.main_arg0) = m ((c.tc : Thread Cert.ReferenceMemODwIdeal.nD Cert.ReferenceMemODwIdeal.τ).loc Cert.ReferenceMemODwIdeal.main_arg0)
      ∧ r.2.mem ((c.tc : Thread Cert.ReferenceMemODwIdeal.nD Cert.ReferenceMemODwIdeal.τ).loc Cert.ReferenceMemODwIdeal.main_arg1) = m ((c.tc : Thread Cert.ReferenceMemODwIdeal.nD Cert.ReferenceMemODwIdeal.τ).loc Cert.ReferenceMemODwIdeal.main_arg1))
      ∧ r.2.sem = fun _ => 0)

def quiescent_KernelMemQDw [hKernelMemQDw : Cert.KernelMemQDw.Facts] : Prop :=
  ∀ (m : (ℓ : Loc Cert.KernelMemQDw.nD Cert.KernelMemQDw.τ Cert.KernelMemQDw.sig) → Buf (Elt Bits) ℓ) (g : Dev Cert.KernelMemQDw.nD → PrngReg), Pre_KernelMemQDw m →
    θ_run (Cert.KernelMemQDw.defs (F := Bits)) (onTc (τ := Cert.KernelMemQDw.τ) (Cert.KernelMemQDw.main (F := Bits))) ⟨m, fun _ => 0, g⟩ (fun r => (∀ c : Dev Cert.KernelMemQDw.nD,
      r.2.mem ((c.tc : Thread Cert.KernelMemQDw.nD Cert.KernelMemQDw.τ).loc Cert.KernelMemQDw.main_arg0) = m ((c.tc : Thread Cert.KernelMemQDw.nD Cert.KernelMemQDw.τ).loc Cert.KernelMemQDw.main_arg0)
      ∧ r.2.mem ((c.tc : Thread Cert.KernelMemQDw.nD Cert.KernelMemQDw.τ).loc Cert.KernelMemQDw.main_arg1) = m ((c.tc : Thread Cert.KernelMemQDw.nD Cert.KernelMemQDw.τ).loc Cert.KernelMemQDw.main_arg1))
      ∧ r.2.sem = fun _ => 0)

def quiescent_KernelMemQDwIdeal [hKernelMemQDwIdeal : Cert.KernelMemQDwIdeal.Facts] : Prop :=
  ∀ (m : (ℓ : Loc Cert.KernelMemQDwIdeal.nD Cert.KernelMemQDwIdeal.τ Cert.KernelMemQDwIdeal.sig) → Buf (Elt Ideal) ℓ) (g : Dev Cert.KernelMemQDwIdeal.nD → PrngReg), Pre_KernelMemQDwIdeal m →
    θ_run (Cert.KernelMemQDwIdeal.defs (F := Ideal)) (onTc (τ := Cert.KernelMemQDwIdeal.τ) (Cert.KernelMemQDwIdeal.main (F := Ideal))) ⟨m, fun _ => 0, g⟩ (fun r => (∀ c : Dev Cert.KernelMemQDwIdeal.nD,
      r.2.mem ((c.tc : Thread Cert.KernelMemQDwIdeal.nD Cert.KernelMemQDwIdeal.τ).loc Cert.KernelMemQDwIdeal.main_arg0) = m ((c.tc : Thread Cert.KernelMemQDwIdeal.nD Cert.KernelMemQDwIdeal.τ).loc Cert.KernelMemQDwIdeal.main_arg0)
      ∧ r.2.mem ((c.tc : Thread Cert.KernelMemQDwIdeal.nD Cert.KernelMemQDwIdeal.τ).loc Cert.KernelMemQDwIdeal.main_arg1) = m ((c.tc : Thread Cert.KernelMemQDwIdeal.nD Cert.KernelMemQDwIdeal.τ).loc Cert.KernelMemQDwIdeal.main_arg1))
      ∧ r.2.sem = fun _ => 0)

def quiescent_ReferenceMemQDwIdeal [hReferenceMemQDwIdeal : Cert.ReferenceMemQDwIdeal.Facts] : Prop :=
  ∀ (m : (ℓ : Loc Cert.ReferenceMemQDwIdeal.nD Cert.ReferenceMemQDwIdeal.τ Cert.ReferenceMemQDwIdeal.sig) → Buf (Elt Ideal) ℓ) (g : Dev Cert.ReferenceMemQDwIdeal.nD → PrngReg), Pre_ReferenceMemQDwIdeal m →
    θ_run (Cert.ReferenceMemQDwIdeal.defs (F := Ideal)) (onTc (τ := Cert.ReferenceMemQDwIdeal.τ) (Cert.ReferenceMemQDwIdeal.main (F := Ideal))) ⟨m, fun _ => 0, g⟩ (fun r => (∀ c : Dev Cert.ReferenceMemQDwIdeal.nD,
      r.2.mem ((c.tc : Thread Cert.ReferenceMemQDwIdeal.nD Cert.ReferenceMemQDwIdeal.τ).loc Cert.ReferenceMemQDwIdeal.main_arg0) = m ((c.tc : Thread Cert.ReferenceMemQDwIdeal.nD Cert.ReferenceMemQDwIdeal.τ).loc Cert.ReferenceMemQDwIdeal.main_arg0)
      ∧ r.2.mem ((c.tc : Thread Cert.ReferenceMemQDwIdeal.nD Cert.ReferenceMemQDwIdeal.τ).loc Cert.ReferenceMemQDwIdeal.main_arg1) = m ((c.tc : Thread Cert.ReferenceMemQDwIdeal.nD Cert.ReferenceMemQDwIdeal.τ).loc Cert.ReferenceMemQDwIdeal.main_arg1))
      ∧ r.2.sem = fun _ => 0)

def quiescent_KernelMemKvDw [hKernelMemKvDw : Cert.KernelMemKvDw.Facts] : Prop :=
  ∀ (m : (ℓ : Loc Cert.KernelMemKvDw.nD Cert.KernelMemKvDw.τ Cert.KernelMemKvDw.sig) → Buf (Elt Bits) ℓ) (g : Dev Cert.KernelMemKvDw.nD → PrngReg), Pre_KernelMemKvDw m →
    θ_run (Cert.KernelMemKvDw.defs (F := Bits)) (onTc (τ := Cert.KernelMemKvDw.τ) (Cert.KernelMemKvDw.main (F := Bits))) ⟨m, fun _ => 0, g⟩ (fun r => (∀ c : Dev Cert.KernelMemKvDw.nD,
      r.2.mem ((c.tc : Thread Cert.KernelMemKvDw.nD Cert.KernelMemKvDw.τ).loc Cert.KernelMemKvDw.main_arg0) = m ((c.tc : Thread Cert.KernelMemKvDw.nD Cert.KernelMemKvDw.τ).loc Cert.KernelMemKvDw.main_arg0)
      ∧ r.2.mem ((c.tc : Thread Cert.KernelMemKvDw.nD Cert.KernelMemKvDw.τ).loc Cert.KernelMemKvDw.main_arg1) = m ((c.tc : Thread Cert.KernelMemKvDw.nD Cert.KernelMemKvDw.τ).loc Cert.KernelMemKvDw.main_arg1))
      ∧ r.2.sem = fun _ => 0)

def quiescent_KernelMemKvDwIdeal [hKernelMemKvDwIdeal : Cert.KernelMemKvDwIdeal.Facts] : Prop :=
  ∀ (m : (ℓ : Loc Cert.KernelMemKvDwIdeal.nD Cert.KernelMemKvDwIdeal.τ Cert.KernelMemKvDwIdeal.sig) → Buf (Elt Ideal) ℓ) (g : Dev Cert.KernelMemKvDwIdeal.nD → PrngReg), Pre_KernelMemKvDwIdeal m →
    θ_run (Cert.KernelMemKvDwIdeal.defs (F := Ideal)) (onTc (τ := Cert.KernelMemKvDwIdeal.τ) (Cert.KernelMemKvDwIdeal.main (F := Ideal))) ⟨m, fun _ => 0, g⟩ (fun r => (∀ c : Dev Cert.KernelMemKvDwIdeal.nD,
      r.2.mem ((c.tc : Thread Cert.KernelMemKvDwIdeal.nD Cert.KernelMemKvDwIdeal.τ).loc Cert.KernelMemKvDwIdeal.main_arg0) = m ((c.tc : Thread Cert.KernelMemKvDwIdeal.nD Cert.KernelMemKvDwIdeal.τ).loc Cert.KernelMemKvDwIdeal.main_arg0)
      ∧ r.2.mem ((c.tc : Thread Cert.KernelMemKvDwIdeal.nD Cert.KernelMemKvDwIdeal.τ).loc Cert.KernelMemKvDwIdeal.main_arg1) = m ((c.tc : Thread Cert.KernelMemKvDwIdeal.nD Cert.KernelMemKvDwIdeal.τ).loc Cert.KernelMemKvDwIdeal.main_arg1))
      ∧ r.2.sem = fun _ => 0)

def quiescent_ReferenceMemKvDwIdeal [hReferenceMemKvDwIdeal : Cert.ReferenceMemKvDwIdeal.Facts] : Prop :=
  ∀ (m : (ℓ : Loc Cert.ReferenceMemKvDwIdeal.nD Cert.ReferenceMemKvDwIdeal.τ Cert.ReferenceMemKvDwIdeal.sig) → Buf (Elt Ideal) ℓ) (g : Dev Cert.ReferenceMemKvDwIdeal.nD → PrngReg), Pre_ReferenceMemKvDwIdeal m →
    θ_run (Cert.ReferenceMemKvDwIdeal.defs (F := Ideal)) (onTc (τ := Cert.ReferenceMemKvDwIdeal.τ) (Cert.ReferenceMemKvDwIdeal.main (F := Ideal))) ⟨m, fun _ => 0, g⟩ (fun r => (∀ c : Dev Cert.ReferenceMemKvDwIdeal.nD,
      r.2.mem ((c.tc : Thread Cert.ReferenceMemKvDwIdeal.nD Cert.ReferenceMemKvDwIdeal.τ).loc Cert.ReferenceMemKvDwIdeal.main_arg0) = m ((c.tc : Thread Cert.ReferenceMemKvDwIdeal.nD Cert.ReferenceMemKvDwIdeal.τ).loc Cert.ReferenceMemKvDwIdeal.main_arg0)
      ∧ r.2.mem ((c.tc : Thread Cert.ReferenceMemKvDwIdeal.nD Cert.ReferenceMemKvDwIdeal.τ).loc Cert.ReferenceMemKvDwIdeal.main_arg1) = m ((c.tc : Thread Cert.ReferenceMemKvDwIdeal.nD Cert.ReferenceMemKvDwIdeal.τ).loc Cert.ReferenceMemKvDwIdeal.main_arg1))
      ∧ r.2.sem = fun _ => 0)

def quiescent_KernelInProjDw [hKernelInProjDw : Cert.KernelInProjDw.Facts] : Prop :=
  ∀ (m : (ℓ : Loc Cert.KernelInProjDw.nD Cert.KernelInProjDw.τ Cert.KernelInProjDw.sig) → Buf (Elt Bits) ℓ) (g : Dev Cert.KernelInProjDw.nD → PrngReg), Pre_KernelInProjDw m →
    θ_run (Cert.KernelInProjDw.defs (F := Bits)) (onTc (τ := Cert.KernelInProjDw.τ) (Cert.KernelInProjDw.main (F := Bits))) ⟨m, fun _ => 0, g⟩ (fun r => (∀ c : Dev Cert.KernelInProjDw.nD,
      r.2.mem ((c.tc : Thread Cert.KernelInProjDw.nD Cert.KernelInProjDw.τ).loc Cert.KernelInProjDw.main_arg0) = m ((c.tc : Thread Cert.KernelInProjDw.nD Cert.KernelInProjDw.τ).loc Cert.KernelInProjDw.main_arg0)
      ∧ r.2.mem ((c.tc : Thread Cert.KernelInProjDw.nD Cert.KernelInProjDw.τ).loc Cert.KernelInProjDw.main_arg1) = m ((c.tc : Thread Cert.KernelInProjDw.nD Cert.KernelInProjDw.τ).loc Cert.KernelInProjDw.main_arg1))
      ∧ r.2.sem = fun _ => 0)

def quiescent_KernelInProjDwIdeal [hKernelInProjDwIdeal : Cert.KernelInProjDwIdeal.Facts] : Prop :=
  ∀ (m : (ℓ : Loc Cert.KernelInProjDwIdeal.nD Cert.KernelInProjDwIdeal.τ Cert.KernelInProjDwIdeal.sig) → Buf (Elt Ideal) ℓ) (g : Dev Cert.KernelInProjDwIdeal.nD → PrngReg), Pre_KernelInProjDwIdeal m →
    θ_run (Cert.KernelInProjDwIdeal.defs (F := Ideal)) (onTc (τ := Cert.KernelInProjDwIdeal.τ) (Cert.KernelInProjDwIdeal.main (F := Ideal))) ⟨m, fun _ => 0, g⟩ (fun r => (∀ c : Dev Cert.KernelInProjDwIdeal.nD,
      r.2.mem ((c.tc : Thread Cert.KernelInProjDwIdeal.nD Cert.KernelInProjDwIdeal.τ).loc Cert.KernelInProjDwIdeal.main_arg0) = m ((c.tc : Thread Cert.KernelInProjDwIdeal.nD Cert.KernelInProjDwIdeal.τ).loc Cert.KernelInProjDwIdeal.main_arg0)
      ∧ r.2.mem ((c.tc : Thread Cert.KernelInProjDwIdeal.nD Cert.KernelInProjDwIdeal.τ).loc Cert.KernelInProjDwIdeal.main_arg1) = m ((c.tc : Thread Cert.KernelInProjDwIdeal.nD Cert.KernelInProjDwIdeal.τ).loc Cert.KernelInProjDwIdeal.main_arg1))
      ∧ r.2.sem = fun _ => 0)

def quiescent_ReferenceInProjDwIdeal [hReferenceInProjDwIdeal : Cert.ReferenceInProjDwIdeal.Facts] : Prop :=
  ∀ (m : (ℓ : Loc Cert.ReferenceInProjDwIdeal.nD Cert.ReferenceInProjDwIdeal.τ Cert.ReferenceInProjDwIdeal.sig) → Buf (Elt Ideal) ℓ) (g : Dev Cert.ReferenceInProjDwIdeal.nD → PrngReg), Pre_ReferenceInProjDwIdeal m →
    θ_run (Cert.ReferenceInProjDwIdeal.defs (F := Ideal)) (onTc (τ := Cert.ReferenceInProjDwIdeal.τ) (Cert.ReferenceInProjDwIdeal.main (F := Ideal))) ⟨m, fun _ => 0, g⟩ (fun r => (∀ c : Dev Cert.ReferenceInProjDwIdeal.nD,
      r.2.mem ((c.tc : Thread Cert.ReferenceInProjDwIdeal.nD Cert.ReferenceInProjDwIdeal.τ).loc Cert.ReferenceInProjDwIdeal.main_arg0) = m ((c.tc : Thread Cert.ReferenceInProjDwIdeal.nD Cert.ReferenceInProjDwIdeal.τ).loc Cert.ReferenceInProjDwIdeal.main_arg0)
      ∧ r.2.mem ((c.tc : Thread Cert.ReferenceInProjDwIdeal.nD Cert.ReferenceInProjDwIdeal.τ).loc Cert.ReferenceInProjDwIdeal.main_arg1) = m ((c.tc : Thread Cert.ReferenceInProjDwIdeal.nD Cert.ReferenceInProjDwIdeal.τ).loc Cert.ReferenceInProjDwIdeal.main_arg1))
      ∧ r.2.sem = fun _ => 0)

def quiescent_KernelQkvProjDw [hKernelQkvProjDw : Cert.KernelQkvProjDw.Facts] : Prop :=
  ∀ (m : (ℓ : Loc Cert.KernelQkvProjDw.nD Cert.KernelQkvProjDw.τ Cert.KernelQkvProjDw.sig) → Buf (Elt Bits) ℓ) (g : Dev Cert.KernelQkvProjDw.nD → PrngReg), Pre_KernelQkvProjDw m →
    θ_run (Cert.KernelQkvProjDw.defs (F := Bits)) (onTc (τ := Cert.KernelQkvProjDw.τ) (Cert.KernelQkvProjDw.main (F := Bits))) ⟨m, fun _ => 0, g⟩ (fun r => (∀ c : Dev Cert.KernelQkvProjDw.nD,
      r.2.mem ((c.tc : Thread Cert.KernelQkvProjDw.nD Cert.KernelQkvProjDw.τ).loc Cert.KernelQkvProjDw.main_arg0) = m ((c.tc : Thread Cert.KernelQkvProjDw.nD Cert.KernelQkvProjDw.τ).loc Cert.KernelQkvProjDw.main_arg0)
      ∧ r.2.mem ((c.tc : Thread Cert.KernelQkvProjDw.nD Cert.KernelQkvProjDw.τ).loc Cert.KernelQkvProjDw.main_arg1) = m ((c.tc : Thread Cert.KernelQkvProjDw.nD Cert.KernelQkvProjDw.τ).loc Cert.KernelQkvProjDw.main_arg1))
      ∧ r.2.sem = fun _ => 0)

def quiescent_KernelQkvProjDwIdeal [hKernelQkvProjDwIdeal : Cert.KernelQkvProjDwIdeal.Facts] : Prop :=
  ∀ (m : (ℓ : Loc Cert.KernelQkvProjDwIdeal.nD Cert.KernelQkvProjDwIdeal.τ Cert.KernelQkvProjDwIdeal.sig) → Buf (Elt Ideal) ℓ) (g : Dev Cert.KernelQkvProjDwIdeal.nD → PrngReg), Pre_KernelQkvProjDwIdeal m →
    θ_run (Cert.KernelQkvProjDwIdeal.defs (F := Ideal)) (onTc (τ := Cert.KernelQkvProjDwIdeal.τ) (Cert.KernelQkvProjDwIdeal.main (F := Ideal))) ⟨m, fun _ => 0, g⟩ (fun r => (∀ c : Dev Cert.KernelQkvProjDwIdeal.nD,
      r.2.mem ((c.tc : Thread Cert.KernelQkvProjDwIdeal.nD Cert.KernelQkvProjDwIdeal.τ).loc Cert.KernelQkvProjDwIdeal.main_arg0) = m ((c.tc : Thread Cert.KernelQkvProjDwIdeal.nD Cert.KernelQkvProjDwIdeal.τ).loc Cert.KernelQkvProjDwIdeal.main_arg0)
      ∧ r.2.mem ((c.tc : Thread Cert.KernelQkvProjDwIdeal.nD Cert.KernelQkvProjDwIdeal.τ).loc Cert.KernelQkvProjDwIdeal.main_arg1) = m ((c.tc : Thread Cert.KernelQkvProjDwIdeal.nD Cert.KernelQkvProjDwIdeal.τ).loc Cert.KernelQkvProjDwIdeal.main_arg1))
      ∧ r.2.sem = fun _ => 0)

def quiescent_ReferenceQkvProjDwIdeal [hReferenceQkvProjDwIdeal : Cert.ReferenceQkvProjDwIdeal.Facts] : Prop :=
  ∀ (m : (ℓ : Loc Cert.ReferenceQkvProjDwIdeal.nD Cert.ReferenceQkvProjDwIdeal.τ Cert.ReferenceQkvProjDwIdeal.sig) → Buf (Elt Ideal) ℓ) (g : Dev Cert.ReferenceQkvProjDwIdeal.nD → PrngReg), Pre_ReferenceQkvProjDwIdeal m →
    θ_run (Cert.ReferenceQkvProjDwIdeal.defs (F := Ideal)) (onTc (τ := Cert.ReferenceQkvProjDwIdeal.τ) (Cert.ReferenceQkvProjDwIdeal.main (F := Ideal))) ⟨m, fun _ => 0, g⟩ (fun r => (∀ c : Dev Cert.ReferenceQkvProjDwIdeal.nD,
      r.2.mem ((c.tc : Thread Cert.ReferenceQkvProjDwIdeal.nD Cert.ReferenceQkvProjDwIdeal.τ).loc Cert.ReferenceQkvProjDwIdeal.main_arg0) = m ((c.tc : Thread Cert.ReferenceQkvProjDwIdeal.nD Cert.ReferenceQkvProjDwIdeal.τ).loc Cert.ReferenceQkvProjDwIdeal.main_arg0)
      ∧ r.2.mem ((c.tc : Thread Cert.ReferenceQkvProjDwIdeal.nD Cert.ReferenceQkvProjDwIdeal.τ).loc Cert.ReferenceQkvProjDwIdeal.main_arg1) = m ((c.tc : Thread Cert.ReferenceQkvProjDwIdeal.nD Cert.ReferenceQkvProjDwIdeal.τ).loc Cert.ReferenceQkvProjDwIdeal.main_arg1))
      ∧ r.2.sem = fun _ => 0)

def quiescent_KernelSbOutProjDw [hKernelSbOutProjDw : Cert.KernelSbOutProjDw.Facts] : Prop :=
  ∀ (m : (ℓ : Loc Cert.KernelSbOutProjDw.nD Cert.KernelSbOutProjDw.τ Cert.KernelSbOutProjDw.sig) → Buf (Elt Bits) ℓ) (g : Dev Cert.KernelSbOutProjDw.nD → PrngReg), Pre_KernelSbOutProjDw m →
    θ_run (Cert.KernelSbOutProjDw.defs (F := Bits)) (onTc (τ := Cert.KernelSbOutProjDw.τ) (Cert.KernelSbOutProjDw.main (F := Bits))) ⟨m, fun _ => 0, g⟩ (fun r => (∀ c : Dev Cert.KernelSbOutProjDw.nD,
      r.2.mem ((c.tc : Thread Cert.KernelSbOutProjDw.nD Cert.KernelSbOutProjDw.τ).loc Cert.KernelSbOutProjDw.main_arg0) = m ((c.tc : Thread Cert.KernelSbOutProjDw.nD Cert.KernelSbOutProjDw.τ).loc Cert.KernelSbOutProjDw.main_arg0)
      ∧ r.2.mem ((c.tc : Thread Cert.KernelSbOutProjDw.nD Cert.KernelSbOutProjDw.τ).loc Cert.KernelSbOutProjDw.main_arg1) = m ((c.tc : Thread Cert.KernelSbOutProjDw.nD Cert.KernelSbOutProjDw.τ).loc Cert.KernelSbOutProjDw.main_arg1))
      ∧ r.2.sem = fun _ => 0)

def quiescent_KernelSbOutProjDwIdeal [hKernelSbOutProjDwIdeal : Cert.KernelSbOutProjDwIdeal.Facts] : Prop :=
  ∀ (m : (ℓ : Loc Cert.KernelSbOutProjDwIdeal.nD Cert.KernelSbOutProjDwIdeal.τ Cert.KernelSbOutProjDwIdeal.sig) → Buf (Elt Ideal) ℓ) (g : Dev Cert.KernelSbOutProjDwIdeal.nD → PrngReg), Pre_KernelSbOutProjDwIdeal m →
    θ_run (Cert.KernelSbOutProjDwIdeal.defs (F := Ideal)) (onTc (τ := Cert.KernelSbOutProjDwIdeal.τ) (Cert.KernelSbOutProjDwIdeal.main (F := Ideal))) ⟨m, fun _ => 0, g⟩ (fun r => (∀ c : Dev Cert.KernelSbOutProjDwIdeal.nD,
      r.2.mem ((c.tc : Thread Cert.KernelSbOutProjDwIdeal.nD Cert.KernelSbOutProjDwIdeal.τ).loc Cert.KernelSbOutProjDwIdeal.main_arg0) = m ((c.tc : Thread Cert.KernelSbOutProjDwIdeal.nD Cert.KernelSbOutProjDwIdeal.τ).loc Cert.KernelSbOutProjDwIdeal.main_arg0)
      ∧ r.2.mem ((c.tc : Thread Cert.KernelSbOutProjDwIdeal.nD Cert.KernelSbOutProjDwIdeal.τ).loc Cert.KernelSbOutProjDwIdeal.main_arg1) = m ((c.tc : Thread Cert.KernelSbOutProjDwIdeal.nD Cert.KernelSbOutProjDwIdeal.τ).loc Cert.KernelSbOutProjDwIdeal.main_arg1))
      ∧ r.2.sem = fun _ => 0)

def quiescent_ReferenceSbOutProjDwIdeal [hReferenceSbOutProjDwIdeal : Cert.ReferenceSbOutProjDwIdeal.Facts] : Prop :=
  ∀ (m : (ℓ : Loc Cert.ReferenceSbOutProjDwIdeal.nD Cert.ReferenceSbOutProjDwIdeal.τ Cert.ReferenceSbOutProjDwIdeal.sig) → Buf (Elt Ideal) ℓ) (g : Dev Cert.ReferenceSbOutProjDwIdeal.nD → PrngReg), Pre_ReferenceSbOutProjDwIdeal m →
    θ_run (Cert.ReferenceSbOutProjDwIdeal.defs (F := Ideal)) (onTc (τ := Cert.ReferenceSbOutProjDwIdeal.τ) (Cert.ReferenceSbOutProjDwIdeal.main (F := Ideal))) ⟨m, fun _ => 0, g⟩ (fun r => (∀ c : Dev Cert.ReferenceSbOutProjDwIdeal.nD,
      r.2.mem ((c.tc : Thread Cert.ReferenceSbOutProjDwIdeal.nD Cert.ReferenceSbOutProjDwIdeal.τ).loc Cert.ReferenceSbOutProjDwIdeal.main_arg0) = m ((c.tc : Thread Cert.ReferenceSbOutProjDwIdeal.nD Cert.ReferenceSbOutProjDwIdeal.τ).loc Cert.ReferenceSbOutProjDwIdeal.main_arg0)
      ∧ r.2.mem ((c.tc : Thread Cert.ReferenceSbOutProjDwIdeal.nD Cert.ReferenceSbOutProjDwIdeal.τ).loc Cert.ReferenceSbOutProjDwIdeal.main_arg1) = m ((c.tc : Thread Cert.ReferenceSbOutProjDwIdeal.nD Cert.ReferenceSbOutProjDwIdeal.τ).loc Cert.ReferenceSbOutProjDwIdeal.main_arg1))
      ∧ r.2.sem = fun _ => 0)

def quiescent_KernelFfnIn [hKernelFfnIn : Cert.KernelFfnIn.Facts] : Prop :=
  ∀ (m : (ℓ : Loc Cert.KernelFfnIn.nD Cert.KernelFfnIn.τ Cert.KernelFfnIn.sig) → Buf (Elt Bits) ℓ) (g : Dev Cert.KernelFfnIn.nD → PrngReg), Pre_KernelFfnIn m →
    θ_run (Cert.KernelFfnIn.defs (F := Bits)) (onTc (τ := Cert.KernelFfnIn.τ) (Cert.KernelFfnIn.main (F := Bits))) ⟨m, fun _ => 0, g⟩ (fun r => (∀ c : Dev Cert.KernelFfnIn.nD,
      r.2.mem ((c.tc : Thread Cert.KernelFfnIn.nD Cert.KernelFfnIn.τ).loc Cert.KernelFfnIn.main_arg0) = m ((c.tc : Thread Cert.KernelFfnIn.nD Cert.KernelFfnIn.τ).loc Cert.KernelFfnIn.main_arg0)
      ∧ r.2.mem ((c.tc : Thread Cert.KernelFfnIn.nD Cert.KernelFfnIn.τ).loc Cert.KernelFfnIn.main_arg1) = m ((c.tc : Thread Cert.KernelFfnIn.nD Cert.KernelFfnIn.τ).loc Cert.KernelFfnIn.main_arg1)
      ∧ r.2.mem ((c.tc : Thread Cert.KernelFfnIn.nD Cert.KernelFfnIn.τ).loc Cert.KernelFfnIn.main_arg2) = m ((c.tc : Thread Cert.KernelFfnIn.nD Cert.KernelFfnIn.τ).loc Cert.KernelFfnIn.main_arg2)
      ∧ r.2.mem ((c.tc : Thread Cert.KernelFfnIn.nD Cert.KernelFfnIn.τ).loc Cert.KernelFfnIn.main_arg3) = m ((c.tc : Thread Cert.KernelFfnIn.nD Cert.KernelFfnIn.τ).loc Cert.KernelFfnIn.main_arg3)
      ∧ r.2.mem ((c.tc : Thread Cert.KernelFfnIn.nD Cert.KernelFfnIn.τ).loc Cert.KernelFfnIn.main_arg4) = m ((c.tc : Thread Cert.KernelFfnIn.nD Cert.KernelFfnIn.τ).loc Cert.KernelFfnIn.main_arg4))
      ∧ r.2.sem = fun _ => 0)

def quiescent_KernelFfnInIdeal [hKernelFfnInIdeal : Cert.KernelFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
      ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
      ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4))
      ∧ r.2.sem = fun _ => 0)

def quiescent_ReferenceFfnInIdeal [hReferenceFfnInIdeal : Cert.ReferenceFfnInIdeal.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2)
      ∧ r.2.mem ((c.tc : Thread Cert.ReferenceFfnInIdeal.nD Cert.ReferenceFfnInIdeal.τ).loc Cert.ReferenceFfnInIdeal.main_arg3) = m ((c.tc : Thread Cert.ReferenceFfnInIdeal.nD Cert.ReferenceFfnInIdeal.τ).loc Cert.ReferenceFfnInIdeal.main_arg3)
      ∧ r.2.mem ((c.tc : Thread Cert.ReferenceFfnInIdeal.nD Cert.ReferenceFfnInIdeal.τ).loc Cert.ReferenceFfnInIdeal.main_arg4) = m ((c.tc : Thread Cert.ReferenceFfnInIdeal.nD Cert.ReferenceFfnInIdeal.τ).loc Cert.ReferenceFfnInIdeal.main_arg4))
      ∧ r.2.sem = fun _ => 0)

def quiescent_KernelFfnOutDx [hKernelFfnOutDx : Cert.KernelFfnOutDx.Facts] : Prop :=
  ∀ (m : (ℓ : Loc Cert.KernelFfnOutDx.nD Cert.KernelFfnOutDx.τ Cert.KernelFfnOutDx.sig) → Buf (Elt Bits) ℓ) (g : Dev Cert.KernelFfnOutDx.nD → PrngReg), Pre_KernelFfnOutDx m →
    θ_run (Cert.KernelFfnOutDx.defs (F := Bits)) (onTc (τ := Cert.KernelFfnOutDx.τ) (Cert.KernelFfnOutDx.main (F := Bits))) ⟨m, fun _ => 0, g⟩ (fun r => (∀ c : Dev Cert.KernelFfnOutDx.nD,
      r.2.mem ((c.tc : Thread Cert.KernelFfnOutDx.nD Cert.KernelFfnOutDx.τ).loc Cert.KernelFfnOutDx.main_arg0) = m ((c.tc : Thread Cert.KernelFfnOutDx.nD Cert.KernelFfnOutDx.τ).loc Cert.KernelFfnOutDx.main_arg0)
      ∧ r.2.mem ((c.tc : Thread Cert.KernelFfnOutDx.nD Cert.KernelFfnOutDx.τ).loc Cert.KernelFfnOutDx.main_arg1) = m ((c.tc : Thread Cert.KernelFfnOutDx.nD Cert.KernelFfnOutDx.τ).loc Cert.KernelFfnOutDx.main_arg1)
      ∧ r.2.mem ((c.tc : Thread Cert.KernelFfnOutDx.nD Cert.KernelFfnOutDx.τ).loc Cert.KernelFfnOutDx.main_arg2) = m ((c.tc : Thread Cert.KernelFfnOutDx.nD Cert.KernelFfnOutDx.τ).loc Cert.KernelFfnOutDx.main_arg2)
      ∧ r.2.mem ((c.tc : Thread Cert.KernelFfnOutDx.nD Cert.KernelFfnOutDx.τ).loc Cert.KernelFfnOutDx.main_arg3) = m ((c.tc : Thread Cert.KernelFfnOutDx.nD Cert.KernelFfnOutDx.τ).loc Cert.KernelFfnOutDx.main_arg3)
      ∧ r.2.mem ((c.tc : Thread Cert.KernelFfnOutDx.nD Cert.KernelFfnOutDx.τ).loc Cert.KernelFfnOutDx.main_arg4) = m ((c.tc : Thread Cert.KernelFfnOutDx.nD Cert.KernelFfnOutDx.τ).loc Cert.KernelFfnOutDx.main_arg4))
      ∧ r.2.sem = fun _ => 0)

def quiescent_KernelFfnOutDxIdeal [hKernelFfnOutDxIdeal : Cert.KernelFfnOutDxIdeal.Facts] : Prop :=
  ∀ (m : (ℓ : Loc Cert.KernelFfnOutDxIdeal.nD Cert.KernelFfnOutDxIdeal.τ Cert.KernelFfnOutDxIdeal.sig) → Buf (Elt Ideal) ℓ) (g : Dev Cert.KernelFfnOutDxIdeal.nD → PrngReg), Pre_KernelFfnOutDxIdeal m →
    θ_run (Cert.KernelFfnOutDxIdeal.defs (F := Ideal)) (onTc (τ := Cert.KernelFfnOutDxIdeal.τ) (Cert.KernelFfnOutDxIdeal.main (F := Ideal))) ⟨m, fun _ => 0, g⟩ (fun r => (∀ c : Dev Cert.KernelFfnOutDxIdeal.nD,
      r.2.mem ((c.tc : Thread Cert.KernelFfnOutDxIdeal.nD Cert.KernelFfnOutDxIdeal.τ).loc Cert.KernelFfnOutDxIdeal.main_arg0) = m ((c.tc : Thread Cert.KernelFfnOutDxIdeal.nD Cert.KernelFfnOutDxIdeal.τ).loc Cert.KernelFfnOutDxIdeal.main_arg0)
      ∧ r.2.mem ((c.tc : Thread Cert.KernelFfnOutDxIdeal.nD Cert.KernelFfnOutDxIdeal.τ).loc Cert.KernelFfnOutDxIdeal.main_arg1) = m ((c.tc : Thread Cert.KernelFfnOutDxIdeal.nD Cert.KernelFfnOutDxIdeal.τ).loc Cert.KernelFfnOutDxIdeal.main_arg1)
      ∧ r.2.mem ((c.tc : Thread Cert.KernelFfnOutDxIdeal.nD Cert.KernelFfnOutDxIdeal.τ).loc Cert.KernelFfnOutDxIdeal.main_arg2) = m ((c.tc : Thread Cert.KernelFfnOutDxIdeal.nD Cert.KernelFfnOutDxIdeal.τ).loc Cert.KernelFfnOutDxIdeal.main_arg2)
      ∧ r.2.mem ((c.tc : Thread Cert.KernelFfnOutDxIdeal.nD Cert.KernelFfnOutDxIdeal.τ).loc Cert.KernelFfnOutDxIdeal.main_arg3) = m ((c.tc : Thread Cert.KernelFfnOutDxIdeal.nD Cert.KernelFfnOutDxIdeal.τ).loc Cert.KernelFfnOutDxIdeal.main_arg3)
      ∧ r.2.mem ((c.tc : Thread Cert.KernelFfnOutDxIdeal.nD Cert.KernelFfnOutDxIdeal.τ).loc Cert.KernelFfnOutDxIdeal.main_arg4) = m ((c.tc : Thread Cert.KernelFfnOutDxIdeal.nD Cert.KernelFfnOutDxIdeal.τ).loc Cert.KernelFfnOutDxIdeal.main_arg4))
      ∧ r.2.sem = fun _ => 0)

def quiescent_ReferenceFfnOutDxIdeal [hReferenceFfnOutDxIdeal : Cert.ReferenceFfnOutDxIdeal.Facts] : Prop :=
  ∀ (m : (ℓ : Loc Cert.ReferenceFfnOutDxIdeal.nD Cert.ReferenceFfnOutDxIdeal.τ Cert.ReferenceFfnOutDxIdeal.sig) → Buf (Elt Ideal) ℓ) (g : Dev Cert.ReferenceFfnOutDxIdeal.nD → PrngReg), Pre_ReferenceFfnOutDxIdeal m →
    θ_run (Cert.ReferenceFfnOutDxIdeal.defs (F := Ideal)) (onTc (τ := Cert.ReferenceFfnOutDxIdeal.τ) (Cert.ReferenceFfnOutDxIdeal.main (F := Ideal))) ⟨m, fun _ => 0, g⟩ (fun r => (∀ c : Dev Cert.ReferenceFfnOutDxIdeal.nD,
      r.2.mem ((c.tc : Thread Cert.ReferenceFfnOutDxIdeal.nD Cert.ReferenceFfnOutDxIdeal.τ).loc Cert.ReferenceFfnOutDxIdeal.main_arg0) = m ((c.tc : Thread Cert.ReferenceFfnOutDxIdeal.nD Cert.ReferenceFfnOutDxIdeal.τ).loc Cert.ReferenceFfnOutDxIdeal.main_arg0)
      ∧ r.2.mem ((c.tc : Thread Cert.ReferenceFfnOutDxIdeal.nD Cert.ReferenceFfnOutDxIdeal.τ).loc Cert.ReferenceFfnOutDxIdeal.main_arg1) = m ((c.tc : Thread Cert.ReferenceFfnOutDxIdeal.nD Cert.ReferenceFfnOutDxIdeal.τ).loc Cert.ReferenceFfnOutDxIdeal.main_arg1)
      ∧ r.2.mem ((c.tc : Thread Cert.ReferenceFfnOutDxIdeal.nD Cert.ReferenceFfnOutDxIdeal.τ).loc Cert.ReferenceFfnOutDxIdeal.main_arg2) = m ((c.tc : Thread Cert.ReferenceFfnOutDxIdeal.nD Cert.ReferenceFfnOutDxIdeal.τ).loc Cert.ReferenceFfnOutDxIdeal.main_arg2)
      ∧ r.2.mem ((c.tc : Thread Cert.ReferenceFfnOutDxIdeal.nD Cert.ReferenceFfnOutDxIdeal.τ).loc Cert.ReferenceFfnOutDxIdeal.main_arg3) = m ((c.tc : Thread Cert.ReferenceFfnOutDxIdeal.nD Cert.ReferenceFfnOutDxIdeal.τ).loc Cert.ReferenceFfnOutDxIdeal.main_arg3)
      ∧ r.2.mem ((c.tc : Thread Cert.ReferenceFfnOutDxIdeal.nD Cert.ReferenceFfnOutDxIdeal.τ).loc Cert.ReferenceFfnOutDxIdeal.main_arg4) = m ((c.tc : Thread Cert.ReferenceFfnOutDxIdeal.nD Cert.ReferenceFfnOutDxIdeal.τ).loc Cert.ReferenceFfnOutDxIdeal.main_arg4))
      ∧ r.2.sem = fun _ => 0)

def quiescent_KernelQkvProj [hKernelQkvProj : Cert.KernelQkvProj.Facts] : Prop :=
  ∀ (m : (ℓ : Loc Cert.KernelQkvProj.nD Cert.KernelQkvProj.τ Cert.KernelQkvProj.sig) → Buf (Elt Bits) ℓ) (g : Dev Cert.KernelQkvProj.nD → PrngReg), Pre_KernelQkvProj m →
    θ_run (Cert.KernelQkvProj.defs (F := Bits)) (onTc (τ := Cert.KernelQkvProj.τ) (Cert.KernelQkvProj.main (F := Bits))) ⟨m, fun _ => 0, g⟩ (fun r => (∀ c : Dev Cert.KernelQkvProj.nD,
      r.2.mem ((c.tc : Thread Cert.KernelQkvProj.nD Cert.KernelQkvProj.τ).loc Cert.KernelQkvProj.main_arg0) = m ((c.tc : Thread Cert.KernelQkvProj.nD Cert.KernelQkvProj.τ).loc Cert.KernelQkvProj.main_arg0)
      ∧ r.2.mem ((c.tc : Thread Cert.KernelQkvProj.nD Cert.KernelQkvProj.τ).loc Cert.KernelQkvProj.main_arg1) = m ((c.tc : Thread Cert.KernelQkvProj.nD Cert.KernelQkvProj.τ).loc Cert.KernelQkvProj.main_arg1)
      ∧ r.2.mem ((c.tc : Thread Cert.KernelQkvProj.nD Cert.KernelQkvProj.τ).loc Cert.KernelQkvProj.main_arg2) = m ((c.tc : Thread Cert.KernelQkvProj.nD Cert.KernelQkvProj.τ).loc Cert.KernelQkvProj.main_arg2))
      ∧ r.2.sem = fun _ => 0)

def quiescent_KernelQkvProjIdeal [hKernelQkvProjIdeal : Cert.KernelQkvProjIdeal.Facts] : Prop :=
  ∀ (m : (ℓ : Loc Cert.KernelQkvProjIdeal.nD Cert.KernelQkvProjIdeal.τ Cert.KernelQkvProjIdeal.sig) → Buf (Elt Ideal) ℓ) (g : Dev Cert.KernelQkvProjIdeal.nD → PrngReg), Pre_KernelQkvProjIdeal m →
    θ_run (Cert.KernelQkvProjIdeal.defs (F := Ideal)) (onTc (τ := Cert.KernelQkvProjIdeal.τ) (Cert.KernelQkvProjIdeal.main (F := Ideal))) ⟨m, fun _ => 0, g⟩ (fun r => (∀ c : Dev Cert.KernelQkvProjIdeal.nD,
      r.2.mem ((c.tc : Thread Cert.KernelQkvProjIdeal.nD Cert.KernelQkvProjIdeal.τ).loc Cert.KernelQkvProjIdeal.main_arg0) = m ((c.tc : Thread Cert.KernelQkvProjIdeal.nD Cert.KernelQkvProjIdeal.τ).loc Cert.KernelQkvProjIdeal.main_arg0)
      ∧ r.2.mem ((c.tc : Thread Cert.KernelQkvProjIdeal.nD Cert.KernelQkvProjIdeal.τ).loc Cert.KernelQkvProjIdeal.main_arg1) = m ((c.tc : Thread Cert.KernelQkvProjIdeal.nD Cert.KernelQkvProjIdeal.τ).loc Cert.KernelQkvProjIdeal.main_arg1)
      ∧ r.2.mem ((c.tc : Thread Cert.KernelQkvProjIdeal.nD Cert.KernelQkvProjIdeal.τ).loc Cert.KernelQkvProjIdeal.main_arg2) = m ((c.tc : Thread Cert.KernelQkvProjIdeal.nD Cert.KernelQkvProjIdeal.τ).loc Cert.KernelQkvProjIdeal.main_arg2))
      ∧ r.2.sem = fun _ => 0)

def quiescent_ReferenceQkvProjIdeal [hReferenceQkvProjIdeal : Cert.ReferenceQkvProjIdeal.Facts] : Prop :=
  ∀ (m : (ℓ : Loc Cert.ReferenceQkvProjIdeal.nD Cert.ReferenceQkvProjIdeal.τ Cert.ReferenceQkvProjIdeal.sig) → Buf (Elt Ideal) ℓ) (g : Dev Cert.ReferenceQkvProjIdeal.nD → PrngReg), Pre_ReferenceQkvProjIdeal m →
    θ_run (Cert.ReferenceQkvProjIdeal.defs (F := Ideal)) (onTc (τ := Cert.ReferenceQkvProjIdeal.τ) (Cert.ReferenceQkvProjIdeal.main (F := Ideal))) ⟨m, fun _ => 0, g⟩ (fun r => (∀ c : Dev Cert.ReferenceQkvProjIdeal.nD,
      r.2.mem ((c.tc : Thread Cert.ReferenceQkvProjIdeal.nD Cert.ReferenceQkvProjIdeal.τ).loc Cert.ReferenceQkvProjIdeal.main_arg0) = m ((c.tc : Thread Cert.ReferenceQkvProjIdeal.nD Cert.ReferenceQkvProjIdeal.τ).loc Cert.ReferenceQkvProjIdeal.main_arg0)
      ∧ r.2.mem ((c.tc : Thread Cert.ReferenceQkvProjIdeal.nD Cert.ReferenceQkvProjIdeal.τ).loc Cert.ReferenceQkvProjIdeal.main_arg1) = m ((c.tc : Thread Cert.ReferenceQkvProjIdeal.nD Cert.ReferenceQkvProjIdeal.τ).loc Cert.ReferenceQkvProjIdeal.main_arg1)
      ∧ r.2.mem ((c.tc : Thread Cert.ReferenceQkvProjIdeal.nD Cert.ReferenceQkvProjIdeal.τ).loc Cert.ReferenceQkvProjIdeal.main_arg2) = m ((c.tc : Thread Cert.ReferenceQkvProjIdeal.nD Cert.ReferenceQkvProjIdeal.τ).loc Cert.ReferenceQkvProjIdeal.main_arg2))
      ∧ r.2.sem = fun _ => 0)

def quiescent_KernelInProj [hKernelInProj : Cert.KernelInProj.Facts] : Prop :=
  ∀ (m : (ℓ : Loc Cert.KernelInProj.nD Cert.KernelInProj.τ Cert.KernelInProj.sig) → Buf (Elt Bits) ℓ) (g : Dev Cert.KernelInProj.nD → PrngReg), Pre_KernelInProj m →
    θ_run (Cert.KernelInProj.defs (F := Bits)) (onTc (τ := Cert.KernelInProj.τ) (Cert.KernelInProj.main (F := Bits))) ⟨m, fun _ => 0, g⟩ (fun r => (∀ c : Dev Cert.KernelInProj.nD,
      r.2.mem ((c.tc : Thread Cert.KernelInProj.nD Cert.KernelInProj.τ).loc Cert.KernelInProj.main_arg0) = m ((c.tc : Thread Cert.KernelInProj.nD Cert.KernelInProj.τ).loc Cert.KernelInProj.main_arg0)
      ∧ r.2.mem ((c.tc : Thread Cert.KernelInProj.nD Cert.KernelInProj.τ).loc Cert.KernelInProj.main_arg1) = m ((c.tc : Thread Cert.KernelInProj.nD Cert.KernelInProj.τ).loc Cert.KernelInProj.main_arg1)
      ∧ r.2.mem ((c.tc : Thread Cert.KernelInProj.nD Cert.KernelInProj.τ).loc Cert.KernelInProj.main_arg2) = m ((c.tc : Thread Cert.KernelInProj.nD Cert.KernelInProj.τ).loc Cert.KernelInProj.main_arg2))
      ∧ r.2.sem = fun _ => 0)

def quiescent_KernelInProjIdeal [hKernelInProjIdeal : Cert.KernelInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg), Pre_KernelInProjIdeal m →
    θ_run (Cert.KernelInProjIdeal.defs (F := Ideal)) (onTc (τ := Cert.KernelInProjIdeal.τ) (Cert.KernelInProjIdeal.main (F := Ideal))) ⟨m, fun _ => 0, g⟩ (fun r => (∀ c : Dev Cert.KernelInProjIdeal.nD,
      r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
      ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1)
      ∧ r.2.mem ((c.tc : Thread Cert.KernelInProjIdeal.nD Cert.KernelInProjIdeal.τ).loc Cert.KernelInProjIdeal.main_arg2) = m ((c.tc : Thread Cert.KernelInProjIdeal.nD Cert.KernelInProjIdeal.τ).loc Cert.KernelInProjIdeal.main_arg2))
      ∧ r.2.sem = fun _ => 0)

def quiescent_ReferenceInProjIdeal [hReferenceInProjIdeal : Cert.ReferenceInProjIdeal.Facts] : Prop :=
  ∀ (m : (ℓ : Loc Cert.ReferenceInProjIdeal.nD Cert.ReferenceInProjIdeal.τ Cert.ReferenceInProjIdeal.sig) → Buf (Elt Ideal) ℓ) (g : Dev Cert.ReferenceInProjIdeal.nD → PrngReg), Pre_ReferenceInProjIdeal m →
    θ_run (Cert.ReferenceInProjIdeal.defs (F := Ideal)) (onTc (τ := Cert.ReferenceInProjIdeal.τ) (Cert.ReferenceInProjIdeal.main (F := Ideal))) ⟨m, fun _ => 0, g⟩ (fun r => (∀ c : Dev Cert.ReferenceInProjIdeal.nD,
      r.2.mem ((c.tc : Thread Cert.ReferenceInProjIdeal.nD Cert.ReferenceInProjIdeal.τ).loc Cert.ReferenceInProjIdeal.main_arg0) = m ((c.tc : Thread Cert.ReferenceInProjIdeal.nD Cert.ReferenceInProjIdeal.τ).loc Cert.ReferenceInProjIdeal.main_arg0)
      ∧ r.2.mem ((c.tc : Thread Cert.ReferenceInProjIdeal.nD Cert.ReferenceInProjIdeal.τ).loc Cert.ReferenceInProjIdeal.main_arg1) = m ((c.tc : Thread Cert.ReferenceInProjIdeal.nD Cert.ReferenceInProjIdeal.τ).loc Cert.ReferenceInProjIdeal.main_arg1)
      ∧ r.2.mem ((c.tc : Thread Cert.ReferenceInProjIdeal.nD Cert.ReferenceInProjIdeal.τ).loc Cert.ReferenceInProjIdeal.main_arg2) = m ((c.tc : Thread Cert.ReferenceInProjIdeal.nD Cert.ReferenceInProjIdeal.τ).loc Cert.ReferenceInProjIdeal.main_arg2))
      ∧ r.2.sem = fun _ => 0)

def quiescent_KernelMemQ [hKernelMemQ : Cert.KernelMemQ.Facts] : Prop :=
  ∀ (m : (ℓ : Loc Cert.KernelMemQ.nD Cert.KernelMemQ.τ Cert.KernelMemQ.sig) → Buf (Elt Bits) ℓ) (g : Dev Cert.KernelMemQ.nD → PrngReg), Pre_KernelMemQ m →
    θ_run (Cert.KernelMemQ.defs (F := Bits)) (onTc (τ := Cert.KernelMemQ.τ) (Cert.KernelMemQ.main (F := Bits))) ⟨m, fun _ => 0, g⟩ (fun r => (∀ c : Dev Cert.KernelMemQ.nD,
      r.2.mem ((c.tc : Thread Cert.KernelMemQ.nD Cert.KernelMemQ.τ).loc Cert.KernelMemQ.main_arg0) = m ((c.tc : Thread Cert.KernelMemQ.nD Cert.KernelMemQ.τ).loc Cert.KernelMemQ.main_arg0)
      ∧ r.2.mem ((c.tc : Thread Cert.KernelMemQ.nD Cert.KernelMemQ.τ).loc Cert.KernelMemQ.main_arg1) = m ((c.tc : Thread Cert.KernelMemQ.nD Cert.KernelMemQ.τ).loc Cert.KernelMemQ.main_arg1)
      ∧ r.2.mem ((c.tc : Thread Cert.KernelMemQ.nD Cert.KernelMemQ.τ).loc Cert.KernelMemQ.main_arg2) = m ((c.tc : Thread Cert.KernelMemQ.nD Cert.KernelMemQ.τ).loc Cert.KernelMemQ.main_arg2)
      ∧ r.2.mem ((c.tc : Thread Cert.KernelMemQ.nD Cert.KernelMemQ.τ).loc Cert.KernelMemQ.main_arg3) = m ((c.tc : Thread Cert.KernelMemQ.nD Cert.KernelMemQ.τ).loc Cert.KernelMemQ.main_arg3)
      ∧ r.2.mem ((c.tc : Thread Cert.KernelMemQ.nD Cert.KernelMemQ.τ).loc Cert.KernelMemQ.main_arg4) = m ((c.tc : Thread Cert.KernelMemQ.nD Cert.KernelMemQ.τ).loc Cert.KernelMemQ.main_arg4))
      ∧ r.2.sem = fun _ => 0)

def quiescent_KernelMemQIdeal [hKernelMemQIdeal : Cert.KernelMemQIdeal.Facts] : Prop :=
  ∀ (m : (ℓ : Loc Cert.KernelMemQIdeal.nD Cert.KernelMemQIdeal.τ Cert.KernelMemQIdeal.sig) → Buf (Elt Ideal) ℓ) (g : Dev Cert.KernelMemQIdeal.nD → PrngReg), Pre_KernelMemQIdeal m →
    θ_run (Cert.KernelMemQIdeal.defs (F := Ideal)) (onTc (τ := Cert.KernelMemQIdeal.τ) (Cert.KernelMemQIdeal.main (F := Ideal))) ⟨m, fun _ => 0, g⟩ (fun r => (∀ c : Dev Cert.KernelMemQIdeal.nD,
      r.2.mem ((c.tc : Thread Cert.KernelMemQIdeal.nD Cert.KernelMemQIdeal.τ).loc Cert.KernelMemQIdeal.main_arg0) = m ((c.tc : Thread Cert.KernelMemQIdeal.nD Cert.KernelMemQIdeal.τ).loc Cert.KernelMemQIdeal.main_arg0)
      ∧ r.2.mem ((c.tc : Thread Cert.KernelMemQIdeal.nD Cert.KernelMemQIdeal.τ).loc Cert.KernelMemQIdeal.main_arg1) = m ((c.tc : Thread Cert.KernelMemQIdeal.nD Cert.KernelMemQIdeal.τ).loc Cert.KernelMemQIdeal.main_arg1)
      ∧ r.2.mem ((c.tc : Thread Cert.KernelMemQIdeal.nD Cert.KernelMemQIdeal.τ).loc Cert.KernelMemQIdeal.main_arg2) = m ((c.tc : Thread Cert.KernelMemQIdeal.nD Cert.KernelMemQIdeal.τ).loc Cert.KernelMemQIdeal.main_arg2)
      ∧ r.2.mem ((c.tc : Thread Cert.KernelMemQIdeal.nD Cert.KernelMemQIdeal.τ).loc Cert.KernelMemQIdeal.main_arg3) = m ((c.tc : Thread Cert.KernelMemQIdeal.nD Cert.KernelMemQIdeal.τ).loc Cert.KernelMemQIdeal.main_arg3)
      ∧ r.2.mem ((c.tc : Thread Cert.KernelMemQIdeal.nD Cert.KernelMemQIdeal.τ).loc Cert.KernelMemQIdeal.main_arg4) = m ((c.tc : Thread Cert.KernelMemQIdeal.nD Cert.KernelMemQIdeal.τ).loc Cert.KernelMemQIdeal.main_arg4))
      ∧ r.2.sem = fun _ => 0)

def quiescent_ReferenceMemQIdeal [hReferenceMemQIdeal : Cert.ReferenceMemQIdeal.Facts] : Prop :=
  ∀ (m : (ℓ : Loc Cert.ReferenceMemQIdeal.nD Cert.ReferenceMemQIdeal.τ Cert.ReferenceMemQIdeal.sig) → Buf (Elt Ideal) ℓ) (g : Dev Cert.ReferenceMemQIdeal.nD → PrngReg), Pre_ReferenceMemQIdeal m →
    θ_run (Cert.ReferenceMemQIdeal.defs (F := Ideal)) (onTc (τ := Cert.ReferenceMemQIdeal.τ) (Cert.ReferenceMemQIdeal.main (F := Ideal))) ⟨m, fun _ => 0, g⟩ (fun r => (∀ c : Dev Cert.ReferenceMemQIdeal.nD,
      r.2.mem ((c.tc : Thread Cert.ReferenceMemQIdeal.nD Cert.ReferenceMemQIdeal.τ).loc Cert.ReferenceMemQIdeal.main_arg0) = m ((c.tc : Thread Cert.ReferenceMemQIdeal.nD Cert.ReferenceMemQIdeal.τ).loc Cert.ReferenceMemQIdeal.main_arg0)
      ∧ r.2.mem ((c.tc : Thread Cert.ReferenceMemQIdeal.nD Cert.ReferenceMemQIdeal.τ).loc Cert.ReferenceMemQIdeal.main_arg1) = m ((c.tc : Thread Cert.ReferenceMemQIdeal.nD Cert.ReferenceMemQIdeal.τ).loc Cert.ReferenceMemQIdeal.main_arg1)
      ∧ r.2.mem ((c.tc : Thread Cert.ReferenceMemQIdeal.nD Cert.ReferenceMemQIdeal.τ).loc Cert.ReferenceMemQIdeal.main_arg2) = m ((c.tc : Thread Cert.ReferenceMemQIdeal.nD Cert.ReferenceMemQIdeal.τ).loc Cert.ReferenceMemQIdeal.main_arg2)
      ∧ r.2.mem ((c.tc : Thread Cert.ReferenceMemQIdeal.nD Cert.ReferenceMemQIdeal.τ).loc Cert.ReferenceMemQIdeal.main_arg3) = m ((c.tc : Thread Cert.ReferenceMemQIdeal.nD Cert.ReferenceMemQIdeal.τ).loc Cert.ReferenceMemQIdeal.main_arg3)
      ∧ r.2.mem ((c.tc : Thread Cert.ReferenceMemQIdeal.nD Cert.ReferenceMemQIdeal.τ).loc Cert.ReferenceMemQIdeal.main_arg4) = m ((c.tc : Thread Cert.ReferenceMemQIdeal.nD Cert.ReferenceMemQIdeal.τ).loc Cert.ReferenceMemQIdeal.main_arg4))
      ∧ r.2.sem = fun _ => 0)

def quiescent_KernelMemO [hKernelMemO : Cert.KernelMemO.Facts] : Prop :=
  ∀ (m : (ℓ : Loc Cert.KernelMemO.nD Cert.KernelMemO.τ Cert.KernelMemO.sig) → Buf (Elt Bits) ℓ) (g : Dev Cert.KernelMemO.nD → PrngReg), Pre_KernelMemO m →
    θ_run (Cert.KernelMemO.defs (F := Bits)) (onTc (τ := Cert.KernelMemO.τ) (Cert.KernelMemO.main (F := Bits))) ⟨m, fun _ => 0, g⟩ (fun r => (∀ c : Dev Cert.KernelMemO.nD,
      r.2.mem ((c.tc : Thread Cert.KernelMemO.nD Cert.KernelMemO.τ).loc Cert.KernelMemO.main_arg0) = m ((c.tc : Thread Cert.KernelMemO.nD Cert.KernelMemO.τ).loc Cert.KernelMemO.main_arg0)
      ∧ r.2.mem ((c.tc : Thread Cert.KernelMemO.nD Cert.KernelMemO.τ).loc Cert.KernelMemO.main_arg1) = m ((c.tc : Thread Cert.KernelMemO.nD Cert.KernelMemO.τ).loc Cert.KernelMemO.main_arg1)
      ∧ r.2.mem ((c.tc : Thread Cert.KernelMemO.nD Cert.KernelMemO.τ).loc Cert.KernelMemO.main_arg2) = m ((c.tc : Thread Cert.KernelMemO.nD Cert.KernelMemO.τ).loc Cert.KernelMemO.main_arg2)
      ∧ r.2.mem ((c.tc : Thread Cert.KernelMemO.nD Cert.KernelMemO.τ).loc Cert.KernelMemO.main_arg3) = m ((c.tc : Thread Cert.KernelMemO.nD Cert.KernelMemO.τ).loc Cert.KernelMemO.main_arg3)
      ∧ r.2.mem ((c.tc : Thread Cert.KernelMemO.nD Cert.KernelMemO.τ).loc Cert.KernelMemO.main_arg4) = m ((c.tc : Thread Cert.KernelMemO.nD Cert.KernelMemO.τ).loc Cert.KernelMemO.main_arg4))
      ∧ r.2.sem = fun _ => 0)

def quiescent_KernelMemOIdeal [hKernelMemOIdeal : Cert.KernelMemOIdeal.Facts] : Prop :=
  ∀ (m : (ℓ : Loc Cert.KernelMemOIdeal.nD Cert.KernelMemOIdeal.τ Cert.KernelMemOIdeal.sig) → Buf (Elt Ideal) ℓ) (g : Dev Cert.KernelMemOIdeal.nD → PrngReg), Pre_KernelMemOIdeal m →
    θ_run (Cert.KernelMemOIdeal.defs (F := Ideal)) (onTc (τ := Cert.KernelMemOIdeal.τ) (Cert.KernelMemOIdeal.main (F := Ideal))) ⟨m, fun _ => 0, g⟩ (fun r => (∀ c : Dev Cert.KernelMemOIdeal.nD,
      r.2.mem ((c.tc : Thread Cert.KernelMemOIdeal.nD Cert.KernelMemOIdeal.τ).loc Cert.KernelMemOIdeal.main_arg0) = m ((c.tc : Thread Cert.KernelMemOIdeal.nD Cert.KernelMemOIdeal.τ).loc Cert.KernelMemOIdeal.main_arg0)
      ∧ r.2.mem ((c.tc : Thread Cert.KernelMemOIdeal.nD Cert.KernelMemOIdeal.τ).loc Cert.KernelMemOIdeal.main_arg1) = m ((c.tc : Thread Cert.KernelMemOIdeal.nD Cert.KernelMemOIdeal.τ).loc Cert.KernelMemOIdeal.main_arg1)
      ∧ r.2.mem ((c.tc : Thread Cert.KernelMemOIdeal.nD Cert.KernelMemOIdeal.τ).loc Cert.KernelMemOIdeal.main_arg2) = m ((c.tc : Thread Cert.KernelMemOIdeal.nD Cert.KernelMemOIdeal.τ).loc Cert.KernelMemOIdeal.main_arg2)
      ∧ r.2.mem ((c.tc : Thread Cert.KernelMemOIdeal.nD Cert.KernelMemOIdeal.τ).loc Cert.KernelMemOIdeal.main_arg3) = m ((c.tc : Thread Cert.KernelMemOIdeal.nD Cert.KernelMemOIdeal.τ).loc Cert.KernelMemOIdeal.main_arg3)
      ∧ r.2.mem ((c.tc : Thread Cert.KernelMemOIdeal.nD Cert.KernelMemOIdeal.τ).loc Cert.KernelMemOIdeal.main_arg4) = m ((c.tc : Thread Cert.KernelMemOIdeal.nD Cert.KernelMemOIdeal.τ).loc Cert.KernelMemOIdeal.main_arg4))
      ∧ r.2.sem = fun _ => 0)

def quiescent_ReferenceMemOIdeal [hReferenceMemOIdeal : Cert.ReferenceMemOIdeal.Facts] : Prop :=
  ∀ (m : (ℓ : Loc Cert.ReferenceMemOIdeal.nD Cert.ReferenceMemOIdeal.τ Cert.ReferenceMemOIdeal.sig) → Buf (Elt Ideal) ℓ) (g : Dev Cert.ReferenceMemOIdeal.nD → PrngReg), Pre_ReferenceMemOIdeal m →
    θ_run (Cert.ReferenceMemOIdeal.defs (F := Ideal)) (onTc (τ := Cert.ReferenceMemOIdeal.τ) (Cert.ReferenceMemOIdeal.main (F := Ideal))) ⟨m, fun _ => 0, g⟩ (fun r => (∀ c : Dev Cert.ReferenceMemOIdeal.nD,
      r.2.mem ((c.tc : Thread Cert.ReferenceMemOIdeal.nD Cert.ReferenceMemOIdeal.τ).loc Cert.ReferenceMemOIdeal.main_arg0) = m ((c.tc : Thread Cert.ReferenceMemOIdeal.nD Cert.ReferenceMemOIdeal.τ).loc Cert.ReferenceMemOIdeal.main_arg0)
      ∧ r.2.mem ((c.tc : Thread Cert.ReferenceMemOIdeal.nD Cert.ReferenceMemOIdeal.τ).loc Cert.ReferenceMemOIdeal.main_arg1) = m ((c.tc : Thread Cert.ReferenceMemOIdeal.nD Cert.ReferenceMemOIdeal.τ).loc Cert.ReferenceMemOIdeal.main_arg1)
      ∧ r.2.mem ((c.tc : Thread Cert.ReferenceMemOIdeal.nD Cert.ReferenceMemOIdeal.τ).loc Cert.ReferenceMemOIdeal.main_arg2) = m ((c.tc : Thread Cert.ReferenceMemOIdeal.nD Cert.ReferenceMemOIdeal.τ).loc Cert.ReferenceMemOIdeal.main_arg2)
      ∧ r.2.mem ((c.tc : Thread Cert.ReferenceMemOIdeal.nD Cert.ReferenceMemOIdeal.τ).loc Cert.ReferenceMemOIdeal.main_arg3) = m ((c.tc : Thread Cert.ReferenceMemOIdeal.nD Cert.ReferenceMemOIdeal.τ).loc Cert.ReferenceMemOIdeal.main_arg3)
      ∧ r.2.mem ((c.tc : Thread Cert.ReferenceMemOIdeal.nD Cert.ReferenceMemOIdeal.τ).loc Cert.ReferenceMemOIdeal.main_arg4) = m ((c.tc : Thread Cert.ReferenceMemOIdeal.nD Cert.ReferenceMemOIdeal.τ).loc Cert.ReferenceMemOIdeal.main_arg4))
      ∧ r.2.sem = fun _ => 0)

def quiescent_KernelMemQDx [hKernelMemQDx : Cert.KernelMemQDx.Facts] : Prop :=
  ∀ (m : (ℓ : Loc Cert.KernelMemQDx.nD Cert.KernelMemQDx.τ Cert.KernelMemQDx.sig) → Buf (Elt Bits) ℓ) (g : Dev Cert.KernelMemQDx.nD → PrngReg), Pre_KernelMemQDx m →
    θ_run (Cert.KernelMemQDx.defs (F := Bits)) (onTc (τ := Cert.KernelMemQDx.τ) (Cert.KernelMemQDx.main (F := Bits))) ⟨m, fun _ => 0, g⟩ (fun r => (∀ c : Dev Cert.KernelMemQDx.nD,
      r.2.mem ((c.tc : Thread Cert.KernelMemQDx.nD Cert.KernelMemQDx.τ).loc Cert.KernelMemQDx.main_arg0) = m ((c.tc : Thread Cert.KernelMemQDx.nD Cert.KernelMemQDx.τ).loc Cert.KernelMemQDx.main_arg0)
      ∧ r.2.mem ((c.tc : Thread Cert.KernelMemQDx.nD Cert.KernelMemQDx.τ).loc Cert.KernelMemQDx.main_arg1) = m ((c.tc : Thread Cert.KernelMemQDx.nD Cert.KernelMemQDx.τ).loc Cert.KernelMemQDx.main_arg1)
      ∧ r.2.mem ((c.tc : Thread Cert.KernelMemQDx.nD Cert.KernelMemQDx.τ).loc Cert.KernelMemQDx.main_arg2) = m ((c.tc : Thread Cert.KernelMemQDx.nD Cert.KernelMemQDx.τ).loc Cert.KernelMemQDx.main_arg2)
      ∧ r.2.mem ((c.tc : Thread Cert.KernelMemQDx.nD Cert.KernelMemQDx.τ).loc Cert.KernelMemQDx.main_arg3) = m ((c.tc : Thread Cert.KernelMemQDx.nD Cert.KernelMemQDx.τ).loc Cert.KernelMemQDx.main_arg3)
      ∧ r.2.mem ((c.tc : Thread Cert.KernelMemQDx.nD Cert.KernelMemQDx.τ).loc Cert.KernelMemQDx.main_arg4) = m ((c.tc : Thread Cert.KernelMemQDx.nD Cert.KernelMemQDx.τ).loc Cert.KernelMemQDx.main_arg4)
      ∧ r.2.mem ((c.tc : Thread Cert.KernelMemQDx.nD Cert.KernelMemQDx.τ).loc Cert.KernelMemQDx.main_arg5) = m ((c.tc : Thread Cert.KernelMemQDx.nD Cert.KernelMemQDx.τ).loc Cert.KernelMemQDx.main_arg5)
      ∧ r.2.mem ((c.tc : Thread Cert.KernelMemQDx.nD Cert.KernelMemQDx.τ).loc Cert.KernelMemQDx.main_arg6) = m ((c.tc : Thread Cert.KernelMemQDx.nD Cert.KernelMemQDx.τ).loc Cert.KernelMemQDx.main_arg6)
      ∧ r.2.mem ((c.tc : Thread Cert.KernelMemQDx.nD Cert.KernelMemQDx.τ).loc Cert.KernelMemQDx.main_arg7) = m ((c.tc : Thread Cert.KernelMemQDx.nD Cert.KernelMemQDx.τ).loc Cert.KernelMemQDx.main_arg7)
      ∧ r.2.mem ((c.tc : Thread Cert.KernelMemQDx.nD Cert.KernelMemQDx.τ).loc Cert.KernelMemQDx.main_arg8) = m ((c.tc : Thread Cert.KernelMemQDx.nD Cert.KernelMemQDx.τ).loc Cert.KernelMemQDx.main_arg8))
      ∧ r.2.sem = fun _ => 0)

def quiescent_KernelMemQDxIdeal [hKernelMemQDxIdeal : Cert.KernelMemQDxIdeal.Facts] : Prop :=
  ∀ (m : (ℓ : Loc Cert.KernelMemQDxIdeal.nD Cert.KernelMemQDxIdeal.τ Cert.KernelMemQDxIdeal.sig) → Buf (Elt Ideal) ℓ) (g : Dev Cert.KernelMemQDxIdeal.nD → PrngReg), Pre_KernelMemQDxIdeal m →
    θ_run (Cert.KernelMemQDxIdeal.defs (F := Ideal)) (onTc (τ := Cert.KernelMemQDxIdeal.τ) (Cert.KernelMemQDxIdeal.main (F := Ideal))) ⟨m, fun _ => 0, g⟩ (fun r => (∀ c : Dev Cert.KernelMemQDxIdeal.nD,
      r.2.mem ((c.tc : Thread Cert.KernelMemQDxIdeal.nD Cert.KernelMemQDxIdeal.τ).loc Cert.KernelMemQDxIdeal.main_arg0) = m ((c.tc : Thread Cert.KernelMemQDxIdeal.nD Cert.KernelMemQDxIdeal.τ).loc Cert.KernelMemQDxIdeal.main_arg0)
      ∧ r.2.mem ((c.tc : Thread Cert.KernelMemQDxIdeal.nD Cert.KernelMemQDxIdeal.τ).loc Cert.KernelMemQDxIdeal.main_arg1) = m ((c.tc : Thread Cert.KernelMemQDxIdeal.nD Cert.KernelMemQDxIdeal.τ).loc Cert.KernelMemQDxIdeal.main_arg1)
      ∧ r.2.mem ((c.tc : Thread Cert.KernelMemQDxIdeal.nD Cert.KernelMemQDxIdeal.τ).loc Cert.KernelMemQDxIdeal.main_arg2) = m ((c.tc : Thread Cert.KernelMemQDxIdeal.nD Cert.KernelMemQDxIdeal.τ).loc Cert.KernelMemQDxIdeal.main_arg2)
      ∧ r.2.mem ((c.tc : Thread Cert.KernelMemQDxIdeal.nD Cert.KernelMemQDxIdeal.τ).loc Cert.KernelMemQDxIdeal.main_arg3) = m ((c.tc : Thread Cert.KernelMemQDxIdeal.nD Cert.KernelMemQDxIdeal.τ).loc Cert.KernelMemQDxIdeal.main_arg3)
      ∧ r.2.mem ((c.tc : Thread Cert.KernelMemQDxIdeal.nD Cert.KernelMemQDxIdeal.τ).loc Cert.KernelMemQDxIdeal.main_arg4) = m ((c.tc : Thread Cert.KernelMemQDxIdeal.nD Cert.KernelMemQDxIdeal.τ).loc Cert.KernelMemQDxIdeal.main_arg4)
      ∧ r.2.mem ((c.tc : Thread Cert.KernelMemQDxIdeal.nD Cert.KernelMemQDxIdeal.τ).loc Cert.KernelMemQDxIdeal.main_arg5) = m ((c.tc : Thread Cert.KernelMemQDxIdeal.nD Cert.KernelMemQDxIdeal.τ).loc Cert.KernelMemQDxIdeal.main_arg5)
      ∧ r.2.mem ((c.tc : Thread Cert.KernelMemQDxIdeal.nD Cert.KernelMemQDxIdeal.τ).loc Cert.KernelMemQDxIdeal.main_arg6) = m ((c.tc : Thread Cert.KernelMemQDxIdeal.nD Cert.KernelMemQDxIdeal.τ).loc Cert.KernelMemQDxIdeal.main_arg6)
      ∧ r.2.mem ((c.tc : Thread Cert.KernelMemQDxIdeal.nD Cert.KernelMemQDxIdeal.τ).loc Cert.KernelMemQDxIdeal.main_arg7) = m ((c.tc : Thread Cert.KernelMemQDxIdeal.nD Cert.KernelMemQDxIdeal.τ).loc Cert.KernelMemQDxIdeal.main_arg7)
      ∧ r.2.mem ((c.tc : Thread Cert.KernelMemQDxIdeal.nD Cert.KernelMemQDxIdeal.τ).loc Cert.KernelMemQDxIdeal.main_arg8) = m ((c.tc : Thread Cert.KernelMemQDxIdeal.nD Cert.KernelMemQDxIdeal.τ).loc Cert.KernelMemQDxIdeal.main_arg8))
      ∧ r.2.sem = fun _ => 0)

def quiescent_ReferenceMemQDxIdeal [hReferenceMemQDxIdeal : Cert.ReferenceMemQDxIdeal.Facts] : Prop :=
  ∀ (m : (ℓ : Loc Cert.ReferenceMemQDxIdeal.nD Cert.ReferenceMemQDxIdeal.τ Cert.ReferenceMemQDxIdeal.sig) → Buf (Elt Ideal) ℓ) (g : Dev Cert.ReferenceMemQDxIdeal.nD → PrngReg), Pre_ReferenceMemQDxIdeal m →
    θ_run (Cert.ReferenceMemQDxIdeal.defs (F := Ideal)) (onTc (τ := Cert.ReferenceMemQDxIdeal.τ) (Cert.ReferenceMemQDxIdeal.main (F := Ideal))) ⟨m, fun _ => 0, g⟩ (fun r => (∀ c : Dev Cert.ReferenceMemQDxIdeal.nD,
      r.2.mem ((c.tc : Thread Cert.ReferenceMemQDxIdeal.nD Cert.ReferenceMemQDxIdeal.τ).loc Cert.ReferenceMemQDxIdeal.main_arg0) = m ((c.tc : Thread Cert.ReferenceMemQDxIdeal.nD Cert.ReferenceMemQDxIdeal.τ).loc Cert.ReferenceMemQDxIdeal.main_arg0)
      ∧ r.2.mem ((c.tc : Thread Cert.ReferenceMemQDxIdeal.nD Cert.ReferenceMemQDxIdeal.τ).loc Cert.ReferenceMemQDxIdeal.main_arg1) = m ((c.tc : Thread Cert.ReferenceMemQDxIdeal.nD Cert.ReferenceMemQDxIdeal.τ).loc Cert.ReferenceMemQDxIdeal.main_arg1)
      ∧ r.2.mem ((c.tc : Thread Cert.ReferenceMemQDxIdeal.nD Cert.ReferenceMemQDxIdeal.τ).loc Cert.ReferenceMemQDxIdeal.main_arg2) = m ((c.tc : Thread Cert.ReferenceMemQDxIdeal.nD Cert.ReferenceMemQDxIdeal.τ).loc Cert.ReferenceMemQDxIdeal.main_arg2)
      ∧ r.2.mem ((c.tc : Thread Cert.ReferenceMemQDxIdeal.nD Cert.ReferenceMemQDxIdeal.τ).loc Cert.ReferenceMemQDxIdeal.main_arg3) = m ((c.tc : Thread Cert.ReferenceMemQDxIdeal.nD Cert.ReferenceMemQDxIdeal.τ).loc Cert.ReferenceMemQDxIdeal.main_arg3)
      ∧ r.2.mem ((c.tc : Thread Cert.ReferenceMemQDxIdeal.nD Cert.ReferenceMemQDxIdeal.τ).loc Cert.ReferenceMemQDxIdeal.main_arg4) = m ((c.tc : Thread Cert.ReferenceMemQDxIdeal.nD Cert.ReferenceMemQDxIdeal.τ).loc Cert.ReferenceMemQDxIdeal.main_arg4)
      ∧ r.2.mem ((c.tc : Thread Cert.ReferenceMemQDxIdeal.nD Cert.ReferenceMemQDxIdeal.τ).loc Cert.ReferenceMemQDxIdeal.main_arg5) = m ((c.tc : Thread Cert.ReferenceMemQDxIdeal.nD Cert.ReferenceMemQDxIdeal.τ).loc Cert.ReferenceMemQDxIdeal.main_arg5)
      ∧ r.2.mem ((c.tc : Thread Cert.ReferenceMemQDxIdeal.nD Cert.ReferenceMemQDxIdeal.τ).loc Cert.ReferenceMemQDxIdeal.main_arg6) = m ((c.tc : Thread Cert.ReferenceMemQDxIdeal.nD Cert.ReferenceMemQDxIdeal.τ).loc Cert.ReferenceMemQDxIdeal.main_arg6)
      ∧ r.2.mem ((c.tc : Thread Cert.ReferenceMemQDxIdeal.nD Cert.ReferenceMemQDxIdeal.τ).loc Cert.ReferenceMemQDxIdeal.main_arg7) = m ((c.tc : Thread Cert.ReferenceMemQDxIdeal.nD Cert.ReferenceMemQDxIdeal.τ).loc Cert.ReferenceMemQDxIdeal.main_arg7)
      ∧ r.2.mem ((c.tc : Thread Cert.ReferenceMemQDxIdeal.nD Cert.ReferenceMemQDxIdeal.τ).loc Cert.ReferenceMemQDxIdeal.main_arg8) = m ((c.tc : Thread Cert.ReferenceMemQDxIdeal.nD Cert.ReferenceMemQDxIdeal.τ).loc Cert.ReferenceMemQDxIdeal.main_arg8))
      ∧ r.2.sem = fun _ => 0)

def quiescent_KernelMemODx [hKernelMemODx : Cert.KernelMemODx.Facts] : Prop :=
  ∀ (m : (ℓ : Loc Cert.KernelMemODx.nD Cert.KernelMemODx.τ Cert.KernelMemODx.sig) → Buf (Elt Bits) ℓ) (g : Dev Cert.KernelMemODx.nD → PrngReg), Pre_KernelMemODx m →
    θ_run (Cert.KernelMemODx.defs (F := Bits)) (onTc (τ := Cert.KernelMemODx.τ) (Cert.KernelMemODx.main (F := Bits))) ⟨m, fun _ => 0, g⟩ (fun r => (∀ c : Dev Cert.KernelMemODx.nD,
      r.2.mem ((c.tc : Thread Cert.KernelMemODx.nD Cert.KernelMemODx.τ).loc Cert.KernelMemODx.main_arg0) = m ((c.tc : Thread Cert.KernelMemODx.nD Cert.KernelMemODx.τ).loc Cert.KernelMemODx.main_arg0)
      ∧ r.2.mem ((c.tc : Thread Cert.KernelMemODx.nD Cert.KernelMemODx.τ).loc Cert.KernelMemODx.main_arg1) = m ((c.tc : Thread Cert.KernelMemODx.nD Cert.KernelMemODx.τ).loc Cert.KernelMemODx.main_arg1)
      ∧ r.2.mem ((c.tc : Thread Cert.KernelMemODx.nD Cert.KernelMemODx.τ).loc Cert.KernelMemODx.main_arg2) = m ((c.tc : Thread Cert.KernelMemODx.nD Cert.KernelMemODx.τ).loc Cert.KernelMemODx.main_arg2)
      ∧ r.2.mem ((c.tc : Thread Cert.KernelMemODx.nD Cert.KernelMemODx.τ).loc Cert.KernelMemODx.main_arg3) = m ((c.tc : Thread Cert.KernelMemODx.nD Cert.KernelMemODx.τ).loc Cert.KernelMemODx.main_arg3)
      ∧ r.2.mem ((c.tc : Thread Cert.KernelMemODx.nD Cert.KernelMemODx.τ).loc Cert.KernelMemODx.main_arg4) = m ((c.tc : Thread Cert.KernelMemODx.nD Cert.KernelMemODx.τ).loc Cert.KernelMemODx.main_arg4))
      ∧ r.2.sem = fun _ => 0)

def quiescent_KernelMemODxIdeal [hKernelMemODxIdeal : Cert.KernelMemODxIdeal.Facts] : Prop :=
  ∀ (m : (ℓ : Loc Cert.KernelMemODxIdeal.nD Cert.KernelMemODxIdeal.τ Cert.KernelMemODxIdeal.sig) → Buf (Elt Ideal) ℓ) (g : Dev Cert.KernelMemODxIdeal.nD → PrngReg), Pre_KernelMemODxIdeal m →
    θ_run (Cert.KernelMemODxIdeal.defs (F := Ideal)) (onTc (τ := Cert.KernelMemODxIdeal.τ) (Cert.KernelMemODxIdeal.main (F := Ideal))) ⟨m, fun _ => 0, g⟩ (fun r => (∀ c : Dev Cert.KernelMemODxIdeal.nD,
      r.2.mem ((c.tc : Thread Cert.KernelMemODxIdeal.nD Cert.KernelMemODxIdeal.τ).loc Cert.KernelMemODxIdeal.main_arg0) = m ((c.tc : Thread Cert.KernelMemODxIdeal.nD Cert.KernelMemODxIdeal.τ).loc Cert.KernelMemODxIdeal.main_arg0)
      ∧ r.2.mem ((c.tc : Thread Cert.KernelMemODxIdeal.nD Cert.KernelMemODxIdeal.τ).loc Cert.KernelMemODxIdeal.main_arg1) = m ((c.tc : Thread Cert.KernelMemODxIdeal.nD Cert.KernelMemODxIdeal.τ).loc Cert.KernelMemODxIdeal.main_arg1)
      ∧ r.2.mem ((c.tc : Thread Cert.KernelMemODxIdeal.nD Cert.KernelMemODxIdeal.τ).loc Cert.KernelMemODxIdeal.main_arg2) = m ((c.tc : Thread Cert.KernelMemODxIdeal.nD Cert.KernelMemODxIdeal.τ).loc Cert.KernelMemODxIdeal.main_arg2)
      ∧ r.2.mem ((c.tc : Thread Cert.KernelMemODxIdeal.nD Cert.KernelMemODxIdeal.τ).loc Cert.KernelMemODxIdeal.main_arg3) = m ((c.tc : Thread Cert.KernelMemODxIdeal.nD Cert.KernelMemODxIdeal.τ).loc Cert.KernelMemODxIdeal.main_arg3)
      ∧ r.2.mem ((c.tc : Thread Cert.KernelMemODxIdeal.nD Cert.KernelMemODxIdeal.τ).loc Cert.KernelMemODxIdeal.main_arg4) = m ((c.tc : Thread Cert.KernelMemODxIdeal.nD Cert.KernelMemODxIdeal.τ).loc Cert.KernelMemODxIdeal.main_arg4))
      ∧ r.2.sem = fun _ => 0)

def quiescent_ReferenceMemODxIdeal [hReferenceMemODxIdeal : Cert.ReferenceMemODxIdeal.Facts] : Prop :=
  ∀ (m : (ℓ : Loc Cert.ReferenceMemODxIdeal.nD Cert.ReferenceMemODxIdeal.τ Cert.ReferenceMemODxIdeal.sig) → Buf (Elt Ideal) ℓ) (g : Dev Cert.ReferenceMemODxIdeal.nD → PrngReg), Pre_ReferenceMemODxIdeal m →
    θ_run (Cert.ReferenceMemODxIdeal.defs (F := Ideal)) (onTc (τ := Cert.ReferenceMemODxIdeal.τ) (Cert.ReferenceMemODxIdeal.main (F := Ideal))) ⟨m, fun _ => 0, g⟩ (fun r => (∀ c : Dev Cert.ReferenceMemODxIdeal.nD,
      r.2.mem ((c.tc : Thread Cert.ReferenceMemODxIdeal.nD Cert.ReferenceMemODxIdeal.τ).loc Cert.ReferenceMemODxIdeal.main_arg0) = m ((c.tc : Thread Cert.ReferenceMemODxIdeal.nD Cert.ReferenceMemODxIdeal.τ).loc Cert.ReferenceMemODxIdeal.main_arg0)
      ∧ r.2.mem ((c.tc : Thread Cert.ReferenceMemODxIdeal.nD Cert.ReferenceMemODxIdeal.τ).loc Cert.ReferenceMemODxIdeal.main_arg1) = m ((c.tc : Thread Cert.ReferenceMemODxIdeal.nD Cert.ReferenceMemODxIdeal.τ).loc Cert.ReferenceMemODxIdeal.main_arg1)
      ∧ r.2.mem ((c.tc : Thread Cert.ReferenceMemODxIdeal.nD Cert.ReferenceMemODxIdeal.τ).loc Cert.ReferenceMemODxIdeal.main_arg2) = m ((c.tc : Thread Cert.ReferenceMemODxIdeal.nD Cert.ReferenceMemODxIdeal.τ).loc Cert.ReferenceMemODxIdeal.main_arg2)
      ∧ r.2.mem ((c.tc : Thread Cert.ReferenceMemODxIdeal.nD Cert.ReferenceMemODxIdeal.τ).loc Cert.ReferenceMemODxIdeal.main_arg3) = m ((c.tc : Thread Cert.ReferenceMemODxIdeal.nD Cert.ReferenceMemODxIdeal.τ).loc Cert.ReferenceMemODxIdeal.main_arg3)
      ∧ r.2.mem ((c.tc : Thread Cert.ReferenceMemODxIdeal.nD Cert.ReferenceMemODxIdeal.τ).loc Cert.ReferenceMemODxIdeal.main_arg4) = m ((c.tc : Thread Cert.ReferenceMemODxIdeal.nD Cert.ReferenceMemODxIdeal.τ).loc Cert.ReferenceMemODxIdeal.main_arg4))
      ∧ r.2.sem = fun _ => 0)

def quiescent_KernelOutProj [hKernelOutProj : Cert.KernelOutProj.Facts] : Prop :=
  ∀ (m : (ℓ : Loc Cert.KernelOutProj.nD Cert.KernelOutProj.τ Cert.KernelOutProj.sig) → Buf (Elt Bits) ℓ) (g : Dev Cert.KernelOutProj.nD → PrngReg), Pre_KernelOutProj m →
    θ_run (Cert.KernelOutProj.defs (F := Bits)) (onTc (τ := Cert.KernelOutProj.τ) (Cert.KernelOutProj.main (F := Bits))) ⟨m, fun _ => 0, g⟩ (fun r => (∀ c : Dev Cert.KernelOutProj.nD,
      r.2.mem ((c.tc : Thread Cert.KernelOutProj.nD Cert.KernelOutProj.τ).loc Cert.KernelOutProj.main_arg0) = m ((c.tc : Thread Cert.KernelOutProj.nD Cert.KernelOutProj.τ).loc Cert.KernelOutProj.main_arg0)
      ∧ r.2.mem ((c.tc : Thread Cert.KernelOutProj.nD Cert.KernelOutProj.τ).loc Cert.KernelOutProj.main_arg1) = m ((c.tc : Thread Cert.KernelOutProj.nD Cert.KernelOutProj.τ).loc Cert.KernelOutProj.main_arg1)
      ∧ r.2.mem ((c.tc : Thread Cert.KernelOutProj.nD Cert.KernelOutProj.τ).loc Cert.KernelOutProj.main_arg2) = m ((c.tc : Thread Cert.KernelOutProj.nD Cert.KernelOutProj.τ).loc Cert.KernelOutProj.main_arg2))
      ∧ r.2.sem = fun _ => 0)

def quiescent_KernelOutProjIdeal [hKernelOutProjIdeal : Cert.KernelOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg), Pre_KernelOutProjIdeal m →
    θ_run (Cert.KernelOutProjIdeal.defs (F := Ideal)) (onTc (τ := Cert.KernelOutProjIdeal.τ) (Cert.KernelOutProjIdeal.main (F := Ideal))) ⟨m, fun _ => 0, g⟩ (fun r => (∀ c : Dev Cert.KernelOutProjIdeal.nD,
      r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
      ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
      ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2))
      ∧ r.2.sem = fun _ => 0)

def quiescent_ReferenceOutProjIdeal [hReferenceOutProjIdeal : Cert.ReferenceOutProjIdeal.Facts] : Prop :=
  ∀ (m : (ℓ : Loc Cert.ReferenceOutProjIdeal.nD Cert.ReferenceOutProjIdeal.τ Cert.ReferenceOutProjIdeal.sig) → Buf (Elt Ideal) ℓ) (g : Dev Cert.ReferenceOutProjIdeal.nD → PrngReg), Pre_ReferenceOutProjIdeal m →
    θ_run (Cert.ReferenceOutProjIdeal.defs (F := Ideal)) (onTc (τ := Cert.ReferenceOutProjIdeal.τ) (Cert.ReferenceOutProjIdeal.main (F := Ideal))) ⟨m, fun _ => 0, g⟩ (fun r => (∀ c : Dev Cert.ReferenceOutProjIdeal.nD,
      r.2.mem ((c.tc : Thread Cert.ReferenceOutProjIdeal.nD Cert.ReferenceOutProjIdeal.τ).loc Cert.ReferenceOutProjIdeal.main_arg0) = m ((c.tc : Thread Cert.ReferenceOutProjIdeal.nD Cert.ReferenceOutProjIdeal.τ).loc Cert.ReferenceOutProjIdeal.main_arg0)
      ∧ r.2.mem ((c.tc : Thread Cert.ReferenceOutProjIdeal.nD Cert.ReferenceOutProjIdeal.τ).loc Cert.ReferenceOutProjIdeal.main_arg1) = m ((c.tc : Thread Cert.ReferenceOutProjIdeal.nD Cert.ReferenceOutProjIdeal.τ).loc Cert.ReferenceOutProjIdeal.main_arg1)
      ∧ r.2.mem ((c.tc : Thread Cert.ReferenceOutProjIdeal.nD Cert.ReferenceOutProjIdeal.τ).loc Cert.ReferenceOutProjIdeal.main_arg2) = m ((c.tc : Thread Cert.ReferenceOutProjIdeal.nD Cert.ReferenceOutProjIdeal.τ).loc Cert.ReferenceOutProjIdeal.main_arg2))
      ∧ r.2.sem = fun _ => 0)

def quiescent_KernelOutProjDx [hKernelOutProjDx : Cert.KernelOutProjDx.Facts] : Prop :=
  ∀ (m : (ℓ : Loc Cert.KernelOutProjDx.nD Cert.KernelOutProjDx.τ Cert.KernelOutProjDx.sig) → Buf (Elt Bits) ℓ) (g : Dev Cert.KernelOutProjDx.nD → PrngReg), Pre_KernelOutProjDx m →
    θ_run (Cert.KernelOutProjDx.defs (F := Bits)) (onTc (τ := Cert.KernelOutProjDx.τ) (Cert.KernelOutProjDx.main (F := Bits))) ⟨m, fun _ => 0, g⟩ (fun r => (∀ c : Dev Cert.KernelOutProjDx.nD,
      r.2.mem ((c.tc : Thread Cert.KernelOutProjDx.nD Cert.KernelOutProjDx.τ).loc Cert.KernelOutProjDx.main_arg0) = m ((c.tc : Thread Cert.KernelOutProjDx.nD Cert.KernelOutProjDx.τ).loc Cert.KernelOutProjDx.main_arg0)
      ∧ r.2.mem ((c.tc : Thread Cert.KernelOutProjDx.nD Cert.KernelOutProjDx.τ).loc Cert.KernelOutProjDx.main_arg1) = m ((c.tc : Thread Cert.KernelOutProjDx.nD Cert.KernelOutProjDx.τ).loc Cert.KernelOutProjDx.main_arg1)
      ∧ r.2.mem ((c.tc : Thread Cert.KernelOutProjDx.nD Cert.KernelOutProjDx.τ).loc Cert.KernelOutProjDx.main_arg2) = m ((c.tc : Thread Cert.KernelOutProjDx.nD Cert.KernelOutProjDx.τ).loc Cert.KernelOutProjDx.main_arg2))
      ∧ r.2.sem = fun _ => 0)

def quiescent_KernelOutProjDxIdeal [hKernelOutProjDxIdeal : Cert.KernelOutProjDxIdeal.Facts] : Prop :=
  ∀ (m : (ℓ : Loc Cert.KernelOutProjDxIdeal.nD Cert.KernelOutProjDxIdeal.τ Cert.KernelOutProjDxIdeal.sig) → Buf (Elt Ideal) ℓ) (g : Dev Cert.KernelOutProjDxIdeal.nD → PrngReg), Pre_KernelOutProjDxIdeal m →
    θ_run (Cert.KernelOutProjDxIdeal.defs (F := Ideal)) (onTc (τ := Cert.KernelOutProjDxIdeal.τ) (Cert.KernelOutProjDxIdeal.main (F := Ideal))) ⟨m, fun _ => 0, g⟩ (fun r => (∀ c : Dev Cert.KernelOutProjDxIdeal.nD,
      r.2.mem ((c.tc : Thread Cert.KernelOutProjDxIdeal.nD Cert.KernelOutProjDxIdeal.τ).loc Cert.KernelOutProjDxIdeal.main_arg0) = m ((c.tc : Thread Cert.KernelOutProjDxIdeal.nD Cert.KernelOutProjDxIdeal.τ).loc Cert.KernelOutProjDxIdeal.main_arg0)
      ∧ r.2.mem ((c.tc : Thread Cert.KernelOutProjDxIdeal.nD Cert.KernelOutProjDxIdeal.τ).loc Cert.KernelOutProjDxIdeal.main_arg1) = m ((c.tc : Thread Cert.KernelOutProjDxIdeal.nD Cert.KernelOutProjDxIdeal.τ).loc Cert.KernelOutProjDxIdeal.main_arg1)
      ∧ r.2.mem ((c.tc : Thread Cert.KernelOutProjDxIdeal.nD Cert.KernelOutProjDxIdeal.τ).loc Cert.KernelOutProjDxIdeal.main_arg2) = m ((c.tc : Thread Cert.KernelOutProjDxIdeal.nD Cert.KernelOutProjDxIdeal.τ).loc Cert.KernelOutProjDxIdeal.main_arg2))
      ∧ r.2.sem = fun _ => 0)

def quiescent_ReferenceOutProjDxIdeal [hReferenceOutProjDxIdeal : Cert.ReferenceOutProjDxIdeal.Facts] : Prop :=
  ∀ (m : (ℓ : Loc Cert.ReferenceOutProjDxIdeal.nD Cert.ReferenceOutProjDxIdeal.τ Cert.ReferenceOutProjDxIdeal.sig) → Buf (Elt Ideal) ℓ) (g : Dev Cert.ReferenceOutProjDxIdeal.nD → PrngReg), Pre_ReferenceOutProjDxIdeal m →
    θ_run (Cert.ReferenceOutProjDxIdeal.defs (F := Ideal)) (onTc (τ := Cert.ReferenceOutProjDxIdeal.τ) (Cert.ReferenceOutProjDxIdeal.main (F := Ideal))) ⟨m, fun _ => 0, g⟩ (fun r => (∀ c : Dev Cert.ReferenceOutProjDxIdeal.nD,
      r.2.mem ((c.tc : Thread Cert.ReferenceOutProjDxIdeal.nD Cert.ReferenceOutProjDxIdeal.τ).loc Cert.ReferenceOutProjDxIdeal.main_arg0) = m ((c.tc : Thread Cert.ReferenceOutProjDxIdeal.nD Cert.ReferenceOutProjDxIdeal.τ).loc Cert.ReferenceOutProjDxIdeal.main_arg0)
      ∧ r.2.mem ((c.tc : Thread Cert.ReferenceOutProjDxIdeal.nD Cert.ReferenceOutProjDxIdeal.τ).loc Cert.ReferenceOutProjDxIdeal.main_arg1) = m ((c.tc : Thread Cert.ReferenceOutProjDxIdeal.nD Cert.ReferenceOutProjDxIdeal.τ).loc Cert.ReferenceOutProjDxIdeal.main_arg1)
      ∧ r.2.mem ((c.tc : Thread Cert.ReferenceOutProjDxIdeal.nD Cert.ReferenceOutProjDxIdeal.τ).loc Cert.ReferenceOutProjDxIdeal.main_arg2) = m ((c.tc : Thread Cert.ReferenceOutProjDxIdeal.nD Cert.ReferenceOutProjDxIdeal.τ).loc Cert.ReferenceOutProjDxIdeal.main_arg2))
      ∧ r.2.sem = fun _ => 0)

def quiescent_KernelSbOutProjDx [hKernelSbOutProjDx : Cert.KernelSbOutProjDx.Facts] : Prop :=
  ∀ (m : (ℓ : Loc Cert.KernelSbOutProjDx.nD Cert.KernelSbOutProjDx.τ Cert.KernelSbOutProjDx.sig) → Buf (Elt Bits) ℓ) (g : Dev Cert.KernelSbOutProjDx.nD → PrngReg), Pre_KernelSbOutProjDx m →
    θ_run (Cert.KernelSbOutProjDx.defs (F := Bits)) (onTc (τ := Cert.KernelSbOutProjDx.τ) (Cert.KernelSbOutProjDx.main (F := Bits))) ⟨m, fun _ => 0, g⟩ (fun r => (∀ c : Dev Cert.KernelSbOutProjDx.nD,
      r.2.mem ((c.tc : Thread Cert.KernelSbOutProjDx.nD Cert.KernelSbOutProjDx.τ).loc Cert.KernelSbOutProjDx.main_arg0) = m ((c.tc : Thread Cert.KernelSbOutProjDx.nD Cert.KernelSbOutProjDx.τ).loc Cert.KernelSbOutProjDx.main_arg0)
      ∧ r.2.mem ((c.tc : Thread Cert.KernelSbOutProjDx.nD Cert.KernelSbOutProjDx.τ).loc Cert.KernelSbOutProjDx.main_arg1) = m ((c.tc : Thread Cert.KernelSbOutProjDx.nD Cert.KernelSbOutProjDx.τ).loc Cert.KernelSbOutProjDx.main_arg1)
      ∧ r.2.mem ((c.tc : Thread Cert.KernelSbOutProjDx.nD Cert.KernelSbOutProjDx.τ).loc Cert.KernelSbOutProjDx.main_arg2) = m ((c.tc : Thread Cert.KernelSbOutProjDx.nD Cert.KernelSbOutProjDx.τ).loc Cert.KernelSbOutProjDx.main_arg2))
      ∧ r.2.sem = fun _ => 0)

def quiescent_KernelSbOutProjDxIdeal [hKernelSbOutProjDxIdeal : Cert.KernelSbOutProjDxIdeal.Facts] : Prop :=
  ∀ (m : (ℓ : Loc Cert.KernelSbOutProjDxIdeal.nD Cert.KernelSbOutProjDxIdeal.τ Cert.KernelSbOutProjDxIdeal.sig) → Buf (Elt Ideal) ℓ) (g : Dev Cert.KernelSbOutProjDxIdeal.nD → PrngReg), Pre_KernelSbOutProjDxIdeal m →
    θ_run (Cert.KernelSbOutProjDxIdeal.defs (F := Ideal)) (onTc (τ := Cert.KernelSbOutProjDxIdeal.τ) (Cert.KernelSbOutProjDxIdeal.main (F := Ideal))) ⟨m, fun _ => 0, g⟩ (fun r => (∀ c : Dev Cert.KernelSbOutProjDxIdeal.nD,
      r.2.mem ((c.tc : Thread Cert.KernelSbOutProjDxIdeal.nD Cert.KernelSbOutProjDxIdeal.τ).loc Cert.KernelSbOutProjDxIdeal.main_arg0) = m ((c.tc : Thread Cert.KernelSbOutProjDxIdeal.nD Cert.KernelSbOutProjDxIdeal.τ).loc Cert.KernelSbOutProjDxIdeal.main_arg0)
      ∧ r.2.mem ((c.tc : Thread Cert.KernelSbOutProjDxIdeal.nD Cert.KernelSbOutProjDxIdeal.τ).loc Cert.KernelSbOutProjDxIdeal.main_arg1) = m ((c.tc : Thread Cert.KernelSbOutProjDxIdeal.nD Cert.KernelSbOutProjDxIdeal.τ).loc Cert.KernelSbOutProjDxIdeal.main_arg1)
      ∧ r.2.mem ((c.tc : Thread Cert.KernelSbOutProjDxIdeal.nD Cert.KernelSbOutProjDxIdeal.τ).loc Cert.KernelSbOutProjDxIdeal.main_arg2) = m ((c.tc : Thread Cert.KernelSbOutProjDxIdeal.nD Cert.KernelSbOutProjDxIdeal.τ).loc Cert.KernelSbOutProjDxIdeal.main_arg2))
      ∧ r.2.sem = fun _ => 0)

def quiescent_ReferenceSbOutProjDxIdeal [hReferenceSbOutProjDxIdeal : Cert.ReferenceSbOutProjDxIdeal.Facts] : Prop :=
  ∀ (m : (ℓ : Loc Cert.ReferenceSbOutProjDxIdeal.nD Cert.ReferenceSbOutProjDxIdeal.τ Cert.ReferenceSbOutProjDxIdeal.sig) → Buf (Elt Ideal) ℓ) (g : Dev Cert.ReferenceSbOutProjDxIdeal.nD → PrngReg), Pre_ReferenceSbOutProjDxIdeal m →
    θ_run (Cert.ReferenceSbOutProjDxIdeal.defs (F := Ideal)) (onTc (τ := Cert.ReferenceSbOutProjDxIdeal.τ) (Cert.ReferenceSbOutProjDxIdeal.main (F := Ideal))) ⟨m, fun _ => 0, g⟩ (fun r => (∀ c : Dev Cert.ReferenceSbOutProjDxIdeal.nD,
      r.2.mem ((c.tc : Thread Cert.ReferenceSbOutProjDxIdeal.nD Cert.ReferenceSbOutProjDxIdeal.τ).loc Cert.ReferenceSbOutProjDxIdeal.main_arg0) = m ((c.tc : Thread Cert.ReferenceSbOutProjDxIdeal.nD Cert.ReferenceSbOutProjDxIdeal.τ).loc Cert.ReferenceSbOutProjDxIdeal.main_arg0)
      ∧ r.2.mem ((c.tc : Thread Cert.ReferenceSbOutProjDxIdeal.nD Cert.ReferenceSbOutProjDxIdeal.τ).loc Cert.ReferenceSbOutProjDxIdeal.main_arg1) = m ((c.tc : Thread Cert.ReferenceSbOutProjDxIdeal.nD Cert.ReferenceSbOutProjDxIdeal.τ).loc Cert.ReferenceSbOutProjDxIdeal.main_arg1)
      ∧ r.2.mem ((c.tc : Thread Cert.ReferenceSbOutProjDxIdeal.nD Cert.ReferenceSbOutProjDxIdeal.τ).loc Cert.ReferenceSbOutProjDxIdeal.main_arg2) = m ((c.tc : Thread Cert.ReferenceSbOutProjDxIdeal.nD Cert.ReferenceSbOutProjDxIdeal.τ).loc Cert.ReferenceSbOutProjDxIdeal.main_arg2))
      ∧ r.2.sem = fun _ => 0)

def quiescent_KernelMemKv [hKernelMemKv : Cert.KernelMemKv.Facts] : Prop :=
  ∀ (m : (ℓ : Loc Cert.KernelMemKv.nD Cert.KernelMemKv.τ Cert.KernelMemKv.sig) → Buf (Elt Bits) ℓ) (g : Dev Cert.KernelMemKv.nD → PrngReg), Pre_KernelMemKv m →
    θ_run (Cert.KernelMemKv.defs (F := Bits)) (onTc (τ := Cert.KernelMemKv.τ) (Cert.KernelMemKv.main (F := Bits))) ⟨m, fun _ => 0, g⟩ (fun r => (∀ c : Dev Cert.KernelMemKv.nD,
      r.2.mem ((c.tc : Thread Cert.KernelMemKv.nD Cert.KernelMemKv.τ).loc Cert.KernelMemKv.main_arg0) = m ((c.tc : Thread Cert.KernelMemKv.nD Cert.KernelMemKv.τ).loc Cert.KernelMemKv.main_arg0)
      ∧ r.2.mem ((c.tc : Thread Cert.KernelMemKv.nD Cert.KernelMemKv.τ).loc Cert.KernelMemKv.main_arg1) = m ((c.tc : Thread Cert.KernelMemKv.nD Cert.KernelMemKv.τ).loc Cert.KernelMemKv.main_arg1)
      ∧ r.2.mem ((c.tc : Thread Cert.KernelMemKv.nD Cert.KernelMemKv.τ).loc Cert.KernelMemKv.main_arg2) = m ((c.tc : Thread Cert.KernelMemKv.nD Cert.KernelMemKv.τ).loc Cert.KernelMemKv.main_arg2))
      ∧ r.2.sem = fun _ => 0)

def quiescent_KernelMemKvIdeal [hKernelMemKvIdeal : Cert.KernelMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg), Pre_KernelMemKvIdeal m →
    θ_run (Cert.KernelMemKvIdeal.defs (F := Ideal)) (onTc (τ := Cert.KernelMemKvIdeal.τ) (Cert.KernelMemKvIdeal.main (F := Ideal))) ⟨m, fun _ => 0, g⟩ (fun r => (∀ c : Dev Cert.KernelMemKvIdeal.nD,
      r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
      ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1)
      ∧ r.2.mem ((c.tc : Thread Cert.KernelMemKvIdeal.nD Cert.KernelMemKvIdeal.τ).loc Cert.KernelMemKvIdeal.main_arg2) = m ((c.tc : Thread Cert.KernelMemKvIdeal.nD Cert.KernelMemKvIdeal.τ).loc Cert.KernelMemKvIdeal.main_arg2))
      ∧ r.2.sem = fun _ => 0)

def quiescent_ReferenceMemKvIdeal [hReferenceMemKvIdeal : Cert.ReferenceMemKvIdeal.Facts] : Prop :=
  ∀ (m : (ℓ : Loc Cert.ReferenceMemKvIdeal.nD Cert.ReferenceMemKvIdeal.τ Cert.ReferenceMemKvIdeal.sig) → Buf (Elt Ideal) ℓ) (g : Dev Cert.ReferenceMemKvIdeal.nD → PrngReg), Pre_ReferenceMemKvIdeal m →
    θ_run (Cert.ReferenceMemKvIdeal.defs (F := Ideal)) (onTc (τ := Cert.ReferenceMemKvIdeal.τ) (Cert.ReferenceMemKvIdeal.main (F := Ideal))) ⟨m, fun _ => 0, g⟩ (fun r => (∀ c : Dev Cert.ReferenceMemKvIdeal.nD,
      r.2.mem ((c.tc : Thread Cert.ReferenceMemKvIdeal.nD Cert.ReferenceMemKvIdeal.τ).loc Cert.ReferenceMemKvIdeal.main_arg0) = m ((c.tc : Thread Cert.ReferenceMemKvIdeal.nD Cert.ReferenceMemKvIdeal.τ).loc Cert.ReferenceMemKvIdeal.main_arg0)
      ∧ r.2.mem ((c.tc : Thread Cert.ReferenceMemKvIdeal.nD Cert.ReferenceMemKvIdeal.τ).loc Cert.ReferenceMemKvIdeal.main_arg1) = m ((c.tc : Thread Cert.ReferenceMemKvIdeal.nD Cert.ReferenceMemKvIdeal.τ).loc Cert.ReferenceMemKvIdeal.main_arg1)
      ∧ r.2.mem ((c.tc : Thread Cert.ReferenceMemKvIdeal.nD Cert.ReferenceMemKvIdeal.τ).loc Cert.ReferenceMemKvIdeal.main_arg2) = m ((c.tc : Thread Cert.ReferenceMemKvIdeal.nD Cert.ReferenceMemKvIdeal.τ).loc Cert.ReferenceMemKvIdeal.main_arg2))
      ∧ r.2.sem = fun _ => 0)

def quiescent_KernelSwigluFwd [hKernelSwigluFwd : Cert.KernelSwigluFwd.Facts] : Prop :=
  ∀ (m : (ℓ : Loc Cert.KernelSwigluFwd.nD Cert.KernelSwigluFwd.τ Cert.KernelSwigluFwd.sig) → Buf (Elt Bits) ℓ) (g : Dev Cert.KernelSwigluFwd.nD → PrngReg), Pre_KernelSwigluFwd m →
    θ_run (Cert.KernelSwigluFwd.defs (F := Bits)) (onTc (τ := Cert.KernelSwigluFwd.τ) (Cert.KernelSwigluFwd.main (F := Bits))) ⟨m, fun _ => 0, g⟩ (fun r => (∀ c : Dev Cert.KernelSwigluFwd.nD,
      r.2.mem ((c.tc : Thread Cert.KernelSwigluFwd.nD Cert.KernelSwigluFwd.τ).loc Cert.KernelSwigluFwd.main_arg0) = m ((c.tc : Thread Cert.KernelSwigluFwd.nD Cert.KernelSwigluFwd.τ).loc Cert.KernelSwigluFwd.main_arg0))
      ∧ r.2.sem = fun _ => 0)

def quiescent_KernelSwigluFwdIdeal [hKernelSwigluFwdIdeal : Cert.KernelSwigluFwdIdeal.Facts] : Prop :=
  ∀ (m : (ℓ : Loc Cert.KernelSwigluFwdIdeal.nD Cert.KernelSwigluFwdIdeal.τ Cert.KernelSwigluFwdIdeal.sig) → Buf (Elt Ideal) ℓ) (g : Dev Cert.KernelSwigluFwdIdeal.nD → PrngReg), Pre_KernelSwigluFwdIdeal m →
    θ_run (Cert.KernelSwigluFwdIdeal.defs (F := Ideal)) (onTc (τ := Cert.KernelSwigluFwdIdeal.τ) (Cert.KernelSwigluFwdIdeal.main (F := Ideal))) ⟨m, fun _ => 0, g⟩ (fun r => (∀ c : Dev Cert.KernelSwigluFwdIdeal.nD,
      r.2.mem ((c.tc : Thread Cert.KernelSwigluFwdIdeal.nD Cert.KernelSwigluFwdIdeal.τ).loc Cert.KernelSwigluFwdIdeal.main_arg0) = m ((c.tc : Thread Cert.KernelSwigluFwdIdeal.nD Cert.KernelSwigluFwdIdeal.τ).loc Cert.KernelSwigluFwdIdeal.main_arg0))
      ∧ r.2.sem = fun _ => 0)

def quiescent_ReferenceSwigluFwdIdeal [hReferenceSwigluFwdIdeal : Cert.ReferenceSwigluFwdIdeal.Facts] : Prop :=
  ∀ (m : (ℓ : Loc Cert.ReferenceSwigluFwdIdeal.nD Cert.ReferenceSwigluFwdIdeal.τ Cert.ReferenceSwigluFwdIdeal.sig) → Buf (Elt Ideal) ℓ) (g : Dev Cert.ReferenceSwigluFwdIdeal.nD → PrngReg), Pre_ReferenceSwigluFwdIdeal m →
    θ_run (Cert.ReferenceSwigluFwdIdeal.defs (F := Ideal)) (onTc (τ := Cert.ReferenceSwigluFwdIdeal.τ) (Cert.ReferenceSwigluFwdIdeal.main (F := Ideal))) ⟨m, fun _ => 0, g⟩ (fun r => (∀ c : Dev Cert.ReferenceSwigluFwdIdeal.nD,
      r.2.mem ((c.tc : Thread Cert.ReferenceSwigluFwdIdeal.nD Cert.ReferenceSwigluFwdIdeal.τ).loc Cert.ReferenceSwigluFwdIdeal.main_arg0) = m ((c.tc : Thread Cert.ReferenceSwigluFwdIdeal.nD Cert.ReferenceSwigluFwdIdeal.τ).loc Cert.ReferenceSwigluFwdIdeal.main_arg0))
      ∧ r.2.sem = fun _ => 0)

def quiescent_KernelSwigluBwd [hKernelSwigluBwd : Cert.KernelSwigluBwd.Facts] : Prop :=
  ∀ (m : (ℓ : Loc Cert.KernelSwigluBwd.nD Cert.KernelSwigluBwd.τ Cert.KernelSwigluBwd.sig) → Buf (Elt Bits) ℓ) (g : Dev Cert.KernelSwigluBwd.nD → PrngReg), Pre_KernelSwigluBwd m →
    θ_run (Cert.KernelSwigluBwd.defs (F := Bits)) (onTc (τ := Cert.KernelSwigluBwd.τ) (Cert.KernelSwigluBwd.main (F := Bits))) ⟨m, fun _ => 0, g⟩ (fun r => (∀ c : Dev Cert.KernelSwigluBwd.nD,
      r.2.mem ((c.tc : Thread Cert.KernelSwigluBwd.nD Cert.KernelSwigluBwd.τ).loc Cert.KernelSwigluBwd.main_arg0) = m ((c.tc : Thread Cert.KernelSwigluBwd.nD Cert.KernelSwigluBwd.τ).loc Cert.KernelSwigluBwd.main_arg0)
      ∧ r.2.mem ((c.tc : Thread Cert.KernelSwigluBwd.nD Cert.KernelSwigluBwd.τ).loc Cert.KernelSwigluBwd.main_arg1) = m ((c.tc : Thread Cert.KernelSwigluBwd.nD Cert.KernelSwigluBwd.τ).loc Cert.KernelSwigluBwd.main_arg1))
      ∧ r.2.sem = fun _ => 0)

def quiescent_KernelSwigluBwdIdeal [hKernelSwigluBwdIdeal : Cert.KernelSwigluBwdIdeal.Facts] : Prop :=
  ∀ (m : (ℓ : Loc Cert.KernelSwigluBwdIdeal.nD Cert.KernelSwigluBwdIdeal.τ Cert.KernelSwigluBwdIdeal.sig) → Buf (Elt Ideal) ℓ) (g : Dev Cert.KernelSwigluBwdIdeal.nD → PrngReg), Pre_KernelSwigluBwdIdeal m →
    θ_run (Cert.KernelSwigluBwdIdeal.defs (F := Ideal)) (onTc (τ := Cert.KernelSwigluBwdIdeal.τ) (Cert.KernelSwigluBwdIdeal.main (F := Ideal))) ⟨m, fun _ => 0, g⟩ (fun r => (∀ c : Dev Cert.KernelSwigluBwdIdeal.nD,
      r.2.mem ((c.tc : Thread Cert.KernelSwigluBwdIdeal.nD Cert.KernelSwigluBwdIdeal.τ).loc Cert.KernelSwigluBwdIdeal.main_arg0) = m ((c.tc : Thread Cert.KernelSwigluBwdIdeal.nD Cert.KernelSwigluBwdIdeal.τ).loc Cert.KernelSwigluBwdIdeal.main_arg0)
      ∧ r.2.mem ((c.tc : Thread Cert.KernelSwigluBwdIdeal.nD Cert.KernelSwigluBwdIdeal.τ).loc Cert.KernelSwigluBwdIdeal.main_arg1) = m ((c.tc : Thread Cert.KernelSwigluBwdIdeal.nD Cert.KernelSwigluBwdIdeal.τ).loc Cert.KernelSwigluBwdIdeal.main_arg1))
      ∧ r.2.sem = fun _ => 0)

def quiescent_ReferenceSwigluBwdIdeal [hReferenceSwigluBwdIdeal : Cert.ReferenceSwigluBwdIdeal.Facts] : Prop :=
  ∀ (m : (ℓ : Loc Cert.ReferenceSwigluBwdIdeal.nD Cert.ReferenceSwigluBwdIdeal.τ Cert.ReferenceSwigluBwdIdeal.sig) → Buf (Elt Ideal) ℓ) (g : Dev Cert.ReferenceSwigluBwdIdeal.nD → PrngReg), Pre_ReferenceSwigluBwdIdeal m →
    θ_run (Cert.ReferenceSwigluBwdIdeal.defs (F := Ideal)) (onTc (τ := Cert.ReferenceSwigluBwdIdeal.τ) (Cert.ReferenceSwigluBwdIdeal.main (F := Ideal))) ⟨m, fun _ => 0, g⟩ (fun r => (∀ c : Dev Cert.ReferenceSwigluBwdIdeal.nD,
      r.2.mem ((c.tc : Thread Cert.ReferenceSwigluBwdIdeal.nD Cert.ReferenceSwigluBwdIdeal.τ).loc Cert.ReferenceSwigluBwdIdeal.main_arg0) = m ((c.tc : Thread Cert.ReferenceSwigluBwdIdeal.nD Cert.ReferenceSwigluBwdIdeal.τ).loc Cert.ReferenceSwigluBwdIdeal.main_arg0)
      ∧ r.2.mem ((c.tc : Thread Cert.ReferenceSwigluBwdIdeal.nD Cert.ReferenceSwigluBwdIdeal.τ).loc Cert.ReferenceSwigluBwdIdeal.main_arg1) = m ((c.tc : Thread Cert.ReferenceSwigluBwdIdeal.nD Cert.ReferenceSwigluBwdIdeal.τ).loc Cert.ReferenceSwigluBwdIdeal.main_arg1))
      ∧ r.2.sem = fun _ => 0)

def quiescent_KernelLnFwd [hKernelLnFwd : Cert.KernelLnFwd.Facts] : Prop :=
  ∀ (m : (ℓ : Loc Cert.KernelLnFwd.nD Cert.KernelLnFwd.τ Cert.KernelLnFwd.sig) → Buf (Elt Bits) ℓ) (g : Dev Cert.KernelLnFwd.nD → PrngReg), Pre_KernelLnFwd m →
    θ_run (Cert.KernelLnFwd.defs (F := Bits)) (onTc (τ := Cert.KernelLnFwd.τ) (Cert.KernelLnFwd.main (F := Bits))) ⟨m, fun _ => 0, g⟩ (fun r => (∀ c : Dev Cert.KernelLnFwd.nD,
      r.2.mem ((c.tc : Thread Cert.KernelLnFwd.nD Cert.KernelLnFwd.τ).loc Cert.KernelLnFwd.main_arg0) = m ((c.tc : Thread Cert.KernelLnFwd.nD Cert.KernelLnFwd.τ).loc Cert.KernelLnFwd.main_arg0)
      ∧ r.2.mem ((c.tc : Thread Cert.KernelLnFwd.nD Cert.KernelLnFwd.τ).loc Cert.KernelLnFwd.main_arg1) = m ((c.tc : Thread Cert.KernelLnFwd.nD Cert.KernelLnFwd.τ).loc Cert.KernelLnFwd.main_arg1)
      ∧ r.2.mem ((c.tc : Thread Cert.KernelLnFwd.nD Cert.KernelLnFwd.τ).loc Cert.KernelLnFwd.main_arg2) = m ((c.tc : Thread Cert.KernelLnFwd.nD Cert.KernelLnFwd.τ).loc Cert.KernelLnFwd.main_arg2)
      ∧ r.2.mem ((c.tc : Thread Cert.KernelLnFwd.nD Cert.KernelLnFwd.τ).loc Cert.KernelLnFwd.main_arg3) = m ((c.tc : Thread Cert.KernelLnFwd.nD Cert.KernelLnFwd.τ).loc Cert.KernelLnFwd.main_arg3))
      ∧ r.2.sem = fun _ => 0)

def quiescent_KernelLnFwdIdeal [hKernelLnFwdIdeal : Cert.KernelLnFwdIdeal.Facts] : Prop :=
  ∀ (m : (ℓ : Loc Cert.KernelLnFwdIdeal.nD Cert.KernelLnFwdIdeal.τ Cert.KernelLnFwdIdeal.sig) → Buf (Elt Ideal) ℓ) (g : Dev Cert.KernelLnFwdIdeal.nD → PrngReg), Pre_KernelLnFwdIdeal m →
    θ_run (Cert.KernelLnFwdIdeal.defs (F := Ideal)) (onTc (τ := Cert.KernelLnFwdIdeal.τ) (Cert.KernelLnFwdIdeal.main (F := Ideal))) ⟨m, fun _ => 0, g⟩ (fun r => (∀ c : Dev Cert.KernelLnFwdIdeal.nD,
      r.2.mem ((c.tc : Thread Cert.KernelLnFwdIdeal.nD Cert.KernelLnFwdIdeal.τ).loc Cert.KernelLnFwdIdeal.main_arg0) = m ((c.tc : Thread Cert.KernelLnFwdIdeal.nD Cert.KernelLnFwdIdeal.τ).loc Cert.KernelLnFwdIdeal.main_arg0)
      ∧ r.2.mem ((c.tc : Thread Cert.KernelLnFwdIdeal.nD Cert.KernelLnFwdIdeal.τ).loc Cert.KernelLnFwdIdeal.main_arg1) = m ((c.tc : Thread Cert.KernelLnFwdIdeal.nD Cert.KernelLnFwdIdeal.τ).loc Cert.KernelLnFwdIdeal.main_arg1)
      ∧ r.2.mem ((c.tc : Thread Cert.KernelLnFwdIdeal.nD Cert.KernelLnFwdIdeal.τ).loc Cert.KernelLnFwdIdeal.main_arg2) = m ((c.tc : Thread Cert.KernelLnFwdIdeal.nD Cert.KernelLnFwdIdeal.τ).loc Cert.KernelLnFwdIdeal.main_arg2)
      ∧ r.2.mem ((c.tc : Thread Cert.KernelLnFwdIdeal.nD Cert.KernelLnFwdIdeal.τ).loc Cert.KernelLnFwdIdeal.main_arg3) = m ((c.tc : Thread Cert.KernelLnFwdIdeal.nD Cert.KernelLnFwdIdeal.τ).loc Cert.KernelLnFwdIdeal.main_arg3))
      ∧ r.2.sem = fun _ => 0)

def quiescent_ReferenceLnFwdIdeal [hReferenceLnFwdIdeal : Cert.ReferenceLnFwdIdeal.Facts] : Prop :=
  ∀ (m : (ℓ : Loc Cert.ReferenceLnFwdIdeal.nD Cert.ReferenceLnFwdIdeal.τ Cert.ReferenceLnFwdIdeal.sig) → Buf (Elt Ideal) ℓ) (g : Dev Cert.ReferenceLnFwdIdeal.nD → PrngReg), Pre_ReferenceLnFwdIdeal m →
    θ_run (Cert.ReferenceLnFwdIdeal.defs (F := Ideal)) (onTc (τ := Cert.ReferenceLnFwdIdeal.τ) (Cert.ReferenceLnFwdIdeal.main (F := Ideal))) ⟨m, fun _ => 0, g⟩ (fun r => (∀ c : Dev Cert.ReferenceLnFwdIdeal.nD,
      r.2.mem ((c.tc : Thread Cert.ReferenceLnFwdIdeal.nD Cert.ReferenceLnFwdIdeal.τ).loc Cert.ReferenceLnFwdIdeal.main_arg0) = m ((c.tc : Thread Cert.ReferenceLnFwdIdeal.nD Cert.ReferenceLnFwdIdeal.τ).loc Cert.ReferenceLnFwdIdeal.main_arg0)
      ∧ r.2.mem ((c.tc : Thread Cert.ReferenceLnFwdIdeal.nD Cert.ReferenceLnFwdIdeal.τ).loc Cert.ReferenceLnFwdIdeal.main_arg1) = m ((c.tc : Thread Cert.ReferenceLnFwdIdeal.nD Cert.ReferenceLnFwdIdeal.τ).loc Cert.ReferenceLnFwdIdeal.main_arg1)
      ∧ r.2.mem ((c.tc : Thread Cert.ReferenceLnFwdIdeal.nD Cert.ReferenceLnFwdIdeal.τ).loc Cert.ReferenceLnFwdIdeal.main_arg2) = m ((c.tc : Thread Cert.ReferenceLnFwdIdeal.nD Cert.ReferenceLnFwdIdeal.τ).loc Cert.ReferenceLnFwdIdeal.main_arg2)
      ∧ r.2.mem ((c.tc : Thread Cert.ReferenceLnFwdIdeal.nD Cert.ReferenceLnFwdIdeal.τ).loc Cert.ReferenceLnFwdIdeal.main_arg3) = m ((c.tc : Thread Cert.ReferenceLnFwdIdeal.nD Cert.ReferenceLnFwdIdeal.τ).loc Cert.ReferenceLnFwdIdeal.main_arg3))
      ∧ r.2.sem = fun _ => 0)

def quiescent_KernelXattnFwd [hKernelXattnFwd : Cert.KernelXattnFwd.Facts] : Prop :=
  ∀ (m : (ℓ : Loc Cert.KernelXattnFwd.nD Cert.KernelXattnFwd.τ Cert.KernelXattnFwd.sig) → Buf (Elt Bits) ℓ) (g : Dev Cert.KernelXattnFwd.nD → PrngReg), Pre_KernelXattnFwd m →
    θ_run (Cert.KernelXattnFwd.defs (F := Bits)) (onTc (τ := Cert.KernelXattnFwd.τ) (Cert.KernelXattnFwd.main (F := Bits))) ⟨m, fun _ => 0, g⟩ (fun r => (∀ c : Dev Cert.KernelXattnFwd.nD,
      r.2.mem ((c.tc : Thread Cert.KernelXattnFwd.nD Cert.KernelXattnFwd.τ).loc Cert.KernelXattnFwd.main_arg0) = m ((c.tc : Thread Cert.KernelXattnFwd.nD Cert.KernelXattnFwd.τ).loc Cert.KernelXattnFwd.main_arg0)
      ∧ r.2.mem ((c.tc : Thread Cert.KernelXattnFwd.nD Cert.KernelXattnFwd.τ).loc Cert.KernelXattnFwd.main_arg1) = m ((c.tc : Thread Cert.KernelXattnFwd.nD Cert.KernelXattnFwd.τ).loc Cert.KernelXattnFwd.main_arg1)
      ∧ r.2.mem ((c.tc : Thread Cert.KernelXattnFwd.nD Cert.KernelXattnFwd.τ).loc Cert.KernelXattnFwd.main_arg2) = m ((c.tc : Thread Cert.KernelXattnFwd.nD Cert.KernelXattnFwd.τ).loc Cert.KernelXattnFwd.main_arg2))
      ∧ r.2.sem = fun _ => 0)

def quiescent_KernelXattnFwdIdeal [hKernelXattnFwdIdeal : Cert.KernelXattnFwdIdeal.Facts] : Prop :=
  ∀ (m : (ℓ : Loc Cert.KernelXattnFwdIdeal.nD Cert.KernelXattnFwdIdeal.τ Cert.KernelXattnFwdIdeal.sig) → Buf (Elt Ideal) ℓ) (g : Dev Cert.KernelXattnFwdIdeal.nD → PrngReg), Pre_KernelXattnFwdIdeal m →
    θ_run (Cert.KernelXattnFwdIdeal.defs (F := Ideal)) (onTc (τ := Cert.KernelXattnFwdIdeal.τ) (Cert.KernelXattnFwdIdeal.main (F := Ideal))) ⟨m, fun _ => 0, g⟩ (fun r => (∀ c : Dev Cert.KernelXattnFwdIdeal.nD,
      r.2.mem ((c.tc : Thread Cert.KernelXattnFwdIdeal.nD Cert.KernelXattnFwdIdeal.τ).loc Cert.KernelXattnFwdIdeal.main_arg0) = m ((c.tc : Thread Cert.KernelXattnFwdIdeal.nD Cert.KernelXattnFwdIdeal.τ).loc Cert.KernelXattnFwdIdeal.main_arg0)
      ∧ r.2.mem ((c.tc : Thread Cert.KernelXattnFwdIdeal.nD Cert.KernelXattnFwdIdeal.τ).loc Cert.KernelXattnFwdIdeal.main_arg1) = m ((c.tc : Thread Cert.KernelXattnFwdIdeal.nD Cert.KernelXattnFwdIdeal.τ).loc Cert.KernelXattnFwdIdeal.main_arg1)
      ∧ r.2.mem ((c.tc : Thread Cert.KernelXattnFwdIdeal.nD Cert.KernelXattnFwdIdeal.τ).loc Cert.KernelXattnFwdIdeal.main_arg2) = m ((c.tc : Thread Cert.KernelXattnFwdIdeal.nD Cert.KernelXattnFwdIdeal.τ).loc Cert.KernelXattnFwdIdeal.main_arg2))
      ∧ r.2.sem = fun _ => 0)

def quiescent_ReferenceXattnFwdIdeal [hReferenceXattnFwdIdeal : Cert.ReferenceXattnFwdIdeal.Facts] : Prop :=
  ∀ (m : (ℓ : Loc Cert.ReferenceXattnFwdIdeal.nD Cert.ReferenceXattnFwdIdeal.τ Cert.ReferenceXattnFwdIdeal.sig) → Buf (Elt Ideal) ℓ) (g : Dev Cert.ReferenceXattnFwdIdeal.nD → PrngReg), Pre_ReferenceXattnFwdIdeal m →
    θ_run (Cert.ReferenceXattnFwdIdeal.defs (F := Ideal)) (onTc (τ := Cert.ReferenceXattnFwdIdeal.τ) (Cert.ReferenceXattnFwdIdeal.main (F := Ideal))) ⟨m, fun _ => 0, g⟩ (fun r => (∀ c : Dev Cert.ReferenceXattnFwdIdeal.nD,
      r.2.mem ((c.tc : Thread Cert.ReferenceXattnFwdIdeal.nD Cert.ReferenceXattnFwdIdeal.τ).loc Cert.ReferenceXattnFwdIdeal.main_arg0) = m ((c.tc : Thread Cert.ReferenceXattnFwdIdeal.nD Cert.ReferenceXattnFwdIdeal.τ).loc Cert.ReferenceXattnFwdIdeal.main_arg0)
      ∧ r.2.mem ((c.tc : Thread Cert.ReferenceXattnFwdIdeal.nD Cert.ReferenceXattnFwdIdeal.τ).loc Cert.ReferenceXattnFwdIdeal.main_arg1) = m ((c.tc : Thread Cert.ReferenceXattnFwdIdeal.nD Cert.ReferenceXattnFwdIdeal.τ).loc Cert.ReferenceXattnFwdIdeal.main_arg1)
      ∧ r.2.mem ((c.tc : Thread Cert.ReferenceXattnFwdIdeal.nD Cert.ReferenceXattnFwdIdeal.τ).loc Cert.ReferenceXattnFwdIdeal.main_arg2) = m ((c.tc : Thread Cert.ReferenceXattnFwdIdeal.nD Cert.ReferenceXattnFwdIdeal.τ).loc Cert.ReferenceXattnFwdIdeal.main_arg2))
      ∧ r.2.sem = fun _ => 0)

def quiescent_KernelFfnInDx0 [hKernelFfnInDx0 : Cert.KernelFfnInDx0.Facts] : Prop :=
  ∀ (m : (ℓ : Loc Cert.KernelFfnInDx0.nD Cert.KernelFfnInDx0.τ Cert.KernelFfnInDx0.sig) → Buf (Elt Bits) ℓ) (g : Dev Cert.KernelFfnInDx0.nD → PrngReg), Pre_KernelFfnInDx0 m →
    θ_run (Cert.KernelFfnInDx0.defs (F := Bits)) (onTc (τ := Cert.KernelFfnInDx0.τ) (Cert.KernelFfnInDx0.main (F := Bits))) ⟨m, fun _ => 0, g⟩ (fun r => (∀ c : Dev Cert.KernelFfnInDx0.nD,
      r.2.mem ((c.tc : Thread Cert.KernelFfnInDx0.nD Cert.KernelFfnInDx0.τ).loc Cert.KernelFfnInDx0.main_arg0) = m ((c.tc : Thread Cert.KernelFfnInDx0.nD Cert.KernelFfnInDx0.τ).loc Cert.KernelFfnInDx0.main_arg0)
      ∧ r.2.mem ((c.tc : Thread Cert.KernelFfnInDx0.nD Cert.KernelFfnInDx0.τ).loc Cert.KernelFfnInDx0.main_arg1) = m ((c.tc : Thread Cert.KernelFfnInDx0.nD Cert.KernelFfnInDx0.τ).loc Cert.KernelFfnInDx0.main_arg1)
      ∧ r.2.mem ((c.tc : Thread Cert.KernelFfnInDx0.nD Cert.KernelFfnInDx0.τ).loc Cert.KernelFfnInDx0.main_arg2) = m ((c.tc : Thread Cert.KernelFfnInDx0.nD Cert.KernelFfnInDx0.τ).loc Cert.KernelFfnInDx0.main_arg2))
      ∧ r.2.sem = fun _ => 0)

def quiescent_KernelFfnInDx0Ideal [hKernelFfnInDx0Ideal : Cert.KernelFfnInDx0Ideal.Facts] : Prop :=
  ∀ (m : (ℓ : Loc Cert.KernelFfnInDx0Ideal.nD Cert.KernelFfnInDx0Ideal.τ Cert.KernelFfnInDx0Ideal.sig) → Buf (Elt Ideal) ℓ) (g : Dev Cert.KernelFfnInDx0Ideal.nD → PrngReg), Pre_KernelFfnInDx0Ideal m →
    θ_run (Cert.KernelFfnInDx0Ideal.defs (F := Ideal)) (onTc (τ := Cert.KernelFfnInDx0Ideal.τ) (Cert.KernelFfnInDx0Ideal.main (F := Ideal))) ⟨m, fun _ => 0, g⟩ (fun r => (∀ c : Dev Cert.KernelFfnInDx0Ideal.nD,
      r.2.mem ((c.tc : Thread Cert.KernelFfnInDx0Ideal.nD Cert.KernelFfnInDx0Ideal.τ).loc Cert.KernelFfnInDx0Ideal.main_arg0) = m ((c.tc : Thread Cert.KernelFfnInDx0Ideal.nD Cert.KernelFfnInDx0Ideal.τ).loc Cert.KernelFfnInDx0Ideal.main_arg0)
      ∧ r.2.mem ((c.tc : Thread Cert.KernelFfnInDx0Ideal.nD Cert.KernelFfnInDx0Ideal.τ).loc Cert.KernelFfnInDx0Ideal.main_arg1) = m ((c.tc : Thread Cert.KernelFfnInDx0Ideal.nD Cert.KernelFfnInDx0Ideal.τ).loc Cert.KernelFfnInDx0Ideal.main_arg1)
      ∧ r.2.mem ((c.tc : Thread Cert.KernelFfnInDx0Ideal.nD Cert.KernelFfnInDx0Ideal.τ).loc Cert.KernelFfnInDx0Ideal.main_arg2) = m ((c.tc : Thread Cert.KernelFfnInDx0Ideal.nD Cert.KernelFfnInDx0Ideal.τ).loc Cert.KernelFfnInDx0Ideal.main_arg2))
      ∧ r.2.sem = fun _ => 0)

def quiescent_ReferenceFfnInDx0Ideal [hReferenceFfnInDx0Ideal : Cert.ReferenceFfnInDx0Ideal.Facts] : Prop :=
  ∀ (m : (ℓ : Loc Cert.ReferenceFfnInDx0Ideal.nD Cert.ReferenceFfnInDx0Ideal.τ Cert.ReferenceFfnInDx0Ideal.sig) → Buf (Elt Ideal) ℓ) (g : Dev Cert.ReferenceFfnInDx0Ideal.nD → PrngReg), Pre_ReferenceFfnInDx0Ideal m →
    θ_run (Cert.ReferenceFfnInDx0Ideal.defs (F := Ideal)) (onTc (τ := Cert.ReferenceFfnInDx0Ideal.τ) (Cert.ReferenceFfnInDx0Ideal.main (F := Ideal))) ⟨m, fun _ => 0, g⟩ (fun r => (∀ c : Dev Cert.ReferenceFfnInDx0Ideal.nD,
      r.2.mem ((c.tc : Thread Cert.ReferenceFfnInDx0Ideal.nD Cert.ReferenceFfnInDx0Ideal.τ).loc Cert.ReferenceFfnInDx0Ideal.main_arg0) = m ((c.tc : Thread Cert.ReferenceFfnInDx0Ideal.nD Cert.ReferenceFfnInDx0Ideal.τ).loc Cert.ReferenceFfnInDx0Ideal.main_arg0)
      ∧ r.2.mem ((c.tc : Thread Cert.ReferenceFfnInDx0Ideal.nD Cert.ReferenceFfnInDx0Ideal.τ).loc Cert.ReferenceFfnInDx0Ideal.main_arg1) = m ((c.tc : Thread Cert.ReferenceFfnInDx0Ideal.nD Cert.ReferenceFfnInDx0Ideal.τ).loc Cert.ReferenceFfnInDx0Ideal.main_arg1)
      ∧ r.2.mem ((c.tc : Thread Cert.ReferenceFfnInDx0Ideal.nD Cert.ReferenceFfnInDx0Ideal.τ).loc Cert.ReferenceFfnInDx0Ideal.main_arg2) = m ((c.tc : Thread Cert.ReferenceFfnInDx0Ideal.nD Cert.ReferenceFfnInDx0Ideal.τ).loc Cert.ReferenceFfnInDx0Ideal.main_arg2))
      ∧ r.2.sem = fun _ => 0)

def quiescent_KernelFfnInDx1 [hKernelFfnInDx1 : Cert.KernelFfnInDx1.Facts] : Prop :=
  ∀ (m : (ℓ : Loc Cert.KernelFfnInDx1.nD Cert.KernelFfnInDx1.τ Cert.KernelFfnInDx1.sig) → Buf (Elt Bits) ℓ) (g : Dev Cert.KernelFfnInDx1.nD → PrngReg), Pre_KernelFfnInDx1 m →
    θ_run (Cert.KernelFfnInDx1.defs (F := Bits)) (onTc (τ := Cert.KernelFfnInDx1.τ) (Cert.KernelFfnInDx1.main (F := Bits))) ⟨m, fun _ => 0, g⟩ (fun r => (∀ c : Dev Cert.KernelFfnInDx1.nD,
      r.2.mem ((c.tc : Thread Cert.KernelFfnInDx1.nD Cert.KernelFfnInDx1.τ).loc Cert.KernelFfnInDx1.main_arg0) = m ((c.tc : Thread Cert.KernelFfnInDx1.nD Cert.KernelFfnInDx1.τ).loc Cert.KernelFfnInDx1.main_arg0)
      ∧ r.2.mem ((c.tc : Thread Cert.KernelFfnInDx1.nD Cert.KernelFfnInDx1.τ).loc Cert.KernelFfnInDx1.main_arg1) = m ((c.tc : Thread Cert.KernelFfnInDx1.nD Cert.KernelFfnInDx1.τ).loc Cert.KernelFfnInDx1.main_arg1)
      ∧ r.2.mem ((c.tc : Thread Cert.KernelFfnInDx1.nD Cert.KernelFfnInDx1.τ).loc Cert.KernelFfnInDx1.main_arg2) = m ((c.tc : Thread Cert.KernelFfnInDx1.nD Cert.KernelFfnInDx1.τ).loc Cert.KernelFfnInDx1.main_arg2))
      ∧ r.2.sem = fun _ => 0)

def quiescent_KernelFfnInDx1Ideal [hKernelFfnInDx1Ideal : Cert.KernelFfnInDx1Ideal.Facts] : Prop :=
  ∀ (m : (ℓ : Loc Cert.KernelFfnInDx1Ideal.nD Cert.KernelFfnInDx1Ideal.τ Cert.KernelFfnInDx1Ideal.sig) → Buf (Elt Ideal) ℓ) (g : Dev Cert.KernelFfnInDx1Ideal.nD → PrngReg), Pre_KernelFfnInDx1Ideal m →
    θ_run (Cert.KernelFfnInDx1Ideal.defs (F := Ideal)) (onTc (τ := Cert.KernelFfnInDx1Ideal.τ) (Cert.KernelFfnInDx1Ideal.main (F := Ideal))) ⟨m, fun _ => 0, g⟩ (fun r => (∀ c : Dev Cert.KernelFfnInDx1Ideal.nD,
      r.2.mem ((c.tc : Thread Cert.KernelFfnInDx1Ideal.nD Cert.KernelFfnInDx1Ideal.τ).loc Cert.KernelFfnInDx1Ideal.main_arg0) = m ((c.tc : Thread Cert.KernelFfnInDx1Ideal.nD Cert.KernelFfnInDx1Ideal.τ).loc Cert.KernelFfnInDx1Ideal.main_arg0)
      ∧ r.2.mem ((c.tc : Thread Cert.KernelFfnInDx1Ideal.nD Cert.KernelFfnInDx1Ideal.τ).loc Cert.KernelFfnInDx1Ideal.main_arg1) = m ((c.tc : Thread Cert.KernelFfnInDx1Ideal.nD Cert.KernelFfnInDx1Ideal.τ).loc Cert.KernelFfnInDx1Ideal.main_arg1)
      ∧ r.2.mem ((c.tc : Thread Cert.KernelFfnInDx1Ideal.nD Cert.KernelFfnInDx1Ideal.τ).loc Cert.KernelFfnInDx1Ideal.main_arg2) = m ((c.tc : Thread Cert.KernelFfnInDx1Ideal.nD Cert.KernelFfnInDx1Ideal.τ).loc Cert.KernelFfnInDx1Ideal.main_arg2))
      ∧ r.2.sem = fun _ => 0)

def quiescent_ReferenceFfnInDx1Ideal [hReferenceFfnInDx1Ideal : Cert.ReferenceFfnInDx1Ideal.Facts] : Prop :=
  ∀ (m : (ℓ : Loc Cert.ReferenceFfnInDx1Ideal.nD Cert.ReferenceFfnInDx1Ideal.τ Cert.ReferenceFfnInDx1Ideal.sig) → Buf (Elt Ideal) ℓ) (g : Dev Cert.ReferenceFfnInDx1Ideal.nD → PrngReg), Pre_ReferenceFfnInDx1Ideal m →
    θ_run (Cert.ReferenceFfnInDx1Ideal.defs (F := Ideal)) (onTc (τ := Cert.ReferenceFfnInDx1Ideal.τ) (Cert.ReferenceFfnInDx1Ideal.main (F := Ideal))) ⟨m, fun _ => 0, g⟩ (fun r => (∀ c : Dev Cert.ReferenceFfnInDx1Ideal.nD,
      r.2.mem ((c.tc : Thread Cert.ReferenceFfnInDx1Ideal.nD Cert.ReferenceFfnInDx1Ideal.τ).loc Cert.ReferenceFfnInDx1Ideal.main_arg0) = m ((c.tc : Thread Cert.ReferenceFfnInDx1Ideal.nD Cert.ReferenceFfnInDx1Ideal.τ).loc Cert.ReferenceFfnInDx1Ideal.main_arg0)
      ∧ r.2.mem ((c.tc : Thread Cert.ReferenceFfnInDx1Ideal.nD Cert.ReferenceFfnInDx1Ideal.τ).loc Cert.ReferenceFfnInDx1Ideal.main_arg1) = m ((c.tc : Thread Cert.ReferenceFfnInDx1Ideal.nD Cert.ReferenceFfnInDx1Ideal.τ).loc Cert.ReferenceFfnInDx1Ideal.main_arg1)
      ∧ r.2.mem ((c.tc : Thread Cert.ReferenceFfnInDx1Ideal.nD Cert.ReferenceFfnInDx1Ideal.τ).loc Cert.ReferenceFfnInDx1Ideal.main_arg2) = m ((c.tc : Thread Cert.ReferenceFfnInDx1Ideal.nD Cert.ReferenceFfnInDx1Ideal.τ).loc Cert.ReferenceFfnInDx1Ideal.main_arg2))
      ∧ r.2.sem = fun _ => 0)

def quiescent_KernelFfnInDx2 [hKernelFfnInDx2 : Cert.KernelFfnInDx2.Facts] : Prop :=
  ∀ (m : (ℓ : Loc Cert.KernelFfnInDx2.nD Cert.KernelFfnInDx2.τ Cert.KernelFfnInDx2.sig) → Buf (Elt Bits) ℓ) (g : Dev Cert.KernelFfnInDx2.nD → PrngReg), Pre_KernelFfnInDx2 m →
    θ_run (Cert.KernelFfnInDx2.defs (F := Bits)) (onTc (τ := Cert.KernelFfnInDx2.τ) (Cert.KernelFfnInDx2.main (F := Bits))) ⟨m, fun _ => 0, g⟩ (fun r => (∀ c : Dev Cert.KernelFfnInDx2.nD,
      r.2.mem ((c.tc : Thread Cert.KernelFfnInDx2.nD Cert.KernelFfnInDx2.τ).loc Cert.KernelFfnInDx2.main_arg0) = m ((c.tc : Thread Cert.KernelFfnInDx2.nD Cert.KernelFfnInDx2.τ).loc Cert.KernelFfnInDx2.main_arg0)
      ∧ r.2.mem ((c.tc : Thread Cert.KernelFfnInDx2.nD Cert.KernelFfnInDx2.τ).loc Cert.KernelFfnInDx2.main_arg1) = m ((c.tc : Thread Cert.KernelFfnInDx2.nD Cert.KernelFfnInDx2.τ).loc Cert.KernelFfnInDx2.main_arg1)
      ∧ r.2.mem ((c.tc : Thread Cert.KernelFfnInDx2.nD Cert.KernelFfnInDx2.τ).loc Cert.KernelFfnInDx2.main_arg2) = m ((c.tc : Thread Cert.KernelFfnInDx2.nD Cert.KernelFfnInDx2.τ).loc Cert.KernelFfnInDx2.main_arg2))
      ∧ r.2.sem = fun _ => 0)

def quiescent_KernelFfnInDx2Ideal [hKernelFfnInDx2Ideal : Cert.KernelFfnInDx2Ideal.Facts] : Prop :=
  ∀ (m : (ℓ : Loc Cert.KernelFfnInDx2Ideal.nD Cert.KernelFfnInDx2Ideal.τ Cert.KernelFfnInDx2Ideal.sig) → Buf (Elt Ideal) ℓ) (g : Dev Cert.KernelFfnInDx2Ideal.nD → PrngReg), Pre_KernelFfnInDx2Ideal m →
    θ_run (Cert.KernelFfnInDx2Ideal.defs (F := Ideal)) (onTc (τ := Cert.KernelFfnInDx2Ideal.τ) (Cert.KernelFfnInDx2Ideal.main (F := Ideal))) ⟨m, fun _ => 0, g⟩ (fun r => (∀ c : Dev Cert.KernelFfnInDx2Ideal.nD,
      r.2.mem ((c.tc : Thread Cert.KernelFfnInDx2Ideal.nD Cert.KernelFfnInDx2Ideal.τ).loc Cert.KernelFfnInDx2Ideal.main_arg0) = m ((c.tc : Thread Cert.KernelFfnInDx2Ideal.nD Cert.KernelFfnInDx2Ideal.τ).loc Cert.KernelFfnInDx2Ideal.main_arg0)
      ∧ r.2.mem ((c.tc : Thread Cert.KernelFfnInDx2Ideal.nD Cert.KernelFfnInDx2Ideal.τ).loc Cert.KernelFfnInDx2Ideal.main_arg1) = m ((c.tc : Thread Cert.KernelFfnInDx2Ideal.nD Cert.KernelFfnInDx2Ideal.τ).loc Cert.KernelFfnInDx2Ideal.main_arg1)
      ∧ r.2.mem ((c.tc : Thread Cert.KernelFfnInDx2Ideal.nD Cert.KernelFfnInDx2Ideal.τ).loc Cert.KernelFfnInDx2Ideal.main_arg2) = m ((c.tc : Thread Cert.KernelFfnInDx2Ideal.nD Cert.KernelFfnInDx2Ideal.τ).loc Cert.KernelFfnInDx2Ideal.main_arg2))
      ∧ r.2.sem = fun _ => 0)

def quiescent_ReferenceFfnInDx2Ideal [hReferenceFfnInDx2Ideal : Cert.ReferenceFfnInDx2Ideal.Facts] : Prop :=
  ∀ (m : (ℓ : Loc Cert.ReferenceFfnInDx2Ideal.nD Cert.ReferenceFfnInDx2Ideal.τ Cert.ReferenceFfnInDx2Ideal.sig) → Buf (Elt Ideal) ℓ) (g : Dev Cert.ReferenceFfnInDx2Ideal.nD → PrngReg), Pre_ReferenceFfnInDx2Ideal m →
    θ_run (Cert.ReferenceFfnInDx2Ideal.defs (F := Ideal)) (onTc (τ := Cert.ReferenceFfnInDx2Ideal.τ) (Cert.ReferenceFfnInDx2Ideal.main (F := Ideal))) ⟨m, fun _ => 0, g⟩ (fun r => (∀ c : Dev Cert.ReferenceFfnInDx2Ideal.nD,
      r.2.mem ((c.tc : Thread Cert.ReferenceFfnInDx2Ideal.nD Cert.ReferenceFfnInDx2Ideal.τ).loc Cert.ReferenceFfnInDx2Ideal.main_arg0) = m ((c.tc : Thread Cert.ReferenceFfnInDx2Ideal.nD Cert.ReferenceFfnInDx2Ideal.τ).loc Cert.ReferenceFfnInDx2Ideal.main_arg0)
      ∧ r.2.mem ((c.tc : Thread Cert.ReferenceFfnInDx2Ideal.nD Cert.ReferenceFfnInDx2Ideal.τ).loc Cert.ReferenceFfnInDx2Ideal.main_arg1) = m ((c.tc : Thread Cert.ReferenceFfnInDx2Ideal.nD Cert.ReferenceFfnInDx2Ideal.τ).loc Cert.ReferenceFfnInDx2Ideal.main_arg1)
      ∧ r.2.mem ((c.tc : Thread Cert.ReferenceFfnInDx2Ideal.nD Cert.ReferenceFfnInDx2Ideal.τ).loc Cert.ReferenceFfnInDx2Ideal.main_arg2) = m ((c.tc : Thread Cert.ReferenceFfnInDx2Ideal.nD Cert.ReferenceFfnInDx2Ideal.τ).loc Cert.ReferenceFfnInDx2Ideal.main_arg2))
      ∧ r.2.sem = fun _ => 0)

def quiescent_KernelFfnInDx3 [hKernelFfnInDx3 : Cert.KernelFfnInDx3.Facts] : Prop :=
  ∀ (m : (ℓ : Loc Cert.KernelFfnInDx3.nD Cert.KernelFfnInDx3.τ Cert.KernelFfnInDx3.sig) → Buf (Elt Bits) ℓ) (g : Dev Cert.KernelFfnInDx3.nD → PrngReg), Pre_KernelFfnInDx3 m →
    θ_run (Cert.KernelFfnInDx3.defs (F := Bits)) (onTc (τ := Cert.KernelFfnInDx3.τ) (Cert.KernelFfnInDx3.main (F := Bits))) ⟨m, fun _ => 0, g⟩ (fun r => (∀ c : Dev Cert.KernelFfnInDx3.nD,
      r.2.mem ((c.tc : Thread Cert.KernelFfnInDx3.nD Cert.KernelFfnInDx3.τ).loc Cert.KernelFfnInDx3.main_arg0) = m ((c.tc : Thread Cert.KernelFfnInDx3.nD Cert.KernelFfnInDx3.τ).loc Cert.KernelFfnInDx3.main_arg0)
      ∧ r.2.mem ((c.tc : Thread Cert.KernelFfnInDx3.nD Cert.KernelFfnInDx3.τ).loc Cert.KernelFfnInDx3.main_arg1) = m ((c.tc : Thread Cert.KernelFfnInDx3.nD Cert.KernelFfnInDx3.τ).loc Cert.KernelFfnInDx3.main_arg1)
      ∧ r.2.mem ((c.tc : Thread Cert.KernelFfnInDx3.nD Cert.KernelFfnInDx3.τ).loc Cert.KernelFfnInDx3.main_arg2) = m ((c.tc : Thread Cert.KernelFfnInDx3.nD Cert.KernelFfnInDx3.τ).loc Cert.KernelFfnInDx3.main_arg2))
      ∧ r.2.sem = fun _ => 0)

def quiescent_KernelFfnInDx3Ideal [hKernelFfnInDx3Ideal : Cert.KernelFfnInDx3Ideal.Facts] : Prop :=
  ∀ (m : (ℓ : Loc Cert.KernelFfnInDx3Ideal.nD Cert.KernelFfnInDx3Ideal.τ Cert.KernelFfnInDx3Ideal.sig) → Buf (Elt Ideal) ℓ) (g : Dev Cert.KernelFfnInDx3Ideal.nD → PrngReg), Pre_KernelFfnInDx3Ideal m →
    θ_run (Cert.KernelFfnInDx3Ideal.defs (F := Ideal)) (onTc (τ := Cert.KernelFfnInDx3Ideal.τ) (Cert.KernelFfnInDx3Ideal.main (F := Ideal))) ⟨m, fun _ => 0, g⟩ (fun r => (∀ c : Dev Cert.KernelFfnInDx3Ideal.nD,
      r.2.mem ((c.tc : Thread Cert.KernelFfnInDx3Ideal.nD Cert.KernelFfnInDx3Ideal.τ).loc Cert.KernelFfnInDx3Ideal.main_arg0) = m ((c.tc : Thread Cert.KernelFfnInDx3Ideal.nD Cert.KernelFfnInDx3Ideal.τ).loc Cert.KernelFfnInDx3Ideal.main_arg0)
      ∧ r.2.mem ((c.tc : Thread Cert.KernelFfnInDx3Ideal.nD Cert.KernelFfnInDx3Ideal.τ).loc Cert.KernelFfnInDx3Ideal.main_arg1) = m ((c.tc : Thread Cert.KernelFfnInDx3Ideal.nD Cert.KernelFfnInDx3Ideal.τ).loc Cert.KernelFfnInDx3Ideal.main_arg1)
      ∧ r.2.mem ((c.tc : Thread Cert.KernelFfnInDx3Ideal.nD Cert.KernelFfnInDx3Ideal.τ).loc Cert.KernelFfnInDx3Ideal.main_arg2) = m ((c.tc : Thread Cert.KernelFfnInDx3Ideal.nD Cert.KernelFfnInDx3Ideal.τ).loc Cert.KernelFfnInDx3Ideal.main_arg2))
      ∧ r.2.sem = fun _ => 0)

def quiescent_ReferenceFfnInDx3Ideal [hReferenceFfnInDx3Ideal : Cert.ReferenceFfnInDx3Ideal.Facts] : Prop :=
  ∀ (m : (ℓ : Loc Cert.ReferenceFfnInDx3Ideal.nD Cert.ReferenceFfnInDx3Ideal.τ Cert.ReferenceFfnInDx3Ideal.sig) → Buf (Elt Ideal) ℓ) (g : Dev Cert.ReferenceFfnInDx3Ideal.nD → PrngReg), Pre_ReferenceFfnInDx3Ideal m →
    θ_run (Cert.ReferenceFfnInDx3Ideal.defs (F := Ideal)) (onTc (τ := Cert.ReferenceFfnInDx3Ideal.τ) (Cert.ReferenceFfnInDx3Ideal.main (F := Ideal))) ⟨m, fun _ => 0, g⟩ (fun r => (∀ c : Dev Cert.ReferenceFfnInDx3Ideal.nD,
      r.2.mem ((c.tc : Thread Cert.ReferenceFfnInDx3Ideal.nD Cert.ReferenceFfnInDx3Ideal.τ).loc Cert.ReferenceFfnInDx3Ideal.main_arg0) = m ((c.tc : Thread Cert.ReferenceFfnInDx3Ideal.nD Cert.ReferenceFfnInDx3Ideal.τ).loc Cert.ReferenceFfnInDx3Ideal.main_arg0)
      ∧ r.2.mem ((c.tc : Thread Cert.ReferenceFfnInDx3Ideal.nD Cert.ReferenceFfnInDx3Ideal.τ).loc Cert.ReferenceFfnInDx3Ideal.main_arg1) = m ((c.tc : Thread Cert.ReferenceFfnInDx3Ideal.nD Cert.ReferenceFfnInDx3Ideal.τ).loc Cert.ReferenceFfnInDx3Ideal.main_arg1)
      ∧ r.2.mem ((c.tc : Thread Cert.ReferenceFfnInDx3Ideal.nD Cert.ReferenceFfnInDx3Ideal.τ).loc Cert.ReferenceFfnInDx3Ideal.main_arg2) = m ((c.tc : Thread Cert.ReferenceFfnInDx3Ideal.nD Cert.ReferenceFfnInDx3Ideal.τ).loc Cert.ReferenceFfnInDx3Ideal.main_arg2))
      ∧ r.2.sem = fun _ => 0)

def quiescent_KernelFfnOut0 [hKernelFfnOut0 : Cert.KernelFfnOut0.Facts] : Prop :=
  ∀ (m : (ℓ : Loc Cert.KernelFfnOut0.nD Cert.KernelFfnOut0.τ Cert.KernelFfnOut0.sig) → Buf (Elt Bits) ℓ) (g : Dev Cert.KernelFfnOut0.nD → PrngReg), Pre_KernelFfnOut0 m →
    θ_run (Cert.KernelFfnOut0.defs (F := Bits)) (onTc (τ := Cert.KernelFfnOut0.τ) (Cert.KernelFfnOut0.main (F := Bits))) ⟨m, fun _ => 0, g⟩ (fun r => (∀ c : Dev Cert.KernelFfnOut0.nD,
      r.2.mem ((c.tc : Thread Cert.KernelFfnOut0.nD Cert.KernelFfnOut0.τ).loc Cert.KernelFfnOut0.main_arg0) = m ((c.tc : Thread Cert.KernelFfnOut0.nD Cert.KernelFfnOut0.τ).loc Cert.KernelFfnOut0.main_arg0)
      ∧ r.2.mem ((c.tc : Thread Cert.KernelFfnOut0.nD Cert.KernelFfnOut0.τ).loc Cert.KernelFfnOut0.main_arg1) = m ((c.tc : Thread Cert.KernelFfnOut0.nD Cert.KernelFfnOut0.τ).loc Cert.KernelFfnOut0.main_arg1))
      ∧ r.2.sem = fun _ => 0)

def quiescent_KernelFfnOut0Ideal [hKernelFfnOut0Ideal : Cert.KernelFfnOut0Ideal.Facts] : Prop :=
  ∀ (m : (ℓ : Loc Cert.KernelFfnOut0Ideal.nD Cert.KernelFfnOut0Ideal.τ Cert.KernelFfnOut0Ideal.sig) → Buf (Elt Ideal) ℓ) (g : Dev Cert.KernelFfnOut0Ideal.nD → PrngReg), Pre_KernelFfnOut0Ideal m →
    θ_run (Cert.KernelFfnOut0Ideal.defs (F := Ideal)) (onTc (τ := Cert.KernelFfnOut0Ideal.τ) (Cert.KernelFfnOut0Ideal.main (F := Ideal))) ⟨m, fun _ => 0, g⟩ (fun r => (∀ c : Dev Cert.KernelFfnOut0Ideal.nD,
      r.2.mem ((c.tc : Thread Cert.KernelFfnOut0Ideal.nD Cert.KernelFfnOut0Ideal.τ).loc Cert.KernelFfnOut0Ideal.main_arg0) = m ((c.tc : Thread Cert.KernelFfnOut0Ideal.nD Cert.KernelFfnOut0Ideal.τ).loc Cert.KernelFfnOut0Ideal.main_arg0)
      ∧ r.2.mem ((c.tc : Thread Cert.KernelFfnOut0Ideal.nD Cert.KernelFfnOut0Ideal.τ).loc Cert.KernelFfnOut0Ideal.main_arg1) = m ((c.tc : Thread Cert.KernelFfnOut0Ideal.nD Cert.KernelFfnOut0Ideal.τ).loc Cert.KernelFfnOut0Ideal.main_arg1))
      ∧ r.2.sem = fun _ => 0)

def quiescent_ReferenceFfnOut0Ideal [hReferenceFfnOut0Ideal : Cert.ReferenceFfnOut0Ideal.Facts] : Prop :=
  ∀ (m : (ℓ : Loc Cert.ReferenceFfnOut0Ideal.nD Cert.ReferenceFfnOut0Ideal.τ Cert.ReferenceFfnOut0Ideal.sig) → Buf (Elt Ideal) ℓ) (g : Dev Cert.ReferenceFfnOut0Ideal.nD → PrngReg), Pre_ReferenceFfnOut0Ideal m →
    θ_run (Cert.ReferenceFfnOut0Ideal.defs (F := Ideal)) (onTc (τ := Cert.ReferenceFfnOut0Ideal.τ) (Cert.ReferenceFfnOut0Ideal.main (F := Ideal))) ⟨m, fun _ => 0, g⟩ (fun r => (∀ c : Dev Cert.ReferenceFfnOut0Ideal.nD,
      r.2.mem ((c.tc : Thread Cert.ReferenceFfnOut0Ideal.nD Cert.ReferenceFfnOut0Ideal.τ).loc Cert.ReferenceFfnOut0Ideal.main_arg0) = m ((c.tc : Thread Cert.ReferenceFfnOut0Ideal.nD Cert.ReferenceFfnOut0Ideal.τ).loc Cert.ReferenceFfnOut0Ideal.main_arg0)
      ∧ r.2.mem ((c.tc : Thread Cert.ReferenceFfnOut0Ideal.nD Cert.ReferenceFfnOut0Ideal.τ).loc Cert.ReferenceFfnOut0Ideal.main_arg1) = m ((c.tc : Thread Cert.ReferenceFfnOut0Ideal.nD Cert.ReferenceFfnOut0Ideal.τ).loc Cert.ReferenceFfnOut0Ideal.main_arg1))
      ∧ r.2.sem = fun _ => 0)

def quiescent_KernelFfnOut1 [hKernelFfnOut1 : Cert.KernelFfnOut1.Facts] : Prop :=
  ∀ (m : (ℓ : Loc Cert.KernelFfnOut1.nD Cert.KernelFfnOut1.τ Cert.KernelFfnOut1.sig) → Buf (Elt Bits) ℓ) (g : Dev Cert.KernelFfnOut1.nD → PrngReg), Pre_KernelFfnOut1 m →
    θ_run (Cert.KernelFfnOut1.defs (F := Bits)) (onTc (τ := Cert.KernelFfnOut1.τ) (Cert.KernelFfnOut1.main (F := Bits))) ⟨m, fun _ => 0, g⟩ (fun r => (∀ c : Dev Cert.KernelFfnOut1.nD,
      r.2.mem ((c.tc : Thread Cert.KernelFfnOut1.nD Cert.KernelFfnOut1.τ).loc Cert.KernelFfnOut1.main_arg0) = m ((c.tc : Thread Cert.KernelFfnOut1.nD Cert.KernelFfnOut1.τ).loc Cert.KernelFfnOut1.main_arg0)
      ∧ r.2.mem ((c.tc : Thread Cert.KernelFfnOut1.nD Cert.KernelFfnOut1.τ).loc Cert.KernelFfnOut1.main_arg1) = m ((c.tc : Thread Cert.KernelFfnOut1.nD Cert.KernelFfnOut1.τ).loc Cert.KernelFfnOut1.main_arg1))
      ∧ r.2.sem = fun _ => 0)

def quiescent_KernelFfnOut1Ideal [hKernelFfnOut1Ideal : Cert.KernelFfnOut1Ideal.Facts] : Prop :=
  ∀ (m : (ℓ : Loc Cert.KernelFfnOut1Ideal.nD Cert.KernelFfnOut1Ideal.τ Cert.KernelFfnOut1Ideal.sig) → Buf (Elt Ideal) ℓ) (g : Dev Cert.KernelFfnOut1Ideal.nD → PrngReg), Pre_KernelFfnOut1Ideal m →
    θ_run (Cert.KernelFfnOut1Ideal.defs (F := Ideal)) (onTc (τ := Cert.KernelFfnOut1Ideal.τ) (Cert.KernelFfnOut1Ideal.main (F := Ideal))) ⟨m, fun _ => 0, g⟩ (fun r => (∀ c : Dev Cert.KernelFfnOut1Ideal.nD,
      r.2.mem ((c.tc : Thread Cert.KernelFfnOut1Ideal.nD Cert.KernelFfnOut1Ideal.τ).loc Cert.KernelFfnOut1Ideal.main_arg0) = m ((c.tc : Thread Cert.KernelFfnOut1Ideal.nD Cert.KernelFfnOut1Ideal.τ).loc Cert.KernelFfnOut1Ideal.main_arg0)
      ∧ r.2.mem ((c.tc : Thread Cert.KernelFfnOut1Ideal.nD Cert.KernelFfnOut1Ideal.τ).loc Cert.KernelFfnOut1Ideal.main_arg1) = m ((c.tc : Thread Cert.KernelFfnOut1Ideal.nD Cert.KernelFfnOut1Ideal.τ).loc Cert.KernelFfnOut1Ideal.main_arg1))
      ∧ r.2.sem = fun _ => 0)

def quiescent_ReferenceFfnOut1Ideal [hReferenceFfnOut1Ideal : Cert.ReferenceFfnOut1Ideal.Facts] : Prop :=
  ∀ (m : (ℓ : Loc Cert.ReferenceFfnOut1Ideal.nD Cert.ReferenceFfnOut1Ideal.τ Cert.ReferenceFfnOut1Ideal.sig) → Buf (Elt Ideal) ℓ) (g : Dev Cert.ReferenceFfnOut1Ideal.nD → PrngReg), Pre_ReferenceFfnOut1Ideal m →
    θ_run (Cert.ReferenceFfnOut1Ideal.defs (F := Ideal)) (onTc (τ := Cert.ReferenceFfnOut1Ideal.τ) (Cert.ReferenceFfnOut1Ideal.main (F := Ideal))) ⟨m, fun _ => 0, g⟩ (fun r => (∀ c : Dev Cert.ReferenceFfnOut1Ideal.nD,
      r.2.mem ((c.tc : Thread Cert.ReferenceFfnOut1Ideal.nD Cert.ReferenceFfnOut1Ideal.τ).loc Cert.ReferenceFfnOut1Ideal.main_arg0) = m ((c.tc : Thread Cert.ReferenceFfnOut1Ideal.nD Cert.ReferenceFfnOut1Ideal.τ).loc Cert.ReferenceFfnOut1Ideal.main_arg0)
      ∧ r.2.mem ((c.tc : Thread Cert.ReferenceFfnOut1Ideal.nD Cert.ReferenceFfnOut1Ideal.τ).loc Cert.ReferenceFfnOut1Ideal.main_arg1) = m ((c.tc : Thread Cert.ReferenceFfnOut1Ideal.nD Cert.ReferenceFfnOut1Ideal.τ).loc Cert.ReferenceFfnOut1Ideal.main_arg1))
      ∧ r.2.sem = fun _ => 0)

def quiescent_KernelFfnOut2 [hKernelFfnOut2 : Cert.KernelFfnOut2.Facts] : Prop :=
  ∀ (m : (ℓ : Loc Cert.KernelFfnOut2.nD Cert.KernelFfnOut2.τ Cert.KernelFfnOut2.sig) → Buf (Elt Bits) ℓ) (g : Dev Cert.KernelFfnOut2.nD → PrngReg), Pre_KernelFfnOut2 m →
    θ_run (Cert.KernelFfnOut2.defs (F := Bits)) (onTc (τ := Cert.KernelFfnOut2.τ) (Cert.KernelFfnOut2.main (F := Bits))) ⟨m, fun _ => 0, g⟩ (fun r => (∀ c : Dev Cert.KernelFfnOut2.nD,
      r.2.mem ((c.tc : Thread Cert.KernelFfnOut2.nD Cert.KernelFfnOut2.τ).loc Cert.KernelFfnOut2.main_arg0) = m ((c.tc : Thread Cert.KernelFfnOut2.nD Cert.KernelFfnOut2.τ).loc Cert.KernelFfnOut2.main_arg0)
      ∧ r.2.mem ((c.tc : Thread Cert.KernelFfnOut2.nD Cert.KernelFfnOut2.τ).loc Cert.KernelFfnOut2.main_arg1) = m ((c.tc : Thread Cert.KernelFfnOut2.nD Cert.KernelFfnOut2.τ).loc Cert.KernelFfnOut2.main_arg1))
      ∧ r.2.sem = fun _ => 0)

def quiescent_KernelFfnOut2Ideal [hKernelFfnOut2Ideal : Cert.KernelFfnOut2Ideal.Facts] : Prop :=
  ∀ (m : (ℓ : Loc Cert.KernelFfnOut2Ideal.nD Cert.KernelFfnOut2Ideal.τ Cert.KernelFfnOut2Ideal.sig) → Buf (Elt Ideal) ℓ) (g : Dev Cert.KernelFfnOut2Ideal.nD → PrngReg), Pre_KernelFfnOut2Ideal m →
    θ_run (Cert.KernelFfnOut2Ideal.defs (F := Ideal)) (onTc (τ := Cert.KernelFfnOut2Ideal.τ) (Cert.KernelFfnOut2Ideal.main (F := Ideal))) ⟨m, fun _ => 0, g⟩ (fun r => (∀ c : Dev Cert.KernelFfnOut2Ideal.nD,
      r.2.mem ((c.tc : Thread Cert.KernelFfnOut2Ideal.nD Cert.KernelFfnOut2Ideal.τ).loc Cert.KernelFfnOut2Ideal.main_arg0) = m ((c.tc : Thread Cert.KernelFfnOut2Ideal.nD Cert.KernelFfnOut2Ideal.τ).loc Cert.KernelFfnOut2Ideal.main_arg0)
      ∧ r.2.mem ((c.tc : Thread Cert.KernelFfnOut2Ideal.nD Cert.KernelFfnOut2Ideal.τ).loc Cert.KernelFfnOut2Ideal.main_arg1) = m ((c.tc : Thread Cert.KernelFfnOut2Ideal.nD Cert.KernelFfnOut2Ideal.τ).loc Cert.KernelFfnOut2Ideal.main_arg1))
      ∧ r.2.sem = fun _ => 0)

def quiescent_ReferenceFfnOut2Ideal [hReferenceFfnOut2Ideal : Cert.ReferenceFfnOut2Ideal.Facts] : Prop :=
  ∀ (m : (ℓ : Loc Cert.ReferenceFfnOut2Ideal.nD Cert.ReferenceFfnOut2Ideal.τ Cert.ReferenceFfnOut2Ideal.sig) → Buf (Elt Ideal) ℓ) (g : Dev Cert.ReferenceFfnOut2Ideal.nD → PrngReg), Pre_ReferenceFfnOut2Ideal m →
    θ_run (Cert.ReferenceFfnOut2Ideal.defs (F := Ideal)) (onTc (τ := Cert.ReferenceFfnOut2Ideal.τ) (Cert.ReferenceFfnOut2Ideal.main (F := Ideal))) ⟨m, fun _ => 0, g⟩ (fun r => (∀ c : Dev Cert.ReferenceFfnOut2Ideal.nD,
      r.2.mem ((c.tc : Thread Cert.ReferenceFfnOut2Ideal.nD Cert.ReferenceFfnOut2Ideal.τ).loc Cert.ReferenceFfnOut2Ideal.main_arg0) = m ((c.tc : Thread Cert.ReferenceFfnOut2Ideal.nD Cert.ReferenceFfnOut2Ideal.τ).loc Cert.ReferenceFfnOut2Ideal.main_arg0)
      ∧ r.2.mem ((c.tc : Thread Cert.ReferenceFfnOut2Ideal.nD Cert.ReferenceFfnOut2Ideal.τ).loc Cert.ReferenceFfnOut2Ideal.main_arg1) = m ((c.tc : Thread Cert.ReferenceFfnOut2Ideal.nD Cert.ReferenceFfnOut2Ideal.τ).loc Cert.ReferenceFfnOut2Ideal.main_arg1))
      ∧ r.2.sem = fun _ => 0)

def quiescent_KernelFfnOut3 [hKernelFfnOut3 : Cert.KernelFfnOut3.Facts] : Prop :=
  ∀ (m : (ℓ : Loc Cert.KernelFfnOut3.nD Cert.KernelFfnOut3.τ Cert.KernelFfnOut3.sig) → Buf (Elt Bits) ℓ) (g : Dev Cert.KernelFfnOut3.nD → PrngReg), Pre_KernelFfnOut3 m →
    θ_run (Cert.KernelFfnOut3.defs (F := Bits)) (onTc (τ := Cert.KernelFfnOut3.τ) (Cert.KernelFfnOut3.main (F := Bits))) ⟨m, fun _ => 0, g⟩ (fun r => (∀ c : Dev Cert.KernelFfnOut3.nD,
      r.2.mem ((c.tc : Thread Cert.KernelFfnOut3.nD Cert.KernelFfnOut3.τ).loc Cert.KernelFfnOut3.main_arg0) = m ((c.tc : Thread Cert.KernelFfnOut3.nD Cert.KernelFfnOut3.τ).loc Cert.KernelFfnOut3.main_arg0)
      ∧ r.2.mem ((c.tc : Thread Cert.KernelFfnOut3.nD Cert.KernelFfnOut3.τ).loc Cert.KernelFfnOut3.main_arg1) = m ((c.tc : Thread Cert.KernelFfnOut3.nD Cert.KernelFfnOut3.τ).loc Cert.KernelFfnOut3.main_arg1))
      ∧ r.2.sem = fun _ => 0)

def quiescent_KernelFfnOut3Ideal [hKernelFfnOut3Ideal : Cert.KernelFfnOut3Ideal.Facts] : Prop :=
  ∀ (m : (ℓ : Loc Cert.KernelFfnOut3Ideal.nD Cert.KernelFfnOut3Ideal.τ Cert.KernelFfnOut3Ideal.sig) → Buf (Elt Ideal) ℓ) (g : Dev Cert.KernelFfnOut3Ideal.nD → PrngReg), Pre_KernelFfnOut3Ideal m →
    θ_run (Cert.KernelFfnOut3Ideal.defs (F := Ideal)) (onTc (τ := Cert.KernelFfnOut3Ideal.τ) (Cert.KernelFfnOut3Ideal.main (F := Ideal))) ⟨m, fun _ => 0, g⟩ (fun r => (∀ c : Dev Cert.KernelFfnOut3Ideal.nD,
      r.2.mem ((c.tc : Thread Cert.KernelFfnOut3Ideal.nD Cert.KernelFfnOut3Ideal.τ).loc Cert.KernelFfnOut3Ideal.main_arg0) = m ((c.tc : Thread Cert.KernelFfnOut3Ideal.nD Cert.KernelFfnOut3Ideal.τ).loc Cert.KernelFfnOut3Ideal.main_arg0)
      ∧ r.2.mem ((c.tc : Thread Cert.KernelFfnOut3Ideal.nD Cert.KernelFfnOut3Ideal.τ).loc Cert.KernelFfnOut3Ideal.main_arg1) = m ((c.tc : Thread Cert.KernelFfnOut3Ideal.nD Cert.KernelFfnOut3Ideal.τ).loc Cert.KernelFfnOut3Ideal.main_arg1))
      ∧ r.2.sem = fun _ => 0)

def quiescent_ReferenceFfnOut3Ideal [hReferenceFfnOut3Ideal : Cert.ReferenceFfnOut3Ideal.Facts] : Prop :=
  ∀ (m : (ℓ : Loc Cert.ReferenceFfnOut3Ideal.nD Cert.ReferenceFfnOut3Ideal.τ Cert.ReferenceFfnOut3Ideal.sig) → Buf (Elt Ideal) ℓ) (g : Dev Cert.ReferenceFfnOut3Ideal.nD → PrngReg), Pre_ReferenceFfnOut3Ideal m →
    θ_run (Cert.ReferenceFfnOut3Ideal.defs (F := Ideal)) (onTc (τ := Cert.ReferenceFfnOut3Ideal.τ) (Cert.ReferenceFfnOut3Ideal.main (F := Ideal))) ⟨m, fun _ => 0, g⟩ (fun r => (∀ c : Dev Cert.ReferenceFfnOut3Ideal.nD,
      r.2.mem ((c.tc : Thread Cert.ReferenceFfnOut3Ideal.nD Cert.ReferenceFfnOut3Ideal.τ).loc Cert.ReferenceFfnOut3Ideal.main_arg0) = m ((c.tc : Thread Cert.ReferenceFfnOut3Ideal.nD Cert.ReferenceFfnOut3Ideal.τ).loc Cert.ReferenceFfnOut3Ideal.main_arg0)
      ∧ r.2.mem ((c.tc : Thread Cert.ReferenceFfnOut3Ideal.nD Cert.ReferenceFfnOut3Ideal.τ).loc Cert.ReferenceFfnOut3Ideal.main_arg1) = m ((c.tc : Thread Cert.ReferenceFfnOut3Ideal.nD Cert.ReferenceFfnOut3Ideal.τ).loc Cert.ReferenceFfnOut3Ideal.main_arg1))
      ∧ r.2.sem = fun _ => 0)

def quiescent_KernelQkvProjDx0 [hKernelQkvProjDx0 : Cert.KernelQkvProjDx0.Facts] : Prop :=
  ∀ (m : (ℓ : Loc Cert.KernelQkvProjDx0.nD Cert.KernelQkvProjDx0.τ Cert.KernelQkvProjDx0.sig) → Buf (Elt Bits) ℓ) (g : Dev Cert.KernelQkvProjDx0.nD → PrngReg), Pre_KernelQkvProjDx0 m →
    θ_run (Cert.KernelQkvProjDx0.defs (F := Bits)) (onTc (τ := Cert.KernelQkvProjDx0.τ) (Cert.KernelQkvProjDx0.main (F := Bits))) ⟨m, fun _ => 0, g⟩ (fun r => (∀ c : Dev Cert.KernelQkvProjDx0.nD,
      r.2.mem ((c.tc : Thread Cert.KernelQkvProjDx0.nD Cert.KernelQkvProjDx0.τ).loc Cert.KernelQkvProjDx0.main_arg0) = m ((c.tc : Thread Cert.KernelQkvProjDx0.nD Cert.KernelQkvProjDx0.τ).loc Cert.KernelQkvProjDx0.main_arg0)
      ∧ r.2.mem ((c.tc : Thread Cert.KernelQkvProjDx0.nD Cert.KernelQkvProjDx0.τ).loc Cert.KernelQkvProjDx0.main_arg1) = m ((c.tc : Thread Cert.KernelQkvProjDx0.nD Cert.KernelQkvProjDx0.τ).loc Cert.KernelQkvProjDx0.main_arg1)
      ∧ r.2.mem ((c.tc : Thread Cert.KernelQkvProjDx0.nD Cert.KernelQkvProjDx0.τ).loc Cert.KernelQkvProjDx0.main_arg2) = m ((c.tc : Thread Cert.KernelQkvProjDx0.nD Cert.KernelQkvProjDx0.τ).loc Cert.KernelQkvProjDx0.main_arg2))
      ∧ r.2.sem = fun _ => 0)

def quiescent_KernelQkvProjDx0Ideal [hKernelQkvProjDx0Ideal : Cert.KernelQkvProjDx0Ideal.Facts] : Prop :=
  ∀ (m : (ℓ : Loc Cert.KernelQkvProjDx0Ideal.nD Cert.KernelQkvProjDx0Ideal.τ Cert.KernelQkvProjDx0Ideal.sig) → Buf (Elt Ideal) ℓ) (g : Dev Cert.KernelQkvProjDx0Ideal.nD → PrngReg), Pre_KernelQkvProjDx0Ideal m →
    θ_run (Cert.KernelQkvProjDx0Ideal.defs (F := Ideal)) (onTc (τ := Cert.KernelQkvProjDx0Ideal.τ) (Cert.KernelQkvProjDx0Ideal.main (F := Ideal))) ⟨m, fun _ => 0, g⟩ (fun r => (∀ c : Dev Cert.KernelQkvProjDx0Ideal.nD,
      r.2.mem ((c.tc : Thread Cert.KernelQkvProjDx0Ideal.nD Cert.KernelQkvProjDx0Ideal.τ).loc Cert.KernelQkvProjDx0Ideal.main_arg0) = m ((c.tc : Thread Cert.KernelQkvProjDx0Ideal.nD Cert.KernelQkvProjDx0Ideal.τ).loc Cert.KernelQkvProjDx0Ideal.main_arg0)
      ∧ r.2.mem ((c.tc : Thread Cert.KernelQkvProjDx0Ideal.nD Cert.KernelQkvProjDx0Ideal.τ).loc Cert.KernelQkvProjDx0Ideal.main_arg1) = m ((c.tc : Thread Cert.KernelQkvProjDx0Ideal.nD Cert.KernelQkvProjDx0Ideal.τ).loc Cert.KernelQkvProjDx0Ideal.main_arg1)
      ∧ r.2.mem ((c.tc : Thread Cert.KernelQkvProjDx0Ideal.nD Cert.KernelQkvProjDx0Ideal.τ).loc Cert.KernelQkvProjDx0Ideal.main_arg2) = m ((c.tc : Thread Cert.KernelQkvProjDx0Ideal.nD Cert.KernelQkvProjDx0Ideal.τ).loc Cert.KernelQkvProjDx0Ideal.main_arg2))
      ∧ r.2.sem = fun _ => 0)

def quiescent_ReferenceQkvProjDx0Ideal [hReferenceQkvProjDx0Ideal : Cert.ReferenceQkvProjDx0Ideal.Facts] : Prop :=
  ∀ (m : (ℓ : Loc Cert.ReferenceQkvProjDx0Ideal.nD Cert.ReferenceQkvProjDx0Ideal.τ Cert.ReferenceQkvProjDx0Ideal.sig) → Buf (Elt Ideal) ℓ) (g : Dev Cert.ReferenceQkvProjDx0Ideal.nD → PrngReg), Pre_ReferenceQkvProjDx0Ideal m →
    θ_run (Cert.ReferenceQkvProjDx0Ideal.defs (F := Ideal)) (onTc (τ := Cert.ReferenceQkvProjDx0Ideal.τ) (Cert.ReferenceQkvProjDx0Ideal.main (F := Ideal))) ⟨m, fun _ => 0, g⟩ (fun r => (∀ c : Dev Cert.ReferenceQkvProjDx0Ideal.nD,
      r.2.mem ((c.tc : Thread Cert.ReferenceQkvProjDx0Ideal.nD Cert.ReferenceQkvProjDx0Ideal.τ).loc Cert.ReferenceQkvProjDx0Ideal.main_arg0) = m ((c.tc : Thread Cert.ReferenceQkvProjDx0Ideal.nD Cert.ReferenceQkvProjDx0Ideal.τ).loc Cert.ReferenceQkvProjDx0Ideal.main_arg0)
      ∧ r.2.mem ((c.tc : Thread Cert.ReferenceQkvProjDx0Ideal.nD Cert.ReferenceQkvProjDx0Ideal.τ).loc Cert.ReferenceQkvProjDx0Ideal.main_arg1) = m ((c.tc : Thread Cert.ReferenceQkvProjDx0Ideal.nD Cert.ReferenceQkvProjDx0Ideal.τ).loc Cert.ReferenceQkvProjDx0Ideal.main_arg1)
      ∧ r.2.mem ((c.tc : Thread Cert.ReferenceQkvProjDx0Ideal.nD Cert.ReferenceQkvProjDx0Ideal.τ).loc Cert.ReferenceQkvProjDx0Ideal.main_arg2) = m ((c.tc : Thread Cert.ReferenceQkvProjDx0Ideal.nD Cert.ReferenceQkvProjDx0Ideal.τ).loc Cert.ReferenceQkvProjDx0Ideal.main_arg2))
      ∧ r.2.sem = fun _ => 0)

def quiescent_KernelQkvProjDx1 [hKernelQkvProjDx1 : Cert.KernelQkvProjDx1.Facts] : Prop :=
  ∀ (m : (ℓ : Loc Cert.KernelQkvProjDx1.nD Cert.KernelQkvProjDx1.τ Cert.KernelQkvProjDx1.sig) → Buf (Elt Bits) ℓ) (g : Dev Cert.KernelQkvProjDx1.nD → PrngReg), Pre_KernelQkvProjDx1 m →
    θ_run (Cert.KernelQkvProjDx1.defs (F := Bits)) (onTc (τ := Cert.KernelQkvProjDx1.τ) (Cert.KernelQkvProjDx1.main (F := Bits))) ⟨m, fun _ => 0, g⟩ (fun r => (∀ c : Dev Cert.KernelQkvProjDx1.nD,
      r.2.mem ((c.tc : Thread Cert.KernelQkvProjDx1.nD Cert.KernelQkvProjDx1.τ).loc Cert.KernelQkvProjDx1.main_arg0) = m ((c.tc : Thread Cert.KernelQkvProjDx1.nD Cert.KernelQkvProjDx1.τ).loc Cert.KernelQkvProjDx1.main_arg0)
      ∧ r.2.mem ((c.tc : Thread Cert.KernelQkvProjDx1.nD Cert.KernelQkvProjDx1.τ).loc Cert.KernelQkvProjDx1.main_arg1) = m ((c.tc : Thread Cert.KernelQkvProjDx1.nD Cert.KernelQkvProjDx1.τ).loc Cert.KernelQkvProjDx1.main_arg1)
      ∧ r.2.mem ((c.tc : Thread Cert.KernelQkvProjDx1.nD Cert.KernelQkvProjDx1.τ).loc Cert.KernelQkvProjDx1.main_arg2) = m ((c.tc : Thread Cert.KernelQkvProjDx1.nD Cert.KernelQkvProjDx1.τ).loc Cert.KernelQkvProjDx1.main_arg2))
      ∧ r.2.sem = fun _ => 0)

def quiescent_KernelQkvProjDx1Ideal [hKernelQkvProjDx1Ideal : Cert.KernelQkvProjDx1Ideal.Facts] : Prop :=
  ∀ (m : (ℓ : Loc Cert.KernelQkvProjDx1Ideal.nD Cert.KernelQkvProjDx1Ideal.τ Cert.KernelQkvProjDx1Ideal.sig) → Buf (Elt Ideal) ℓ) (g : Dev Cert.KernelQkvProjDx1Ideal.nD → PrngReg), Pre_KernelQkvProjDx1Ideal m →
    θ_run (Cert.KernelQkvProjDx1Ideal.defs (F := Ideal)) (onTc (τ := Cert.KernelQkvProjDx1Ideal.τ) (Cert.KernelQkvProjDx1Ideal.main (F := Ideal))) ⟨m, fun _ => 0, g⟩ (fun r => (∀ c : Dev Cert.KernelQkvProjDx1Ideal.nD,
      r.2.mem ((c.tc : Thread Cert.KernelQkvProjDx1Ideal.nD Cert.KernelQkvProjDx1Ideal.τ).loc Cert.KernelQkvProjDx1Ideal.main_arg0) = m ((c.tc : Thread Cert.KernelQkvProjDx1Ideal.nD Cert.KernelQkvProjDx1Ideal.τ).loc Cert.KernelQkvProjDx1Ideal.main_arg0)
      ∧ r.2.mem ((c.tc : Thread Cert.KernelQkvProjDx1Ideal.nD Cert.KernelQkvProjDx1Ideal.τ).loc Cert.KernelQkvProjDx1Ideal.main_arg1) = m ((c.tc : Thread Cert.KernelQkvProjDx1Ideal.nD Cert.KernelQkvProjDx1Ideal.τ).loc Cert.KernelQkvProjDx1Ideal.main_arg1)
      ∧ r.2.mem ((c.tc : Thread Cert.KernelQkvProjDx1Ideal.nD Cert.KernelQkvProjDx1Ideal.τ).loc Cert.KernelQkvProjDx1Ideal.main_arg2) = m ((c.tc : Thread Cert.KernelQkvProjDx1Ideal.nD Cert.KernelQkvProjDx1Ideal.τ).loc Cert.KernelQkvProjDx1Ideal.main_arg2))
      ∧ r.2.sem = fun _ => 0)

def quiescent_ReferenceQkvProjDx1Ideal [hReferenceQkvProjDx1Ideal : Cert.ReferenceQkvProjDx1Ideal.Facts] : Prop :=
  ∀ (m : (ℓ : Loc Cert.ReferenceQkvProjDx1Ideal.nD Cert.ReferenceQkvProjDx1Ideal.τ Cert.ReferenceQkvProjDx1Ideal.sig) → Buf (Elt Ideal) ℓ) (g : Dev Cert.ReferenceQkvProjDx1Ideal.nD → PrngReg), Pre_ReferenceQkvProjDx1Ideal m →
    θ_run (Cert.ReferenceQkvProjDx1Ideal.defs (F := Ideal)) (onTc (τ := Cert.ReferenceQkvProjDx1Ideal.τ) (Cert.ReferenceQkvProjDx1Ideal.main (F := Ideal))) ⟨m, fun _ => 0, g⟩ (fun r => (∀ c : Dev Cert.ReferenceQkvProjDx1Ideal.nD,
      r.2.mem ((c.tc : Thread Cert.ReferenceQkvProjDx1Ideal.nD Cert.ReferenceQkvProjDx1Ideal.τ).loc Cert.ReferenceQkvProjDx1Ideal.main_arg0) = m ((c.tc : Thread Cert.ReferenceQkvProjDx1Ideal.nD Cert.ReferenceQkvProjDx1Ideal.τ).loc Cert.ReferenceQkvProjDx1Ideal.main_arg0)
      ∧ r.2.mem ((c.tc : Thread Cert.ReferenceQkvProjDx1Ideal.nD Cert.ReferenceQkvProjDx1Ideal.τ).loc Cert.ReferenceQkvProjDx1Ideal.main_arg1) = m ((c.tc : Thread Cert.ReferenceQkvProjDx1Ideal.nD Cert.ReferenceQkvProjDx1Ideal.τ).loc Cert.ReferenceQkvProjDx1Ideal.main_arg1)
      ∧ r.2.mem ((c.tc : Thread Cert.ReferenceQkvProjDx1Ideal.nD Cert.ReferenceQkvProjDx1Ideal.τ).loc Cert.ReferenceQkvProjDx1Ideal.main_arg2) = m ((c.tc : Thread Cert.ReferenceQkvProjDx1Ideal.nD Cert.ReferenceQkvProjDx1Ideal.τ).loc Cert.ReferenceQkvProjDx1Ideal.main_arg2))
      ∧ r.2.sem = fun _ => 0)

def quiescent_KernelInProjDx0 [hKernelInProjDx0 : Cert.KernelInProjDx0.Facts] : Prop :=
  ∀ (m : (ℓ : Loc Cert.KernelInProjDx0.nD Cert.KernelInProjDx0.τ Cert.KernelInProjDx0.sig) → Buf (Elt Bits) ℓ) (g : Dev Cert.KernelInProjDx0.nD → PrngReg), Pre_KernelInProjDx0 m →
    θ_run (Cert.KernelInProjDx0.defs (F := Bits)) (onTc (τ := Cert.KernelInProjDx0.τ) (Cert.KernelInProjDx0.main (F := Bits))) ⟨m, fun _ => 0, g⟩ (fun r => (∀ c : Dev Cert.KernelInProjDx0.nD,
      r.2.mem ((c.tc : Thread Cert.KernelInProjDx0.nD Cert.KernelInProjDx0.τ).loc Cert.KernelInProjDx0.main_arg0) = m ((c.tc : Thread Cert.KernelInProjDx0.nD Cert.KernelInProjDx0.τ).loc Cert.KernelInProjDx0.main_arg0)
      ∧ r.2.mem ((c.tc : Thread Cert.KernelInProjDx0.nD Cert.KernelInProjDx0.τ).loc Cert.KernelInProjDx0.main_arg1) = m ((c.tc : Thread Cert.KernelInProjDx0.nD Cert.KernelInProjDx0.τ).loc Cert.KernelInProjDx0.main_arg1)
      ∧ r.2.mem ((c.tc : Thread Cert.KernelInProjDx0.nD Cert.KernelInProjDx0.τ).loc Cert.KernelInProjDx0.main_arg2) = m ((c.tc : Thread Cert.KernelInProjDx0.nD Cert.KernelInProjDx0.τ).loc Cert.KernelInProjDx0.main_arg2))
      ∧ r.2.sem = fun _ => 0)

def quiescent_KernelInProjDx0Ideal [hKernelInProjDx0Ideal : Cert.KernelInProjDx0Ideal.Facts] : Prop :=
  ∀ (m : (ℓ : Loc Cert.KernelInProjDx0Ideal.nD Cert.KernelInProjDx0Ideal.τ Cert.KernelInProjDx0Ideal.sig) → Buf (Elt Ideal) ℓ) (g : Dev Cert.KernelInProjDx0Ideal.nD → PrngReg), Pre_KernelInProjDx0Ideal m →
    θ_run (Cert.KernelInProjDx0Ideal.defs (F := Ideal)) (onTc (τ := Cert.KernelInProjDx0Ideal.τ) (Cert.KernelInProjDx0Ideal.main (F := Ideal))) ⟨m, fun _ => 0, g⟩ (fun r => (∀ c : Dev Cert.KernelInProjDx0Ideal.nD,
      r.2.mem ((c.tc : Thread Cert.KernelInProjDx0Ideal.nD Cert.KernelInProjDx0Ideal.τ).loc Cert.KernelInProjDx0Ideal.main_arg0) = m ((c.tc : Thread Cert.KernelInProjDx0Ideal.nD Cert.KernelInProjDx0Ideal.τ).loc Cert.KernelInProjDx0Ideal.main_arg0)
      ∧ r.2.mem ((c.tc : Thread Cert.KernelInProjDx0Ideal.nD Cert.KernelInProjDx0Ideal.τ).loc Cert.KernelInProjDx0Ideal.main_arg1) = m ((c.tc : Thread Cert.KernelInProjDx0Ideal.nD Cert.KernelInProjDx0Ideal.τ).loc Cert.KernelInProjDx0Ideal.main_arg1)
      ∧ r.2.mem ((c.tc : Thread Cert.KernelInProjDx0Ideal.nD Cert.KernelInProjDx0Ideal.τ).loc Cert.KernelInProjDx0Ideal.main_arg2) = m ((c.tc : Thread Cert.KernelInProjDx0Ideal.nD Cert.KernelInProjDx0Ideal.τ).loc Cert.KernelInProjDx0Ideal.main_arg2))
      ∧ r.2.sem = fun _ => 0)

def quiescent_ReferenceInProjDx0Ideal [hReferenceInProjDx0Ideal : Cert.ReferenceInProjDx0Ideal.Facts] : Prop :=
  ∀ (m : (ℓ : Loc Cert.ReferenceInProjDx0Ideal.nD Cert.ReferenceInProjDx0Ideal.τ Cert.ReferenceInProjDx0Ideal.sig) → Buf (Elt Ideal) ℓ) (g : Dev Cert.ReferenceInProjDx0Ideal.nD → PrngReg), Pre_ReferenceInProjDx0Ideal m →
    θ_run (Cert.ReferenceInProjDx0Ideal.defs (F := Ideal)) (onTc (τ := Cert.ReferenceInProjDx0Ideal.τ) (Cert.ReferenceInProjDx0Ideal.main (F := Ideal))) ⟨m, fun _ => 0, g⟩ (fun r => (∀ c : Dev Cert.ReferenceInProjDx0Ideal.nD,
      r.2.mem ((c.tc : Thread Cert.ReferenceInProjDx0Ideal.nD Cert.ReferenceInProjDx0Ideal.τ).loc Cert.ReferenceInProjDx0Ideal.main_arg0) = m ((c.tc : Thread Cert.ReferenceInProjDx0Ideal.nD Cert.ReferenceInProjDx0Ideal.τ).loc Cert.ReferenceInProjDx0Ideal.main_arg0)
      ∧ r.2.mem ((c.tc : Thread Cert.ReferenceInProjDx0Ideal.nD Cert.ReferenceInProjDx0Ideal.τ).loc Cert.ReferenceInProjDx0Ideal.main_arg1) = m ((c.tc : Thread Cert.ReferenceInProjDx0Ideal.nD Cert.ReferenceInProjDx0Ideal.τ).loc Cert.ReferenceInProjDx0Ideal.main_arg1)
      ∧ r.2.mem ((c.tc : Thread Cert.ReferenceInProjDx0Ideal.nD Cert.ReferenceInProjDx0Ideal.τ).loc Cert.ReferenceInProjDx0Ideal.main_arg2) = m ((c.tc : Thread Cert.ReferenceInProjDx0Ideal.nD Cert.ReferenceInProjDx0Ideal.τ).loc Cert.ReferenceInProjDx0Ideal.main_arg2))
      ∧ r.2.sem = fun _ => 0)

def quiescent_KernelInProjDx1 [hKernelInProjDx1 : Cert.KernelInProjDx1.Facts] : Prop :=
  ∀ (m : (ℓ : Loc Cert.KernelInProjDx1.nD Cert.KernelInProjDx1.τ Cert.KernelInProjDx1.sig) → Buf (Elt Bits) ℓ) (g : Dev Cert.KernelInProjDx1.nD → PrngReg), Pre_KernelInProjDx1 m →
    θ_run (Cert.KernelInProjDx1.defs (F := Bits)) (onTc (τ := Cert.KernelInProjDx1.τ) (Cert.KernelInProjDx1.main (F := Bits))) ⟨m, fun _ => 0, g⟩ (fun r => (∀ c : Dev Cert.KernelInProjDx1.nD,
      r.2.mem ((c.tc : Thread Cert.KernelInProjDx1.nD Cert.KernelInProjDx1.τ).loc Cert.KernelInProjDx1.main_arg0) = m ((c.tc : Thread Cert.KernelInProjDx1.nD Cert.KernelInProjDx1.τ).loc Cert.KernelInProjDx1.main_arg0)
      ∧ r.2.mem ((c.tc : Thread Cert.KernelInProjDx1.nD Cert.KernelInProjDx1.τ).loc Cert.KernelInProjDx1.main_arg1) = m ((c.tc : Thread Cert.KernelInProjDx1.nD Cert.KernelInProjDx1.τ).loc Cert.KernelInProjDx1.main_arg1)
      ∧ r.2.mem ((c.tc : Thread Cert.KernelInProjDx1.nD Cert.KernelInProjDx1.τ).loc Cert.KernelInProjDx1.main_arg2) = m ((c.tc : Thread Cert.KernelInProjDx1.nD Cert.KernelInProjDx1.τ).loc Cert.KernelInProjDx1.main_arg2))
      ∧ r.2.sem = fun _ => 0)

def quiescent_KernelInProjDx1Ideal [hKernelInProjDx1Ideal : Cert.KernelInProjDx1Ideal.Facts] : Prop :=
  ∀ (m : (ℓ : Loc Cert.KernelInProjDx1Ideal.nD Cert.KernelInProjDx1Ideal.τ Cert.KernelInProjDx1Ideal.sig) → Buf (Elt Ideal) ℓ) (g : Dev Cert.KernelInProjDx1Ideal.nD → PrngReg), Pre_KernelInProjDx1Ideal m →
    θ_run (Cert.KernelInProjDx1Ideal.defs (F := Ideal)) (onTc (τ := Cert.KernelInProjDx1Ideal.τ) (Cert.KernelInProjDx1Ideal.main (F := Ideal))) ⟨m, fun _ => 0, g⟩ (fun r => (∀ c : Dev Cert.KernelInProjDx1Ideal.nD,
      r.2.mem ((c.tc : Thread Cert.KernelInProjDx1Ideal.nD Cert.KernelInProjDx1Ideal.τ).loc Cert.KernelInProjDx1Ideal.main_arg0) = m ((c.tc : Thread Cert.KernelInProjDx1Ideal.nD Cert.KernelInProjDx1Ideal.τ).loc Cert.KernelInProjDx1Ideal.main_arg0)
      ∧ r.2.mem ((c.tc : Thread Cert.KernelInProjDx1Ideal.nD Cert.KernelInProjDx1Ideal.τ).loc Cert.KernelInProjDx1Ideal.main_arg1) = m ((c.tc : Thread Cert.KernelInProjDx1Ideal.nD Cert.KernelInProjDx1Ideal.τ).loc Cert.KernelInProjDx1Ideal.main_arg1)
      ∧ r.2.mem ((c.tc : Thread Cert.KernelInProjDx1Ideal.nD Cert.KernelInProjDx1Ideal.τ).loc Cert.KernelInProjDx1Ideal.main_arg2) = m ((c.tc : Thread Cert.KernelInProjDx1Ideal.nD Cert.KernelInProjDx1Ideal.τ).loc Cert.KernelInProjDx1Ideal.main_arg2))
      ∧ r.2.sem = fun _ => 0)

def quiescent_ReferenceInProjDx1Ideal [hReferenceInProjDx1Ideal : Cert.ReferenceInProjDx1Ideal.Facts] : Prop :=
  ∀ (m : (ℓ : Loc Cert.ReferenceInProjDx1Ideal.nD Cert.ReferenceInProjDx1Ideal.τ Cert.ReferenceInProjDx1Ideal.sig) → Buf (Elt Ideal) ℓ) (g : Dev Cert.ReferenceInProjDx1Ideal.nD → PrngReg), Pre_ReferenceInProjDx1Ideal m →
    θ_run (Cert.ReferenceInProjDx1Ideal.defs (F := Ideal)) (onTc (τ := Cert.ReferenceInProjDx1Ideal.τ) (Cert.ReferenceInProjDx1Ideal.main (F := Ideal))) ⟨m, fun _ => 0, g⟩ (fun r => (∀ c : Dev Cert.ReferenceInProjDx1Ideal.nD,
      r.2.mem ((c.tc : Thread Cert.ReferenceInProjDx1Ideal.nD Cert.ReferenceInProjDx1Ideal.τ).loc Cert.ReferenceInProjDx1Ideal.main_arg0) = m ((c.tc : Thread Cert.ReferenceInProjDx1Ideal.nD Cert.ReferenceInProjDx1Ideal.τ).loc Cert.ReferenceInProjDx1Ideal.main_arg0)
      ∧ r.2.mem ((c.tc : Thread Cert.ReferenceInProjDx1Ideal.nD Cert.ReferenceInProjDx1Ideal.τ).loc Cert.ReferenceInProjDx1Ideal.main_arg1) = m ((c.tc : Thread Cert.ReferenceInProjDx1Ideal.nD Cert.ReferenceInProjDx1Ideal.τ).loc Cert.ReferenceInProjDx1Ideal.main_arg1)
      ∧ r.2.mem ((c.tc : Thread Cert.ReferenceInProjDx1Ideal.nD Cert.ReferenceInProjDx1Ideal.τ).loc Cert.ReferenceInProjDx1Ideal.main_arg2) = m ((c.tc : Thread Cert.ReferenceInProjDx1Ideal.nD Cert.ReferenceInProjDx1Ideal.τ).loc Cert.ReferenceInProjDx1Ideal.main_arg2))
      ∧ r.2.sem = fun _ => 0)

def quiescent_KernelSbOutProj0 [hKernelSbOutProj0 : Cert.KernelSbOutProj0.Facts] : Prop :=
  ∀ (m : (ℓ : Loc Cert.KernelSbOutProj0.nD Cert.KernelSbOutProj0.τ Cert.KernelSbOutProj0.sig) → Buf (Elt Bits) ℓ) (g : Dev Cert.KernelSbOutProj0.nD → PrngReg), Pre_KernelSbOutProj0 m →
    θ_run (Cert.KernelSbOutProj0.defs (F := Bits)) (onTc (τ := Cert.KernelSbOutProj0.τ) (Cert.KernelSbOutProj0.main (F := Bits))) ⟨m, fun _ => 0, g⟩ (fun r => (∀ c : Dev Cert.KernelSbOutProj0.nD,
      r.2.mem ((c.tc : Thread Cert.KernelSbOutProj0.nD Cert.KernelSbOutProj0.τ).loc Cert.KernelSbOutProj0.main_arg0) = m ((c.tc : Thread Cert.KernelSbOutProj0.nD Cert.KernelSbOutProj0.τ).loc Cert.KernelSbOutProj0.main_arg0)
      ∧ r.2.mem ((c.tc : Thread Cert.KernelSbOutProj0.nD Cert.KernelSbOutProj0.τ).loc Cert.KernelSbOutProj0.main_arg1) = m ((c.tc : Thread Cert.KernelSbOutProj0.nD Cert.KernelSbOutProj0.τ).loc Cert.KernelSbOutProj0.main_arg1))
      ∧ r.2.sem = fun _ => 0)

def quiescent_KernelSbOutProj0Ideal [hKernelSbOutProj0Ideal : Cert.KernelSbOutProj0Ideal.Facts] : Prop :=
  ∀ (m : (ℓ : Loc Cert.KernelSbOutProj0Ideal.nD Cert.KernelSbOutProj0Ideal.τ Cert.KernelSbOutProj0Ideal.sig) → Buf (Elt Ideal) ℓ) (g : Dev Cert.KernelSbOutProj0Ideal.nD → PrngReg), Pre_KernelSbOutProj0Ideal m →
    θ_run (Cert.KernelSbOutProj0Ideal.defs (F := Ideal)) (onTc (τ := Cert.KernelSbOutProj0Ideal.τ) (Cert.KernelSbOutProj0Ideal.main (F := Ideal))) ⟨m, fun _ => 0, g⟩ (fun r => (∀ c : Dev Cert.KernelSbOutProj0Ideal.nD,
      r.2.mem ((c.tc : Thread Cert.KernelSbOutProj0Ideal.nD Cert.KernelSbOutProj0Ideal.τ).loc Cert.KernelSbOutProj0Ideal.main_arg0) = m ((c.tc : Thread Cert.KernelSbOutProj0Ideal.nD Cert.KernelSbOutProj0Ideal.τ).loc Cert.KernelSbOutProj0Ideal.main_arg0)
      ∧ r.2.mem ((c.tc : Thread Cert.KernelSbOutProj0Ideal.nD Cert.KernelSbOutProj0Ideal.τ).loc Cert.KernelSbOutProj0Ideal.main_arg1) = m ((c.tc : Thread Cert.KernelSbOutProj0Ideal.nD Cert.KernelSbOutProj0Ideal.τ).loc Cert.KernelSbOutProj0Ideal.main_arg1))
      ∧ r.2.sem = fun _ => 0)

def quiescent_ReferenceSbOutProj0Ideal [hReferenceSbOutProj0Ideal : Cert.ReferenceSbOutProj0Ideal.Facts] : Prop :=
  ∀ (m : (ℓ : Loc Cert.ReferenceSbOutProj0Ideal.nD Cert.ReferenceSbOutProj0Ideal.τ Cert.ReferenceSbOutProj0Ideal.sig) → Buf (Elt Ideal) ℓ) (g : Dev Cert.ReferenceSbOutProj0Ideal.nD → PrngReg), Pre_ReferenceSbOutProj0Ideal m →
    θ_run (Cert.ReferenceSbOutProj0Ideal.defs (F := Ideal)) (onTc (τ := Cert.ReferenceSbOutProj0Ideal.τ) (Cert.ReferenceSbOutProj0Ideal.main (F := Ideal))) ⟨m, fun _ => 0, g⟩ (fun r => (∀ c : Dev Cert.ReferenceSbOutProj0Ideal.nD,
      r.2.mem ((c.tc : Thread Cert.ReferenceSbOutProj0Ideal.nD Cert.ReferenceSbOutProj0Ideal.τ).loc Cert.ReferenceSbOutProj0Ideal.main_arg0) = m ((c.tc : Thread Cert.ReferenceSbOutProj0Ideal.nD Cert.ReferenceSbOutProj0Ideal.τ).loc Cert.ReferenceSbOutProj0Ideal.main_arg0)
      ∧ r.2.mem ((c.tc : Thread Cert.ReferenceSbOutProj0Ideal.nD Cert.ReferenceSbOutProj0Ideal.τ).loc Cert.ReferenceSbOutProj0Ideal.main_arg1) = m ((c.tc : Thread Cert.ReferenceSbOutProj0Ideal.nD Cert.ReferenceSbOutProj0Ideal.τ).loc Cert.ReferenceSbOutProj0Ideal.main_arg1))
      ∧ r.2.sem = fun _ => 0)

def quiescent_KernelSbOutProj1 [hKernelSbOutProj1 : Cert.KernelSbOutProj1.Facts] : Prop :=
  ∀ (m : (ℓ : Loc Cert.KernelSbOutProj1.nD Cert.KernelSbOutProj1.τ Cert.KernelSbOutProj1.sig) → Buf (Elt Bits) ℓ) (g : Dev Cert.KernelSbOutProj1.nD → PrngReg), Pre_KernelSbOutProj1 m →
    θ_run (Cert.KernelSbOutProj1.defs (F := Bits)) (onTc (τ := Cert.KernelSbOutProj1.τ) (Cert.KernelSbOutProj1.main (F := Bits))) ⟨m, fun _ => 0, g⟩ (fun r => (∀ c : Dev Cert.KernelSbOutProj1.nD,
      r.2.mem ((c.tc : Thread Cert.KernelSbOutProj1.nD Cert.KernelSbOutProj1.τ).loc Cert.KernelSbOutProj1.main_arg0) = m ((c.tc : Thread Cert.KernelSbOutProj1.nD Cert.KernelSbOutProj1.τ).loc Cert.KernelSbOutProj1.main_arg0)
      ∧ r.2.mem ((c.tc : Thread Cert.KernelSbOutProj1.nD Cert.KernelSbOutProj1.τ).loc Cert.KernelSbOutProj1.main_arg1) = m ((c.tc : Thread Cert.KernelSbOutProj1.nD Cert.KernelSbOutProj1.τ).loc Cert.KernelSbOutProj1.main_arg1))
      ∧ r.2.sem = fun _ => 0)

def quiescent_KernelSbOutProj1Ideal [hKernelSbOutProj1Ideal : Cert.KernelSbOutProj1Ideal.Facts] : Prop :=
  ∀ (m : (ℓ : Loc Cert.KernelSbOutProj1Ideal.nD Cert.KernelSbOutProj1Ideal.τ Cert.KernelSbOutProj1Ideal.sig) → Buf (Elt Ideal) ℓ) (g : Dev Cert.KernelSbOutProj1Ideal.nD → PrngReg), Pre_KernelSbOutProj1Ideal m →
    θ_run (Cert.KernelSbOutProj1Ideal.defs (F := Ideal)) (onTc (τ := Cert.KernelSbOutProj1Ideal.τ) (Cert.KernelSbOutProj1Ideal.main (F := Ideal))) ⟨m, fun _ => 0, g⟩ (fun r => (∀ c : Dev Cert.KernelSbOutProj1Ideal.nD,
      r.2.mem ((c.tc : Thread Cert.KernelSbOutProj1Ideal.nD Cert.KernelSbOutProj1Ideal.τ).loc Cert.KernelSbOutProj1Ideal.main_arg0) = m ((c.tc : Thread Cert.KernelSbOutProj1Ideal.nD Cert.KernelSbOutProj1Ideal.τ).loc Cert.KernelSbOutProj1Ideal.main_arg0)
      ∧ r.2.mem ((c.tc : Thread Cert.KernelSbOutProj1Ideal.nD Cert.KernelSbOutProj1Ideal.τ).loc Cert.KernelSbOutProj1Ideal.main_arg1) = m ((c.tc : Thread Cert.KernelSbOutProj1Ideal.nD Cert.KernelSbOutProj1Ideal.τ).loc Cert.KernelSbOutProj1Ideal.main_arg1))
      ∧ r.2.sem = fun _ => 0)

def quiescent_ReferenceSbOutProj1Ideal [hReferenceSbOutProj1Ideal : Cert.ReferenceSbOutProj1Ideal.Facts] : Prop :=
  ∀ (m : (ℓ : Loc Cert.ReferenceSbOutProj1Ideal.nD Cert.ReferenceSbOutProj1Ideal.τ Cert.ReferenceSbOutProj1Ideal.sig) → Buf (Elt Ideal) ℓ) (g : Dev Cert.ReferenceSbOutProj1Ideal.nD → PrngReg), Pre_ReferenceSbOutProj1Ideal m →
    θ_run (Cert.ReferenceSbOutProj1Ideal.defs (F := Ideal)) (onTc (τ := Cert.ReferenceSbOutProj1Ideal.τ) (Cert.ReferenceSbOutProj1Ideal.main (F := Ideal))) ⟨m, fun _ => 0, g⟩ (fun r => (∀ c : Dev Cert.ReferenceSbOutProj1Ideal.nD,
      r.2.mem ((c.tc : Thread Cert.ReferenceSbOutProj1Ideal.nD Cert.ReferenceSbOutProj1Ideal.τ).loc Cert.ReferenceSbOutProj1Ideal.main_arg0) = m ((c.tc : Thread Cert.ReferenceSbOutProj1Ideal.nD Cert.ReferenceSbOutProj1Ideal.τ).loc Cert.ReferenceSbOutProj1Ideal.main_arg0)
      ∧ r.2.mem ((c.tc : Thread Cert.ReferenceSbOutProj1Ideal.nD Cert.ReferenceSbOutProj1Ideal.τ).loc Cert.ReferenceSbOutProj1Ideal.main_arg1) = m ((c.tc : Thread Cert.ReferenceSbOutProj1Ideal.nD Cert.ReferenceSbOutProj1Ideal.τ).loc Cert.ReferenceSbOutProj1Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_v148) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v149) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelFfnInDw_KernelFfnInDwIdeal : Prop :=
  True

def algebraic_KernelFfnInDwIdeal_ReferenceFfnInDwIdeal [hKernelFfnInDwIdeal : Cert.KernelFfnInDwIdeal.Facts] [hReferenceFfnInDwIdeal : Cert.ReferenceFfnInDwIdeal.Facts] : Prop :=
  ∀ (m : (ℓ : Loc Cert.KernelFfnInDwIdeal.nD Cert.KernelFfnInDwIdeal.τ Cert.KernelFfnInDwIdeal.sig) → Buf (Elt Ideal) ℓ) (g : Dev Cert.KernelFfnInDwIdeal.nD → PrngReg)
    (m' : (ℓ : Loc Cert.ReferenceFfnInDwIdeal.nD Cert.ReferenceFfnInDwIdeal.τ Cert.ReferenceFfnInDwIdeal.sig) → Buf (Elt Ideal) ℓ) (g' : Dev Cert.ReferenceFfnInDwIdeal.nD → PrngReg), Pre_KernelFfnInDwIdeal m →
    (∀ c : Dev Cert.KernelFfnInDwIdeal.nD,
      m' ((c.tc : Thread Cert.ReferenceFfnInDwIdeal.nD Cert.ReferenceFfnInDwIdeal.τ).loc Cert.ReferenceFfnInDwIdeal.main_arg0) = m ((c.tc : Thread Cert.KernelFfnInDwIdeal.nD Cert.KernelFfnInDwIdeal.τ).loc Cert.KernelFfnInDwIdeal.main_arg0)
      ∧ m' ((c.tc : Thread Cert.ReferenceFfnInDwIdeal.nD Cert.ReferenceFfnInDwIdeal.τ).loc Cert.ReferenceFfnInDwIdeal.main_arg1) = m ((c.tc : Thread Cert.KernelFfnInDwIdeal.nD Cert.KernelFfnInDwIdeal.τ).loc Cert.KernelFfnInDwIdeal.main_arg1)) →
    ∃ (v0 : (c : Dev Cert.KernelFfnInDwIdeal.nD) → Buf (Elt Ideal) ((c.tc : Thread Cert.KernelFfnInDwIdeal.nD Cert.KernelFfnInDwIdeal.τ).loc Cert.KernelFfnInDwIdeal.main_v0)),
      θ_run (Cert.KernelFfnInDwIdeal.defs (F := Ideal)) (onTc (τ := Cert.KernelFfnInDwIdeal.τ) (Cert.KernelFfnInDwIdeal.main (F := Ideal))) ⟨m, fun _ => 0, g⟩ (fun r => ∀ c : Dev Cert.KernelFfnInDwIdeal.nD,
          r.2.mem ((c.tc : Thread Cert.KernelFfnInDwIdeal.nD Cert.KernelFfnInDwIdeal.τ).loc Cert.KernelFfnInDwIdeal.main_v0) = v0 c
          ∧ r.2.mem ((c.tc : Thread Cert.KernelFfnInDwIdeal.nD Cert.KernelFfnInDwIdeal.τ).loc Cert.KernelFfnInDwIdeal.main_arg0) = m ((c.tc : Thread Cert.KernelFfnInDwIdeal.nD Cert.KernelFfnInDwIdeal.τ).loc Cert.KernelFfnInDwIdeal.main_arg0)
          ∧ r.2.mem ((c.tc : Thread Cert.KernelFfnInDwIdeal.nD Cert.KernelFfnInDwIdeal.τ).loc Cert.KernelFfnInDwIdeal.main_arg1) = m ((c.tc : Thread Cert.KernelFfnInDwIdeal.nD Cert.KernelFfnInDwIdeal.τ).loc Cert.KernelFfnInDwIdeal.main_arg1))
      ∧ θ_run (Cert.ReferenceFfnInDwIdeal.defs (F := Ideal)) (onTc (τ := Cert.ReferenceFfnInDwIdeal.τ) (Cert.ReferenceFfnInDwIdeal.main (F := Ideal))) ⟨m', fun _ => 0, g'⟩ (fun r => ∀ c : Dev Cert.ReferenceFfnInDwIdeal.nD,
          r.2.mem ((c.tc : Thread Cert.ReferenceFfnInDwIdeal.nD Cert.ReferenceFfnInDwIdeal.τ).loc Cert.ReferenceFfnInDwIdeal.main_v4) = v0 c
          ∧ r.2.mem ((c.tc : Thread Cert.ReferenceFfnInDwIdeal.nD Cert.ReferenceFfnInDwIdeal.τ).loc Cert.ReferenceFfnInDwIdeal.main_arg0) = m' ((c.tc : Thread Cert.ReferenceFfnInDwIdeal.nD Cert.ReferenceFfnInDwIdeal.τ).loc Cert.ReferenceFfnInDwIdeal.main_arg0)
          ∧ r.2.mem ((c.tc : Thread Cert.ReferenceFfnInDwIdeal.nD Cert.ReferenceFfnInDwIdeal.τ).loc Cert.ReferenceFfnInDwIdeal.main_arg1) = m' ((c.tc : Thread Cert.ReferenceFfnInDwIdeal.nD Cert.ReferenceFfnInDwIdeal.τ).loc Cert.ReferenceFfnInDwIdeal.main_arg1))

def preserves_KernelFfnOutDw_KernelFfnOutDwIdeal : Prop :=
  True

def algebraic_KernelFfnOutDwIdeal_ReferenceFfnOutDwIdeal [hKernelFfnOutDwIdeal : Cert.KernelFfnOutDwIdeal.Facts] [hReferenceFfnOutDwIdeal : Cert.ReferenceFfnOutDwIdeal.Facts] : Prop :=
  ∀ (m : (ℓ : Loc Cert.KernelFfnOutDwIdeal.nD Cert.KernelFfnOutDwIdeal.τ Cert.KernelFfnOutDwIdeal.sig) → Buf (Elt Ideal) ℓ) (g : Dev Cert.KernelFfnOutDwIdeal.nD → PrngReg)
    (m' : (ℓ : Loc Cert.ReferenceFfnOutDwIdeal.nD Cert.ReferenceFfnOutDwIdeal.τ Cert.ReferenceFfnOutDwIdeal.sig) → Buf (Elt Ideal) ℓ) (g' : Dev Cert.ReferenceFfnOutDwIdeal.nD → PrngReg), Pre_KernelFfnOutDwIdeal m →
    (∀ c : Dev Cert.KernelFfnOutDwIdeal.nD,
      m' ((c.tc : Thread Cert.ReferenceFfnOutDwIdeal.nD Cert.ReferenceFfnOutDwIdeal.τ).loc Cert.ReferenceFfnOutDwIdeal.main_arg0) = m ((c.tc : Thread Cert.KernelFfnOutDwIdeal.nD Cert.KernelFfnOutDwIdeal.τ).loc Cert.KernelFfnOutDwIdeal.main_arg0)
      ∧ m' ((c.tc : Thread Cert.ReferenceFfnOutDwIdeal.nD Cert.ReferenceFfnOutDwIdeal.τ).loc Cert.ReferenceFfnOutDwIdeal.main_arg1) = m ((c.tc : Thread Cert.KernelFfnOutDwIdeal.nD Cert.KernelFfnOutDwIdeal.τ).loc Cert.KernelFfnOutDwIdeal.main_arg1)) →
    ∃ (v0 : (c : Dev Cert.KernelFfnOutDwIdeal.nD) → Buf (Elt Ideal) ((c.tc : Thread Cert.KernelFfnOutDwIdeal.nD Cert.KernelFfnOutDwIdeal.τ).loc Cert.KernelFfnOutDwIdeal.main_v0)),
      θ_run (Cert.KernelFfnOutDwIdeal.defs (F := Ideal)) (onTc (τ := Cert.KernelFfnOutDwIdeal.τ) (Cert.KernelFfnOutDwIdeal.main (F := Ideal))) ⟨m, fun _ => 0, g⟩ (fun r => ∀ c : Dev Cert.KernelFfnOutDwIdeal.nD,
          r.2.mem ((c.tc : Thread Cert.KernelFfnOutDwIdeal.nD Cert.KernelFfnOutDwIdeal.τ).loc Cert.KernelFfnOutDwIdeal.main_v0) = v0 c
          ∧ r.2.mem ((c.tc : Thread Cert.KernelFfnOutDwIdeal.nD Cert.KernelFfnOutDwIdeal.τ).loc Cert.KernelFfnOutDwIdeal.main_arg0) = m ((c.tc : Thread Cert.KernelFfnOutDwIdeal.nD Cert.KernelFfnOutDwIdeal.τ).loc Cert.KernelFfnOutDwIdeal.main_arg0)
          ∧ r.2.mem ((c.tc : Thread Cert.KernelFfnOutDwIdeal.nD Cert.KernelFfnOutDwIdeal.τ).loc Cert.KernelFfnOutDwIdeal.main_arg1) = m ((c.tc : Thread Cert.KernelFfnOutDwIdeal.nD Cert.KernelFfnOutDwIdeal.τ).loc Cert.KernelFfnOutDwIdeal.main_arg1))
      ∧ θ_run (Cert.ReferenceFfnOutDwIdeal.defs (F := Ideal)) (onTc (τ := Cert.ReferenceFfnOutDwIdeal.τ) (Cert.ReferenceFfnOutDwIdeal.main (F := Ideal))) ⟨m', fun _ => 0, g'⟩ (fun r => ∀ c : Dev Cert.ReferenceFfnOutDwIdeal.nD,
          r.2.mem ((c.tc : Thread Cert.ReferenceFfnOutDwIdeal.nD Cert.ReferenceFfnOutDwIdeal.τ).loc Cert.ReferenceFfnOutDwIdeal.main_v5) = v0 c
          ∧ r.2.mem ((c.tc : Thread Cert.ReferenceFfnOutDwIdeal.nD Cert.ReferenceFfnOutDwIdeal.τ).loc Cert.ReferenceFfnOutDwIdeal.main_arg0) = m' ((c.tc : Thread Cert.ReferenceFfnOutDwIdeal.nD Cert.ReferenceFfnOutDwIdeal.τ).loc Cert.ReferenceFfnOutDwIdeal.main_arg0)
          ∧ r.2.mem ((c.tc : Thread Cert.ReferenceFfnOutDwIdeal.nD Cert.ReferenceFfnOutDwIdeal.τ).loc Cert.ReferenceFfnOutDwIdeal.main_arg1) = m' ((c.tc : Thread Cert.ReferenceFfnOutDwIdeal.nD Cert.ReferenceFfnOutDwIdeal.τ).loc Cert.ReferenceFfnOutDwIdeal.main_arg1))

def preserves_KernelMemODw_KernelMemODwIdeal : Prop :=
  True

def algebraic_KernelMemODwIdeal_ReferenceMemODwIdeal [hKernelMemODwIdeal : Cert.KernelMemODwIdeal.Facts] [hReferenceMemODwIdeal : Cert.ReferenceMemODwIdeal.Facts] : Prop :=
  ∀ (m : (ℓ : Loc Cert.KernelMemODwIdeal.nD Cert.KernelMemODwIdeal.τ Cert.KernelMemODwIdeal.sig) → Buf (Elt Ideal) ℓ) (g : Dev Cert.KernelMemODwIdeal.nD → PrngReg)
    (m' : (ℓ : Loc Cert.ReferenceMemODwIdeal.nD Cert.ReferenceMemODwIdeal.τ Cert.ReferenceMemODwIdeal.sig) → Buf (Elt Ideal) ℓ) (g' : Dev Cert.ReferenceMemODwIdeal.nD → PrngReg), Pre_KernelMemODwIdeal m →
    (∀ c : Dev Cert.KernelMemODwIdeal.nD,
      m' ((c.tc : Thread Cert.ReferenceMemODwIdeal.nD Cert.ReferenceMemODwIdeal.τ).loc Cert.ReferenceMemODwIdeal.main_arg0) = m ((c.tc : Thread Cert.KernelMemODwIdeal.nD Cert.KernelMemODwIdeal.τ).loc Cert.KernelMemODwIdeal.main_arg0)
      ∧ m' ((c.tc : Thread Cert.ReferenceMemODwIdeal.nD Cert.ReferenceMemODwIdeal.τ).loc Cert.ReferenceMemODwIdeal.main_arg1) = m ((c.tc : Thread Cert.KernelMemODwIdeal.nD Cert.KernelMemODwIdeal.τ).loc Cert.KernelMemODwIdeal.main_arg1)) →
    ∃ (v0 : (c : Dev Cert.KernelMemODwIdeal.nD) → Buf (Elt Ideal) ((c.tc : Thread Cert.KernelMemODwIdeal.nD Cert.KernelMemODwIdeal.τ).loc Cert.KernelMemODwIdeal.main_v0)),
      θ_run (Cert.KernelMemODwIdeal.defs (F := Ideal)) (onTc (τ := Cert.KernelMemODwIdeal.τ) (Cert.KernelMemODwIdeal.main (F := Ideal))) ⟨m, fun _ => 0, g⟩ (fun r => ∀ c : Dev Cert.KernelMemODwIdeal.nD,
          r.2.mem ((c.tc : Thread Cert.KernelMemODwIdeal.nD Cert.KernelMemODwIdeal.τ).loc Cert.KernelMemODwIdeal.main_v0) = v0 c
          ∧ r.2.mem ((c.tc : Thread Cert.KernelMemODwIdeal.nD Cert.KernelMemODwIdeal.τ).loc Cert.KernelMemODwIdeal.main_arg0) = m ((c.tc : Thread Cert.KernelMemODwIdeal.nD Cert.KernelMemODwIdeal.τ).loc Cert.KernelMemODwIdeal.main_arg0)
          ∧ r.2.mem ((c.tc : Thread Cert.KernelMemODwIdeal.nD Cert.KernelMemODwIdeal.τ).loc Cert.KernelMemODwIdeal.main_arg1) = m ((c.tc : Thread Cert.KernelMemODwIdeal.nD Cert.KernelMemODwIdeal.τ).loc Cert.KernelMemODwIdeal.main_arg1))
      ∧ θ_run (Cert.ReferenceMemODwIdeal.defs (F := Ideal)) (onTc (τ := Cert.ReferenceMemODwIdeal.τ) (Cert.ReferenceMemODwIdeal.main (F := Ideal))) ⟨m', fun _ => 0, g'⟩ (fun r => ∀ c : Dev Cert.ReferenceMemODwIdeal.nD,
          r.2.mem ((c.tc : Thread Cert.ReferenceMemODwIdeal.nD Cert.ReferenceMemODwIdeal.τ).loc Cert.ReferenceMemODwIdeal.main_v5) = v0 c
          ∧ r.2.mem ((c.tc : Thread Cert.ReferenceMemODwIdeal.nD Cert.ReferenceMemODwIdeal.τ).loc Cert.ReferenceMemODwIdeal.main_arg0) = m' ((c.tc : Thread Cert.ReferenceMemODwIdeal.nD Cert.ReferenceMemODwIdeal.τ).loc Cert.ReferenceMemODwIdeal.main_arg0)
          ∧ r.2.mem ((c.tc : Thread Cert.ReferenceMemODwIdeal.nD Cert.ReferenceMemODwIdeal.τ).loc Cert.ReferenceMemODwIdeal.main_arg1) = m' ((c.tc : Thread Cert.ReferenceMemODwIdeal.nD Cert.ReferenceMemODwIdeal.τ).loc Cert.ReferenceMemODwIdeal.main_arg1))

def preserves_KernelMemQDw_KernelMemQDwIdeal : Prop :=
  True

def algebraic_KernelMemQDwIdeal_ReferenceMemQDwIdeal [hKernelMemQDwIdeal : Cert.KernelMemQDwIdeal.Facts] [hReferenceMemQDwIdeal : Cert.ReferenceMemQDwIdeal.Facts] : Prop :=
  ∀ (m : (ℓ : Loc Cert.KernelMemQDwIdeal.nD Cert.KernelMemQDwIdeal.τ Cert.KernelMemQDwIdeal.sig) → Buf (Elt Ideal) ℓ) (g : Dev Cert.KernelMemQDwIdeal.nD → PrngReg)
    (m' : (ℓ : Loc Cert.ReferenceMemQDwIdeal.nD Cert.ReferenceMemQDwIdeal.τ Cert.ReferenceMemQDwIdeal.sig) → Buf (Elt Ideal) ℓ) (g' : Dev Cert.ReferenceMemQDwIdeal.nD → PrngReg), Pre_KernelMemQDwIdeal m →
    (∀ c : Dev Cert.KernelMemQDwIdeal.nD,
      m' ((c.tc : Thread Cert.ReferenceMemQDwIdeal.nD Cert.ReferenceMemQDwIdeal.τ).loc Cert.ReferenceMemQDwIdeal.main_arg0) = m ((c.tc : Thread Cert.KernelMemQDwIdeal.nD Cert.KernelMemQDwIdeal.τ).loc Cert.KernelMemQDwIdeal.main_arg0)
      ∧ m' ((c.tc : Thread Cert.ReferenceMemQDwIdeal.nD Cert.ReferenceMemQDwIdeal.τ).loc Cert.ReferenceMemQDwIdeal.main_arg1) = m ((c.tc : Thread Cert.KernelMemQDwIdeal.nD Cert.KernelMemQDwIdeal.τ).loc Cert.KernelMemQDwIdeal.main_arg1)) →
    ∃ (v0 : (c : Dev Cert.KernelMemQDwIdeal.nD) → Buf (Elt Ideal) ((c.tc : Thread Cert.KernelMemQDwIdeal.nD Cert.KernelMemQDwIdeal.τ).loc Cert.KernelMemQDwIdeal.main_v0)),
      θ_run (Cert.KernelMemQDwIdeal.defs (F := Ideal)) (onTc (τ := Cert.KernelMemQDwIdeal.τ) (Cert.KernelMemQDwIdeal.main (F := Ideal))) ⟨m, fun _ => 0, g⟩ (fun r => ∀ c : Dev Cert.KernelMemQDwIdeal.nD,
          r.2.mem ((c.tc : Thread Cert.KernelMemQDwIdeal.nD Cert.KernelMemQDwIdeal.τ).loc Cert.KernelMemQDwIdeal.main_v0) = v0 c
          ∧ r.2.mem ((c.tc : Thread Cert.KernelMemQDwIdeal.nD Cert.KernelMemQDwIdeal.τ).loc Cert.KernelMemQDwIdeal.main_arg0) = m ((c.tc : Thread Cert.KernelMemQDwIdeal.nD Cert.KernelMemQDwIdeal.τ).loc Cert.KernelMemQDwIdeal.main_arg0)
          ∧ r.2.mem ((c.tc : Thread Cert.KernelMemQDwIdeal.nD Cert.KernelMemQDwIdeal.τ).loc Cert.KernelMemQDwIdeal.main_arg1) = m ((c.tc : Thread Cert.KernelMemQDwIdeal.nD Cert.KernelMemQDwIdeal.τ).loc Cert.KernelMemQDwIdeal.main_arg1))
      ∧ θ_run (Cert.ReferenceMemQDwIdeal.defs (F := Ideal)) (onTc (τ := Cert.ReferenceMemQDwIdeal.τ) (Cert.ReferenceMemQDwIdeal.main (F := Ideal))) ⟨m', fun _ => 0, g'⟩ (fun r => ∀ c : Dev Cert.ReferenceMemQDwIdeal.nD,
          r.2.mem ((c.tc : Thread Cert.ReferenceMemQDwIdeal.nD Cert.ReferenceMemQDwIdeal.τ).loc Cert.ReferenceMemQDwIdeal.main_v4) = v0 c
          ∧ r.2.mem ((c.tc : Thread Cert.ReferenceMemQDwIdeal.nD Cert.ReferenceMemQDwIdeal.τ).loc Cert.ReferenceMemQDwIdeal.main_arg0) = m' ((c.tc : Thread Cert.ReferenceMemQDwIdeal.nD Cert.ReferenceMemQDwIdeal.τ).loc Cert.ReferenceMemQDwIdeal.main_arg0)
          ∧ r.2.mem ((c.tc : Thread Cert.ReferenceMemQDwIdeal.nD Cert.ReferenceMemQDwIdeal.τ).loc Cert.ReferenceMemQDwIdeal.main_arg1) = m' ((c.tc : Thread Cert.ReferenceMemQDwIdeal.nD Cert.ReferenceMemQDwIdeal.τ).loc Cert.ReferenceMemQDwIdeal.main_arg1))

def preserves_KernelMemKvDw_KernelMemKvDwIdeal : Prop :=
  True

def algebraic_KernelMemKvDwIdeal_ReferenceMemKvDwIdeal [hKernelMemKvDwIdeal : Cert.KernelMemKvDwIdeal.Facts] [hReferenceMemKvDwIdeal : Cert.ReferenceMemKvDwIdeal.Facts] : Prop :=
  ∀ (m : (ℓ : Loc Cert.KernelMemKvDwIdeal.nD Cert.KernelMemKvDwIdeal.τ Cert.KernelMemKvDwIdeal.sig) → Buf (Elt Ideal) ℓ) (g : Dev Cert.KernelMemKvDwIdeal.nD → PrngReg)
    (m' : (ℓ : Loc Cert.ReferenceMemKvDwIdeal.nD Cert.ReferenceMemKvDwIdeal.τ Cert.ReferenceMemKvDwIdeal.sig) → Buf (Elt Ideal) ℓ) (g' : Dev Cert.ReferenceMemKvDwIdeal.nD → PrngReg), Pre_KernelMemKvDwIdeal m →
    (∀ c : Dev Cert.KernelMemKvDwIdeal.nD,
      m' ((c.tc : Thread Cert.ReferenceMemKvDwIdeal.nD Cert.ReferenceMemKvDwIdeal.τ).loc Cert.ReferenceMemKvDwIdeal.main_arg0) = m ((c.tc : Thread Cert.KernelMemKvDwIdeal.nD Cert.KernelMemKvDwIdeal.τ).loc Cert.KernelMemKvDwIdeal.main_arg0)
      ∧ m' ((c.tc : Thread Cert.ReferenceMemKvDwIdeal.nD Cert.ReferenceMemKvDwIdeal.τ).loc Cert.ReferenceMemKvDwIdeal.main_arg1) = m ((c.tc : Thread Cert.KernelMemKvDwIdeal.nD Cert.KernelMemKvDwIdeal.τ).loc Cert.KernelMemKvDwIdeal.main_arg1)) →
    ∃ (v0 : (c : Dev Cert.KernelMemKvDwIdeal.nD) → Buf (Elt Ideal) ((c.tc : Thread Cert.KernelMemKvDwIdeal.nD Cert.KernelMemKvDwIdeal.τ).loc Cert.KernelMemKvDwIdeal.main_v0)),
      θ_run (Cert.KernelMemKvDwIdeal.defs (F := Ideal)) (onTc (τ := Cert.KernelMemKvDwIdeal.τ) (Cert.KernelMemKvDwIdeal.main (F := Ideal))) ⟨m, fun _ => 0, g⟩ (fun r => ∀ c : Dev Cert.KernelMemKvDwIdeal.nD,
          r.2.mem ((c.tc : Thread Cert.KernelMemKvDwIdeal.nD Cert.KernelMemKvDwIdeal.τ).loc Cert.KernelMemKvDwIdeal.main_v0) = v0 c
          ∧ r.2.mem ((c.tc : Thread Cert.KernelMemKvDwIdeal.nD Cert.KernelMemKvDwIdeal.τ).loc Cert.KernelMemKvDwIdeal.main_arg0) = m ((c.tc : Thread Cert.KernelMemKvDwIdeal.nD Cert.KernelMemKvDwIdeal.τ).loc Cert.KernelMemKvDwIdeal.main_arg0)
          ∧ r.2.mem ((c.tc : Thread Cert.KernelMemKvDwIdeal.nD Cert.KernelMemKvDwIdeal.τ).loc Cert.KernelMemKvDwIdeal.main_arg1) = m ((c.tc : Thread Cert.KernelMemKvDwIdeal.nD Cert.KernelMemKvDwIdeal.τ).loc Cert.KernelMemKvDwIdeal.main_arg1))
      ∧ θ_run (Cert.ReferenceMemKvDwIdeal.defs (F := Ideal)) (onTc (τ := Cert.ReferenceMemKvDwIdeal.τ) (Cert.ReferenceMemKvDwIdeal.main (F := Ideal))) ⟨m', fun _ => 0, g'⟩ (fun r => ∀ c : Dev Cert.ReferenceMemKvDwIdeal.nD,
          r.2.mem ((c.tc : Thread Cert.ReferenceMemKvDwIdeal.nD Cert.ReferenceMemKvDwIdeal.τ).loc Cert.ReferenceMemKvDwIdeal.main_v3) = v0 c
          ∧ r.2.mem ((c.tc : Thread Cert.ReferenceMemKvDwIdeal.nD Cert.ReferenceMemKvDwIdeal.τ).loc Cert.ReferenceMemKvDwIdeal.main_arg0) = m' ((c.tc : Thread Cert.ReferenceMemKvDwIdeal.nD Cert.ReferenceMemKvDwIdeal.τ).loc Cert.ReferenceMemKvDwIdeal.main_arg0)
          ∧ r.2.mem ((c.tc : Thread Cert.ReferenceMemKvDwIdeal.nD Cert.ReferenceMemKvDwIdeal.τ).loc Cert.ReferenceMemKvDwIdeal.main_arg1) = m' ((c.tc : Thread Cert.ReferenceMemKvDwIdeal.nD Cert.ReferenceMemKvDwIdeal.τ).loc Cert.ReferenceMemKvDwIdeal.main_arg1))

def preserves_KernelInProjDw_KernelInProjDwIdeal : Prop :=
  True

def algebraic_KernelInProjDwIdeal_ReferenceInProjDwIdeal [hKernelInProjDwIdeal : Cert.KernelInProjDwIdeal.Facts] [hReferenceInProjDwIdeal : Cert.ReferenceInProjDwIdeal.Facts] : Prop :=
  ∀ (m : (ℓ : Loc Cert.KernelInProjDwIdeal.nD Cert.KernelInProjDwIdeal.τ Cert.KernelInProjDwIdeal.sig) → Buf (Elt Ideal) ℓ) (g : Dev Cert.KernelInProjDwIdeal.nD → PrngReg)
    (m' : (ℓ : Loc Cert.ReferenceInProjDwIdeal.nD Cert.ReferenceInProjDwIdeal.τ Cert.ReferenceInProjDwIdeal.sig) → Buf (Elt Ideal) ℓ) (g' : Dev Cert.ReferenceInProjDwIdeal.nD → PrngReg), Pre_KernelInProjDwIdeal m →
    (∀ c : Dev Cert.KernelInProjDwIdeal.nD,
      m' ((c.tc : Thread Cert.ReferenceInProjDwIdeal.nD Cert.ReferenceInProjDwIdeal.τ).loc Cert.ReferenceInProjDwIdeal.main_arg0) = m ((c.tc : Thread Cert.KernelInProjDwIdeal.nD Cert.KernelInProjDwIdeal.τ).loc Cert.KernelInProjDwIdeal.main_arg0)
      ∧ m' ((c.tc : Thread Cert.ReferenceInProjDwIdeal.nD Cert.ReferenceInProjDwIdeal.τ).loc Cert.ReferenceInProjDwIdeal.main_arg1) = m ((c.tc : Thread Cert.KernelInProjDwIdeal.nD Cert.KernelInProjDwIdeal.τ).loc Cert.KernelInProjDwIdeal.main_arg1)) →
    ∃ (v0 : (c : Dev Cert.KernelInProjDwIdeal.nD) → Buf (Elt Ideal) ((c.tc : Thread Cert.KernelInProjDwIdeal.nD Cert.KernelInProjDwIdeal.τ).loc Cert.KernelInProjDwIdeal.main_v0)),
      θ_run (Cert.KernelInProjDwIdeal.defs (F := Ideal)) (onTc (τ := Cert.KernelInProjDwIdeal.τ) (Cert.KernelInProjDwIdeal.main (F := Ideal))) ⟨m, fun _ => 0, g⟩ (fun r => ∀ c : Dev Cert.KernelInProjDwIdeal.nD,
          r.2.mem ((c.tc : Thread Cert.KernelInProjDwIdeal.nD Cert.KernelInProjDwIdeal.τ).loc Cert.KernelInProjDwIdeal.main_v0) = v0 c
          ∧ r.2.mem ((c.tc : Thread Cert.KernelInProjDwIdeal.nD Cert.KernelInProjDwIdeal.τ).loc Cert.KernelInProjDwIdeal.main_arg0) = m ((c.tc : Thread Cert.KernelInProjDwIdeal.nD Cert.KernelInProjDwIdeal.τ).loc Cert.KernelInProjDwIdeal.main_arg0)
          ∧ r.2.mem ((c.tc : Thread Cert.KernelInProjDwIdeal.nD Cert.KernelInProjDwIdeal.τ).loc Cert.KernelInProjDwIdeal.main_arg1) = m ((c.tc : Thread Cert.KernelInProjDwIdeal.nD Cert.KernelInProjDwIdeal.τ).loc Cert.KernelInProjDwIdeal.main_arg1))
      ∧ θ_run (Cert.ReferenceInProjDwIdeal.defs (F := Ideal)) (onTc (τ := Cert.ReferenceInProjDwIdeal.τ) (Cert.ReferenceInProjDwIdeal.main (F := Ideal))) ⟨m', fun _ => 0, g'⟩ (fun r => ∀ c : Dev Cert.ReferenceInProjDwIdeal.nD,
          r.2.mem ((c.tc : Thread Cert.ReferenceInProjDwIdeal.nD Cert.ReferenceInProjDwIdeal.τ).loc Cert.ReferenceInProjDwIdeal.main_v4) = v0 c
          ∧ r.2.mem ((c.tc : Thread Cert.ReferenceInProjDwIdeal.nD Cert.ReferenceInProjDwIdeal.τ).loc Cert.ReferenceInProjDwIdeal.main_arg0) = m' ((c.tc : Thread Cert.ReferenceInProjDwIdeal.nD Cert.ReferenceInProjDwIdeal.τ).loc Cert.ReferenceInProjDwIdeal.main_arg0)
          ∧ r.2.mem ((c.tc : Thread Cert.ReferenceInProjDwIdeal.nD Cert.ReferenceInProjDwIdeal.τ).loc Cert.ReferenceInProjDwIdeal.main_arg1) = m' ((c.tc : Thread Cert.ReferenceInProjDwIdeal.nD Cert.ReferenceInProjDwIdeal.τ).loc Cert.ReferenceInProjDwIdeal.main_arg1))

def preserves_KernelQkvProjDw_KernelQkvProjDwIdeal : Prop :=
  True

def algebraic_KernelQkvProjDwIdeal_ReferenceQkvProjDwIdeal [hKernelQkvProjDwIdeal : Cert.KernelQkvProjDwIdeal.Facts] [hReferenceQkvProjDwIdeal : Cert.ReferenceQkvProjDwIdeal.Facts] : Prop :=
  ∀ (m : (ℓ : Loc Cert.KernelQkvProjDwIdeal.nD Cert.KernelQkvProjDwIdeal.τ Cert.KernelQkvProjDwIdeal.sig) → Buf (Elt Ideal) ℓ) (g : Dev Cert.KernelQkvProjDwIdeal.nD → PrngReg)
    (m' : (ℓ : Loc Cert.ReferenceQkvProjDwIdeal.nD Cert.ReferenceQkvProjDwIdeal.τ Cert.ReferenceQkvProjDwIdeal.sig) → Buf (Elt Ideal) ℓ) (g' : Dev Cert.ReferenceQkvProjDwIdeal.nD → PrngReg), Pre_KernelQkvProjDwIdeal m →
    (∀ c : Dev Cert.KernelQkvProjDwIdeal.nD,
      m' ((c.tc : Thread Cert.ReferenceQkvProjDwIdeal.nD Cert.ReferenceQkvProjDwIdeal.τ).loc Cert.ReferenceQkvProjDwIdeal.main_arg0) = m ((c.tc : Thread Cert.KernelQkvProjDwIdeal.nD Cert.KernelQkvProjDwIdeal.τ).loc Cert.KernelQkvProjDwIdeal.main_arg0)
      ∧ m' ((c.tc : Thread Cert.ReferenceQkvProjDwIdeal.nD Cert.ReferenceQkvProjDwIdeal.τ).loc Cert.ReferenceQkvProjDwIdeal.main_arg1) = m ((c.tc : Thread Cert.KernelQkvProjDwIdeal.nD Cert.KernelQkvProjDwIdeal.τ).loc Cert.KernelQkvProjDwIdeal.main_arg1)) →
    ∃ (v0 : (c : Dev Cert.KernelQkvProjDwIdeal.nD) → Buf (Elt Ideal) ((c.tc : Thread Cert.KernelQkvProjDwIdeal.nD Cert.KernelQkvProjDwIdeal.τ).loc Cert.KernelQkvProjDwIdeal.main_v0)),
      θ_run (Cert.KernelQkvProjDwIdeal.defs (F := Ideal)) (onTc (τ := Cert.KernelQkvProjDwIdeal.τ) (Cert.KernelQkvProjDwIdeal.main (F := Ideal))) ⟨m, fun _ => 0, g⟩ (fun r => ∀ c : Dev Cert.KernelQkvProjDwIdeal.nD,
          r.2.mem ((c.tc : Thread Cert.KernelQkvProjDwIdeal.nD Cert.KernelQkvProjDwIdeal.τ).loc Cert.KernelQkvProjDwIdeal.main_v0) = v0 c
          ∧ r.2.mem ((c.tc : Thread Cert.KernelQkvProjDwIdeal.nD Cert.KernelQkvProjDwIdeal.τ).loc Cert.KernelQkvProjDwIdeal.main_arg0) = m ((c.tc : Thread Cert.KernelQkvProjDwIdeal.nD Cert.KernelQkvProjDwIdeal.τ).loc Cert.KernelQkvProjDwIdeal.main_arg0)
          ∧ r.2.mem ((c.tc : Thread Cert.KernelQkvProjDwIdeal.nD Cert.KernelQkvProjDwIdeal.τ).loc Cert.KernelQkvProjDwIdeal.main_arg1) = m ((c.tc : Thread Cert.KernelQkvProjDwIdeal.nD Cert.KernelQkvProjDwIdeal.τ).loc Cert.KernelQkvProjDwIdeal.main_arg1))
      ∧ θ_run (Cert.ReferenceQkvProjDwIdeal.defs (F := Ideal)) (onTc (τ := Cert.ReferenceQkvProjDwIdeal.τ) (Cert.ReferenceQkvProjDwIdeal.main (F := Ideal))) ⟨m', fun _ => 0, g'⟩ (fun r => ∀ c : Dev Cert.ReferenceQkvProjDwIdeal.nD,
          r.2.mem ((c.tc : Thread Cert.ReferenceQkvProjDwIdeal.nD Cert.ReferenceQkvProjDwIdeal.τ).loc Cert.ReferenceQkvProjDwIdeal.main_v6) = v0 c
          ∧ r.2.mem ((c.tc : Thread Cert.ReferenceQkvProjDwIdeal.nD Cert.ReferenceQkvProjDwIdeal.τ).loc Cert.ReferenceQkvProjDwIdeal.main_arg0) = m' ((c.tc : Thread Cert.ReferenceQkvProjDwIdeal.nD Cert.ReferenceQkvProjDwIdeal.τ).loc Cert.ReferenceQkvProjDwIdeal.main_arg0)
          ∧ r.2.mem ((c.tc : Thread Cert.ReferenceQkvProjDwIdeal.nD Cert.ReferenceQkvProjDwIdeal.τ).loc Cert.ReferenceQkvProjDwIdeal.main_arg1) = m' ((c.tc : Thread Cert.ReferenceQkvProjDwIdeal.nD Cert.ReferenceQkvProjDwIdeal.τ).loc Cert.ReferenceQkvProjDwIdeal.main_arg1))

def preserves_KernelSbOutProjDw_KernelSbOutProjDwIdeal : Prop :=
  True

def algebraic_KernelSbOutProjDwIdeal_ReferenceSbOutProjDwIdeal [hKernelSbOutProjDwIdeal : Cert.KernelSbOutProjDwIdeal.Facts] [hReferenceSbOutProjDwIdeal : Cert.ReferenceSbOutProjDwIdeal.Facts] : Prop :=
  ∀ (m : (ℓ : Loc Cert.KernelSbOutProjDwIdeal.nD Cert.KernelSbOutProjDwIdeal.τ Cert.KernelSbOutProjDwIdeal.sig) → Buf (Elt Ideal) ℓ) (g : Dev Cert.KernelSbOutProjDwIdeal.nD → PrngReg)
    (m' : (ℓ : Loc Cert.ReferenceSbOutProjDwIdeal.nD Cert.ReferenceSbOutProjDwIdeal.τ Cert.ReferenceSbOutProjDwIdeal.sig) → Buf (Elt Ideal) ℓ) (g' : Dev Cert.ReferenceSbOutProjDwIdeal.nD → PrngReg), Pre_KernelSbOutProjDwIdeal m →
    (∀ c : Dev Cert.KernelSbOutProjDwIdeal.nD,
      m' ((c.tc : Thread Cert.ReferenceSbOutProjDwIdeal.nD Cert.ReferenceSbOutProjDwIdeal.τ).loc Cert.ReferenceSbOutProjDwIdeal.main_arg0) = m ((c.tc : Thread Cert.KernelSbOutProjDwIdeal.nD Cert.KernelSbOutProjDwIdeal.τ).loc Cert.KernelSbOutProjDwIdeal.main_arg0)
      ∧ m' ((c.tc : Thread Cert.ReferenceSbOutProjDwIdeal.nD Cert.ReferenceSbOutProjDwIdeal.τ).loc Cert.ReferenceSbOutProjDwIdeal.main_arg1) = m ((c.tc : Thread Cert.KernelSbOutProjDwIdeal.nD Cert.KernelSbOutProjDwIdeal.τ).loc Cert.KernelSbOutProjDwIdeal.main_arg1)) →
    ∃ (v0 : (c : Dev Cert.KernelSbOutProjDwIdeal.nD) → Buf (Elt Ideal) ((c.tc : Thread Cert.KernelSbOutProjDwIdeal.nD Cert.KernelSbOutProjDwIdeal.τ).loc Cert.KernelSbOutProjDwIdeal.main_v0)),
      θ_run (Cert.KernelSbOutProjDwIdeal.defs (F := Ideal)) (onTc (τ := Cert.KernelSbOutProjDwIdeal.τ) (Cert.KernelSbOutProjDwIdeal.main (F := Ideal))) ⟨m, fun _ => 0, g⟩ (fun r => ∀ c : Dev Cert.KernelSbOutProjDwIdeal.nD,
          r.2.mem ((c.tc : Thread Cert.KernelSbOutProjDwIdeal.nD Cert.KernelSbOutProjDwIdeal.τ).loc Cert.KernelSbOutProjDwIdeal.main_v0) = v0 c
          ∧ r.2.mem ((c.tc : Thread Cert.KernelSbOutProjDwIdeal.nD Cert.KernelSbOutProjDwIdeal.τ).loc Cert.KernelSbOutProjDwIdeal.main_arg0) = m ((c.tc : Thread Cert.KernelSbOutProjDwIdeal.nD Cert.KernelSbOutProjDwIdeal.τ).loc Cert.KernelSbOutProjDwIdeal.main_arg0)
          ∧ r.2.mem ((c.tc : Thread Cert.KernelSbOutProjDwIdeal.nD Cert.KernelSbOutProjDwIdeal.τ).loc Cert.KernelSbOutProjDwIdeal.main_arg1) = m ((c.tc : Thread Cert.KernelSbOutProjDwIdeal.nD Cert.KernelSbOutProjDwIdeal.τ).loc Cert.KernelSbOutProjDwIdeal.main_arg1))
      ∧ θ_run (Cert.ReferenceSbOutProjDwIdeal.defs (F := Ideal)) (onTc (τ := Cert.ReferenceSbOutProjDwIdeal.τ) (Cert.ReferenceSbOutProjDwIdeal.main (F := Ideal))) ⟨m', fun _ => 0, g'⟩ (fun r => ∀ c : Dev Cert.ReferenceSbOutProjDwIdeal.nD,
          r.2.mem ((c.tc : Thread Cert.ReferenceSbOutProjDwIdeal.nD Cert.ReferenceSbOutProjDwIdeal.τ).loc Cert.ReferenceSbOutProjDwIdeal.main_v6) = v0 c
          ∧ r.2.mem ((c.tc : Thread Cert.ReferenceSbOutProjDwIdeal.nD Cert.ReferenceSbOutProjDwIdeal.τ).loc Cert.ReferenceSbOutProjDwIdeal.main_arg0) = m' ((c.tc : Thread Cert.ReferenceSbOutProjDwIdeal.nD Cert.ReferenceSbOutProjDwIdeal.τ).loc Cert.ReferenceSbOutProjDwIdeal.main_arg0)
          ∧ r.2.mem ((c.tc : Thread Cert.ReferenceSbOutProjDwIdeal.nD Cert.ReferenceSbOutProjDwIdeal.τ).loc Cert.ReferenceSbOutProjDwIdeal.main_arg1) = m' ((c.tc : Thread Cert.ReferenceSbOutProjDwIdeal.nD Cert.ReferenceSbOutProjDwIdeal.τ).loc Cert.ReferenceSbOutProjDwIdeal.main_arg1))

def preserves_KernelFfnIn_KernelFfnInIdeal : Prop :=
  True

def algebraic_KernelFfnInIdeal_ReferenceFfnInIdeal [hKernelFfnInIdeal : Cert.KernelFfnInIdeal.Facts] [hReferenceFfnInIdeal : Cert.ReferenceFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg)
    (m' : (ℓ : Loc Cert.ReferenceFfnInIdeal.nD Cert.ReferenceFfnInIdeal.τ Cert.ReferenceFfnInIdeal.sig) → Buf (Elt Ideal) ℓ) (g' : Dev Cert.ReferenceFfnInIdeal.nD → PrngReg), Pre_KernelFfnInIdeal m →
    (∀ c : Dev Cert.KernelFfnInIdeal.nD,
      m' ((c.tc : Thread Cert.ReferenceFfnInIdeal.nD Cert.ReferenceFfnInIdeal.τ).loc Cert.ReferenceFfnInIdeal.main_arg0) = m ((c.tc : Thread Cert.KernelFfnInIdeal.nD Cert.KernelFfnInIdeal.τ).loc Cert.KernelFfnInIdeal.main_arg0)
      ∧ m' ((c.tc : Thread Cert.ReferenceFfnInIdeal.nD Cert.ReferenceFfnInIdeal.τ).loc Cert.ReferenceFfnInIdeal.main_arg1) = m ((c.tc : Thread Cert.KernelFfnInIdeal.nD Cert.KernelFfnInIdeal.τ).loc Cert.KernelFfnInIdeal.main_arg1)
      ∧ m' ((c.tc : Thread Cert.ReferenceFfnInIdeal.nD Cert.ReferenceFfnInIdeal.τ).loc Cert.ReferenceFfnInIdeal.main_arg2) = m ((c.tc : Thread Cert.KernelFfnInIdeal.nD Cert.KernelFfnInIdeal.τ).loc Cert.KernelFfnInIdeal.main_arg2)
      ∧ m' ((c.tc : Thread Cert.ReferenceFfnInIdeal.nD Cert.ReferenceFfnInIdeal.τ).loc Cert.ReferenceFfnInIdeal.main_arg3) = m ((c.tc : Thread Cert.KernelFfnInIdeal.nD Cert.KernelFfnInIdeal.τ).loc Cert.KernelFfnInIdeal.main_arg3)
      ∧ m' ((c.tc : Thread Cert.ReferenceFfnInIdeal.nD Cert.ReferenceFfnInIdeal.τ).loc Cert.ReferenceFfnInIdeal.main_arg4) = m ((c.tc : Thread Cert.KernelFfnInIdeal.nD Cert.KernelFfnInIdeal.τ).loc Cert.KernelFfnInIdeal.main_arg4)) →
    ∃ (v0 : (c : Dev Cert.KernelFfnInIdeal.nD) → Buf (Elt Ideal) ((c.tc : Thread Cert.KernelFfnInIdeal.nD Cert.KernelFfnInIdeal.τ).loc Cert.KernelFfnInIdeal.main_v0)) (v1 : (c : Dev Cert.KernelFfnInIdeal.nD) → Buf (Elt Ideal) ((c.tc : Thread Cert.KernelFfnInIdeal.nD Cert.KernelFfnInIdeal.τ).loc Cert.KernelFfnInIdeal.main_v1)) (v2 : (c : Dev Cert.KernelFfnInIdeal.nD) → Buf (Elt Ideal) ((c.tc : Thread Cert.KernelFfnInIdeal.nD Cert.KernelFfnInIdeal.τ).loc Cert.KernelFfnInIdeal.main_v2)) (v3 : (c : Dev Cert.KernelFfnInIdeal.nD) → Buf (Elt Ideal) ((c.tc : Thread Cert.KernelFfnInIdeal.nD Cert.KernelFfnInIdeal.τ).loc Cert.KernelFfnInIdeal.main_v3)),
      θ_run (Cert.KernelFfnInIdeal.defs (F := Ideal)) (onTc (τ := Cert.KernelFfnInIdeal.τ) (Cert.KernelFfnInIdeal.main (F := Ideal))) ⟨m, fun _ => 0, g⟩ (fun r => ∀ c : Dev Cert.KernelFfnInIdeal.nD,
          r.2.mem ((c.tc : Thread Cert.KernelFfnInIdeal.nD Cert.KernelFfnInIdeal.τ).loc Cert.KernelFfnInIdeal.main_v0) = v0 c
          ∧ r.2.mem ((c.tc : Thread Cert.KernelFfnInIdeal.nD Cert.KernelFfnInIdeal.τ).loc Cert.KernelFfnInIdeal.main_v1) = v1 c
          ∧ r.2.mem ((c.tc : Thread Cert.KernelFfnInIdeal.nD Cert.KernelFfnInIdeal.τ).loc Cert.KernelFfnInIdeal.main_v2) = v2 c
          ∧ r.2.mem ((c.tc : Thread Cert.KernelFfnInIdeal.nD Cert.KernelFfnInIdeal.τ).loc Cert.KernelFfnInIdeal.main_v3) = v3 c
          ∧ r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
          ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
          ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2)
          ∧ r.2.mem ((c.tc : Thread Cert.KernelFfnInIdeal.nD Cert.KernelFfnInIdeal.τ).loc Cert.KernelFfnInIdeal.main_arg3) = m ((c.tc : Thread Cert.KernelFfnInIdeal.nD Cert.KernelFfnInIdeal.τ).loc Cert.KernelFfnInIdeal.main_arg3)
          ∧ r.2.mem ((c.tc : Thread Cert.KernelFfnInIdeal.nD Cert.KernelFfnInIdeal.τ).loc Cert.KernelFfnInIdeal.main_arg4) = m ((c.tc : Thread Cert.KernelFfnInIdeal.nD Cert.KernelFfnInIdeal.τ).loc Cert.KernelFfnInIdeal.main_arg4))
      ∧ θ_run (Cert.ReferenceFfnInIdeal.defs (F := Ideal)) (onTc (τ := Cert.ReferenceFfnInIdeal.τ) (Cert.ReferenceFfnInIdeal.main (F := Ideal))) ⟨m', fun _ => 0, g'⟩ (fun r => ∀ c : Dev Cert.ReferenceFfnInIdeal.nD,
          r.2.mem ((c.tc : Thread Cert.ReferenceFfnInIdeal.nD Cert.ReferenceFfnInIdeal.τ).loc Cert.ReferenceFfnInIdeal.main_v3) = v0 c
          ∧ r.2.mem ((c.tc : Thread Cert.ReferenceFfnInIdeal.nD Cert.ReferenceFfnInIdeal.τ).loc Cert.ReferenceFfnInIdeal.main_v7) = v1 c
          ∧ r.2.mem ((c.tc : Thread Cert.ReferenceFfnInIdeal.nD Cert.ReferenceFfnInIdeal.τ).loc Cert.ReferenceFfnInIdeal.main_v11) = v2 c
          ∧ r.2.mem ((c.tc : Thread Cert.ReferenceFfnInIdeal.nD Cert.ReferenceFfnInIdeal.τ).loc Cert.ReferenceFfnInIdeal.main_v15) = v3 c
          ∧ r.2.mem ((c.tc : Thread Cert.ReferenceFfnInIdeal.nD Cert.ReferenceFfnInIdeal.τ).loc Cert.ReferenceFfnInIdeal.main_arg0) = m' ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1) = m' ((c.tc : Thread Cert.ReferenceFfnInIdeal.nD Cert.ReferenceFfnInIdeal.τ).loc Cert.ReferenceFfnInIdeal.main_arg1)
          ∧ r.2.mem ((c.tc : Thread Cert.ReferenceFfnInIdeal.nD Cert.ReferenceFfnInIdeal.τ).loc Cert.ReferenceFfnInIdeal.main_arg2) = m' ((c.tc : Thread Cert.ReferenceFfnInIdeal.nD Cert.ReferenceFfnInIdeal.τ).loc Cert.ReferenceFfnInIdeal.main_arg2)
          ∧ r.2.mem ((c.tc : Thread Cert.ReferenceFfnInIdeal.nD Cert.ReferenceFfnInIdeal.τ).loc Cert.ReferenceFfnInIdeal.main_arg3) = m' ((c.tc : Thread Cert.ReferenceFfnInIdeal.nD Cert.ReferenceFfnInIdeal.τ).loc Cert.ReferenceFfnInIdeal.main_arg3)
          ∧ r.2.mem ((c.tc : Thread Cert.ReferenceFfnInIdeal.nD Cert.ReferenceFfnInIdeal.τ).loc Cert.ReferenceFfnInIdeal.main_arg4) = m' ((c.tc : Thread Cert.ReferenceFfnInIdeal.nD Cert.ReferenceFfnInIdeal.τ).loc Cert.ReferenceFfnInIdeal.main_arg4))

def preserves_KernelFfnOutDx_KernelFfnOutDxIdeal : Prop :=
  True

def algebraic_KernelFfnOutDxIdeal_ReferenceFfnOutDxIdeal [hKernelFfnOutDxIdeal : Cert.KernelFfnOutDxIdeal.Facts] [hReferenceFfnOutDxIdeal : Cert.ReferenceFfnOutDxIdeal.Facts] : Prop :=
  ∀ (m : (ℓ : Loc Cert.KernelFfnOutDxIdeal.nD Cert.KernelFfnOutDxIdeal.τ Cert.KernelFfnOutDxIdeal.sig) → Buf (Elt Ideal) ℓ) (g : Dev Cert.KernelFfnOutDxIdeal.nD → PrngReg)
    (m' : (ℓ : Loc Cert.ReferenceFfnOutDxIdeal.nD Cert.ReferenceFfnOutDxIdeal.τ Cert.ReferenceFfnOutDxIdeal.sig) → Buf (Elt Ideal) ℓ) (g' : Dev Cert.ReferenceFfnOutDxIdeal.nD → PrngReg), Pre_KernelFfnOutDxIdeal m →
    (∀ c : Dev Cert.KernelFfnOutDxIdeal.nD,
      m' ((c.tc : Thread Cert.ReferenceFfnOutDxIdeal.nD Cert.ReferenceFfnOutDxIdeal.τ).loc Cert.ReferenceFfnOutDxIdeal.main_arg0) = m ((c.tc : Thread Cert.KernelFfnOutDxIdeal.nD Cert.KernelFfnOutDxIdeal.τ).loc Cert.KernelFfnOutDxIdeal.main_arg0)
      ∧ m' ((c.tc : Thread Cert.ReferenceFfnOutDxIdeal.nD Cert.ReferenceFfnOutDxIdeal.τ).loc Cert.ReferenceFfnOutDxIdeal.main_arg1) = m ((c.tc : Thread Cert.KernelFfnOutDxIdeal.nD Cert.KernelFfnOutDxIdeal.τ).loc Cert.KernelFfnOutDxIdeal.main_arg1)
      ∧ m' ((c.tc : Thread Cert.ReferenceFfnOutDxIdeal.nD Cert.ReferenceFfnOutDxIdeal.τ).loc Cert.ReferenceFfnOutDxIdeal.main_arg2) = m ((c.tc : Thread Cert.KernelFfnOutDxIdeal.nD Cert.KernelFfnOutDxIdeal.τ).loc Cert.KernelFfnOutDxIdeal.main_arg2)
      ∧ m' ((c.tc : Thread Cert.ReferenceFfnOutDxIdeal.nD Cert.ReferenceFfnOutDxIdeal.τ).loc Cert.ReferenceFfnOutDxIdeal.main_arg3) = m ((c.tc : Thread Cert.KernelFfnOutDxIdeal.nD Cert.KernelFfnOutDxIdeal.τ).loc Cert.KernelFfnOutDxIdeal.main_arg3)
      ∧ m' ((c.tc : Thread Cert.ReferenceFfnOutDxIdeal.nD Cert.ReferenceFfnOutDxIdeal.τ).loc Cert.ReferenceFfnOutDxIdeal.main_arg4) = m ((c.tc : Thread Cert.KernelFfnOutDxIdeal.nD Cert.KernelFfnOutDxIdeal.τ).loc Cert.KernelFfnOutDxIdeal.main_arg4)) →
    ∃ (v0 : (c : Dev Cert.KernelFfnOutDxIdeal.nD) → Buf (Elt Ideal) ((c.tc : Thread Cert.KernelFfnOutDxIdeal.nD Cert.KernelFfnOutDxIdeal.τ).loc Cert.KernelFfnOutDxIdeal.main_v0)) (v1 : (c : Dev Cert.KernelFfnOutDxIdeal.nD) → Buf (Elt Ideal) ((c.tc : Thread Cert.KernelFfnOutDxIdeal.nD Cert.KernelFfnOutDxIdeal.τ).loc Cert.KernelFfnOutDxIdeal.main_v1)) (v2 : (c : Dev Cert.KernelFfnOutDxIdeal.nD) → Buf (Elt Ideal) ((c.tc : Thread Cert.KernelFfnOutDxIdeal.nD Cert.KernelFfnOutDxIdeal.τ).loc Cert.KernelFfnOutDxIdeal.main_v2)) (v3 : (c : Dev Cert.KernelFfnOutDxIdeal.nD) → Buf (Elt Ideal) ((c.tc : Thread Cert.KernelFfnOutDxIdeal.nD Cert.KernelFfnOutDxIdeal.τ).loc Cert.KernelFfnOutDxIdeal.main_v3)),
      θ_run (Cert.KernelFfnOutDxIdeal.defs (F := Ideal)) (onTc (τ := Cert.KernelFfnOutDxIdeal.τ) (Cert.KernelFfnOutDxIdeal.main (F := Ideal))) ⟨m, fun _ => 0, g⟩ (fun r => ∀ c : Dev Cert.KernelFfnOutDxIdeal.nD,
          r.2.mem ((c.tc : Thread Cert.KernelFfnOutDxIdeal.nD Cert.KernelFfnOutDxIdeal.τ).loc Cert.KernelFfnOutDxIdeal.main_v0) = v0 c
          ∧ r.2.mem ((c.tc : Thread Cert.KernelFfnOutDxIdeal.nD Cert.KernelFfnOutDxIdeal.τ).loc Cert.KernelFfnOutDxIdeal.main_v1) = v1 c
          ∧ r.2.mem ((c.tc : Thread Cert.KernelFfnOutDxIdeal.nD Cert.KernelFfnOutDxIdeal.τ).loc Cert.KernelFfnOutDxIdeal.main_v2) = v2 c
          ∧ r.2.mem ((c.tc : Thread Cert.KernelFfnOutDxIdeal.nD Cert.KernelFfnOutDxIdeal.τ).loc Cert.KernelFfnOutDxIdeal.main_v3) = v3 c
          ∧ r.2.mem ((c.tc : Thread Cert.KernelFfnOutDxIdeal.nD Cert.KernelFfnOutDxIdeal.τ).loc Cert.KernelFfnOutDxIdeal.main_arg0) = m ((c.tc : Thread Cert.KernelFfnOutDxIdeal.nD Cert.KernelFfnOutDxIdeal.τ).loc Cert.KernelFfnOutDxIdeal.main_arg0)
          ∧ r.2.mem ((c.tc : Thread Cert.KernelFfnOutDxIdeal.nD Cert.KernelFfnOutDxIdeal.τ).loc Cert.KernelFfnOutDxIdeal.main_arg1) = m ((c.tc : Thread Cert.KernelFfnOutDxIdeal.nD Cert.KernelFfnOutDxIdeal.τ).loc Cert.KernelFfnOutDxIdeal.main_arg1)
          ∧ r.2.mem ((c.tc : Thread Cert.KernelFfnOutDxIdeal.nD Cert.KernelFfnOutDxIdeal.τ).loc Cert.KernelFfnOutDxIdeal.main_arg2) = m ((c.tc : Thread Cert.KernelFfnOutDxIdeal.nD Cert.KernelFfnOutDxIdeal.τ).loc Cert.KernelFfnOutDxIdeal.main_arg2)
          ∧ r.2.mem ((c.tc : Thread Cert.KernelFfnOutDxIdeal.nD Cert.KernelFfnOutDxIdeal.τ).loc Cert.KernelFfnOutDxIdeal.main_arg3) = m ((c.tc : Thread Cert.KernelFfnOutDxIdeal.nD Cert.KernelFfnOutDxIdeal.τ).loc Cert.KernelFfnOutDxIdeal.main_arg3)
          ∧ r.2.mem ((c.tc : Thread Cert.KernelFfnOutDxIdeal.nD Cert.KernelFfnOutDxIdeal.τ).loc Cert.KernelFfnOutDxIdeal.main_arg4) = m ((c.tc : Thread Cert.KernelFfnOutDxIdeal.nD Cert.KernelFfnOutDxIdeal.τ).loc Cert.KernelFfnOutDxIdeal.main_arg4))
      ∧ θ_run (Cert.ReferenceFfnOutDxIdeal.defs (F := Ideal)) (onTc (τ := Cert.ReferenceFfnOutDxIdeal.τ) (Cert.ReferenceFfnOutDxIdeal.main (F := Ideal))) ⟨m', fun _ => 0, g'⟩ (fun r => ∀ c : Dev Cert.ReferenceFfnOutDxIdeal.nD,
          r.2.mem ((c.tc : Thread Cert.ReferenceFfnOutDxIdeal.nD Cert.ReferenceFfnOutDxIdeal.τ).loc Cert.ReferenceFfnOutDxIdeal.main_v6) = v0 c
          ∧ r.2.mem ((c.tc : Thread Cert.ReferenceFfnOutDxIdeal.nD Cert.ReferenceFfnOutDxIdeal.τ).loc Cert.ReferenceFfnOutDxIdeal.main_v12) = v1 c
          ∧ r.2.mem ((c.tc : Thread Cert.ReferenceFfnOutDxIdeal.nD Cert.ReferenceFfnOutDxIdeal.τ).loc Cert.ReferenceFfnOutDxIdeal.main_v18) = v2 c
          ∧ r.2.mem ((c.tc : Thread Cert.ReferenceFfnOutDxIdeal.nD Cert.ReferenceFfnOutDxIdeal.τ).loc Cert.ReferenceFfnOutDxIdeal.main_v24) = v3 c
          ∧ r.2.mem ((c.tc : Thread Cert.ReferenceFfnOutDxIdeal.nD Cert.ReferenceFfnOutDxIdeal.τ).loc Cert.ReferenceFfnOutDxIdeal.main_arg0) = m' ((c.tc : Thread Cert.ReferenceFfnOutDxIdeal.nD Cert.ReferenceFfnOutDxIdeal.τ).loc Cert.ReferenceFfnOutDxIdeal.main_arg0)
          ∧ r.2.mem ((c.tc : Thread Cert.ReferenceFfnOutDxIdeal.nD Cert.ReferenceFfnOutDxIdeal.τ).loc Cert.ReferenceFfnOutDxIdeal.main_arg1) = m' ((c.tc : Thread Cert.ReferenceFfnOutDxIdeal.nD Cert.ReferenceFfnOutDxIdeal.τ).loc Cert.ReferenceFfnOutDxIdeal.main_arg1)
          ∧ r.2.mem ((c.tc : Thread Cert.ReferenceFfnOutDxIdeal.nD Cert.ReferenceFfnOutDxIdeal.τ).loc Cert.ReferenceFfnOutDxIdeal.main_arg2) = m' ((c.tc : Thread Cert.ReferenceFfnOutDxIdeal.nD Cert.ReferenceFfnOutDxIdeal.τ).loc Cert.ReferenceFfnOutDxIdeal.main_arg2)
          ∧ r.2.mem ((c.tc : Thread Cert.ReferenceFfnOutDxIdeal.nD Cert.ReferenceFfnOutDxIdeal.τ).loc Cert.ReferenceFfnOutDxIdeal.main_arg3) = m' ((c.tc : Thread Cert.ReferenceFfnOutDxIdeal.nD Cert.ReferenceFfnOutDxIdeal.τ).loc Cert.ReferenceFfnOutDxIdeal.main_arg3)
          ∧ r.2.mem ((c.tc : Thread Cert.ReferenceFfnOutDxIdeal.nD Cert.ReferenceFfnOutDxIdeal.τ).loc Cert.ReferenceFfnOutDxIdeal.main_arg4) = m' ((c.tc : Thread Cert.ReferenceFfnOutDxIdeal.nD Cert.ReferenceFfnOutDxIdeal.τ).loc Cert.ReferenceFfnOutDxIdeal.main_arg4))

def preserves_KernelQkvProj_KernelQkvProjIdeal : Prop :=
  True

def algebraic_KernelQkvProjIdeal_ReferenceQkvProjIdeal [hKernelQkvProjIdeal : Cert.KernelQkvProjIdeal.Facts] [hReferenceQkvProjIdeal : Cert.ReferenceQkvProjIdeal.Facts] : Prop :=
  ∀ (m : (ℓ : Loc Cert.KernelQkvProjIdeal.nD Cert.KernelQkvProjIdeal.τ Cert.KernelQkvProjIdeal.sig) → Buf (Elt Ideal) ℓ) (g : Dev Cert.KernelQkvProjIdeal.nD → PrngReg)
    (m' : (ℓ : Loc Cert.ReferenceQkvProjIdeal.nD Cert.ReferenceQkvProjIdeal.τ Cert.ReferenceQkvProjIdeal.sig) → Buf (Elt Ideal) ℓ) (g' : Dev Cert.ReferenceQkvProjIdeal.nD → PrngReg), Pre_KernelQkvProjIdeal m →
    (∀ c : Dev Cert.KernelQkvProjIdeal.nD,
      m' ((c.tc : Thread Cert.ReferenceQkvProjIdeal.nD Cert.ReferenceQkvProjIdeal.τ).loc Cert.ReferenceQkvProjIdeal.main_arg0) = m ((c.tc : Thread Cert.KernelQkvProjIdeal.nD Cert.KernelQkvProjIdeal.τ).loc Cert.KernelQkvProjIdeal.main_arg0)
      ∧ m' ((c.tc : Thread Cert.ReferenceQkvProjIdeal.nD Cert.ReferenceQkvProjIdeal.τ).loc Cert.ReferenceQkvProjIdeal.main_arg1) = m ((c.tc : Thread Cert.KernelQkvProjIdeal.nD Cert.KernelQkvProjIdeal.τ).loc Cert.KernelQkvProjIdeal.main_arg1)
      ∧ m' ((c.tc : Thread Cert.ReferenceQkvProjIdeal.nD Cert.ReferenceQkvProjIdeal.τ).loc Cert.ReferenceQkvProjIdeal.main_arg2) = m ((c.tc : Thread Cert.KernelQkvProjIdeal.nD Cert.KernelQkvProjIdeal.τ).loc Cert.KernelQkvProjIdeal.main_arg2)) →
    ∃ (v0 : (c : Dev Cert.KernelQkvProjIdeal.nD) → Buf (Elt Ideal) ((c.tc : Thread Cert.KernelQkvProjIdeal.nD Cert.KernelQkvProjIdeal.τ).loc Cert.KernelQkvProjIdeal.main_v0)) (v1 : (c : Dev Cert.KernelQkvProjIdeal.nD) → Buf (Elt Ideal) ((c.tc : Thread Cert.KernelQkvProjIdeal.nD Cert.KernelQkvProjIdeal.τ).loc Cert.KernelQkvProjIdeal.main_v1)),
      θ_run (Cert.KernelQkvProjIdeal.defs (F := Ideal)) (onTc (τ := Cert.KernelQkvProjIdeal.τ) (Cert.KernelQkvProjIdeal.main (F := Ideal))) ⟨m, fun _ => 0, g⟩ (fun r => ∀ c : Dev Cert.KernelQkvProjIdeal.nD,
          r.2.mem ((c.tc : Thread Cert.KernelQkvProjIdeal.nD Cert.KernelQkvProjIdeal.τ).loc Cert.KernelQkvProjIdeal.main_v0) = v0 c
          ∧ r.2.mem ((c.tc : Thread Cert.KernelQkvProjIdeal.nD Cert.KernelQkvProjIdeal.τ).loc Cert.KernelQkvProjIdeal.main_v1) = v1 c
          ∧ r.2.mem ((c.tc : Thread Cert.KernelQkvProjIdeal.nD Cert.KernelQkvProjIdeal.τ).loc Cert.KernelQkvProjIdeal.main_arg0) = m ((c.tc : Thread Cert.KernelQkvProjIdeal.nD Cert.KernelQkvProjIdeal.τ).loc Cert.KernelQkvProjIdeal.main_arg0)
          ∧ r.2.mem ((c.tc : Thread Cert.KernelQkvProjIdeal.nD Cert.KernelQkvProjIdeal.τ).loc Cert.KernelQkvProjIdeal.main_arg1) = m ((c.tc : Thread Cert.KernelQkvProjIdeal.nD Cert.KernelQkvProjIdeal.τ).loc Cert.KernelQkvProjIdeal.main_arg1)
          ∧ r.2.mem ((c.tc : Thread Cert.KernelQkvProjIdeal.nD Cert.KernelQkvProjIdeal.τ).loc Cert.KernelQkvProjIdeal.main_arg2) = m ((c.tc : Thread Cert.KernelQkvProjIdeal.nD Cert.KernelQkvProjIdeal.τ).loc Cert.KernelQkvProjIdeal.main_arg2))
      ∧ θ_run (Cert.ReferenceQkvProjIdeal.defs (F := Ideal)) (onTc (τ := Cert.ReferenceQkvProjIdeal.τ) (Cert.ReferenceQkvProjIdeal.main (F := Ideal))) ⟨m', fun _ => 0, g'⟩ (fun r => ∀ c : Dev Cert.ReferenceQkvProjIdeal.nD,
          r.2.mem ((c.tc : Thread Cert.ReferenceQkvProjIdeal.nD Cert.ReferenceQkvProjIdeal.τ).loc Cert.ReferenceQkvProjIdeal.main_v6) = v0 c
          ∧ r.2.mem ((c.tc : Thread Cert.ReferenceQkvProjIdeal.nD Cert.ReferenceQkvProjIdeal.τ).loc Cert.ReferenceQkvProjIdeal.main_v13) = v1 c
          ∧ r.2.mem ((c.tc : Thread Cert.ReferenceQkvProjIdeal.nD Cert.ReferenceQkvProjIdeal.τ).loc Cert.ReferenceQkvProjIdeal.main_arg0) = m' ((c.tc : Thread Cert.ReferenceQkvProjIdeal.nD Cert.ReferenceQkvProjIdeal.τ).loc Cert.ReferenceQkvProjIdeal.main_arg0)
          ∧ r.2.mem ((c.tc : Thread Cert.ReferenceQkvProjIdeal.nD Cert.ReferenceQkvProjIdeal.τ).loc Cert.ReferenceQkvProjIdeal.main_arg1) = m' ((c.tc : Thread Cert.ReferenceQkvProjIdeal.nD Cert.ReferenceQkvProjIdeal.τ).loc Cert.ReferenceQkvProjIdeal.main_arg1)
          ∧ r.2.mem ((c.tc : Thread Cert.ReferenceQkvProjIdeal.nD Cert.ReferenceQkvProjIdeal.τ).loc Cert.ReferenceQkvProjIdeal.main_arg2) = m' ((c.tc : Thread Cert.ReferenceQkvProjIdeal.nD Cert.ReferenceQkvProjIdeal.τ).loc Cert.ReferenceQkvProjIdeal.main_arg2))

def preserves_KernelInProj_KernelInProjIdeal : Prop :=
  True

def algebraic_KernelInProjIdeal_ReferenceInProjIdeal [hKernelInProjIdeal : Cert.KernelInProjIdeal.Facts] [hReferenceInProjIdeal : Cert.ReferenceInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg)
    (m' : (ℓ : Loc Cert.ReferenceInProjIdeal.nD Cert.ReferenceInProjIdeal.τ Cert.ReferenceInProjIdeal.sig) → Buf (Elt Ideal) ℓ) (g' : Dev Cert.ReferenceInProjIdeal.nD → PrngReg), Pre_KernelInProjIdeal m →
    (∀ c : Dev Cert.KernelInProjIdeal.nD,
      m' ((c.tc : Thread Cert.ReferenceInProjIdeal.nD Cert.ReferenceInProjIdeal.τ).loc Cert.ReferenceInProjIdeal.main_arg0) = m ((c.tc : Thread Cert.KernelInProjIdeal.nD Cert.KernelInProjIdeal.τ).loc Cert.KernelInProjIdeal.main_arg0)
      ∧ m' ((c.tc : Thread Cert.ReferenceInProjIdeal.nD Cert.ReferenceInProjIdeal.τ).loc Cert.ReferenceInProjIdeal.main_arg1) = m ((c.tc : Thread Cert.KernelInProjIdeal.nD Cert.KernelInProjIdeal.τ).loc Cert.KernelInProjIdeal.main_arg1)
      ∧ m' ((c.tc : Thread Cert.ReferenceInProjIdeal.nD Cert.ReferenceInProjIdeal.τ).loc Cert.ReferenceInProjIdeal.main_arg2) = m ((c.tc : Thread Cert.KernelInProjIdeal.nD Cert.KernelInProjIdeal.τ).loc Cert.KernelInProjIdeal.main_arg2)) →
    ∃ (v0 : (c : Dev Cert.KernelInProjIdeal.nD) → Buf (Elt Ideal) ((c.tc : Thread Cert.KernelInProjIdeal.nD Cert.KernelInProjIdeal.τ).loc Cert.KernelInProjIdeal.main_v0)) (v1 : (c : Dev Cert.KernelInProjIdeal.nD) → Buf (Elt Ideal) ((c.tc : Thread Cert.KernelInProjIdeal.nD Cert.KernelInProjIdeal.τ).loc Cert.KernelInProjIdeal.main_v1)),
      θ_run (Cert.KernelInProjIdeal.defs (F := Ideal)) (onTc (τ := Cert.KernelInProjIdeal.τ) (Cert.KernelInProjIdeal.main (F := Ideal))) ⟨m, fun _ => 0, g⟩ (fun r => ∀ c : Dev Cert.KernelInProjIdeal.nD,
          r.2.mem ((c.tc : Thread Cert.KernelInProjIdeal.nD Cert.KernelInProjIdeal.τ).loc Cert.KernelInProjIdeal.main_v0) = v0 c
          ∧ r.2.mem ((c.tc : Thread Cert.KernelInProjIdeal.nD Cert.KernelInProjIdeal.τ).loc Cert.KernelInProjIdeal.main_v1) = v1 c
          ∧ r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
          ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1)
          ∧ r.2.mem ((c.tc : Thread Cert.KernelInProjIdeal.nD Cert.KernelInProjIdeal.τ).loc Cert.KernelInProjIdeal.main_arg2) = m ((c.tc : Thread Cert.KernelInProjIdeal.nD Cert.KernelInProjIdeal.τ).loc Cert.KernelInProjIdeal.main_arg2))
      ∧ θ_run (Cert.ReferenceInProjIdeal.defs (F := Ideal)) (onTc (τ := Cert.ReferenceInProjIdeal.τ) (Cert.ReferenceInProjIdeal.main (F := Ideal))) ⟨m', fun _ => 0, g'⟩ (fun r => ∀ c : Dev Cert.ReferenceInProjIdeal.nD,
          r.2.mem ((c.tc : Thread Cert.ReferenceInProjIdeal.nD Cert.ReferenceInProjIdeal.τ).loc Cert.ReferenceInProjIdeal.main_v3) = v0 c
          ∧ r.2.mem ((c.tc : Thread Cert.ReferenceInProjIdeal.nD Cert.ReferenceInProjIdeal.τ).loc Cert.ReferenceInProjIdeal.main_v7) = v1 c
          ∧ r.2.mem ((c.tc : Thread Cert.ReferenceInProjIdeal.nD Cert.ReferenceInProjIdeal.τ).loc Cert.ReferenceInProjIdeal.main_arg0) = m' ((c.tc : Thread Cert.ReferenceInProjIdeal.nD Cert.ReferenceInProjIdeal.τ).loc Cert.ReferenceInProjIdeal.main_arg0)
          ∧ r.2.mem ((c.tc : Thread Cert.ReferenceInProjIdeal.nD Cert.ReferenceInProjIdeal.τ).loc Cert.ReferenceInProjIdeal.main_arg1) = m' ((c.tc : Thread Cert.ReferenceInProjIdeal.nD Cert.ReferenceInProjIdeal.τ).loc Cert.ReferenceInProjIdeal.main_arg1)
          ∧ r.2.mem ((c.tc : Thread Cert.ReferenceInProjIdeal.nD Cert.ReferenceInProjIdeal.τ).loc Cert.ReferenceInProjIdeal.main_arg2) = m' ((c.tc : Thread Cert.ReferenceInProjIdeal.nD Cert.ReferenceInProjIdeal.τ).loc Cert.ReferenceInProjIdeal.main_arg2))

def preserves_KernelMemQ_KernelMemQIdeal : Prop :=
  True

def algebraic_KernelMemQIdeal_ReferenceMemQIdeal [hKernelMemQIdeal : Cert.KernelMemQIdeal.Facts] [hReferenceMemQIdeal : Cert.ReferenceMemQIdeal.Facts] : Prop :=
  ∀ (m : (ℓ : Loc Cert.KernelMemQIdeal.nD Cert.KernelMemQIdeal.τ Cert.KernelMemQIdeal.sig) → Buf (Elt Ideal) ℓ) (g : Dev Cert.KernelMemQIdeal.nD → PrngReg)
    (m' : (ℓ : Loc Cert.ReferenceMemQIdeal.nD Cert.ReferenceMemQIdeal.τ Cert.ReferenceMemQIdeal.sig) → Buf (Elt Ideal) ℓ) (g' : Dev Cert.ReferenceMemQIdeal.nD → PrngReg), Pre_KernelMemQIdeal m →
    (∀ c : Dev Cert.KernelMemQIdeal.nD,
      m' ((c.tc : Thread Cert.ReferenceMemQIdeal.nD Cert.ReferenceMemQIdeal.τ).loc Cert.ReferenceMemQIdeal.main_arg0) = m ((c.tc : Thread Cert.KernelMemQIdeal.nD Cert.KernelMemQIdeal.τ).loc Cert.KernelMemQIdeal.main_arg0)
      ∧ m' ((c.tc : Thread Cert.ReferenceMemQIdeal.nD Cert.ReferenceMemQIdeal.τ).loc Cert.ReferenceMemQIdeal.main_arg1) = m ((c.tc : Thread Cert.KernelMemQIdeal.nD Cert.KernelMemQIdeal.τ).loc Cert.KernelMemQIdeal.main_arg1)
      ∧ m' ((c.tc : Thread Cert.ReferenceMemQIdeal.nD Cert.ReferenceMemQIdeal.τ).loc Cert.ReferenceMemQIdeal.main_arg2) = m ((c.tc : Thread Cert.KernelMemQIdeal.nD Cert.KernelMemQIdeal.τ).loc Cert.KernelMemQIdeal.main_arg2)
      ∧ m' ((c.tc : Thread Cert.ReferenceMemQIdeal.nD Cert.ReferenceMemQIdeal.τ).loc Cert.ReferenceMemQIdeal.main_arg3) = m ((c.tc : Thread Cert.KernelMemQIdeal.nD Cert.KernelMemQIdeal.τ).loc Cert.KernelMemQIdeal.main_arg3)
      ∧ m' ((c.tc : Thread Cert.ReferenceMemQIdeal.nD Cert.ReferenceMemQIdeal.τ).loc Cert.ReferenceMemQIdeal.main_arg4) = m ((c.tc : Thread Cert.KernelMemQIdeal.nD Cert.KernelMemQIdeal.τ).loc Cert.KernelMemQIdeal.main_arg4)) →
    ∃ (v0 : (c : Dev Cert.KernelMemQIdeal.nD) → Buf (Elt Ideal) ((c.tc : Thread Cert.KernelMemQIdeal.nD Cert.KernelMemQIdeal.τ).loc Cert.KernelMemQIdeal.main_v0)) (v1 : (c : Dev Cert.KernelMemQIdeal.nD) → Buf (Elt Ideal) ((c.tc : Thread Cert.KernelMemQIdeal.nD Cert.KernelMemQIdeal.τ).loc Cert.KernelMemQIdeal.main_v1)) (v2 : (c : Dev Cert.KernelMemQIdeal.nD) → Buf (Elt Ideal) ((c.tc : Thread Cert.KernelMemQIdeal.nD Cert.KernelMemQIdeal.τ).loc Cert.KernelMemQIdeal.main_v2)) (v3 : (c : Dev Cert.KernelMemQIdeal.nD) → Buf (Elt Ideal) ((c.tc : Thread Cert.KernelMemQIdeal.nD Cert.KernelMemQIdeal.τ).loc Cert.KernelMemQIdeal.main_v3)),
      θ_run (Cert.KernelMemQIdeal.defs (F := Ideal)) (onTc (τ := Cert.KernelMemQIdeal.τ) (Cert.KernelMemQIdeal.main (F := Ideal))) ⟨m, fun _ => 0, g⟩ (fun r => ∀ c : Dev Cert.KernelMemQIdeal.nD,
          r.2.mem ((c.tc : Thread Cert.KernelMemQIdeal.nD Cert.KernelMemQIdeal.τ).loc Cert.KernelMemQIdeal.main_v0) = v0 c
          ∧ r.2.mem ((c.tc : Thread Cert.KernelMemQIdeal.nD Cert.KernelMemQIdeal.τ).loc Cert.KernelMemQIdeal.main_v1) = v1 c
          ∧ r.2.mem ((c.tc : Thread Cert.KernelMemQIdeal.nD Cert.KernelMemQIdeal.τ).loc Cert.KernelMemQIdeal.main_v2) = v2 c
          ∧ r.2.mem ((c.tc : Thread Cert.KernelMemQIdeal.nD Cert.KernelMemQIdeal.τ).loc Cert.KernelMemQIdeal.main_v3) = v3 c
          ∧ r.2.mem ((c.tc : Thread Cert.KernelMemQIdeal.nD Cert.KernelMemQIdeal.τ).loc Cert.KernelMemQIdeal.main_arg0) = m ((c.tc : Thread Cert.KernelMemQIdeal.nD Cert.KernelMemQIdeal.τ).loc Cert.KernelMemQIdeal.main_arg0)
          ∧ r.2.mem ((c.tc : Thread Cert.KernelMemQIdeal.nD Cert.KernelMemQIdeal.τ).loc Cert.KernelMemQIdeal.main_arg1) = m ((c.tc : Thread Cert.KernelMemQIdeal.nD Cert.KernelMemQIdeal.τ).loc Cert.KernelMemQIdeal.main_arg1)
          ∧ r.2.mem ((c.tc : Thread Cert.KernelMemQIdeal.nD Cert.KernelMemQIdeal.τ).loc Cert.KernelMemQIdeal.main_arg2) = m ((c.tc : Thread Cert.KernelMemQIdeal.nD Cert.KernelMemQIdeal.τ).loc Cert.KernelMemQIdeal.main_arg2)
          ∧ r.2.mem ((c.tc : Thread Cert.KernelMemQIdeal.nD Cert.KernelMemQIdeal.τ).loc Cert.KernelMemQIdeal.main_arg3) = m ((c.tc : Thread Cert.KernelMemQIdeal.nD Cert.KernelMemQIdeal.τ).loc Cert.KernelMemQIdeal.main_arg3)
          ∧ r.2.mem ((c.tc : Thread Cert.KernelMemQIdeal.nD Cert.KernelMemQIdeal.τ).loc Cert.KernelMemQIdeal.main_arg4) = m ((c.tc : Thread Cert.KernelMemQIdeal.nD Cert.KernelMemQIdeal.τ).loc Cert.KernelMemQIdeal.main_arg4))
      ∧ θ_run (Cert.ReferenceMemQIdeal.defs (F := Ideal)) (onTc (τ := Cert.ReferenceMemQIdeal.τ) (Cert.ReferenceMemQIdeal.main (F := Ideal))) ⟨m', fun _ => 0, g'⟩ (fun r => ∀ c : Dev Cert.ReferenceMemQIdeal.nD,
          r.2.mem ((c.tc : Thread Cert.ReferenceMemQIdeal.nD Cert.ReferenceMemQIdeal.τ).loc Cert.ReferenceMemQIdeal.main_v4) = v0 c
          ∧ r.2.mem ((c.tc : Thread Cert.ReferenceMemQIdeal.nD Cert.ReferenceMemQIdeal.τ).loc Cert.ReferenceMemQIdeal.main_v9) = v1 c
          ∧ r.2.mem ((c.tc : Thread Cert.ReferenceMemQIdeal.nD Cert.ReferenceMemQIdeal.τ).loc Cert.ReferenceMemQIdeal.main_v14) = v2 c
          ∧ r.2.mem ((c.tc : Thread Cert.ReferenceMemQIdeal.nD Cert.ReferenceMemQIdeal.τ).loc Cert.ReferenceMemQIdeal.main_v19) = v3 c
          ∧ r.2.mem ((c.tc : Thread Cert.ReferenceMemQIdeal.nD Cert.ReferenceMemQIdeal.τ).loc Cert.ReferenceMemQIdeal.main_arg0) = m' ((c.tc : Thread Cert.ReferenceMemQIdeal.nD Cert.ReferenceMemQIdeal.τ).loc Cert.ReferenceMemQIdeal.main_arg0)
          ∧ r.2.mem ((c.tc : Thread Cert.ReferenceMemQIdeal.nD Cert.ReferenceMemQIdeal.τ).loc Cert.ReferenceMemQIdeal.main_arg1) = m' ((c.tc : Thread Cert.ReferenceMemQIdeal.nD Cert.ReferenceMemQIdeal.τ).loc Cert.ReferenceMemQIdeal.main_arg1)
          ∧ r.2.mem ((c.tc : Thread Cert.ReferenceMemQIdeal.nD Cert.ReferenceMemQIdeal.τ).loc Cert.ReferenceMemQIdeal.main_arg2) = m' ((c.tc : Thread Cert.ReferenceMemQIdeal.nD Cert.ReferenceMemQIdeal.τ).loc Cert.ReferenceMemQIdeal.main_arg2)
          ∧ r.2.mem ((c.tc : Thread Cert.ReferenceMemQIdeal.nD Cert.ReferenceMemQIdeal.τ).loc Cert.ReferenceMemQIdeal.main_arg3) = m' ((c.tc : Thread Cert.ReferenceMemQIdeal.nD Cert.ReferenceMemQIdeal.τ).loc Cert.ReferenceMemQIdeal.main_arg3)
          ∧ r.2.mem ((c.tc : Thread Cert.ReferenceMemQIdeal.nD Cert.ReferenceMemQIdeal.τ).loc Cert.ReferenceMemQIdeal.main_arg4) = m' ((c.tc : Thread Cert.ReferenceMemQIdeal.nD Cert.ReferenceMemQIdeal.τ).loc Cert.ReferenceMemQIdeal.main_arg4))

def preserves_KernelMemO_KernelMemOIdeal : Prop :=
  True

def algebraic_KernelMemOIdeal_ReferenceMemOIdeal [hKernelMemOIdeal : Cert.KernelMemOIdeal.Facts] [hReferenceMemOIdeal : Cert.ReferenceMemOIdeal.Facts] : Prop :=
  ∀ (m : (ℓ : Loc Cert.KernelMemOIdeal.nD Cert.KernelMemOIdeal.τ Cert.KernelMemOIdeal.sig) → Buf (Elt Ideal) ℓ) (g : Dev Cert.KernelMemOIdeal.nD → PrngReg)
    (m' : (ℓ : Loc Cert.ReferenceMemOIdeal.nD Cert.ReferenceMemOIdeal.τ Cert.ReferenceMemOIdeal.sig) → Buf (Elt Ideal) ℓ) (g' : Dev Cert.ReferenceMemOIdeal.nD → PrngReg), Pre_KernelMemOIdeal m →
    (∀ c : Dev Cert.KernelMemOIdeal.nD,
      m' ((c.tc : Thread Cert.ReferenceMemOIdeal.nD Cert.ReferenceMemOIdeal.τ).loc Cert.ReferenceMemOIdeal.main_arg0) = m ((c.tc : Thread Cert.KernelMemOIdeal.nD Cert.KernelMemOIdeal.τ).loc Cert.KernelMemOIdeal.main_arg0)
      ∧ m' ((c.tc : Thread Cert.ReferenceMemOIdeal.nD Cert.ReferenceMemOIdeal.τ).loc Cert.ReferenceMemOIdeal.main_arg1) = m ((c.tc : Thread Cert.KernelMemOIdeal.nD Cert.KernelMemOIdeal.τ).loc Cert.KernelMemOIdeal.main_arg1)
      ∧ m' ((c.tc : Thread Cert.ReferenceMemOIdeal.nD Cert.ReferenceMemOIdeal.τ).loc Cert.ReferenceMemOIdeal.main_arg2) = m ((c.tc : Thread Cert.KernelMemOIdeal.nD Cert.KernelMemOIdeal.τ).loc Cert.KernelMemOIdeal.main_arg2)
      ∧ m' ((c.tc : Thread Cert.ReferenceMemOIdeal.nD Cert.ReferenceMemOIdeal.τ).loc Cert.ReferenceMemOIdeal.main_arg3) = m ((c.tc : Thread Cert.KernelMemOIdeal.nD Cert.KernelMemOIdeal.τ).loc Cert.KernelMemOIdeal.main_arg3)
      ∧ m' ((c.tc : Thread Cert.ReferenceMemOIdeal.nD Cert.ReferenceMemOIdeal.τ).loc Cert.ReferenceMemOIdeal.main_arg4) = m ((c.tc : Thread Cert.KernelMemOIdeal.nD Cert.KernelMemOIdeal.τ).loc Cert.KernelMemOIdeal.main_arg4)) →
    ∃ (v0 : (c : Dev Cert.KernelMemOIdeal.nD) → Buf (Elt Ideal) ((c.tc : Thread Cert.KernelMemOIdeal.nD Cert.KernelMemOIdeal.τ).loc Cert.KernelMemOIdeal.main_v0)) (v1 : (c : Dev Cert.KernelMemOIdeal.nD) → Buf (Elt Ideal) ((c.tc : Thread Cert.KernelMemOIdeal.nD Cert.KernelMemOIdeal.τ).loc Cert.KernelMemOIdeal.main_v1)) (v2 : (c : Dev Cert.KernelMemOIdeal.nD) → Buf (Elt Ideal) ((c.tc : Thread Cert.KernelMemOIdeal.nD Cert.KernelMemOIdeal.τ).loc Cert.KernelMemOIdeal.main_v2)) (v3 : (c : Dev Cert.KernelMemOIdeal.nD) → Buf (Elt Ideal) ((c.tc : Thread Cert.KernelMemOIdeal.nD Cert.KernelMemOIdeal.τ).loc Cert.KernelMemOIdeal.main_v3)),
      θ_run (Cert.KernelMemOIdeal.defs (F := Ideal)) (onTc (τ := Cert.KernelMemOIdeal.τ) (Cert.KernelMemOIdeal.main (F := Ideal))) ⟨m, fun _ => 0, g⟩ (fun r => ∀ c : Dev Cert.KernelMemOIdeal.nD,
          r.2.mem ((c.tc : Thread Cert.KernelMemOIdeal.nD Cert.KernelMemOIdeal.τ).loc Cert.KernelMemOIdeal.main_v0) = v0 c
          ∧ r.2.mem ((c.tc : Thread Cert.KernelMemOIdeal.nD Cert.KernelMemOIdeal.τ).loc Cert.KernelMemOIdeal.main_v1) = v1 c
          ∧ r.2.mem ((c.tc : Thread Cert.KernelMemOIdeal.nD Cert.KernelMemOIdeal.τ).loc Cert.KernelMemOIdeal.main_v2) = v2 c
          ∧ r.2.mem ((c.tc : Thread Cert.KernelMemOIdeal.nD Cert.KernelMemOIdeal.τ).loc Cert.KernelMemOIdeal.main_v3) = v3 c
          ∧ r.2.mem ((c.tc : Thread Cert.KernelMemOIdeal.nD Cert.KernelMemOIdeal.τ).loc Cert.KernelMemOIdeal.main_arg0) = m ((c.tc : Thread Cert.KernelMemOIdeal.nD Cert.KernelMemOIdeal.τ).loc Cert.KernelMemOIdeal.main_arg0)
          ∧ r.2.mem ((c.tc : Thread Cert.KernelMemOIdeal.nD Cert.KernelMemOIdeal.τ).loc Cert.KernelMemOIdeal.main_arg1) = m ((c.tc : Thread Cert.KernelMemOIdeal.nD Cert.KernelMemOIdeal.τ).loc Cert.KernelMemOIdeal.main_arg1)
          ∧ r.2.mem ((c.tc : Thread Cert.KernelMemOIdeal.nD Cert.KernelMemOIdeal.τ).loc Cert.KernelMemOIdeal.main_arg2) = m ((c.tc : Thread Cert.KernelMemOIdeal.nD Cert.KernelMemOIdeal.τ).loc Cert.KernelMemOIdeal.main_arg2)
          ∧ r.2.mem ((c.tc : Thread Cert.KernelMemOIdeal.nD Cert.KernelMemOIdeal.τ).loc Cert.KernelMemOIdeal.main_arg3) = m ((c.tc : Thread Cert.KernelMemOIdeal.nD Cert.KernelMemOIdeal.τ).loc Cert.KernelMemOIdeal.main_arg3)
          ∧ r.2.mem ((c.tc : Thread Cert.KernelMemOIdeal.nD Cert.KernelMemOIdeal.τ).loc Cert.KernelMemOIdeal.main_arg4) = m ((c.tc : Thread Cert.KernelMemOIdeal.nD Cert.KernelMemOIdeal.τ).loc Cert.KernelMemOIdeal.main_arg4))
      ∧ θ_run (Cert.ReferenceMemOIdeal.defs (F := Ideal)) (onTc (τ := Cert.ReferenceMemOIdeal.τ) (Cert.ReferenceMemOIdeal.main (F := Ideal))) ⟨m', fun _ => 0, g'⟩ (fun r => ∀ c : Dev Cert.ReferenceMemOIdeal.nD,
          r.2.mem ((c.tc : Thread Cert.ReferenceMemOIdeal.nD Cert.ReferenceMemOIdeal.τ).loc Cert.ReferenceMemOIdeal.main_v4) = v0 c
          ∧ r.2.mem ((c.tc : Thread Cert.ReferenceMemOIdeal.nD Cert.ReferenceMemOIdeal.τ).loc Cert.ReferenceMemOIdeal.main_v9) = v1 c
          ∧ r.2.mem ((c.tc : Thread Cert.ReferenceMemOIdeal.nD Cert.ReferenceMemOIdeal.τ).loc Cert.ReferenceMemOIdeal.main_v14) = v2 c
          ∧ r.2.mem ((c.tc : Thread Cert.ReferenceMemOIdeal.nD Cert.ReferenceMemOIdeal.τ).loc Cert.ReferenceMemOIdeal.main_v19) = v3 c
          ∧ r.2.mem ((c.tc : Thread Cert.ReferenceMemOIdeal.nD Cert.ReferenceMemOIdeal.τ).loc Cert.ReferenceMemOIdeal.main_arg0) = m' ((c.tc : Thread Cert.ReferenceMemOIdeal.nD Cert.ReferenceMemOIdeal.τ).loc Cert.ReferenceMemOIdeal.main_arg0)
          ∧ r.2.mem ((c.tc : Thread Cert.ReferenceMemOIdeal.nD Cert.ReferenceMemOIdeal.τ).loc Cert.ReferenceMemOIdeal.main_arg1) = m' ((c.tc : Thread Cert.ReferenceMemOIdeal.nD Cert.ReferenceMemOIdeal.τ).loc Cert.ReferenceMemOIdeal.main_arg1)
          ∧ r.2.mem ((c.tc : Thread Cert.ReferenceMemOIdeal.nD Cert.ReferenceMemOIdeal.τ).loc Cert.ReferenceMemOIdeal.main_arg2) = m' ((c.tc : Thread Cert.ReferenceMemOIdeal.nD Cert.ReferenceMemOIdeal.τ).loc Cert.ReferenceMemOIdeal.main_arg2)
          ∧ r.2.mem ((c.tc : Thread Cert.ReferenceMemOIdeal.nD Cert.ReferenceMemOIdeal.τ).loc Cert.ReferenceMemOIdeal.main_arg3) = m' ((c.tc : Thread Cert.ReferenceMemOIdeal.nD Cert.ReferenceMemOIdeal.τ).loc Cert.ReferenceMemOIdeal.main_arg3)
          ∧ r.2.mem ((c.tc : Thread Cert.ReferenceMemOIdeal.nD Cert.ReferenceMemOIdeal.τ).loc Cert.ReferenceMemOIdeal.main_arg4) = m' ((c.tc : Thread Cert.ReferenceMemOIdeal.nD Cert.ReferenceMemOIdeal.τ).loc Cert.ReferenceMemOIdeal.main_arg4))

def preserves_KernelMemQDx_KernelMemQDxIdeal : Prop :=
  True

def algebraic_KernelMemQDxIdeal_ReferenceMemQDxIdeal [hKernelMemQDxIdeal : Cert.KernelMemQDxIdeal.Facts] [hReferenceMemQDxIdeal : Cert.ReferenceMemQDxIdeal.Facts] : Prop :=
  ∀ (m : (ℓ : Loc Cert.KernelMemQDxIdeal.nD Cert.KernelMemQDxIdeal.τ Cert.KernelMemQDxIdeal.sig) → Buf (Elt Ideal) ℓ) (g : Dev Cert.KernelMemQDxIdeal.nD → PrngReg)
    (m' : (ℓ : Loc Cert.ReferenceMemQDxIdeal.nD Cert.ReferenceMemQDxIdeal.τ Cert.ReferenceMemQDxIdeal.sig) → Buf (Elt Ideal) ℓ) (g' : Dev Cert.ReferenceMemQDxIdeal.nD → PrngReg), Pre_KernelMemQDxIdeal m →
    (∀ c : Dev Cert.KernelMemQDxIdeal.nD,
      m' ((c.tc : Thread Cert.ReferenceMemQDxIdeal.nD Cert.ReferenceMemQDxIdeal.τ).loc Cert.ReferenceMemQDxIdeal.main_arg0) = m ((c.tc : Thread Cert.KernelMemQDxIdeal.nD Cert.KernelMemQDxIdeal.τ).loc Cert.KernelMemQDxIdeal.main_arg0)
      ∧ m' ((c.tc : Thread Cert.ReferenceMemQDxIdeal.nD Cert.ReferenceMemQDxIdeal.τ).loc Cert.ReferenceMemQDxIdeal.main_arg1) = m ((c.tc : Thread Cert.KernelMemQDxIdeal.nD Cert.KernelMemQDxIdeal.τ).loc Cert.KernelMemQDxIdeal.main_arg1)
      ∧ m' ((c.tc : Thread Cert.ReferenceMemQDxIdeal.nD Cert.ReferenceMemQDxIdeal.τ).loc Cert.ReferenceMemQDxIdeal.main_arg2) = m ((c.tc : Thread Cert.KernelMemQDxIdeal.nD Cert.KernelMemQDxIdeal.τ).loc Cert.KernelMemQDxIdeal.main_arg2)
      ∧ m' ((c.tc : Thread Cert.ReferenceMemQDxIdeal.nD Cert.ReferenceMemQDxIdeal.τ).loc Cert.ReferenceMemQDxIdeal.main_arg3) = m ((c.tc : Thread Cert.KernelMemQDxIdeal.nD Cert.KernelMemQDxIdeal.τ).loc Cert.KernelMemQDxIdeal.main_arg3)
      ∧ m' ((c.tc : Thread Cert.ReferenceMemQDxIdeal.nD Cert.ReferenceMemQDxIdeal.τ).loc Cert.ReferenceMemQDxIdeal.main_arg4) = m ((c.tc : Thread Cert.KernelMemQDxIdeal.nD Cert.KernelMemQDxIdeal.τ).loc Cert.KernelMemQDxIdeal.main_arg4)
      ∧ m' ((c.tc : Thread Cert.ReferenceMemQDxIdeal.nD Cert.ReferenceMemQDxIdeal.τ).loc Cert.ReferenceMemQDxIdeal.main_arg5) = m ((c.tc : Thread Cert.KernelMemQDxIdeal.nD Cert.KernelMemQDxIdeal.τ).loc Cert.KernelMemQDxIdeal.main_arg5)
      ∧ m' ((c.tc : Thread Cert.ReferenceMemQDxIdeal.nD Cert.ReferenceMemQDxIdeal.τ).loc Cert.ReferenceMemQDxIdeal.main_arg6) = m ((c.tc : Thread Cert.KernelMemQDxIdeal.nD Cert.KernelMemQDxIdeal.τ).loc Cert.KernelMemQDxIdeal.main_arg6)
      ∧ m' ((c.tc : Thread Cert.ReferenceMemQDxIdeal.nD Cert.ReferenceMemQDxIdeal.τ).loc Cert.ReferenceMemQDxIdeal.main_arg7) = m ((c.tc : Thread Cert.KernelMemQDxIdeal.nD Cert.KernelMemQDxIdeal.τ).loc Cert.KernelMemQDxIdeal.main_arg7)
      ∧ m' ((c.tc : Thread Cert.ReferenceMemQDxIdeal.nD Cert.ReferenceMemQDxIdeal.τ).loc Cert.ReferenceMemQDxIdeal.main_arg8) = m ((c.tc : Thread Cert.KernelMemQDxIdeal.nD Cert.KernelMemQDxIdeal.τ).loc Cert.KernelMemQDxIdeal.main_arg8)) →
    ∃ (v0 : (c : Dev Cert.KernelMemQDxIdeal.nD) → Buf (Elt Ideal) ((c.tc : Thread Cert.KernelMemQDxIdeal.nD Cert.KernelMemQDxIdeal.τ).loc Cert.KernelMemQDxIdeal.main_v0)) (v1 : (c : Dev Cert.KernelMemQDxIdeal.nD) → Buf (Elt Ideal) ((c.tc : Thread Cert.KernelMemQDxIdeal.nD Cert.KernelMemQDxIdeal.τ).loc Cert.KernelMemQDxIdeal.main_v1)) (v2 : (c : Dev Cert.KernelMemQDxIdeal.nD) → Buf (Elt Ideal) ((c.tc : Thread Cert.KernelMemQDxIdeal.nD Cert.KernelMemQDxIdeal.τ).loc Cert.KernelMemQDxIdeal.main_v2)) (v3 : (c : Dev Cert.KernelMemQDxIdeal.nD) → Buf (Elt Ideal) ((c.tc : Thread Cert.KernelMemQDxIdeal.nD Cert.KernelMemQDxIdeal.τ).loc Cert.KernelMemQDxIdeal.main_v3)),
      θ_run (Cert.KernelMemQDxIdeal.defs (F := Ideal)) (onTc (τ := Cert.KernelMemQDxIdeal.τ) (Cert.KernelMemQDxIdeal.main (F := Ideal))) ⟨m, fun _ => 0, g⟩ (fun r => ∀ c : Dev Cert.KernelMemQDxIdeal.nD,
          r.2.mem ((c.tc : Thread Cert.KernelMemQDxIdeal.nD Cert.KernelMemQDxIdeal.τ).loc Cert.KernelMemQDxIdeal.main_v0) = v0 c
          ∧ r.2.mem ((c.tc : Thread Cert.KernelMemQDxIdeal.nD Cert.KernelMemQDxIdeal.τ).loc Cert.KernelMemQDxIdeal.main_v1) = v1 c
          ∧ r.2.mem ((c.tc : Thread Cert.KernelMemQDxIdeal.nD Cert.KernelMemQDxIdeal.τ).loc Cert.KernelMemQDxIdeal.main_v2) = v2 c
          ∧ r.2.mem ((c.tc : Thread Cert.KernelMemQDxIdeal.nD Cert.KernelMemQDxIdeal.τ).loc Cert.KernelMemQDxIdeal.main_v3) = v3 c
          ∧ r.2.mem ((c.tc : Thread Cert.KernelMemQDxIdeal.nD Cert.KernelMemQDxIdeal.τ).loc Cert.KernelMemQDxIdeal.main_arg0) = m ((c.tc : Thread Cert.KernelMemQDxIdeal.nD Cert.KernelMemQDxIdeal.τ).loc Cert.KernelMemQDxIdeal.main_arg0)
          ∧ r.2.mem ((c.tc : Thread Cert.KernelMemQDxIdeal.nD Cert.KernelMemQDxIdeal.τ).loc Cert.KernelMemQDxIdeal.main_arg1) = m ((c.tc : Thread Cert.KernelMemQDxIdeal.nD Cert.KernelMemQDxIdeal.τ).loc Cert.KernelMemQDxIdeal.main_arg1)
          ∧ r.2.mem ((c.tc : Thread Cert.KernelMemQDxIdeal.nD Cert.KernelMemQDxIdeal.τ).loc Cert.KernelMemQDxIdeal.main_arg2) = m ((c.tc : Thread Cert.KernelMemQDxIdeal.nD Cert.KernelMemQDxIdeal.τ).loc Cert.KernelMemQDxIdeal.main_arg2)
          ∧ r.2.mem ((c.tc : Thread Cert.KernelMemQDxIdeal.nD Cert.KernelMemQDxIdeal.τ).loc Cert.KernelMemQDxIdeal.main_arg3) = m ((c.tc : Thread Cert.KernelMemQDxIdeal.nD Cert.KernelMemQDxIdeal.τ).loc Cert.KernelMemQDxIdeal.main_arg3)
          ∧ r.2.mem ((c.tc : Thread Cert.KernelMemQDxIdeal.nD Cert.KernelMemQDxIdeal.τ).loc Cert.KernelMemQDxIdeal.main_arg4) = m ((c.tc : Thread Cert.KernelMemQDxIdeal.nD Cert.KernelMemQDxIdeal.τ).loc Cert.KernelMemQDxIdeal.main_arg4)
          ∧ r.2.mem ((c.tc : Thread Cert.KernelMemQDxIdeal.nD Cert.KernelMemQDxIdeal.τ).loc Cert.KernelMemQDxIdeal.main_arg5) = m ((c.tc : Thread Cert.KernelMemQDxIdeal.nD Cert.KernelMemQDxIdeal.τ).loc Cert.KernelMemQDxIdeal.main_arg5)
          ∧ r.2.mem ((c.tc : Thread Cert.KernelMemQDxIdeal.nD Cert.KernelMemQDxIdeal.τ).loc Cert.KernelMemQDxIdeal.main_arg6) = m ((c.tc : Thread Cert.KernelMemQDxIdeal.nD Cert.KernelMemQDxIdeal.τ).loc Cert.KernelMemQDxIdeal.main_arg6)
          ∧ r.2.mem ((c.tc : Thread Cert.KernelMemQDxIdeal.nD Cert.KernelMemQDxIdeal.τ).loc Cert.KernelMemQDxIdeal.main_arg7) = m ((c.tc : Thread Cert.KernelMemQDxIdeal.nD Cert.KernelMemQDxIdeal.τ).loc Cert.KernelMemQDxIdeal.main_arg7)
          ∧ r.2.mem ((c.tc : Thread Cert.KernelMemQDxIdeal.nD Cert.KernelMemQDxIdeal.τ).loc Cert.KernelMemQDxIdeal.main_arg8) = m ((c.tc : Thread Cert.KernelMemQDxIdeal.nD Cert.KernelMemQDxIdeal.τ).loc Cert.KernelMemQDxIdeal.main_arg8))
      ∧ θ_run (Cert.ReferenceMemQDxIdeal.defs (F := Ideal)) (onTc (τ := Cert.ReferenceMemQDxIdeal.τ) (Cert.ReferenceMemQDxIdeal.main (F := Ideal))) ⟨m', fun _ => 0, g'⟩ (fun r => ∀ c : Dev Cert.ReferenceMemQDxIdeal.nD,
          r.2.mem ((c.tc : Thread Cert.ReferenceMemQDxIdeal.nD Cert.ReferenceMemQDxIdeal.τ).loc Cert.ReferenceMemQDxIdeal.main_v7) = v0 c
          ∧ r.2.mem ((c.tc : Thread Cert.ReferenceMemQDxIdeal.nD Cert.ReferenceMemQDxIdeal.τ).loc Cert.ReferenceMemQDxIdeal.main_v15) = v1 c
          ∧ r.2.mem ((c.tc : Thread Cert.ReferenceMemQDxIdeal.nD Cert.ReferenceMemQDxIdeal.τ).loc Cert.ReferenceMemQDxIdeal.main_v23) = v2 c
          ∧ r.2.mem ((c.tc : Thread Cert.ReferenceMemQDxIdeal.nD Cert.ReferenceMemQDxIdeal.τ).loc Cert.ReferenceMemQDxIdeal.main_v31) = v3 c
          ∧ r.2.mem ((c.tc : Thread Cert.ReferenceMemQDxIdeal.nD Cert.ReferenceMemQDxIdeal.τ).loc Cert.ReferenceMemQDxIdeal.main_arg0) = m' ((c.tc : Thread Cert.ReferenceMemQDxIdeal.nD Cert.ReferenceMemQDxIdeal.τ).loc Cert.ReferenceMemQDxIdeal.main_arg0)
          ∧ r.2.mem ((c.tc : Thread Cert.ReferenceMemQDxIdeal.nD Cert.ReferenceMemQDxIdeal.τ).loc Cert.ReferenceMemQDxIdeal.main_arg1) = m' ((c.tc : Thread Cert.ReferenceMemQDxIdeal.nD Cert.ReferenceMemQDxIdeal.τ).loc Cert.ReferenceMemQDxIdeal.main_arg1)
          ∧ r.2.mem ((c.tc : Thread Cert.ReferenceMemQDxIdeal.nD Cert.ReferenceMemQDxIdeal.τ).loc Cert.ReferenceMemQDxIdeal.main_arg2) = m' ((c.tc : Thread Cert.ReferenceMemQDxIdeal.nD Cert.ReferenceMemQDxIdeal.τ).loc Cert.ReferenceMemQDxIdeal.main_arg2)
          ∧ r.2.mem ((c.tc : Thread Cert.ReferenceMemQDxIdeal.nD Cert.ReferenceMemQDxIdeal.τ).loc Cert.ReferenceMemQDxIdeal.main_arg3) = m' ((c.tc : Thread Cert.ReferenceMemQDxIdeal.nD Cert.ReferenceMemQDxIdeal.τ).loc Cert.ReferenceMemQDxIdeal.main_arg3)
          ∧ r.2.mem ((c.tc : Thread Cert.ReferenceMemQDxIdeal.nD Cert.ReferenceMemQDxIdeal.τ).loc Cert.ReferenceMemQDxIdeal.main_arg4) = m' ((c.tc : Thread Cert.ReferenceMemQDxIdeal.nD Cert.ReferenceMemQDxIdeal.τ).loc Cert.ReferenceMemQDxIdeal.main_arg4)
          ∧ r.2.mem ((c.tc : Thread Cert.ReferenceMemQDxIdeal.nD Cert.ReferenceMemQDxIdeal.τ).loc Cert.ReferenceMemQDxIdeal.main_arg5) = m' ((c.tc : Thread Cert.ReferenceMemQDxIdeal.nD Cert.ReferenceMemQDxIdeal.τ).loc Cert.ReferenceMemQDxIdeal.main_arg5)
          ∧ r.2.mem ((c.tc : Thread Cert.ReferenceMemQDxIdeal.nD Cert.ReferenceMemQDxIdeal.τ).loc Cert.ReferenceMemQDxIdeal.main_arg6) = m' ((c.tc : Thread Cert.ReferenceMemQDxIdeal.nD Cert.ReferenceMemQDxIdeal.τ).loc Cert.ReferenceMemQDxIdeal.main_arg6)
          ∧ r.2.mem ((c.tc : Thread Cert.ReferenceMemQDxIdeal.nD Cert.ReferenceMemQDxIdeal.τ).loc Cert.ReferenceMemQDxIdeal.main_arg7) = m' ((c.tc : Thread Cert.ReferenceMemQDxIdeal.nD Cert.ReferenceMemQDxIdeal.τ).loc Cert.ReferenceMemQDxIdeal.main_arg7)
          ∧ r.2.mem ((c.tc : Thread Cert.ReferenceMemQDxIdeal.nD Cert.ReferenceMemQDxIdeal.τ).loc Cert.ReferenceMemQDxIdeal.main_arg8) = m' ((c.tc : Thread Cert.ReferenceMemQDxIdeal.nD Cert.ReferenceMemQDxIdeal.τ).loc Cert.ReferenceMemQDxIdeal.main_arg8))

def preserves_KernelMemODx_KernelMemODxIdeal : Prop :=
  True

def algebraic_KernelMemODxIdeal_ReferenceMemODxIdeal [hKernelMemODxIdeal : Cert.KernelMemODxIdeal.Facts] [hReferenceMemODxIdeal : Cert.ReferenceMemODxIdeal.Facts] : Prop :=
  ∀ (m : (ℓ : Loc Cert.KernelMemODxIdeal.nD Cert.KernelMemODxIdeal.τ Cert.KernelMemODxIdeal.sig) → Buf (Elt Ideal) ℓ) (g : Dev Cert.KernelMemODxIdeal.nD → PrngReg)
    (m' : (ℓ : Loc Cert.ReferenceMemODxIdeal.nD Cert.ReferenceMemODxIdeal.τ Cert.ReferenceMemODxIdeal.sig) → Buf (Elt Ideal) ℓ) (g' : Dev Cert.ReferenceMemODxIdeal.nD → PrngReg), Pre_KernelMemODxIdeal m →
    (∀ c : Dev Cert.KernelMemODxIdeal.nD,
      m' ((c.tc : Thread Cert.ReferenceMemODxIdeal.nD Cert.ReferenceMemODxIdeal.τ).loc Cert.ReferenceMemODxIdeal.main_arg0) = m ((c.tc : Thread Cert.KernelMemODxIdeal.nD Cert.KernelMemODxIdeal.τ).loc Cert.KernelMemODxIdeal.main_arg0)
      ∧ m' ((c.tc : Thread Cert.ReferenceMemODxIdeal.nD Cert.ReferenceMemODxIdeal.τ).loc Cert.ReferenceMemODxIdeal.main_arg1) = m ((c.tc : Thread Cert.KernelMemODxIdeal.nD Cert.KernelMemODxIdeal.τ).loc Cert.KernelMemODxIdeal.main_arg1)
      ∧ m' ((c.tc : Thread Cert.ReferenceMemODxIdeal.nD Cert.ReferenceMemODxIdeal.τ).loc Cert.ReferenceMemODxIdeal.main_arg2) = m ((c.tc : Thread Cert.KernelMemODxIdeal.nD Cert.KernelMemODxIdeal.τ).loc Cert.KernelMemODxIdeal.main_arg2)
      ∧ m' ((c.tc : Thread Cert.ReferenceMemODxIdeal.nD Cert.ReferenceMemODxIdeal.τ).loc Cert.ReferenceMemODxIdeal.main_arg3) = m ((c.tc : Thread Cert.KernelMemODxIdeal.nD Cert.KernelMemODxIdeal.τ).loc Cert.KernelMemODxIdeal.main_arg3)
      ∧ m' ((c.tc : Thread Cert.ReferenceMemODxIdeal.nD Cert.ReferenceMemODxIdeal.τ).loc Cert.ReferenceMemODxIdeal.main_arg4) = m ((c.tc : Thread Cert.KernelMemODxIdeal.nD Cert.KernelMemODxIdeal.τ).loc Cert.KernelMemODxIdeal.main_arg4)) →
    ∃ (v0 : (c : Dev Cert.KernelMemODxIdeal.nD) → Buf (Elt Ideal) ((c.tc : Thread Cert.KernelMemODxIdeal.nD Cert.KernelMemODxIdeal.τ).loc Cert.KernelMemODxIdeal.main_v0)) (v1 : (c : Dev Cert.KernelMemODxIdeal.nD) → Buf (Elt Ideal) ((c.tc : Thread Cert.KernelMemODxIdeal.nD Cert.KernelMemODxIdeal.τ).loc Cert.KernelMemODxIdeal.main_v1)) (v2 : (c : Dev Cert.KernelMemODxIdeal.nD) → Buf (Elt Ideal) ((c.tc : Thread Cert.KernelMemODxIdeal.nD Cert.KernelMemODxIdeal.τ).loc Cert.KernelMemODxIdeal.main_v2)) (v3 : (c : Dev Cert.KernelMemODxIdeal.nD) → Buf (Elt Ideal) ((c.tc : Thread Cert.KernelMemODxIdeal.nD Cert.KernelMemODxIdeal.τ).loc Cert.KernelMemODxIdeal.main_v3)),
      θ_run (Cert.KernelMemODxIdeal.defs (F := Ideal)) (onTc (τ := Cert.KernelMemODxIdeal.τ) (Cert.KernelMemODxIdeal.main (F := Ideal))) ⟨m, fun _ => 0, g⟩ (fun r => ∀ c : Dev Cert.KernelMemODxIdeal.nD,
          r.2.mem ((c.tc : Thread Cert.KernelMemODxIdeal.nD Cert.KernelMemODxIdeal.τ).loc Cert.KernelMemODxIdeal.main_v0) = v0 c
          ∧ r.2.mem ((c.tc : Thread Cert.KernelMemODxIdeal.nD Cert.KernelMemODxIdeal.τ).loc Cert.KernelMemODxIdeal.main_v1) = v1 c
          ∧ r.2.mem ((c.tc : Thread Cert.KernelMemODxIdeal.nD Cert.KernelMemODxIdeal.τ).loc Cert.KernelMemODxIdeal.main_v2) = v2 c
          ∧ r.2.mem ((c.tc : Thread Cert.KernelMemODxIdeal.nD Cert.KernelMemODxIdeal.τ).loc Cert.KernelMemODxIdeal.main_v3) = v3 c
          ∧ r.2.mem ((c.tc : Thread Cert.KernelMemODxIdeal.nD Cert.KernelMemODxIdeal.τ).loc Cert.KernelMemODxIdeal.main_arg0) = m ((c.tc : Thread Cert.KernelMemODxIdeal.nD Cert.KernelMemODxIdeal.τ).loc Cert.KernelMemODxIdeal.main_arg0)
          ∧ r.2.mem ((c.tc : Thread Cert.KernelMemODxIdeal.nD Cert.KernelMemODxIdeal.τ).loc Cert.KernelMemODxIdeal.main_arg1) = m ((c.tc : Thread Cert.KernelMemODxIdeal.nD Cert.KernelMemODxIdeal.τ).loc Cert.KernelMemODxIdeal.main_arg1)
          ∧ r.2.mem ((c.tc : Thread Cert.KernelMemODxIdeal.nD Cert.KernelMemODxIdeal.τ).loc Cert.KernelMemODxIdeal.main_arg2) = m ((c.tc : Thread Cert.KernelMemODxIdeal.nD Cert.KernelMemODxIdeal.τ).loc Cert.KernelMemODxIdeal.main_arg2)
          ∧ r.2.mem ((c.tc : Thread Cert.KernelMemODxIdeal.nD Cert.KernelMemODxIdeal.τ).loc Cert.KernelMemODxIdeal.main_arg3) = m ((c.tc : Thread Cert.KernelMemODxIdeal.nD Cert.KernelMemODxIdeal.τ).loc Cert.KernelMemODxIdeal.main_arg3)
          ∧ r.2.mem ((c.tc : Thread Cert.KernelMemODxIdeal.nD Cert.KernelMemODxIdeal.τ).loc Cert.KernelMemODxIdeal.main_arg4) = m ((c.tc : Thread Cert.KernelMemODxIdeal.nD Cert.KernelMemODxIdeal.τ).loc Cert.KernelMemODxIdeal.main_arg4))
      ∧ θ_run (Cert.ReferenceMemODxIdeal.defs (F := Ideal)) (onTc (τ := Cert.ReferenceMemODxIdeal.τ) (Cert.ReferenceMemODxIdeal.main (F := Ideal))) ⟨m', fun _ => 0, g'⟩ (fun r => ∀ c : Dev Cert.ReferenceMemODxIdeal.nD,
          r.2.mem ((c.tc : Thread Cert.ReferenceMemODxIdeal.nD Cert.ReferenceMemODxIdeal.τ).loc Cert.ReferenceMemODxIdeal.main_v7) = v0 c
          ∧ r.2.mem ((c.tc : Thread Cert.ReferenceMemODxIdeal.nD Cert.ReferenceMemODxIdeal.τ).loc Cert.ReferenceMemODxIdeal.main_v14) = v1 c
          ∧ r.2.mem ((c.tc : Thread Cert.ReferenceMemODxIdeal.nD Cert.ReferenceMemODxIdeal.τ).loc Cert.ReferenceMemODxIdeal.main_v21) = v2 c
          ∧ r.2.mem ((c.tc : Thread Cert.ReferenceMemODxIdeal.nD Cert.ReferenceMemODxIdeal.τ).loc Cert.ReferenceMemODxIdeal.main_v28) = v3 c
          ∧ r.2.mem ((c.tc : Thread Cert.ReferenceMemODxIdeal.nD Cert.ReferenceMemODxIdeal.τ).loc Cert.ReferenceMemODxIdeal.main_arg0) = m' ((c.tc : Thread Cert.ReferenceMemODxIdeal.nD Cert.ReferenceMemODxIdeal.τ).loc Cert.ReferenceMemODxIdeal.main_arg0)
          ∧ r.2.mem ((c.tc : Thread Cert.ReferenceMemODxIdeal.nD Cert.ReferenceMemODxIdeal.τ).loc Cert.ReferenceMemODxIdeal.main_arg1) = m' ((c.tc : Thread Cert.ReferenceMemODxIdeal.nD Cert.ReferenceMemODxIdeal.τ).loc Cert.ReferenceMemODxIdeal.main_arg1)
          ∧ r.2.mem ((c.tc : Thread Cert.ReferenceMemODxIdeal.nD Cert.ReferenceMemODxIdeal.τ).loc Cert.ReferenceMemODxIdeal.main_arg2) = m' ((c.tc : Thread Cert.ReferenceMemODxIdeal.nD Cert.ReferenceMemODxIdeal.τ).loc Cert.ReferenceMemODxIdeal.main_arg2)
          ∧ r.2.mem ((c.tc : Thread Cert.ReferenceMemODxIdeal.nD Cert.ReferenceMemODxIdeal.τ).loc Cert.ReferenceMemODxIdeal.main_arg3) = m' ((c.tc : Thread Cert.ReferenceMemODxIdeal.nD Cert.ReferenceMemODxIdeal.τ).loc Cert.ReferenceMemODxIdeal.main_arg3)
          ∧ r.2.mem ((c.tc : Thread Cert.ReferenceMemODxIdeal.nD Cert.ReferenceMemODxIdeal.τ).loc Cert.ReferenceMemODxIdeal.main_arg4) = m' ((c.tc : Thread Cert.ReferenceMemODxIdeal.nD Cert.ReferenceMemODxIdeal.τ).loc Cert.ReferenceMemODxIdeal.main_arg4))

def preserves_KernelOutProj_KernelOutProjIdeal : Prop :=
  True

def algebraic_KernelOutProjIdeal_ReferenceOutProjIdeal [hKernelOutProjIdeal : Cert.KernelOutProjIdeal.Facts] [hReferenceOutProjIdeal : Cert.ReferenceOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg)
    (m' : (ℓ : Loc Cert.ReferenceOutProjIdeal.nD Cert.ReferenceOutProjIdeal.τ Cert.ReferenceOutProjIdeal.sig) → Buf (Elt Ideal) ℓ) (g' : Dev Cert.ReferenceOutProjIdeal.nD → PrngReg), Pre_KernelOutProjIdeal m →
    (∀ c : Dev Cert.KernelOutProjIdeal.nD,
      m' ((c.tc : Thread Cert.ReferenceOutProjIdeal.nD Cert.ReferenceOutProjIdeal.τ).loc Cert.ReferenceOutProjIdeal.main_arg0) = m ((c.tc : Thread Cert.KernelOutProjIdeal.nD Cert.KernelOutProjIdeal.τ).loc Cert.KernelOutProjIdeal.main_arg0)
      ∧ m' ((c.tc : Thread Cert.ReferenceOutProjIdeal.nD Cert.ReferenceOutProjIdeal.τ).loc Cert.ReferenceOutProjIdeal.main_arg1) = m ((c.tc : Thread Cert.KernelOutProjIdeal.nD Cert.KernelOutProjIdeal.τ).loc Cert.KernelOutProjIdeal.main_arg1)
      ∧ m' ((c.tc : Thread Cert.ReferenceOutProjIdeal.nD Cert.ReferenceOutProjIdeal.τ).loc Cert.ReferenceOutProjIdeal.main_arg2) = m ((c.tc : Thread Cert.KernelOutProjIdeal.nD Cert.KernelOutProjIdeal.τ).loc Cert.KernelOutProjIdeal.main_arg2)) →
    ∃ (v0 : (c : Dev Cert.KernelOutProjIdeal.nD) → Buf (Elt Ideal) ((c.tc : Thread Cert.KernelOutProjIdeal.nD Cert.KernelOutProjIdeal.τ).loc Cert.KernelOutProjIdeal.main_v0)) (v1 : (c : Dev Cert.KernelOutProjIdeal.nD) → Buf (Elt Ideal) ((c.tc : Thread Cert.KernelOutProjIdeal.nD Cert.KernelOutProjIdeal.τ).loc Cert.KernelOutProjIdeal.main_v1)),
      θ_run (Cert.KernelOutProjIdeal.defs (F := Ideal)) (onTc (τ := Cert.KernelOutProjIdeal.τ) (Cert.KernelOutProjIdeal.main (F := Ideal))) ⟨m, fun _ => 0, g⟩ (fun r => ∀ c : Dev Cert.KernelOutProjIdeal.nD,
          r.2.mem ((c.tc : Thread Cert.KernelOutProjIdeal.nD Cert.KernelOutProjIdeal.τ).loc Cert.KernelOutProjIdeal.main_v0) = v0 c
          ∧ r.2.mem ((c.tc : Thread Cert.KernelOutProjIdeal.nD Cert.KernelOutProjIdeal.τ).loc Cert.KernelOutProjIdeal.main_v1) = v1 c
          ∧ r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
          ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
          ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2))
      ∧ θ_run (Cert.ReferenceOutProjIdeal.defs (F := Ideal)) (onTc (τ := Cert.ReferenceOutProjIdeal.τ) (Cert.ReferenceOutProjIdeal.main (F := Ideal))) ⟨m', fun _ => 0, g'⟩ (fun r => ∀ c : Dev Cert.ReferenceOutProjIdeal.nD,
          r.2.mem ((c.tc : Thread Cert.ReferenceOutProjIdeal.nD Cert.ReferenceOutProjIdeal.τ).loc Cert.ReferenceOutProjIdeal.main_v4) = v0 c
          ∧ r.2.mem ((c.tc : Thread Cert.ReferenceOutProjIdeal.nD Cert.ReferenceOutProjIdeal.τ).loc Cert.ReferenceOutProjIdeal.main_v9) = v1 c
          ∧ r.2.mem ((c.tc : Thread Cert.ReferenceOutProjIdeal.nD Cert.ReferenceOutProjIdeal.τ).loc Cert.ReferenceOutProjIdeal.main_arg0) = m' ((c.tc : Thread Cert.ReferenceOutProjIdeal.nD Cert.ReferenceOutProjIdeal.τ).loc Cert.ReferenceOutProjIdeal.main_arg0)
          ∧ r.2.mem ((c.tc : Thread Cert.ReferenceOutProjIdeal.nD Cert.ReferenceOutProjIdeal.τ).loc Cert.ReferenceOutProjIdeal.main_arg1) = m' ((c.tc : Thread Cert.ReferenceOutProjIdeal.nD Cert.ReferenceOutProjIdeal.τ).loc Cert.ReferenceOutProjIdeal.main_arg1)
          ∧ r.2.mem ((c.tc : Thread Cert.ReferenceOutProjIdeal.nD Cert.ReferenceOutProjIdeal.τ).loc Cert.ReferenceOutProjIdeal.main_arg2) = m' ((c.tc : Thread Cert.ReferenceOutProjIdeal.nD Cert.ReferenceOutProjIdeal.τ).loc Cert.ReferenceOutProjIdeal.main_arg2))

def preserves_KernelOutProjDx_KernelOutProjDxIdeal : Prop :=
  True

def algebraic_KernelOutProjDxIdeal_ReferenceOutProjDxIdeal [hKernelOutProjDxIdeal : Cert.KernelOutProjDxIdeal.Facts] [hReferenceOutProjDxIdeal : Cert.ReferenceOutProjDxIdeal.Facts] : Prop :=
  ∀ (m : (ℓ : Loc Cert.KernelOutProjDxIdeal.nD Cert.KernelOutProjDxIdeal.τ Cert.KernelOutProjDxIdeal.sig) → Buf (Elt Ideal) ℓ) (g : Dev Cert.KernelOutProjDxIdeal.nD → PrngReg)
    (m' : (ℓ : Loc Cert.ReferenceOutProjDxIdeal.nD Cert.ReferenceOutProjDxIdeal.τ Cert.ReferenceOutProjDxIdeal.sig) → Buf (Elt Ideal) ℓ) (g' : Dev Cert.ReferenceOutProjDxIdeal.nD → PrngReg), Pre_KernelOutProjDxIdeal m →
    (∀ c : Dev Cert.KernelOutProjDxIdeal.nD,
      m' ((c.tc : Thread Cert.ReferenceOutProjDxIdeal.nD Cert.ReferenceOutProjDxIdeal.τ).loc Cert.ReferenceOutProjDxIdeal.main_arg0) = m ((c.tc : Thread Cert.KernelOutProjDxIdeal.nD Cert.KernelOutProjDxIdeal.τ).loc Cert.KernelOutProjDxIdeal.main_arg0)
      ∧ m' ((c.tc : Thread Cert.ReferenceOutProjDxIdeal.nD Cert.ReferenceOutProjDxIdeal.τ).loc Cert.ReferenceOutProjDxIdeal.main_arg1) = m ((c.tc : Thread Cert.KernelOutProjDxIdeal.nD Cert.KernelOutProjDxIdeal.τ).loc Cert.KernelOutProjDxIdeal.main_arg1)
      ∧ m' ((c.tc : Thread Cert.ReferenceOutProjDxIdeal.nD Cert.ReferenceOutProjDxIdeal.τ).loc Cert.ReferenceOutProjDxIdeal.main_arg2) = m ((c.tc : Thread Cert.KernelOutProjDxIdeal.nD Cert.KernelOutProjDxIdeal.τ).loc Cert.KernelOutProjDxIdeal.main_arg2)) →
    ∃ (v0 : (c : Dev Cert.KernelOutProjDxIdeal.nD) → Buf (Elt Ideal) ((c.tc : Thread Cert.KernelOutProjDxIdeal.nD Cert.KernelOutProjDxIdeal.τ).loc Cert.KernelOutProjDxIdeal.main_v0)) (v1 : (c : Dev Cert.KernelOutProjDxIdeal.nD) → Buf (Elt Ideal) ((c.tc : Thread Cert.KernelOutProjDxIdeal.nD Cert.KernelOutProjDxIdeal.τ).loc Cert.KernelOutProjDxIdeal.main_v1)),
      θ_run (Cert.KernelOutProjDxIdeal.defs (F := Ideal)) (onTc (τ := Cert.KernelOutProjDxIdeal.τ) (Cert.KernelOutProjDxIdeal.main (F := Ideal))) ⟨m, fun _ => 0, g⟩ (fun r => ∀ c : Dev Cert.KernelOutProjDxIdeal.nD,
          r.2.mem ((c.tc : Thread Cert.KernelOutProjDxIdeal.nD Cert.KernelOutProjDxIdeal.τ).loc Cert.KernelOutProjDxIdeal.main_v0) = v0 c
          ∧ r.2.mem ((c.tc : Thread Cert.KernelOutProjDxIdeal.nD Cert.KernelOutProjDxIdeal.τ).loc Cert.KernelOutProjDxIdeal.main_v1) = v1 c
          ∧ r.2.mem ((c.tc : Thread Cert.KernelOutProjDxIdeal.nD Cert.KernelOutProjDxIdeal.τ).loc Cert.KernelOutProjDxIdeal.main_arg0) = m ((c.tc : Thread Cert.KernelOutProjDxIdeal.nD Cert.KernelOutProjDxIdeal.τ).loc Cert.KernelOutProjDxIdeal.main_arg0)
          ∧ r.2.mem ((c.tc : Thread Cert.KernelOutProjDxIdeal.nD Cert.KernelOutProjDxIdeal.τ).loc Cert.KernelOutProjDxIdeal.main_arg1) = m ((c.tc : Thread Cert.KernelOutProjDxIdeal.nD Cert.KernelOutProjDxIdeal.τ).loc Cert.KernelOutProjDxIdeal.main_arg1)
          ∧ r.2.mem ((c.tc : Thread Cert.KernelOutProjDxIdeal.nD Cert.KernelOutProjDxIdeal.τ).loc Cert.KernelOutProjDxIdeal.main_arg2) = m ((c.tc : Thread Cert.KernelOutProjDxIdeal.nD Cert.KernelOutProjDxIdeal.τ).loc Cert.KernelOutProjDxIdeal.main_arg2))
      ∧ θ_run (Cert.ReferenceOutProjDxIdeal.defs (F := Ideal)) (onTc (τ := Cert.ReferenceOutProjDxIdeal.τ) (Cert.ReferenceOutProjDxIdeal.main (F := Ideal))) ⟨m', fun _ => 0, g'⟩ (fun r => ∀ c : Dev Cert.ReferenceOutProjDxIdeal.nD,
          r.2.mem ((c.tc : Thread Cert.ReferenceOutProjDxIdeal.nD Cert.ReferenceOutProjDxIdeal.τ).loc Cert.ReferenceOutProjDxIdeal.main_v6) = v0 c
          ∧ r.2.mem ((c.tc : Thread Cert.ReferenceOutProjDxIdeal.nD Cert.ReferenceOutProjDxIdeal.τ).loc Cert.ReferenceOutProjDxIdeal.main_v12) = v1 c
          ∧ r.2.mem ((c.tc : Thread Cert.ReferenceOutProjDxIdeal.nD Cert.ReferenceOutProjDxIdeal.τ).loc Cert.ReferenceOutProjDxIdeal.main_arg0) = m' ((c.tc : Thread Cert.ReferenceOutProjDxIdeal.nD Cert.ReferenceOutProjDxIdeal.τ).loc Cert.ReferenceOutProjDxIdeal.main_arg0)
          ∧ r.2.mem ((c.tc : Thread Cert.ReferenceOutProjDxIdeal.nD Cert.ReferenceOutProjDxIdeal.τ).loc Cert.ReferenceOutProjDxIdeal.main_arg1) = m' ((c.tc : Thread Cert.ReferenceOutProjDxIdeal.nD Cert.ReferenceOutProjDxIdeal.τ).loc Cert.ReferenceOutProjDxIdeal.main_arg1)
          ∧ r.2.mem ((c.tc : Thread Cert.ReferenceOutProjDxIdeal.nD Cert.ReferenceOutProjDxIdeal.τ).loc Cert.ReferenceOutProjDxIdeal.main_arg2) = m' ((c.tc : Thread Cert.ReferenceOutProjDxIdeal.nD Cert.ReferenceOutProjDxIdeal.τ).loc Cert.ReferenceOutProjDxIdeal.main_arg2))

def preserves_KernelSbOutProjDx_KernelSbOutProjDxIdeal : Prop :=
  True

def algebraic_KernelSbOutProjDxIdeal_ReferenceSbOutProjDxIdeal [hKernelSbOutProjDxIdeal : Cert.KernelSbOutProjDxIdeal.Facts] [hReferenceSbOutProjDxIdeal : Cert.ReferenceSbOutProjDxIdeal.Facts] : Prop :=
  ∀ (m : (ℓ : Loc Cert.KernelSbOutProjDxIdeal.nD Cert.KernelSbOutProjDxIdeal.τ Cert.KernelSbOutProjDxIdeal.sig) → Buf (Elt Ideal) ℓ) (g : Dev Cert.KernelSbOutProjDxIdeal.nD → PrngReg)
    (m' : (ℓ : Loc Cert.ReferenceSbOutProjDxIdeal.nD Cert.ReferenceSbOutProjDxIdeal.τ Cert.ReferenceSbOutProjDxIdeal.sig) → Buf (Elt Ideal) ℓ) (g' : Dev Cert.ReferenceSbOutProjDxIdeal.nD → PrngReg), Pre_KernelSbOutProjDxIdeal m →
    (∀ c : Dev Cert.KernelSbOutProjDxIdeal.nD,
      m' ((c.tc : Thread Cert.ReferenceSbOutProjDxIdeal.nD Cert.ReferenceSbOutProjDxIdeal.τ).loc Cert.ReferenceSbOutProjDxIdeal.main_arg0) = m ((c.tc : Thread Cert.KernelSbOutProjDxIdeal.nD Cert.KernelSbOutProjDxIdeal.τ).loc Cert.KernelSbOutProjDxIdeal.main_arg0)
      ∧ m' ((c.tc : Thread Cert.ReferenceSbOutProjDxIdeal.nD Cert.ReferenceSbOutProjDxIdeal.τ).loc Cert.ReferenceSbOutProjDxIdeal.main_arg1) = m ((c.tc : Thread Cert.KernelSbOutProjDxIdeal.nD Cert.KernelSbOutProjDxIdeal.τ).loc Cert.KernelSbOutProjDxIdeal.main_arg1)
      ∧ m' ((c.tc : Thread Cert.ReferenceSbOutProjDxIdeal.nD Cert.ReferenceSbOutProjDxIdeal.τ).loc Cert.ReferenceSbOutProjDxIdeal.main_arg2) = m ((c.tc : Thread Cert.KernelSbOutProjDxIdeal.nD Cert.KernelSbOutProjDxIdeal.τ).loc Cert.KernelSbOutProjDxIdeal.main_arg2)) →
    ∃ (v0 : (c : Dev Cert.KernelSbOutProjDxIdeal.nD) → Buf (Elt Ideal) ((c.tc : Thread Cert.KernelSbOutProjDxIdeal.nD Cert.KernelSbOutProjDxIdeal.τ).loc Cert.KernelSbOutProjDxIdeal.main_v0)) (v1 : (c : Dev Cert.KernelSbOutProjDxIdeal.nD) → Buf (Elt Ideal) ((c.tc : Thread Cert.KernelSbOutProjDxIdeal.nD Cert.KernelSbOutProjDxIdeal.τ).loc Cert.KernelSbOutProjDxIdeal.main_v1)),
      θ_run (Cert.KernelSbOutProjDxIdeal.defs (F := Ideal)) (onTc (τ := Cert.KernelSbOutProjDxIdeal.τ) (Cert.KernelSbOutProjDxIdeal.main (F := Ideal))) ⟨m, fun _ => 0, g⟩ (fun r => ∀ c : Dev Cert.KernelSbOutProjDxIdeal.nD,
          r.2.mem ((c.tc : Thread Cert.KernelSbOutProjDxIdeal.nD Cert.KernelSbOutProjDxIdeal.τ).loc Cert.KernelSbOutProjDxIdeal.main_v0) = v0 c
          ∧ r.2.mem ((c.tc : Thread Cert.KernelSbOutProjDxIdeal.nD Cert.KernelSbOutProjDxIdeal.τ).loc Cert.KernelSbOutProjDxIdeal.main_v1) = v1 c
          ∧ r.2.mem ((c.tc : Thread Cert.KernelSbOutProjDxIdeal.nD Cert.KernelSbOutProjDxIdeal.τ).loc Cert.KernelSbOutProjDxIdeal.main_arg0) = m ((c.tc : Thread Cert.KernelSbOutProjDxIdeal.nD Cert.KernelSbOutProjDxIdeal.τ).loc Cert.KernelSbOutProjDxIdeal.main_arg0)
          ∧ r.2.mem ((c.tc : Thread Cert.KernelSbOutProjDxIdeal.nD Cert.KernelSbOutProjDxIdeal.τ).loc Cert.KernelSbOutProjDxIdeal.main_arg1) = m ((c.tc : Thread Cert.KernelSbOutProjDxIdeal.nD Cert.KernelSbOutProjDxIdeal.τ).loc Cert.KernelSbOutProjDxIdeal.main_arg1)
          ∧ r.2.mem ((c.tc : Thread Cert.KernelSbOutProjDxIdeal.nD Cert.KernelSbOutProjDxIdeal.τ).loc Cert.KernelSbOutProjDxIdeal.main_arg2) = m ((c.tc : Thread Cert.KernelSbOutProjDxIdeal.nD Cert.KernelSbOutProjDxIdeal.τ).loc Cert.KernelSbOutProjDxIdeal.main_arg2))
      ∧ θ_run (Cert.ReferenceSbOutProjDxIdeal.defs (F := Ideal)) (onTc (τ := Cert.ReferenceSbOutProjDxIdeal.τ) (Cert.ReferenceSbOutProjDxIdeal.main (F := Ideal))) ⟨m', fun _ => 0, g'⟩ (fun r => ∀ c : Dev Cert.ReferenceSbOutProjDxIdeal.nD,
          r.2.mem ((c.tc : Thread Cert.ReferenceSbOutProjDxIdeal.nD Cert.ReferenceSbOutProjDxIdeal.τ).loc Cert.ReferenceSbOutProjDxIdeal.main_v8) = v0 c
          ∧ r.2.mem ((c.tc : Thread Cert.ReferenceSbOutProjDxIdeal.nD Cert.ReferenceSbOutProjDxIdeal.τ).loc Cert.ReferenceSbOutProjDxIdeal.main_v16) = v1 c
          ∧ r.2.mem ((c.tc : Thread Cert.ReferenceSbOutProjDxIdeal.nD Cert.ReferenceSbOutProjDxIdeal.τ).loc Cert.ReferenceSbOutProjDxIdeal.main_arg0) = m' ((c.tc : Thread Cert.ReferenceSbOutProjDxIdeal.nD Cert.ReferenceSbOutProjDxIdeal.τ).loc Cert.ReferenceSbOutProjDxIdeal.main_arg0)
          ∧ r.2.mem ((c.tc : Thread Cert.ReferenceSbOutProjDxIdeal.nD Cert.ReferenceSbOutProjDxIdeal.τ).loc Cert.ReferenceSbOutProjDxIdeal.main_arg1) = m' ((c.tc : Thread Cert.ReferenceSbOutProjDxIdeal.nD Cert.ReferenceSbOutProjDxIdeal.τ).loc Cert.ReferenceSbOutProjDxIdeal.main_arg1)
          ∧ r.2.mem ((c.tc : Thread Cert.ReferenceSbOutProjDxIdeal.nD Cert.ReferenceSbOutProjDxIdeal.τ).loc Cert.ReferenceSbOutProjDxIdeal.main_arg2) = m' ((c.tc : Thread Cert.ReferenceSbOutProjDxIdeal.nD Cert.ReferenceSbOutProjDxIdeal.τ).loc Cert.ReferenceSbOutProjDxIdeal.main_arg2))

def preserves_KernelMemKv_KernelMemKvIdeal : Prop :=
  True

def algebraic_KernelMemKvIdeal_ReferenceMemKvIdeal [hKernelMemKvIdeal : Cert.KernelMemKvIdeal.Facts] [hReferenceMemKvIdeal : Cert.ReferenceMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg)
    (m' : (ℓ : Loc Cert.ReferenceMemKvIdeal.nD Cert.ReferenceMemKvIdeal.τ Cert.ReferenceMemKvIdeal.sig) → Buf (Elt Ideal) ℓ) (g' : Dev Cert.ReferenceMemKvIdeal.nD → PrngReg), Pre_KernelMemKvIdeal m →
    (∀ c : Dev Cert.KernelMemKvIdeal.nD,
      m' ((c.tc : Thread Cert.ReferenceMemKvIdeal.nD Cert.ReferenceMemKvIdeal.τ).loc Cert.ReferenceMemKvIdeal.main_arg0) = m ((c.tc : Thread Cert.KernelMemKvIdeal.nD Cert.KernelMemKvIdeal.τ).loc Cert.KernelMemKvIdeal.main_arg0)
      ∧ m' ((c.tc : Thread Cert.ReferenceMemKvIdeal.nD Cert.ReferenceMemKvIdeal.τ).loc Cert.ReferenceMemKvIdeal.main_arg1) = m ((c.tc : Thread Cert.KernelMemKvIdeal.nD Cert.KernelMemKvIdeal.τ).loc Cert.KernelMemKvIdeal.main_arg1)
      ∧ m' ((c.tc : Thread Cert.ReferenceMemKvIdeal.nD Cert.ReferenceMemKvIdeal.τ).loc Cert.ReferenceMemKvIdeal.main_arg2) = m ((c.tc : Thread Cert.KernelMemKvIdeal.nD Cert.KernelMemKvIdeal.τ).loc Cert.KernelMemKvIdeal.main_arg2)) →
    ∃ (v0 : (c : Dev Cert.KernelMemKvIdeal.nD) → Buf (Elt Ideal) ((c.tc : Thread Cert.KernelMemKvIdeal.nD Cert.KernelMemKvIdeal.τ).loc Cert.KernelMemKvIdeal.main_v0)) (v1 : (c : Dev Cert.KernelMemKvIdeal.nD) → Buf (Elt Ideal) ((c.tc : Thread Cert.KernelMemKvIdeal.nD Cert.KernelMemKvIdeal.τ).loc Cert.KernelMemKvIdeal.main_v1)) (v2 : (c : Dev Cert.KernelMemKvIdeal.nD) → Buf (Elt Ideal) ((c.tc : Thread Cert.KernelMemKvIdeal.nD Cert.KernelMemKvIdeal.τ).loc Cert.KernelMemKvIdeal.main_v2)) (v3 : (c : Dev Cert.KernelMemKvIdeal.nD) → Buf (Elt Ideal) ((c.tc : Thread Cert.KernelMemKvIdeal.nD Cert.KernelMemKvIdeal.τ).loc Cert.KernelMemKvIdeal.main_v3)) (v4 : (c : Dev Cert.KernelMemKvIdeal.nD) → Buf (Elt Ideal) ((c.tc : Thread Cert.KernelMemKvIdeal.nD Cert.KernelMemKvIdeal.τ).loc Cert.KernelMemKvIdeal.main_v4)) (v5 : (c : Dev Cert.KernelMemKvIdeal.nD) → Buf (Elt Ideal) ((c.tc : Thread Cert.KernelMemKvIdeal.nD Cert.KernelMemKvIdeal.τ).loc Cert.KernelMemKvIdeal.main_v5)) (v6 : (c : Dev Cert.KernelMemKvIdeal.nD) → Buf (Elt Ideal) ((c.tc : Thread Cert.KernelMemKvIdeal.nD Cert.KernelMemKvIdeal.τ).loc Cert.KernelMemKvIdeal.main_v6)) (v7 : (c : Dev Cert.KernelMemKvIdeal.nD) → Buf (Elt Ideal) ((c.tc : Thread Cert.KernelMemKvIdeal.nD Cert.KernelMemKvIdeal.τ).loc Cert.KernelMemKvIdeal.main_v7)),
      θ_run (Cert.KernelMemKvIdeal.defs (F := Ideal)) (onTc (τ := Cert.KernelMemKvIdeal.τ) (Cert.KernelMemKvIdeal.main (F := Ideal))) ⟨m, fun _ => 0, g⟩ (fun r => ∀ c : Dev Cert.KernelMemKvIdeal.nD,
          r.2.mem ((c.tc : Thread Cert.KernelMemKvIdeal.nD Cert.KernelMemKvIdeal.τ).loc Cert.KernelMemKvIdeal.main_v0) = v0 c
          ∧ r.2.mem ((c.tc : Thread Cert.KernelMemKvIdeal.nD Cert.KernelMemKvIdeal.τ).loc Cert.KernelMemKvIdeal.main_v1) = v1 c
          ∧ r.2.mem ((c.tc : Thread Cert.KernelMemKvIdeal.nD Cert.KernelMemKvIdeal.τ).loc Cert.KernelMemKvIdeal.main_v2) = v2 c
          ∧ r.2.mem ((c.tc : Thread Cert.KernelMemKvIdeal.nD Cert.KernelMemKvIdeal.τ).loc Cert.KernelMemKvIdeal.main_v3) = v3 c
          ∧ r.2.mem ((c.tc : Thread Cert.KernelMemKvIdeal.nD Cert.KernelMemKvIdeal.τ).loc Cert.KernelMemKvIdeal.main_v4) = v4 c
          ∧ r.2.mem ((c.tc : Thread Cert.KernelMemKvIdeal.nD Cert.KernelMemKvIdeal.τ).loc Cert.KernelMemKvIdeal.main_v5) = v5 c
          ∧ r.2.mem ((c.tc : Thread Cert.KernelMemKvIdeal.nD Cert.KernelMemKvIdeal.τ).loc Cert.KernelMemKvIdeal.main_v6) = v6 c
          ∧ r.2.mem ((c.tc : Thread Cert.KernelMemKvIdeal.nD Cert.KernelMemKvIdeal.τ).loc Cert.KernelMemKvIdeal.main_v7) = v7 c
          ∧ r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
          ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1)
          ∧ r.2.mem ((c.tc : Thread Cert.KernelMemKvIdeal.nD Cert.KernelMemKvIdeal.τ).loc Cert.KernelMemKvIdeal.main_arg2) = m ((c.tc : Thread Cert.KernelMemKvIdeal.nD Cert.KernelMemKvIdeal.τ).loc Cert.KernelMemKvIdeal.main_arg2))
      ∧ θ_run (Cert.ReferenceMemKvIdeal.defs (F := Ideal)) (onTc (τ := Cert.ReferenceMemKvIdeal.τ) (Cert.ReferenceMemKvIdeal.main (F := Ideal))) ⟨m', fun _ => 0, g'⟩ (fun r => ∀ c : Dev Cert.ReferenceMemKvIdeal.nD,
          r.2.mem ((c.tc : Thread Cert.ReferenceMemKvIdeal.nD Cert.ReferenceMemKvIdeal.τ).loc Cert.ReferenceMemKvIdeal.main_v4) = v0 c
          ∧ r.2.mem ((c.tc : Thread Cert.ReferenceMemKvIdeal.nD Cert.ReferenceMemKvIdeal.τ).loc Cert.ReferenceMemKvIdeal.main_v9) = v1 c
          ∧ r.2.mem ((c.tc : Thread Cert.ReferenceMemKvIdeal.nD Cert.ReferenceMemKvIdeal.τ).loc Cert.ReferenceMemKvIdeal.main_v14) = v2 c
          ∧ r.2.mem ((c.tc : Thread Cert.ReferenceMemKvIdeal.nD Cert.ReferenceMemKvIdeal.τ).loc Cert.ReferenceMemKvIdeal.main_v19) = v3 c
          ∧ r.2.mem ((c.tc : Thread Cert.ReferenceMemKvIdeal.nD Cert.ReferenceMemKvIdeal.τ).loc Cert.ReferenceMemKvIdeal.main_v24) = v4 c
          ∧ r.2.mem ((c.tc : Thread Cert.ReferenceMemKvIdeal.nD Cert.ReferenceMemKvIdeal.τ).loc Cert.ReferenceMemKvIdeal.main_v29) = v5 c
          ∧ r.2.mem ((c.tc : Thread Cert.ReferenceMemKvIdeal.nD Cert.ReferenceMemKvIdeal.τ).loc Cert.ReferenceMemKvIdeal.main_v34) = v6 c
          ∧ r.2.mem ((c.tc : Thread Cert.ReferenceMemKvIdeal.nD Cert.ReferenceMemKvIdeal.τ).loc Cert.ReferenceMemKvIdeal.main_v39) = v7 c
          ∧ r.2.mem ((c.tc : Thread Cert.ReferenceMemKvIdeal.nD Cert.ReferenceMemKvIdeal.τ).loc Cert.ReferenceMemKvIdeal.main_arg0) = m' ((c.tc : Thread Cert.ReferenceMemKvIdeal.nD Cert.ReferenceMemKvIdeal.τ).loc Cert.ReferenceMemKvIdeal.main_arg0)
          ∧ r.2.mem ((c.tc : Thread Cert.ReferenceMemKvIdeal.nD Cert.ReferenceMemKvIdeal.τ).loc Cert.ReferenceMemKvIdeal.main_arg1) = m' ((c.tc : Thread Cert.ReferenceMemKvIdeal.nD Cert.ReferenceMemKvIdeal.τ).loc Cert.ReferenceMemKvIdeal.main_arg1)
          ∧ r.2.mem ((c.tc : Thread Cert.ReferenceMemKvIdeal.nD Cert.ReferenceMemKvIdeal.τ).loc Cert.ReferenceMemKvIdeal.main_arg2) = m' ((c.tc : Thread Cert.ReferenceMemKvIdeal.nD Cert.ReferenceMemKvIdeal.τ).loc Cert.ReferenceMemKvIdeal.main_arg2))

def preserves_KernelSwigluFwd_KernelSwigluFwdIdeal : Prop :=
  True

def algebraic_KernelSwigluFwdIdeal_ReferenceSwigluFwdIdeal [hKernelSwigluFwdIdeal : Cert.KernelSwigluFwdIdeal.Facts] [hReferenceSwigluFwdIdeal : Cert.ReferenceSwigluFwdIdeal.Facts] : Prop :=
  ∀ (m : (ℓ : Loc Cert.KernelSwigluFwdIdeal.nD Cert.KernelSwigluFwdIdeal.τ Cert.KernelSwigluFwdIdeal.sig) → Buf (Elt Ideal) ℓ) (g : Dev Cert.KernelSwigluFwdIdeal.nD → PrngReg)
    (m' : (ℓ : Loc Cert.ReferenceSwigluFwdIdeal.nD Cert.ReferenceSwigluFwdIdeal.τ Cert.ReferenceSwigluFwdIdeal.sig) → Buf (Elt Ideal) ℓ) (g' : Dev Cert.ReferenceSwigluFwdIdeal.nD → PrngReg), Pre_KernelSwigluFwdIdeal m →
    (∀ c : Dev Cert.KernelSwigluFwdIdeal.nD,
      m' ((c.tc : Thread Cert.ReferenceSwigluFwdIdeal.nD Cert.ReferenceSwigluFwdIdeal.τ).loc Cert.ReferenceSwigluFwdIdeal.main_arg0) = m ((c.tc : Thread Cert.KernelSwigluFwdIdeal.nD Cert.KernelSwigluFwdIdeal.τ).loc Cert.KernelSwigluFwdIdeal.main_arg0)) →
    ∃ (v0 : (c : Dev Cert.KernelSwigluFwdIdeal.nD) → Buf (Elt Ideal) ((c.tc : Thread Cert.KernelSwigluFwdIdeal.nD Cert.KernelSwigluFwdIdeal.τ).loc Cert.KernelSwigluFwdIdeal.main_v0)),
      θ_run (Cert.KernelSwigluFwdIdeal.defs (F := Ideal)) (onTc (τ := Cert.KernelSwigluFwdIdeal.τ) (Cert.KernelSwigluFwdIdeal.main (F := Ideal))) ⟨m, fun _ => 0, g⟩ (fun r => ∀ c : Dev Cert.KernelSwigluFwdIdeal.nD,
          r.2.mem ((c.tc : Thread Cert.KernelSwigluFwdIdeal.nD Cert.KernelSwigluFwdIdeal.τ).loc Cert.KernelSwigluFwdIdeal.main_v0) = v0 c
          ∧ r.2.mem ((c.tc : Thread Cert.KernelSwigluFwdIdeal.nD Cert.KernelSwigluFwdIdeal.τ).loc Cert.KernelSwigluFwdIdeal.main_arg0) = m ((c.tc : Thread Cert.KernelSwigluFwdIdeal.nD Cert.KernelSwigluFwdIdeal.τ).loc Cert.KernelSwigluFwdIdeal.main_arg0))
      ∧ θ_run (Cert.ReferenceSwigluFwdIdeal.defs (F := Ideal)) (onTc (τ := Cert.ReferenceSwigluFwdIdeal.τ) (Cert.ReferenceSwigluFwdIdeal.main (F := Ideal))) ⟨m', fun _ => 0, g'⟩ (fun r => ∀ c : Dev Cert.ReferenceSwigluFwdIdeal.nD,
          r.2.mem ((c.tc : Thread Cert.ReferenceSwigluFwdIdeal.nD Cert.ReferenceSwigluFwdIdeal.τ).loc Cert.ReferenceSwigluFwdIdeal.main_v4) = v0 c
          ∧ r.2.mem ((c.tc : Thread Cert.ReferenceSwigluFwdIdeal.nD Cert.ReferenceSwigluFwdIdeal.τ).loc Cert.ReferenceSwigluFwdIdeal.main_arg0) = m' ((c.tc : Thread Cert.ReferenceSwigluFwdIdeal.nD Cert.ReferenceSwigluFwdIdeal.τ).loc Cert.ReferenceSwigluFwdIdeal.main_arg0))

def preserves_KernelSwigluBwd_KernelSwigluBwdIdeal : Prop :=
  True

def algebraic_KernelSwigluBwdIdeal_ReferenceSwigluBwdIdeal [hKernelSwigluBwdIdeal : Cert.KernelSwigluBwdIdeal.Facts] [hReferenceSwigluBwdIdeal : Cert.ReferenceSwigluBwdIdeal.Facts] : Prop :=
  ∀ (m : (ℓ : Loc Cert.KernelSwigluBwdIdeal.nD Cert.KernelSwigluBwdIdeal.τ Cert.KernelSwigluBwdIdeal.sig) → Buf (Elt Ideal) ℓ) (g : Dev Cert.KernelSwigluBwdIdeal.nD → PrngReg)
    (m' : (ℓ : Loc Cert.ReferenceSwigluBwdIdeal.nD Cert.ReferenceSwigluBwdIdeal.τ Cert.ReferenceSwigluBwdIdeal.sig) → Buf (Elt Ideal) ℓ) (g' : Dev Cert.ReferenceSwigluBwdIdeal.nD → PrngReg), Pre_KernelSwigluBwdIdeal m →
    (∀ c : Dev Cert.KernelSwigluBwdIdeal.nD,
      m' ((c.tc : Thread Cert.ReferenceSwigluBwdIdeal.nD Cert.ReferenceSwigluBwdIdeal.τ).loc Cert.ReferenceSwigluBwdIdeal.main_arg0) = m ((c.tc : Thread Cert.KernelSwigluBwdIdeal.nD Cert.KernelSwigluBwdIdeal.τ).loc Cert.KernelSwigluBwdIdeal.main_arg0)
      ∧ m' ((c.tc : Thread Cert.ReferenceSwigluBwdIdeal.nD Cert.ReferenceSwigluBwdIdeal.τ).loc Cert.ReferenceSwigluBwdIdeal.main_arg1) = m ((c.tc : Thread Cert.KernelSwigluBwdIdeal.nD Cert.KernelSwigluBwdIdeal.τ).loc Cert.KernelSwigluBwdIdeal.main_arg1)) →
    ∃ (v0 : (c : Dev Cert.KernelSwigluBwdIdeal.nD) → Buf (Elt Ideal) ((c.tc : Thread Cert.KernelSwigluBwdIdeal.nD Cert.KernelSwigluBwdIdeal.τ).loc Cert.KernelSwigluBwdIdeal.main_v0)),
      θ_run (Cert.KernelSwigluBwdIdeal.defs (F := Ideal)) (onTc (τ := Cert.KernelSwigluBwdIdeal.τ) (Cert.KernelSwigluBwdIdeal.main (F := Ideal))) ⟨m, fun _ => 0, g⟩ (fun r => ∀ c : Dev Cert.KernelSwigluBwdIdeal.nD,
          r.2.mem ((c.tc : Thread Cert.KernelSwigluBwdIdeal.nD Cert.KernelSwigluBwdIdeal.τ).loc Cert.KernelSwigluBwdIdeal.main_v0) = v0 c
          ∧ r.2.mem ((c.tc : Thread Cert.KernelSwigluBwdIdeal.nD Cert.KernelSwigluBwdIdeal.τ).loc Cert.KernelSwigluBwdIdeal.main_arg0) = m ((c.tc : Thread Cert.KernelSwigluBwdIdeal.nD Cert.KernelSwigluBwdIdeal.τ).loc Cert.KernelSwigluBwdIdeal.main_arg0)
          ∧ r.2.mem ((c.tc : Thread Cert.KernelSwigluBwdIdeal.nD Cert.KernelSwigluBwdIdeal.τ).loc Cert.KernelSwigluBwdIdeal.main_arg1) = m ((c.tc : Thread Cert.KernelSwigluBwdIdeal.nD Cert.KernelSwigluBwdIdeal.τ).loc Cert.KernelSwigluBwdIdeal.main_arg1))
      ∧ θ_run (Cert.ReferenceSwigluBwdIdeal.defs (F := Ideal)) (onTc (τ := Cert.ReferenceSwigluBwdIdeal.τ) (Cert.ReferenceSwigluBwdIdeal.main (F := Ideal))) ⟨m', fun _ => 0, g'⟩ (fun r => ∀ c : Dev Cert.ReferenceSwigluBwdIdeal.nD,
          r.2.mem ((c.tc : Thread Cert.ReferenceSwigluBwdIdeal.nD Cert.ReferenceSwigluBwdIdeal.τ).loc Cert.ReferenceSwigluBwdIdeal.main_v8) = v0 c
          ∧ r.2.mem ((c.tc : Thread Cert.ReferenceSwigluBwdIdeal.nD Cert.ReferenceSwigluBwdIdeal.τ).loc Cert.ReferenceSwigluBwdIdeal.main_arg0) = m' ((c.tc : Thread Cert.ReferenceSwigluBwdIdeal.nD Cert.ReferenceSwigluBwdIdeal.τ).loc Cert.ReferenceSwigluBwdIdeal.main_arg0)
          ∧ r.2.mem ((c.tc : Thread Cert.ReferenceSwigluBwdIdeal.nD Cert.ReferenceSwigluBwdIdeal.τ).loc Cert.ReferenceSwigluBwdIdeal.main_arg1) = m' ((c.tc : Thread Cert.ReferenceSwigluBwdIdeal.nD Cert.ReferenceSwigluBwdIdeal.τ).loc Cert.ReferenceSwigluBwdIdeal.main_arg1))

def preserves_KernelLnFwd_KernelLnFwdIdeal : Prop :=
  True

def algebraic_KernelLnFwdIdeal_ReferenceLnFwdIdeal [hKernelLnFwdIdeal : Cert.KernelLnFwdIdeal.Facts] [hReferenceLnFwdIdeal : Cert.ReferenceLnFwdIdeal.Facts] : Prop :=
  ∀ (m : (ℓ : Loc Cert.KernelLnFwdIdeal.nD Cert.KernelLnFwdIdeal.τ Cert.KernelLnFwdIdeal.sig) → Buf (Elt Ideal) ℓ) (g : Dev Cert.KernelLnFwdIdeal.nD → PrngReg)
    (m' : (ℓ : Loc Cert.ReferenceLnFwdIdeal.nD Cert.ReferenceLnFwdIdeal.τ Cert.ReferenceLnFwdIdeal.sig) → Buf (Elt Ideal) ℓ) (g' : Dev Cert.ReferenceLnFwdIdeal.nD → PrngReg), Pre_KernelLnFwdIdeal m →
    (∀ c : Dev Cert.KernelLnFwdIdeal.nD,
      m' ((c.tc : Thread Cert.ReferenceLnFwdIdeal.nD Cert.ReferenceLnFwdIdeal.τ).loc Cert.ReferenceLnFwdIdeal.main_arg0) = m ((c.tc : Thread Cert.KernelLnFwdIdeal.nD Cert.KernelLnFwdIdeal.τ).loc Cert.KernelLnFwdIdeal.main_arg0)
      ∧ m' ((c.tc : Thread Cert.ReferenceLnFwdIdeal.nD Cert.ReferenceLnFwdIdeal.τ).loc Cert.ReferenceLnFwdIdeal.main_arg1) = m ((c.tc : Thread Cert.KernelLnFwdIdeal.nD Cert.KernelLnFwdIdeal.τ).loc Cert.KernelLnFwdIdeal.main_arg1)
      ∧ m' ((c.tc : Thread Cert.ReferenceLnFwdIdeal.nD Cert.ReferenceLnFwdIdeal.τ).loc Cert.ReferenceLnFwdIdeal.main_arg2) = m ((c.tc : Thread Cert.KernelLnFwdIdeal.nD Cert.KernelLnFwdIdeal.τ).loc Cert.KernelLnFwdIdeal.main_arg2)
      ∧ m' ((c.tc : Thread Cert.ReferenceLnFwdIdeal.nD Cert.ReferenceLnFwdIdeal.τ).loc Cert.ReferenceLnFwdIdeal.main_arg3) = m ((c.tc : Thread Cert.KernelLnFwdIdeal.nD Cert.KernelLnFwdIdeal.τ).loc Cert.KernelLnFwdIdeal.main_arg3)) →
    ∃ (v0 : (c : Dev Cert.KernelLnFwdIdeal.nD) → Buf (Elt Ideal) ((c.tc : Thread Cert.KernelLnFwdIdeal.nD Cert.KernelLnFwdIdeal.τ).loc Cert.KernelLnFwdIdeal.main_v2)),
      θ_run (Cert.KernelLnFwdIdeal.defs (F := Ideal)) (onTc (τ := Cert.KernelLnFwdIdeal.τ) (Cert.KernelLnFwdIdeal.main (F := Ideal))) ⟨m, fun _ => 0, g⟩ (fun r => ∀ c : Dev Cert.KernelLnFwdIdeal.nD,
          r.2.mem ((c.tc : Thread Cert.KernelLnFwdIdeal.nD Cert.KernelLnFwdIdeal.τ).loc Cert.KernelLnFwdIdeal.main_v2) = v0 c
          ∧ r.2.mem ((c.tc : Thread Cert.KernelLnFwdIdeal.nD Cert.KernelLnFwdIdeal.τ).loc Cert.KernelLnFwdIdeal.main_arg0) = m ((c.tc : Thread Cert.KernelLnFwdIdeal.nD Cert.KernelLnFwdIdeal.τ).loc Cert.KernelLnFwdIdeal.main_arg0)
          ∧ r.2.mem ((c.tc : Thread Cert.KernelLnFwdIdeal.nD Cert.KernelLnFwdIdeal.τ).loc Cert.KernelLnFwdIdeal.main_arg1) = m ((c.tc : Thread Cert.KernelLnFwdIdeal.nD Cert.KernelLnFwdIdeal.τ).loc Cert.KernelLnFwdIdeal.main_arg1)
          ∧ r.2.mem ((c.tc : Thread Cert.KernelLnFwdIdeal.nD Cert.KernelLnFwdIdeal.τ).loc Cert.KernelLnFwdIdeal.main_arg2) = m ((c.tc : Thread Cert.KernelLnFwdIdeal.nD Cert.KernelLnFwdIdeal.τ).loc Cert.KernelLnFwdIdeal.main_arg2)
          ∧ r.2.mem ((c.tc : Thread Cert.KernelLnFwdIdeal.nD Cert.KernelLnFwdIdeal.τ).loc Cert.KernelLnFwdIdeal.main_arg3) = m ((c.tc : Thread Cert.KernelLnFwdIdeal.nD Cert.KernelLnFwdIdeal.τ).loc Cert.KernelLnFwdIdeal.main_arg3))
      ∧ θ_run (Cert.ReferenceLnFwdIdeal.defs (F := Ideal)) (onTc (τ := Cert.ReferenceLnFwdIdeal.τ) (Cert.ReferenceLnFwdIdeal.main (F := Ideal))) ⟨m', fun _ => 0, g'⟩ (fun r => ∀ c : Dev Cert.ReferenceLnFwdIdeal.nD,
          r.2.mem ((c.tc : Thread Cert.ReferenceLnFwdIdeal.nD Cert.ReferenceLnFwdIdeal.τ).loc Cert.ReferenceLnFwdIdeal.main_v26) = v0 c
          ∧ r.2.mem ((c.tc : Thread Cert.ReferenceLnFwdIdeal.nD Cert.ReferenceLnFwdIdeal.τ).loc Cert.ReferenceLnFwdIdeal.main_arg0) = m' ((c.tc : Thread Cert.ReferenceLnFwdIdeal.nD Cert.ReferenceLnFwdIdeal.τ).loc Cert.ReferenceLnFwdIdeal.main_arg0)
          ∧ r.2.mem ((c.tc : Thread Cert.ReferenceLnFwdIdeal.nD Cert.ReferenceLnFwdIdeal.τ).loc Cert.ReferenceLnFwdIdeal.main_arg1) = m' ((c.tc : Thread Cert.ReferenceLnFwdIdeal.nD Cert.ReferenceLnFwdIdeal.τ).loc Cert.ReferenceLnFwdIdeal.main_arg1)
          ∧ r.2.mem ((c.tc : Thread Cert.ReferenceLnFwdIdeal.nD Cert.ReferenceLnFwdIdeal.τ).loc Cert.ReferenceLnFwdIdeal.main_arg2) = m' ((c.tc : Thread Cert.ReferenceLnFwdIdeal.nD Cert.ReferenceLnFwdIdeal.τ).loc Cert.ReferenceLnFwdIdeal.main_arg2)
          ∧ r.2.mem ((c.tc : Thread Cert.ReferenceLnFwdIdeal.nD Cert.ReferenceLnFwdIdeal.τ).loc Cert.ReferenceLnFwdIdeal.main_arg3) = m' ((c.tc : Thread Cert.ReferenceLnFwdIdeal.nD Cert.ReferenceLnFwdIdeal.τ).loc Cert.ReferenceLnFwdIdeal.main_arg3))

def preserves_KernelXattnFwd_KernelXattnFwdIdeal : Prop :=
  True

def algebraic_KernelXattnFwdIdeal_ReferenceXattnFwdIdeal [hKernelXattnFwdIdeal : Cert.KernelXattnFwdIdeal.Facts] [hReferenceXattnFwdIdeal : Cert.ReferenceXattnFwdIdeal.Facts] : Prop :=
  ∀ (m : (ℓ : Loc Cert.KernelXattnFwdIdeal.nD Cert.KernelXattnFwdIdeal.τ Cert.KernelXattnFwdIdeal.sig) → Buf (Elt Ideal) ℓ) (g : Dev Cert.KernelXattnFwdIdeal.nD → PrngReg)
    (m' : (ℓ : Loc Cert.ReferenceXattnFwdIdeal.nD Cert.ReferenceXattnFwdIdeal.τ Cert.ReferenceXattnFwdIdeal.sig) → Buf (Elt Ideal) ℓ) (g' : Dev Cert.ReferenceXattnFwdIdeal.nD → PrngReg), Pre_KernelXattnFwdIdeal m →
    (∀ c : Dev Cert.KernelXattnFwdIdeal.nD,
      m' ((c.tc : Thread Cert.ReferenceXattnFwdIdeal.nD Cert.ReferenceXattnFwdIdeal.τ).loc Cert.ReferenceXattnFwdIdeal.main_arg0) = m ((c.tc : Thread Cert.KernelXattnFwdIdeal.nD Cert.KernelXattnFwdIdeal.τ).loc Cert.KernelXattnFwdIdeal.main_arg0)
      ∧ m' ((c.tc : Thread Cert.ReferenceXattnFwdIdeal.nD Cert.ReferenceXattnFwdIdeal.τ).loc Cert.ReferenceXattnFwdIdeal.main_arg1) = m ((c.tc : Thread Cert.KernelXattnFwdIdeal.nD Cert.KernelXattnFwdIdeal.τ).loc Cert.KernelXattnFwdIdeal.main_arg1)
      ∧ m' ((c.tc : Thread Cert.ReferenceXattnFwdIdeal.nD Cert.ReferenceXattnFwdIdeal.τ).loc Cert.ReferenceXattnFwdIdeal.main_arg2) = m ((c.tc : Thread Cert.KernelXattnFwdIdeal.nD Cert.KernelXattnFwdIdeal.τ).loc Cert.KernelXattnFwdIdeal.main_arg2)) →
    ∃ (v0 : (c : Dev Cert.KernelXattnFwdIdeal.nD) → Buf (Elt Ideal) ((c.tc : Thread Cert.KernelXattnFwdIdeal.nD Cert.KernelXattnFwdIdeal.τ).loc Cert.KernelXattnFwdIdeal.main_v0)),
      θ_run (Cert.KernelXattnFwdIdeal.defs (F := Ideal)) (onTc (τ := Cert.KernelXattnFwdIdeal.τ) (Cert.KernelXattnFwdIdeal.main (F := Ideal))) ⟨m, fun _ => 0, g⟩ (fun r => ∀ c : Dev Cert.KernelXattnFwdIdeal.nD,
          r.2.mem ((c.tc : Thread Cert.KernelXattnFwdIdeal.nD Cert.KernelXattnFwdIdeal.τ).loc Cert.KernelXattnFwdIdeal.main_v0) = v0 c
          ∧ r.2.mem ((c.tc : Thread Cert.KernelXattnFwdIdeal.nD Cert.KernelXattnFwdIdeal.τ).loc Cert.KernelXattnFwdIdeal.main_arg0) = m ((c.tc : Thread Cert.KernelXattnFwdIdeal.nD Cert.KernelXattnFwdIdeal.τ).loc Cert.KernelXattnFwdIdeal.main_arg0)
          ∧ r.2.mem ((c.tc : Thread Cert.KernelXattnFwdIdeal.nD Cert.KernelXattnFwdIdeal.τ).loc Cert.KernelXattnFwdIdeal.main_arg1) = m ((c.tc : Thread Cert.KernelXattnFwdIdeal.nD Cert.KernelXattnFwdIdeal.τ).loc Cert.KernelXattnFwdIdeal.main_arg1)
          ∧ r.2.mem ((c.tc : Thread Cert.KernelXattnFwdIdeal.nD Cert.KernelXattnFwdIdeal.τ).loc Cert.KernelXattnFwdIdeal.main_arg2) = m ((c.tc : Thread Cert.KernelXattnFwdIdeal.nD Cert.KernelXattnFwdIdeal.τ).loc Cert.KernelXattnFwdIdeal.main_arg2))
      ∧ θ_run (Cert.ReferenceXattnFwdIdeal.defs (F := Ideal)) (onTc (τ := Cert.ReferenceXattnFwdIdeal.τ) (Cert.ReferenceXattnFwdIdeal.main (F := Ideal))) ⟨m', fun _ => 0, g'⟩ (fun r => ∀ c : Dev Cert.ReferenceXattnFwdIdeal.nD,
          r.2.mem ((c.tc : Thread Cert.ReferenceXattnFwdIdeal.nD Cert.ReferenceXattnFwdIdeal.τ).loc Cert.ReferenceXattnFwdIdeal.main_v23) = v0 c
          ∧ r.2.mem ((c.tc : Thread Cert.ReferenceXattnFwdIdeal.nD Cert.ReferenceXattnFwdIdeal.τ).loc Cert.ReferenceXattnFwdIdeal.main_arg0) = m' ((c.tc : Thread Cert.ReferenceXattnFwdIdeal.nD Cert.ReferenceXattnFwdIdeal.τ).loc Cert.ReferenceXattnFwdIdeal.main_arg0)
          ∧ r.2.mem ((c.tc : Thread Cert.ReferenceXattnFwdIdeal.nD Cert.ReferenceXattnFwdIdeal.τ).loc Cert.ReferenceXattnFwdIdeal.main_arg1) = m' ((c.tc : Thread Cert.ReferenceXattnFwdIdeal.nD Cert.ReferenceXattnFwdIdeal.τ).loc Cert.ReferenceXattnFwdIdeal.main_arg1)
          ∧ r.2.mem ((c.tc : Thread Cert.ReferenceXattnFwdIdeal.nD Cert.ReferenceXattnFwdIdeal.τ).loc Cert.ReferenceXattnFwdIdeal.main_arg2) = m' ((c.tc : Thread Cert.ReferenceXattnFwdIdeal.nD Cert.ReferenceXattnFwdIdeal.τ).loc Cert.ReferenceXattnFwdIdeal.main_arg2))

def preserves_KernelFfnInDx0_KernelFfnInDx0Ideal : Prop :=
  True

def algebraic_KernelFfnInDx0Ideal_ReferenceFfnInDx0Ideal [hKernelFfnInDx0Ideal : Cert.KernelFfnInDx0Ideal.Facts] [hReferenceFfnInDx0Ideal : Cert.ReferenceFfnInDx0Ideal.Facts] : Prop :=
  ∀ (m : (ℓ : Loc Cert.KernelFfnInDx0Ideal.nD Cert.KernelFfnInDx0Ideal.τ Cert.KernelFfnInDx0Ideal.sig) → Buf (Elt Ideal) ℓ) (g : Dev Cert.KernelFfnInDx0Ideal.nD → PrngReg)
    (m' : (ℓ : Loc Cert.ReferenceFfnInDx0Ideal.nD Cert.ReferenceFfnInDx0Ideal.τ Cert.ReferenceFfnInDx0Ideal.sig) → Buf (Elt Ideal) ℓ) (g' : Dev Cert.ReferenceFfnInDx0Ideal.nD → PrngReg), Pre_KernelFfnInDx0Ideal m →
    (∀ c : Dev Cert.KernelFfnInDx0Ideal.nD,
      m' ((c.tc : Thread Cert.ReferenceFfnInDx0Ideal.nD Cert.ReferenceFfnInDx0Ideal.τ).loc Cert.ReferenceFfnInDx0Ideal.main_arg0) = m ((c.tc : Thread Cert.KernelFfnInDx0Ideal.nD Cert.KernelFfnInDx0Ideal.τ).loc Cert.KernelFfnInDx0Ideal.main_arg0)
      ∧ m' ((c.tc : Thread Cert.ReferenceFfnInDx0Ideal.nD Cert.ReferenceFfnInDx0Ideal.τ).loc Cert.ReferenceFfnInDx0Ideal.main_arg1) = m ((c.tc : Thread Cert.KernelFfnInDx0Ideal.nD Cert.KernelFfnInDx0Ideal.τ).loc Cert.KernelFfnInDx0Ideal.main_arg1)
      ∧ m' ((c.tc : Thread Cert.ReferenceFfnInDx0Ideal.nD Cert.ReferenceFfnInDx0Ideal.τ).loc Cert.ReferenceFfnInDx0Ideal.main_arg2) = m ((c.tc : Thread Cert.KernelFfnInDx0Ideal.nD Cert.KernelFfnInDx0Ideal.τ).loc Cert.KernelFfnInDx0Ideal.main_arg2)) →
    ∃ (v0 : (c : Dev Cert.KernelFfnInDx0Ideal.nD) → Buf (Elt Ideal) ((c.tc : Thread Cert.KernelFfnInDx0Ideal.nD Cert.KernelFfnInDx0Ideal.τ).loc Cert.KernelFfnInDx0Ideal.main_v0)),
      θ_run (Cert.KernelFfnInDx0Ideal.defs (F := Ideal)) (onTc (τ := Cert.KernelFfnInDx0Ideal.τ) (Cert.KernelFfnInDx0Ideal.main (F := Ideal))) ⟨m, fun _ => 0, g⟩ (fun r => ∀ c : Dev Cert.KernelFfnInDx0Ideal.nD,
          r.2.mem ((c.tc : Thread Cert.KernelFfnInDx0Ideal.nD Cert.KernelFfnInDx0Ideal.τ).loc Cert.KernelFfnInDx0Ideal.main_v0) = v0 c
          ∧ r.2.mem ((c.tc : Thread Cert.KernelFfnInDx0Ideal.nD Cert.KernelFfnInDx0Ideal.τ).loc Cert.KernelFfnInDx0Ideal.main_arg0) = m ((c.tc : Thread Cert.KernelFfnInDx0Ideal.nD Cert.KernelFfnInDx0Ideal.τ).loc Cert.KernelFfnInDx0Ideal.main_arg0)
          ∧ r.2.mem ((c.tc : Thread Cert.KernelFfnInDx0Ideal.nD Cert.KernelFfnInDx0Ideal.τ).loc Cert.KernelFfnInDx0Ideal.main_arg1) = m ((c.tc : Thread Cert.KernelFfnInDx0Ideal.nD Cert.KernelFfnInDx0Ideal.τ).loc Cert.KernelFfnInDx0Ideal.main_arg1)
          ∧ r.2.mem ((c.tc : Thread Cert.KernelFfnInDx0Ideal.nD Cert.KernelFfnInDx0Ideal.τ).loc Cert.KernelFfnInDx0Ideal.main_arg2) = m ((c.tc : Thread Cert.KernelFfnInDx0Ideal.nD Cert.KernelFfnInDx0Ideal.τ).loc Cert.KernelFfnInDx0Ideal.main_arg2))
      ∧ θ_run (Cert.ReferenceFfnInDx0Ideal.defs (F := Ideal)) (onTc (τ := Cert.ReferenceFfnInDx0Ideal.τ) (Cert.ReferenceFfnInDx0Ideal.main (F := Ideal))) ⟨m', fun _ => 0, g'⟩ (fun r => ∀ c : Dev Cert.ReferenceFfnInDx0Ideal.nD,
          r.2.mem ((c.tc : Thread Cert.ReferenceFfnInDx0Ideal.nD Cert.ReferenceFfnInDx0Ideal.τ).loc Cert.ReferenceFfnInDx0Ideal.main_v7) = v0 c
          ∧ r.2.mem ((c.tc : Thread Cert.ReferenceFfnInDx0Ideal.nD Cert.ReferenceFfnInDx0Ideal.τ).loc Cert.ReferenceFfnInDx0Ideal.main_arg0) = m' ((c.tc : Thread Cert.ReferenceFfnInDx0Ideal.nD Cert.ReferenceFfnInDx0Ideal.τ).loc Cert.ReferenceFfnInDx0Ideal.main_arg0)
          ∧ r.2.mem ((c.tc : Thread Cert.ReferenceFfnInDx0Ideal.nD Cert.ReferenceFfnInDx0Ideal.τ).loc Cert.ReferenceFfnInDx0Ideal.main_arg1) = m' ((c.tc : Thread Cert.ReferenceFfnInDx0Ideal.nD Cert.ReferenceFfnInDx0Ideal.τ).loc Cert.ReferenceFfnInDx0Ideal.main_arg1)
          ∧ r.2.mem ((c.tc : Thread Cert.ReferenceFfnInDx0Ideal.nD Cert.ReferenceFfnInDx0Ideal.τ).loc Cert.ReferenceFfnInDx0Ideal.main_arg2) = m' ((c.tc : Thread Cert.ReferenceFfnInDx0Ideal.nD Cert.ReferenceFfnInDx0Ideal.τ).loc Cert.ReferenceFfnInDx0Ideal.main_arg2))

def preserves_KernelFfnInDx1_KernelFfnInDx1Ideal : Prop :=
  True

def algebraic_KernelFfnInDx1Ideal_ReferenceFfnInDx1Ideal [hKernelFfnInDx1Ideal : Cert.KernelFfnInDx1Ideal.Facts] [hReferenceFfnInDx1Ideal : Cert.ReferenceFfnInDx1Ideal.Facts] : Prop :=
  ∀ (m : (ℓ : Loc Cert.KernelFfnInDx1Ideal.nD Cert.KernelFfnInDx1Ideal.τ Cert.KernelFfnInDx1Ideal.sig) → Buf (Elt Ideal) ℓ) (g : Dev Cert.KernelFfnInDx1Ideal.nD → PrngReg)
    (m' : (ℓ : Loc Cert.ReferenceFfnInDx1Ideal.nD Cert.ReferenceFfnInDx1Ideal.τ Cert.ReferenceFfnInDx1Ideal.sig) → Buf (Elt Ideal) ℓ) (g' : Dev Cert.ReferenceFfnInDx1Ideal.nD → PrngReg), Pre_KernelFfnInDx1Ideal m →
    (∀ c : Dev Cert.KernelFfnInDx1Ideal.nD,
      m' ((c.tc : Thread Cert.ReferenceFfnInDx1Ideal.nD Cert.ReferenceFfnInDx1Ideal.τ).loc Cert.ReferenceFfnInDx1Ideal.main_arg0) = m ((c.tc : Thread Cert.KernelFfnInDx1Ideal.nD Cert.KernelFfnInDx1Ideal.τ).loc Cert.KernelFfnInDx1Ideal.main_arg0)
      ∧ m' ((c.tc : Thread Cert.ReferenceFfnInDx1Ideal.nD Cert.ReferenceFfnInDx1Ideal.τ).loc Cert.ReferenceFfnInDx1Ideal.main_arg1) = m ((c.tc : Thread Cert.KernelFfnInDx1Ideal.nD Cert.KernelFfnInDx1Ideal.τ).loc Cert.KernelFfnInDx1Ideal.main_arg1)
      ∧ m' ((c.tc : Thread Cert.ReferenceFfnInDx1Ideal.nD Cert.ReferenceFfnInDx1Ideal.τ).loc Cert.ReferenceFfnInDx1Ideal.main_arg2) = m ((c.tc : Thread Cert.KernelFfnInDx1Ideal.nD Cert.KernelFfnInDx1Ideal.τ).loc Cert.KernelFfnInDx1Ideal.main_arg2)) →
    ∃ (v0 : (c : Dev Cert.KernelFfnInDx1Ideal.nD) → Buf (Elt Ideal) ((c.tc : Thread Cert.KernelFfnInDx1Ideal.nD Cert.KernelFfnInDx1Ideal.τ).loc Cert.KernelFfnInDx1Ideal.main_v0)),
      θ_run (Cert.KernelFfnInDx1Ideal.defs (F := Ideal)) (onTc (τ := Cert.KernelFfnInDx1Ideal.τ) (Cert.KernelFfnInDx1Ideal.main (F := Ideal))) ⟨m, fun _ => 0, g⟩ (fun r => ∀ c : Dev Cert.KernelFfnInDx1Ideal.nD,
          r.2.mem ((c.tc : Thread Cert.KernelFfnInDx1Ideal.nD Cert.KernelFfnInDx1Ideal.τ).loc Cert.KernelFfnInDx1Ideal.main_v0) = v0 c
          ∧ r.2.mem ((c.tc : Thread Cert.KernelFfnInDx1Ideal.nD Cert.KernelFfnInDx1Ideal.τ).loc Cert.KernelFfnInDx1Ideal.main_arg0) = m ((c.tc : Thread Cert.KernelFfnInDx1Ideal.nD Cert.KernelFfnInDx1Ideal.τ).loc Cert.KernelFfnInDx1Ideal.main_arg0)
          ∧ r.2.mem ((c.tc : Thread Cert.KernelFfnInDx1Ideal.nD Cert.KernelFfnInDx1Ideal.τ).loc Cert.KernelFfnInDx1Ideal.main_arg1) = m ((c.tc : Thread Cert.KernelFfnInDx1Ideal.nD Cert.KernelFfnInDx1Ideal.τ).loc Cert.KernelFfnInDx1Ideal.main_arg1)
          ∧ r.2.mem ((c.tc : Thread Cert.KernelFfnInDx1Ideal.nD Cert.KernelFfnInDx1Ideal.τ).loc Cert.KernelFfnInDx1Ideal.main_arg2) = m ((c.tc : Thread Cert.KernelFfnInDx1Ideal.nD Cert.KernelFfnInDx1Ideal.τ).loc Cert.KernelFfnInDx1Ideal.main_arg2))
      ∧ θ_run (Cert.ReferenceFfnInDx1Ideal.defs (F := Ideal)) (onTc (τ := Cert.ReferenceFfnInDx1Ideal.τ) (Cert.ReferenceFfnInDx1Ideal.main (F := Ideal))) ⟨m', fun _ => 0, g'⟩ (fun r => ∀ c : Dev Cert.ReferenceFfnInDx1Ideal.nD,
          r.2.mem ((c.tc : Thread Cert.ReferenceFfnInDx1Ideal.nD Cert.ReferenceFfnInDx1Ideal.τ).loc Cert.ReferenceFfnInDx1Ideal.main_v7) = v0 c
          ∧ r.2.mem ((c.tc : Thread Cert.ReferenceFfnInDx1Ideal.nD Cert.ReferenceFfnInDx1Ideal.τ).loc Cert.ReferenceFfnInDx1Ideal.main_arg0) = m' ((c.tc : Thread Cert.ReferenceFfnInDx1Ideal.nD Cert.ReferenceFfnInDx1Ideal.τ).loc Cert.ReferenceFfnInDx1Ideal.main_arg0)
          ∧ r.2.mem ((c.tc : Thread Cert.ReferenceFfnInDx1Ideal.nD Cert.ReferenceFfnInDx1Ideal.τ).loc Cert.ReferenceFfnInDx1Ideal.main_arg1) = m' ((c.tc : Thread Cert.ReferenceFfnInDx1Ideal.nD Cert.ReferenceFfnInDx1Ideal.τ).loc Cert.ReferenceFfnInDx1Ideal.main_arg1)
          ∧ r.2.mem ((c.tc : Thread Cert.ReferenceFfnInDx1Ideal.nD Cert.ReferenceFfnInDx1Ideal.τ).loc Cert.ReferenceFfnInDx1Ideal.main_arg2) = m' ((c.tc : Thread Cert.ReferenceFfnInDx1Ideal.nD Cert.ReferenceFfnInDx1Ideal.τ).loc Cert.ReferenceFfnInDx1Ideal.main_arg2))

def preserves_KernelFfnInDx2_KernelFfnInDx2Ideal : Prop :=
  True

def algebraic_KernelFfnInDx2Ideal_ReferenceFfnInDx2Ideal [hKernelFfnInDx2Ideal : Cert.KernelFfnInDx2Ideal.Facts] [hReferenceFfnInDx2Ideal : Cert.ReferenceFfnInDx2Ideal.Facts] : Prop :=
  ∀ (m : (ℓ : Loc Cert.KernelFfnInDx2Ideal.nD Cert.KernelFfnInDx2Ideal.τ Cert.KernelFfnInDx2Ideal.sig) → Buf (Elt Ideal) ℓ) (g : Dev Cert.KernelFfnInDx2Ideal.nD → PrngReg)
    (m' : (ℓ : Loc Cert.ReferenceFfnInDx2Ideal.nD Cert.ReferenceFfnInDx2Ideal.τ Cert.ReferenceFfnInDx2Ideal.sig) → Buf (Elt Ideal) ℓ) (g' : Dev Cert.ReferenceFfnInDx2Ideal.nD → PrngReg), Pre_KernelFfnInDx2Ideal m →
    (∀ c : Dev Cert.KernelFfnInDx2Ideal.nD,
      m' ((c.tc : Thread Cert.ReferenceFfnInDx2Ideal.nD Cert.ReferenceFfnInDx2Ideal.τ).loc Cert.ReferenceFfnInDx2Ideal.main_arg0) = m ((c.tc : Thread Cert.KernelFfnInDx2Ideal.nD Cert.KernelFfnInDx2Ideal.τ).loc Cert.KernelFfnInDx2Ideal.main_arg0)
      ∧ m' ((c.tc : Thread Cert.ReferenceFfnInDx2Ideal.nD Cert.ReferenceFfnInDx2Ideal.τ).loc Cert.ReferenceFfnInDx2Ideal.main_arg1) = m ((c.tc : Thread Cert.KernelFfnInDx2Ideal.nD Cert.KernelFfnInDx2Ideal.τ).loc Cert.KernelFfnInDx2Ideal.main_arg1)
      ∧ m' ((c.tc : Thread Cert.ReferenceFfnInDx2Ideal.nD Cert.ReferenceFfnInDx2Ideal.τ).loc Cert.ReferenceFfnInDx2Ideal.main_arg2) = m ((c.tc : Thread Cert.KernelFfnInDx2Ideal.nD Cert.KernelFfnInDx2Ideal.τ).loc Cert.KernelFfnInDx2Ideal.main_arg2)) →
    ∃ (v0 : (c : Dev Cert.KernelFfnInDx2Ideal.nD) → Buf (Elt Ideal) ((c.tc : Thread Cert.KernelFfnInDx2Ideal.nD Cert.KernelFfnInDx2Ideal.τ).loc Cert.KernelFfnInDx2Ideal.main_v0)),
      θ_run (Cert.KernelFfnInDx2Ideal.defs (F := Ideal)) (onTc (τ := Cert.KernelFfnInDx2Ideal.τ) (Cert.KernelFfnInDx2Ideal.main (F := Ideal))) ⟨m, fun _ => 0, g⟩ (fun r => ∀ c : Dev Cert.KernelFfnInDx2Ideal.nD,
          r.2.mem ((c.tc : Thread Cert.KernelFfnInDx2Ideal.nD Cert.KernelFfnInDx2Ideal.τ).loc Cert.KernelFfnInDx2Ideal.main_v0) = v0 c
          ∧ r.2.mem ((c.tc : Thread Cert.KernelFfnInDx2Ideal.nD Cert.KernelFfnInDx2Ideal.τ).loc Cert.KernelFfnInDx2Ideal.main_arg0) = m ((c.tc : Thread Cert.KernelFfnInDx2Ideal.nD Cert.KernelFfnInDx2Ideal.τ).loc Cert.KernelFfnInDx2Ideal.main_arg0)
          ∧ r.2.mem ((c.tc : Thread Cert.KernelFfnInDx2Ideal.nD Cert.KernelFfnInDx2Ideal.τ).loc Cert.KernelFfnInDx2Ideal.main_arg1) = m ((c.tc : Thread Cert.KernelFfnInDx2Ideal.nD Cert.KernelFfnInDx2Ideal.τ).loc Cert.KernelFfnInDx2Ideal.main_arg1)
          ∧ r.2.mem ((c.tc : Thread Cert.KernelFfnInDx2Ideal.nD Cert.KernelFfnInDx2Ideal.τ).loc Cert.KernelFfnInDx2Ideal.main_arg2) = m ((c.tc : Thread Cert.KernelFfnInDx2Ideal.nD Cert.KernelFfnInDx2Ideal.τ).loc Cert.KernelFfnInDx2Ideal.main_arg2))
      ∧ θ_run (Cert.ReferenceFfnInDx2Ideal.defs (F := Ideal)) (onTc (τ := Cert.ReferenceFfnInDx2Ideal.τ) (Cert.ReferenceFfnInDx2Ideal.main (F := Ideal))) ⟨m', fun _ => 0, g'⟩ (fun r => ∀ c : Dev Cert.ReferenceFfnInDx2Ideal.nD,
          r.2.mem ((c.tc : Thread Cert.ReferenceFfnInDx2Ideal.nD Cert.ReferenceFfnInDx2Ideal.τ).loc Cert.ReferenceFfnInDx2Ideal.main_v7) = v0 c
          ∧ r.2.mem ((c.tc : Thread Cert.ReferenceFfnInDx2Ideal.nD Cert.ReferenceFfnInDx2Ideal.τ).loc Cert.ReferenceFfnInDx2Ideal.main_arg0) = m' ((c.tc : Thread Cert.ReferenceFfnInDx2Ideal.nD Cert.ReferenceFfnInDx2Ideal.τ).loc Cert.ReferenceFfnInDx2Ideal.main_arg0)
          ∧ r.2.mem ((c.tc : Thread Cert.ReferenceFfnInDx2Ideal.nD Cert.ReferenceFfnInDx2Ideal.τ).loc Cert.ReferenceFfnInDx2Ideal.main_arg1) = m' ((c.tc : Thread Cert.ReferenceFfnInDx2Ideal.nD Cert.ReferenceFfnInDx2Ideal.τ).loc Cert.ReferenceFfnInDx2Ideal.main_arg1)
          ∧ r.2.mem ((c.tc : Thread Cert.ReferenceFfnInDx2Ideal.nD Cert.ReferenceFfnInDx2Ideal.τ).loc Cert.ReferenceFfnInDx2Ideal.main_arg2) = m' ((c.tc : Thread Cert.ReferenceFfnInDx2Ideal.nD Cert.ReferenceFfnInDx2Ideal.τ).loc Cert.ReferenceFfnInDx2Ideal.main_arg2))

def preserves_KernelFfnInDx3_KernelFfnInDx3Ideal : Prop :=
  True

def algebraic_KernelFfnInDx3Ideal_ReferenceFfnInDx3Ideal [hKernelFfnInDx3Ideal : Cert.KernelFfnInDx3Ideal.Facts] [hReferenceFfnInDx3Ideal : Cert.ReferenceFfnInDx3Ideal.Facts] : Prop :=
  ∀ (m : (ℓ : Loc Cert.KernelFfnInDx3Ideal.nD Cert.KernelFfnInDx3Ideal.τ Cert.KernelFfnInDx3Ideal.sig) → Buf (Elt Ideal) ℓ) (g : Dev Cert.KernelFfnInDx3Ideal.nD → PrngReg)
    (m' : (ℓ : Loc Cert.ReferenceFfnInDx3Ideal.nD Cert.ReferenceFfnInDx3Ideal.τ Cert.ReferenceFfnInDx3Ideal.sig) → Buf (Elt Ideal) ℓ) (g' : Dev Cert.ReferenceFfnInDx3Ideal.nD → PrngReg), Pre_KernelFfnInDx3Ideal m →
    (∀ c : Dev Cert.KernelFfnInDx3Ideal.nD,
      m' ((c.tc : Thread Cert.ReferenceFfnInDx3Ideal.nD Cert.ReferenceFfnInDx3Ideal.τ).loc Cert.ReferenceFfnInDx3Ideal.main_arg0) = m ((c.tc : Thread Cert.KernelFfnInDx3Ideal.nD Cert.KernelFfnInDx3Ideal.τ).loc Cert.KernelFfnInDx3Ideal.main_arg0)
      ∧ m' ((c.tc : Thread Cert.ReferenceFfnInDx3Ideal.nD Cert.ReferenceFfnInDx3Ideal.τ).loc Cert.ReferenceFfnInDx3Ideal.main_arg1) = m ((c.tc : Thread Cert.KernelFfnInDx3Ideal.nD Cert.KernelFfnInDx3Ideal.τ).loc Cert.KernelFfnInDx3Ideal.main_arg1)
      ∧ m' ((c.tc : Thread Cert.ReferenceFfnInDx3Ideal.nD Cert.ReferenceFfnInDx3Ideal.τ).loc Cert.ReferenceFfnInDx3Ideal.main_arg2) = m ((c.tc : Thread Cert.KernelFfnInDx3Ideal.nD Cert.KernelFfnInDx3Ideal.τ).loc Cert.KernelFfnInDx3Ideal.main_arg2)) →
    ∃ (v0 : (c : Dev Cert.KernelFfnInDx3Ideal.nD) → Buf (Elt Ideal) ((c.tc : Thread Cert.KernelFfnInDx3Ideal.nD Cert.KernelFfnInDx3Ideal.τ).loc Cert.KernelFfnInDx3Ideal.main_v0)),
      θ_run (Cert.KernelFfnInDx3Ideal.defs (F := Ideal)) (onTc (τ := Cert.KernelFfnInDx3Ideal.τ) (Cert.KernelFfnInDx3Ideal.main (F := Ideal))) ⟨m, fun _ => 0, g⟩ (fun r => ∀ c : Dev Cert.KernelFfnInDx3Ideal.nD,
          r.2.mem ((c.tc : Thread Cert.KernelFfnInDx3Ideal.nD Cert.KernelFfnInDx3Ideal.τ).loc Cert.KernelFfnInDx3Ideal.main_v0) = v0 c
          ∧ r.2.mem ((c.tc : Thread Cert.KernelFfnInDx3Ideal.nD Cert.KernelFfnInDx3Ideal.τ).loc Cert.KernelFfnInDx3Ideal.main_arg0) = m ((c.tc : Thread Cert.KernelFfnInDx3Ideal.nD Cert.KernelFfnInDx3Ideal.τ).loc Cert.KernelFfnInDx3Ideal.main_arg0)
          ∧ r.2.mem ((c.tc : Thread Cert.KernelFfnInDx3Ideal.nD Cert.KernelFfnInDx3Ideal.τ).loc Cert.KernelFfnInDx3Ideal.main_arg1) = m ((c.tc : Thread Cert.KernelFfnInDx3Ideal.nD Cert.KernelFfnInDx3Ideal.τ).loc Cert.KernelFfnInDx3Ideal.main_arg1)
          ∧ r.2.mem ((c.tc : Thread Cert.KernelFfnInDx3Ideal.nD Cert.KernelFfnInDx3Ideal.τ).loc Cert.KernelFfnInDx3Ideal.main_arg2) = m ((c.tc : Thread Cert.KernelFfnInDx3Ideal.nD Cert.KernelFfnInDx3Ideal.τ).loc Cert.KernelFfnInDx3Ideal.main_arg2))
      ∧ θ_run (Cert.ReferenceFfnInDx3Ideal.defs (F := Ideal)) (onTc (τ := Cert.ReferenceFfnInDx3Ideal.τ) (Cert.ReferenceFfnInDx3Ideal.main (F := Ideal))) ⟨m', fun _ => 0, g'⟩ (fun r => ∀ c : Dev Cert.ReferenceFfnInDx3Ideal.nD,
          r.2.mem ((c.tc : Thread Cert.ReferenceFfnInDx3Ideal.nD Cert.ReferenceFfnInDx3Ideal.τ).loc Cert.ReferenceFfnInDx3Ideal.main_v7) = v0 c
          ∧ r.2.mem ((c.tc : Thread Cert.ReferenceFfnInDx3Ideal.nD Cert.ReferenceFfnInDx3Ideal.τ).loc Cert.ReferenceFfnInDx3Ideal.main_arg0) = m' ((c.tc : Thread Cert.ReferenceFfnInDx3Ideal.nD Cert.ReferenceFfnInDx3Ideal.τ).loc Cert.ReferenceFfnInDx3Ideal.main_arg0)
          ∧ r.2.mem ((c.tc : Thread Cert.ReferenceFfnInDx3Ideal.nD Cert.ReferenceFfnInDx3Ideal.τ).loc Cert.ReferenceFfnInDx3Ideal.main_arg1) = m' ((c.tc : Thread Cert.ReferenceFfnInDx3Ideal.nD Cert.ReferenceFfnInDx3Ideal.τ).loc Cert.ReferenceFfnInDx3Ideal.main_arg1)
          ∧ r.2.mem ((c.tc : Thread Cert.ReferenceFfnInDx3Ideal.nD Cert.ReferenceFfnInDx3Ideal.τ).loc Cert.ReferenceFfnInDx3Ideal.main_arg2) = m' ((c.tc : Thread Cert.ReferenceFfnInDx3Ideal.nD Cert.ReferenceFfnInDx3Ideal.τ).loc Cert.ReferenceFfnInDx3Ideal.main_arg2))

def preserves_KernelFfnOut0_KernelFfnOut0Ideal : Prop :=
  True

def algebraic_KernelFfnOut0Ideal_ReferenceFfnOut0Ideal [hKernelFfnOut0Ideal : Cert.KernelFfnOut0Ideal.Facts] [hReferenceFfnOut0Ideal : Cert.ReferenceFfnOut0Ideal.Facts] : Prop :=
  ∀ (m : (ℓ : Loc Cert.KernelFfnOut0Ideal.nD Cert.KernelFfnOut0Ideal.τ Cert.KernelFfnOut0Ideal.sig) → Buf (Elt Ideal) ℓ) (g : Dev Cert.KernelFfnOut0Ideal.nD → PrngReg)
    (m' : (ℓ : Loc Cert.ReferenceFfnOut0Ideal.nD Cert.ReferenceFfnOut0Ideal.τ Cert.ReferenceFfnOut0Ideal.sig) → Buf (Elt Ideal) ℓ) (g' : Dev Cert.ReferenceFfnOut0Ideal.nD → PrngReg), Pre_KernelFfnOut0Ideal m →
    (∀ c : Dev Cert.KernelFfnOut0Ideal.nD,
      m' ((c.tc : Thread Cert.ReferenceFfnOut0Ideal.nD Cert.ReferenceFfnOut0Ideal.τ).loc Cert.ReferenceFfnOut0Ideal.main_arg0) = m ((c.tc : Thread Cert.KernelFfnOut0Ideal.nD Cert.KernelFfnOut0Ideal.τ).loc Cert.KernelFfnOut0Ideal.main_arg0)
      ∧ m' ((c.tc : Thread Cert.ReferenceFfnOut0Ideal.nD Cert.ReferenceFfnOut0Ideal.τ).loc Cert.ReferenceFfnOut0Ideal.main_arg1) = m ((c.tc : Thread Cert.KernelFfnOut0Ideal.nD Cert.KernelFfnOut0Ideal.τ).loc Cert.KernelFfnOut0Ideal.main_arg1)) →
    ∃ (v0 : (c : Dev Cert.KernelFfnOut0Ideal.nD) → Buf (Elt Ideal) ((c.tc : Thread Cert.KernelFfnOut0Ideal.nD Cert.KernelFfnOut0Ideal.τ).loc Cert.KernelFfnOut0Ideal.main_v0)),
      θ_run (Cert.KernelFfnOut0Ideal.defs (F := Ideal)) (onTc (τ := Cert.KernelFfnOut0Ideal.τ) (Cert.KernelFfnOut0Ideal.main (F := Ideal))) ⟨m, fun _ => 0, g⟩ (fun r => ∀ c : Dev Cert.KernelFfnOut0Ideal.nD,
          r.2.mem ((c.tc : Thread Cert.KernelFfnOut0Ideal.nD Cert.KernelFfnOut0Ideal.τ).loc Cert.KernelFfnOut0Ideal.main_v0) = v0 c
          ∧ r.2.mem ((c.tc : Thread Cert.KernelFfnOut0Ideal.nD Cert.KernelFfnOut0Ideal.τ).loc Cert.KernelFfnOut0Ideal.main_arg0) = m ((c.tc : Thread Cert.KernelFfnOut0Ideal.nD Cert.KernelFfnOut0Ideal.τ).loc Cert.KernelFfnOut0Ideal.main_arg0)
          ∧ r.2.mem ((c.tc : Thread Cert.KernelFfnOut0Ideal.nD Cert.KernelFfnOut0Ideal.τ).loc Cert.KernelFfnOut0Ideal.main_arg1) = m ((c.tc : Thread Cert.KernelFfnOut0Ideal.nD Cert.KernelFfnOut0Ideal.τ).loc Cert.KernelFfnOut0Ideal.main_arg1))
      ∧ θ_run (Cert.ReferenceFfnOut0Ideal.defs (F := Ideal)) (onTc (τ := Cert.ReferenceFfnOut0Ideal.τ) (Cert.ReferenceFfnOut0Ideal.main (F := Ideal))) ⟨m', fun _ => 0, g'⟩ (fun r => ∀ c : Dev Cert.ReferenceFfnOut0Ideal.nD,
          r.2.mem ((c.tc : Thread Cert.ReferenceFfnOut0Ideal.nD Cert.ReferenceFfnOut0Ideal.τ).loc Cert.ReferenceFfnOut0Ideal.main_v4) = v0 c
          ∧ r.2.mem ((c.tc : Thread Cert.ReferenceFfnOut0Ideal.nD Cert.ReferenceFfnOut0Ideal.τ).loc Cert.ReferenceFfnOut0Ideal.main_arg0) = m' ((c.tc : Thread Cert.ReferenceFfnOut0Ideal.nD Cert.ReferenceFfnOut0Ideal.τ).loc Cert.ReferenceFfnOut0Ideal.main_arg0)
          ∧ r.2.mem ((c.tc : Thread Cert.ReferenceFfnOut0Ideal.nD Cert.ReferenceFfnOut0Ideal.τ).loc Cert.ReferenceFfnOut0Ideal.main_arg1) = m' ((c.tc : Thread Cert.ReferenceFfnOut0Ideal.nD Cert.ReferenceFfnOut0Ideal.τ).loc Cert.ReferenceFfnOut0Ideal.main_arg1))

def preserves_KernelFfnOut1_KernelFfnOut1Ideal : Prop :=
  True

def algebraic_KernelFfnOut1Ideal_ReferenceFfnOut1Ideal [hKernelFfnOut1Ideal : Cert.KernelFfnOut1Ideal.Facts] [hReferenceFfnOut1Ideal : Cert.ReferenceFfnOut1Ideal.Facts] : Prop :=
  ∀ (m : (ℓ : Loc Cert.KernelFfnOut1Ideal.nD Cert.KernelFfnOut1Ideal.τ Cert.KernelFfnOut1Ideal.sig) → Buf (Elt Ideal) ℓ) (g : Dev Cert.KernelFfnOut1Ideal.nD → PrngReg)
    (m' : (ℓ : Loc Cert.ReferenceFfnOut1Ideal.nD Cert.ReferenceFfnOut1Ideal.τ Cert.ReferenceFfnOut1Ideal.sig) → Buf (Elt Ideal) ℓ) (g' : Dev Cert.ReferenceFfnOut1Ideal.nD → PrngReg), Pre_KernelFfnOut1Ideal m →
    (∀ c : Dev Cert.KernelFfnOut1Ideal.nD,
      m' ((c.tc : Thread Cert.ReferenceFfnOut1Ideal.nD Cert.ReferenceFfnOut1Ideal.τ).loc Cert.ReferenceFfnOut1Ideal.main_arg0) = m ((c.tc : Thread Cert.KernelFfnOut1Ideal.nD Cert.KernelFfnOut1Ideal.τ).loc Cert.KernelFfnOut1Ideal.main_arg0)
      ∧ m' ((c.tc : Thread Cert.ReferenceFfnOut1Ideal.nD Cert.ReferenceFfnOut1Ideal.τ).loc Cert.ReferenceFfnOut1Ideal.main_arg1) = m ((c.tc : Thread Cert.KernelFfnOut1Ideal.nD Cert.KernelFfnOut1Ideal.τ).loc Cert.KernelFfnOut1Ideal.main_arg1)) →
    ∃ (v0 : (c : Dev Cert.KernelFfnOut1Ideal.nD) → Buf (Elt Ideal) ((c.tc : Thread Cert.KernelFfnOut1Ideal.nD Cert.KernelFfnOut1Ideal.τ).loc Cert.KernelFfnOut1Ideal.main_v0)),
      θ_run (Cert.KernelFfnOut1Ideal.defs (F := Ideal)) (onTc (τ := Cert.KernelFfnOut1Ideal.τ) (Cert.KernelFfnOut1Ideal.main (F := Ideal))) ⟨m, fun _ => 0, g⟩ (fun r => ∀ c : Dev Cert.KernelFfnOut1Ideal.nD,
          r.2.mem ((c.tc : Thread Cert.KernelFfnOut1Ideal.nD Cert.KernelFfnOut1Ideal.τ).loc Cert.KernelFfnOut1Ideal.main_v0) = v0 c
          ∧ r.2.mem ((c.tc : Thread Cert.KernelFfnOut1Ideal.nD Cert.KernelFfnOut1Ideal.τ).loc Cert.KernelFfnOut1Ideal.main_arg0) = m ((c.tc : Thread Cert.KernelFfnOut1Ideal.nD Cert.KernelFfnOut1Ideal.τ).loc Cert.KernelFfnOut1Ideal.main_arg0)
          ∧ r.2.mem ((c.tc : Thread Cert.KernelFfnOut1Ideal.nD Cert.KernelFfnOut1Ideal.τ).loc Cert.KernelFfnOut1Ideal.main_arg1) = m ((c.tc : Thread Cert.KernelFfnOut1Ideal.nD Cert.KernelFfnOut1Ideal.τ).loc Cert.KernelFfnOut1Ideal.main_arg1))
      ∧ θ_run (Cert.ReferenceFfnOut1Ideal.defs (F := Ideal)) (onTc (τ := Cert.ReferenceFfnOut1Ideal.τ) (Cert.ReferenceFfnOut1Ideal.main (F := Ideal))) ⟨m', fun _ => 0, g'⟩ (fun r => ∀ c : Dev Cert.ReferenceFfnOut1Ideal.nD,
          r.2.mem ((c.tc : Thread Cert.ReferenceFfnOut1Ideal.nD Cert.ReferenceFfnOut1Ideal.τ).loc Cert.ReferenceFfnOut1Ideal.main_v4) = v0 c
          ∧ r.2.mem ((c.tc : Thread Cert.ReferenceFfnOut1Ideal.nD Cert.ReferenceFfnOut1Ideal.τ).loc Cert.ReferenceFfnOut1Ideal.main_arg0) = m' ((c.tc : Thread Cert.ReferenceFfnOut1Ideal.nD Cert.ReferenceFfnOut1Ideal.τ).loc Cert.ReferenceFfnOut1Ideal.main_arg0)
          ∧ r.2.mem ((c.tc : Thread Cert.ReferenceFfnOut1Ideal.nD Cert.ReferenceFfnOut1Ideal.τ).loc Cert.ReferenceFfnOut1Ideal.main_arg1) = m' ((c.tc : Thread Cert.ReferenceFfnOut1Ideal.nD Cert.ReferenceFfnOut1Ideal.τ).loc Cert.ReferenceFfnOut1Ideal.main_arg1))

def preserves_KernelFfnOut2_KernelFfnOut2Ideal : Prop :=
  True

def algebraic_KernelFfnOut2Ideal_ReferenceFfnOut2Ideal [hKernelFfnOut2Ideal : Cert.KernelFfnOut2Ideal.Facts] [hReferenceFfnOut2Ideal : Cert.ReferenceFfnOut2Ideal.Facts] : Prop :=
  ∀ (m : (ℓ : Loc Cert.KernelFfnOut2Ideal.nD Cert.KernelFfnOut2Ideal.τ Cert.KernelFfnOut2Ideal.sig) → Buf (Elt Ideal) ℓ) (g : Dev Cert.KernelFfnOut2Ideal.nD → PrngReg)
    (m' : (ℓ : Loc Cert.ReferenceFfnOut2Ideal.nD Cert.ReferenceFfnOut2Ideal.τ Cert.ReferenceFfnOut2Ideal.sig) → Buf (Elt Ideal) ℓ) (g' : Dev Cert.ReferenceFfnOut2Ideal.nD → PrngReg), Pre_KernelFfnOut2Ideal m →
    (∀ c : Dev Cert.KernelFfnOut2Ideal.nD,
      m' ((c.tc : Thread Cert.ReferenceFfnOut2Ideal.nD Cert.ReferenceFfnOut2Ideal.τ).loc Cert.ReferenceFfnOut2Ideal.main_arg0) = m ((c.tc : Thread Cert.KernelFfnOut2Ideal.nD Cert.KernelFfnOut2Ideal.τ).loc Cert.KernelFfnOut2Ideal.main_arg0)
      ∧ m' ((c.tc : Thread Cert.ReferenceFfnOut2Ideal.nD Cert.ReferenceFfnOut2Ideal.τ).loc Cert.ReferenceFfnOut2Ideal.main_arg1) = m ((c.tc : Thread Cert.KernelFfnOut2Ideal.nD Cert.KernelFfnOut2Ideal.τ).loc Cert.KernelFfnOut2Ideal.main_arg1)) →
    ∃ (v0 : (c : Dev Cert.KernelFfnOut2Ideal.nD) → Buf (Elt Ideal) ((c.tc : Thread Cert.KernelFfnOut2Ideal.nD Cert.KernelFfnOut2Ideal.τ).loc Cert.KernelFfnOut2Ideal.main_v0)),
      θ_run (Cert.KernelFfnOut2Ideal.defs (F := Ideal)) (onTc (τ := Cert.KernelFfnOut2Ideal.τ) (Cert.KernelFfnOut2Ideal.main (F := Ideal))) ⟨m, fun _ => 0, g⟩ (fun r => ∀ c : Dev Cert.KernelFfnOut2Ideal.nD,
          r.2.mem ((c.tc : Thread Cert.KernelFfnOut2Ideal.nD Cert.KernelFfnOut2Ideal.τ).loc Cert.KernelFfnOut2Ideal.main_v0) = v0 c
          ∧ r.2.mem ((c.tc : Thread Cert.KernelFfnOut2Ideal.nD Cert.KernelFfnOut2Ideal.τ).loc Cert.KernelFfnOut2Ideal.main_arg0) = m ((c.tc : Thread Cert.KernelFfnOut2Ideal.nD Cert.KernelFfnOut2Ideal.τ).loc Cert.KernelFfnOut2Ideal.main_arg0)
          ∧ r.2.mem ((c.tc : Thread Cert.KernelFfnOut2Ideal.nD Cert.KernelFfnOut2Ideal.τ).loc Cert.KernelFfnOut2Ideal.main_arg1) = m ((c.tc : Thread Cert.KernelFfnOut2Ideal.nD Cert.KernelFfnOut2Ideal.τ).loc Cert.KernelFfnOut2Ideal.main_arg1))
      ∧ θ_run (Cert.ReferenceFfnOut2Ideal.defs (F := Ideal)) (onTc (τ := Cert.ReferenceFfnOut2Ideal.τ) (Cert.ReferenceFfnOut2Ideal.main (F := Ideal))) ⟨m', fun _ => 0, g'⟩ (fun r => ∀ c : Dev Cert.ReferenceFfnOut2Ideal.nD,
          r.2.mem ((c.tc : Thread Cert.ReferenceFfnOut2Ideal.nD Cert.ReferenceFfnOut2Ideal.τ).loc Cert.ReferenceFfnOut2Ideal.main_v4) = v0 c
          ∧ r.2.mem ((c.tc : Thread Cert.ReferenceFfnOut2Ideal.nD Cert.ReferenceFfnOut2Ideal.τ).loc Cert.ReferenceFfnOut2Ideal.main_arg0) = m' ((c.tc : Thread Cert.ReferenceFfnOut2Ideal.nD Cert.ReferenceFfnOut2Ideal.τ).loc Cert.ReferenceFfnOut2Ideal.main_arg0)
          ∧ r.2.mem ((c.tc : Thread Cert.ReferenceFfnOut2Ideal.nD Cert.ReferenceFfnOut2Ideal.τ).loc Cert.ReferenceFfnOut2Ideal.main_arg1) = m' ((c.tc : Thread Cert.ReferenceFfnOut2Ideal.nD Cert.ReferenceFfnOut2Ideal.τ).loc Cert.ReferenceFfnOut2Ideal.main_arg1))

def preserves_KernelFfnOut3_KernelFfnOut3Ideal : Prop :=
  True

def algebraic_KernelFfnOut3Ideal_ReferenceFfnOut3Ideal [hKernelFfnOut3Ideal : Cert.KernelFfnOut3Ideal.Facts] [hReferenceFfnOut3Ideal : Cert.ReferenceFfnOut3Ideal.Facts] : Prop :=
  ∀ (m : (ℓ : Loc Cert.KernelFfnOut3Ideal.nD Cert.KernelFfnOut3Ideal.τ Cert.KernelFfnOut3Ideal.sig) → Buf (Elt Ideal) ℓ) (g : Dev Cert.KernelFfnOut3Ideal.nD → PrngReg)
    (m' : (ℓ : Loc Cert.ReferenceFfnOut3Ideal.nD Cert.ReferenceFfnOut3Ideal.τ Cert.ReferenceFfnOut3Ideal.sig) → Buf (Elt Ideal) ℓ) (g' : Dev Cert.ReferenceFfnOut3Ideal.nD → PrngReg), Pre_KernelFfnOut3Ideal m →
    (∀ c : Dev Cert.KernelFfnOut3Ideal.nD,
      m' ((c.tc : Thread Cert.ReferenceFfnOut3Ideal.nD Cert.ReferenceFfnOut3Ideal.τ).loc Cert.ReferenceFfnOut3Ideal.main_arg0) = m ((c.tc : Thread Cert.KernelFfnOut3Ideal.nD Cert.KernelFfnOut3Ideal.τ).loc Cert.KernelFfnOut3Ideal.main_arg0)
      ∧ m' ((c.tc : Thread Cert.ReferenceFfnOut3Ideal.nD Cert.ReferenceFfnOut3Ideal.τ).loc Cert.ReferenceFfnOut3Ideal.main_arg1) = m ((c.tc : Thread Cert.KernelFfnOut3Ideal.nD Cert.KernelFfnOut3Ideal.τ).loc Cert.KernelFfnOut3Ideal.main_arg1)) →
    ∃ (v0 : (c : Dev Cert.KernelFfnOut3Ideal.nD) → Buf (Elt Ideal) ((c.tc : Thread Cert.KernelFfnOut3Ideal.nD Cert.KernelFfnOut3Ideal.τ).loc Cert.KernelFfnOut3Ideal.main_v0)),
      θ_run (Cert.KernelFfnOut3Ideal.defs (F := Ideal)) (onTc (τ := Cert.KernelFfnOut3Ideal.τ) (Cert.KernelFfnOut3Ideal.main (F := Ideal))) ⟨m, fun _ => 0, g⟩ (fun r => ∀ c : Dev Cert.KernelFfnOut3Ideal.nD,
          r.2.mem ((c.tc : Thread Cert.KernelFfnOut3Ideal.nD Cert.KernelFfnOut3Ideal.τ).loc Cert.KernelFfnOut3Ideal.main_v0) = v0 c
          ∧ r.2.mem ((c.tc : Thread Cert.KernelFfnOut3Ideal.nD Cert.KernelFfnOut3Ideal.τ).loc Cert.KernelFfnOut3Ideal.main_arg0) = m ((c.tc : Thread Cert.KernelFfnOut3Ideal.nD Cert.KernelFfnOut3Ideal.τ).loc Cert.KernelFfnOut3Ideal.main_arg0)
          ∧ r.2.mem ((c.tc : Thread Cert.KernelFfnOut3Ideal.nD Cert.KernelFfnOut3Ideal.τ).loc Cert.KernelFfnOut3Ideal.main_arg1) = m ((c.tc : Thread Cert.KernelFfnOut3Ideal.nD Cert.KernelFfnOut3Ideal.τ).loc Cert.KernelFfnOut3Ideal.main_arg1))
      ∧ θ_run (Cert.ReferenceFfnOut3Ideal.defs (F := Ideal)) (onTc (τ := Cert.ReferenceFfnOut3Ideal.τ) (Cert.ReferenceFfnOut3Ideal.main (F := Ideal))) ⟨m', fun _ => 0, g'⟩ (fun r => ∀ c : Dev Cert.ReferenceFfnOut3Ideal.nD,
          r.2.mem ((c.tc : Thread Cert.ReferenceFfnOut3Ideal.nD Cert.ReferenceFfnOut3Ideal.τ).loc Cert.ReferenceFfnOut3Ideal.main_v4) = v0 c
          ∧ r.2.mem ((c.tc : Thread Cert.ReferenceFfnOut3Ideal.nD Cert.ReferenceFfnOut3Ideal.τ).loc Cert.ReferenceFfnOut3Ideal.main_arg0) = m' ((c.tc : Thread Cert.ReferenceFfnOut3Ideal.nD Cert.ReferenceFfnOut3Ideal.τ).loc Cert.ReferenceFfnOut3Ideal.main_arg0)
          ∧ r.2.mem ((c.tc : Thread Cert.ReferenceFfnOut3Ideal.nD Cert.ReferenceFfnOut3Ideal.τ).loc Cert.ReferenceFfnOut3Ideal.main_arg1) = m' ((c.tc : Thread Cert.ReferenceFfnOut3Ideal.nD Cert.ReferenceFfnOut3Ideal.τ).loc Cert.ReferenceFfnOut3Ideal.main_arg1))

def preserves_KernelQkvProjDx0_KernelQkvProjDx0Ideal : Prop :=
  True

def algebraic_KernelQkvProjDx0Ideal_ReferenceQkvProjDx0Ideal [hKernelQkvProjDx0Ideal : Cert.KernelQkvProjDx0Ideal.Facts] [hReferenceQkvProjDx0Ideal : Cert.ReferenceQkvProjDx0Ideal.Facts] : Prop :=
  ∀ (m : (ℓ : Loc Cert.KernelQkvProjDx0Ideal.nD Cert.KernelQkvProjDx0Ideal.τ Cert.KernelQkvProjDx0Ideal.sig) → Buf (Elt Ideal) ℓ) (g : Dev Cert.KernelQkvProjDx0Ideal.nD → PrngReg)
    (m' : (ℓ : Loc Cert.ReferenceQkvProjDx0Ideal.nD Cert.ReferenceQkvProjDx0Ideal.τ Cert.ReferenceQkvProjDx0Ideal.sig) → Buf (Elt Ideal) ℓ) (g' : Dev Cert.ReferenceQkvProjDx0Ideal.nD → PrngReg), Pre_KernelQkvProjDx0Ideal m →
    (∀ c : Dev Cert.KernelQkvProjDx0Ideal.nD,
      m' ((c.tc : Thread Cert.ReferenceQkvProjDx0Ideal.nD Cert.ReferenceQkvProjDx0Ideal.τ).loc Cert.ReferenceQkvProjDx0Ideal.main_arg0) = m ((c.tc : Thread Cert.KernelQkvProjDx0Ideal.nD Cert.KernelQkvProjDx0Ideal.τ).loc Cert.KernelQkvProjDx0Ideal.main_arg0)
      ∧ m' ((c.tc : Thread Cert.ReferenceQkvProjDx0Ideal.nD Cert.ReferenceQkvProjDx0Ideal.τ).loc Cert.ReferenceQkvProjDx0Ideal.main_arg1) = m ((c.tc : Thread Cert.KernelQkvProjDx0Ideal.nD Cert.KernelQkvProjDx0Ideal.τ).loc Cert.KernelQkvProjDx0Ideal.main_arg1)
      ∧ m' ((c.tc : Thread Cert.ReferenceQkvProjDx0Ideal.nD Cert.ReferenceQkvProjDx0Ideal.τ).loc Cert.ReferenceQkvProjDx0Ideal.main_arg2) = m ((c.tc : Thread Cert.KernelQkvProjDx0Ideal.nD Cert.KernelQkvProjDx0Ideal.τ).loc Cert.KernelQkvProjDx0Ideal.main_arg2)) →
    ∃ (v0 : (c : Dev Cert.KernelQkvProjDx0Ideal.nD) → Buf (Elt Ideal) ((c.tc : Thread Cert.KernelQkvProjDx0Ideal.nD Cert.KernelQkvProjDx0Ideal.τ).loc Cert.KernelQkvProjDx0Ideal.main_v0)),
      θ_run (Cert.KernelQkvProjDx0Ideal.defs (F := Ideal)) (onTc (τ := Cert.KernelQkvProjDx0Ideal.τ) (Cert.KernelQkvProjDx0Ideal.main (F := Ideal))) ⟨m, fun _ => 0, g⟩ (fun r => ∀ c : Dev Cert.KernelQkvProjDx0Ideal.nD,
          r.2.mem ((c.tc : Thread Cert.KernelQkvProjDx0Ideal.nD Cert.KernelQkvProjDx0Ideal.τ).loc Cert.KernelQkvProjDx0Ideal.main_v0) = v0 c
          ∧ r.2.mem ((c.tc : Thread Cert.KernelQkvProjDx0Ideal.nD Cert.KernelQkvProjDx0Ideal.τ).loc Cert.KernelQkvProjDx0Ideal.main_arg0) = m ((c.tc : Thread Cert.KernelQkvProjDx0Ideal.nD Cert.KernelQkvProjDx0Ideal.τ).loc Cert.KernelQkvProjDx0Ideal.main_arg0)
          ∧ r.2.mem ((c.tc : Thread Cert.KernelQkvProjDx0Ideal.nD Cert.KernelQkvProjDx0Ideal.τ).loc Cert.KernelQkvProjDx0Ideal.main_arg1) = m ((c.tc : Thread Cert.KernelQkvProjDx0Ideal.nD Cert.KernelQkvProjDx0Ideal.τ).loc Cert.KernelQkvProjDx0Ideal.main_arg1)
          ∧ r.2.mem ((c.tc : Thread Cert.KernelQkvProjDx0Ideal.nD Cert.KernelQkvProjDx0Ideal.τ).loc Cert.KernelQkvProjDx0Ideal.main_arg2) = m ((c.tc : Thread Cert.KernelQkvProjDx0Ideal.nD Cert.KernelQkvProjDx0Ideal.τ).loc Cert.KernelQkvProjDx0Ideal.main_arg2))
      ∧ θ_run (Cert.ReferenceQkvProjDx0Ideal.defs (F := Ideal)) (onTc (τ := Cert.ReferenceQkvProjDx0Ideal.τ) (Cert.ReferenceQkvProjDx0Ideal.main (F := Ideal))) ⟨m', fun _ => 0, g'⟩ (fun r => ∀ c : Dev Cert.ReferenceQkvProjDx0Ideal.nD,
          r.2.mem ((c.tc : Thread Cert.ReferenceQkvProjDx0Ideal.nD Cert.ReferenceQkvProjDx0Ideal.τ).loc Cert.ReferenceQkvProjDx0Ideal.main_v9) = v0 c
          ∧ r.2.mem ((c.tc : Thread Cert.ReferenceQkvProjDx0Ideal.nD Cert.ReferenceQkvProjDx0Ideal.τ).loc Cert.ReferenceQkvProjDx0Ideal.main_arg0) = m' ((c.tc : Thread Cert.ReferenceQkvProjDx0Ideal.nD Cert.ReferenceQkvProjDx0Ideal.τ).loc Cert.ReferenceQkvProjDx0Ideal.main_arg0)
          ∧ r.2.mem ((c.tc : Thread Cert.ReferenceQkvProjDx0Ideal.nD Cert.ReferenceQkvProjDx0Ideal.τ).loc Cert.ReferenceQkvProjDx0Ideal.main_arg1) = m' ((c.tc : Thread Cert.ReferenceQkvProjDx0Ideal.nD Cert.ReferenceQkvProjDx0Ideal.τ).loc Cert.ReferenceQkvProjDx0Ideal.main_arg1)
          ∧ r.2.mem ((c.tc : Thread Cert.ReferenceQkvProjDx0Ideal.nD Cert.ReferenceQkvProjDx0Ideal.τ).loc Cert.ReferenceQkvProjDx0Ideal.main_arg2) = m' ((c.tc : Thread Cert.ReferenceQkvProjDx0Ideal.nD Cert.ReferenceQkvProjDx0Ideal.τ).loc Cert.ReferenceQkvProjDx0Ideal.main_arg2))

def preserves_KernelQkvProjDx1_KernelQkvProjDx1Ideal : Prop :=
  True

def algebraic_KernelQkvProjDx1Ideal_ReferenceQkvProjDx1Ideal [hKernelQkvProjDx1Ideal : Cert.KernelQkvProjDx1Ideal.Facts] [hReferenceQkvProjDx1Ideal : Cert.ReferenceQkvProjDx1Ideal.Facts] : Prop :=
  ∀ (m : (ℓ : Loc Cert.KernelQkvProjDx1Ideal.nD Cert.KernelQkvProjDx1Ideal.τ Cert.KernelQkvProjDx1Ideal.sig) → Buf (Elt Ideal) ℓ) (g : Dev Cert.KernelQkvProjDx1Ideal.nD → PrngReg)
    (m' : (ℓ : Loc Cert.ReferenceQkvProjDx1Ideal.nD Cert.ReferenceQkvProjDx1Ideal.τ Cert.ReferenceQkvProjDx1Ideal.sig) → Buf (Elt Ideal) ℓ) (g' : Dev Cert.ReferenceQkvProjDx1Ideal.nD → PrngReg), Pre_KernelQkvProjDx1Ideal m →
    (∀ c : Dev Cert.KernelQkvProjDx1Ideal.nD,
      m' ((c.tc : Thread Cert.ReferenceQkvProjDx1Ideal.nD Cert.ReferenceQkvProjDx1Ideal.τ).loc Cert.ReferenceQkvProjDx1Ideal.main_arg0) = m ((c.tc : Thread Cert.KernelQkvProjDx1Ideal.nD Cert.KernelQkvProjDx1Ideal.τ).loc Cert.KernelQkvProjDx1Ideal.main_arg0)
      ∧ m' ((c.tc : Thread Cert.ReferenceQkvProjDx1Ideal.nD Cert.ReferenceQkvProjDx1Ideal.τ).loc Cert.ReferenceQkvProjDx1Ideal.main_arg1) = m ((c.tc : Thread Cert.KernelQkvProjDx1Ideal.nD Cert.KernelQkvProjDx1Ideal.τ).loc Cert.KernelQkvProjDx1Ideal.main_arg1)
      ∧ m' ((c.tc : Thread Cert.ReferenceQkvProjDx1Ideal.nD Cert.ReferenceQkvProjDx1Ideal.τ).loc Cert.ReferenceQkvProjDx1Ideal.main_arg2) = m ((c.tc : Thread Cert.KernelQkvProjDx1Ideal.nD Cert.KernelQkvProjDx1Ideal.τ).loc Cert.KernelQkvProjDx1Ideal.main_arg2)) →
    ∃ (v0 : (c : Dev Cert.KernelQkvProjDx1Ideal.nD) → Buf (Elt Ideal) ((c.tc : Thread Cert.KernelQkvProjDx1Ideal.nD Cert.KernelQkvProjDx1Ideal.τ).loc Cert.KernelQkvProjDx1Ideal.main_v0)),
      θ_run (Cert.KernelQkvProjDx1Ideal.defs (F := Ideal)) (onTc (τ := Cert.KernelQkvProjDx1Ideal.τ) (Cert.KernelQkvProjDx1Ideal.main (F := Ideal))) ⟨m, fun _ => 0, g⟩ (fun r => ∀ c : Dev Cert.KernelQkvProjDx1Ideal.nD,
          r.2.mem ((c.tc : Thread Cert.KernelQkvProjDx1Ideal.nD Cert.KernelQkvProjDx1Ideal.τ).loc Cert.KernelQkvProjDx1Ideal.main_v0) = v0 c
          ∧ r.2.mem ((c.tc : Thread Cert.KernelQkvProjDx1Ideal.nD Cert.KernelQkvProjDx1Ideal.τ).loc Cert.KernelQkvProjDx1Ideal.main_arg0) = m ((c.tc : Thread Cert.KernelQkvProjDx1Ideal.nD Cert.KernelQkvProjDx1Ideal.τ).loc Cert.KernelQkvProjDx1Ideal.main_arg0)
          ∧ r.2.mem ((c.tc : Thread Cert.KernelQkvProjDx1Ideal.nD Cert.KernelQkvProjDx1Ideal.τ).loc Cert.KernelQkvProjDx1Ideal.main_arg1) = m ((c.tc : Thread Cert.KernelQkvProjDx1Ideal.nD Cert.KernelQkvProjDx1Ideal.τ).loc Cert.KernelQkvProjDx1Ideal.main_arg1)
          ∧ r.2.mem ((c.tc : Thread Cert.KernelQkvProjDx1Ideal.nD Cert.KernelQkvProjDx1Ideal.τ).loc Cert.KernelQkvProjDx1Ideal.main_arg2) = m ((c.tc : Thread Cert.KernelQkvProjDx1Ideal.nD Cert.KernelQkvProjDx1Ideal.τ).loc Cert.KernelQkvProjDx1Ideal.main_arg2))
      ∧ θ_run (Cert.ReferenceQkvProjDx1Ideal.defs (F := Ideal)) (onTc (τ := Cert.ReferenceQkvProjDx1Ideal.τ) (Cert.ReferenceQkvProjDx1Ideal.main (F := Ideal))) ⟨m', fun _ => 0, g'⟩ (fun r => ∀ c : Dev Cert.ReferenceQkvProjDx1Ideal.nD,
          r.2.mem ((c.tc : Thread Cert.ReferenceQkvProjDx1Ideal.nD Cert.ReferenceQkvProjDx1Ideal.τ).loc Cert.ReferenceQkvProjDx1Ideal.main_v9) = v0 c
          ∧ r.2.mem ((c.tc : Thread Cert.ReferenceQkvProjDx1Ideal.nD Cert.ReferenceQkvProjDx1Ideal.τ).loc Cert.ReferenceQkvProjDx1Ideal.main_arg0) = m' ((c.tc : Thread Cert.ReferenceQkvProjDx1Ideal.nD Cert.ReferenceQkvProjDx1Ideal.τ).loc Cert.ReferenceQkvProjDx1Ideal.main_arg0)
          ∧ r.2.mem ((c.tc : Thread Cert.ReferenceQkvProjDx1Ideal.nD Cert.ReferenceQkvProjDx1Ideal.τ).loc Cert.ReferenceQkvProjDx1Ideal.main_arg1) = m' ((c.tc : Thread Cert.ReferenceQkvProjDx1Ideal.nD Cert.ReferenceQkvProjDx1Ideal.τ).loc Cert.ReferenceQkvProjDx1Ideal.main_arg1)
          ∧ r.2.mem ((c.tc : Thread Cert.ReferenceQkvProjDx1Ideal.nD Cert.ReferenceQkvProjDx1Ideal.τ).loc Cert.ReferenceQkvProjDx1Ideal.main_arg2) = m' ((c.tc : Thread Cert.ReferenceQkvProjDx1Ideal.nD Cert.ReferenceQkvProjDx1Ideal.τ).loc Cert.ReferenceQkvProjDx1Ideal.main_arg2))

def preserves_KernelInProjDx0_KernelInProjDx0Ideal : Prop :=
  True

def algebraic_KernelInProjDx0Ideal_ReferenceInProjDx0Ideal [hKernelInProjDx0Ideal : Cert.KernelInProjDx0Ideal.Facts] [hReferenceInProjDx0Ideal : Cert.ReferenceInProjDx0Ideal.Facts] : Prop :=
  ∀ (m : (ℓ : Loc Cert.KernelInProjDx0Ideal.nD Cert.KernelInProjDx0Ideal.τ Cert.KernelInProjDx0Ideal.sig) → Buf (Elt Ideal) ℓ) (g : Dev Cert.KernelInProjDx0Ideal.nD → PrngReg)
    (m' : (ℓ : Loc Cert.ReferenceInProjDx0Ideal.nD Cert.ReferenceInProjDx0Ideal.τ Cert.ReferenceInProjDx0Ideal.sig) → Buf (Elt Ideal) ℓ) (g' : Dev Cert.ReferenceInProjDx0Ideal.nD → PrngReg), Pre_KernelInProjDx0Ideal m →
    (∀ c : Dev Cert.KernelInProjDx0Ideal.nD,
      m' ((c.tc : Thread Cert.ReferenceInProjDx0Ideal.nD Cert.ReferenceInProjDx0Ideal.τ).loc Cert.ReferenceInProjDx0Ideal.main_arg0) = m ((c.tc : Thread Cert.KernelInProjDx0Ideal.nD Cert.KernelInProjDx0Ideal.τ).loc Cert.KernelInProjDx0Ideal.main_arg0)
      ∧ m' ((c.tc : Thread Cert.ReferenceInProjDx0Ideal.nD Cert.ReferenceInProjDx0Ideal.τ).loc Cert.ReferenceInProjDx0Ideal.main_arg1) = m ((c.tc : Thread Cert.KernelInProjDx0Ideal.nD Cert.KernelInProjDx0Ideal.τ).loc Cert.KernelInProjDx0Ideal.main_arg1)
      ∧ m' ((c.tc : Thread Cert.ReferenceInProjDx0Ideal.nD Cert.ReferenceInProjDx0Ideal.τ).loc Cert.ReferenceInProjDx0Ideal.main_arg2) = m ((c.tc : Thread Cert.KernelInProjDx0Ideal.nD Cert.KernelInProjDx0Ideal.τ).loc Cert.KernelInProjDx0Ideal.main_arg2)) →
    ∃ (v0 : (c : Dev Cert.KernelInProjDx0Ideal.nD) → Buf (Elt Ideal) ((c.tc : Thread Cert.KernelInProjDx0Ideal.nD Cert.KernelInProjDx0Ideal.τ).loc Cert.KernelInProjDx0Ideal.main_v0)),
      θ_run (Cert.KernelInProjDx0Ideal.defs (F := Ideal)) (onTc (τ := Cert.KernelInProjDx0Ideal.τ) (Cert.KernelInProjDx0Ideal.main (F := Ideal))) ⟨m, fun _ => 0, g⟩ (fun r => ∀ c : Dev Cert.KernelInProjDx0Ideal.nD,
          r.2.mem ((c.tc : Thread Cert.KernelInProjDx0Ideal.nD Cert.KernelInProjDx0Ideal.τ).loc Cert.KernelInProjDx0Ideal.main_v0) = v0 c
          ∧ r.2.mem ((c.tc : Thread Cert.KernelInProjDx0Ideal.nD Cert.KernelInProjDx0Ideal.τ).loc Cert.KernelInProjDx0Ideal.main_arg0) = m ((c.tc : Thread Cert.KernelInProjDx0Ideal.nD Cert.KernelInProjDx0Ideal.τ).loc Cert.KernelInProjDx0Ideal.main_arg0)
          ∧ r.2.mem ((c.tc : Thread Cert.KernelInProjDx0Ideal.nD Cert.KernelInProjDx0Ideal.τ).loc Cert.KernelInProjDx0Ideal.main_arg1) = m ((c.tc : Thread Cert.KernelInProjDx0Ideal.nD Cert.KernelInProjDx0Ideal.τ).loc Cert.KernelInProjDx0Ideal.main_arg1)
          ∧ r.2.mem ((c.tc : Thread Cert.KernelInProjDx0Ideal.nD Cert.KernelInProjDx0Ideal.τ).loc Cert.KernelInProjDx0Ideal.main_arg2) = m ((c.tc : Thread Cert.KernelInProjDx0Ideal.nD Cert.KernelInProjDx0Ideal.τ).loc Cert.KernelInProjDx0Ideal.main_arg2))
      ∧ θ_run (Cert.ReferenceInProjDx0Ideal.defs (F := Ideal)) (onTc (τ := Cert.ReferenceInProjDx0Ideal.τ) (Cert.ReferenceInProjDx0Ideal.main (F := Ideal))) ⟨m', fun _ => 0, g'⟩ (fun r => ∀ c : Dev Cert.ReferenceInProjDx0Ideal.nD,
          r.2.mem ((c.tc : Thread Cert.ReferenceInProjDx0Ideal.nD Cert.ReferenceInProjDx0Ideal.τ).loc Cert.ReferenceInProjDx0Ideal.main_v7) = v0 c
          ∧ r.2.mem ((c.tc : Thread Cert.ReferenceInProjDx0Ideal.nD Cert.ReferenceInProjDx0Ideal.τ).loc Cert.ReferenceInProjDx0Ideal.main_arg0) = m' ((c.tc : Thread Cert.ReferenceInProjDx0Ideal.nD Cert.ReferenceInProjDx0Ideal.τ).loc Cert.ReferenceInProjDx0Ideal.main_arg0)
          ∧ r.2.mem ((c.tc : Thread Cert.ReferenceInProjDx0Ideal.nD Cert.ReferenceInProjDx0Ideal.τ).loc Cert.ReferenceInProjDx0Ideal.main_arg1) = m' ((c.tc : Thread Cert.ReferenceInProjDx0Ideal.nD Cert.ReferenceInProjDx0Ideal.τ).loc Cert.ReferenceInProjDx0Ideal.main_arg1)
          ∧ r.2.mem ((c.tc : Thread Cert.ReferenceInProjDx0Ideal.nD Cert.ReferenceInProjDx0Ideal.τ).loc Cert.ReferenceInProjDx0Ideal.main_arg2) = m' ((c.tc : Thread Cert.ReferenceInProjDx0Ideal.nD Cert.ReferenceInProjDx0Ideal.τ).loc Cert.ReferenceInProjDx0Ideal.main_arg2))

def preserves_KernelInProjDx1_KernelInProjDx1Ideal : Prop :=
  True

def algebraic_KernelInProjDx1Ideal_ReferenceInProjDx1Ideal [hKernelInProjDx1Ideal : Cert.KernelInProjDx1Ideal.Facts] [hReferenceInProjDx1Ideal : Cert.ReferenceInProjDx1Ideal.Facts] : Prop :=
  ∀ (m : (ℓ : Loc Cert.KernelInProjDx1Ideal.nD Cert.KernelInProjDx1Ideal.τ Cert.KernelInProjDx1Ideal.sig) → Buf (Elt Ideal) ℓ) (g : Dev Cert.KernelInProjDx1Ideal.nD → PrngReg)
    (m' : (ℓ : Loc Cert.ReferenceInProjDx1Ideal.nD Cert.ReferenceInProjDx1Ideal.τ Cert.ReferenceInProjDx1Ideal.sig) → Buf (Elt Ideal) ℓ) (g' : Dev Cert.ReferenceInProjDx1Ideal.nD → PrngReg), Pre_KernelInProjDx1Ideal m →
    (∀ c : Dev Cert.KernelInProjDx1Ideal.nD,
      m' ((c.tc : Thread Cert.ReferenceInProjDx1Ideal.nD Cert.ReferenceInProjDx1Ideal.τ).loc Cert.ReferenceInProjDx1Ideal.main_arg0) = m ((c.tc : Thread Cert.KernelInProjDx1Ideal.nD Cert.KernelInProjDx1Ideal.τ).loc Cert.KernelInProjDx1Ideal.main_arg0)
      ∧ m' ((c.tc : Thread Cert.ReferenceInProjDx1Ideal.nD Cert.ReferenceInProjDx1Ideal.τ).loc Cert.ReferenceInProjDx1Ideal.main_arg1) = m ((c.tc : Thread Cert.KernelInProjDx1Ideal.nD Cert.KernelInProjDx1Ideal.τ).loc Cert.KernelInProjDx1Ideal.main_arg1)
      ∧ m' ((c.tc : Thread Cert.ReferenceInProjDx1Ideal.nD Cert.ReferenceInProjDx1Ideal.τ).loc Cert.ReferenceInProjDx1Ideal.main_arg2) = m ((c.tc : Thread Cert.KernelInProjDx1Ideal.nD Cert.KernelInProjDx1Ideal.τ).loc Cert.KernelInProjDx1Ideal.main_arg2)) →
    ∃ (v0 : (c : Dev Cert.KernelInProjDx1Ideal.nD) → Buf (Elt Ideal) ((c.tc : Thread Cert.KernelInProjDx1Ideal.nD Cert.KernelInProjDx1Ideal.τ).loc Cert.KernelInProjDx1Ideal.main_v0)),
      θ_run (Cert.KernelInProjDx1Ideal.defs (F := Ideal)) (onTc (τ := Cert.KernelInProjDx1Ideal.τ) (Cert.KernelInProjDx1Ideal.main (F := Ideal))) ⟨m, fun _ => 0, g⟩ (fun r => ∀ c : Dev Cert.KernelInProjDx1Ideal.nD,
          r.2.mem ((c.tc : Thread Cert.KernelInProjDx1Ideal.nD Cert.KernelInProjDx1Ideal.τ).loc Cert.KernelInProjDx1Ideal.main_v0) = v0 c
          ∧ r.2.mem ((c.tc : Thread Cert.KernelInProjDx1Ideal.nD Cert.KernelInProjDx1Ideal.τ).loc Cert.KernelInProjDx1Ideal.main_arg0) = m ((c.tc : Thread Cert.KernelInProjDx1Ideal.nD Cert.KernelInProjDx1Ideal.τ).loc Cert.KernelInProjDx1Ideal.main_arg0)
          ∧ r.2.mem ((c.tc : Thread Cert.KernelInProjDx1Ideal.nD Cert.KernelInProjDx1Ideal.τ).loc Cert.KernelInProjDx1Ideal.main_arg1) = m ((c.tc : Thread Cert.KernelInProjDx1Ideal.nD Cert.KernelInProjDx1Ideal.τ).loc Cert.KernelInProjDx1Ideal.main_arg1)
          ∧ r.2.mem ((c.tc : Thread Cert.KernelInProjDx1Ideal.nD Cert.KernelInProjDx1Ideal.τ).loc Cert.KernelInProjDx1Ideal.main_arg2) = m ((c.tc : Thread Cert.KernelInProjDx1Ideal.nD Cert.KernelInProjDx1Ideal.τ).loc Cert.KernelInProjDx1Ideal.main_arg2))
      ∧ θ_run (Cert.ReferenceInProjDx1Ideal.defs (F := Ideal)) (onTc (τ := Cert.ReferenceInProjDx1Ideal.τ) (Cert.ReferenceInProjDx1Ideal.main (F := Ideal))) ⟨m', fun _ => 0, g'⟩ (fun r => ∀ c : Dev Cert.ReferenceInProjDx1Ideal.nD,
          r.2.mem ((c.tc : Thread Cert.ReferenceInProjDx1Ideal.nD Cert.ReferenceInProjDx1Ideal.τ).loc Cert.ReferenceInProjDx1Ideal.main_v7) = v0 c
          ∧ r.2.mem ((c.tc : Thread Cert.ReferenceInProjDx1Ideal.nD Cert.ReferenceInProjDx1Ideal.τ).loc Cert.ReferenceInProjDx1Ideal.main_arg0) = m' ((c.tc : Thread Cert.ReferenceInProjDx1Ideal.nD Cert.ReferenceInProjDx1Ideal.τ).loc Cert.ReferenceInProjDx1Ideal.main_arg0)
          ∧ r.2.mem ((c.tc : Thread Cert.ReferenceInProjDx1Ideal.nD Cert.ReferenceInProjDx1Ideal.τ).loc Cert.ReferenceInProjDx1Ideal.main_arg1) = m' ((c.tc : Thread Cert.ReferenceInProjDx1Ideal.nD Cert.ReferenceInProjDx1Ideal.τ).loc Cert.ReferenceInProjDx1Ideal.main_arg1)
          ∧ r.2.mem ((c.tc : Thread Cert.ReferenceInProjDx1Ideal.nD Cert.ReferenceInProjDx1Ideal.τ).loc Cert.ReferenceInProjDx1Ideal.main_arg2) = m' ((c.tc : Thread Cert.ReferenceInProjDx1Ideal.nD Cert.ReferenceInProjDx1Ideal.τ).loc Cert.ReferenceInProjDx1Ideal.main_arg2))

def preserves_KernelSbOutProj0_KernelSbOutProj0Ideal : Prop :=
  True

def algebraic_KernelSbOutProj0Ideal_ReferenceSbOutProj0Ideal [hKernelSbOutProj0Ideal : Cert.KernelSbOutProj0Ideal.Facts] [hReferenceSbOutProj0Ideal : Cert.ReferenceSbOutProj0Ideal.Facts] : Prop :=
  ∀ (m : (ℓ : Loc Cert.KernelSbOutProj0Ideal.nD Cert.KernelSbOutProj0Ideal.τ Cert.KernelSbOutProj0Ideal.sig) → Buf (Elt Ideal) ℓ) (g : Dev Cert.KernelSbOutProj0Ideal.nD → PrngReg)
    (m' : (ℓ : Loc Cert.ReferenceSbOutProj0Ideal.nD Cert.ReferenceSbOutProj0Ideal.τ Cert.ReferenceSbOutProj0Ideal.sig) → Buf (Elt Ideal) ℓ) (g' : Dev Cert.ReferenceSbOutProj0Ideal.nD → PrngReg), Pre_KernelSbOutProj0Ideal m →
    (∀ c : Dev Cert.KernelSbOutProj0Ideal.nD,
      m' ((c.tc : Thread Cert.ReferenceSbOutProj0Ideal.nD Cert.ReferenceSbOutProj0Ideal.τ).loc Cert.ReferenceSbOutProj0Ideal.main_arg0) = m ((c.tc : Thread Cert.KernelSbOutProj0Ideal.nD Cert.KernelSbOutProj0Ideal.τ).loc Cert.KernelSbOutProj0Ideal.main_arg0)
      ∧ m' ((c.tc : Thread Cert.ReferenceSbOutProj0Ideal.nD Cert.ReferenceSbOutProj0Ideal.τ).loc Cert.ReferenceSbOutProj0Ideal.main_arg1) = m ((c.tc : Thread Cert.KernelSbOutProj0Ideal.nD Cert.KernelSbOutProj0Ideal.τ).loc Cert.KernelSbOutProj0Ideal.main_arg1)) →
    ∃ (v0 : (c : Dev Cert.KernelSbOutProj0Ideal.nD) → Buf (Elt Ideal) ((c.tc : Thread Cert.KernelSbOutProj0Ideal.nD Cert.KernelSbOutProj0Ideal.τ).loc Cert.KernelSbOutProj0Ideal.main_v0)),
      θ_run (Cert.KernelSbOutProj0Ideal.defs (F := Ideal)) (onTc (τ := Cert.KernelSbOutProj0Ideal.τ) (Cert.KernelSbOutProj0Ideal.main (F := Ideal))) ⟨m, fun _ => 0, g⟩ (fun r => ∀ c : Dev Cert.KernelSbOutProj0Ideal.nD,
          r.2.mem ((c.tc : Thread Cert.KernelSbOutProj0Ideal.nD Cert.KernelSbOutProj0Ideal.τ).loc Cert.KernelSbOutProj0Ideal.main_v0) = v0 c
          ∧ r.2.mem ((c.tc : Thread Cert.KernelSbOutProj0Ideal.nD Cert.KernelSbOutProj0Ideal.τ).loc Cert.KernelSbOutProj0Ideal.main_arg0) = m ((c.tc : Thread Cert.KernelSbOutProj0Ideal.nD Cert.KernelSbOutProj0Ideal.τ).loc Cert.KernelSbOutProj0Ideal.main_arg0)
          ∧ r.2.mem ((c.tc : Thread Cert.KernelSbOutProj0Ideal.nD Cert.KernelSbOutProj0Ideal.τ).loc Cert.KernelSbOutProj0Ideal.main_arg1) = m ((c.tc : Thread Cert.KernelSbOutProj0Ideal.nD Cert.KernelSbOutProj0Ideal.τ).loc Cert.KernelSbOutProj0Ideal.main_arg1))
      ∧ θ_run (Cert.ReferenceSbOutProj0Ideal.defs (F := Ideal)) (onTc (τ := Cert.ReferenceSbOutProj0Ideal.τ) (Cert.ReferenceSbOutProj0Ideal.main (F := Ideal))) ⟨m', fun _ => 0, g'⟩ (fun r => ∀ c : Dev Cert.ReferenceSbOutProj0Ideal.nD,
          r.2.mem ((c.tc : Thread Cert.ReferenceSbOutProj0Ideal.nD Cert.ReferenceSbOutProj0Ideal.τ).loc Cert.ReferenceSbOutProj0Ideal.main_v5) = v0 c
          ∧ r.2.mem ((c.tc : Thread Cert.ReferenceSbOutProj0Ideal.nD Cert.ReferenceSbOutProj0Ideal.τ).loc Cert.ReferenceSbOutProj0Ideal.main_arg0) = m' ((c.tc : Thread Cert.ReferenceSbOutProj0Ideal.nD Cert.ReferenceSbOutProj0Ideal.τ).loc Cert.ReferenceSbOutProj0Ideal.main_arg0)
          ∧ r.2.mem ((c.tc : Thread Cert.ReferenceSbOutProj0Ideal.nD Cert.ReferenceSbOutProj0Ideal.τ).loc Cert.ReferenceSbOutProj0Ideal.main_arg1) = m' ((c.tc : Thread Cert.ReferenceSbOutProj0Ideal.nD Cert.ReferenceSbOutProj0Ideal.τ).loc Cert.ReferenceSbOutProj0Ideal.main_arg1))

def preserves_KernelSbOutProj1_KernelSbOutProj1Ideal : Prop :=
  True

def algebraic_KernelSbOutProj1Ideal_ReferenceSbOutProj1Ideal [hKernelSbOutProj1Ideal : Cert.KernelSbOutProj1Ideal.Facts] [hReferenceSbOutProj1Ideal : Cert.ReferenceSbOutProj1Ideal.Facts] : Prop :=
  ∀ (m : (ℓ : Loc Cert.KernelSbOutProj1Ideal.nD Cert.KernelSbOutProj1Ideal.τ Cert.KernelSbOutProj1Ideal.sig) → Buf (Elt Ideal) ℓ) (g : Dev Cert.KernelSbOutProj1Ideal.nD → PrngReg)
    (m' : (ℓ : Loc Cert.ReferenceSbOutProj1Ideal.nD Cert.ReferenceSbOutProj1Ideal.τ Cert.ReferenceSbOutProj1Ideal.sig) → Buf (Elt Ideal) ℓ) (g' : Dev Cert.ReferenceSbOutProj1Ideal.nD → PrngReg), Pre_KernelSbOutProj1Ideal m →
    (∀ c : Dev Cert.KernelSbOutProj1Ideal.nD,
      m' ((c.tc : Thread Cert.ReferenceSbOutProj1Ideal.nD Cert.ReferenceSbOutProj1Ideal.τ).loc Cert.ReferenceSbOutProj1Ideal.main_arg0) = m ((c.tc : Thread Cert.KernelSbOutProj1Ideal.nD Cert.KernelSbOutProj1Ideal.τ).loc Cert.KernelSbOutProj1Ideal.main_arg0)
      ∧ m' ((c.tc : Thread Cert.ReferenceSbOutProj1Ideal.nD Cert.ReferenceSbOutProj1Ideal.τ).loc Cert.ReferenceSbOutProj1Ideal.main_arg1) = m ((c.tc : Thread Cert.KernelSbOutProj1Ideal.nD Cert.KernelSbOutProj1Ideal.τ).loc Cert.KernelSbOutProj1Ideal.main_arg1)) →
    ∃ (v0 : (c : Dev Cert.KernelSbOutProj1Ideal.nD) → Buf (Elt Ideal) ((c.tc : Thread Cert.KernelSbOutProj1Ideal.nD Cert.KernelSbOutProj1Ideal.τ).loc Cert.KernelSbOutProj1Ideal.main_v0)),
      θ_run (Cert.KernelSbOutProj1Ideal.defs (F := Ideal)) (onTc (τ := Cert.KernelSbOutProj1Ideal.τ) (Cert.KernelSbOutProj1Ideal.main (F := Ideal))) ⟨m, fun _ => 0, g⟩ (fun r => ∀ c : Dev Cert.KernelSbOutProj1Ideal.nD,
          r.2.mem ((c.tc : Thread Cert.KernelSbOutProj1Ideal.nD Cert.KernelSbOutProj1Ideal.τ).loc Cert.KernelSbOutProj1Ideal.main_v0) = v0 c
          ∧ r.2.mem ((c.tc : Thread Cert.KernelSbOutProj1Ideal.nD Cert.KernelSbOutProj1Ideal.τ).loc Cert.KernelSbOutProj1Ideal.main_arg0) = m ((c.tc : Thread Cert.KernelSbOutProj1Ideal.nD Cert.KernelSbOutProj1Ideal.τ).loc Cert.KernelSbOutProj1Ideal.main_arg0)
          ∧ r.2.mem ((c.tc : Thread Cert.KernelSbOutProj1Ideal.nD Cert.KernelSbOutProj1Ideal.τ).loc Cert.KernelSbOutProj1Ideal.main_arg1) = m ((c.tc : Thread Cert.KernelSbOutProj1Ideal.nD Cert.KernelSbOutProj1Ideal.τ).loc Cert.KernelSbOutProj1Ideal.main_arg1))
      ∧ θ_run (Cert.ReferenceSbOutProj1Ideal.defs (F := Ideal)) (onTc (τ := Cert.ReferenceSbOutProj1Ideal.τ) (Cert.ReferenceSbOutProj1Ideal.main (F := Ideal))) ⟨m', fun _ => 0, g'⟩ (fun r => ∀ c : Dev Cert.ReferenceSbOutProj1Ideal.nD,
          r.2.mem ((c.tc : Thread Cert.ReferenceSbOutProj1Ideal.nD Cert.ReferenceSbOutProj1Ideal.τ).loc Cert.ReferenceSbOutProj1Ideal.main_v5) = v0 c
          ∧ r.2.mem ((c.tc : Thread Cert.ReferenceSbOutProj1Ideal.nD Cert.ReferenceSbOutProj1Ideal.τ).loc Cert.ReferenceSbOutProj1Ideal.main_arg0) = m' ((c.tc : Thread Cert.ReferenceSbOutProj1Ideal.nD Cert.ReferenceSbOutProj1Ideal.τ).loc Cert.ReferenceSbOutProj1Ideal.main_arg0)
          ∧ r.2.mem ((c.tc : Thread Cert.ReferenceSbOutProj1Ideal.nD Cert.ReferenceSbOutProj1Ideal.τ).loc Cert.ReferenceSbOutProj1Ideal.main_arg1) = m' ((c.tc : Thread Cert.ReferenceSbOutProj1Ideal.nD Cert.ReferenceSbOutProj1Ideal.τ).loc Cert.ReferenceSbOutProj1Ideal.main_arg1))

def Claim : Prop :=
  ∃ (hKernel : Cert.Kernel.Facts) (hKernelIdeal : Cert.KernelIdeal.Facts) (hReferenceIdeal : Cert.ReferenceIdeal.Facts) (hKernelFfnInDw : Cert.KernelFfnInDw.Facts) (hKernelFfnInDwIdeal : Cert.KernelFfnInDwIdeal.Facts) (hReferenceFfnInDwIdeal : Cert.ReferenceFfnInDwIdeal.Facts) (hKernelFfnOutDw : Cert.KernelFfnOutDw.Facts) (hKernelFfnOutDwIdeal : Cert.KernelFfnOutDwIdeal.Facts) (hReferenceFfnOutDwIdeal : Cert.ReferenceFfnOutDwIdeal.Facts) (hKernelMemODw : Cert.KernelMemODw.Facts) (hKernelMemODwIdeal : Cert.KernelMemODwIdeal.Facts) (hReferenceMemODwIdeal : Cert.ReferenceMemODwIdeal.Facts) (hKernelMemQDw : Cert.KernelMemQDw.Facts) (hKernelMemQDwIdeal : Cert.KernelMemQDwIdeal.Facts) (hReferenceMemQDwIdeal : Cert.ReferenceMemQDwIdeal.Facts) (hKernelMemKvDw : Cert.KernelMemKvDw.Facts) (hKernelMemKvDwIdeal : Cert.KernelMemKvDwIdeal.Facts) (hReferenceMemKvDwIdeal : Cert.ReferenceMemKvDwIdeal.Facts) (hKernelInProjDw : Cert.KernelInProjDw.Facts) (hKernelInProjDwIdeal : Cert.KernelInProjDwIdeal.Facts) (hReferenceInProjDwIdeal : Cert.ReferenceInProjDwIdeal.Facts) (hKernelQkvProjDw : Cert.KernelQkvProjDw.Facts) (hKernelQkvProjDwIdeal : Cert.KernelQkvProjDwIdeal.Facts) (hReferenceQkvProjDwIdeal : Cert.ReferenceQkvProjDwIdeal.Facts) (hKernelSbOutProjDw : Cert.KernelSbOutProjDw.Facts) (hKernelSbOutProjDwIdeal : Cert.KernelSbOutProjDwIdeal.Facts) (hReferenceSbOutProjDwIdeal : Cert.ReferenceSbOutProjDwIdeal.Facts) (hKernelFfnIn : Cert.KernelFfnIn.Facts) (hKernelFfnInIdeal : Cert.KernelFfnInIdeal.Facts) (hReferenceFfnInIdeal : Cert.ReferenceFfnInIdeal.Facts) (hKernelFfnOutDx : Cert.KernelFfnOutDx.Facts) (hKernelFfnOutDxIdeal : Cert.KernelFfnOutDxIdeal.Facts) (hReferenceFfnOutDxIdeal : Cert.ReferenceFfnOutDxIdeal.Facts) (hKernelQkvProj : Cert.KernelQkvProj.Facts) (hKernelQkvProjIdeal : Cert.KernelQkvProjIdeal.Facts) (hReferenceQkvProjIdeal : Cert.ReferenceQkvProjIdeal.Facts) (hKernelInProj : Cert.KernelInProj.Facts) (hKernelInProjIdeal : Cert.KernelInProjIdeal.Facts) (hReferenceInProjIdeal : Cert.ReferenceInProjIdeal.Facts) (hKernelMemQ : Cert.KernelMemQ.Facts) (hKernelMemQIdeal : Cert.KernelMemQIdeal.Facts) (hReferenceMemQIdeal : Cert.ReferenceMemQIdeal.Facts) (hKernelMemO : Cert.KernelMemO.Facts) (hKernelMemOIdeal : Cert.KernelMemOIdeal.Facts) (hReferenceMemOIdeal : Cert.ReferenceMemOIdeal.Facts) (hKernelMemQDx : Cert.KernelMemQDx.Facts) (hKernelMemQDxIdeal : Cert.KernelMemQDxIdeal.Facts) (hReferenceMemQDxIdeal : Cert.ReferenceMemQDxIdeal.Facts) (hKernelMemODx : Cert.KernelMemODx.Facts) (hKernelMemODxIdeal : Cert.KernelMemODxIdeal.Facts) (hReferenceMemODxIdeal : Cert.ReferenceMemODxIdeal.Facts) (hKernelOutProj : Cert.KernelOutProj.Facts) (hKernelOutProjIdeal : Cert.KernelOutProjIdeal.Facts) (hReferenceOutProjIdeal : Cert.ReferenceOutProjIdeal.Facts) (hKernelOutProjDx : Cert.KernelOutProjDx.Facts) (hKernelOutProjDxIdeal : Cert.KernelOutProjDxIdeal.Facts) (hReferenceOutProjDxIdeal : Cert.ReferenceOutProjDxIdeal.Facts) (hKernelSbOutProjDx : Cert.KernelSbOutProjDx.Facts) (hKernelSbOutProjDxIdeal : Cert.KernelSbOutProjDxIdeal.Facts) (hReferenceSbOutProjDxIdeal : Cert.ReferenceSbOutProjDxIdeal.Facts) (hKernelMemKv : Cert.KernelMemKv.Facts) (hKernelMemKvIdeal : Cert.KernelMemKvIdeal.Facts) (hReferenceMemKvIdeal : Cert.ReferenceMemKvIdeal.Facts) (hKernelSwigluFwd : Cert.KernelSwigluFwd.Facts) (hKernelSwigluFwdIdeal : Cert.KernelSwigluFwdIdeal.Facts) (hReferenceSwigluFwdIdeal : Cert.ReferenceSwigluFwdIdeal.Facts) (hKernelSwigluBwd : Cert.KernelSwigluBwd.Facts) (hKernelSwigluBwdIdeal : Cert.KernelSwigluBwdIdeal.Facts) (hReferenceSwigluBwdIdeal : Cert.ReferenceSwigluBwdIdeal.Facts) (hKernelLnFwd : Cert.KernelLnFwd.Facts) (hKernelLnFwdIdeal : Cert.KernelLnFwdIdeal.Facts) (hReferenceLnFwdIdeal : Cert.ReferenceLnFwdIdeal.Facts) (hKernelXattnFwd : Cert.KernelXattnFwd.Facts) (hKernelXattnFwdIdeal : Cert.KernelXattnFwdIdeal.Facts) (hReferenceXattnFwdIdeal : Cert.ReferenceXattnFwdIdeal.Facts) (hKernelFfnInDx0 : Cert.KernelFfnInDx0.Facts) (hKernelFfnInDx0Ideal : Cert.KernelFfnInDx0Ideal.Facts) (hReferenceFfnInDx0Ideal : Cert.ReferenceFfnInDx0Ideal.Facts) (hKernelFfnInDx1 : Cert.KernelFfnInDx1.Facts) (hKernelFfnInDx1Ideal : Cert.KernelFfnInDx1Ideal.Facts) (hReferenceFfnInDx1Ideal : Cert.ReferenceFfnInDx1Ideal.Facts) (hKernelFfnInDx2 : Cert.KernelFfnInDx2.Facts) (hKernelFfnInDx2Ideal : Cert.KernelFfnInDx2Ideal.Facts) (hReferenceFfnInDx2Ideal : Cert.ReferenceFfnInDx2Ideal.Facts) (hKernelFfnInDx3 : Cert.KernelFfnInDx3.Facts) (hKernelFfnInDx3Ideal : Cert.KernelFfnInDx3Ideal.Facts) (hReferenceFfnInDx3Ideal : Cert.ReferenceFfnInDx3Ideal.Facts) (hKernelFfnOut0 : Cert.KernelFfnOut0.Facts) (hKernelFfnOut0Ideal : Cert.KernelFfnOut0Ideal.Facts) (hReferenceFfnOut0Ideal : Cert.ReferenceFfnOut0Ideal.Facts) (hKernelFfnOut1 : Cert.KernelFfnOut1.Facts) (hKernelFfnOut1Ideal : Cert.KernelFfnOut1Ideal.Facts) (hReferenceFfnOut1Ideal : Cert.ReferenceFfnOut1Ideal.Facts) (hKernelFfnOut2 : Cert.KernelFfnOut2.Facts) (hKernelFfnOut2Ideal : Cert.KernelFfnOut2Ideal.Facts) (hReferenceFfnOut2Ideal : Cert.ReferenceFfnOut2Ideal.Facts) (hKernelFfnOut3 : Cert.KernelFfnOut3.Facts) (hKernelFfnOut3Ideal : Cert.KernelFfnOut3Ideal.Facts) (hReferenceFfnOut3Ideal : Cert.ReferenceFfnOut3Ideal.Facts) (hKernelQkvProjDx0 : Cert.KernelQkvProjDx0.Facts) (hKernelQkvProjDx0Ideal : Cert.KernelQkvProjDx0Ideal.Facts) (hReferenceQkvProjDx0Ideal : Cert.ReferenceQkvProjDx0Ideal.Facts) (hKernelQkvProjDx1 : Cert.KernelQkvProjDx1.Facts) (hKernelQkvProjDx1Ideal : Cert.KernelQkvProjDx1Ideal.Facts) (hReferenceQkvProjDx1Ideal : Cert.ReferenceQkvProjDx1Ideal.Facts) (hKernelInProjDx0 : Cert.KernelInProjDx0.Facts) (hKernelInProjDx0Ideal : Cert.KernelInProjDx0Ideal.Facts) (hReferenceInProjDx0Ideal : Cert.ReferenceInProjDx0Ideal.Facts) (hKernelInProjDx1 : Cert.KernelInProjDx1.Facts) (hKernelInProjDx1Ideal : Cert.KernelInProjDx1Ideal.Facts) (hReferenceInProjDx1Ideal : Cert.ReferenceInProjDx1Ideal.Facts) (hKernelSbOutProj0 : Cert.KernelSbOutProj0.Facts) (hKernelSbOutProj0Ideal : Cert.KernelSbOutProj0Ideal.Facts) (hReferenceSbOutProj0Ideal : Cert.ReferenceSbOutProj0Ideal.Facts) (hKernelSbOutProj1 : Cert.KernelSbOutProj1.Facts) (hKernelSbOutProj1Ideal : Cert.KernelSbOutProj1Ideal.Facts) (hReferenceSbOutProj1Ideal : Cert.ReferenceSbOutProj1Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfnInDw (hKernelFfnInDw := hKernelFfnInDw)
    ∧ quiescent_KernelFfnInDwIdeal (hKernelFfnInDwIdeal := hKernelFfnInDwIdeal)
    ∧ quiescent_ReferenceFfnInDwIdeal (hReferenceFfnInDwIdeal := hReferenceFfnInDwIdeal)
    ∧ quiescent_KernelFfnOutDw (hKernelFfnOutDw := hKernelFfnOutDw)
    ∧ quiescent_KernelFfnOutDwIdeal (hKernelFfnOutDwIdeal := hKernelFfnOutDwIdeal)
    ∧ quiescent_ReferenceFfnOutDwIdeal (hReferenceFfnOutDwIdeal := hReferenceFfnOutDwIdeal)
    ∧ quiescent_KernelMemODw (hKernelMemODw := hKernelMemODw)
    ∧ quiescent_KernelMemODwIdeal (hKernelMemODwIdeal := hKernelMemODwIdeal)
    ∧ quiescent_ReferenceMemODwIdeal (hReferenceMemODwIdeal := hReferenceMemODwIdeal)
    ∧ quiescent_KernelMemQDw (hKernelMemQDw := hKernelMemQDw)
    ∧ quiescent_KernelMemQDwIdeal (hKernelMemQDwIdeal := hKernelMemQDwIdeal)
    ∧ quiescent_ReferenceMemQDwIdeal (hReferenceMemQDwIdeal := hReferenceMemQDwIdeal)
    ∧ quiescent_KernelMemKvDw (hKernelMemKvDw := hKernelMemKvDw)
    ∧ quiescent_KernelMemKvDwIdeal (hKernelMemKvDwIdeal := hKernelMemKvDwIdeal)
    ∧ quiescent_ReferenceMemKvDwIdeal (hReferenceMemKvDwIdeal := hReferenceMemKvDwIdeal)
    ∧ quiescent_KernelInProjDw (hKernelInProjDw := hKernelInProjDw)
    ∧ quiescent_KernelInProjDwIdeal (hKernelInProjDwIdeal := hKernelInProjDwIdeal)
    ∧ quiescent_ReferenceInProjDwIdeal (hReferenceInProjDwIdeal := hReferenceInProjDwIdeal)
    ∧ quiescent_KernelQkvProjDw (hKernelQkvProjDw := hKernelQkvProjDw)
    ∧ quiescent_KernelQkvProjDwIdeal (hKernelQkvProjDwIdeal := hKernelQkvProjDwIdeal)
    ∧ quiescent_ReferenceQkvProjDwIdeal (hReferenceQkvProjDwIdeal := hReferenceQkvProjDwIdeal)
    ∧ quiescent_KernelSbOutProjDw (hKernelSbOutProjDw := hKernelSbOutProjDw)
    ∧ quiescent_KernelSbOutProjDwIdeal (hKernelSbOutProjDwIdeal := hKernelSbOutProjDwIdeal)
    ∧ quiescent_ReferenceSbOutProjDwIdeal (hReferenceSbOutProjDwIdeal := hReferenceSbOutProjDwIdeal)
    ∧ quiescent_KernelFfnIn (hKernelFfnIn := hKernelFfnIn)
    ∧ quiescent_KernelFfnInIdeal (hKernelFfnInIdeal := hKernelFfnInIdeal)
    ∧ quiescent_ReferenceFfnInIdeal (hReferenceFfnInIdeal := hReferenceFfnInIdeal)
    ∧ quiescent_KernelFfnOutDx (hKernelFfnOutDx := hKernelFfnOutDx)
    ∧ quiescent_KernelFfnOutDxIdeal (hKernelFfnOutDxIdeal := hKernelFfnOutDxIdeal)
    ∧ quiescent_ReferenceFfnOutDxIdeal (hReferenceFfnOutDxIdeal := hReferenceFfnOutDxIdeal)
    ∧ quiescent_KernelQkvProj (hKernelQkvProj := hKernelQkvProj)
    ∧ quiescent_KernelQkvProjIdeal (hKernelQkvProjIdeal := hKernelQkvProjIdeal)
    ∧ quiescent_ReferenceQkvProjIdeal (hReferenceQkvProjIdeal := hReferenceQkvProjIdeal)
    ∧ quiescent_KernelInProj (hKernelInProj := hKernelInProj)
    ∧ quiescent_KernelInProjIdeal (hKernelInProjIdeal := hKernelInProjIdeal)
    ∧ quiescent_ReferenceInProjIdeal (hReferenceInProjIdeal := hReferenceInProjIdeal)
    ∧ quiescent_KernelMemQ (hKernelMemQ := hKernelMemQ)
    ∧ quiescent_KernelMemQIdeal (hKernelMemQIdeal := hKernelMemQIdeal)
    ∧ quiescent_ReferenceMemQIdeal (hReferenceMemQIdeal := hReferenceMemQIdeal)
    ∧ quiescent_KernelMemO (hKernelMemO := hKernelMemO)
    ∧ quiescent_KernelMemOIdeal (hKernelMemOIdeal := hKernelMemOIdeal)
    ∧ quiescent_ReferenceMemOIdeal (hReferenceMemOIdeal := hReferenceMemOIdeal)
    ∧ quiescent_KernelMemQDx (hKernelMemQDx := hKernelMemQDx)
    ∧ quiescent_KernelMemQDxIdeal (hKernelMemQDxIdeal := hKernelMemQDxIdeal)
    ∧ quiescent_ReferenceMemQDxIdeal (hReferenceMemQDxIdeal := hReferenceMemQDxIdeal)
    ∧ quiescent_KernelMemODx (hKernelMemODx := hKernelMemODx)
    ∧ quiescent_KernelMemODxIdeal (hKernelMemODxIdeal := hKernelMemODxIdeal)
    ∧ quiescent_ReferenceMemODxIdeal (hReferenceMemODxIdeal := hReferenceMemODxIdeal)
    ∧ quiescent_KernelOutProj (hKernelOutProj := hKernelOutProj)
    ∧ quiescent_KernelOutProjIdeal (hKernelOutProjIdeal := hKernelOutProjIdeal)
    ∧ quiescent_ReferenceOutProjIdeal (hReferenceOutProjIdeal := hReferenceOutProjIdeal)
    ∧ quiescent_KernelOutProjDx (hKernelOutProjDx := hKernelOutProjDx)
    ∧ quiescent_KernelOutProjDxIdeal (hKernelOutProjDxIdeal := hKernelOutProjDxIdeal)
    ∧ quiescent_ReferenceOutProjDxIdeal (hReferenceOutProjDxIdeal := hReferenceOutProjDxIdeal)
    ∧ quiescent_KernelSbOutProjDx (hKernelSbOutProjDx := hKernelSbOutProjDx)
    ∧ quiescent_KernelSbOutProjDxIdeal (hKernelSbOutProjDxIdeal := hKernelSbOutProjDxIdeal)
    ∧ quiescent_ReferenceSbOutProjDxIdeal (hReferenceSbOutProjDxIdeal := hReferenceSbOutProjDxIdeal)
    ∧ quiescent_KernelMemKv (hKernelMemKv := hKernelMemKv)
    ∧ quiescent_KernelMemKvIdeal (hKernelMemKvIdeal := hKernelMemKvIdeal)
    ∧ quiescent_ReferenceMemKvIdeal (hReferenceMemKvIdeal := hReferenceMemKvIdeal)
    ∧ quiescent_KernelSwigluFwd (hKernelSwigluFwd := hKernelSwigluFwd)
    ∧ quiescent_KernelSwigluFwdIdeal (hKernelSwigluFwdIdeal := hKernelSwigluFwdIdeal)
    ∧ quiescent_ReferenceSwigluFwdIdeal (hReferenceSwigluFwdIdeal := hReferenceSwigluFwdIdeal)
    ∧ quiescent_KernelSwigluBwd (hKernelSwigluBwd := hKernelSwigluBwd)
    ∧ quiescent_KernelSwigluBwdIdeal (hKernelSwigluBwdIdeal := hKernelSwigluBwdIdeal)
    ∧ quiescent_ReferenceSwigluBwdIdeal (hReferenceSwigluBwdIdeal := hReferenceSwigluBwdIdeal)
    ∧ quiescent_KernelLnFwd (hKernelLnFwd := hKernelLnFwd)
    ∧ quiescent_KernelLnFwdIdeal (hKernelLnFwdIdeal := hKernelLnFwdIdeal)
    ∧ quiescent_ReferenceLnFwdIdeal (hReferenceLnFwdIdeal := hReferenceLnFwdIdeal)
    ∧ quiescent_KernelXattnFwd (hKernelXattnFwd := hKernelXattnFwd)
    ∧ quiescent_KernelXattnFwdIdeal (hKernelXattnFwdIdeal := hKernelXattnFwdIdeal)
    ∧ quiescent_ReferenceXattnFwdIdeal (hReferenceXattnFwdIdeal := hReferenceXattnFwdIdeal)
    ∧ quiescent_KernelFfnInDx0 (hKernelFfnInDx0 := hKernelFfnInDx0)
    ∧ quiescent_KernelFfnInDx0Ideal (hKernelFfnInDx0Ideal := hKernelFfnInDx0Ideal)
    ∧ quiescent_ReferenceFfnInDx0Ideal (hReferenceFfnInDx0Ideal := hReferenceFfnInDx0Ideal)
    ∧ quiescent_KernelFfnInDx1 (hKernelFfnInDx1 := hKernelFfnInDx1)
    ∧ quiescent_KernelFfnInDx1Ideal (hKernelFfnInDx1Ideal := hKernelFfnInDx1Ideal)
    ∧ quiescent_ReferenceFfnInDx1Ideal (hReferenceFfnInDx1Ideal := hReferenceFfnInDx1Ideal)
    ∧ quiescent_KernelFfnInDx2 (hKernelFfnInDx2 := hKernelFfnInDx2)
    ∧ quiescent_KernelFfnInDx2Ideal (hKernelFfnInDx2Ideal := hKernelFfnInDx2Ideal)
    ∧ quiescent_ReferenceFfnInDx2Ideal (hReferenceFfnInDx2Ideal := hReferenceFfnInDx2Ideal)
    ∧ quiescent_KernelFfnInDx3 (hKernelFfnInDx3 := hKernelFfnInDx3)
    ∧ quiescent_KernelFfnInDx3Ideal (hKernelFfnInDx3Ideal := hKernelFfnInDx3Ideal)
    ∧ quiescent_ReferenceFfnInDx3Ideal (hReferenceFfnInDx3Ideal := hReferenceFfnInDx3Ideal)
    ∧ quiescent_KernelFfnOut0 (hKernelFfnOut0 := hKernelFfnOut0)
    ∧ quiescent_KernelFfnOut0Ideal (hKernelFfnOut0Ideal := hKernelFfnOut0Ideal)
    ∧ quiescent_ReferenceFfnOut0Ideal (hReferenceFfnOut0Ideal := hReferenceFfnOut0Ideal)
    ∧ quiescent_KernelFfnOut1 (hKernelFfnOut1 := hKernelFfnOut1)
    ∧ quiescent_KernelFfnOut1Ideal (hKernelFfnOut1Ideal := hKernelFfnOut1Ideal)
    ∧ quiescent_ReferenceFfnOut1Ideal (hReferenceFfnOut1Ideal := hReferenceFfnOut1Ideal)
    ∧ quiescent_KernelFfnOut2 (hKernelFfnOut2 := hKernelFfnOut2)
    ∧ quiescent_KernelFfnOut2Ideal (hKernelFfnOut2Ideal := hKernelFfnOut2Ideal)
    ∧ quiescent_ReferenceFfnOut2Ideal (hReferenceFfnOut2Ideal := hReferenceFfnOut2Ideal)
    ∧ quiescent_KernelFfnOut3 (hKernelFfnOut3 := hKernelFfnOut3)
    ∧ quiescent_KernelFfnOut3Ideal (hKernelFfnOut3Ideal := hKernelFfnOut3Ideal)
    ∧ quiescent_ReferenceFfnOut3Ideal (hReferenceFfnOut3Ideal := hReferenceFfnOut3Ideal)
    ∧ quiescent_KernelQkvProjDx0 (hKernelQkvProjDx0 := hKernelQkvProjDx0)
    ∧ quiescent_KernelQkvProjDx0Ideal (hKernelQkvProjDx0Ideal := hKernelQkvProjDx0Ideal)
    ∧ quiescent_ReferenceQkvProjDx0Ideal (hReferenceQkvProjDx0Ideal := hReferenceQkvProjDx0Ideal)
    ∧ quiescent_KernelQkvProjDx1 (hKernelQkvProjDx1 := hKernelQkvProjDx1)
    ∧ quiescent_KernelQkvProjDx1Ideal (hKernelQkvProjDx1Ideal := hKernelQkvProjDx1Ideal)
    ∧ quiescent_ReferenceQkvProjDx1Ideal (hReferenceQkvProjDx1Ideal := hReferenceQkvProjDx1Ideal)
    ∧ quiescent_KernelInProjDx0 (hKernelInProjDx0 := hKernelInProjDx0)
    ∧ quiescent_KernelInProjDx0Ideal (hKernelInProjDx0Ideal := hKernelInProjDx0Ideal)
    ∧ quiescent_ReferenceInProjDx0Ideal (hReferenceInProjDx0Ideal := hReferenceInProjDx0Ideal)
    ∧ quiescent_KernelInProjDx1 (hKernelInProjDx1 := hKernelInProjDx1)
    ∧ quiescent_KernelInProjDx1Ideal (hKernelInProjDx1Ideal := hKernelInProjDx1Ideal)
    ∧ quiescent_ReferenceInProjDx1Ideal (hReferenceInProjDx1Ideal := hReferenceInProjDx1Ideal)
    ∧ quiescent_KernelSbOutProj0 (hKernelSbOutProj0 := hKernelSbOutProj0)
    ∧ quiescent_KernelSbOutProj0Ideal (hKernelSbOutProj0Ideal := hKernelSbOutProj0Ideal)
    ∧ quiescent_ReferenceSbOutProj0Ideal (hReferenceSbOutProj0Ideal := hReferenceSbOutProj0Ideal)
    ∧ quiescent_KernelSbOutProj1 (hKernelSbOutProj1 := hKernelSbOutProj1)
    ∧ quiescent_KernelSbOutProj1Ideal (hKernelSbOutProj1Ideal := hKernelSbOutProj1Ideal)
    ∧ quiescent_ReferenceSbOutProj1Ideal (hReferenceSbOutProj1Ideal := hReferenceSbOutProj1Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfnInDw_KernelFfnInDwIdeal
    ∧ algebraic_KernelFfnInDwIdeal_ReferenceFfnInDwIdeal (hKernelFfnInDwIdeal := hKernelFfnInDwIdeal) (hReferenceFfnInDwIdeal := hReferenceFfnInDwIdeal)
    ∧ preserves_KernelFfnOutDw_KernelFfnOutDwIdeal
    ∧ algebraic_KernelFfnOutDwIdeal_ReferenceFfnOutDwIdeal (hKernelFfnOutDwIdeal := hKernelFfnOutDwIdeal) (hReferenceFfnOutDwIdeal := hReferenceFfnOutDwIdeal)
    ∧ preserves_KernelMemODw_KernelMemODwIdeal
    ∧ algebraic_KernelMemODwIdeal_ReferenceMemODwIdeal (hKernelMemODwIdeal := hKernelMemODwIdeal) (hReferenceMemODwIdeal := hReferenceMemODwIdeal)
    ∧ preserves_KernelMemQDw_KernelMemQDwIdeal
    ∧ algebraic_KernelMemQDwIdeal_ReferenceMemQDwIdeal (hKernelMemQDwIdeal := hKernelMemQDwIdeal) (hReferenceMemQDwIdeal := hReferenceMemQDwIdeal)
    ∧ preserves_KernelMemKvDw_KernelMemKvDwIdeal
    ∧ algebraic_KernelMemKvDwIdeal_ReferenceMemKvDwIdeal (hKernelMemKvDwIdeal := hKernelMemKvDwIdeal) (hReferenceMemKvDwIdeal := hReferenceMemKvDwIdeal)
    ∧ preserves_KernelInProjDw_KernelInProjDwIdeal
    ∧ algebraic_KernelInProjDwIdeal_ReferenceInProjDwIdeal (hKernelInProjDwIdeal := hKernelInProjDwIdeal) (hReferenceInProjDwIdeal := hReferenceInProjDwIdeal)
    ∧ preserves_KernelQkvProjDw_KernelQkvProjDwIdeal
    ∧ algebraic_KernelQkvProjDwIdeal_ReferenceQkvProjDwIdeal (hKernelQkvProjDwIdeal := hKernelQkvProjDwIdeal) (hReferenceQkvProjDwIdeal := hReferenceQkvProjDwIdeal)
    ∧ preserves_KernelSbOutProjDw_KernelSbOutProjDwIdeal
    ∧ algebraic_KernelSbOutProjDwIdeal_ReferenceSbOutProjDwIdeal (hKernelSbOutProjDwIdeal := hKernelSbOutProjDwIdeal) (hReferenceSbOutProjDwIdeal := hReferenceSbOutProjDwIdeal)
    ∧ preserves_KernelFfnIn_KernelFfnInIdeal
    ∧ algebraic_KernelFfnInIdeal_ReferenceFfnInIdeal (hKernelFfnInIdeal := hKernelFfnInIdeal) (hReferenceFfnInIdeal := hReferenceFfnInIdeal)
    ∧ preserves_KernelFfnOutDx_KernelFfnOutDxIdeal
    ∧ algebraic_KernelFfnOutDxIdeal_ReferenceFfnOutDxIdeal (hKernelFfnOutDxIdeal := hKernelFfnOutDxIdeal) (hReferenceFfnOutDxIdeal := hReferenceFfnOutDxIdeal)
    ∧ preserves_KernelQkvProj_KernelQkvProjIdeal
    ∧ algebraic_KernelQkvProjIdeal_ReferenceQkvProjIdeal (hKernelQkvProjIdeal := hKernelQkvProjIdeal) (hReferenceQkvProjIdeal := hReferenceQkvProjIdeal)
    ∧ preserves_KernelInProj_KernelInProjIdeal
    ∧ algebraic_KernelInProjIdeal_ReferenceInProjIdeal (hKernelInProjIdeal := hKernelInProjIdeal) (hReferenceInProjIdeal := hReferenceInProjIdeal)
    ∧ preserves_KernelMemQ_KernelMemQIdeal
    ∧ algebraic_KernelMemQIdeal_ReferenceMemQIdeal (hKernelMemQIdeal := hKernelMemQIdeal) (hReferenceMemQIdeal := hReferenceMemQIdeal)
    ∧ preserves_KernelMemO_KernelMemOIdeal
    ∧ algebraic_KernelMemOIdeal_ReferenceMemOIdeal (hKernelMemOIdeal := hKernelMemOIdeal) (hReferenceMemOIdeal := hReferenceMemOIdeal)
    ∧ preserves_KernelMemQDx_KernelMemQDxIdeal
    ∧ algebraic_KernelMemQDxIdeal_ReferenceMemQDxIdeal (hKernelMemQDxIdeal := hKernelMemQDxIdeal) (hReferenceMemQDxIdeal := hReferenceMemQDxIdeal)
    ∧ preserves_KernelMemODx_KernelMemODxIdeal
    ∧ algebraic_KernelMemODxIdeal_ReferenceMemODxIdeal (hKernelMemODxIdeal := hKernelMemODxIdeal) (hReferenceMemODxIdeal := hReferenceMemODxIdeal)
    ∧ preserves_KernelOutProj_KernelOutProjIdeal
    ∧ algebraic_KernelOutProjIdeal_ReferenceOutProjIdeal (hKernelOutProjIdeal := hKernelOutProjIdeal) (hReferenceOutProjIdeal := hReferenceOutProjIdeal)
    ∧ preserves_KernelOutProjDx_KernelOutProjDxIdeal
    ∧ algebraic_KernelOutProjDxIdeal_ReferenceOutProjDxIdeal (hKernelOutProjDxIdeal := hKernelOutProjDxIdeal) (hReferenceOutProjDxIdeal := hReferenceOutProjDxIdeal)
    ∧ preserves_KernelSbOutProjDx_KernelSbOutProjDxIdeal
    ∧ algebraic_KernelSbOutProjDxIdeal_ReferenceSbOutProjDxIdeal (hKernelSbOutProjDxIdeal := hKernelSbOutProjDxIdeal) (hReferenceSbOutProjDxIdeal := hReferenceSbOutProjDxIdeal)
    ∧ preserves_KernelMemKv_KernelMemKvIdeal
    ∧ algebraic_KernelMemKvIdeal_ReferenceMemKvIdeal (hKernelMemKvIdeal := hKernelMemKvIdeal) (hReferenceMemKvIdeal := hReferenceMemKvIdeal)
    ∧ preserves_KernelSwigluFwd_KernelSwigluFwdIdeal
    ∧ algebraic_KernelSwigluFwdIdeal_ReferenceSwigluFwdIdeal (hKernelSwigluFwdIdeal := hKernelSwigluFwdIdeal) (hReferenceSwigluFwdIdeal := hReferenceSwigluFwdIdeal)
    ∧ preserves_KernelSwigluBwd_KernelSwigluBwdIdeal
    ∧ algebraic_KernelSwigluBwdIdeal_ReferenceSwigluBwdIdeal (hKernelSwigluBwdIdeal := hKernelSwigluBwdIdeal) (hReferenceSwigluBwdIdeal := hReferenceSwigluBwdIdeal)
    ∧ preserves_KernelLnFwd_KernelLnFwdIdeal
    ∧ algebraic_KernelLnFwdIdeal_ReferenceLnFwdIdeal (hKernelLnFwdIdeal := hKernelLnFwdIdeal) (hReferenceLnFwdIdeal := hReferenceLnFwdIdeal)
    ∧ preserves_KernelXattnFwd_KernelXattnFwdIdeal
    ∧ algebraic_KernelXattnFwdIdeal_ReferenceXattnFwdIdeal (hKernelXattnFwdIdeal := hKernelXattnFwdIdeal) (hReferenceXattnFwdIdeal := hReferenceXattnFwdIdeal)
    ∧ preserves_KernelFfnInDx0_KernelFfnInDx0Ideal
    ∧ algebraic_KernelFfnInDx0Ideal_ReferenceFfnInDx0Ideal (hKernelFfnInDx0Ideal := hKernelFfnInDx0Ideal) (hReferenceFfnInDx0Ideal := hReferenceFfnInDx0Ideal)
    ∧ preserves_KernelFfnInDx1_KernelFfnInDx1Ideal
    ∧ algebraic_KernelFfnInDx1Ideal_ReferenceFfnInDx1Ideal (hKernelFfnInDx1Ideal := hKernelFfnInDx1Ideal) (hReferenceFfnInDx1Ideal := hReferenceFfnInDx1Ideal)
    ∧ preserves_KernelFfnInDx2_KernelFfnInDx2Ideal
    ∧ algebraic_KernelFfnInDx2Ideal_ReferenceFfnInDx2Ideal (hKernelFfnInDx2Ideal := hKernelFfnInDx2Ideal) (hReferenceFfnInDx2Ideal := hReferenceFfnInDx2Ideal)
    ∧ preserves_KernelFfnInDx3_KernelFfnInDx3Ideal
    ∧ algebraic_KernelFfnInDx3Ideal_ReferenceFfnInDx3Ideal (hKernelFfnInDx3Ideal := hKernelFfnInDx3Ideal) (hReferenceFfnInDx3Ideal := hReferenceFfnInDx3Ideal)
    ∧ preserves_KernelFfnOut0_KernelFfnOut0Ideal
    ∧ algebraic_KernelFfnOut0Ideal_ReferenceFfnOut0Ideal (hKernelFfnOut0Ideal := hKernelFfnOut0Ideal) (hReferenceFfnOut0Ideal := hReferenceFfnOut0Ideal)
    ∧ preserves_KernelFfnOut1_KernelFfnOut1Ideal
    ∧ algebraic_KernelFfnOut1Ideal_ReferenceFfnOut1Ideal (hKernelFfnOut1Ideal := hKernelFfnOut1Ideal) (hReferenceFfnOut1Ideal := hReferenceFfnOut1Ideal)
    ∧ preserves_KernelFfnOut2_KernelFfnOut2Ideal
    ∧ algebraic_KernelFfnOut2Ideal_ReferenceFfnOut2Ideal (hKernelFfnOut2Ideal := hKernelFfnOut2Ideal) (hReferenceFfnOut2Ideal := hReferenceFfnOut2Ideal)
    ∧ preserves_KernelFfnOut3_KernelFfnOut3Ideal
    ∧ algebraic_KernelFfnOut3Ideal_ReferenceFfnOut3Ideal (hKernelFfnOut3Ideal := hKernelFfnOut3Ideal) (hReferenceFfnOut3Ideal := hReferenceFfnOut3Ideal)
    ∧ preserves_KernelQkvProjDx0_KernelQkvProjDx0Ideal
    ∧ algebraic_KernelQkvProjDx0Ideal_ReferenceQkvProjDx0Ideal (hKernelQkvProjDx0Ideal := hKernelQkvProjDx0Ideal) (hReferenceQkvProjDx0Ideal := hReferenceQkvProjDx0Ideal)
    ∧ preserves_KernelQkvProjDx1_KernelQkvProjDx1Ideal
    ∧ algebraic_KernelQkvProjDx1Ideal_ReferenceQkvProjDx1Ideal (hKernelQkvProjDx1Ideal := hKernelQkvProjDx1Ideal) (hReferenceQkvProjDx1Ideal := hReferenceQkvProjDx1Ideal)
    ∧ preserves_KernelInProjDx0_KernelInProjDx0Ideal
    ∧ algebraic_KernelInProjDx0Ideal_ReferenceInProjDx0Ideal (hKernelInProjDx0Ideal := hKernelInProjDx0Ideal) (hReferenceInProjDx0Ideal := hReferenceInProjDx0Ideal)
    ∧ preserves_KernelInProjDx1_KernelInProjDx1Ideal
    ∧ algebraic_KernelInProjDx1Ideal_ReferenceInProjDx1Ideal (hKernelInProjDx1Ideal := hKernelInProjDx1Ideal) (hReferenceInProjDx1Ideal := hReferenceInProjDx1Ideal)
    ∧ preserves_KernelSbOutProj0_KernelSbOutProj0Ideal
    ∧ algebraic_KernelSbOutProj0Ideal_ReferenceSbOutProj0Ideal (hKernelSbOutProj0Ideal := hKernelSbOutProj0Ideal) (hReferenceSbOutProj0Ideal := hReferenceSbOutProj0Ideal)
    ∧ preserves_KernelSbOutProj1_KernelSbOutProj1Ideal
    ∧ algebraic_KernelSbOutProj1Ideal_ReferenceSbOutProj1Ideal (hKernelSbOutProj1Ideal := hKernelSbOutProj1Ideal) (hReferenceSbOutProj1Ideal := hReferenceSbOutProj1Ideal)
-- ==== Pre_finite.lean ====
abbrev S8192x2048 : Shape := ⟨2, ![8192, 2048]⟩
abbrev S512 : Shape := ⟨1, ![512]⟩
abbrev S4x128x128 : Shape := ⟨3, ![4, 128, 128]⟩
abbrev S4x128 : Shape := ⟨2, ![4, 128]⟩
abbrev S8192x1024 : Shape := ⟨2, ![8192, 1024]⟩
abbrev S_ : Shape := ⟨0, ![]⟩
abbrev S8192x512 : Shape := ⟨2, ![8192, 512]⟩

class Facts : Prop where
  slices_S8192x2048_S8192x1024_0_0 : S8192x2048.Slices ![0, 0] S8192x1024
  bcast_S_S8192x1024 : S_.BroadcastsInDim S8192x1024 (![] : Fin 0 → Fin S8192x1024.rank)
  bcast_S_S512 : S_.BroadcastsInDim S512 (![] : Fin 0 → Fin S512.rank)
  bcast_S_S4x128x128 : S_.BroadcastsInDim S4x128x128 (![] : Fin 0 → Fin S4x128x128.rank)
  slices_S8192x1024_S8192x512_0_0 : S8192x1024.Slices ![0, 0] S8192x512
  bcast_S_S8192x512 : S_.BroadcastsInDim S8192x512 (![] : Fin 0 → Fin S8192x512.rank)

variable [Facts]

def fn {F : FTy → Type} [FloatOps F] (main_arg0 : FVec F S8192x2048 .f32) (main_arg1 : FVec F S512 .f32) (main_arg2 : FVec F S512 .f32) (main_arg3 : FVec F S4x128x128 .f32) (main_arg4 : FVec F S4x128 .f32) (main_arg5 : FVec F S8192x1024 .f32) : IVec S8192x1024 1 × IVec S512 1 × IVec S4x128x128 1 × IVec S8192x512 1 :=
  let main_v0 : FVec F S8192x1024 .f32 := (extractStridedSlice S8192x1024 ![0, 0] · slices_S8192x2048_S8192x1024_0_0) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_v7 : FVec F S4x128x128 .f32 := Host.absf main_arg3
  let main_cst_1 : FVec F S_ .f32 := constant S_ .f32 0x7F800000#32
  let main_v8 : FVec F S4x128x128 .f32 := broadcastInDim S4x128x128 ![] bcast_S_S4x128x128 main_cst_1
  let main_v9 : IVec S4x128x128 1 := cmpf .olt main_v7 main_v8
  let main_v10 : FVec F S8192x512 .f32 := (extractStridedSlice S8192x512 ![0, 0] · slices_S8192x1024_S8192x512_0_0) main_arg5
  let main_v11 : FVec F S8192x512 .f32 := Host.absf main_v10
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  (main_v3, main_v6, main_v9, main_v13)
-- ==== Kernel.lean ====
abbrev S8192x2048 : Shape := ⟨2, ![8192, 2048]⟩
abbrev S512 : Shape := ⟨1, ![512]⟩
abbrev S4x128x128 : Shape := ⟨3, ![4, 128, 128]⟩
abbrev S4x128 : Shape := ⟨2, ![4, 128]⟩
abbrev S8192x1024 : Shape := ⟨2, ![8192, 1024]⟩
abbrev S1x512 : Shape := ⟨2, ![1, 512]⟩
abbrev S4x128x1 : Shape := ⟨3, ![4, 128, 1]⟩
abbrev S8192x512 : Shape := ⟨2, ![8192, 512]⟩
abbrev S512x128 : Shape := ⟨2, ![512, 128]⟩
abbrev S1x128 : Shape := ⟨2, ![1, 128]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S512x1 : Shape := ⟨2, ![512, 1]⟩
abbrev S128 : Shape := ⟨1, ![128]⟩

abbrev nBuf : Space → Nat
  | .hbm => 15
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S8192x1024, .f32⟩
  | .hbm, ⟨6, _⟩ => ⟨S1x512, .f32⟩
  | .hbm, ⟨7, _⟩ => ⟨S1x512, .f32⟩
  | .hbm, ⟨8, _⟩ => ⟨S4x128x1, .f32⟩
  | .hbm, ⟨9, _⟩ => ⟨S8192x512, .bf16⟩
  | .hbm, ⟨10, _⟩ => ⟨S8192x512, .bf16⟩
  | .hbm, ⟨11, _⟩ => ⟨S1x512, .f32⟩
  | .hbm, ⟨12, _⟩ => ⟨S1x512, .f32⟩
  | .hbm, ⟨13, _⟩ => ⟨S4x128x128, .f32⟩
  | .hbm, ⟨14, _⟩ => ⟨S4x128x1, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128x128, .f32⟩
  | .local _ .vmem, ⟨23, _⟩ => ⟨S1x128x128, .f32⟩
  | .local _ .vmem, ⟨24, _⟩ => ⟨S1x128x1, .f32⟩
  | .local _ .vmem, ⟨25, _⟩ => ⟨S1x128x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x2048 : Shape := ⟨2, ![8192, 2048]⟩
abbrev S512 : Shape := ⟨1, ![512]⟩
abbrev S4x128x128 : Shape := ⟨3, ![4, 128, 128]⟩
abbrev S4x128 : Shape := ⟨2, ![4, 128]⟩
abbrev S8192x1024 : Shape := ⟨2, ![8192, 1024]⟩
abbrev S2x4096x2048 : Shape := ⟨3, ![2, 4096, 2048]⟩
abbrev S2x4096x512 : Shape := ⟨3, ![2, 4096, 512]⟩
abbrev S2x4096x1024 : Shape := ⟨3, ![2, 4096, 1024]⟩
abbrev S_ : Shape := ⟨0, ![]⟩
abbrev S2x32x128x4x128 : Shape := ⟨5, ![2, 32, 128, 4, 128]⟩
abbrev S2x32x128x4 : Shape := ⟨4, ![2, 32, 128, 4]⟩
abbrev S2x32x128x4x1 : Shape := ⟨5, ![2, 32, 128, 4, 1]⟩
abbrev S1x1x1x4x128 : Shape := ⟨5, ![1, 1, 1, 4, 128]⟩
abbrev S128x128 : Shape := ⟨2, ![128, 128]⟩
abbrev S1x128x128 : Shape := ⟨3, ![1, 128, 128]⟩
abbrev S4x2x32x128x128 : Shape := ⟨5, ![4, 2, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8192x512 : Shape := ⟨2, ![8192, 512]⟩
abbrev S1x512 : Shape := ⟨2, ![1, 512]⟩
abbrev S4x128x1 : Shape := ⟨3, ![4, 128, 1]⟩

abbrev nBuf : Space → Nat
  | .hbm => 202
  | .vmem => 0
  | .smem => 0
  | _ => 0

abbrev hbmTy0_0 (i : Nat) : BufTy := match i % 128 with
  | 0 => ⟨S8192x2048, .f32⟩
  | 1 => ⟨S512, .f32⟩
  | 2 => ⟨S512, .f32⟩
  | 3 => ⟨S4x128x128, .f32⟩
  | 4 => ⟨S4x128, .f32⟩
  | 5 => ⟨S8192x1024, .f32⟩
  | 6 => ⟨S2x4096x2048, .f32⟩
  | 7 => ⟨S2x4096x512, .f32⟩
  | 8 => ⟨S2x4096x512, .f32⟩
  | 9 => ⟨S2x4096x1024, .f32⟩
  | 10 => ⟨S2x4096x512, .f32⟩
  | 11 => ⟨S_, .f32⟩
  | 12 => ⟨S2x4096x512, .f32⟩
  | 13 => ⟨S2x4096x512, .f32⟩
  | 14 => ⟨S2x4096x512, .f32⟩
  | 15 => ⟨S_, .f32⟩
  | 16 => ⟨S2x4096x512, .f32⟩
  | 17 => ⟨S2x4096x512, .f32⟩
  | 18 => ⟨S2x4096x512, .f32⟩
  | 19 => ⟨S2x4096x512, .f32⟩
  | 20 => ⟨S2x4096x512, .f32⟩
  | 21 => ⟨S2x4096x512, .f32⟩
  | 22 => ⟨S2x4096x512, .f32⟩
  | 23 => ⟨S_, .f32⟩
  | 24 => ⟨S2x4096x512, .f32⟩
  | 25 => ⟨S2x4096x512, .f32⟩
  | 26 => ⟨S2x4096x512, .f32⟩
  | 27 => ⟨S_, .f32⟩
  | 28 => ⟨S2x4096x512, .f32⟩
  | 29 => ⟨S2x4096x512, .f32⟩
  | 30 => ⟨S2x4096x512, .f32⟩
  | 31 => ⟨S2x4096x512, .f32⟩
  | 32 => ⟨S2x4096x512, .f32⟩
  | 33 => ⟨S2x4096x512, .f32⟩
  | 34 => ⟨S2x4096x512, .f32⟩
  | 35 => ⟨S2x32x128x4x128, .f32⟩
  | 36 => ⟨S4x128, .f32⟩
  | 37 => ⟨S4x128, .f32⟩
  | 38 => ⟨S_, .f32⟩
  | 39 => ⟨S2x32x128x4, .f32⟩
  | 40 => ⟨S2x32x128x4x1, .f32⟩
  | 41 => ⟨S_, .f32⟩
  | 42 => ⟨S2x32x128x4x1, .f32⟩
  | 43 => ⟨S2x32x128x4x1, .f32⟩
  | 44 => ⟨S2x32x128x4x128, .f32⟩
  | 45 => ⟨S2x32x128x4x128, .f32⟩
  | 46 => ⟨S2x32x128x4x128, .f32⟩
  | 47 => ⟨S_, .f32⟩
  | 48 => ⟨S2x32x128x4x128, .f32⟩
  | 49 => ⟨S2x32x128x4x128, .f32⟩
  | 50 => ⟨S_, .f32⟩
  | 51 => ⟨S2x32x128x4, .f32⟩
  | 52 => ⟨S2x32x128x4x1, .f32⟩
  | 53 => ⟨S_, .f32⟩
  | 54 => ⟨S2x32x128x4x1, .f32⟩
  | 55 => ⟨S2x32x128x4x1, .f32⟩
  | 56 => ⟨S2x32x128x4x128, .f32⟩
  | 57 => ⟨S2x32x128x4x128, .f32⟩
  | 58 => ⟨S_, .f32⟩
  | 59 => ⟨S2x32x128x4x1, .f32⟩
  | 60 => ⟨S2x32x128x4x1, .f32⟩
  | 61 => ⟨S2x32x128x4x1, .f32⟩
  | 62 => ⟨S2x32x128x4x1, .f32⟩
  | 63 => ⟨S_, .f32⟩
  | 64 => ⟨S2x32x128x4x1, .f32⟩
  | 65 => ⟨S2x32x128x4x1, .f32⟩
  | 66 => ⟨S2x32x128x4x128, .f32⟩
  | 67 => ⟨S2x32x128x4x128, .f32⟩
  | 68 => ⟨S1x1x1x4x128, .f32⟩
  | 69 => ⟨S2x32x128x4x128, .f32⟩
  | 70 => ⟨S2x32x128x4x128, .f32⟩
  | 71 => ⟨S1x1x1x4x128, .f32⟩
  | 72 => ⟨S2x32x128x4x128, .f32⟩
  | 73 => ⟨S2x32x128x4x128, .f32⟩
  | 74 => ⟨S_, .i1⟩
  | 75 => ⟨S128x128, .i1⟩
  | 76 => ⟨S128x128, .i32⟩
  | 77 => ⟨S_, .i32⟩
  | 78 => ⟨S128x128, .i32⟩
  | 79 => ⟨S128x128, .i32⟩
  | 80 => ⟨S128x128, .i32⟩
  | 81 => ⟨S128x128, .i1⟩
  | 82 => ⟨S_, .i1⟩
  | 83 => ⟨S128x128, .i1⟩
  | 84 => ⟨S128x128, .i1⟩
  | 85 => ⟨S1x128x128, .i1⟩
  | 86 => ⟨S_, .f32⟩
  | 87 => ⟨S4x128x128, .f32⟩
  | 88 => ⟨S4x128x128, .i1⟩
  | 89 => ⟨S4x128x128, .f32⟩
  | 90 => ⟨S_, .f32⟩
  | 91 => ⟨S4x128x128, .f32⟩
  | 92 => ⟨S4x2x32x128x128, .f32⟩
  | 93 => ⟨S2x32x128x4x128, .f32⟩
  | 94 => ⟨S128x4, .f32⟩
  | 95 => ⟨S128x4x1, .f32⟩
  | 96 => ⟨S1x1x128x4x1, .f32⟩
  | 97 => ⟨S2x32x128x4x128, .f32⟩
  | 98 => ⟨S2x32x128x4x128, .f32⟩
  | 99 => ⟨S2x4096x512, .f32⟩
  | 100 => ⟨S2x4096x512, .f32⟩
  | 101 => ⟨S2x4096x512, .f32⟩
  | 102 => ⟨S2x4096x512, .f32⟩
  | 103 => ⟨S2x32x128x4x128, .f32⟩
  | 104 => ⟨S_, .f32⟩
  | 105 => ⟨S128x4, .f32⟩
  | 106 => ⟨S1x1x128x4x1, .f32⟩
  | 107 => ⟨S_, .f32⟩
  | 108 => ⟨S128x4, .f32⟩
  | 109 => ⟨S128x4x1, .f32⟩
  | 110 => ⟨S_, .f32⟩
  | 111 => ⟨S128x4, .f32⟩
  | 112 => ⟨S4x128, .f32⟩
  | 113 => ⟨S4x2x32x128x128, .f32⟩
  | 114 => ⟨S4x128x128, .f32⟩
  | 115 => ⟨S4x2x32x128x128, .f32⟩
  | 116 => ⟨S2x32x128x4x128, .f32⟩
  | 117 => ⟨S_, .f32⟩
  | 118 => ⟨S4x128x128, .f32⟩
  | 119 => ⟨S4x128x128, .f32⟩
  | 120 => ⟨S_, .f32⟩
  | 121 => ⟨S4x128, .f32⟩
  | 122 => ⟨S1x1x1x4x128, .f32⟩
  | 123 => ⟨S_, .f32⟩
  | 124 => ⟨S4x128, .f32⟩
  | 125 => ⟨S2x32x128x4x128, .f32⟩
  | 126 => ⟨S_, .f32⟩
  | 127 => ⟨S4x128, .f32⟩
  | _ => ⟨S8192x2048, .f32⟩

abbrev hbmTy0_1 (i : Nat) : BufTy := match i % 128 with
  | 0 => ⟨S1x1x1x4x128, .f32⟩
  | 1 => ⟨S2x32x128x4x128, .f32⟩
  | 2 => ⟨S2x32x128x4x128, .f32⟩
  | 3 => ⟨S_, .f32⟩
  | 4 => ⟨S4x128, .f32⟩
  | 5 => ⟨S2x32x128x4x128, .f32⟩
  | 6 => ⟨S_, .f32⟩
  | 7 => ⟨S2x32x128x4, .f32⟩
  | 8 => ⟨S2x32x128x4x1, .f32⟩
  | 9 => ⟨S2x32x128x4x128, .f32⟩
  | 10 => ⟨S2x32x128x4x128, .f32⟩
  | 11 => ⟨S2x32x128x4x1, .f32⟩
  | 12 => ⟨S2x32x128x4x128, .f32⟩
  | 13 => ⟨S_, .f32⟩
  | 14 => ⟨S2x32x128x4, .f32⟩
  | 15 => ⟨S2x32x128x4x1, .f32⟩
  | 16 => ⟨S_, .f32⟩
  | 17 => ⟨S2x32x128x4x1, .f32⟩
  | 18 => ⟨S2x32x128x4x1, .f32⟩
  | 19 => ⟨S_, .f32⟩
  | 20 => ⟨S2x32x128x4, .f32⟩
  | 21 => ⟨S2x32x128x4x128, .f32⟩
  | 22 => ⟨S2x32x128x4x128, .f32⟩
  | 23 => ⟨S2x32x128x4x128, .f32⟩
  | 24 => ⟨S_, .f32⟩
  | 25 => ⟨S2x32x128x4, .f32⟩
  | 26 => ⟨S2x32x128x4x1, .f32⟩
  | 27 => ⟨S2x32x128x4x128, .f32⟩
  | 28 => ⟨S2x32x128x4x1, .f32⟩
  | 29 => ⟨S_, .f32⟩
  | 30 => ⟨S2x32x128x4x1, .f32⟩
  | 31 => ⟨S2x32x128x4x1, .f32⟩
  | 32 => ⟨S_, .f32⟩
  | 33 => ⟨S2x32x128x4, .f32⟩
  | 34 => ⟨S2x32x128x4x128, .f32⟩
  | 35 => ⟨S2x32x128x4x128, .f32⟩
  | 36 => ⟨S512, .f32⟩
  | 37 => ⟨S512, .f32⟩
  | 38 => ⟨S2x4096x512, .f32⟩
  | 39 => ⟨S2x4096x512, .f32⟩
  | 40 => ⟨S2x4096x512, .f32⟩
  | 41 => ⟨S_, .f32⟩
  | 42 => ⟨S2x4096x512, .f32⟩
  | 43 => ⟨S2x4096x512, .f32⟩
  | 44 => ⟨S2x4096x512, .f32⟩
  | 45 => ⟨S_, .f32⟩
  | 46 => ⟨S2x4096x512, .f32⟩
  | 47 => ⟨S2x4096x512, .f32⟩
  | 48 => ⟨S2x4096x512, .f32⟩
  | 49 => ⟨S_, .f32⟩
  | 50 => ⟨S2x4096x512, .f32⟩
  | 51 => ⟨S2x4096x512, .f32⟩
  | 52 => ⟨S2x4096x512, .f32⟩
  | 53 => ⟨S2x4096x512, .f32⟩
  | 54 => ⟨S2x4096x512, .f32⟩
  | 55 => ⟨S_, .f32⟩
  | 56 => ⟨S2x4096x512, .f32⟩
  | 57 => ⟨S2x4096x512, .f32⟩
  | 58 => ⟨S2x4096x512, .f32⟩
  | 59 => ⟨S_, .f32⟩
  | 60 => ⟨S2x4096x512, .f32⟩
  | 61 => ⟨S2x4096x512, .f32⟩
  | 62 => ⟨S2x4096x512, .f32⟩
  | 63 => ⟨S_, .f32⟩
  | 64 => ⟨S2x4096x512, .f32⟩
  | 65 => ⟨S2x4096x512, .f32⟩
  | 66 => ⟨S2x4096x512, .f32⟩
  | 67 => ⟨S8192x512, .f32⟩
  | 68 => ⟨S8192x512, .bf16⟩
  | 69 => ⟨S8192x512, .f32⟩
  | 70 => ⟨S8192x512, .bf16⟩
  | 71 => ⟨S1x512, .f32⟩
  | 72 => ⟨S1x512, .f32⟩
  | 73 => ⟨S4x128x1, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c : Ref sig .tc := ⟨.hbm, 74, rfl⟩
abbrev main_v57 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61_1 : Ref sig .tc := ⟨.hbm, 88, rfl⟩
abbrev main_v61_0 : Ref sig .tc := ⟨.hbm, 89, rfl⟩
abbrev main_call1_cst : Ref sig .tc := ⟨.hbm, 90, rfl⟩
abbrev main_v61_2 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_11 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_v84 : Ref sig .tc := ⟨.hbm, 119, rfl⟩
abbrev main_cst_14 : Ref sig .tc := ⟨.hbm, 120, rfl⟩
abbrev main_v85 : Ref sig .tc := ⟨.hbm, 121, rfl⟩
abbrev main_v86 : Ref sig .tc := ⟨.hbm, 122, rfl⟩
abbrev main_cst_15 : Ref sig .tc := ⟨.hbm, 123, rfl⟩
abbrev main_v87 : Ref sig .tc := ⟨.hbm, 124, rfl⟩
abbrev main_v88 : Ref sig .tc := ⟨.hbm, 125, rfl⟩
abbrev main_cst_16 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_17 : Ref sig .tc := ⟨.hbm, 131, rfl⟩
abbrev main_v93 : Ref sig .tc := ⟨.hbm, 132, rfl⟩
abbrev main_v94 : Ref sig .tc := ⟨.hbm, 133, rfl⟩
abbrev main_cst_18 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_19 : Ref sig .tc := ⟨.hbm, 141, rfl⟩
abbrev main_v101 : Ref sig .tc := ⟨.hbm, 142, rfl⟩
abbrev main_v102 : Ref sig .tc := ⟨.hbm, 143, rfl⟩
abbrev main_cst_20 : Ref sig .tc := ⟨.hbm, 144, rfl⟩
abbrev main_v103 : Ref sig .tc := ⟨.hbm, 145, rfl⟩
abbrev main_v104 : Ref sig .tc := ⟨.hbm, 146, rfl⟩
abbrev main_cst_21 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_22 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_23 : Ref sig .tc := ⟨.hbm, 157, rfl⟩
abbrev main_v113 : Ref sig .tc := ⟨.hbm, 158, rfl⟩
abbrev main_v114 : Ref sig .tc := ⟨.hbm, 159, rfl⟩
abbrev main_cst_24 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_25 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_26 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_27 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_28 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_29 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_30 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩

abbrev nD : Nat := 1
abbrev τ : Topo := Topo.v7x

variable {F : FTy → Type} [FloatOps F]
-- ==== KernelFfnInDw.lean ====
abbrev S8192x1024 : Shape := ⟨2, ![8192, 1024]⟩
abbrev S8192x6144 : Shape := ⟨2, ![8192, 6144]⟩
abbrev S1024x6144 : Shape := ⟨2, ![1024, 6144]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x6144, .bf16⟩
  | .hbm, ⟨2, _⟩ => ⟨S1024x6144, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnInDwIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .bf16⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S8192x6144, .f32⟩
  | .hbm, ⟨6, _⟩ => ⟨S6144x1024, .f32⟩
  | .hbm, ⟨7, _⟩ => ⟨S1024x6144, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFfnOutDw.lean ====
abbrev S8192x3072 : Shape := ⟨2, ![8192, 3072]⟩
abbrev S8192x1024 : Shape := ⟨2, ![8192, 1024]⟩
abbrev S3072x1024 : Shape := ⟨2, ![3072, 1024]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnOutDwIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S1024x3072, .f32⟩
  | .hbm, ⟨8, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMemODw.lean ====
abbrev S8192x1024 : Shape := ⟨2, ![8192, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMemODwIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMemQDw.lean ====
abbrev S8192x1024 : Shape := ⟨2, ![8192, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMemQDwIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelMemKvDw.lean ====
abbrev S512x1024 : Shape := ⟨2, ![512, 1024]⟩
abbrev S1024x1024 : Shape := ⟨2, ![1024, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1024x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMemKvDwIdeal.lean ====
abbrev S512x1024 : Shape := ⟨2, ![512, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S_, .f32⟩
  | .hbm, ⟨3, _⟩ => ⟨S1024x1024, .f32⟩
  | .hbm, ⟨4, _⟩ => ⟨S512x1024, .f32⟩
  | .hbm, ⟨5, _⟩ => ⟨S1024x1024, .f32⟩
  | .hbm, ⟨6, _⟩ => ⟨S1024x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelInProjDw.lean ====
abbrev S8192x1024 : Shape := ⟨2, ![8192, 1024]⟩
abbrev S8192x2048 : Shape := ⟨2, ![8192, 2048]⟩
abbrev S1024x2048 : Shape := ⟨2, ![1024, 2048]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInProjDwIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S8192x2048, .f32⟩
  | .hbm, ⟨6, _⟩ => ⟨S2048x1024, .f32⟩
  | .hbm, ⟨7, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelQkvProjDw.lean ====
abbrev S3072x8192 : Shape := ⟨2, ![3072, 8192]⟩
abbrev S8192x1024 : Shape := ⟨2, ![8192, 1024]⟩
abbrev S3072x1024 : Shape := ⟨2, ![3072, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3072x8192, .bf16⟩
  | .hbm, ⟨1, _⟩ => ⟨S8192x1024, .f32⟩
  | .hbm, ⟨2, _⟩ => ⟨S3072x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvProjDwIdeal.lean ====
abbrev S3072x8192 : Shape := ⟨2, ![3072, 8192]⟩
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S3072x8192, .bf16⟩
  | .hbm, ⟨1, _⟩ => ⟨S8192x1024, .f32⟩
  | .hbm, ⟨2, _⟩ => ⟨S8192x3072, .bf16⟩
  | .hbm, ⟨3, _⟩ => ⟨S_, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S3072x1024, .f32⟩
  | _, _ => ⟨S3072x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelSbOutProjDw.lean ====
abbrev S1024x8192 : Shape := ⟨2, ![1024, 8192]⟩
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSbOutProjDwIdeal.lean ====
abbrev S1024x8192 : Shape := ⟨2, ![1024, 8192]⟩
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8192x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelFfnIn.lean ====
abbrev S8192x1024 : Shape := ⟨2, ![8192, 1024]⟩
abbrev S4x1024x6144 : Shape := ⟨3, ![4, 1024, 6144]⟩
abbrev S8192x6144 : Shape := ⟨2, ![8192, 6144]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 9
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4x1024x6144, .bf16⟩
  | .hbm, ⟨5, _⟩ => ⟨S8192x6144, .f32⟩
  | .hbm, ⟨6, _⟩ => ⟨S8192x6144, .f32⟩
  | .hbm, ⟨7, _⟩ => ⟨S8192x6144, .f32⟩
  | .hbm, ⟨8, _⟩ => ⟨S8192x6144, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024x1024, .bf16⟩
  | .local _ .vmem, ⟨21, _⟩ => ⟨S1x1024x1024, .bf16⟩
  | .local _ .vmem, ⟨22, _⟩ => ⟨S512x1024, .f32⟩
  | .local _ .vmem, ⟨23, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 6, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 6, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![16, 6, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== ReferenceFfnInIdeal.lean ====
abbrev S8192x1024 : Shape := ⟨2, ![8192, 1024]⟩
abbrev S4x1024x6144 : Shape := ⟨3, ![4, 1024, 6144]⟩
abbrev S1x1024x6144 : Shape := ⟨3, ![1, 1024, 6144]⟩
abbrev S1024x6144 : Shape := ⟨2, ![1024, 6144]⟩
abbrev S8192x6144 : Shape := ⟨2, ![8192, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4x1024x6144, .bf16⟩
  | .hbm, ⟨5, _⟩ => ⟨S1x1024x6144, .bf16⟩
  | .hbm, ⟨6, _⟩ => ⟨S1024x6144, .bf16⟩
  | .hbm, ⟨7, _⟩ => ⟨S1024x6144, .f32⟩
  | .hbm, ⟨8, _⟩ => ⟨S8192x6144, .f32⟩
  | .hbm, ⟨9, _⟩ => ⟨S1x1024x6144, .bf16⟩
  | .hbm, ⟨10, _⟩ => ⟨S1024x6144, .bf16⟩
  | .hbm, ⟨11, _⟩ => ⟨S1024x6144, .f32⟩
  | .hbm, ⟨12, _⟩ => ⟨S8192x6144, .f32⟩
  | .hbm, ⟨13, _⟩ => ⟨S1x1024x6144, .bf16⟩
  | .hbm, ⟨14, _⟩ => ⟨S1024x6144, .bf16⟩
  | .hbm, ⟨15, _⟩ => ⟨S1024x6144, .f32⟩
  | .hbm, ⟨16, _⟩ => ⟨S8192x6144, .f32⟩
  | .hbm, ⟨17, _⟩ => ⟨S1x1024x6144, .bf16⟩
  | .hbm, ⟨18, _⟩ => ⟨S1024x6144, .bf16⟩
  | .hbm, ⟨19, _⟩ => ⟨S1024x6144, .f32⟩
  | .hbm, ⟨20, _⟩ => ⟨S8192x6144, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelFfnOutDx.lean ====
abbrev S8192x1024 : Shape := ⟨2, ![8192, 1024]⟩
abbrev S4x3072x1024 : Shape := ⟨3, ![4, 3072, 1024]⟩
abbrev S8192x3072 : Shape := ⟨2, ![8192, 3072]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 9
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x3072x1024, .bf16⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S512x1024, .f32⟩
  | .local _ .vmem, ⟨23, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 3, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 3, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![16, 3, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== ReferenceFfnOutDxIdeal.lean ====
abbrev S8192x1024 : Shape := ⟨2, ![8192, 1024]⟩
abbrev S4x3072x1024 : Shape := ⟨3, ![4, 3072, 1024]⟩
abbrev S_ : Shape := ⟨0, ![]⟩
abbrev S8192x3072 : Shape := ⟨2, ![8192, 3072]⟩
abbrev S1x3072x1024 : Shape := ⟨3, ![1, 3072, 1024]⟩
abbrev S3072x1024 : Shape := ⟨2, ![3072, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x3072x1024, .bf16⟩
  | .hbm, ⟨5, _⟩ => ⟨S_, .f32⟩
  | .hbm, ⟨6, _⟩ => ⟨S8192x3072, .f32⟩
  | .hbm, ⟨7, _⟩ => ⟨S1x3072x1024, .bf16⟩
  | .hbm, ⟨8, _⟩ => ⟨S3072x1024, .bf16⟩
  | .hbm, ⟨9, _⟩ => ⟨S3072x1024, .f32⟩
  | .hbm, ⟨10, _⟩ => ⟨S8192x1024, .f32⟩
  | .hbm, ⟨11, _⟩ => ⟨S8192x1024, .f32⟩
  | .hbm, ⟨12, _⟩ => ⟨S8192x3072, .f32⟩
  | .hbm, ⟨13, _⟩ => ⟨S1x3072x1024, .bf16⟩
  | .hbm, ⟨14, _⟩ => ⟨S3072x1024, .bf16⟩
  | .hbm, ⟨15, _⟩ => ⟨S3072x1024, .f32⟩
  | .hbm, ⟨16, _⟩ => ⟨S8192x1024, .f32⟩
  | .hbm, ⟨17, _⟩ => ⟨S8192x1024, .f32⟩
  | .hbm, ⟨18, _⟩ => ⟨S8192x3072, .f32⟩
  | .hbm, ⟨19, _⟩ => ⟨S1x3072x1024, .bf16⟩
  | .hbm, ⟨20, _⟩ => ⟨S3072x1024, .bf16⟩
  | .hbm, ⟨21, _⟩ => ⟨S3072x1024, .f32⟩
  | .hbm, ⟨22, _⟩ => ⟨S8192x1024, .f32⟩
  | .hbm, ⟨23, _⟩ => ⟨S8192x1024, .f32⟩
  | .hbm, ⟨24, _⟩ => ⟨S8192x3072, .f32⟩
  | .hbm, ⟨25, _⟩ => ⟨S1x3072x1024, .bf16⟩
  | .hbm, ⟨26, _⟩ => ⟨S3072x1024, .bf16⟩
  | .hbm, ⟨27, _⟩ => ⟨S3072x1024, .f32⟩
  | .hbm, ⟨28, _⟩ => ⟨S8192x1024, .f32⟩
  | .hbm, ⟨29, _⟩ => ⟨S8192x1024, .f32⟩
  | .hbm, ⟨30, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelQkvProj.lean ====
abbrev S8192x1024 : Shape := ⟨2, ![8192, 1024]⟩
abbrev S2x3072x1024 : Shape := ⟨3, ![2, 3072, 1024]⟩
abbrev S3072x8192 : Shape := ⟨2, ![3072, 8192]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x3072x1024, .bf16⟩
  | .hbm, ⟨3, _⟩ => ⟨S3072x8192, .bf16⟩
  | .hbm, ⟨4, _⟩ => ⟨S3072x8192, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![6, 8, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceQkvProjIdeal.lean ====
abbrev S8192x1024 : Shape := ⟨2, ![8192, 1024]⟩
abbrev S2x3072x1024 : Shape := ⟨3, ![2, 3072, 1024]⟩
abbrev S1x3072x1024 : Shape := ⟨3, ![1, 3072, 1024]⟩
abbrev S3072x1024 : Shape := ⟨2, ![3072, 1024]⟩
abbrev S1024x3072 : Shape := ⟨2, ![1024, 3072]⟩
abbrev S8192x3072 : Shape := ⟨2, ![8192, 3072]⟩
abbrev S3072x8192 : Shape := ⟨2, ![3072, 8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x3072x1024, .bf16⟩
  | .hbm, ⟨3, _⟩ => ⟨S1x3072x1024, .bf16⟩
  | .hbm, ⟨4, _⟩ => ⟨S3072x1024, .bf16⟩
  | .hbm, ⟨5, _⟩ => ⟨S1024x3072, .bf16⟩
  | .hbm, ⟨6, _⟩ => ⟨S1024x3072, .f32⟩
  | .hbm, ⟨7, _⟩ => ⟨S8192x3072, .f32⟩
  | .hbm, ⟨8, _⟩ => ⟨S3072x8192, .f32⟩
  | .hbm, ⟨9, _⟩ => ⟨S3072x8192, .bf16⟩
  | .hbm, ⟨10, _⟩ => ⟨S1x3072x1024, .bf16⟩
  | .hbm, ⟨11, _⟩ => ⟨S3072x1024, .bf16⟩
  | .hbm, ⟨12, _⟩ => ⟨S1024x3072, .bf16⟩
  | .hbm, ⟨13, _⟩ => ⟨S1024x3072, .f32⟩
  | .hbm, ⟨14, _⟩ => ⟨S8192x3072, .f32⟩
  | .hbm, ⟨15, _⟩ => ⟨S3072x8192, .f32⟩
  | .hbm, ⟨16, _⟩ => ⟨S3072x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== KernelInProj.lean ====
abbrev S8192x1024 : Shape := ⟨2, ![8192, 1024]⟩
abbrev S2x1024x2048 : Shape := ⟨3, ![2, 1024, 2048]⟩
abbrev S8192x2048 : Shape := ⟨2, ![8192, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x2048, .bf16⟩
  | .hbm, ⟨3, _⟩ => ⟨S8192x2048, .f32⟩
  | .hbm, ⟨4, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceInProjIdeal.lean ====
abbrev S8192x1024 : Shape := ⟨2, ![8192, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x2048, .bf16⟩
  | .hbm, ⟨3, _⟩ => ⟨S1x1024x2048, .bf16⟩
  | .hbm, ⟨4, _⟩ => ⟨S1024x2048, .bf16⟩
  | .hbm, ⟨5, _⟩ => ⟨S1024x2048, .f32⟩
  | .hbm, ⟨6, _⟩ => ⟨S8192x2048, .f32⟩
  | .hbm, ⟨7, _⟩ => ⟨S1x1024x2048, .bf16⟩
  | .hbm, ⟨8, _⟩ => ⟨S1024x2048, .bf16⟩
  | .hbm, ⟨9, _⟩ => ⟨S1024x2048, .f32⟩
  | .hbm, ⟨10, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelMemQ.lean ====
abbrev S8192x1024 : Shape := ⟨2, ![8192, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 9
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4x1024x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1x1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S1x1024x1024, .bf16⟩
  | .local _ .vmem, ⟨18, _⟩ => ⟨S512x1024, .bf16⟩
  | .local _ .vmem, ⟨19, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![16, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1x1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== ReferenceMemQIdeal.lean ====
abbrev S8192x1024 : Shape := ⟨2, ![8192, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4x1024x1024, .bf16⟩
  | .hbm, ⟨5, _⟩ => ⟨S1x1024x1024, .bf16⟩
  | .hbm, ⟨6, _⟩ => ⟨S1024x1024, .bf16⟩
  | .hbm, ⟨7, _⟩ => ⟨S1024x1024, .f32⟩
  | .hbm, ⟨8, _⟩ => ⟨S8192x1024, .f32⟩
  | .hbm, ⟨9, _⟩ => ⟨S8192x1024, .bf16⟩
  | .hbm, ⟨10, _⟩ => ⟨S1x1024x1024, .bf16⟩
  | .hbm, ⟨11, _⟩ => ⟨S1024x1024, .bf16⟩
  | .hbm, ⟨12, _⟩ => ⟨S1024x1024, .f32⟩
  | .hbm, ⟨13, _⟩ => ⟨S8192x1024, .f32⟩
  | .hbm, ⟨14, _⟩ => ⟨S8192x1024, .bf16⟩
  | .hbm, ⟨15, _⟩ => ⟨S1x1024x1024, .bf16⟩
  | .hbm, ⟨16, _⟩ => ⟨S1024x1024, .bf16⟩
  | .hbm, ⟨17, _⟩ => ⟨S1024x1024, .f32⟩
  | .hbm, ⟨18, _⟩ => ⟨S8192x1024, .f32⟩
  | .hbm, ⟨19, _⟩ => ⟨S8192x1024, .bf16⟩
  | .hbm, ⟨20, _⟩ => ⟨S1x1024x1024, .bf16⟩
  | .hbm, ⟨21, _⟩ => ⟨S1024x1024, .bf16⟩
  | .hbm, ⟨22, _⟩ => ⟨S1024x1024, .f32⟩
  | .hbm, ⟨23, _⟩ => ⟨S8192x1024, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== KernelMemO.lean ====
abbrev S8192x1024 : Shape := ⟨2, ![8192, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 9
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x1024x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024x1024, .bf16⟩
  | .local _ .vmem, ⟨18, _⟩ => ⟨S512x1024, .f32⟩
  | .local _ .vmem, ⟨19, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![16, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1x1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== ReferenceMemOIdeal.lean ====
abbrev S8192x1024 : Shape := ⟨2, ![8192, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x1024x1024, .bf16⟩
  | .hbm, ⟨5, _⟩ => ⟨S8192x1024, .f32⟩
  | .hbm, ⟨6, _⟩ => ⟨S1x1024x1024, .bf16⟩
  | .hbm, ⟨7, _⟩ => ⟨S1024x1024, .bf16⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S1x1024x1024, .bf16⟩
  | .hbm, ⟨12, _⟩ => ⟨S1024x1024, .bf16⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S1x1024x1024, .bf16⟩
  | .hbm, ⟨17, _⟩ => ⟨S1024x1024, .bf16⟩
  | .hbm, ⟨18, _⟩ => ⟨S1024x1024, .f32⟩
  | .hbm, ⟨19, _⟩ => ⟨S8192x1024, .f32⟩
  | .hbm, ⟨20, _⟩ => ⟨S8192x1024, .f32⟩
  | .hbm, ⟨21, _⟩ => ⟨S1x1024x1024, .bf16⟩
  | .hbm, ⟨22, _⟩ => ⟨S1024x1024, .bf16⟩
  | .hbm, ⟨23, _⟩ => ⟨S1024x1024, .f32⟩
  | .hbm, ⟨24, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== KernelMemQDx.lean ====
abbrev S8192x1024 : Shape := ⟨2, ![8192, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 13
  | .vmem => 28
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x1024x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![16, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![16, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1x1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== ReferenceMemQDxIdeal.lean ====
abbrev S8192x1024 : Shape := ⟨2, ![8192, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x1024x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x1024x1024, .bf16⟩
  | .hbm, ⟨10, _⟩ => ⟨S1024x1024, .bf16⟩
  | .hbm, ⟨11, _⟩ => ⟨S_, .f32⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024x1024, .bf16⟩
  | .hbm, ⟨19, _⟩ => ⟨S1024x1024, .bf16⟩
  | .hbm, ⟨20, _⟩ => ⟨S_, .f32⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024x1024, .bf16⟩
  | .hbm, ⟨28, _⟩ => ⟨S1024x1024, .bf16⟩
  | .hbm, ⟨29, _⟩ => ⟨S_, .f32⟩
  | .hbm, ⟨30, _⟩ => ⟨S8192x1024, .f32⟩
  | .hbm, ⟨31, _⟩ => ⟨S1024x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024x1024, .bf16⟩
  | .hbm, ⟨37, _⟩ => ⟨S1024x1024, .bf16⟩
  | .hbm, ⟨38, _⟩ => ⟨S_, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== KernelMemODx.lean ====
abbrev S8192x1024 : Shape := ⟨2, ![8192, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 9
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x1024x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024x1024, .bf16⟩
  | .local _ .vmem, ⟨18, _⟩ => ⟨S512x1024, .bf16⟩
  | .local _ .vmem, ⟨19, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![16, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1x1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== ReferenceMemODxIdeal.lean ====
abbrev S8192x1024 : Shape := ⟨2, ![8192, 1024]⟩
abbrev S4x1024x1024 : Shape := ⟨3, ![4, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4x1024x1024, .bf16⟩
  | .hbm, ⟨5, _⟩ => ⟨S_, .f32⟩
  | .hbm, ⟨6, _⟩ => ⟨S8192x1024, .f32⟩
  | .hbm, ⟨7, _⟩ => ⟨S1x1024x1024, .bf16⟩
  | .hbm, ⟨8, _⟩ => ⟨S1024x1024, .bf16⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .hbm, ⟨14, _⟩ => ⟨S1x1024x1024, .bf16⟩
  | .hbm, ⟨15, _⟩ => ⟨S1024x1024, .bf16⟩
  | .hbm, ⟨16, _⟩ => ⟨S1024x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1024x1024, .bf16⟩
  | .hbm, ⟨22, _⟩ => ⟨S1024x1024, .bf16⟩
  | .hbm, ⟨23, _⟩ => ⟨S1024x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1x1024x1024, .bf16⟩
  | .hbm, ⟨29, _⟩ => ⟨S1024x1024, .bf16⟩
  | .hbm, ⟨30, _⟩ => ⟨S1024x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== KernelOutProj.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x1024x1024, .bf16⟩
  | .hbm, ⟨3, _⟩ => ⟨S8192x1024, .f32⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024x1024, .bf16⟩
  | .local _ .vmem, ⟨8, _⟩ => ⟨S512x1024, .f32⟩
  | .local _ .vmem, ⟨9, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceOutProjIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x1024x1024, .bf16⟩
  | .hbm, ⟨3, _⟩ => ⟨S8192x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1x1024x1024, .bf16⟩
  | .hbm, ⟨10, _⟩ => ⟨S1024x1024, .bf16⟩
  | .hbm, ⟨11, _⟩ => ⟨S1024x1024, .f32⟩
  | .hbm, ⟨12, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelOutProjDx.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x1024x1024, .bf16⟩
  | .hbm, ⟨3, _⟩ => ⟨S8192x1024, .f32⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024x1024, .bf16⟩
  | .local _ .vmem, ⟨8, _⟩ => ⟨S512x1024, .f32⟩
  | .local _ .vmem, ⟨9, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceOutProjDxIdeal.lean ====
abbrev S8192x1024 : Shape := ⟨2, ![8192, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x1024x1024, .bf16⟩
  | .hbm, ⟨3, _⟩ => ⟨S_, .f32⟩
  | .hbm, ⟨4, _⟩ => ⟨S8192x1024, .f32⟩
  | .hbm, ⟨5, _⟩ => ⟨S1x1024x1024, .bf16⟩
  | .hbm, ⟨6, _⟩ => ⟨S1024x1024, .bf16⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1x1024x1024, .bf16⟩
  | .hbm, ⟨12, _⟩ => ⟨S1024x1024, .bf16⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KernelSbOutProjDx.lean ====
abbrev S8192x1024 : Shape := ⟨2, ![8192, 1024]⟩
abbrev S2x1024x1024 : Shape := ⟨3, ![2, 1024, 1024]⟩
abbrev S1024x8192 : Shape := ⟨2, ![1024, 8192]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x1024x1024, .bf16⟩
  | .hbm, ⟨3, _⟩ => ⟨S1024x8192, .bf16⟩
  | .hbm, ⟨4, _⟩ => ⟨S1024x8192, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 8, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceSbOutProjDxIdeal.lean ====
abbrev S8192x1024 : Shape := ⟨2, ![8192, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩
abbrev S1024x8192 : Shape := ⟨2, ![1024, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x1024x1024, .bf16⟩
  | .hbm, ⟨3, _⟩ => ⟨S_, .f32⟩
  | .hbm, ⟨4, _⟩ => ⟨S8192x1024, .f32⟩
  | .hbm, ⟨5, _⟩ => ⟨S1x1024x1024, .bf16⟩
  | .hbm, ⟨6, _⟩ => ⟨S1024x1024, .bf16⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x8192, .f32⟩
  | .hbm, ⟨12, _⟩ => ⟨S1024x8192, .bf16⟩
  | .hbm, ⟨13, _⟩ => ⟨S1x1024x1024, .bf16⟩
  | .hbm, ⟨14, _⟩ => ⟨S1024x1024, .bf16⟩
  | .hbm, ⟨15, _⟩ => ⟨S1024x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x8192, .f32⟩
  | .hbm, ⟨20, _⟩ => ⟨S1024x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== KernelMemKv.lean ====
abbrev S512x1024 : Shape := ⟨2, ![512, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 11
  | .vmem => 24
  | .smem => 0
  | _ => 0

abbrev bufTy : (tb : Table) → Fin (tcTables nBuf tb) → BufTy
  | .hbm, ⟨0, _⟩ => ⟨S512x1024, .f32⟩
  | .hbm, ⟨1, _⟩ => ⟨S4x1024x1024, .bf16⟩
  | .hbm, ⟨2, _⟩ => ⟨S4x1024x1024, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S512x1024, .bf16⟩
  | .local _ .vmem, ⟨0, _⟩ => ⟨S512x1024, .f32⟩
  | .local _ .vmem, ⟨1, _⟩ => ⟨S1x1024x1024, .bf16⟩
  | .local _ .vmem, ⟨2, _⟩ => ⟨S512x1024, .bf16⟩
  | .local _ .vmem, ⟨3, _⟩ => ⟨S512x1024, .f32⟩
  | .local _ .vmem, ⟨4, _⟩ => ⟨S1x1024x1024, .bf16⟩
  | .local _ .vmem, ⟨5, _⟩ => ⟨S512x1024, .bf16⟩
  | .local _ .vmem, ⟨6, _⟩ => ⟨S512x1024, .f32⟩
  | .local _ .vmem, ⟨7, _⟩ => ⟨S1x1024x1024, .bf16⟩
  | .local _ .vmem, ⟨8, _⟩ => ⟨S512x1024, .bf16⟩
  | .local _ .vmem, ⟨9, _⟩ => ⟨S512x1024, .f32⟩
  | .local _ .vmem, ⟨10, _⟩ => ⟨S1x1024x1024, .bf16⟩
  | .local _ .vmem, ⟨11, _⟩ => ⟨S512x1024, .bf16⟩
  | .local _ .vmem, ⟨12, _⟩ => ⟨S512x1024, .f32⟩
  | .local _ .vmem, ⟨13, _⟩ => ⟨S1x1024x1024, .bf16⟩
  | .local _ .vmem, ⟨14, _⟩ => ⟨S512x1024, .bf16⟩
  | .local _ .vmem, ⟨15, _⟩ => ⟨S512x1024, .f32⟩
  | .local _ .vmem, ⟨16, _⟩ => ⟨S1x1024x1024, .bf16⟩
  | .local _ .vmem, ⟨17, _⟩ => ⟨S512x1024, .bf16⟩
  | .local _ .vmem, ⟨18, _⟩ => ⟨S512x1024, .f32⟩
  | .local _ .vmem, ⟨19, _⟩ => ⟨S1x1024x1024, .bf16⟩
  | .local _ .vmem, ⟨20, _⟩ => ⟨S512x1024, .bf16⟩
  | .local _ .vmem, ⟨21, _⟩ => ⟨S512x1024, .f32⟩
  | .local _ .vmem, ⟨22, _⟩ => ⟨S1x1024x1024, .bf16⟩
  | .local _ .vmem, ⟨23, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc4_stg0_0 : Ref sig .tc := ⟨.vmem, 12, rfl⟩
abbrev cc4_stg1_0 : Ref sig .tc := ⟨.vmem, 13, rfl⟩
abbrev cc4_stg2_0 : Ref sig .tc := ⟨.vmem, 14, rfl⟩
abbrev cc5_stg0_0 : Ref sig .tc := ⟨.vmem, 15, rfl⟩
abbrev cc5_stg1_0 : Ref sig .tc := ⟨.vmem, 16, rfl⟩
abbrev cc5_stg2_0 : Ref sig .tc := ⟨.vmem, 17, rfl⟩
abbrev cc6_stg0_0 : Ref sig .tc := ⟨.vmem, 18, rfl⟩
abbrev cc6_stg1_0 : Ref sig .tc := ⟨.vmem, 19, rfl⟩
abbrev cc6_stg2_0 : Ref sig .tc := ⟨.vmem, 20, rfl⟩
abbrev cc7_stg0_0 : Ref sig .tc := ⟨.vmem, 21, rfl⟩
abbrev cc7_stg1_0 : Ref sig .tc := ⟨.vmem, 22, rfl⟩
abbrev cc7_stg2_0 : Ref sig .tc := ⟨.vmem, 23, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11
abbrev cc4_sem0_0 : DmaSem sig := 12
abbrev cc4_sem1_0 : DmaSem sig := 13
abbrev cc4_sem2_0 : DmaSem sig := 14
abbrev cc5_sem0_0 : DmaSem sig := 15
abbrev cc5_sem1_0 : DmaSem sig := 16
abbrev cc5_sem2_0 : DmaSem sig := 17
abbrev cc6_sem0_0 : DmaSem sig := 18
abbrev cc6_sem1_0 : DmaSem sig := 19
abbrev cc6_sem2_0 : DmaSem sig := 20
abbrev cc7_sem0_0 : DmaSem sig := 21
abbrev cc7_sem1_0 : DmaSem sig := 22
abbrev cc7_sem2_0 : DmaSem sig := 23

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S1x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S512x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S512x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S512x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S1x1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S512x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S512x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S1x1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S512x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S512x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S1x1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S512x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨3, ![1, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S512x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 1 → Memref sig .tc .vmem S1x1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 1 → Memref sig .tc .vmem S512x1024 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true, false]

abbrev grid7 : Pipeline.Grid := ⟨3, ![1, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S512x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 1 → Memref sig .tc .vmem S1x1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 1 → Memref sig .tc .vmem S512x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true, false]
-- ==== ReferenceMemKvIdeal.lean ====
abbrev S512x1024 : Shape := ⟨2, ![512, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 43
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4x1024x1024, .bf16⟩
  | .hbm, ⟨2, _⟩ => ⟨S4x1024x1024, .bf16⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S512x1024, .f32⟩
  | .hbm, ⟨7, _⟩ => ⟨S512x1024, .bf16⟩
  | .hbm, ⟨8, _⟩ => ⟨S1x1024x1024, .bf16⟩
  | .hbm, ⟨9, _⟩ => ⟨S1024x1024, .bf16⟩
  | .hbm, ⟨10, _⟩ => ⟨S1024x1024, .f32⟩
  | .hbm, ⟨11, _⟩ => ⟨S512x1024, .f32⟩
  | .hbm, ⟨12, _⟩ => ⟨S512x1024, .bf16⟩
  | .hbm, ⟨13, _⟩ => ⟨S1x1024x1024, .bf16⟩
  | .hbm, ⟨14, _⟩ => ⟨S1024x1024, .bf16⟩
  | .hbm, ⟨15, _⟩ => ⟨S1024x1024, .f32⟩
  | .hbm, ⟨16, _⟩ => ⟨S512x1024, .f32⟩
  | .hbm, ⟨17, _⟩ => ⟨S512x1024, .bf16⟩
  | .hbm, ⟨18, _⟩ => ⟨S1x1024x1024, .bf16⟩
  | .hbm, ⟨19, _⟩ => ⟨S1024x1024, .bf16⟩
  | .hbm, ⟨20, _⟩ => ⟨S1024x1024, .f32⟩
  | .hbm, ⟨21, _⟩ => ⟨S512x1024, .f32⟩
  | .hbm, ⟨22, _⟩ => ⟨S512x1024, .bf16⟩
  | .hbm, ⟨23, _⟩ => ⟨S1x1024x1024, .bf16⟩
  | .hbm, ⟨24, _⟩ => ⟨S1024x1024, .bf16⟩
  | .hbm, ⟨25, _⟩ => ⟨S1024x1024, .f32⟩
  | .hbm, ⟨26, _⟩ => ⟨S512x1024, .f32⟩
  | .hbm, ⟨27, _⟩ => ⟨S512x1024, .bf16⟩
  | .hbm, ⟨28, _⟩ => ⟨S1x1024x1024, .bf16⟩
  | .hbm, ⟨29, _⟩ => ⟨S1024x1024, .bf16⟩
  | .hbm, ⟨30, _⟩ => ⟨S1024x1024, .f32⟩
  | .hbm, ⟨31, _⟩ => ⟨S512x1024, .f32⟩
  | .hbm, ⟨32, _⟩ => ⟨S512x1024, .bf16⟩
  | .hbm, ⟨33, _⟩ => ⟨S1x1024x1024, .bf16⟩
  | .hbm, ⟨34, _⟩ => ⟨S1024x1024, .bf16⟩
  | .hbm, ⟨35, _⟩ => ⟨S1024x1024, .f32⟩
  | .hbm, ⟨36, _⟩ => ⟨S512x1024, .f32⟩
  | .hbm, ⟨37, _⟩ => ⟨S512x1024, .bf16⟩
  | .hbm, ⟨38, _⟩ => ⟨S1x1024x1024, .bf16⟩
  | .hbm, ⟨39, _⟩ => ⟨S1024x1024, .bf16⟩
  | .hbm, ⟨40, _⟩ => ⟨S1024x1024, .f32⟩
  | .hbm, ⟨41, _⟩ => ⟨S512x1024, .f32⟩
  | .hbm, ⟨42, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩

abbrev nD : Nat := 1
abbrev τ : Topo := Topo.v7x

variable {F : FTy → Type} [FloatOps F]
-- ==== KernelSwigluFwd.lean ====
abbrev S8192x6144 : Shape := ⟨2, ![8192, 6144]⟩
abbrev S8192x3072 : Shape := ⟨2, ![8192, 3072]⟩
abbrev S256x3072 : Shape := ⟨2, ![256, 3072]⟩

abbrev nBuf : Space → Nat
  | .hbm => 2
  | .vmem => 6
  | .smem => 0
  | _ => 0

abbrev bufTy : (tb : Table) → Fin (tcTables nBuf tb) → BufTy
  | .hbm, ⟨0, _⟩ => ⟨S8192x6144, .f32⟩
  | .hbm, ⟨1, _⟩ => ⟨S8192x3072, .bf16⟩
  | .local _ .vmem, ⟨0, _⟩ => ⟨S256x3072, .f32⟩
  | .local _ .vmem, ⟨1, _⟩ => ⟨S256x3072, .f32⟩
  | .local _ .vmem, ⟨2, _⟩ => ⟨S256x3072, .f32⟩
  | .local _ .vmem, ⟨3, _⟩ => ⟨S256x3072, .f32⟩
  | .local _ .vmem, ⟨4, _⟩ => ⟨S256x3072, .bf16⟩
  | .local _ .vmem, ⟨5, _⟩ => ⟨S256x3072, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceSwigluFwdIdeal.lean ====
abbrev S8192x6144 : Shape := ⟨2, ![8192, 6144]⟩
abbrev S8192x3072 : Shape := ⟨2, ![8192, 3072]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .f32⟩
  | .hbm, ⟨5, _⟩ => ⟨S_, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S8192x3072, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== KernelSwigluBwd.lean ====
abbrev S8192x6144 : Shape := ⟨2, ![8192, 6144]⟩
abbrev S8192x3072 : Shape := ⟨2, ![8192, 3072]⟩
abbrev S256x3072 : Shape := ⟨2, ![256, 3072]⟩
abbrev S256x6144 : Shape := ⟨2, ![256, 6144]⟩

abbrev nBuf : Space → Nat
  | .hbm => 3
  | .vmem => 8
  | .smem => 0
  | _ => 0

abbrev bufTy : (tb : Table) → Fin (tcTables nBuf tb) → BufTy
  | .hbm, ⟨0, _⟩ => ⟨S8192x6144, .f32⟩
  | .hbm, ⟨1, _⟩ => ⟨S8192x3072, .f32⟩
  | .hbm, ⟨2, _⟩ => ⟨S8192x6144, .bf16⟩
  | .local _ .vmem, ⟨0, _⟩ => ⟨S256x3072, .f32⟩
  | .local _ .vmem, ⟨1, _⟩ => ⟨S256x3072, .f32⟩
  | .local _ .vmem, ⟨2, _⟩ => ⟨S256x3072, .f32⟩
  | .local _ .vmem, ⟨3, _⟩ => ⟨S256x3072, .f32⟩
  | .local _ .vmem, ⟨4, _⟩ => ⟨S256x3072, .f32⟩
  | .local _ .vmem, ⟨5, _⟩ => ⟨S256x3072, .f32⟩
  | .local _ .vmem, ⟨6, _⟩ => ⟨S256x6144, .bf16⟩
  | .local _ .vmem, ⟨7, _⟩ => ⟨S256x6144, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceSwigluBwdIdeal.lean ====
abbrev S8192x6144 : Shape := ⟨2, ![8192, 6144]⟩
abbrev S8192x3072 : Shape := ⟨2, ![8192, 3072]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S_, .f32⟩
  | .hbm, ⟨7, _⟩ => ⟨S8192x3072, .f32⟩
  | .hbm, ⟨8, _⟩ => ⟨S8192x3072, .f32⟩
  | .hbm, ⟨9, _⟩ => ⟨S_, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x6144, .f32⟩
  | .hbm, ⟨25, _⟩ => ⟨S8192x6144, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== KernelLnFwd.lean ====
abbrev S8192x1024 : Shape := ⟨2, ![8192, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceLnFwdIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelXattnFwd.lean ====
abbrev S8192x1024 : Shape := ⟨2, ![8192, 1024]⟩
abbrev S512x1024 : Shape := ⟨2, ![512, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S512x1024, .bf16⟩
  | .hbm, ⟨3, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S1024x256, .bf16⟩
  | .local _ .vmem, ⟨7, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceXattnFwdIdeal.lean ====
abbrev S8192x1024 : Shape := ⟨2, ![8192, 1024]⟩
abbrev S512x1024 : Shape := ⟨2, ![512, 1024]⟩
abbrev S2x4096x4x256 : Shape := ⟨4, ![2, 4096, 4, 256]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S512x1024, .bf16⟩
  | .hbm, ⟨3, _⟩ => ⟨S8192x1024, .f32⟩
  | .hbm, ⟨4, _⟩ => ⟨S512x1024, .f32⟩
  | .hbm, ⟨5, _⟩ => ⟨S512x1024, .f32⟩
  | .hbm, ⟨6, _⟩ => ⟨S2x4096x4x256, .f32⟩
  | .hbm, ⟨7, _⟩ => ⟨S2x256x4x256, .f32⟩
  | .hbm, ⟨8, _⟩ => ⟨S2x256x4x256, .f32⟩
  | .hbm, ⟨9, _⟩ => ⟨S2x4x4096x256, .f32⟩
  | .hbm, ⟨10, _⟩ => ⟨S_, .f32⟩
  | .hbm, ⟨11, _⟩ => ⟨S2x4x4096x256, .f32⟩
  | .hbm, ⟨12, _⟩ => ⟨S2x4x4096x256, .f32⟩
  | .hbm, ⟨13, _⟩ => ⟨S_, .f32⟩
  | .hbm, ⟨14, _⟩ => ⟨S2x4x4096, .f32⟩
  | .hbm, ⟨15, _⟩ => ⟨S_, .f32⟩
  | .hbm, ⟨16, _⟩ => ⟨S2x4x4096, .f32⟩
  | .hbm, ⟨17, _⟩ => ⟨S2x4x4096, .f32⟩
  | .hbm, ⟨18, _⟩ => ⟨S2x4x4096x1, .f32⟩
  | .hbm, ⟨19, _⟩ => ⟨S2x4x4096x256, .f32⟩
  | .hbm, ⟨20, _⟩ => ⟨S2x4x4096x256, .f32⟩
  | .hbm, ⟨21, _⟩ => ⟨S2x4x4096x256, .f32⟩
  | .hbm, ⟨22, _⟩ => ⟨S_, .f32⟩
  | .hbm, ⟨23, _⟩ => ⟨S2x4x4096, .f32⟩
  | .hbm, ⟨24, _⟩ => ⟨S2x4x4096x1, .f32⟩
  | .hbm, ⟨25, _⟩ => ⟨S2x4x4096x256, .f32⟩
  | .hbm, ⟨26, _⟩ => ⟨S2x4x4096x256, .f32⟩
  | .hbm, ⟨27, _⟩ => ⟨S2x4x256x4096, .f32⟩
  | .hbm, ⟨28, _⟩ => ⟨S2x4096x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== KernelFfnInDx0.lean ====
abbrev S8192x6144 : Shape := ⟨2, ![8192, 6144]⟩
abbrev S4x1024x6144 : Shape := ⟨3, ![4, 1024, 6144]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S4x1024x6144, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFfnInDx0Ideal.lean ====
abbrev S8192x6144 : Shape := ⟨2, ![8192, 6144]⟩
abbrev S4x1024x6144 : Shape := ⟨3, ![4, 1024, 6144]⟩
abbrev S8192x1024 : Shape := ⟨2, ![8192, 1024]⟩
abbrev S1x1024x6144 : Shape := ⟨3, ![1, 1024, 6144]⟩
abbrev S1024x6144 : Shape := ⟨2, ![1024, 6144]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x1024x6144, .bf16⟩
  | .hbm, ⟨2, _⟩ => ⟨S8192x1024, .f32⟩
  | .hbm, ⟨3, _⟩ => ⟨S1x1024x6144, .bf16⟩
  | .hbm, ⟨4, _⟩ => ⟨S1024x6144, .bf16⟩
  | .hbm, ⟨5, _⟩ => ⟨S_, .f32⟩
  | .hbm, ⟨6, _⟩ => ⟨S8192x1024, .f32⟩
  | .hbm, ⟨7, _⟩ => ⟨S1024x6144, .f32⟩
  | .hbm, ⟨8, _⟩ => ⟨S8192x6144, .f32⟩
  | .hbm, ⟨9, _⟩ => ⟨S8192x6144, .f32⟩
  | .hbm, ⟨10, _⟩ => ⟨S8192x1024, .f32⟩
  | .hbm, ⟨11, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelFfnInDx1.lean ====
abbrev S8192x6144 : Shape := ⟨2, ![8192, 6144]⟩
abbrev S4x1024x6144 : Shape := ⟨3, ![4, 1024, 6144]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S4x1024x6144, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFfnInDx1Ideal.lean ====
abbrev S8192x6144 : Shape := ⟨2, ![8192, 6144]⟩
abbrev S4x1024x6144 : Shape := ⟨3, ![4, 1024, 6144]⟩
abbrev S8192x1024 : Shape := ⟨2, ![8192, 1024]⟩
abbrev S1x1024x6144 : Shape := ⟨3, ![1, 1024, 6144]⟩
abbrev S1024x6144 : Shape := ⟨2, ![1024, 6144]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x1024x6144, .bf16⟩
  | .hbm, ⟨2, _⟩ => ⟨S8192x1024, .f32⟩
  | .hbm, ⟨3, _⟩ => ⟨S1x1024x6144, .bf16⟩
  | .hbm, ⟨4, _⟩ => ⟨S1024x6144, .bf16⟩
  | .hbm, ⟨5, _⟩ => ⟨S_, .f32⟩
  | .hbm, ⟨6, _⟩ => ⟨S8192x1024, .f32⟩
  | .hbm, ⟨7, _⟩ => ⟨S1024x6144, .f32⟩
  | .hbm, ⟨8, _⟩ => ⟨S8192x6144, .f32⟩
  | .hbm, ⟨9, _⟩ => ⟨S8192x6144, .f32⟩
  | .hbm, ⟨10, _⟩ => ⟨S8192x1024, .f32⟩
  | .hbm, ⟨11, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelFfnInDx2.lean ====
abbrev S8192x6144 : Shape := ⟨2, ![8192, 6144]⟩
abbrev S4x1024x6144 : Shape := ⟨3, ![4, 1024, 6144]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S4x1024x6144, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFfnInDx2Ideal.lean ====
abbrev S8192x6144 : Shape := ⟨2, ![8192, 6144]⟩
abbrev S4x1024x6144 : Shape := ⟨3, ![4, 1024, 6144]⟩
abbrev S8192x1024 : Shape := ⟨2, ![8192, 1024]⟩
abbrev S1x1024x6144 : Shape := ⟨3, ![1, 1024, 6144]⟩
abbrev S1024x6144 : Shape := ⟨2, ![1024, 6144]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x1024x6144, .bf16⟩
  | .hbm, ⟨2, _⟩ => ⟨S8192x1024, .f32⟩
  | .hbm, ⟨3, _⟩ => ⟨S1x1024x6144, .bf16⟩
  | .hbm, ⟨4, _⟩ => ⟨S1024x6144, .bf16⟩
  | .hbm, ⟨5, _⟩ => ⟨S_, .f32⟩
  | .hbm, ⟨6, _⟩ => ⟨S8192x1024, .f32⟩
  | .hbm, ⟨7, _⟩ => ⟨S1024x6144, .f32⟩
  | .hbm, ⟨8, _⟩ => ⟨S8192x6144, .f32⟩
  | .hbm, ⟨9, _⟩ => ⟨S8192x6144, .f32⟩
  | .hbm, ⟨10, _⟩ => ⟨S8192x1024, .f32⟩
  | .hbm, ⟨11, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelFfnInDx3.lean ====
abbrev S8192x6144 : Shape := ⟨2, ![8192, 6144]⟩
abbrev S4x1024x6144 : Shape := ⟨3, ![4, 1024, 6144]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S4x1024x6144, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFfnInDx3Ideal.lean ====
abbrev S8192x6144 : Shape := ⟨2, ![8192, 6144]⟩
abbrev S4x1024x6144 : Shape := ⟨3, ![4, 1024, 6144]⟩
abbrev S8192x1024 : Shape := ⟨2, ![8192, 1024]⟩
abbrev S1x1024x6144 : Shape := ⟨3, ![1, 1024, 6144]⟩
abbrev S1024x6144 : Shape := ⟨2, ![1024, 6144]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x1024x6144, .bf16⟩
  | .hbm, ⟨2, _⟩ => ⟨S8192x1024, .f32⟩
  | .hbm, ⟨3, _⟩ => ⟨S1x1024x6144, .bf16⟩
  | .hbm, ⟨4, _⟩ => ⟨S1024x6144, .bf16⟩
  | .hbm, ⟨5, _⟩ => ⟨S_, .f32⟩
  | .hbm, ⟨6, _⟩ => ⟨S8192x1024, .f32⟩
  | .hbm, ⟨7, _⟩ => ⟨S1024x6144, .f32⟩
  | .hbm, ⟨8, _⟩ => ⟨S8192x6144, .f32⟩
  | .hbm, ⟨9, _⟩ => ⟨S8192x6144, .f32⟩
  | .hbm, ⟨10, _⟩ => ⟨S8192x1024, .f32⟩
  | .hbm, ⟨11, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelFfnOut0.lean ====
abbrev S8192x3072 : Shape := ⟨2, ![8192, 3072]⟩
abbrev S4x3072x1024 : Shape := ⟨3, ![4, 3072, 1024]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S4x3072x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnOut0Ideal.lean ====
abbrev S8192x3072 : Shape := ⟨2, ![8192, 3072]⟩
abbrev S4x3072x1024 : Shape := ⟨3, ![4, 3072, 1024]⟩
abbrev S1x3072x1024 : Shape := ⟨3, ![1, 3072, 1024]⟩
abbrev S3072x1024 : Shape := ⟨2, ![3072, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x3072x1024, .bf16⟩
  | .hbm, ⟨2, _⟩ => ⟨S8192x3072, .f32⟩
  | .hbm, ⟨3, _⟩ => ⟨S1x3072x1024, .bf16⟩
  | .hbm, ⟨4, _⟩ => ⟨S3072x1024, .bf16⟩
  | .hbm, ⟨5, _⟩ => ⟨S3072x1024, .f32⟩
  | .hbm, ⟨6, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelFfnOut1.lean ====
abbrev S8192x3072 : Shape := ⟨2, ![8192, 3072]⟩
abbrev S4x3072x1024 : Shape := ⟨3, ![4, 3072, 1024]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S4x3072x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnOut1Ideal.lean ====
abbrev S8192x3072 : Shape := ⟨2, ![8192, 3072]⟩
abbrev S4x3072x1024 : Shape := ⟨3, ![4, 3072, 1024]⟩
abbrev S1x3072x1024 : Shape := ⟨3, ![1, 3072, 1024]⟩
abbrev S3072x1024 : Shape := ⟨2, ![3072, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x3072x1024, .bf16⟩
  | .hbm, ⟨2, _⟩ => ⟨S8192x3072, .f32⟩
  | .hbm, ⟨3, _⟩ => ⟨S1x3072x1024, .bf16⟩
  | .hbm, ⟨4, _⟩ => ⟨S3072x1024, .bf16⟩
  | .hbm, ⟨5, _⟩ => ⟨S3072x1024, .f32⟩
  | .hbm, ⟨6, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelFfnOut2.lean ====
abbrev S8192x3072 : Shape := ⟨2, ![8192, 3072]⟩
abbrev S4x3072x1024 : Shape := ⟨3, ![4, 3072, 1024]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S4x3072x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnOut2Ideal.lean ====
abbrev S8192x3072 : Shape := ⟨2, ![8192, 3072]⟩
abbrev S4x3072x1024 : Shape := ⟨3, ![4, 3072, 1024]⟩
abbrev S1x3072x1024 : Shape := ⟨3, ![1, 3072, 1024]⟩
abbrev S3072x1024 : Shape := ⟨2, ![3072, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x3072x1024, .bf16⟩
  | .hbm, ⟨2, _⟩ => ⟨S8192x3072, .f32⟩
  | .hbm, ⟨3, _⟩ => ⟨S1x3072x1024, .bf16⟩
  | .hbm, ⟨4, _⟩ => ⟨S3072x1024, .bf16⟩
  | .hbm, ⟨5, _⟩ => ⟨S3072x1024, .f32⟩
  | .hbm, ⟨6, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelFfnOut3.lean ====
abbrev S8192x3072 : Shape := ⟨2, ![8192, 3072]⟩
abbrev S4x3072x1024 : Shape := ⟨3, ![4, 3072, 1024]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S4x3072x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnOut3Ideal.lean ====
abbrev S8192x3072 : Shape := ⟨2, ![8192, 3072]⟩
abbrev S4x3072x1024 : Shape := ⟨3, ![4, 3072, 1024]⟩
abbrev S1x3072x1024 : Shape := ⟨3, ![1, 3072, 1024]⟩
abbrev S3072x1024 : Shape := ⟨2, ![3072, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x3072x1024, .bf16⟩
  | .hbm, ⟨2, _⟩ => ⟨S8192x3072, .f32⟩
  | .hbm, ⟨3, _⟩ => ⟨S1x3072x1024, .bf16⟩
  | .hbm, ⟨4, _⟩ => ⟨S3072x1024, .bf16⟩
  | .hbm, ⟨5, _⟩ => ⟨S3072x1024, .f32⟩
  | .hbm, ⟨6, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelQkvProjDx0.lean ====
abbrev S3072x8192 : Shape := ⟨2, ![3072, 8192]⟩
abbrev S2x3072x1024 : Shape := ⟨3, ![2, 3072, 1024]⟩
abbrev S8192x1024 : Shape := ⟨2, ![8192, 1024]⟩
abbrev S512x512 : Shape := ⟨2, ![512, 512]⟩
abbrev S1x512x1024 : Shape := ⟨3, ![1, 512, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S3072x8192, .bf16⟩
  | .hbm, ⟨1, _⟩ => ⟨S2x3072x1024, .bf16⟩
  | .hbm, ⟨2, _⟩ => ⟨S8192x1024, .f32⟩
  | .hbm, ⟨3, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceQkvProjDx0Ideal.lean ====
abbrev S3072x8192 : Shape := ⟨2, ![3072, 8192]⟩
abbrev S2x3072x1024 : Shape := ⟨3, ![2, 3072, 1024]⟩
abbrev S8192x1024 : Shape := ⟨2, ![8192, 1024]⟩
abbrev S1x3072x1024 : Shape := ⟨3, ![1, 3072, 1024]⟩
abbrev S3072x1024 : Shape := ⟨2, ![3072, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S3072x8192, .bf16⟩
  | .hbm, ⟨1, _⟩ => ⟨S2x3072x1024, .bf16⟩
  | .hbm, ⟨2, _⟩ => ⟨S8192x1024, .f32⟩
  | .hbm, ⟨3, _⟩ => ⟨S1x3072x1024, .bf16⟩
  | .hbm, ⟨4, _⟩ => ⟨S3072x1024, .bf16⟩
  | .hbm, ⟨5, _⟩ => ⟨S1024x3072, .bf16⟩
  | .hbm, ⟨6, _⟩ => ⟨S8192x3072, .bf16⟩
  | .hbm, ⟨7, _⟩ => ⟨S_, .f32⟩
  | .hbm, ⟨8, _⟩ => ⟨S8192x1024, .f32⟩
  | .hbm, ⟨9, _⟩ => ⟨S1024x3072, .f32⟩
  | .hbm, ⟨10, _⟩ => ⟨S8192x3072, .f32⟩
  | .hbm, ⟨11, _⟩ => ⟨S8192x3072, .f32⟩
  | .hbm, ⟨12, _⟩ => ⟨S8192x1024, .f32⟩
  | .hbm, ⟨13, _⟩ => ⟨S8192x1024, .f32⟩
  | _, _ => ⟨S3072x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelQkvProjDx1.lean ====
abbrev S3072x8192 : Shape := ⟨2, ![3072, 8192]⟩
abbrev S2x3072x1024 : Shape := ⟨3, ![2, 3072, 1024]⟩
abbrev S8192x1024 : Shape := ⟨2, ![8192, 1024]⟩
abbrev S512x512 : Shape := ⟨2, ![512, 512]⟩
abbrev S1x512x1024 : Shape := ⟨3, ![1, 512, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S3072x8192, .bf16⟩
  | .hbm, ⟨1, _⟩ => ⟨S2x3072x1024, .bf16⟩
  | .hbm, ⟨2, _⟩ => ⟨S8192x1024, .f32⟩
  | .hbm, ⟨3, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceQkvProjDx1Ideal.lean ====
abbrev S3072x8192 : Shape := ⟨2, ![3072, 8192]⟩
abbrev S2x3072x1024 : Shape := ⟨3, ![2, 3072, 1024]⟩
abbrev S8192x1024 : Shape := ⟨2, ![8192, 1024]⟩
abbrev S1x3072x1024 : Shape := ⟨3, ![1, 3072, 1024]⟩
abbrev S3072x1024 : Shape := ⟨2, ![3072, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S3072x8192, .bf16⟩
  | .hbm, ⟨1, _⟩ => ⟨S2x3072x1024, .bf16⟩
  | .hbm, ⟨2, _⟩ => ⟨S8192x1024, .f32⟩
  | .hbm, ⟨3, _⟩ => ⟨S1x3072x1024, .bf16⟩
  | .hbm, ⟨4, _⟩ => ⟨S3072x1024, .bf16⟩
  | .hbm, ⟨5, _⟩ => ⟨S1024x3072, .bf16⟩
  | .hbm, ⟨6, _⟩ => ⟨S8192x3072, .bf16⟩
  | .hbm, ⟨7, _⟩ => ⟨S_, .f32⟩
  | .hbm, ⟨8, _⟩ => ⟨S8192x1024, .f32⟩
  | .hbm, ⟨9, _⟩ => ⟨S1024x3072, .f32⟩
  | .hbm, ⟨10, _⟩ => ⟨S8192x3072, .f32⟩
  | .hbm, ⟨11, _⟩ => ⟨S8192x3072, .f32⟩
  | .hbm, ⟨12, _⟩ => ⟨S8192x1024, .f32⟩
  | .hbm, ⟨13, _⟩ => ⟨S8192x1024, .f32⟩
  | _, _ => ⟨S3072x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelInProjDx0.lean ====
abbrev S8192x2048 : Shape := ⟨2, ![8192, 2048]⟩
abbrev S2x1024x2048 : Shape := ⟨3, ![2, 1024, 2048]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x1024x2048, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceInProjDx0Ideal.lean ====
abbrev S8192x2048 : Shape := ⟨2, ![8192, 2048]⟩
abbrev S2x1024x2048 : Shape := ⟨3, ![2, 1024, 2048]⟩
abbrev S8192x1024 : Shape := ⟨2, ![8192, 1024]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x1024x2048, .bf16⟩
  | .hbm, ⟨2, _⟩ => ⟨S8192x1024, .f32⟩
  | .hbm, ⟨3, _⟩ => ⟨S1x1024x2048, .bf16⟩
  | .hbm, ⟨4, _⟩ => ⟨S1024x2048, .bf16⟩
  | .hbm, ⟨5, _⟩ => ⟨S_, .f32⟩
  | .hbm, ⟨6, _⟩ => ⟨S8192x1024, .f32⟩
  | .hbm, ⟨7, _⟩ => ⟨S1024x2048, .f32⟩
  | .hbm, ⟨8, _⟩ => ⟨S8192x2048, .f32⟩
  | .hbm, ⟨9, _⟩ => ⟨S8192x2048, .f32⟩
  | .hbm, ⟨10, _⟩ => ⟨S8192x1024, .f32⟩
  | .hbm, ⟨11, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelInProjDx1.lean ====
abbrev S8192x2048 : Shape := ⟨2, ![8192, 2048]⟩
abbrev S2x1024x2048 : Shape := ⟨3, ![2, 1024, 2048]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x1024x2048, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceInProjDx1Ideal.lean ====
abbrev S8192x2048 : Shape := ⟨2, ![8192, 2048]⟩
abbrev S2x1024x2048 : Shape := ⟨3, ![2, 1024, 2048]⟩
abbrev S8192x1024 : Shape := ⟨2, ![8192, 1024]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x1024x2048, .bf16⟩
  | .hbm, ⟨2, _⟩ => ⟨S8192x1024, .f32⟩
  | .hbm, ⟨3, _⟩ => ⟨S1x1024x2048, .bf16⟩
  | .hbm, ⟨4, _⟩ => ⟨S1024x2048, .bf16⟩
  | .hbm, ⟨5, _⟩ => ⟨S_, .f32⟩
  | .hbm, ⟨6, _⟩ => ⟨S8192x1024, .f32⟩
  | .hbm, ⟨7, _⟩ => ⟨S1024x2048, .f32⟩
  | .hbm, ⟨8, _⟩ => ⟨S8192x2048, .f32⟩
  | .hbm, ⟨9, _⟩ => ⟨S8192x2048, .f32⟩
  | .hbm, ⟨10, _⟩ => ⟨S8192x1024, .f32⟩
  | .hbm, ⟨11, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelSbOutProj0.lean ====
abbrev S1024x8192 : Shape := ⟨2, ![1024, 8192]⟩
abbrev S2x1024x1024 : Shape := ⟨3, ![2, 1024, 1024]⟩
abbrev S8192x1024 : Shape := ⟨2, ![8192, 1024]⟩
abbrev S512x512 : Shape := ⟨2, ![512, 512]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S2x1024x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSbOutProj0Ideal.lean ====
abbrev S1024x8192 : Shape := ⟨2, ![1024, 8192]⟩
abbrev S2x1024x1024 : Shape := ⟨3, ![2, 1024, 1024]⟩
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S2x1024x1024, .bf16⟩
  | .hbm, ⟨2, _⟩ => ⟨S8192x1024, .bf16⟩
  | .hbm, ⟨3, _⟩ => ⟨S8192x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelSbOutProj1.lean ====
abbrev S1024x8192 : Shape := ⟨2, ![1024, 8192]⟩
abbrev S2x1024x1024 : Shape := ⟨3, ![2, 1024, 1024]⟩
abbrev S8192x1024 : Shape := ⟨2, ![8192, 1024]⟩
abbrev S512x512 : Shape := ⟨2, ![512, 512]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S2x1024x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSbOutProj1Ideal.lean ====
abbrev S1024x8192 : Shape := ⟨2, ![1024, 8192]⟩
abbrev S2x1024x1024 : Shape := ⟨3, ![2, 1024, 1024]⟩
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S2x1024x1024, .bf16⟩
  | .hbm, ⟨2, _⟩ => ⟨S8192x1024, .bf16⟩
  | .hbm, ⟨3, _⟩ => ⟨S8192x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Spec.lean ====
module

public import Idealize.ShloMosaic.Lib.ValueIdx
public import Idealize.ShloMosaic.Lib.Pointwise

@[expose] public section

/-! The gradient of the chunked gMLP mixer, entry by entry, over the extended reals. -/

noncomputable section

namespace Gmlp

open Idealize.ShloMosaic

/-- One half. -/
abbrev half : EReal := Ideal.ofBits .f32 0x3F000000#32
/-- The single precision number next to `1 / √2`. -/
abbrev rt2 : EReal := Ideal.ofBits .f32 0x3F3504F3#32
/-- The width of a group, 128. -/
abbrev width : EReal := Ideal.ofBits .f32 0x43000000#32
/-- The layer norm's `ε`. -/
abbrev eps : EReal := Ideal.ofBits .f32 0x3727C5AC#32
/-- Minus one half. -/
abbrev mhalf : EReal := Ideal.ofBits .f32 0xBF000000#32
/-- The single precision number next to `2 / √π`. -/
abbrev c2 : EReal := Ideal.ofBits .f32 0x3F906EBB#32

/-- GELU with the error function. -/
def gel (x : EReal) : EReal := half * x * (1 + Ideal.erf (x * rt2))

/-- The gradient of GELU at `x`, times the incoming `g`. -/
def dgel (x g : EReal) : EReal :=
  c2 * (half * x * g) * Ideal.exp (0 - x * rt2 * (x * rt2)) * rt2 + half * (g * (1 + Ideal.erf (x * rt2)))

/-- The centred GELU of a row of a group. -/
def zc (v : Fin 128 → EReal) (d : Fin 128) : EReal := gel (v d) - Ideal.div (∑ k : Fin 128, gel (v k)) width

/-- The row's variance plus `ε`. -/
def den (v : Fin 128 → EReal) : EReal := Ideal.div (∑ k : Fin 128, zc v k * zc v k) width + eps

/-- The reciprocal root of `den`. -/
def rs (v : Fin 128 → EReal) : EReal := Ideal.rsqrt (den v)

/-- The normalised row, before its gain and bias. -/
def yh (v : Fin 128 → EReal) (d : Fin 128) : EReal := zc v d * rs v

/-- The normalised row. -/
def vn (v lg lb : Fin 128 → EReal) (d : Fin 128) : EReal := yh v d * lg d + lb d

/-- The causal part of a group's mixing matrix. -/
def wm (W : Fin 128 → Fin 128 → EReal) (t s : Fin 128) : EReal := if s.val ≤ t.val then W t s else 0

/-- The mixed rows of a chunk. -/
def mix (W : Fin 128 → Fin 128 → EReal) (bs : Fin 128 → EReal) (v : Fin 128 → Fin 128 → EReal) (lg lb : Fin 128 → EReal)
    (t d : Fin 128) : EReal := (∑ s : Fin 128, wm W t s * vn (v s) lg lb d) + bs t

/-- The gradient that reaches the mixed rows. -/
def ct (u dy : Fin 128 → Fin 128 → EReal) (t d : Fin 128) : EReal := gel (u t d) * dy t d

/-- The gradient that reaches the normalised rows. -/
def dvn (W u dy : Fin 128 → Fin 128 → EReal) (s d : Fin 128) : EReal := ∑ t : Fin 128, wm W t s * ct u dy t d

/-- The layer norm's gradient of a row before the row's mean is taken off: `g` reaches the normalised row. -/
def dw (v lg g : Fin 128 → EReal) (d : Fin 128) : EReal :=
  g d * lg d * rs v
    + zc v d * Ideal.div ((∑ k : Fin 128, zc v k * (g k * lg k)) * (mhalf * Ideal.div (rs v) (den v))) width
    + Ideal.div ((∑ k : Fin 128, zc v k * (g k * lg k)) * (mhalf * Ideal.div (rs v) (den v))) width * zc v d

/-- The layer norm's gradient of a row. -/
def dz (v lg g : Fin 128 → EReal) (d : Fin 128) : EReal :=
  dw v lg g d + Ideal.div (∑ k : Fin 128, (0 - dw v lg g k)) width

/-- The call's arguments: the projected activations, the layer norm's gain and bias, the mixing matrices and biases, and the
incoming gradient. -/
structure Args where
  hin : (⟨2, ![8192, 2048]⟩ : Shape).Idx → EReal
  lg : (⟨1, ![512]⟩ : Shape).Idx → EReal
  lb : (⟨1, ![512]⟩ : Shape).Idx → EReal
  ws : (⟨3, ![4, 128, 128]⟩ : Shape).Idx → EReal
  bs : (⟨2, ![4, 128]⟩ : Shape).Idx → EReal
  dy : (⟨2, ![8192, 1024]⟩ : Shape).Idx → EReal

namespace Args

variable (A : Args)

/-- Row `t` of chunk `K`. -/
abbrev row (K : Fin 64) (t : Fin 128) : Fin 8192 := ⟨128 * K.val + t.val, by omega⟩

/-- Column `d` of group `g`. -/
abbrev col (g : Fin 4) (d : Fin 128) : Fin 512 := ⟨128 * g.val + d.val, by omega⟩

/-- Group `g` of the rows of `u` in chunk `K`. -/
def u (g : Fin 4) (K : Fin 64) (t d : Fin 128) : EReal := A.hin (ix2 (row K t) ⟨128 * g.val + d.val, by omega⟩)
/-- Group `g` of the rows of `v` in chunk `K`. -/
def v (g : Fin 4) (K : Fin 64) (t d : Fin 128) : EReal := A.hin (ix2 (row K t) ⟨512 + (128 * g.val + d.val), by omega⟩)
/-- Group `g` of the incoming gradient in chunk `K`. -/
def g (g : Fin 4) (K : Fin 64) (t d : Fin 128) : EReal := A.dy (ix2 (row K t) ⟨128 * g.val + d.val, by omega⟩)
/-- The gain of group `g`. -/
def gain (g : Fin 4) (d : Fin 128) : EReal := A.lg (ix1 (col g d))
/-- The bias of group `g`. -/
def bias (g : Fin 4) (d : Fin 128) : EReal := A.lb (ix1 (col g d))
/-- The mixing matrix of group `g`. -/
def W (g : Fin 4) (t s : Fin 128) : EReal := A.ws (ix3 g t s)
/-- The mixing bias of group `g`. -/
def b (g : Fin 4) (t : Fin 128) : EReal := A.bs (ix2 g t)

/-- The gradient of `u`. -/
def du (g : Fin 4) (K : Fin 64) (t d : Fin 128) : EReal :=
  dgel (A.u g K t d) (A.g g K t d * mix (A.W g) (A.b g) (A.v g K) (A.gain g) (A.bias g) t d)

/-- The gradient at the normalised rows. -/
def dvn (g : Fin 4) (K : Fin 64) (t d : Fin 128) : EReal := Gmlp.dvn (A.W g) (A.u g K) (A.g g K) t d

/-- The gradient of `v`. -/
def dv (g : Fin 4) (K : Fin 64) (t d : Fin 128) : EReal :=
  dgel (A.v g K t d) (dz (A.v g K t) (A.gain g) (A.dvn g K t) d)

/-- Chunk `K`'s share of the gradient of the layer norm's gain. -/
def dgain (g : Fin 4) (d : Fin 128) (K : Fin 64) : EReal := ∑ t : Fin 128, yh (A.v g K t) d * A.dvn g K t d

/-- Chunk `K`'s share of the gradient of the layer norm's bias. -/
def dbias (g : Fin 4) (d : Fin 128) (K : Fin 64) : EReal := ∑ t : Fin 128, A.dvn g K t d

/-- Chunk `K`'s share of the gradient of the mixing matrix (below and on the diagonal). -/
def dW (g : Fin 4) (t s : Fin 128) (K : Fin 64) : EReal :=
  ∑ d : Fin 128, ct (A.u g K) (A.g g K) t d * vn (A.v g K s) (A.gain g) (A.bias g) d

/-- Chunk `K`'s share of the gradient of the mixing bias. -/
def db (g : Fin 4) (t : Fin 128) (K : Fin 64) : EReal := ∑ d : Fin 128, ct (A.u g K) (A.g g K) t d

/-- An array over rows and columns from its entries by group, chunk, row and column. -/
def plane (f : Fin 4 → Fin 64 → Fin 128 → Fin 128 → EReal) (j : (⟨2, ![8192, 512]⟩ : Shape).Idx) : EReal :=
  f ⟨(j 1).val / 128, by have h : (j 1).val < 512 := (j 1).isLt; omega⟩
    ⟨(j 0).val / 128, by have h : (j 0).val < 8192 := (j 0).isLt; omega⟩
    ⟨(j 0).val % 128, Nat.mod_lt _ (by norm_num)⟩ ⟨(j 1).val % 128, Nat.mod_lt _ (by norm_num)⟩

/-- A row vector over the columns from its entries by group and column. -/
def line (f : Fin 4 → Fin 128 → EReal) (j : (⟨2, ![1, 512]⟩ : Shape).Idx) : EReal :=
  f ⟨(j 1).val / 128, by have h : (j 1).val < 512 := (j 1).isLt; omega⟩ ⟨(j 1).val % 128, Nat.mod_lt _ (by norm_num)⟩

/-- An array that agrees with `f` at every group, chunk, row and column is `plane f`. -/
theorem eq_plane (x : (⟨2, ![8192, 512]⟩ : Shape).Idx → EReal) (f : Fin 4 → Fin 64 → Fin 128 → Fin 128 → EReal)
    (h : ∀ g K t d, x (ix2 (row K t) (col g d)) = f g K t d) : x = plane f := by
  funext j
  obtain ⟨r, k, rfl⟩ : ∃ r k, j = ix2 r k := ⟨j 0, j 1, ValueIdx.eq_ix2 j⟩
  unfold plane
  rw [← h]
  congr 2 <;> exact Fin.ext (Nat.div_add_mod _ 128).symm

/-- A row vector that agrees with `f` at every group and column is `line f`. -/
theorem eq_line (x : (⟨2, ![1, 512]⟩ : Shape).Idx → EReal) (f : Fin 4 → Fin 128 → EReal)
    (h : ∀ g d, x (ix2 0 (col g d)) = f g d) : x = line f := by
  funext j
  obtain ⟨r, k, rfl⟩ : ∃ r k, j = ix2 r k := ⟨j 0, j 1, ValueIdx.eq_ix2 j⟩
  obtain rfl : r = 0 := Subsingleton.elim _ _
  unfold line
  rw [← h]
  congr 2
  exact Fin.ext (Nat.div_add_mod _ 128).symm

/-- The six results. -/
def duR : (⟨2, ![8192, 512]⟩ : Shape).Idx → EReal := plane A.du
def dvR : (⟨2, ![8192, 512]⟩ : Shape).Idx → EReal := plane A.dv
def dgainR : (⟨2, ![1, 512]⟩ : Shape).Idx → EReal := line fun g d => ∑ K : Fin 64, A.dgain g d K
def dbiasR : (⟨2, ![1, 512]⟩ : Shape).Idx → EReal := line fun g d => ∑ K : Fin 64, A.dbias g d K
def dWR (j : (⟨3, ![4, 128, 128]⟩ : Shape).Idx) : EReal :=
  if (j 2).val ≤ (j 1).val then ∑ K : Fin 64, A.dW (j 0) (j 1) (j 2) K else 0
def dbR (j : (⟨3, ![4, 128, 1]⟩ : Shape).Idx) : EReal := ∑ K : Fin 64, A.db (j 0) (j 1) K

end Args

/-- A sum over the chunks, tile by tile. -/
def tiles (f : Fin 64 → EReal) (j : ℕ) : EReal :=
  if h : j < 16 then ∑ q : Fin 4, f ⟨4 * j + q.val, by omega⟩ else 0

theorem tiles_sum (f : Fin 64 → EReal) : ∑ j ∈ Finset.range 16, tiles f j = ∑ K : Fin 64, f K := by
  rw [Finset.sum_range, ← Equiv.sum_comp (finProdFinEquiv (m := 16) (n := 4)) f, Fintype.sum_prod_type]
  refine Finset.sum_congr rfl fun i _ => ?_
  unfold tiles
  rw [dif_pos i.isLt]
  refine Finset.sum_congr rfl fun q _ => congrArg f (Fin.ext ?_)
  simp [finProdFinEquiv]; omega

end Gmlp

end
-- ==== Proof.Tile.lean ====
module

public import proofs.«01_k».proof.Proof.Gen.KernelIdeal.Skeleton
public import proofs.«01_k».proof.Proof.Spec
public import Idealize.ShloMosaic.Lib.WordCmp

@[expose] public section

set_option maxRecDepth 16384

/-! What the kernel computes from one tile (four chunks of one group), entry by entry. -/

noncomputable section

namespace Gmlp

open Idealize.ShloMosaic Cert.KernelIdeal Cert.KernelIdeal.Gen

/-- Row `t` of chunk `q` of a tile. -/
abbrev trow (q : Fin 4) (t : Fin 128) : Fin 512 := ⟨128 * q.val + t.val, by omega⟩

/-- Chunk `q` of a tile. -/
abbrev ch (x : Vec Ideal S512x128 .f32) (q : Fin 4) (t d : Fin 128) : EReal := x (ix2 (trow q t) d)

variable (u v dy : Vec Ideal S512x128 .f32) (lg lb : Vec Ideal S1x128 .f32) (W : Vec Ideal S1x128x128 .f32)
  (bs : Vec Ideal S1x128x1 .f32)

theorem pay11_at (r : Fin 512) (d : Fin 128) : k0_pay11 u (ix2 r d) = gel (u (ix2 r d)) := by
  unfold gel
  pointwise [k0_pay11, k0_pay7, k0_pay10, k0_pay8]
  rfl

theorem pay16_at (r : Fin 512) (d : Fin 128) : k0_pay16 v (ix2 r d) = gel (v (ix2 r d)) := by
  unfold gel
  pointwise [k0_pay16, k0_pay12, k0_pay15, k0_pay13]
  rfl

theorem pay18_at (r : Fin 512) (d : Fin 128) :
    k0_pay18 (k0_pay16 v) (k0_pay17 v) (ix2 r d) = zc (fun k => v (ix2 r k)) d := by
  unfold zc
  pointwise [k0_pay18, k0_pay17]
  simp only [pay16_at]

theorem pay19_at (r : Fin 512) (z : Fin 1) :
    k0_pay19 (k0_pay16 v) (k0_pay17 v) (ix2 r z) = den (fun k => v (ix2 r k)) := by
  unfold den
  pointwise [k0_pay19]
  simp only [pay18_at]

theorem pay20_at (r : Fin 512) (z : Fin 1) :
    k0_pay20 (k0_pay16 v) (k0_pay17 v) (ix2 r z) = rs (fun k => v (ix2 r k)) := by
  unfold rs
  pointwise [k0_pay20]
  rw [pay19_at]

theorem pay22_at (r : Fin 512) (d : Fin 128) :
    k0_pay22 (k0_pay16 v) (k0_pay17 v) (ix2 r d) = yh (fun k => v (ix2 r k)) d := by
  unfold yh
  pointwise [k0_pay22]
  rw [pay18_at, pay20_at]

theorem pay23_at (r : Fin 512) (d : Fin 128) :
    k0_pay23 (k0_pay3 lg) (k0_pay4 lb) (k0_pay16 v) (k0_pay17 v) (ix2 r d)
      = vn (fun k => v (ix2 r k)) (fun k => lg (ix2 0 k)) (fun k => lb (ix2 0 k)) d := by
  unfold vn
  pointwise [k0_pay23, k0_pay3, k0_pay4]
  rw [pay22_at]

/-- The causal mask at an entry. -/
theorem mask_at (t s : Fin 128) : k0_pay24 (ix2 t s) = if s.val ≤ t.val then 1#1 else 0#1 := by
  pointwise [k0_pay24]
  have h : IntOp.cmpi .sge (BitVec.ofNat 32 t.val) (BitVec.ofNat 32 s.val) = if s.val ≤ t.val then 1#1 else 0#1 := by
    have ht := t.isLt
    have hs := s.isLt
    rw [WordCmp.cmpi_sge_ofNat (by omega) (by omega)]
    by_cases h : s.val ≤ t.val <;> simp [h]
  exact h

theorem pay25_at (t s : Fin 128) :
    k0_pay25 (k0_pay5 W) (ix2 t s) = wm (fun a b => W (ix3 0 a b)) t s := by
  unfold wm
  pointwise [k0_pay25, k0_pay5]
  rw [mask_at]
  split <;> rfl

/-- The gradient at the mixed rows, in chunk `q`. -/
theorem pay31_at (r : Fin 512) (d : Fin 128) :
    k0_pay31 (k0_pay11 u) dy (ix2 r d) = gel (u (ix2 r d)) * dy (ix2 r d) := by
  pointwise [k0_pay31]
  rw [pay11_at]

theorem pay32_at (q : Fin 4) (t d : Fin 128) :
    k0_pay32 (k0_pay26 (k0_pay3 lg) (k0_pay4 lb) (k0_pay5 W) (k0_pay6 bs) (k0_pay16 v) (k0_pay17 v))
        (k0_pay27 (k0_pay3 lg) (k0_pay4 lb) (k0_pay5 W) (k0_pay6 bs) (k0_pay16 v) (k0_pay17 v))
        (k0_pay28 (k0_pay3 lg) (k0_pay4 lb) (k0_pay5 W) (k0_pay6 bs) (k0_pay16 v) (k0_pay17 v))
        (k0_pay29 (k0_pay3 lg) (k0_pay4 lb) (k0_pay5 W) (k0_pay16 v) (k0_pay17 v)) (k0_pay30 (k0_pay6 bs)) dy (ix2 (trow q t) d)
      = ch dy q t d * mix (fun a b => W (ix3 0 a b)) (fun a => bs (ix3 0 a 0)) (ch v q) (fun k => lg (ix2 0 k))
          (fun k => lb (ix2 0 k)) t d := by
  unfold mix ch
  pointwise [k0_pay32, k0_pay26, k0_pay27, k0_pay28, k0_pay29, k0_pay30, k0_pay6]
  simp only [pay23_at, pay25_at]
  obtain ⟨q, hq⟩ := q
  dsimp only
  obtain rfl | rfl | rfl | rfl : q = 0 ∨ q = 1 ∨ q = 2 ∨ q = 3 := by omega
  · rw [dif_pos (show 128 * 0 + t.val < 128 by omega)]
    simp [trow]
  · have e : (⟨128 * 1 + t.val - 128, by omega⟩ : Fin 128) = t := Fin.ext (by dsimp only; omega)
    rw [dif_neg (show ¬128 * 1 + t.val < 128 by omega), dif_pos (show 128 * 1 + t.val - 128 < 128 by omega)]
    simp only [e]
    rfl
  · have e : (⟨128 * 2 + t.val - 128 - 128, by omega⟩ : Fin 128) = t := Fin.ext (by dsimp only; omega)
    rw [dif_neg (show ¬128 * 2 + t.val < 128 by omega), dif_neg (show ¬128 * 2 + t.val - 128 < 128 by omega),
      dif_pos (show 128 * 2 + t.val - 128 - 128 < 128 by omega)]
    simp only [e]
    rfl
  · have e : (⟨128 * 3 + t.val - 128 - 128 - 128, by omega⟩ : Fin 128) = t := Fin.ext (by dsimp only; omega)
    rw [dif_neg (show ¬128 * 3 + t.val < 128 by omega), dif_neg (show ¬128 * 3 + t.val - 128 < 128 by omega),
      dif_neg (show ¬128 * 3 + t.val - 128 - 128 < 128 by omega)]
    simp only [e]
    rfl

theorem pay37_at (q : Fin 4) (s d : Fin 128) :
    k0_pay37 (k0_pay11 u) (k0_pay25 (k0_pay5 W)) dy (ix2 (trow q s) d)
      = dvn (fun a b => W (ix3 0 a b)) (ch u q) (ch dy q) s d := by
  unfold dvn ct ch
  pointwise [k0_pay37, k0_pay33, k0_pay34, k0_pay35, k0_pay36]
  simp only [pay31_at, pay25_at]
  obtain ⟨q, hq⟩ := q
  dsimp only
  obtain rfl | rfl | rfl | rfl : q = 0 ∨ q = 1 ∨ q = 2 ∨ q = 3 := by omega
  · rw [dif_pos (show 128 * 0 + s.val < 128 by omega)]
    simp [trow]
  · have e : (⟨128 * 1 + s.val - 128, by omega⟩ : Fin 128) = s := Fin.ext (by dsimp only; omega)
    rw [dif_neg (show ¬128 * 1 + s.val < 128 by omega), dif_pos (show 128 * 1 + s.val - 128 < 128 by omega)]
    simp only [e]
    rfl
  · have e : (⟨128 * 2 + s.val - 128 - 128, by omega⟩ : Fin 128) = s := Fin.ext (by dsimp only; omega)
    rw [dif_neg (show ¬128 * 2 + s.val < 128 by omega), dif_neg (show ¬128 * 2 + s.val - 128 < 128 by omega),
      dif_pos (show 128 * 2 + s.val - 128 - 128 < 128 by omega)]
    simp only [e]
    rfl
  · have e : (⟨128 * 3 + s.val - 128 - 128 - 128, by omega⟩ : Fin 128) = s := Fin.ext (by dsimp only; omega)
    rw [dif_neg (show ¬128 * 3 + s.val < 128 by omega), dif_neg (show ¬128 * 3 + s.val - 128 < 128 by omega),
      dif_neg (show ¬128 * 3 + s.val - 128 - 128 < 128 by omega)]
    simp only [e]
    rfl

theorem pay38_at (t s : Fin 128) :
    k0_pay41 k0_pay24 (k0_pay38 (k0_pay11 u) (k0_pay23 (k0_pay3 lg) (k0_pay4 lb) (k0_pay16 v) (k0_pay17 v)) dy) (ix2 t s)
      = if s.val ≤ t.val then ∑ q : Fin 4, ∑ d : Fin 128, ct (ch u q) (ch dy q) t d
          * vn (ch v q s) (fun k => lg (ix2 0 k)) (fun k => lb (ix2 0 k)) d else 0 := by
  unfold ct ch
  pointwise [k0_pay41, k0_pay38, k0_pay33, k0_pay34, k0_pay35, k0_pay36]
  simp only [pay31_at, pay23_at]
  rw [mask_at, Fin.sum_univ_four]
  split
  · simp only [ValueIdx.select_one]
    simp [trow]
  · rfl

theorem pay40_at (t : Fin 128) :
    k0_pay40 (k0_pay34 (k0_pay11 u) dy) (k0_pay35 (k0_pay11 u) dy) (k0_pay36 (k0_pay11 u) dy) (k0_pay39 (k0_pay11 u) dy) (ix2 t 0)
      = ∑ q : Fin 4, ∑ d : Fin 128, ct (ch u q) (ch dy q) t d := by
  unfold ct ch
  pointwise [k0_pay39, k0_pay40, k0_pay33, k0_pay34, k0_pay35, k0_pay36]
  simp only [pay31_at]
  rw [Fin.sum_univ_four]
  simp [trow]

theorem pay44_at (g : Vec Ideal S512x128 .f32) (r : Fin 512) (d : Fin 128) :
    k0_pay44 (k0_pay3 lg) (k0_pay18 (k0_pay16 v) (k0_pay17 v)) (k0_pay20 (k0_pay16 v) (k0_pay17 v)) (k0_pay21 (k0_pay16 v) (k0_pay17 v)) g (ix2 r d)
      = dz (fun k => v (ix2 r k)) (fun k => lg (ix2 0 k)) (fun k => g (ix2 r k)) d := by
  unfold dz dw
  pointwise [k0_pay44, k0_pay3, k0_pay21]
  simp only [pay18_at, pay19_at, pay20_at]
  simp only [pay19_at, pay20_at, Fin.sum_univ_one, Finset.univ_unique, Finset.sum_singleton]

end Gmlp

end
-- ==== Proof.Out.lean ====
module

public import proofs.«01_k».proof.Proof.Gen.KernelIdeal.Frame
public import proofs.«01_k».proof.Proof.Tile

@[expose] public section

set_option maxRecDepth 16384

/-! What the kernel's body leaves in each output's buffer at a grid point, as a function of the point's input blocks (and, from
the group's second tile on, of what the accumulators held). -/

noncomputable section

namespace Gmlp

open Idealize.ShloMosaic Idealize.ShloMosaic.TcCoe Idealize.SL.Sem Cert.KernelIdeal Cert.KernelIdeal.Gen

/-- The tile of the gradient of `u`. -/
abbrev duT (x0 x1 : Vec Ideal S512x128 .f32) (x2 x3 : Vec Ideal S1x128 .f32) (x4 : Vec Ideal S1x128x128 .f32)
    (x5 : Vec Ideal S1x128x1 .f32) (x6 : Vec Ideal S512x128 .f32) : Vec Ideal S512x128 .bf16 :=
  k0_pay48 (k0_pay7 x0) (k0_pay9 x0) (k0_pay10 x0)
    (k0_pay32 (k0_pay26 (k0_pay3 x2) (k0_pay4 x3) (k0_pay5 x4) (k0_pay6 x5) (k0_pay16 x1) (k0_pay17 x1))
      (k0_pay27 (k0_pay3 x2) (k0_pay4 x3) (k0_pay5 x4) (k0_pay6 x5) (k0_pay16 x1) (k0_pay17 x1))
      (k0_pay28 (k0_pay3 x2) (k0_pay4 x3) (k0_pay5 x4) (k0_pay6 x5) (k0_pay16 x1) (k0_pay17 x1))
      (k0_pay29 (k0_pay3 x2) (k0_pay4 x3) (k0_pay5 x4) (k0_pay16 x1) (k0_pay17 x1)) (k0_pay30 (k0_pay6 x5)) x6)

/-- The tile of the gradient at the normalised rows. -/
abbrev dvnT (x0 : Vec Ideal S512x128 .f32) (x4 : Vec Ideal S1x128x128 .f32) (x6 : Vec Ideal S512x128 .f32) :
    FVec Ideal S512x128 .f32 :=
  k0_pay37 (k0_pay11 x0) (k0_pay25 (k0_pay5 x4)) x6

/-- The tile of the gradient of `v`. -/
abbrev dvT (x0 x1 : Vec Ideal S512x128 .f32) (x2 : Vec Ideal S1x128 .f32) (x4 : Vec Ideal S1x128x128 .f32)
    (x6 : Vec Ideal S512x128 .f32) : Vec Ideal S512x128 .bf16 :=
  k0_pay49 (k0_pay14 x1)
    (k0_pay45 (k0_pay3 x2) (k0_pay12 x1) (k0_pay18 (k0_pay16 x1) (k0_pay17 x1)) (k0_pay20 (k0_pay16 x1) (k0_pay17 x1))
      (k0_pay21 (k0_pay16 x1) (k0_pay17 x1)) (dvnT x0 x4 x6))
    (k0_pay46 (k0_pay3 x2) (k0_pay15 x1) (k0_pay18 (k0_pay16 x1) (k0_pay17 x1)) (k0_pay20 (k0_pay16 x1) (k0_pay17 x1))
      (k0_pay21 (k0_pay16 x1) (k0_pay17 x1)) (dvnT x0 x4 x6)) k0_pay47

/-- The tile's share of the gradient of the layer norm's gain. -/
abbrev dgT (x0 x1 : Vec Ideal S512x128 .f32) (x4 : Vec Ideal S1x128x128 .f32) (x6 : Vec Ideal S512x128 .f32) :
    FVec Ideal S1x128 .f32 :=
  k0_pay43 (k0_pay22 (k0_pay16 x1) (k0_pay17 x1)) (dvnT x0 x4 x6)

/-- The tile's share of the gradient of the layer norm's bias. -/
abbrev dbT (x0 : Vec Ideal S512x128 .f32) (x4 : Vec Ideal S1x128x128 .f32) (x6 : Vec Ideal S512x128 .f32) :
    FVec Ideal S1x128 .f32 :=
  k0_pay42 (dvnT x0 x4 x6)

/-- The tile's share of the gradient of the mixing matrix. -/
abbrev dwT (x0 x1 : Vec Ideal S512x128 .f32) (x2 x3 : Vec Ideal S1x128 .f32) (x6 : Vec Ideal S512x128 .f32) :
    FVec Ideal S128x128 .f32 :=
  k0_pay41 k0_pay24 (k0_pay38 (k0_pay11 x0) (k0_pay23 (k0_pay3 x2) (k0_pay4 x3) (k0_pay16 x1) (k0_pay17 x1)) x6)

/-- The tile's share of the gradient of the mixing bias. -/
abbrev dsT (x0 x6 : Vec Ideal S512x128 .f32) : FVec Ideal S128x1 .f32 :=
  k0_pay40 (k0_pay34 (k0_pay11 x0) x6) (k0_pay35 (k0_pay11 x0) x6) (k0_pay36 (k0_pay11 x0) x6) (k0_pay39 (k0_pay11 x0) x6)

theorem hz2 : (![0, 0] : Fin 2 → Nat) = fun _ => 0 := funext fun a => by fin_cases a <;> rfl

theorem hz3 : (![0, 0, 0] : Fin 3 → Nat) = fun _ => 0 := funext fun a => by fin_cases a <;> rfl

variable (c : Dev nD) (i : grid0.Coords) (arg2 : Memref sig .tc .vmem S512x128 .f32) (harg2 : arg2.IsWhole)
  (arg3 : Memref sig .tc .vmem S512x128 .f32) (harg3 : arg3.IsWhole) (arg4 : Memref sig .tc .vmem S1x128 .f32)
  (harg4 : arg4.IsWhole) (arg5 : Memref sig .tc .vmem S1x128 .f32) (harg5 : arg5.IsWhole)
  (arg6 : Memref sig .tc .vmem S1x128x128 .f32) (harg6 : arg6.IsWhole) (arg7 : Memref sig .tc .vmem S1x128x1 .f32)
  (harg7 : arg7.IsWhole) (arg8 : Memref sig .tc .vmem S512x128 .f32) (harg8 : arg8.IsWhole)
  (arg9 : Memref sig .tc .vmem S512x128 .bf16) (harg9 : arg9.IsWhole) (arg10 : Memref sig .tc .vmem S512x128 .bf16)
  (harg10 : arg10.IsWhole) (arg11 : Memref sig .tc .vmem S1x128 .f32) (harg11 : arg11.IsWhole)
  (arg12 : Memref sig .tc .vmem S1x128 .f32) (harg12 : arg12.IsWhole) (arg13 : Memref sig .tc .vmem S1x128x128 .f32)
  (harg13 : arg13.IsWhole) (arg14 : Memref sig .tc .vmem S1x128x1 .f32) (harg14 : arg14.IsWhole)
  (x0 x1 : Vec Ideal S512x128 .f32) (x2 x3 : Vec Ideal S1x128 .f32) (x4 : Vec Ideal S1x128x128 .f32)
  (x5 : Vec Ideal S1x128x1 .f32) (x6 : Vec Ideal S512x128 .f32) (xo9 xo10 : Vec Ideal S1x128 .f32)
  (xo11 : Vec Ideal S1x128x128 .f32) (xo12 : Vec Ideal S1x128x1 .f32)

theorem out_A_7 (hc : cond0_0 i) :
    out0_A_7 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 = duT x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_B_7 (hc : ¬cond0_0 i) :
    out0_B_7 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 xo9 xo10 xo11 xo12 = duT x0 x1 x2 x3 x4 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6 xo9 xo10 xo11 xo12)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_A_8 (hc : cond0_0 i) :
    out0_A_8 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 = dvT x0 x1 x2 x4 x6 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_B_8 (hc : ¬cond0_0 i) :
    out0_B_8 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 xo9 xo10 xo11 xo12 = dvT x0 x1 x2 x4 x6 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6 xo9 xo10 xo11 xo12)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_A_9 (hc : cond0_0 i) :
    out0_A_9 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 = k0_pay54 (dgT x0 x1 x4 x6) (k0_pay50 (F := Ideal)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_B_9 (hc : ¬cond0_0 i) :
    out0_B_9 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 xo9 xo10 xo11 xo12 = k0_pay54 (dgT x0 x1 x4 x6) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6 xo9 xo10 xo11 xo12)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_A_10 (hc : cond0_0 i) :
    out0_A_10 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 = k0_pay55 (dbT x0 x4 x6) (k0_pay51 (F := Ideal)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_B_10 (hc : ¬cond0_0 i) :
    out0_B_10 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 xo9 xo10 xo11 xo12 = k0_pay55 (dbT x0 x4 x6) xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6 xo9 xo10 xo11 xo12)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_A_11 (hc : cond0_0 i) :
    out0_A_11 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 = k0_pay1 (dwT x0 x1 x2 x3 x6) (k0_pay52 (F := Ideal)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6)]
  unfold kernelRun0_A
  dsimp only
  sl_unfold_words
  rw [View.canon_cons_unit_zero (S := S1x128x128) hz3, View.readCov_unit_zero (S := S1x128x128) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_B_11 (hc : ¬cond0_0 i) :
    out0_B_11 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 xo9 xo10 xo11 xo12 = k0_pay1 (dwT x0 x1 x2 x3 x6) xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6 xo9 xo10 xo11 xo12)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_A_12 (hc : cond0_0 i) :
    out0_A_12 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 = k0_pay2 (dsT x0 x6) (k0_pay53 (F := Ideal)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6)]
  unfold kernelRun0_A
  dsimp only
  sl_unfold_words
  rw [View.canon_cons_unit_zero (S := S1x128x1) hz3, View.readCov_unit_zero (S := S1x128x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

theorem out_B_12 (hc : ¬cond0_0 i) :
    out0_B_12 (F := Ideal) c i arg2 harg2 arg3 harg3 arg4 harg4 arg5 harg5 arg6 harg6 arg7 harg7 arg8 harg8 arg9 harg9 arg10 harg10 arg11 harg11 arg12 harg12 arg13 harg13 arg14 harg14
      hc x0 x1 x2 x3 x4 x5 x6 xo9 xo10 xo11 xo12 = k0_pay2 (dsT x0 x6) xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14
    hc x0 x1 x2 x3 x4 x5 x6 xo9 xo10 xo11 xo12)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x128) hz2, View.ld_unit_zero (S := S1x128) hz2, View.ld_unit_zero (S := S1x128x128) hz3,
    View.ld_unit_zero (S := S1x128x1) hz3]

end Gmlp

end
-- ==== Proof.TileOut.lean ====
module

public import proofs.«01_k».proof.Proof.Out

@[expose] public section

set_option maxRecDepth 16384

/-! The tiles a grid point writes, entry by entry. -/

noncomputable section

namespace Gmlp

open Idealize.ShloMosaic Cert.KernelIdeal Cert.KernelIdeal.Gen

variable (u v dy : Vec Ideal S512x128 .f32) (lg lb : Vec Ideal S1x128 .f32) (W : Vec Ideal S1x128x128 .f32)
  (bs : Vec Ideal S1x128x1 .f32)

/-- The gradient of `u` in chunk `q` of a tile. -/
theorem duT_at (q : Fin 4) (t d : Fin 128) :
    duT u v lg lb W bs dy (ix2 (trow q t) d)
      = dgel (ch u q t d) (ch dy q t d * mix (fun a b => W (ix3 0 a b)) (fun a => bs (ix3 0 a 0)) (ch v q)
          (fun k => lg (ix2 0 k)) (fun k => lb (ix2 0 k)) t d) := by
  rw [← pay32_at]
  unfold duT dgel
  generalize k0_pay32 (F := Ideal) _ _ _ _ _ _ = g
  pointwise [k0_pay48, k0_pay7, k0_pay8, k0_pay9, k0_pay10]
  rfl

/-- The gradient of `v` in chunk `q` of a tile. -/
theorem dvT_at (q : Fin 4) (t d : Fin 128) :
    dvT u v lg W dy (ix2 (trow q t) d)
      = dgel (ch v q t d) (dz (ch v q t) (fun k => lg (ix2 0 k)) (dvn (fun a b => W (ix3 0 a b)) (ch u q) (ch dy q) t) d) := by
  have h : dz (ch v q t) (fun k => lg (ix2 0 k)) (dvn (fun a b => W (ix3 0 a b)) (ch u q) (ch dy q) t) d
      = k0_pay44 (k0_pay3 lg) (k0_pay18 (k0_pay16 v) (k0_pay17 v)) (k0_pay20 (k0_pay16 v) (k0_pay17 v)) (k0_pay21 (k0_pay16 v) (k0_pay17 v)) (dvnT u W dy) (ix2 (trow q t) d) := by
    rw [pay44_at]
    unfold dvnT
    simp only [pay37_at]
  rw [h]
  unfold dvT dgel
  unfold k0_pay45 k0_pay46
  generalize k0_pay44 (F := Ideal) _ _ _ _ _ = g
  pointwise [k0_pay49, k0_pay12, k0_pay13, k0_pay14, k0_pay15, k0_pay47]
  rfl

/-- A sum over a tile's rows, chunk by chunk. -/
theorem sum_trow (f : Fin 512 → EReal) : ∑ r : Fin 512, f r = ∑ q : Fin 4, ∑ t : Fin 128, f (trow q t) := by
  rw [← Fintype.sum_prod_type', ← Equiv.sum_comp (finProdFinEquiv (m := 4) (n := 128))]
  refine Finset.sum_congr rfl fun x _ => congrArg f (Fin.ext ?_)
  simp [finProdFinEquiv, trow]; omega

theorem dbT_at (z : Fin 1) (d : Fin 128) :
    dbT u W dy (ix2 z d) = ∑ q : Fin 4, ∑ t : Fin 128, dvn (fun a b => W (ix3 0 a b)) (ch u q) (ch dy q) t d := by
  unfold dbT
  pointwise [k0_pay42]
  rw [sum_trow]
  simp only [pay37_at]

theorem dgT_at (z : Fin 1) (d : Fin 128) :
    dgT u v W dy (ix2 z d) = ∑ q : Fin 4, ∑ t : Fin 128,
      yh (ch v q t) d * dvn (fun a b => W (ix3 0 a b)) (ch u q) (ch dy q) t d := by
  unfold dgT
  pointwise [k0_pay43]
  rw [sum_trow]
  simp only [pay37_at, pay22_at]

end Gmlp

end
-- ==== Proof.Blocks.lean ====
module

public import proofs.«01_k».proof.Proof.Gen.KernelIdeal.Value
public import proofs.«01_k».proof.Proof.TileOut
public import Idealize.ShloMosaic.Lib.Pipeline.ValueKit.Point

@[expose] public section

set_option maxRecDepth 16384

/-! The kernel's input blocks, as parts of its arguments. -/

noncomputable section

namespace Gmlp

open Idealize.ShloMosaic Idealize.ShloMosaic.TcCoe Idealize.SL.Sem Cert.KernelIdeal Cert.KernelIdeal.Gen

variable (m : (ℓ : Loc nD τ sig) → Buf (Elt Ideal) ℓ) (c : Dev nD)

/-- The kernel's arguments on a device. -/
def args : Args where
  hin := m ((c : Thread nD τ).loc main_arg0)
  lg := m ((c : Thread nD τ).loc main_arg1)
  lb := m ((c : Thread nD τ).loc main_arg2)
  ws := m ((c : Thread nD τ).loc main_arg3)
  bs := m ((c : Thread nD τ).loc main_arg4)
  dy := m ((c : Thread nD τ).loc main_arg5)

/-- The windows' blocks over the grid: point `t` is tile `t % 16` of group `t / 16`. -/
theorem idx : ∀ t : Fin cfg0.N, win0_0.index t = ![t.val % 16, t.val / 16] ∧ win0_1.index t = ![t.val % 16, t.val / 16 + 4]
    ∧ win0_2.index t = ![0, t.val / 16] ∧ win0_3.index t = ![0, t.val / 16] ∧ win0_4.index t = ![t.val / 16, 0, 0]
    ∧ win0_5.index t = ![t.val / 16, 0, 0] ∧ win0_6.index t = ![t.val % 16, t.val / 16] :=
  (by decide +kernel : ∀ t : Fin grid0.N, win0_0.index t = ![t.val % 16, t.val / 16] ∧ win0_1.index t = ![t.val % 16, t.val / 16 + 4]
    ∧ win0_2.index t = ![0, t.val / 16] ∧ win0_3.index t = ![0, t.val / 16] ∧ win0_4.index t = ![t.val / 16, 0, 0]
    ∧ win0_5.index t = ![t.val / 16, 0, 0] ∧ win0_6.index t = ![t.val % 16, t.val / 16])

/-- The grid point of tile `i` of group `g`. -/
abbrev pt (g : Fin 4) (i : Fin 16) : Fin cfg0.N := ⟨16 * g.val + i.val, by show _ < grid0.N; rw [Gen.N_0]; omega⟩

/-- Chunk `q` of tile `i`. -/
abbrev chunk (i : Fin 16) (q : Fin 4) : Fin 64 := ⟨4 * i.val + q.val, by omega⟩

variable (g : Fin 4) (i : Fin 16)

theorem blk_u (q : Fin 4) : ch (iblk m c 0 (pt g i)) q = (args m c).u g (chunk i q) := by
  funext t d
  have h := idx (pt g i)
  unfold Args.u ch args
  blk_ext! [iblk, V, h]

theorem blk_v (q : Fin 4) : ch (iblk m c 1 (pt g i)) q = (args m c).v g (chunk i q) := by
  funext t d
  have h := idx (pt g i)
  unfold Args.v ch args
  blk_ext! [iblk, V, h]

theorem blk_g (q : Fin 4) : ch (iblk m c 6 (pt g i)) q = (args m c).g g (chunk i q) := by
  funext t d
  have h := idx (pt g i)
  unfold Args.g ch args
  blk_ext! [iblk, V, h]

theorem blk_gain : (fun k => (iblk m c 2 (pt g i) : Vec Ideal S1x128 .f32) (ix2 0 k)) = (args m c).gain g := by
  funext d
  have h := idx (pt g i)
  unfold Args.gain args
  blk_ext! [iblk, V, h]

theorem blk_bias : (fun k => (iblk m c 3 (pt g i) : Vec Ideal S1x128 .f32) (ix2 0 k)) = (args m c).bias g := by
  funext d
  have h := idx (pt g i)
  unfold Args.bias args
  blk_ext! [iblk, V, h]

theorem blk_W : (fun t s => (iblk m c 4 (pt g i) : Vec Ideal S1x128x128 .f32) (ix3 0 t s)) = (args m c).W g := by
  funext t s
  have h := idx (pt g i)
  unfold Args.W args
  blk_ext! [iblk, V, h]

theorem blk_b : (fun t => (iblk m c 5 (pt g i) : Vec Ideal S1x128x1 .f32) (ix3 0 t 0)) = (args m c).b g := by
  funext t
  have h := idx (pt g i)
  unfold Args.b args
  blk_ext! [iblk, V, h]

end Gmlp

end
-- ==== Proof.KernelValue.lean ====
module

public import proofs.«01_k».proof.Proof.Blocks

@[expose] public section

set_option maxRecDepth 16384

/-! The kernel's six results, as functions of its arguments. -/

noncomputable section

namespace Gmlp

open Idealize.ShloMosaic Idealize.ShloMosaic.TcCoe Idealize.SL.Sem Cert.KernelIdeal Cert.KernelIdeal.Gen

variable (m : (ℓ : Loc nD τ sig) → Buf (Elt Ideal) ℓ) (c : Dev nD) (g : Fin 4)

/-- What a grid point leaves in the buffer of the gradient of `u`. -/
theorem du_at (i : Fin 16) (q : Fin 4) (t d : Fin 128) :
    (outsAt0 m c (pt g i).val (pt g i).isLt).1 (ix2 (trow q t) d) = (args m c).du g (chunk i q) t d := by
  unfold Args.du
  rw [← blk_u m c g i q, ← blk_v m c g i q, ← blk_g m c g i q, ← blk_gain m c g i, ← blk_bias m c g i, ← blk_W m c g i,
    ← blk_b m c g i, ← duT_at]
  by_cases h : (pt g i).val % 16 = 0
  · rw [outsAt0_A m c _ h, out_A_7]
  · rw [outsAt0_B m c _ h, out_B_7]

/-- What a grid point leaves in the buffer of the gradient of `v`. -/
theorem dv_at (i : Fin 16) (q : Fin 4) (t d : Fin 128) :
    (outsAt0 m c (pt g i).val (pt g i).isLt).2.1 (ix2 (trow q t) d) = (args m c).dv g (chunk i q) t d := by
  unfold Args.dv Args.dvn
  rw [← blk_u m c g i q, ← blk_v m c g i q, ← blk_g m c g i q, ← blk_gain m c g i, ← blk_W m c g i]
  have e := dvT_at (iblk m c 0 (pt g i)) (iblk m c 1 (pt g i)) (iblk m c 6 (pt g i)) (iblk m c 2 (pt g i)) (iblk m c 4 (pt g i)) q t d
  refine Eq.trans ?_ e
  by_cases h : (pt g i).val % 16 = 0
  · rw [outsAt0_A m c _ h, out_A_8]
  · rw [outsAt0_B m c _ h, out_B_8]

theorem pay54_at (a : FVec Ideal S1x128 .f32) (x : Vec Ideal S1x128 .f32) (d : Fin 128) :
    k0_pay54 a x (ix2 0 d) = x (ix2 0 d) + a (ix2 0 d) := by pointwise [k0_pay54]

theorem pay55_at (a : FVec Ideal S1x128 .f32) (x : Vec Ideal S1x128 .f32) (d : Fin 128) :
    k0_pay55 a x (ix2 0 d) = x (ix2 0 d) + a (ix2 0 d) := by pointwise [k0_pay55]

theorem pay1_at (a : FVec Ideal S128x128 .f32) (x : Vec Ideal S1x128x128 .f32) (t s : Fin 128) :
    k0_pay1 a x (ix3 0 t s) = x (ix3 0 t s) + a (ix2 t s) := by pointwise [k0_pay1]

theorem pay2_at (a : FVec Ideal S128x1 .f32) (x : Vec Ideal S1x128x1 .f32) (t : Fin 128) :
    k0_pay2 a x (ix3 0 t 0) = x (ix3 0 t 0) + a (ix2 t 0) := by pointwise [k0_pay2]

theorem zero_at (d : Fin 128) : k0_pay50 (F := Ideal) (ix2 0 d) = 0 := by pointwise [k0_pay50]
theorem zero_at' (d : Fin 128) : k0_pay51 (F := Ideal) (ix2 0 d) = 0 := by pointwise [k0_pay51]
theorem zero_at3 (t s : Fin 128) : k0_pay52 (F := Ideal) (ix3 0 t s) = 0 := by pointwise [k0_pay52]
theorem zero_at3' (t : Fin 128) : k0_pay53 (F := Ideal) (ix3 0 t 0) = 0 := by pointwise [k0_pay53]

/-- A point's share of the gradient of the gain. -/
theorem dg_share (i : Fin 16) (d : Fin 128) :
    dgT (iblk m c 0 (pt g i)) (iblk m c 1 (pt g i)) (iblk m c 4 (pt g i)) (iblk m c 6 (pt g i)) (ix2 0 d)
      = tiles ((args m c).dgain g d) i.val := by
  rw [dgT_at]
  unfold tiles
  rw [dif_pos i.isLt]
  refine Finset.sum_congr rfl fun q _ => ?_
  unfold Args.dgain Args.dvn
  rw [← blk_u m c g i q, ← blk_v m c g i q, ← blk_g m c g i q, ← blk_W m c g i]

/-- A point's share of the gradient of the layer norm's bias. -/
theorem db_share (i : Fin 16) (d : Fin 128) :
    dbT (iblk m c 0 (pt g i)) (iblk m c 4 (pt g i)) (iblk m c 6 (pt g i)) (ix2 0 d)
      = tiles ((args m c).dbias g d) i.val := by
  rw [dbT_at]
  unfold tiles
  rw [dif_pos i.isLt]
  refine Finset.sum_congr rfl fun q _ => ?_
  unfold Args.dbias Args.dvn
  rw [← blk_u m c g i q, ← blk_g m c g i q, ← blk_W m c g i]

/-- A point's share of the gradient of the mixing matrix. -/
theorem dw_share (i : Fin 16) (t s : Fin 128) :
    dwT (iblk m c 0 (pt g i)) (iblk m c 1 (pt g i)) (iblk m c 2 (pt g i)) (iblk m c 3 (pt g i)) (iblk m c 6 (pt g i)) (ix2 t s)
      = tiles (fun K => if s.val ≤ t.val then (args m c).dW g t s K else 0) i.val := by
  have e := pay38_at (iblk m c 0 (pt g i)) (iblk m c 1 (pt g i)) (iblk m c 6 (pt g i)) (iblk m c 2 (pt g i)) (iblk m c 3 (pt g i)) t s
  refine e.trans ?_
  unfold tiles
  rw [dif_pos i.isLt]
  split
  · refine Finset.sum_congr rfl fun q _ => ?_
    show _ = (args m c).dW g t s (chunk i q)
    unfold Args.dW
    rw [← blk_u m c g i q, ← blk_v m c g i q, ← blk_g m c g i q, ← blk_gain m c g i, ← blk_bias m c g i]
  · simp

/-- A point's share of the gradient of the mixing bias. -/
theorem ds_share (i : Fin 16) (t : Fin 128) :
    dsT (iblk m c 0 (pt g i)) (iblk m c 6 (pt g i)) (ix2 t 0) = tiles ((args m c).db g t) i.val := by
  refine (pay40_at (iblk m c 0 (pt g i)) (iblk m c 6 (pt g i)) t).trans ?_
  unfold tiles
  rw [dif_pos i.isLt]
  refine Finset.sum_congr rfl fun q _ => ?_
  unfold Args.db
  rw [← blk_u m c g i q, ← blk_g m c g i q]

/-- The four accumulators after tile `n` of group `g`: the sums of the shares up to there. -/
theorem acc_at : ∀ (n : ℕ) (h : n < 16),
    (∀ d, (outsAt0 m c (pt g ⟨n, h⟩).val (pt g ⟨n, h⟩).isLt).2.2.1 (ix2 0 d) = ∑ j ∈ Finset.range (n + 1), tiles ((args m c).dgain g d) j)
    ∧ (∀ d, (outsAt0 m c (pt g ⟨n, h⟩).val (pt g ⟨n, h⟩).isLt).2.2.2.1 (ix2 0 d) = ∑ j ∈ Finset.range (n + 1), tiles ((args m c).dbias g d) j)
    ∧ (∀ t s, (outsAt0 m c (pt g ⟨n, h⟩).val (pt g ⟨n, h⟩).isLt).2.2.2.2.1 (ix3 0 t s)
        = ∑ j ∈ Finset.range (n + 1), tiles (fun K => if s.val ≤ t.val then (args m c).dW g t s K else 0) j)
    ∧ (∀ t, (outsAt0 m c (pt g ⟨n, h⟩).val (pt g ⟨n, h⟩).isLt).2.2.2.2.2 (ix3 0 t 0) = ∑ j ∈ Finset.range (n + 1), tiles ((args m c).db g t) j)
  | 0, h => by
    have h0 : (pt g ⟨0, h⟩).val % 16 = 0 := by show (16 * g.val + 0) % 16 = 0; omega
    rw [outsAt0_A m c _ h0]
    simp only [out_A_9, out_A_10, out_A_11, out_A_12, pay54_at, pay55_at, pay1_at, pay2_at, zero_at, zero_at', zero_at3, zero_at3',
      zero_add, Finset.range_one, Finset.sum_singleton]
    exact ⟨fun d => dg_share m c g ⟨0, h⟩ d, fun d => db_share m c g ⟨0, h⟩ d, fun t s => dw_share m c g ⟨0, h⟩ t s,
      fun t => ds_share m c g ⟨0, h⟩ t⟩
  | n + 1, h => by
    have h0 : ¬(pt g ⟨n + 1, h⟩).val % 16 = 0 := by show ¬(16 * g.val + (n + 1)) % 16 = 0; omega
    obtain ⟨i1, i2, i3, i4⟩ := acc_at n (Nat.lt_of_succ_lt h)
    rw [outsAt0_B m c _ h0]
    simp only [out_B_9, out_B_10, out_B_11, out_B_12, pay54_at, pay55_at, pay1_at, pay2_at, Finset.sum_range_succ _ (n + 1)]
    exact ⟨fun d => congrArg₂ (· + ·) (i1 d) (dg_share m c g ⟨n + 1, h⟩ d),
      fun d => congrArg₂ (· + ·) (i2 d) (db_share m c g ⟨n + 1, h⟩ d),
      fun t s => congrArg₂ (· + ·) (i3 t s) (dw_share m c g ⟨n + 1, h⟩ t s),
      fun t => congrArg₂ (· + ·) (i4 t) (ds_share m c g ⟨n + 1, h⟩ t)⟩

end Gmlp

end
-- ==== Proof.KernelRun.lean ====
module

public import proofs.«01_k».proof.Proof.KernelValue

@[expose] public section

set_option maxRecDepth 16384

/-! The kernel's run: its six result arrays as functions of its arguments. -/

noncomputable section

namespace Gmlp

open Idealize.ShloMosaic Idealize.ShloMosaic.TcCoe Idealize.SL.Sem Cert.KernelIdeal Cert.KernelIdeal.Gen

variable (m : (ℓ : Loc nD τ sig) → Buf (Elt Ideal) ℓ) (c : Dev nD)

/-- The result windows' blocks over the grid. -/
theorem idxo : ∀ t : Fin cfg0.N, win0_7.index t = ![t.val % 16, t.val / 16] ∧ win0_8.index t = ![t.val % 16, t.val / 16]
    ∧ win0_9.index t = ![0, t.val / 16] ∧ win0_10.index t = ![0, t.val / 16] ∧ win0_11.index t = ![t.val / 16, 0, 0]
    ∧ win0_12.index t = ![t.val / 16, 0, 0] :=
  (by decide +kernel : ∀ t : Fin grid0.N, win0_7.index t = ![t.val % 16, t.val / 16] ∧ win0_8.index t = ![t.val % 16, t.val / 16]
    ∧ win0_9.index t = ![0, t.val / 16] ∧ win0_10.index t = ![0, t.val / 16] ∧ win0_11.index t = ![t.val / 16, 0, 0]
    ∧ win0_12.index t = ![t.val / 16, 0, 0])

/-- Every grid point is a tile of a group. -/
theorem eq_pt (t : Fin cfg0.N) : ∃ g i, t = pt g i := by
  have ht : t.val < 64 := lt_of_lt_of_eq t.isLt Gen.N_0
  exact ⟨⟨t.val / 16, by omega⟩, ⟨t.val % 16, by omega⟩, Fin.ext (Nat.div_add_mod t.val 16).symm⟩

/-- Every row of a tile is a row of one of its chunks. -/
theorem eq_trow (r : Fin 512) : ∃ q t, r = trow q t :=
  ⟨⟨r.val / 128, by omega⟩, ⟨r.val % 128, by omega⟩, Fin.ext (Nat.div_add_mod r.val 128).symm⟩

/-- `plane f` at a group, chunk, row and column. -/
theorem plane_at (f : Fin 4 → Fin 64 → Fin 128 → Fin 128 → EReal) (K : Fin 64) (t d : Fin 128) (g : Fin 4) :
    Args.plane f (ix2 (Args.row K t) (Args.col g d)) = f g K t d := by
  have hf : ∀ (a a' : Fin 4) (b b' : Fin 64) (r r' k k' : Fin 128), a.val = a'.val → b.val = b'.val → r.val = r'.val →
      k.val = k'.val → f a b r k = f a' b' r' k' := by
    intro a a' b b' r r' k k' h1 h2 h3 h4
    rw [Fin.ext h1, Fin.ext h2, Fin.ext h3, Fin.ext h4]
  exact hf _ _ _ _ _ _ _ _ (show (128 * g.val + d.val) / 128 = g.val by omega) (show (128 * K.val + t.val) / 128 = K.val by omega)
    (show (128 * K.val + t.val) % 128 = t.val by omega) (show (128 * g.val + d.val) % 128 = d.val by omega)

/-- `line f` at a group and column. -/
theorem line_at (f : Fin 4 → Fin 128 → EReal) (g : Fin 4) (d : Fin 128) (z : Fin 1) :
    Args.line f (ix2 z (Args.col g d)) = f g d := by
  have hf : ∀ (a a' : Fin 4) (k k' : Fin 128), a.val = a'.val → k.val = k'.val → f a k = f a' k' := by
    intro a a' k k' h1 h2
    rw [Fin.ext h1, Fin.ext h2]
  exact hf _ _ _ _ (show (128 * g.val + d.val) / 128 = g.val by omega) (show (128 * g.val + d.val) % 128 = d.val by omega)

/-- The array of result 0. -/
theorem final7 : (dats m 0 c).arrAt 7 cfg0.N = (args m c).duR := by
  refine (dats m 0 c).arrAt_eq_of_covers 7 _ (by decide +kernel) fun t hf y => ?_
  obtain ⟨g, i, rfl⟩ := eq_pt t
  have h := idxo (pt g i)
  obtain ⟨r, d, rfl⟩ : ∃ (r : Fin 512) (d : Fin 128), y = ix2 r d := ⟨y 0, y 1, ValueIdx.eq_ix2 y⟩
  obtain ⟨q, t, rfl⟩ := eq_trow r
  have e : (win0_7.blk (pt g i)).view.emb (ix2 (trow q t) d) = ix2 (Args.row (chunk i q) t) (Args.col g d) := by
    blk_ext [h]
  blk_simp
  rw [e, after0_7]
  exact (du_at m c g i q t d).trans (plane_at _ _ _ _ _).symm

/-- The array of result 1. -/
theorem final8 : (dats m 0 c).arrAt 8 cfg0.N = (args m c).dvR := by
  refine (dats m 0 c).arrAt_eq_of_covers 8 _ (by decide +kernel) fun t hf y => ?_
  obtain ⟨g, i, rfl⟩ := eq_pt t
  have h := idxo (pt g i)
  obtain ⟨r, d, rfl⟩ : ∃ (r : Fin 512) (d : Fin 128), y = ix2 r d := ⟨y 0, y 1, ValueIdx.eq_ix2 y⟩
  obtain ⟨q, t, rfl⟩ := eq_trow r
  have e : (win0_8.blk (pt g i)).view.emb (ix2 (trow q t) d) = ix2 (Args.row (chunk i q) t) (Args.col g d) := by
    blk_ext [h]
  blk_simp
  rw [e, after0_8]
  exact (dv_at m c g i q t d).trans (plane_at _ _ _ _ _).symm

/-- The array of result 2. -/
theorem final9 : (dats m 0 c).arrAt 9 cfg0.N = (args m c).dgainR := by
  refine (dats m 0 c).arrAt_eq_of_covers 9 _ (by decide +kernel) fun t hf y => ?_
  obtain ⟨g, i, rfl⟩ := eq_pt t
  have h := idxo (pt g i)
  have hi : i.val + 1 = 16 := by
    have h15 : (16 * g.val + i.val) % 16 = 15 := (flush0_9 _).mp hf
    omega
  obtain ⟨z, d, rfl⟩ : ∃ (z : Fin 1) (d : Fin 128), y = ix2 z d := ⟨y 0, y 1, ValueIdx.eq_ix2 y⟩
  obtain rfl : z = 0 := Subsingleton.elim _ _
  have e : (win0_9.blk (pt g i)).view.emb (ix2 (0 : Fin 1) d) = ix2 (0 : Fin 1) (Args.col g d) := by
    blk_ext [h]
  blk_simp
  rw [e, after0_9]
  refine ((acc_at m c g i.val i.isLt).1 d).trans ?_
  rw [hi]
  exact (tiles_sum _).trans (line_at (fun g d => ∑ K : Fin 64, (args m c).dgain g d K) g d 0).symm

/-- The array of result 3. -/
theorem final10 : (dats m 0 c).arrAt 10 cfg0.N = (args m c).dbiasR := by
  refine (dats m 0 c).arrAt_eq_of_covers 10 _ (by decide +kernel) fun t hf y => ?_
  obtain ⟨g, i, rfl⟩ := eq_pt t
  have h := idxo (pt g i)
  have hi : i.val + 1 = 16 := by
    have h15 : (16 * g.val + i.val) % 16 = 15 := (flush0_10 _).mp hf
    omega
  obtain ⟨z, d, rfl⟩ : ∃ (z : Fin 1) (d : Fin 128), y = ix2 z d := ⟨y 0, y 1, ValueIdx.eq_ix2 y⟩
  obtain rfl : z = 0 := Subsingleton.elim _ _
  have e : (win0_10.blk (pt g i)).view.emb (ix2 (0 : Fin 1) d) = ix2 (0 : Fin 1) (Args.col g d) := by
    blk_ext [h]
  blk_simp
  rw [e, after0_10]
  refine ((acc_at m c g i.val i.isLt).2.1 d).trans ?_
  rw [hi]
  exact (tiles_sum _).trans (line_at (fun g d => ∑ K : Fin 64, (args m c).dbias g d K) g d 0).symm

/-- The array of result 4. -/
theorem final11 : (dats m 0 c).arrAt 11 cfg0.N = (args m c).dWR := by
  refine (dats m 0 c).arrAt_eq_of_covers 11 _ (by decide +kernel) fun t hf y => ?_
  obtain ⟨g, i, rfl⟩ := eq_pt t
  have h := idxo (pt g i)
  have hi : i.val + 1 = 16 := by
    have h15 : (16 * g.val + i.val) % 16 = 15 := (flush0_11 _).mp hf
    omega
  obtain ⟨z, t, s, rfl⟩ : ∃ (z : Fin 1) (t s : Fin 128), y = ix3 z t s := ⟨y 0, y 1, y 2, ValueIdx.eq_ix3 y⟩
  obtain rfl : z = 0 := Subsingleton.elim _ _
  have e : (win0_11.blk (pt g i)).view.emb (ix3 (0 : Fin 1) t s) = ix3 g t s := by
    blk_ext [h]
  blk_simp
  rw [e, after0_11]
  refine ((acc_at m c g i.val i.isLt).2.2.1 t s).trans ?_
  rw [hi]
  refine (tiles_sum _).trans ?_
  show _ = if s.val ≤ t.val then ∑ K : Fin 64, (args m c).dW g t s K else 0
  split
  · rfl
  · simp

/-- The array of result 5. -/
theorem final12 : (dats m 0 c).arrAt 12 cfg0.N = (args m c).dbR := by
  refine (dats m 0 c).arrAt_eq_of_covers 12 _ (by decide +kernel) fun t hf y => ?_
  obtain ⟨g, i, rfl⟩ := eq_pt t
  have h := idxo (pt g i)
  have hi : i.val + 1 = 16 := by
    have h15 : (16 * g.val + i.val) % 16 = 15 := (flush0_12 _).mp hf
    omega
  obtain ⟨z, t, z', rfl⟩ : ∃ (z : Fin 1) (t : Fin 128) (z' : Fin 1), y = ix3 z t z' := ⟨y 0, y 1, y 2, ValueIdx.eq_ix3 y⟩
  obtain rfl : z = 0 := Subsingleton.elim _ _
  obtain rfl : z' = 0 := Subsingleton.elim _ _
  have e : (win0_12.blk (pt g i)).view.emb (ix3 (0 : Fin 1) t (0 : Fin 1)) = ix3 g t (0 : Fin 1) := by
    blk_ext [h]
  blk_simp
  rw [e, after0_12]
  refine ((acc_at m c g i.val i.isLt).2.2.2 t).trans ?_
  rw [hi]
  exact tiles_sum _

/-- The kernel's run: its six results, and its arguments as they were. -/
theorem kernel_run (ρ : Dev nD → PrngReg) : θ_run defs (onTc (τ := τ) (main (F := Ideal))) ⟨m, fun _ => 0, ρ⟩ fun r => ∀ c : Dev nD,
    r.2.mem ((c : Thread nD τ).loc main_v3_0) = (args m c).duR
    ∧ r.2.mem ((c : Thread nD τ).loc main_v3_1) = (args m c).dvR
    ∧ r.2.mem ((c : Thread nD τ).loc main_v3_2) = (args m c).dgainR
    ∧ r.2.mem ((c : Thread nD τ).loc main_v3_3) = (args m c).dbiasR
    ∧ r.2.mem ((c : Thread nD τ).loc main_v3_4) = (args m c).dWR
    ∧ r.2.mem ((c : Thread nD τ).loc main_v3_5) = (args m c).dbR
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => ⟨(h c).1.trans (final7 m c), (h c).2.1.trans (final8 m c), (h c).2.2.1.trans (final9 m c),
    (h c).2.2.2.1.trans (final10 m c), (h c).2.2.2.2.1.trans (final11 m c), (h c).2.2.2.2.2.1.trans (final12 m c),
    (h c).2.2.2.2.2.2⟩) (Value.run_blocks (F := Ideal) m ρ)

end Gmlp

end
-- ==== Proof.Finite.lean ====
module

public import proofs.«01_k».proof.Proof.KernelRun

@[expose] public section

/-! Where every argument is a real number the layer norm's gradient is made of real numbers, and the mean of a sum is the
sum of the means. -/

noncomputable section

namespace Gmlp

open Idealize.ShloMosaic

/-- An extended real that is a real number. -/
def Fin' (x : EReal) : Prop := ∃ r : ℝ, x = (r : EReal)

namespace Fin'

theorem coe (r : ℝ) : Fin' (r : EReal) := ⟨r, rfl⟩

theorem one : Fin' 1 := ⟨1, rfl⟩

theorem zero : Fin' 0 := ⟨0, rfl⟩

theorem add {x y : EReal} : Fin' x → Fin' y → Fin' (x + y) := by
  rintro ⟨a, rfl⟩ ⟨b, rfl⟩
  exact ⟨a + b, by norm_cast⟩

theorem mul {x y : EReal} : Fin' x → Fin' y → Fin' (x * y) := by
  rintro ⟨a, rfl⟩ ⟨b, rfl⟩
  exact ⟨a * b, by norm_cast⟩

theorem neg {x : EReal} : Fin' x → Fin' (-x) := by
  rintro ⟨a, rfl⟩
  exact ⟨-a, by norm_cast⟩

theorem sub {x y : EReal} : Fin' x → Fin' y → Fin' (x - y) := by
  rintro ⟨a, rfl⟩ ⟨b, rfl⟩
  exact ⟨a - b, by norm_cast⟩

theorem sum {ι : Type} (s : Finset ι) {f : ι → EReal} (h : ∀ k, Fin' (f k)) : Fin' (∑ k ∈ s, f k) := by
  classical
  induction s using Finset.induction_on with
  | empty => exact ⟨0, by simp⟩
  | insert a s ha ih => rw [Finset.sum_insert ha]; exact (h a).add ih

theorem div {x : EReal} {y : ℝ} (hy : y ≠ 0) (h : Fin' x) : Fin' (Ideal.div x (y : EReal)) := by
  rw [Ideal.div_coe hy]
  exact h.mul (coe _)

theorem erf {x : EReal} : Fin' x → Fin' (Ideal.erf x) := by
  rintro ⟨a, rfl⟩
  exact ⟨_, Ideal.erf_coe a⟩

end Fin'

theorem width_eq : width = ((128 : ℝ) : EReal) := by
  simp [width, Ideal.ofBits, Ideal.ieee, -EReal.coe_mul]; norm_num

theorem half_fin : Fin' half := ⟨1 / 2, by simp [half, Ideal.ofBits, Ideal.ieee, -EReal.coe_mul]; norm_num⟩

theorem mhalf_fin : Fin' mhalf := ⟨-(1 / 2), by simp [mhalf, Ideal.ofBits, Ideal.ieee, -EReal.coe_mul]; norm_num⟩

theorem rt2_fin : Fin' rt2 := by
  simp [Fin', rt2, Ideal.ofBits, Ideal.ieee, -EReal.coe_mul]

theorem eps_pos : ∃ r : ℝ, 0 < r ∧ eps = (r : EReal) := by
  unfold eps Ideal.ofBits Ideal.ieee
  simp [-EReal.coe_mul]

/-- The number two. -/
abbrev two : EReal := Ideal.ofBits .f32 0x40000000#32

theorem two_eq : two = ((2 : ℝ) : EReal) := by
  simp [two, Ideal.ofBits, Ideal.ieee, -EReal.coe_mul]; norm_num

theorem two_fin : Fin' two := ⟨2, two_eq⟩

theorem gel_fin {x : EReal} (h : Fin' x) : Fin' (gel x) :=
  (half_fin.mul h).mul (Fin'.one.add (h.mul rt2_fin).erf)

variable {v lg g : Fin 128 → EReal}

theorem zc_fin (hv : ∀ k, Fin' (v k)) (d : Fin 128) : Fin' (zc v d) := by
  unfold zc
  rw [width_eq]
  exact (gel_fin (hv d)).sub ((Fin'.sum _ fun k => gel_fin (hv k)).div (by norm_num))

/-- Where the row is real, `den` is a positive real. -/
theorem den_pos (hv : ∀ k, Fin' (v k)) : ∃ r : ℝ, 0 < r ∧ den v = (r : EReal) := by
  obtain ⟨e, he, h⟩ := eps_pos
  choose z hz using zc_fin hv
  have hs : ∀ s : Finset (Fin 128), ∃ q : ℝ, 0 ≤ q ∧ ∑ k ∈ s, zc v k * zc v k = (q : EReal) := by
    intro s
    induction s using Finset.induction_on with
    | empty => exact ⟨0, le_refl _, by simp⟩
    | insert a s ha ih =>
      obtain ⟨q, hq, e⟩ := ih
      refine ⟨z a * z a + q, add_nonneg (mul_self_nonneg _) hq, ?_⟩
      rw [Finset.sum_insert ha, e, hz]
      norm_cast
  obtain ⟨q, hq, e'⟩ := hs Finset.univ
  refine ⟨q * (1 / 128) + e, by positivity, ?_⟩
  unfold den
  rw [e', h, width_eq, Ideal.div_coe (by norm_num)]
  norm_cast

theorem rs_fin (hv : ∀ k, Fin' (v k)) : Fin' (rs v) := by
  obtain ⟨r, hr, h⟩ := den_pos hv
  unfold rs
  rw [h, Ideal.rsqrt_coe, if_neg hr.le.not_gt, if_neg hr.ne']
  exact Fin'.coe _

/-- What the variance's gradient gives each entry of a row, before the centring's factor. -/
def sv (v lg g : Fin 128 → EReal) : EReal :=
  Ideal.div ((∑ k : Fin 128, zc v k * (g k * lg k)) * (mhalf * Ideal.div (rs v) (den v))) width

theorem sv_fin (hv : ∀ k, Fin' (v k)) (hl : ∀ k, Fin' (lg k)) (hg : ∀ k, Fin' (g k)) : Fin' (sv v lg g) := by
  obtain ⟨r, hr, h⟩ := den_pos hv
  unfold sv
  rw [width_eq, h]
  exact ((Fin'.sum _ fun k => (zc_fin hv k).mul ((hg k).mul (hl k))).mul (mhalf_fin.mul ((rs_fin hv).div hr.ne'))).div
    (by norm_num)

/-- The layer norm's gradient of a real row, with the two means taken apart. -/
theorem dz_split (hv : ∀ k, Fin' (v k)) (hl : ∀ k, Fin' (lg k)) (hg : ∀ k, Fin' (g k)) (d : Fin 128) :
    dz v lg g d = g d * lg d * rs v + sv v lg g * (two * zc v d)
      + Ideal.div (∑ k : Fin 128, -(g k * lg k * rs v) + ∑ k : Fin 128, -(sv v lg g * (two * zc v k))) width := by
  have hdw : ∀ k, dw v lg g k = g k * lg k * rs v + sv v lg g * (two * zc v k) := by
    intro k
    show g k * lg k * rs v + zc v k * sv v lg g + sv v lg g * zc v k = _
    obtain ⟨s, hs⟩ := sv_fin hv hl hg
    obtain ⟨z, hz⟩ := zc_fin hv k
    rw [hs, hz, two_eq, add_assoc]
    congr 1
    norm_cast
    ring
  unfold dz
  rw [← Finset.sum_add_distrib]
  simp only [hdw]
  congr 2
  refine Finset.sum_congr rfl fun k _ => ?_
  obtain ⟨a, ha⟩ := ((hg k).mul (hl k)).mul (rs_fin hv)
  obtain ⟨b, hb⟩ := (sv_fin hv hl hg).mul (two_fin.mul (zc_fin hv k))
  rw [ha, hb, zero_sub]
  norm_cast
  ring

/-- The arguments' entries that the call reads before the row's mean are real numbers. -/
structure Args.Finite (A : Args) : Prop where
  u : ∀ g K t d, Fin' (A.u g K t d)
  v : ∀ g K t d, Fin' (A.v g K t d)
  g : ∀ g K t d, Fin' (A.g g K t d)
  gain : ∀ g d, Fin' (A.gain g d)
  W : ∀ g t s, Fin' (A.W g t s)

theorem dvn_fin {A : Args} (h : A.Finite) (g : Fin 4) (K : Fin 64) (s d : Fin 128) : Fin' (A.dvn g K s d) := by
  unfold Args.dvn dvn
  refine Fin'.sum _ fun t => Fin'.mul ?_ ((gel_fin (h.u g K t d)).mul (h.g g K t d))
  unfold wm
  split
  · exact h.W g t s
  · exact Fin'.zero

end Gmlp

end
-- ==== Proof.Sums.lean ====
module

public import proofs.«01_k».proof.Proof.Finite
public import Idealize.ShloMosaic.Lib.Pointwise

@[expose] public section

/-! Sums over several axes at once. -/

noncomputable section

namespace Gmlp

open Idealize.ShloMosaic

variable {n0 n1 n2 n3 n4 : Nat}

/-- A host sum over the axes 0, 1 and 2 of five. -/
theorem sum_axes_012 (h : (⟨5, ![n0, n1, n2, n3, n4]⟩ : Shape).ReducesTo [0, 1, 2] ⟨2, ![n3, n4]⟩)
    (x : (⟨5, ![n0, n1, n2, n3, n4]⟩ : Shape).Idx → EReal) (i : EReal) (a : Fin n3) (c : Fin n4) :
    Ideal.hostReduceAdd h x i (ix2 a c) = i + ∑ k0 : Fin n0, ∑ k1 : Fin n1, ∑ k2 : Fin n2, x (ix5 k0 k1 k2 a c) := by
  refine congrArg (i + ·) ((Finset.sum_filter_eq_sum_of_fiber _ (fun k : Fin n0 × Fin n1 × Fin n2 => ix5 k.1 k.2.1 k.2.2 a c)
    (fun _ _ e => Prod.ext (congrFun e 0) (Prod.ext (congrFun e 1) (congrFun e 2))) (fun y => ?_) x).trans ?_)
  · constructor
    · intro e
      refine ⟨(y 0, y 1, y 2), funext fun b => ?_⟩
      match b with
      | ⟨0, _⟩ => rfl
      | ⟨1, _⟩ => rfl
      | ⟨2, _⟩ => rfl
      | ⟨3, _⟩ => exact Fin.ext (congrArg Fin.val (congrFun e 0)).symm
      | ⟨4, _⟩ => exact Fin.ext (congrArg Fin.val (congrFun e 1)).symm
    · rintro ⟨k, rfl⟩
      funext b
      match b with
      | ⟨0, _⟩ => rfl
      | ⟨1, _⟩ => rfl
  · simp only [Fintype.sum_prod_type]

/-- A host sum over the axes 0, 1 and 4 of five. -/
theorem sum_axes_014 (h : (⟨5, ![n0, n1, n2, n3, n4]⟩ : Shape).ReducesTo [0, 1, 4] ⟨2, ![n2, n3]⟩)
    (x : (⟨5, ![n0, n1, n2, n3, n4]⟩ : Shape).Idx → EReal) (i : EReal) (a : Fin n2) (c : Fin n3) :
    Ideal.hostReduceAdd h x i (ix2 a c) = i + ∑ k0 : Fin n0, ∑ k1 : Fin n1, ∑ k4 : Fin n4, x (ix5 k0 k1 a c k4) := by
  refine congrArg (i + ·) ((Finset.sum_filter_eq_sum_of_fiber _ (fun k : Fin n0 × Fin n1 × Fin n4 => ix5 k.1 k.2.1 a c k.2.2)
    (fun _ _ e => Prod.ext (congrFun e 0) (Prod.ext (congrFun e 1) (congrFun e 4))) (fun y => ?_) x).trans ?_)
  · constructor
    · intro e
      refine ⟨(y 0, y 1, y 4), funext fun b => ?_⟩
      match b with
      | ⟨0, _⟩ => rfl
      | ⟨1, _⟩ => rfl
      | ⟨2, _⟩ => exact Fin.ext (congrArg Fin.val (congrFun e 0)).symm
      | ⟨3, _⟩ => exact Fin.ext (congrArg Fin.val (congrFun e 1)).symm
      | ⟨4, _⟩ => rfl
    · rintro ⟨k, rfl⟩
      funext b
      match b with
      | ⟨0, _⟩ => rfl
      | ⟨1, _⟩ => rfl
  · simp only [Fintype.sum_prod_type]

/-- Chunk `n` of sequence `b`. -/
abbrev ck (b : Fin 2) (n : Fin 32) : Fin 64 := ⟨32 * b.val + n.val, by omega⟩

/-- A sum over the chunks, sequence by sequence. -/
theorem sum_ck (f : Fin 64 → EReal) : ∑ K : Fin 64, f K = ∑ b : Fin 2, ∑ n : Fin 32, f (ck b n) := by
  rw [← Equiv.sum_comp (finProdFinEquiv (m := 2) (n := 32)) f, Fintype.sum_prod_type]
  refine Finset.sum_congr rfl fun b _ => Finset.sum_congr rfl fun n _ => congrArg f (Fin.ext ?_)
  simp [finProdFinEquiv]; omega

end Gmlp

end
-- ==== Proof.RefRead.lean ====
module

public import proofs.«01_k».proof.Proof.Sums
public import proofs.«01_k».proof.Proof.Gen.ReferenceIdeal.Run

@[expose] public section

set_option maxRecDepth 16384

/-! The reference's intermediate arrays, entry by entry. -/

noncomputable section

namespace Gmlp

open Idealize.ShloMosaic Idealize.ShloMosaic.TcCoe Idealize.SL.Sem Cert.ReferenceIdeal Cert.ReferenceIdeal.Value

variable (V0 : Valuation τ sig (Elt Ideal))

/-- The reference's arguments. -/
def rargs : Args where
  hin := V0 (Proc.devRef .tc main_arg0)
  lg := V0 (Proc.devRef .tc main_arg1)
  lb := V0 (Proc.devRef .tc main_arg2)
  ws := V0 (Proc.devRef .tc main_arg3)
  bs := V0 (Proc.devRef .tc main_arg4)
  dy := V0 (Proc.devRef .tc main_arg5)

/-- Row `t` of chunk `n` of a sequence. -/
abbrev sq (n : Fin 32) (t : Fin 128) : Fin 4096 := ⟨128 * n.val + t.val, by omega⟩

variable (b : Fin 2) (n : Fin 32) (t : Fin 128) (g : Fin 4) (d : Fin 128)

theorem r1 : res_main_v1 V0 (ix3 b (sq n t) (Args.col g d)) = (rargs V0).u g (ck b n) t d := by
  unfold Args.u rargs
  pointwise [res_main_v1, res_main_v0]
  blk_ext []

theorem r2 : res_main_v2 V0 (ix3 b (sq n t) (Args.col g d)) = (rargs V0).v g (ck b n) t d := by
  unfold Args.v rargs
  pointwise [res_main_v2, res_main_v0]
  blk_ext []

theorem r4 : res_main_v4 V0 (ix3 b (sq n t) (Args.col g d)) = (rargs V0).g g (ck b n) t d := by
  unfold Args.g rargs
  pointwise [res_main_v4]
  blk_ext []

/-- GELU by the complementary error function. -/
theorem gel_erfc (x : EReal) : half * x * Ideal.erfc (-x * rt2) = gel x := by
  unfold gel
  rw [EReal.neg_mul, Ideal.erfc_neg]

theorem r14 : res_main_v14 V0 (ix3 b (sq n t) (Args.col g d)) = gel ((rargs V0).u g (ck b n) t d) := by
  rw [← r1, ← gel_erfc]
  pointwise [res_main_v14, res_main_v6, res_main_v10, res_main_v9]

theorem sq_eq (h : n.val * 128 + t.val < 4096) : (⟨n.val * 128 + t.val, h⟩ : Fin 4096) = sq n t := Fin.ext (by show n.val * 128 + t.val = 128 * n.val + t.val; omega)
theorem col_eq (h : g.val * 128 + d.val < 512) : (⟨g.val * 128 + d.val, h⟩ : Fin 512) = Args.col g d := Fin.ext (by show g.val * 128 + d.val = 128 * g.val + d.val; omega)

theorem chunk_of (h : (128 * n.val + t.val) / 128 < 32) : (⟨(128 * n.val + t.val) / 128, h⟩ : Fin 32) = n := Fin.ext (by show (128 * n.val + t.val) / 128 = n.val; omega)
theorem row_of (h : (128 * n.val + t.val) % 128 < 128) : (⟨(128 * n.val + t.val) % 128, h⟩ : Fin 128) = t := Fin.ext (by show (128 * n.val + t.val) % 128 = t.val; omega)
theorem group_of (h : (128 * g.val + d.val) / 128 < 4) : (⟨(128 * g.val + d.val) / 128, h⟩ : Fin 4) = g := Fin.ext (by show (128 * g.val + d.val) / 128 = g.val; omega)
theorem lane_of (h : (128 * g.val + d.val) % 128 < 128) : (⟨(128 * g.val + d.val) % 128, h⟩ : Fin 128) = d := Fin.ext (by show (128 * g.val + d.val) % 128 = d.val; omega)

theorem r25 : res_main_v25 V0 (ix5 b n t g d) = gel ((rargs V0).v g (ck b n) t d) := by
  rw [← r2, ← gel_erfc]
  pointwise [res_main_v25, res_main_v16, res_main_v20, res_main_v19]
  simp only [sq_eq, col_eq]

theorem r31 : res_main_v31 V0 (ix5 b n t g 0) = Ideal.div (∑ k : Fin 128, gel ((rargs V0).v g (ck b n) t k)) width := by
  pointwise [res_main_v31]
  simp only [r25]

theorem r33 : res_main_v33 V0 (ix5 b n t g d) = zc ((rargs V0).v g (ck b n) t) d := by
  unfold zc
  rw [← r31]
  pointwise [res_main_v33]
  rw [r25]

theorem r42 : res_main_v42 V0 (ix5 b n t g d) = zc ((rargs V0).v g (ck b n) t) d := by
  unfold zc
  rw [← r31]
  pointwise [res_main_v42]
  rw [r25]

theorem r44 : res_main_v44 V0 (ix5 b n t g 0) = den ((rargs V0).v g (ck b n) t) := by
  unfold den
  pointwise [res_main_v44]
  simp only [r33]

theorem r45 : res_main_v45 V0 (ix5 b n t g 0) = rs ((rargs V0).v g (ck b n) t) := by
  unfold rs
  rw [← r44]
  pointwise [res_main_v45]

theorem r50 : res_main_v50 V0 (ix5 b n t g d) = yh ((rargs V0).v g (ck b n) t) d := by
  unfold yh
  rw [← r45, ← r42]
  pointwise [res_main_v50]

theorem r51 : res_main_v51 V0 (ix5 0 0 0 g d) = (rargs V0).gain g d := by
  unfold Args.gain rargs
  pointwise [res_main_v51]
  blk_ext []

theorem r56 : res_main_v56 V0 (ix5 b n t g d) = vn ((rargs V0).v g (ck b n) t) ((rargs V0).gain g) ((rargs V0).bias g) d := by
  unfold vn Args.bias
  rw [← r50, ← r51]
  pointwise [res_main_v56]
  simp only [col_eq]
  rfl

theorem r61b (s : Fin 128) : res_main_v61_1 V0 (ix3 g t s) = if s.val ≤ t.val then 1#1 else 0#1 := by
  pointwise [res_main_v61_1]
  rw [show IntOp.addi (BitVec.ofNat 32 t.val) 0#32 = BitVec.ofNat 32 t.val from by simp [IntOp.addi],
    WordCmp.cmpi_sge_ofNat (by omega) (by omega)]
  by_cases h : s.val ≤ t.val <;> simp [h, Scalar.select]

theorem r61 (s : Fin 128) : res_main_v61_0 V0 (ix3 g t s) = wm ((rargs V0).W g) t s := by
  unfold wm Args.W rargs
  pointwise [res_main_v61_0]
  rw [r61b]
  split <;> rfl

theorem r69 : res_main_v69 V0 (ix3 b (sq n t) (Args.col g d))
    = mix ((rargs V0).W g) ((rargs V0).b g) ((rargs V0).v g (ck b n)) ((rargs V0).gain g) ((rargs V0).bias g) t d := by
  unfold mix Args.b
  simp only [← r61, ← r56]
  pointwise [res_main_v69]
  simp only [chunk_of, row_of, group_of, lane_of]
  exact congrArg (· + _) (Finset.sum_congr rfl fun x _ => mul_comm _ _)

theorem r72 : res_main_v72 V0 (ix3 b (sq n t) (Args.col g d))
    = (rargs V0).g g (ck b n) t d * mix ((rargs V0).W g) ((rargs V0).b g) ((rargs V0).v g (ck b n)) ((rargs V0).gain g) ((rargs V0).bias g) t d := by
  rw [← r69, ← r4]
  pointwise [res_main_v72]

theorem r73 : res_main_v73 V0 (ix5 b n t g d) = ct ((rargs V0).u g (ck b n)) ((rargs V0).g g (ck b n)) t d := by
  unfold ct
  rw [← r14, ← r4]
  pointwise [res_main_v73]
  simp only [sq_eq, col_eq]

theorem r80 : res_main_v80 V0 (ix5 g b n d t) = ct ((rargs V0).u g (ck b n)) ((rargs V0).g g (ck b n)) t d := by
  rw [← r73]
  pointwise [res_main_v80]

theorem r83 : res_main_v83 V0 (ix5 b n t g d) = (rargs V0).dvn g (ck b n) t d := by
  unfold Args.dvn dvn
  simp only [← r80, ← r61]
  pointwise [res_main_v83]
  simp only [mul_comm]

theorem r92 : res_main_v92 V0 (ix5 b n t g d) = (rargs V0).dvn g (ck b n) t d * (rargs V0).gain g d := by
  rw [← r83, ← r51]
  pointwise [res_main_v92]

theorem r98 : res_main_v98 V0 (ix5 b n t g d)
    = (rargs V0).dvn g (ck b n) t d * (rargs V0).gain g d * rs ((rargs V0).v g (ck b n) t) := by
  rw [← r92, ← r45]
  pointwise [res_main_v98]

theorem r107 : res_main_v107 V0 (ix5 b n t g d)
    = sv ((rargs V0).v g (ck b n) t) ((rargs V0).gain g) ((rargs V0).dvn g (ck b n) t) * (two * zc ((rargs V0).v g (ck b n) t) d) := by
  pointwise [res_main_v107]
  simp only [r92, r42, r33, Finset.univ_unique, Finset.sum_singleton, Fin.default_eq_zero, r44, r45]
  rfl

/-- The layer norm's gradient of a row, its two means taken apart. -/
theorem r120 : res_main_v120 V0 (ix3 b (sq n t) (Args.col g d))
    = (rargs V0).dvn g (ck b n) t d * (rargs V0).gain g d * rs ((rargs V0).v g (ck b n) t)
      + sv ((rargs V0).v g (ck b n) t) ((rargs V0).gain g) ((rargs V0).dvn g (ck b n) t) * (two * zc ((rargs V0).v g (ck b n) t) d)
      + Ideal.div (∑ k : Fin 128, -((rargs V0).dvn g (ck b n) t k * (rargs V0).gain g k * rs ((rargs V0).v g (ck b n) t))
          + ∑ k : Fin 128, -(sv ((rargs V0).v g (ck b n) t) ((rargs V0).gain g) ((rargs V0).dvn g (ck b n) t)
              * (two * zc ((rargs V0).v g (ck b n) t) k))) width := by
  pointwise [res_main_v120]
  simp only [chunk_of, row_of, group_of, lane_of, Finset.univ_unique, Finset.sum_singleton, r98, r107]

/-- The gradient of GELU by the complementary error function. -/
theorem dgel_erfc (x g : EReal) :
    -(Ideal.ofBits .f32 0xBF906EBB#32 * (half * x * g) * Ideal.exp (-(-x * rt2 * (-x * rt2))) * rt2)
      + half * (g * Ideal.erfc (-x * rt2)) = dgel x g := by
  unfold dgel
  have h : Ideal.ofBits .f32 0xBF906EBB#32 = -c2 := by
    simp [c2, Ideal.ofBits, Ideal.ieee, -EReal.coe_mul]
  rw [h]
  simp only [EReal.neg_mul, mul_neg, neg_neg, Ideal.erfc_neg, zero_sub]

theorem seq_of (h : (128 * (32 * b.val + n.val) + t.val) / 4096 < 2) :
    (⟨(128 * (32 * b.val + n.val) + t.val) / 4096, h⟩ : Fin 2) = b :=
  Fin.ext (by show (128 * (32 * b.val + n.val) + t.val) / 4096 = b.val; omega)

theorem pos_of (h : (128 * (32 * b.val + n.val) + t.val) % 4096 < 4096) :
    (⟨(128 * (32 * b.val + n.val) + t.val) % 4096, h⟩ : Fin 4096) = sq n t :=
  Fin.ext (by show (128 * (32 * b.val + n.val) + t.val) % 4096 = 128 * n.val + t.val; omega)

/-- Every chunk is a chunk of a sequence. -/
theorem eq_ck (K : Fin 64) : ∃ b n, K = ck b n :=
  ⟨⟨K.val / 32, by omega⟩, ⟨K.val % 32, by omega⟩, Fin.ext (Nat.div_add_mod K.val 32).symm⟩

/-- The first result. -/
theorem v144_at : val4 V0 (Proc.devRef .tc main_v144) = (rargs V0).duR := by
  rw [val4_main_v144]
  refine Args.eq_plane _ _ fun g K t d => ?_
  obtain ⟨b, n, rfl⟩ := eq_ck K
  unfold Args.du
  rw [← dgel_erfc, ← r72, ← r1]
  pointwise [res_main_v6, res_main_v10, res_main_v9]
  simp only [seq_of, pos_of]

/-- The second result. -/
theorem v146_at (h : (rargs V0).Finite) : val4 V0 (Proc.devRef .tc main_v146) = (rargs V0).dvR := by
  rw [val4_main_v146]
  refine Args.eq_plane _ _ fun g K t d => ?_
  obtain ⟨b, n, rfl⟩ := eq_ck K
  unfold Args.dv
  rw [← dgel_erfc, dz_split (h.v g _ t) (h.gain g) (dvn_fin h g _ t), ← r120, ← r2]
  pointwise [res_main_v16, res_main_v20, res_main_v19]
  simp only [seq_of, pos_of]

/-- The third result. -/
theorem v147_at : val4 V0 (Proc.devRef .tc main_v147) = (rargs V0).dgainR := by
  rw [val4_main_v147]
  refine Args.eq_line _ _ fun g d => ?_
  unfold Args.dgain
  rw [sum_ck]
  simp only [← r50, ← r83]
  pointwise
  simp only [sum_axes_012]
  pointwise
  simp only [sum_axes_012]
  pointwise
  simp only [Finset.univ_unique, Finset.sum_singleton]

/-- The fourth result. -/
theorem v148_at : val4 V0 (Proc.devRef .tc main_v148) = (rargs V0).dbiasR := by
  rw [val4_main_v148]
  refine Args.eq_line _ _ fun g d => ?_
  unfold Args.dbias
  rw [sum_ck]
  simp only [← r83]
  pointwise
  simp only [sum_axes_012]
  pointwise
  simp only [sum_axes_012]
  pointwise
  simp only [Finset.univ_unique, Finset.sum_singleton]

/-- The sixth result. -/
theorem v149_at : val4 V0 (Proc.devRef .tc main_v149) = (rargs V0).dbR := by
  rw [val4_main_v149]
  funext j
  obtain ⟨g, t, z, rfl⟩ : ∃ (g : Fin 4) (t : Fin 128) (z : Fin 1), j = ix3 g t z := ⟨j 0, j 1, j 2, ValueIdx.eq_ix3 j⟩
  show _ = ∑ K : Fin 64, (rargs V0).db g t K
  unfold Args.db
  rw [sum_ck]
  simp only [← r73]
  pointwise
  simp only [sum_axes_014]
  pointwise
  simp only [sum_axes_014]
  pointwise
  simp only [Finset.univ_unique, Finset.sum_singleton]

/-- The product behind the fifth result at an entry. -/
theorem dot_at (l : FVec Ideal S4x2x32x128x128 .f32) (r : FVec Ideal S2x32x128x4x128 .f32) (g : Fin 4) (t s : Fin 128) :
    Ideal.matmul dot_S4x2x32x128x128_S2x32x128x4x128_S4x128x128_123_014_4_2_0_3 l r (fun _ => 0) (ix3 g t s)
      = ∑ b : Fin 2, ∑ n : Fin 32, ∑ d : Fin 128, l (ix5 g b n d t) * r (ix5 b n s g d) := by
  refine (zero_add _).trans ?_
  refine Eq.trans ?_ (Fintype.sum_prod_type (fun p : Fin 2 × Fin 32 × Fin 128 =>
    l (ix5 g p.1 p.2.1 p.2.2 t) * r (ix5 p.1 p.2.1 s g p.2.2)) |>.trans
      (Finset.sum_congr rfl fun b _ => Fintype.sum_prod_type _))
  let D := dot_S4x2x32x128x128_S2x32x128x4x128_S4x128x128_123_014_4_2_0_3
  have h3 : D.contr.rank = 3 := rfl
  let φ : D.contr.Idx → Fin 2 × Fin 32 × Fin 128 := fun k => (k ⟨0, by omega⟩, k ⟨1, by omega⟩, k ⟨2, by omega⟩)
  refine Fintype.sum_bijective φ ⟨?_, ?_⟩ _ _ fun k => ?_
  · intro a b e
    funext i
    match i with
    | ⟨0, _⟩ => exact congrArg Prod.fst e
    | ⟨1, _⟩ => exact congrArg (fun p => p.2.1) e
    | ⟨2, _⟩ => exact congrArg (fun p => p.2.2) e
  · rintro ⟨b, n, d⟩
    exact ⟨fun i => match i with
      | ⟨0, _⟩ => b
      | ⟨1, _⟩ => n
      | ⟨2, _⟩ => d, rfl⟩
  · refine congrArg₂ (· * ·) (congrArg l (funext fun a => ?_)) (congrArg r (funext fun a => ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
      | ⟨4, _⟩ => rfl

theorem v84_at : val4 V0 (Proc.devRef .tc main_v84) = (rargs V0).dWR := by
  rw [val4_main_v84]
  funext j
  obtain ⟨g, t, s, rfl⟩ : ∃ (g : Fin 4) (t s : Fin 128), j = ix3 g t s := ⟨j 0, j 1, j 2, ValueIdx.eq_ix3 j⟩
  show _ = if s.val ≤ t.val then ∑ K : Fin 64, (rargs V0).dW g t s K else 0
  pointwise
  have e := dot_at (res_main_v80 V0) (res_main_v56 V0) g t s
  rw [r61b]
  refine (congrArg (fun x => Scalar.select (if s.val ≤ t.val then 1#1 else 0#1) x (0 : EReal)) e).trans ?_
  split
  · unfold Args.dW
    rw [sum_ck]
    simp only [r80, r56]
    rfl
  · rfl

end Gmlp

end
-- ==== Proof.Reals.lean ====
module

public import proofs.«01_k».proof.Defs
public import proofs.«01_k».proof.Proof.RefRead
public import proofs.«01_k».proof.Proof.Gen.Pre_finite

@[expose] public section

set_option maxRecDepth 16384

/-! What the precondition says: the entries of the arguments that are read are real numbers. -/

noncomputable section

namespace Gmlp

open Idealize.ShloMosaic Idealize.ShloMosaic.TcCoe Idealize.SL.Sem Cert.KernelIdeal

/-- A number whose absolute value is below infinity is real. -/
theorem real_of_abs {x : EReal} (h : BitVec.ofBool (decide (max x (-x) < Ideal.ofBits .f32 0x7F800000#32)) = 1#1) : Fin' x := by
  have ht : Ideal.ofBits .f32 0x7F800000#32 = ⊤ := by simp [Ideal.ofBits, Ideal.ieee]
  rw [ht] at h
  have hx : max x (-x) < ⊤ := by
    by_contra hn
    simp [hn] at h
  induction x with
  | bot => simp at hx
  | top => simp at hx
  | coe r => exact Fin'.coe r

/-- Under the precondition a device's arguments are real where they are read. -/
theorem args_finite [Cert.Pre_finite.Facts] {m : (ℓ : Loc nD τ sig) → Buf (Elt Ideal) ℓ} (h : Cert.Pre_KernelIdeal_finite m) (c : Dev nD) :
    (args m c).Finite := by
  obtain ⟨h0, h1, h3, h5⟩ := h c
  have e0 : ∀ (r : Fin 8192) (k : Fin 1024), Fin' ((args m c).hin (ix2 r ⟨k.val, by omega⟩)) := fun r k => by
    have e := congrFun h0 (ix2 r k)
    unfold Cert.Pre_finite.fn at e
    refine real_of_abs (Eq.trans ?_ e)
    pointwise
    rfl
  have e5 : ∀ (r : Fin 8192) (k : Fin 512), Fin' ((args m c).dy (ix2 r ⟨k.val, by omega⟩)) := fun r k => by
    have e := congrFun h5 (ix2 r k)
    unfold Cert.Pre_finite.fn at e
    refine real_of_abs (Eq.trans ?_ e)
    pointwise
    rfl
  exact
    { u := fun g K t d => e0 _ ⟨128 * g.val + d.val, by omega⟩
      v := fun g K t d => e0 _ ⟨512 + (128 * g.val + d.val), by omega⟩
      g := fun g K t d => e5 _ ⟨128 * g.val + d.val, by omega⟩
      gain := fun g d => real_of_abs (congrFun h1 (ix1 (Args.col g d)))
      W := fun g t s => real_of_abs (congrFun h3 (ix3 g t s)) }

end Gmlp

end
-- ==== Proof.Tiles.lean ====
module

public import proofs.«01_k».proof.Proof.Reals
public import Idealize.ShloMosaic.PureOps.Ideal
public import Idealize.ShloMosaic.Lib.Pointwise

@[expose] public section

/-! Matrix products, and a product's sum taken tile by tile. -/

noncomputable section

namespace Tiles

open Idealize.ShloMosaic

/-- A matrix of `a` rows and `b` columns. -/
abbrev Mat (a b : ℕ) : Type := (⟨2, ![a, b]⟩ : Shape).Idx → EReal

variable {M K N : ℕ}

/-- The product of the transpose of `x` with `y`. -/
def tn (x : Mat K M) (y : Mat K N) : Mat M N := fun i => ∑ k : Fin K, x (ix2 k (i 0)) * y (ix2 k (i 1))

/-- The product of `x` with `y`. -/
def nn (x : Mat M K) (y : Mat K N) : Mat M N := fun i => ∑ k : Fin K, x (ix2 (i 0) k) * y (ix2 k (i 1))

/-- The product of `x` with the transpose of `y`. -/
def nt (x : Mat M K) (y : Mat N K) : Mat M N := fun i => ∑ k : Fin K, x (ix2 (i 0) k) * y (ix2 (i 1) k)

/-- The corner of a block. -/
theorem corner : (![0, 0] : Fin 2 → ℕ) = fun _ => 0 := by decide

/-- An accumulator that starts at the first tile's share and adds one tile's share at each step holds, after a step, the sum of
    the shares so far. -/
theorem fold {n : ℕ} (a : (j : ℕ) → j < n → EReal) (T : Fin n → EReal) (h0 : ∀ h, a 0 h = T ⟨0, h⟩)
    (hs : ∀ j h, a (j + 1) h = a j (Nat.lt_of_succ_lt h) + T ⟨j + 1, h⟩) (j : ℕ) (h : j < n) :
    a j h = ∑ s : Fin (j + 1), T (s.castLE h) := by
  induction j with
  | zero => rw [h0]; simp; rfl
  | succ j ih => rw [hs, ih]; exact (Fin.sum_univ_castSucc fun s : Fin (j + 2) => T (s.castLE h)).symm

/-- So if the last step's share is added on the way out, what goes out is the sum of all shares. -/
theorem fold_out {n : ℕ} (a : (j : ℕ) → j < n + 1 → EReal) (o : EReal) (T : Fin (n + 2) → EReal)
    (h0 : a 0 n.succ_pos = T 0) (hs : ∀ j (h : j + 1 < n + 1), a (j + 1) h = a j (Nat.lt_of_succ_lt h) + T ⟨j + 1, Nat.lt_succ_of_lt h⟩)
    (ho : o = a n n.lt_succ_self + T (Fin.last _)) : o = ∑ s, T s := by
  rw [ho, fold a (fun s => T s.castSucc) (fun _ => h0) hs n n.lt_succ_self]
  exact (Fin.sum_univ_castSucc T).symm

/-- Place `k` of tile `s`. -/
abbrev at' {n b N : ℕ} (h : n * b = N) (s : Fin n) (k : Fin b) : Fin N :=
  ⟨b * s.val + k.val, by
    have := Nat.mul_le_mul_left b s.isLt
    have e : b * n = N := by rw [Nat.mul_comm]; exact h
    have := k.isLt
    rw [Nat.mul_succ] at *
    omega⟩

/-- A sum over a line is the sum over its tiles of the sums over each. -/
theorem sum_eq {n b N : ℕ} (h : n * b = N) (f : Fin N → EReal) : ∑ k, f k = ∑ s : Fin n, ∑ k : Fin b, f (at' h s k) := by
  subst h
  rw [← Equiv.sum_comp (finProdFinEquiv (m := n) (n := b)) f, Fintype.sum_prod_type]
  refine Finset.sum_congr rfl fun s _ => Finset.sum_congr rfl fun k _ => congrArg f (Fin.ext ?_)
  show k.val + b * s.val = b * s.val + k.val
  omega

end Tiles

end
-- ==== Proof.FfnInDw.lean ====
module

public import proofs.«01_k».proof.Defs
public import proofs.«01_k».proof.Proof.Tiles
public import proofs.«01_k».proof.Proof.Gen.KernelFfnInDwIdeal.Value
public import proofs.«01_k».proof.Proof.Gen.ReferenceFfnInDwIdeal.Read
public import proofs.«01_k».proof.Proof.Gen.ReferenceFfnInDwIdeal.Run
public import Idealize.ShloMosaic.Lib.Quiescent
public import Idealize.ShloMosaic.Lib.Pipeline.ValueKit.Point
public import Idealize.ShloMosaic.Lib.Pointwise

@[expose] public section

set_option maxRecDepth 16384

/-! The gradient of the feed-forward layer's first weight matrices. -/

noncomputable section

namespace FfnInDw

open Idealize.ShloMosaic Idealize.ShloMosaic.TcCoe Idealize.SL.Sem

section

open Cert.KernelFfnInDwIdeal Cert.KernelFfnInDwIdeal.Gen

/-- The accumulator's first value: the product of the first two tiles. -/
theorem start_at (x : Vec Ideal S512x512 .f32) (y : Vec Ideal S512x1024 .bf16) (r : Fin 512) (d : Fin 1024) :
    k0_pay2 x y (ix2 r d) = Tiles.tn x y (ix2 r d) := by
  unfold Tiles.tn
  pointwise [k0_pay2, k0_pay1]

/-- Its next value: the product of the next two tiles is added. -/
theorem step_at (x : Vec Ideal S512x512 .f32) (y : Vec Ideal S512x1024 .bf16) (a : Vec Ideal S512x1024 .f32) (r : Fin 512) (d : Fin 1024) :
    k0_pay3 x y a (ix2 r d) = a (ix2 r d) + Tiles.tn x y (ix2 r d) := by
  unfold Tiles.tn
  pointwise [k0_pay3, k0_pay1]

variable (m : (ℓ : Loc nD τ sig) → Buf (Elt Ideal) ℓ) (c : Dev nD)

/-- The windows' blocks over the grid. -/
theorem idx : ∀ t : Fin cfg0.N, win0_0.index t = ![t.val % 16, t.val / 96] ∧ win0_1.index t = ![t.val % 16, t.val / 16 % 6]
    ∧ win0_2.index t = ![t.val / 96, t.val / 16 % 6] :=
  (by decide +kernel : ∀ t : Fin grid0.N, win0_0.index t = ![t.val % 16, t.val / 96] ∧ win0_1.index t = ![t.val % 16, t.val / 16 % 6]
    ∧ win0_2.index t = ![t.val / 96, t.val / 16 % 6])

/-- The grid point of tile `s` of the sum for block `g` of the result. -/
abbrev pt (g : Fin 12) (s : Fin 16) : Fin cfg0.N := ⟨16 * g.val + s.val, by show _ < grid0.N; rw [Gen.N_0]; omega⟩

/-- Row `r` and column `d` of block `g` of the result. -/
abbrev row (g : Fin 12) (r : Fin 512) : Fin 1024 := ⟨512 * (g.val / 6) + r.val, by omega⟩
@[inherit_doc row] abbrev col (g : Fin 12) (d : Fin 1024) : Fin 6144 := ⟨1024 * (g.val % 6) + d.val, by omega⟩

variable (g : Fin 12)

/-- The left factor's tile `s` for block `g`. -/
theorem blk_x (s : Fin 16) (k : Fin 512) (r : Fin 512) : (iblk m c 0 (pt g s) : Vec Ideal S512x512 .f32) (ix2 k r)
    = m ((c : Thread nD τ).loc main_arg0) (ix2 (Tiles.at' (n := 16) rfl s k) (row g r)) := by
  have h := idx (pt g s)
  blk_ext! [iblk, V, h]

/-- The right factor's tile `s` for block `g`. -/
theorem blk_y (s : Fin 16) (k : Fin 512) (d : Fin 1024) : (iblk m c 1 (pt g s) : Vec Ideal S512x1024 .bf16) (ix2 k d)
    = m ((c : Thread nD τ).loc main_arg1) (ix2 (Tiles.at' (n := 16) rfl s k) (col g d)) := by
  have h := idx (pt g s)
  blk_ext! [iblk, V, h]

/-- What the last tile writes to the result's block. -/
theorem block (r : Fin 512) (d : Fin 1024) : (outsAt0 m c (pt g 15).val (pt g 15).isLt).1 (ix2 r d)
    = Tiles.tn (m ((c : Thread nD τ).loc main_arg0)) (m ((c : Thread nD τ).loc main_arg1)) (ix2 (row g r) (col g d)) := by
  refine Eq.trans ?_ (Tiles.sum_eq (n := 16) (b := 512) rfl _).symm
  refine (Tiles.fold_out (n := 14) (fun j h => (outsAt0 m c (pt g ⟨j, by omega⟩).val (pt g ⟨j, by omega⟩).isLt).2 (ix2 r d)) _
    (fun s => Tiles.tn (iblk m c 0 (pt g s)) (iblk m c 1 (pt g s)) (ix2 r d)) ?_ (fun j h => ?_) ?_).trans ?_
  · refine (congrArg (fun p => p.2 (ix2 r d)) (outsAt0_A m c (pt g 0) (by dsimp only; omega) (by dsimp only; omega) (by dsimp only; omega))).trans ?_
    refine Eq.trans (congrFun ?_ _) (start_at _ _ r d)
    unfold sout0_A_0
    rw [View.read_writes_eq_canon _ _ _ fun _ => scover0_A_0 ..]
    unfold kernelRun0_A
    dsimp only
    sl_unfold_words
    rw [View.canon_unit_zero Tiles.corner]
    simp only [View.readAt_eq_ld, Memref.IsWhole.read_unread, View.ld_unit_zero (S := S512x512) Tiles.corner, View.ld_unit_zero (S := S512x1024) Tiles.corner]
  · refine (congrArg (fun p => p.2 (ix2 r d)) (outsAt0_B m c (pt g ⟨j + 1, by omega⟩) (by dsimp only; omega) (by dsimp only; omega) (by dsimp only; omega))).trans ?_
    refine Eq.trans (congrFun ?_ _) (step_at _ _ _ r d)
    unfold sout0_B_0
    rw [View.read_writes_eq_canon _ _ _ fun _ => scover0_B_0 ..]
    unfold kernelRun0_B
    dsimp only
    sl_unfold_words
    rw [View.canon_unit_zero Tiles.corner]
    simp only [View.readAt_eq_ld, Memref.IsWhole.read_unread, View.ld_unit_zero (S := S512x512) Tiles.corner, View.ld_unit_zero (S := S512x1024) Tiles.corner]
    exact congrArg (k0_pay3 _ _) (Memref.IsWhole.read_unread (Memref.isWhole_whole cc0_scratch0) _)
  · refine (congrArg (fun p => p.1 (ix2 r d)) (outsAt0_C m c (pt g 15) (by dsimp only; omega) (by dsimp only; omega) (by dsimp only; omega))).trans ?_
    refine Eq.trans (congrFun ?_ _) (step_at _ _ _ r d)
    unfold out0_C_2
    rw [View.read_writes_eq_canon _ _ _ fun _ => cover0_C_2 ..]
    unfold kernelRun0_C
    dsimp only
    sl_unfold_words
    rw [View.canon_unit_zero Tiles.corner, View.readCov_unit_zero (S := S512x1024) _ Tiles.corner]
    simp only [View.readAt_eq_ld, Memref.IsWhole.read_unread, View.ld_unit_zero (S := S512x512) Tiles.corner, View.ld_unit_zero (S := S512x1024) Tiles.corner]
    exact congrArg (k0_pay3 _ _) (Memref.IsWhole.read_unread (Memref.isWhole_whole cc0_scratch0) _)
  · simp only [Tiles.tn, ix2, blk_x, blk_y]

/-- The result's array. -/
theorem final : (dats m 0 c).arrAt 2 cfg0.N
    = Tiles.tn (m ((c : Thread nD τ).loc main_arg0)) (m ((c : Thread nD τ).loc main_arg1)) := by
  refine (dats m 0 c).arrAt_eq_of_covers 2 _ (by decide +kernel) fun t hf y => ?_
  have ht : t.val < 192 := lt_of_lt_of_eq t.isLt Gen.N_0
  have hl : t.val % 16 = 15 := (flush0_2 t).mp hf
  obtain ⟨g, rfl⟩ : ∃ g : Fin 12, t = pt g 15 := ⟨⟨t.val / 16, by omega⟩, Fin.ext (by show _ = 16 * (t.val / 16) + 15; omega)⟩
  have h := idx (pt g 15)
  obtain ⟨r, d, rfl⟩ : ∃ (r : Fin 512) (d : Fin 1024), y = ix2 r d := ⟨y 0, y 1, ValueIdx.eq_ix2 y⟩
  have e : (win0_2.blk (pt g 15)).view.emb (ix2 r d) = ix2 (row g r) (col g d) := by
    blk_ext [h]
  blk_simp
  rw [e, after0_2]
  exact block m c g r d

end

section

open Cert.ReferenceFfnInDwIdeal Cert.ReferenceFfnInDwIdeal.Read

/-- The reference's result is the same product. -/
theorem reference (x : Tiles.Mat 8192 1024) (y : Tiles.Mat 8192 6144) : val_main_v4 (F := Ideal) x y = Tiles.tn x y := by
  funext i
  rw [val_main_v4_apply, val_main_v3_apply]
  refine Finset.sum_congr rfl fun k _ => (mul_comm _ _).trans (congrArg₂ (· * ·) (congrArg x ?_) (congrArg y ?_)) <;>
  · funext a
    match a with
    | ⟨0, _⟩ => rfl
    | ⟨1, _⟩ => rfl

end

/-- The reference runs, keeps its arguments and ends with its counters at zero. -/
theorem frame_reference : Cert.quiescent_ReferenceFfnInDwIdeal := fun m ρ _ =>
  (θ_run _ _ _).mono (fun r h => ⟨fun c => (h c).2, sem_eq_zero_of_no_sems (by decide) r.2⟩) (Cert.ReferenceFfnInDwIdeal.Value.run m ρ)

/-- Kernel and reference end with the same product. -/
theorem algebraic : Cert.algebraic_KernelFfnInDwIdeal_ReferenceFfnInDwIdeal := by
  intro m ρ m' ρ' _ hagree
  refine ⟨_, (θ_run _ _ _).mono (fun _ h c => ⟨(h c).1.trans (final m c), (h c).2⟩) (Cert.KernelFfnInDwIdeal.Value.run_blocks m ρ),
    (θ_run _ _ _).mono (fun r h c => ⟨(h c).1.trans (((Cert.ReferenceFfnInDwIdeal.Read.val_main_v4_eq _ _).symm.trans (reference _ _)).trans ?_), (h c).2⟩)
      (Cert.ReferenceFfnInDwIdeal.Value.run m' ρ')⟩
  rw [(hagree c).1, (hagree c).2]

end FfnInDw

end
-- ==== Proof.FfnOutDw.lean ====
module

public import proofs.«01_k».proof.Defs
public import proofs.«01_k».proof.Proof.FfnInDw
public import proofs.«01_k».proof.Proof.Gen.KernelFfnOutDwIdeal.Value
public import proofs.«01_k».proof.Proof.Gen.ReferenceFfnOutDwIdeal.Read
public import proofs.«01_k».proof.Proof.Gen.ReferenceFfnOutDwIdeal.Run
public import Idealize.ShloMosaic.Lib.Quiescent
public import Idealize.ShloMosaic.Lib.Pipeline.ValueKit.Point
public import Idealize.ShloMosaic.Lib.Pointwise

@[expose] public section

set_option maxRecDepth 16384

/-! The gradient of the feed-forward layer's second weight matrix. -/

noncomputable section

namespace FfnOutDw

open Idealize.ShloMosaic Idealize.ShloMosaic.TcCoe Idealize.SL.Sem

section

open Cert.KernelFfnOutDwIdeal Cert.KernelFfnOutDwIdeal.Gen

/-- The accumulator's first value: the product of the first two tiles. -/
theorem start_at (x : Vec Ideal S512x512 .bf16) (y : Vec Ideal S512x1024 .bf16) (r : Fin 512) (d : Fin 1024) :
    k0_pay2 x y (ix2 r d) = Tiles.tn x y (ix2 r d) := by
  unfold Tiles.tn
  pointwise [k0_pay2, k0_pay1]

/-- Its next value: the product of the next two tiles is added. -/
theorem step_at (x : Vec Ideal S512x512 .bf16) (y : Vec Ideal S512x1024 .bf16) (a : Vec Ideal S512x1024 .f32) (r : Fin 512) (d : Fin 1024) :
    k0_pay3 x y a (ix2 r d) = a (ix2 r d) + Tiles.tn x y (ix2 r d) := by
  unfold Tiles.tn
  pointwise [k0_pay3, k0_pay1]

variable (m : (ℓ : Loc nD τ sig) → Buf (Elt Ideal) ℓ) (c : Dev nD)

/-- The windows' blocks over the grid. -/
theorem idx : ∀ t : Fin cfg0.N, win0_0.index t = ![t.val % 16, t.val / 16] ∧ win0_1.index t = ![t.val % 16, t.val / 16 % 1]
    ∧ win0_2.index t = ![t.val / 16, t.val / 16 % 1] :=
  (by decide +kernel : ∀ t : Fin grid0.N, win0_0.index t = ![t.val % 16, t.val / 16] ∧ win0_1.index t = ![t.val % 16, t.val / 16 % 1]
    ∧ win0_2.index t = ![t.val / 16, t.val / 16 % 1])

/-- The grid point of tile `s` of the sum for block `g` of the result. -/
abbrev pt (g : Fin 6) (s : Fin 16) : Fin cfg0.N := ⟨16 * g.val + s.val, by show _ < grid0.N; rw [Gen.N_0]; omega⟩

/-- Row `r` and column `d` of block `g` of the result. -/
abbrev row (g : Fin 6) (r : Fin 512) : Fin 3072 := ⟨512 * (g.val / 1) + r.val, by omega⟩
@[inherit_doc row] abbrev col (g : Fin 6) (d : Fin 1024) : Fin 1024 := ⟨1024 * (g.val % 1) + d.val, by omega⟩

variable (g : Fin 6)

/-- The left factor's tile `s` for block `g`. -/
theorem blk_x (s : Fin 16) (k : Fin 512) (r : Fin 512) : (iblk m c 0 (pt g s) : Vec Ideal S512x512 .bf16) (ix2 k r)
    = m ((c : Thread nD τ).loc main_arg0) (ix2 (Tiles.at' (n := 16) rfl s k) (row g r)) := by
  have h := idx (pt g s)
  blk_ext! [iblk, V, h]

/-- The right factor's tile `s` for block `g`. -/
theorem blk_y (s : Fin 16) (k : Fin 512) (d : Fin 1024) : (iblk m c 1 (pt g s) : Vec Ideal S512x1024 .bf16) (ix2 k d)
    = m ((c : Thread nD τ).loc main_arg1) (ix2 (Tiles.at' (n := 16) rfl s k) (col g d)) := by
  have h := idx (pt g s)
  blk_ext! [iblk, V, h]

/-- What the last tile writes to the result's block. -/
theorem block (r : Fin 512) (d : Fin 1024) : (outsAt0 m c (pt g 15).val (pt g 15).isLt).1 (ix2 r d)
    = Tiles.tn (m ((c : Thread nD τ).loc main_arg0)) (m ((c : Thread nD τ).loc main_arg1)) (ix2 (row g r) (col g d)) := by
  refine Eq.trans ?_ (Tiles.sum_eq (n := 16) (b := 512) rfl _).symm
  refine (Tiles.fold_out (n := 14) (fun j h => (outsAt0 m c (pt g ⟨j, by omega⟩).val (pt g ⟨j, by omega⟩).isLt).2 (ix2 r d)) _
    (fun s => Tiles.tn (iblk m c 0 (pt g s)) (iblk m c 1 (pt g s)) (ix2 r d)) ?_ (fun j h => ?_) ?_).trans ?_
  · refine (congrArg (fun p => p.2 (ix2 r d)) (outsAt0_A m c (pt g 0) (by dsimp only; omega) (by dsimp only; omega) (by dsimp only; omega))).trans ?_
    refine Eq.trans (congrFun ?_ _) (start_at _ _ r d)
    unfold sout0_A_0
    rw [View.read_writes_eq_canon _ _ _ fun _ => scover0_A_0 ..]
    unfold kernelRun0_A
    dsimp only
    sl_unfold_words
    rw [View.canon_unit_zero Tiles.corner]
    simp only [View.readAt_eq_ld, Memref.IsWhole.read_unread, View.ld_unit_zero (S := S512x512) Tiles.corner, View.ld_unit_zero (S := S512x1024) Tiles.corner]
  · refine (congrArg (fun p => p.2 (ix2 r d)) (outsAt0_B m c (pt g ⟨j + 1, by omega⟩) (by dsimp only; omega) (by dsimp only; omega) (by dsimp only; omega))).trans ?_
    refine Eq.trans (congrFun ?_ _) (step_at _ _ _ r d)
    unfold sout0_B_0
    rw [View.read_writes_eq_canon _ _ _ fun _ => scover0_B_0 ..]
    unfold kernelRun0_B
    dsimp only
    sl_unfold_words
    rw [View.canon_unit_zero Tiles.corner]
    simp only [View.readAt_eq_ld, Memref.IsWhole.read_unread, View.ld_unit_zero (S := S512x512) Tiles.corner, View.ld_unit_zero (S := S512x1024) Tiles.corner]
    exact congrArg (k0_pay3 _ _) (Memref.IsWhole.read_unread (Memref.isWhole_whole cc0_scratch0) _)
  · refine (congrArg (fun p => p.1 (ix2 r d)) (outsAt0_C m c (pt g 15) (by dsimp only; omega) (by dsimp only; omega) (by dsimp only; omega))).trans ?_
    refine Eq.trans (congrFun ?_ _) (step_at _ _ _ r d)
    unfold out0_C_2
    rw [View.read_writes_eq_canon _ _ _ fun _ => cover0_C_2 ..]
    unfold kernelRun0_C
    dsimp only
    sl_unfold_words
    rw [View.canon_unit_zero Tiles.corner, View.readCov_unit_zero (S := S512x1024) _ Tiles.corner]
    simp only [View.readAt_eq_ld, Memref.IsWhole.read_unread, View.ld_unit_zero (S := S512x512) Tiles.corner, View.ld_unit_zero (S := S512x1024) Tiles.corner]
    exact congrArg (k0_pay3 _ _) (Memref.IsWhole.read_unread (Memref.isWhole_whole cc0_scratch0) _)
  · simp only [Tiles.tn, ix2, blk_x, blk_y]

/-- The result's array. -/
theorem final : (dats m 0 c).arrAt 2 cfg0.N
    = Tiles.tn (m ((c : Thread nD τ).loc main_arg0)) (m ((c : Thread nD τ).loc main_arg1)) := by
  refine (dats m 0 c).arrAt_eq_of_covers 2 _ (by decide +kernel) fun t hf y => ?_
  have ht : t.val < 96 := lt_of_lt_of_eq t.isLt Gen.N_0
  have hl : t.val % 16 = 15 := (flush0_2 t).mp hf
  obtain ⟨g, rfl⟩ : ∃ g : Fin 6, t = pt g 15 := ⟨⟨t.val / 16, by omega⟩, Fin.ext (by show _ = 16 * (t.val / 16) + 15; omega)⟩
  have h := idx (pt g 15)
  obtain ⟨r, d, rfl⟩ : ∃ (r : Fin 512) (d : Fin 1024), y = ix2 r d := ⟨y 0, y 1, ValueIdx.eq_ix2 y⟩
  have e : (win0_2.blk (pt g 15)).view.emb (ix2 r d) = ix2 (row g r) (col g d) := by
    blk_ext [h]
  blk_simp
  rw [e, after0_2]
  exact block m c g r d

end

section

open Cert.ReferenceFfnOutDwIdeal Cert.ReferenceFfnOutDwIdeal.Read

/-- The reference's result is the same product. -/
theorem reference (x : Tiles.Mat 8192 3072) (y : Tiles.Mat 8192 1024) : val_main_v5 (F := Ideal) x y = Tiles.tn x y := by
  funext i
  rw [val_main_v5_apply, val_main_v4_apply]
  refine Finset.sum_congr rfl fun k _ => (mul_comm _ _).trans (congrArg₂ (· * ·) (congrArg x ?_) (congrArg y ?_)) <;>
  · funext a
    match a with
    | ⟨0, _⟩ => rfl
    | ⟨1, _⟩ => rfl

end

/-- The reference runs, keeps its arguments and ends with its counters at zero. -/
theorem frame_reference : Cert.quiescent_ReferenceFfnOutDwIdeal := fun m ρ _ =>
  (θ_run _ _ _).mono (fun r h => ⟨fun c => (h c).2, sem_eq_zero_of_no_sems (by decide) r.2⟩) (Cert.ReferenceFfnOutDwIdeal.Value.run m ρ)

/-- Kernel and reference end with the same product. -/
theorem algebraic : Cert.algebraic_KernelFfnOutDwIdeal_ReferenceFfnOutDwIdeal := by
  intro m ρ m' ρ' _ hagree
  refine ⟨_, (θ_run _ _ _).mono (fun _ h c => ⟨(h c).1.trans (final m c), (h c).2⟩) (Cert.KernelFfnOutDwIdeal.Value.run_blocks m ρ),
    (θ_run _ _ _).mono (fun r h c => ⟨(h c).1.trans (((Cert.ReferenceFfnOutDwIdeal.Read.val_main_v5_eq _ _).symm.trans (reference _ _)).trans ?_), (h c).2⟩)
      (Cert.ReferenceFfnOutDwIdeal.Value.run m' ρ')⟩
  rw [(hagree c).1, (hagree c).2]

end FfnOutDw

end
-- ==== Proof.MemODw.lean ====
module

public import proofs.«01_k».proof.Defs
public import proofs.«01_k».proof.Proof.FfnOutDw
public import proofs.«01_k».proof.Proof.Gen.KernelMemODwIdeal.Value
public import proofs.«01_k».proof.Proof.Gen.ReferenceMemODwIdeal.Read
public import proofs.«01_k».proof.Proof.Gen.ReferenceMemODwIdeal.Run
public import Idealize.ShloMosaic.Lib.Quiescent
public import Idealize.ShloMosaic.Lib.Pipeline.ValueKit.Point
public import Idealize.ShloMosaic.Lib.Pointwise

@[expose] public section

set_option maxRecDepth 16384

/-! The gradient of the memory attention's output matrix. -/

noncomputable section

namespace MemODw

open Idealize.ShloMosaic Idealize.ShloMosaic.TcCoe Idealize.SL.Sem

section

open Cert.KernelMemODwIdeal Cert.KernelMemODwIdeal.Gen

/-- The accumulator's first value: the product of the first two tiles. -/
theorem start_at (x : Vec Ideal S512x512 .bf16) (y : Vec Ideal S512x1024 .bf16) (r : Fin 512) (d : Fin 1024) :
    k0_pay2 x y (ix2 r d) = Tiles.tn x y (ix2 r d) := by
  unfold Tiles.tn
  pointwise [k0_pay2, k0_pay1]

/-- Its next value: the product of the next two tiles is added. -/
theorem step_at (x : Vec Ideal S512x512 .bf16) (y : Vec Ideal S512x1024 .bf16) (a : Vec Ideal S512x1024 .f32) (r : Fin 512) (d : Fin 1024) :
    k0_pay3 x y a (ix2 r d) = a (ix2 r d) + Tiles.tn x y (ix2 r d) := by
  unfold Tiles.tn
  pointwise [k0_pay3, k0_pay1]

variable (m : (ℓ : Loc nD τ sig) → Buf (Elt Ideal) ℓ) (c : Dev nD)

/-- The windows' blocks over the grid. -/
theorem idx : ∀ t : Fin cfg0.N, win0_0.index t = ![t.val % 16, t.val / 16] ∧ win0_1.index t = ![t.val % 16, t.val / 16 % 1]
    ∧ win0_2.index t = ![t.val / 16, t.val / 16 % 1] :=
  (by decide +kernel : ∀ t : Fin grid0.N, win0_0.index t = ![t.val % 16, t.val / 16] ∧ win0_1.index t = ![t.val % 16, t.val / 16 % 1]
    ∧ win0_2.index t = ![t.val / 16, t.val / 16 % 1])

/-- The grid point of tile `s` of the sum for block `g` of the result. -/
abbrev pt (g : Fin 2) (s : Fin 16) : Fin cfg0.N := ⟨16 * g.val + s.val, by show _ < grid0.N; rw [Gen.N_0]; omega⟩

/-- Row `r` and column `d` of block `g` of the result. -/
abbrev row (g : Fin 2) (r : Fin 512) : Fin 1024 := ⟨512 * (g.val / 1) + r.val, by omega⟩
@[inherit_doc row] abbrev col (g : Fin 2) (d : Fin 1024) : Fin 1024 := ⟨1024 * (g.val % 1) + d.val, by omega⟩

variable (g : Fin 2)

/-- The left factor's tile `s` for block `g`. -/
theorem blk_x (s : Fin 16) (k : Fin 512) (r : Fin 512) : (iblk m c 0 (pt g s) : Vec Ideal S512x512 .bf16) (ix2 k r)
    = m ((c : Thread nD τ).loc main_arg0) (ix2 (Tiles.at' (n := 16) rfl s k) (row g r)) := by
  have h := idx (pt g s)
  blk_ext! [iblk, V, h]

/-- The right factor's tile `s` for block `g`. -/
theorem blk_y (s : Fin 16) (k : Fin 512) (d : Fin 1024) : (iblk m c 1 (pt g s) : Vec Ideal S512x1024 .bf16) (ix2 k d)
    = m ((c : Thread nD τ).loc main_arg1) (ix2 (Tiles.at' (n := 16) rfl s k) (col g d)) := by
  have h := idx (pt g s)
  blk_ext! [iblk, V, h]

/-- What the last tile writes to the result's block. -/
theorem block (r : Fin 512) (d : Fin 1024) : (outsAt0 m c (pt g 15).val (pt g 15).isLt).1 (ix2 r d)
    = Tiles.tn (m ((c : Thread nD τ).loc main_arg0)) (m ((c : Thread nD τ).loc main_arg1)) (ix2 (row g r) (col g d)) := by
  refine Eq.trans ?_ (Tiles.sum_eq (n := 16) (b := 512) rfl _).symm
  refine (Tiles.fold_out (n := 14) (fun j h => (outsAt0 m c (pt g ⟨j, by omega⟩).val (pt g ⟨j, by omega⟩).isLt).2 (ix2 r d)) _
    (fun s => Tiles.tn (iblk m c 0 (pt g s)) (iblk m c 1 (pt g s)) (ix2 r d)) ?_ (fun j h => ?_) ?_).trans ?_
  · refine (congrArg (fun p => p.2 (ix2 r d)) (outsAt0_A m c (pt g 0) (by dsimp only; omega) (by dsimp only; omega) (by dsimp only; omega))).trans ?_
    refine Eq.trans (congrFun ?_ _) (start_at _ _ r d)
    unfold sout0_A_0
    rw [View.read_writes_eq_canon _ _ _ fun _ => scover0_A_0 ..]
    unfold kernelRun0_A
    dsimp only
    sl_unfold_words
    rw [View.canon_unit_zero Tiles.corner]
    simp only [View.readAt_eq_ld, Memref.IsWhole.read_unread, View.ld_unit_zero (S := S512x512) Tiles.corner, View.ld_unit_zero (S := S512x1024) Tiles.corner]
  · refine (congrArg (fun p => p.2 (ix2 r d)) (outsAt0_B m c (pt g ⟨j + 1, by omega⟩) (by dsimp only; omega) (by dsimp only; omega) (by dsimp only; omega))).trans ?_
    refine Eq.trans (congrFun ?_ _) (step_at _ _ _ r d)
    unfold sout0_B_0
    rw [View.read_writes_eq_canon _ _ _ fun _ => scover0_B_0 ..]
    unfold kernelRun0_B
    dsimp only
    sl_unfold_words
    rw [View.canon_unit_zero Tiles.corner]
    simp only [View.readAt_eq_ld, Memref.IsWhole.read_unread, View.ld_unit_zero (S := S512x512) Tiles.corner, View.ld_unit_zero (S := S512x1024) Tiles.corner]
    exact congrArg (k0_pay3 _ _) (Memref.IsWhole.read_unread (Memref.isWhole_whole cc0_scratch0) _)
  · refine (congrArg (fun p => p.1 (ix2 r d)) (outsAt0_C m c (pt g 15) (by dsimp only; omega) (by dsimp only; omega) (by dsimp only; omega))).trans ?_
    refine Eq.trans (congrFun ?_ _) (step_at _ _ _ r d)
    unfold out0_C_2
    rw [View.read_writes_eq_canon _ _ _ fun _ => cover0_C_2 ..]
    unfold kernelRun0_C
    dsimp only
    sl_unfold_words
    rw [View.canon_unit_zero Tiles.corner, View.readCov_unit_zero (S := S512x1024) _ Tiles.corner]
    simp only [View.readAt_eq_ld, Memref.IsWhole.read_unread, View.ld_unit_zero (S := S512x512) Tiles.corner, View.ld_unit_zero (S := S512x1024) Tiles.corner]
    exact congrArg (k0_pay3 _ _) (Memref.IsWhole.read_unread (Memref.isWhole_whole cc0_scratch0) _)
  · simp only [Tiles.tn, ix2, blk_x, blk_y]

/-- The result's array. -/
theorem final : (dats m 0 c).arrAt 2 cfg0.N
    = Tiles.tn (m ((c : Thread nD τ).loc main_arg0)) (m ((c : Thread nD τ).loc main_arg1)) := by
  refine (dats m 0 c).arrAt_eq_of_covers 2 _ (by decide +kernel) fun t hf y => ?_
  have ht : t.val < 32 := lt_of_lt_of_eq t.isLt Gen.N_0
  have hl : t.val % 16 = 15 := (flush0_2 t).mp hf
  obtain ⟨g, rfl⟩ : ∃ g : Fin 2, t = pt g 15 := ⟨⟨t.val / 16, by omega⟩, Fin.ext (by show _ = 16 * (t.val / 16) + 15; omega)⟩
  have h := idx (pt g 15)
  obtain ⟨r, d, rfl⟩ : ∃ (r : Fin 512) (d : Fin 1024), y = ix2 r d := ⟨y 0, y 1, ValueIdx.eq_ix2 y⟩
  have e : (win0_2.blk (pt g 15)).view.emb (ix2 r d) = ix2 (row g r) (col g d) := by
    blk_ext [h]
  blk_simp
  rw [e, after0_2]
  exact block m c g r d

end

section

open Cert.ReferenceMemODwIdeal Cert.ReferenceMemODwIdeal.Read

/-- The reference's result is the same product. -/
theorem reference (x : Tiles.Mat 8192 1024) (y : Tiles.Mat 8192 1024) : val_main_v5 (F := Ideal) x y = Tiles.tn x y := by
  funext i
  rw [val_main_v5_apply, val_main_v4_apply]
  refine Finset.sum_congr rfl fun k _ => (mul_comm _ _).trans (congrArg₂ (· * ·) (congrArg x ?_) (congrArg y ?_)) <;>
  · funext a
    match a with
    | ⟨0, _⟩ => rfl
    | ⟨1, _⟩ => rfl

end

/-- The reference runs, keeps its arguments and ends with its counters at zero. -/
theorem frame_reference : Cert.quiescent_ReferenceMemODwIdeal := fun m ρ _ =>
  (θ_run _ _ _).mono (fun r h => ⟨fun c => (h c).2, sem_eq_zero_of_no_sems (by decide) r.2⟩) (Cert.ReferenceMemODwIdeal.Value.run m ρ)

/-- Kernel and reference end with the same product. -/
theorem algebraic : Cert.algebraic_KernelMemODwIdeal_ReferenceMemODwIdeal := by
  intro m ρ m' ρ' _ hagree
  refine ⟨_, (θ_run _ _ _).mono (fun _ h c => ⟨(h c).1.trans (final m c), (h c).2⟩) (Cert.KernelMemODwIdeal.Value.run_blocks m ρ),
    (θ_run _ _ _).mono (fun r h c => ⟨(h c).1.trans (((Cert.ReferenceMemODwIdeal.Read.val_main_v5_eq _ _).symm.trans (reference _ _)).trans ?_), (h c).2⟩)
      (Cert.ReferenceMemODwIdeal.Value.run m' ρ')⟩
  rw [(hagree c).1, (hagree c).2]

end MemODw

end
-- ==== Proof.MemQDw.lean ====
module

public import proofs.«01_k».proof.Defs
public import proofs.«01_k».proof.Proof.MemODw
public import proofs.«01_k».proof.Proof.Gen.KernelMemQDwIdeal.Value
public import proofs.«01_k».proof.Proof.Gen.ReferenceMemQDwIdeal.Read
public import proofs.«01_k».proof.Proof.Gen.ReferenceMemQDwIdeal.Run
public import Idealize.ShloMosaic.Lib.Quiescent
public import Idealize.ShloMosaic.Lib.Pipeline.ValueKit.Point
public import Idealize.ShloMosaic.Lib.Pointwise

@[expose] public section

set_option maxRecDepth 16384

/-! The gradient of the memory attention's query matrix. -/

noncomputable section

namespace MemQDw

open Idealize.ShloMosaic Idealize.ShloMosaic.TcCoe Idealize.SL.Sem

section

open Cert.KernelMemQDwIdeal Cert.KernelMemQDwIdeal.Gen

/-- The accumulator's first value: the product of the first two tiles. -/
theorem start_at (x : Vec Ideal S512x512 .f32) (y : Vec Ideal S512x1024 .bf16) (r : Fin 512) (d : Fin 1024) :
    k0_pay2 x y (ix2 r d) = Tiles.tn x y (ix2 r d) := by
  unfold Tiles.tn
  pointwise [k0_pay2, k0_pay1]

/-- Its next value: the product of the next two tiles is added. -/
theorem step_at (x : Vec Ideal S512x512 .f32) (y : Vec Ideal S512x1024 .bf16) (a : Vec Ideal S512x1024 .f32) (r : Fin 512) (d : Fin 1024) :
    k0_pay3 x y a (ix2 r d) = a (ix2 r d) + Tiles.tn x y (ix2 r d) := by
  unfold Tiles.tn
  pointwise [k0_pay3, k0_pay1]

variable (m : (ℓ : Loc nD τ sig) → Buf (Elt Ideal) ℓ) (c : Dev nD)

/-- The windows' blocks over the grid. -/
theorem idx : ∀ t : Fin cfg0.N, win0_0.index t = ![t.val % 16, t.val / 16] ∧ win0_1.index t = ![t.val % 16, t.val / 16 % 1]
    ∧ win0_2.index t = ![t.val / 16, t.val / 16 % 1] :=
  (by decide +kernel : ∀ t : Fin grid0.N, win0_0.index t = ![t.val % 16, t.val / 16] ∧ win0_1.index t = ![t.val % 16, t.val / 16 % 1]
    ∧ win0_2.index t = ![t.val / 16, t.val / 16 % 1])

/-- The grid point of tile `s` of the sum for block `g` of the result. -/
abbrev pt (g : Fin 2) (s : Fin 16) : Fin cfg0.N := ⟨16 * g.val + s.val, by show _ < grid0.N; rw [Gen.N_0]; omega⟩

/-- Row `r` and column `d` of block `g` of the result. -/
abbrev row (g : Fin 2) (r : Fin 512) : Fin 1024 := ⟨512 * (g.val / 1) + r.val, by omega⟩
@[inherit_doc row] abbrev col (g : Fin 2) (d : Fin 1024) : Fin 1024 := ⟨1024 * (g.val % 1) + d.val, by omega⟩

variable (g : Fin 2)

/-- The left factor's tile `s` for block `g`. -/
theorem blk_x (s : Fin 16) (k : Fin 512) (r : Fin 512) : (iblk m c 0 (pt g s) : Vec Ideal S512x512 .f32) (ix2 k r)
    = m ((c : Thread nD τ).loc main_arg0) (ix2 (Tiles.at' (n := 16) rfl s k) (row g r)) := by
  have h := idx (pt g s)
  blk_ext! [iblk, V, h]

/-- The right factor's tile `s` for block `g`. -/
theorem blk_y (s : Fin 16) (k : Fin 512) (d : Fin 1024) : (iblk m c 1 (pt g s) : Vec Ideal S512x1024 .bf16) (ix2 k d)
    = m ((c : Thread nD τ).loc main_arg1) (ix2 (Tiles.at' (n := 16) rfl s k) (col g d)) := by
  have h := idx (pt g s)
  blk_ext! [iblk, V, h]

/-- What the last tile writes to the result's block. -/
theorem block (r : Fin 512) (d : Fin 1024) : (outsAt0 m c (pt g 15).val (pt g 15).isLt).1 (ix2 r d)
    = Tiles.tn (m ((c : Thread nD τ).loc main_arg0)) (m ((c : Thread nD τ).loc main_arg1)) (ix2 (row g r) (col g d)) := by
  refine Eq.trans ?_ (Tiles.sum_eq (n := 16) (b := 512) rfl _).symm
  refine (Tiles.fold_out (n := 14) (fun j h => (outsAt0 m c (pt g ⟨j, by omega⟩).val (pt g ⟨j, by omega⟩).isLt).2 (ix2 r d)) _
    (fun s => Tiles.tn (iblk m c 0 (pt g s)) (iblk m c 1 (pt g s)) (ix2 r d)) ?_ (fun j h => ?_) ?_).trans ?_
  · refine (congrArg (fun p => p.2 (ix2 r d)) (outsAt0_A m c (pt g 0) (by dsimp only; omega) (by dsimp only; omega) (by dsimp only; omega))).trans ?_
    refine Eq.trans (congrFun ?_ _) (start_at _ _ r d)
    unfold sout0_A_0
    rw [View.read_writes_eq_canon _ _ _ fun _ => scover0_A_0 ..]
    unfold kernelRun0_A
    dsimp only
    sl_unfold_words
    rw [View.canon_unit_zero Tiles.corner]
    simp only [View.readAt_eq_ld, Memref.IsWhole.read_unread, View.ld_unit_zero (S := S512x512) Tiles.corner, View.ld_unit_zero (S := S512x1024) Tiles.corner]
  · refine (congrArg (fun p => p.2 (ix2 r d)) (outsAt0_B m c (pt g ⟨j + 1, by omega⟩) (by dsimp only; omega) (by dsimp only; omega) (by dsimp only; omega))).trans ?_
    refine Eq.trans (congrFun ?_ _) (step_at _ _ _ r d)
    unfold sout0_B_0
    rw [View.read_writes_eq_canon _ _ _ fun _ => scover0_B_0 ..]
    unfold kernelRun0_B
    dsimp only
    sl_unfold_words
    rw [View.canon_unit_zero Tiles.corner]
    simp only [View.readAt_eq_ld, Memref.IsWhole.read_unread, View.ld_unit_zero (S := S512x512) Tiles.corner, View.ld_unit_zero (S := S512x1024) Tiles.corner]
    exact congrArg (k0_pay3 _ _) (Memref.IsWhole.read_unread (Memref.isWhole_whole cc0_scratch0) _)
  · refine (congrArg (fun p => p.1 (ix2 r d)) (outsAt0_C m c (pt g 15) (by dsimp only; omega) (by dsimp only; omega) (by dsimp only; omega))).trans ?_
    refine Eq.trans (congrFun ?_ _) (step_at _ _ _ r d)
    unfold out0_C_2
    rw [View.read_writes_eq_canon _ _ _ fun _ => cover0_C_2 ..]
    unfold kernelRun0_C
    dsimp only
    sl_unfold_words
    rw [View.canon_unit_zero Tiles.corner, View.readCov_unit_zero (S := S512x1024) _ Tiles.corner]
    simp only [View.readAt_eq_ld, Memref.IsWhole.read_unread, View.ld_unit_zero (S := S512x512) Tiles.corner, View.ld_unit_zero (S := S512x1024) Tiles.corner]
    exact congrArg (k0_pay3 _ _) (Memref.IsWhole.read_unread (Memref.isWhole_whole cc0_scratch0) _)
  · simp only [Tiles.tn, ix2, blk_x, blk_y]

/-- The result's array. -/
theorem final : (dats m 0 c).arrAt 2 cfg0.N
    = Tiles.tn (m ((c : Thread nD τ).loc main_arg0)) (m ((c : Thread nD τ).loc main_arg1)) := by
  refine (dats m 0 c).arrAt_eq_of_covers 2 _ (by decide +kernel) fun t hf y => ?_
  have ht : t.val < 32 := lt_of_lt_of_eq t.isLt Gen.N_0
  have hl : t.val % 16 = 15 := (flush0_2 t).mp hf
  obtain ⟨g, rfl⟩ : ∃ g : Fin 2, t = pt g 15 := ⟨⟨t.val / 16, by omega⟩, Fin.ext (by show _ = 16 * (t.val / 16) + 15; omega)⟩
  have h := idx (pt g 15)
  obtain ⟨r, d, rfl⟩ : ∃ (r : Fin 512) (d : Fin 1024), y = ix2 r d := ⟨y 0, y 1, ValueIdx.eq_ix2 y⟩
  have e : (win0_2.blk (pt g 15)).view.emb (ix2 r d) = ix2 (row g r) (col g d) := by
    blk_ext [h]
  blk_simp
  rw [e, after0_2]
  exact block m c g r d

end

section

open Cert.ReferenceMemQDwIdeal Cert.ReferenceMemQDwIdeal.Read

/-- The reference's result is the same product. -/
theorem reference (x : Tiles.Mat 8192 1024) (y : Tiles.Mat 8192 1024) : val_main_v4 (F := Ideal) x y = Tiles.tn x y := by
  funext i
  rw [val_main_v4_apply, val_main_v3_apply]
  refine Finset.sum_congr rfl fun k _ => (mul_comm _ _).trans (congrArg₂ (· * ·) (congrArg x ?_) (congrArg y ?_)) <;>
  · funext a
    match a with
    | ⟨0, _⟩ => rfl
    | ⟨1, _⟩ => rfl

end

/-- The reference runs, keeps its arguments and ends with its counters at zero. -/
theorem frame_reference : Cert.quiescent_ReferenceMemQDwIdeal := fun m ρ _ =>
  (θ_run _ _ _).mono (fun r h => ⟨fun c => (h c).2, sem_eq_zero_of_no_sems (by decide) r.2⟩) (Cert.ReferenceMemQDwIdeal.Value.run m ρ)

/-- Kernel and reference end with the same product. -/
theorem algebraic : Cert.algebraic_KernelMemQDwIdeal_ReferenceMemQDwIdeal := by
  intro m ρ m' ρ' _ hagree
  refine ⟨_, (θ_run _ _ _).mono (fun _ h c => ⟨(h c).1.trans (final m c), (h c).2⟩) (Cert.KernelMemQDwIdeal.Value.run_blocks m ρ),
    (θ_run _ _ _).mono (fun r h c => ⟨(h c).1.trans (((Cert.ReferenceMemQDwIdeal.Read.val_main_v4_eq _ _).symm.trans (reference _ _)).trans ?_), (h c).2⟩)
      (Cert.ReferenceMemQDwIdeal.Value.run m' ρ')⟩
  rw [(hagree c).1, (hagree c).2]

end MemQDw

end
-- ==== Proof.InProjDw.lean ====
module

public import proofs.«01_k».proof.Defs
public import proofs.«01_k».proof.Proof.MemQDw
public import proofs.«01_k».proof.Proof.Gen.KernelInProjDwIdeal.Value
public import proofs.«01_k».proof.Proof.Gen.ReferenceInProjDwIdeal.Read
public import proofs.«01_k».proof.Proof.Gen.ReferenceInProjDwIdeal.Run
public import Idealize.ShloMosaic.Lib.Quiescent
public import Idealize.ShloMosaic.Lib.Pipeline.ValueKit.Point
public import Idealize.ShloMosaic.Lib.Pointwise

@[expose] public section

set_option maxRecDepth 16384

/-! The gradient of the first mixer's input matrix. -/

noncomputable section

namespace InProjDw

open Idealize.ShloMosaic Idealize.ShloMosaic.TcCoe Idealize.SL.Sem

section

open Cert.KernelInProjDwIdeal Cert.KernelInProjDwIdeal.Gen

/-- The accumulator's first value: the product of the first two tiles. -/
theorem start_at (x : Vec Ideal S512x512 .f32) (y : Vec Ideal S512x1024 .bf16) (r : Fin 512) (d : Fin 1024) :
    k0_pay2 x y (ix2 r d) = Tiles.tn x y (ix2 r d) := by
  unfold Tiles.tn
  pointwise [k0_pay2, k0_pay1]

/-- Its next value: the product of the next two tiles is added. -/
theorem step_at (x : Vec Ideal S512x512 .f32) (y : Vec Ideal S512x1024 .bf16) (a : Vec Ideal S512x1024 .f32) (r : Fin 512) (d : Fin 1024) :
    k0_pay3 x y a (ix2 r d) = a (ix2 r d) + Tiles.tn x y (ix2 r d) := by
  unfold Tiles.tn
  pointwise [k0_pay3, k0_pay1]

variable (m : (ℓ : Loc nD τ sig) → Buf (Elt Ideal) ℓ) (c : Dev nD)

/-- The windows' blocks over the grid. -/
theorem idx : ∀ t : Fin cfg0.N, win0_0.index t = ![t.val % 16, t.val / 32] ∧ win0_1.index t = ![t.val % 16, t.val / 16 % 2]
    ∧ win0_2.index t = ![t.val / 32, t.val / 16 % 2] :=
  (by decide +kernel : ∀ t : Fin grid0.N, win0_0.index t = ![t.val % 16, t.val / 32] ∧ win0_1.index t = ![t.val % 16, t.val / 16 % 2]
    ∧ win0_2.index t = ![t.val / 32, t.val / 16 % 2])

/-- The grid point of tile `s` of the sum for block `g` of the result. -/
abbrev pt (g : Fin 4) (s : Fin 16) : Fin cfg0.N := ⟨16 * g.val + s.val, by show _ < grid0.N; rw [Gen.N_0]; omega⟩

/-- Row `r` and column `d` of block `g` of the result. -/
abbrev row (g : Fin 4) (r : Fin 512) : Fin 1024 := ⟨512 * (g.val / 2) + r.val, by omega⟩
@[inherit_doc row] abbrev col (g : Fin 4) (d : Fin 1024) : Fin 2048 := ⟨1024 * (g.val % 2) + d.val, by omega⟩

variable (g : Fin 4)

/-- The left factor's tile `s` for block `g`. -/
theorem blk_x (s : Fin 16) (k : Fin 512) (r : Fin 512) : (iblk m c 0 (pt g s) : Vec Ideal S512x512 .f32) (ix2 k r)
    = m ((c : Thread nD τ).loc main_arg0) (ix2 (Tiles.at' (n := 16) rfl s k) (row g r)) := by
  have h := idx (pt g s)
  blk_ext! [iblk, V, h]

/-- The right factor's tile `s` for block `g`. -/
theorem blk_y (s : Fin 16) (k : Fin 512) (d : Fin 1024) : (iblk m c 1 (pt g s) : Vec Ideal S512x1024 .bf16) (ix2 k d)
    = m ((c : Thread nD τ).loc main_arg1) (ix2 (Tiles.at' (n := 16) rfl s k) (col g d)) := by
  have h := idx (pt g s)
  blk_ext! [iblk, V, h]

/-- What the last tile writes to the result's block. -/
theorem block (r : Fin 512) (d : Fin 1024) : (outsAt0 m c (pt g 15).val (pt g 15).isLt).1 (ix2 r d)
    = Tiles.tn (m ((c : Thread nD τ).loc main_arg0)) (m ((c : Thread nD τ).loc main_arg1)) (ix2 (row g r) (col g d)) := by
  refine Eq.trans ?_ (Tiles.sum_eq (n := 16) (b := 512) rfl _).symm
  refine (Tiles.fold_out (n := 14) (fun j h => (outsAt0 m c (pt g ⟨j, by omega⟩).val (pt g ⟨j, by omega⟩).isLt).2 (ix2 r d)) _
    (fun s => Tiles.tn (iblk m c 0 (pt g s)) (iblk m c 1 (pt g s)) (ix2 r d)) ?_ (fun j h => ?_) ?_).trans ?_
  · refine (congrArg (fun p => p.2 (ix2 r d)) (outsAt0_A m c (pt g 0) (by dsimp only; omega) (by dsimp only; omega) (by dsimp only; omega))).trans ?_
    refine Eq.trans (congrFun ?_ _) (start_at _ _ r d)
    unfold sout0_A_0
    rw [View.read_writes_eq_canon _ _ _ fun _ => scover0_A_0 ..]
    unfold kernelRun0_A
    dsimp only
    sl_unfold_words
    rw [View.canon_unit_zero Tiles.corner]
    simp only [View.readAt_eq_ld, Memref.IsWhole.read_unread, View.ld_unit_zero (S := S512x512) Tiles.corner, View.ld_unit_zero (S := S512x1024) Tiles.corner]
  · refine (congrArg (fun p => p.2 (ix2 r d)) (outsAt0_B m c (pt g ⟨j + 1, by omega⟩) (by dsimp only; omega) (by dsimp only; omega) (by dsimp only; omega))).trans ?_
    refine Eq.trans (congrFun ?_ _) (step_at _ _ _ r d)
    unfold sout0_B_0
    rw [View.read_writes_eq_canon _ _ _ fun _ => scover0_B_0 ..]
    unfold kernelRun0_B
    dsimp only
    sl_unfold_words
    rw [View.canon_unit_zero Tiles.corner]
    simp only [View.readAt_eq_ld, Memref.IsWhole.read_unread, View.ld_unit_zero (S := S512x512) Tiles.corner, View.ld_unit_zero (S := S512x1024) Tiles.corner]
    exact congrArg (k0_pay3 _ _) (Memref.IsWhole.read_unread (Memref.isWhole_whole cc0_scratch0) _)
  · refine (congrArg (fun p => p.1 (ix2 r d)) (outsAt0_C m c (pt g 15) (by dsimp only; omega) (by dsimp only; omega) (by dsimp only; omega))).trans ?_
    refine Eq.trans (congrFun ?_ _) (step_at _ _ _ r d)
    unfold out0_C_2
    rw [View.read_writes_eq_canon _ _ _ fun _ => cover0_C_2 ..]
    unfold kernelRun0_C
    dsimp only
    sl_unfold_words
    rw [View.canon_unit_zero Tiles.corner, View.readCov_unit_zero (S := S512x1024) _ Tiles.corner]
    simp only [View.readAt_eq_ld, Memref.IsWhole.read_unread, View.ld_unit_zero (S := S512x512) Tiles.corner, View.ld_unit_zero (S := S512x1024) Tiles.corner]
    exact congrArg (k0_pay3 _ _) (Memref.IsWhole.read_unread (Memref.isWhole_whole cc0_scratch0) _)
  · simp only [Tiles.tn, ix2, blk_x, blk_y]

/-- The result's array. -/
theorem final : (dats m 0 c).arrAt 2 cfg0.N
    = Tiles.tn (m ((c : Thread nD τ).loc main_arg0)) (m ((c : Thread nD τ).loc main_arg1)) := by
  refine (dats m 0 c).arrAt_eq_of_covers 2 _ (by decide +kernel) fun t hf y => ?_
  have ht : t.val < 64 := lt_of_lt_of_eq t.isLt Gen.N_0
  have hl : t.val % 16 = 15 := (flush0_2 t).mp hf
  obtain ⟨g, rfl⟩ : ∃ g : Fin 4, t = pt g 15 := ⟨⟨t.val / 16, by omega⟩, Fin.ext (by show _ = 16 * (t.val / 16) + 15; omega)⟩
  have h := idx (pt g 15)
  obtain ⟨r, d, rfl⟩ : ∃ (r : Fin 512) (d : Fin 1024), y = ix2 r d := ⟨y 0, y 1, ValueIdx.eq_ix2 y⟩
  have e : (win0_2.blk (pt g 15)).view.emb (ix2 r d) = ix2 (row g r) (col g d) := by
    blk_ext [h]
  blk_simp
  rw [e, after0_2]
  exact block m c g r d

end

section

open Cert.ReferenceInProjDwIdeal Cert.ReferenceInProjDwIdeal.Read

/-- The reference's result is the same product. -/
theorem reference (x : Tiles.Mat 8192 1024) (y : Tiles.Mat 8192 2048) : val_main_v4 (F := Ideal) x y = Tiles.tn x y := by
  funext i
  rw [val_main_v4_apply, val_main_v3_apply]
  refine Finset.sum_congr rfl fun k _ => (mul_comm _ _).trans (congrArg₂ (· * ·) (congrArg x ?_) (congrArg y ?_)) <;>
  · funext a
    match a with
    | ⟨0, _⟩ => rfl
    | ⟨1, _⟩ => rfl

end

/-- The reference runs, keeps its arguments and ends with its counters at zero. -/
theorem frame_reference : Cert.quiescent_ReferenceInProjDwIdeal := fun m ρ _ =>
  (θ_run _ _ _).mono (fun r h => ⟨fun c => (h c).2, sem_eq_zero_of_no_sems (by decide) r.2⟩) (Cert.ReferenceInProjDwIdeal.Value.run m ρ)

/-- Kernel and reference end with the same product. -/
theorem algebraic : Cert.algebraic_KernelInProjDwIdeal_ReferenceInProjDwIdeal := by
  intro m ρ m' ρ' _ hagree
  refine ⟨_, (θ_run _ _ _).mono (fun _ h c => ⟨(h c).1.trans (final m c), (h c).2⟩) (Cert.KernelInProjDwIdeal.Value.run_blocks m ρ),
    (θ_run _ _ _).mono (fun r h c => ⟨(h c).1.trans (((Cert.ReferenceInProjDwIdeal.Read.val_main_v4_eq _ _).symm.trans (reference _ _)).trans ?_), (h c).2⟩)
      (Cert.ReferenceInProjDwIdeal.Value.run m' ρ')⟩
  rw [(hagree c).1, (hagree c).2]

end InProjDw

end
-- ==== Proof.QkvProjDw.lean ====
module

public import proofs.«01_k».proof.Defs
public import proofs.«01_k».proof.Proof.InProjDw
public import proofs.«01_k».proof.Proof.Gen.KernelQkvProjDwIdeal.Value
public import proofs.«01_k».proof.Proof.Gen.ReferenceQkvProjDwIdeal.Read
public import proofs.«01_k».proof.Proof.Gen.ReferenceQkvProjDwIdeal.Run
public import Idealize.ShloMosaic.Lib.Quiescent
public import Idealize.ShloMosaic.Lib.Pipeline.ValueKit.Point
public import Idealize.ShloMosaic.Lib.Pointwise

@[expose] public section

set_option maxRecDepth 16384

/-! The gradient, transposed, of the attention's query, key and value matrix. -/

noncomputable section

namespace QkvProjDw

open Idealize.ShloMosaic Idealize.ShloMosaic.TcCoe Idealize.SL.Sem

section

open Cert.KernelQkvProjDwIdeal Cert.KernelQkvProjDwIdeal.Gen

/-- The accumulator's first value: the product of the first two tiles. -/
theorem start_at (x : Vec Ideal S512x1024 .bf16) (y : Vec Ideal S1024x1024 .f32) (r : Fin 512) (d : Fin 1024) :
    k0_pay2 x y (ix2 r d) = Tiles.nn x y (ix2 r d) := by
  unfold Tiles.nn
  pointwise [k0_pay2, k0_pay1]

/-- Its next value: the product of the next two tiles is added. -/
theorem step_at (x : Vec Ideal S512x1024 .bf16) (y : Vec Ideal S1024x1024 .f32) (a : Vec Ideal S512x1024 .f32) (r : Fin 512) (d : Fin 1024) :
    k0_pay3 x y a (ix2 r d) = a (ix2 r d) + Tiles.nn x y (ix2 r d) := by
  unfold Tiles.nn
  pointwise [k0_pay3, k0_pay1]

variable (m : (ℓ : Loc nD τ sig) → Buf (Elt Ideal) ℓ) (c : Dev nD)

/-- The windows' blocks over the grid. -/
theorem idx : ∀ t : Fin cfg0.N, win0_0.index t = ![t.val / 8, t.val % 8] ∧ win0_1.index t = ![t.val % 8, t.val / 8 % 1]
    ∧ win0_2.index t = ![t.val / 8, t.val / 8 % 1] :=
  (by decide +kernel : ∀ t : Fin grid0.N, win0_0.index t = ![t.val / 8, t.val % 8] ∧ win0_1.index t = ![t.val % 8, t.val / 8 % 1]
    ∧ win0_2.index t = ![t.val / 8, t.val / 8 % 1])

/-- The grid point of tile `s` of the sum for block `g` of the result. -/
abbrev pt (g : Fin 6) (s : Fin 8) : Fin cfg0.N := ⟨8 * g.val + s.val, by show _ < grid0.N; rw [Gen.N_0]; omega⟩

/-- Row `r` and column `d` of block `g` of the result. -/
abbrev row (g : Fin 6) (r : Fin 512) : Fin 3072 := ⟨512 * (g.val / 1) + r.val, by omega⟩
@[inherit_doc row] abbrev col (g : Fin 6) (d : Fin 1024) : Fin 1024 := ⟨1024 * (g.val % 1) + d.val, by omega⟩

variable (g : Fin 6)

/-- The left factor's tile `s` for block `g`. -/
theorem blk_x (s : Fin 8) (r : Fin 512) (k : Fin 1024) : (iblk m c 0 (pt g s) : Vec Ideal S512x1024 .bf16) (ix2 r k)
    = m ((c : Thread nD τ).loc main_arg0) (ix2 (row g r) (Tiles.at' (n := 8) rfl s k)) := by
  have h := idx (pt g s)
  blk_ext! [iblk, V, h]

/-- The right factor's tile `s` for block `g`. -/
theorem blk_y (s : Fin 8) (k : Fin 1024) (d : Fin 1024) : (iblk m c 1 (pt g s) : Vec Ideal S1024x1024 .f32) (ix2 k d)
    = m ((c : Thread nD τ).loc main_arg1) (ix2 (Tiles.at' (n := 8) rfl s k) (col g d)) := by
  have h := idx (pt g s)
  blk_ext! [iblk, V, h]

/-- What the last tile writes to the result's block. -/
theorem block (r : Fin 512) (d : Fin 1024) : (outsAt0 m c (pt g 7).val (pt g 7).isLt).1 (ix2 r d)
    = Tiles.nn (m ((c : Thread nD τ).loc main_arg0)) (m ((c : Thread nD τ).loc main_arg1)) (ix2 (row g r) (col g d)) := by
  refine Eq.trans ?_ (Tiles.sum_eq (n := 8) (b := 1024) rfl _).symm
  refine (Tiles.fold_out (n := 6) (fun j h => (outsAt0 m c (pt g ⟨j, by omega⟩).val (pt g ⟨j, by omega⟩).isLt).2 (ix2 r d)) _
    (fun s => Tiles.nn (iblk m c 0 (pt g s)) (iblk m c 1 (pt g s)) (ix2 r d)) ?_ (fun j h => ?_) ?_).trans ?_
  · refine (congrArg (fun p => p.2 (ix2 r d)) (outsAt0_A m c (pt g 0) (by dsimp only; omega) (by dsimp only; omega) (by dsimp only; omega))).trans ?_
    refine Eq.trans (congrFun ?_ _) (start_at _ _ r d)
    unfold sout0_A_0
    rw [View.read_writes_eq_canon _ _ _ fun _ => scover0_A_0 ..]
    unfold kernelRun0_A
    dsimp only
    sl_unfold_words
    rw [View.canon_unit_zero Tiles.corner]
    simp only [View.readAt_eq_ld, Memref.IsWhole.read_unread, View.ld_unit_zero (S := S512x1024) Tiles.corner, View.ld_unit_zero (S := S1024x1024) Tiles.corner]
  · refine (congrArg (fun p => p.2 (ix2 r d)) (outsAt0_B m c (pt g ⟨j + 1, by omega⟩) (by dsimp only; omega) (by dsimp only; omega) (by dsimp only; omega))).trans ?_
    refine Eq.trans (congrFun ?_ _) (step_at _ _ _ r d)
    unfold sout0_B_0
    rw [View.read_writes_eq_canon _ _ _ fun _ => scover0_B_0 ..]
    unfold kernelRun0_B
    dsimp only
    sl_unfold_words
    rw [View.canon_unit_zero Tiles.corner]
    simp only [View.readAt_eq_ld, Memref.IsWhole.read_unread, View.ld_unit_zero (S := S512x1024) Tiles.corner, View.ld_unit_zero (S := S1024x1024) Tiles.corner]
    exact congrArg (k0_pay3 _ _) (Memref.IsWhole.read_unread (Memref.isWhole_whole cc0_scratch0) _)
  · refine (congrArg (fun p => p.1 (ix2 r d)) (outsAt0_C m c (pt g 7) (by dsimp only; omega) (by dsimp only; omega) (by dsimp only; omega))).trans ?_
    refine Eq.trans (congrFun ?_ _) (step_at _ _ _ r d)
    unfold out0_C_2
    rw [View.read_writes_eq_canon _ _ _ fun _ => cover0_C_2 ..]
    unfold kernelRun0_C
    dsimp only
    sl_unfold_words
    rw [View.canon_unit_zero Tiles.corner, View.readCov_unit_zero (S := S512x1024) _ Tiles.corner]
    simp only [View.readAt_eq_ld, Memref.IsWhole.read_unread, View.ld_unit_zero (S := S512x1024) Tiles.corner, View.ld_unit_zero (S := S1024x1024) Tiles.corner]
    exact congrArg (k0_pay3 _ _) (Memref.IsWhole.read_unread (Memref.isWhole_whole cc0_scratch0) _)
  · simp only [Tiles.nn, ix2, blk_x, blk_y]

/-- The result's array. -/
theorem final : (dats m 0 c).arrAt 2 cfg0.N
    = Tiles.nn (m ((c : Thread nD τ).loc main_arg0)) (m ((c : Thread nD τ).loc main_arg1)) := by
  refine (dats m 0 c).arrAt_eq_of_covers 2 _ (by decide +kernel) fun t hf y => ?_
  have ht : t.val < 48 := lt_of_lt_of_eq t.isLt Gen.N_0
  have hl : t.val % 8 = 7 := (flush0_2 t).mp hf
  obtain ⟨g, rfl⟩ : ∃ g : Fin 6, t = pt g 7 := ⟨⟨t.val / 8, by omega⟩, Fin.ext (by show _ = 8 * (t.val / 8) + 7; omega)⟩
  have h := idx (pt g 7)
  obtain ⟨r, d, rfl⟩ : ∃ (r : Fin 512) (d : Fin 1024), y = ix2 r d := ⟨y 0, y 1, ValueIdx.eq_ix2 y⟩
  have e : (win0_2.blk (pt g 7)).view.emb (ix2 r d) = ix2 (row g r) (col g d) := by
    blk_ext [h]
  blk_simp
  rw [e, after0_2]
  exact block m c g r d

end

section

open Cert.ReferenceQkvProjDwIdeal Cert.ReferenceQkvProjDwIdeal.Read

/-- The reference's result is the same product. -/
theorem reference (x : Tiles.Mat 3072 8192) (y : Tiles.Mat 8192 1024) : val_main_v6 (F := Ideal) x y = Tiles.nn x y := by
  funext i
  rw [val_main_v6_apply, val_main_v5_apply, val_main_v4_apply]
  refine Finset.sum_congr rfl fun k _ => congrArg₂ (· * ·) (congrArg x ?_) (congrArg y ?_) <;>
  · funext a
    match a with
    | ⟨0, _⟩ => rfl
    | ⟨1, _⟩ => rfl

end

/-- The reference runs, keeps its arguments and ends with its counters at zero. -/
theorem frame_reference : Cert.quiescent_ReferenceQkvProjDwIdeal := fun m ρ _ =>
  (θ_run _ _ _).mono (fun r h => ⟨fun c => (h c).2, sem_eq_zero_of_no_sems (by decide) r.2⟩) (Cert.ReferenceQkvProjDwIdeal.Value.run m ρ)

/-- Kernel and reference end with the same product. -/
theorem algebraic : Cert.algebraic_KernelQkvProjDwIdeal_ReferenceQkvProjDwIdeal := by
  intro m ρ m' ρ' _ hagree
  refine ⟨_, (θ_run _ _ _).mono (fun _ h c => ⟨(h c).1.trans (final m c), (h c).2⟩) (Cert.KernelQkvProjDwIdeal.Value.run_blocks m ρ),
    (θ_run _ _ _).mono (fun r h c => ⟨(h c).1.trans (((Cert.ReferenceQkvProjDwIdeal.Read.val_main_v6_eq _ _).symm.trans (reference _ _)).trans ?_), (h c).2⟩)
      (Cert.ReferenceQkvProjDwIdeal.Value.run m' ρ')⟩
  rw [(hagree c).1, (hagree c).2]

end QkvProjDw

end
-- ==== Proof.SbOutProjDw.lean ====
module

public import proofs.«01_k».proof.Defs
public import proofs.«01_k».proof.Proof.QkvProjDw
public import proofs.«01_k».proof.Proof.Gen.KernelSbOutProjDwIdeal.Value
public import proofs.«01_k».proof.Proof.Gen.ReferenceSbOutProjDwIdeal.Read
public import proofs.«01_k».proof.Proof.Gen.ReferenceSbOutProjDwIdeal.Run
public import Idealize.ShloMosaic.Lib.Quiescent
public import Idealize.ShloMosaic.Lib.Pipeline.ValueKit.Point
public import Idealize.ShloMosaic.Lib.Pointwise

@[expose] public section

set_option maxRecDepth 16384

/-! The gradient of the attention's output matrix. -/

noncomputable section

namespace SbOutProjDw

open Idealize.ShloMosaic Idealize.ShloMosaic.TcCoe Idealize.SL.Sem

section

open Cert.KernelSbOutProjDwIdeal Cert.KernelSbOutProjDwIdeal.Gen

/-- The accumulator's first value: the product of the first two tiles. -/
theorem start_at (x : Vec Ideal S512x1024 .bf16) (y : Vec Ideal S1024x1024 .bf16) (r : Fin 512) (d : Fin 1024) :
    k0_pay2 x y (ix2 r d) = Tiles.nn x y (ix2 r d) := by
  unfold Tiles.nn
  pointwise [k0_pay2, k0_pay1]

/-- Its next value: the product of the next two tiles is added. -/
theorem step_at (x : Vec Ideal S512x1024 .bf16) (y : Vec Ideal S1024x1024 .bf16) (a : Vec Ideal S512x1024 .f32) (r : Fin 512) (d : Fin 1024) :
    k0_pay3 x y a (ix2 r d) = a (ix2 r d) + Tiles.nn x y (ix2 r d) := by
  unfold Tiles.nn
  pointwise [k0_pay3, k0_pay1]

variable (m : (ℓ : Loc nD τ sig) → Buf (Elt Ideal) ℓ) (c : Dev nD)

/-- The windows' blocks over the grid. -/
theorem idx : ∀ t : Fin cfg0.N, win0_0.index t = ![t.val / 8, t.val % 8] ∧ win0_1.index t = ![t.val % 8, t.val / 8 % 1]
    ∧ win0_2.index t = ![t.val / 8, t.val / 8 % 1] :=
  (by decide +kernel : ∀ t : Fin grid0.N, win0_0.index t = ![t.val / 8, t.val % 8] ∧ win0_1.index t = ![t.val % 8, t.val / 8 % 1]
    ∧ win0_2.index t = ![t.val / 8, t.val / 8 % 1])

/-- The grid point of tile `s` of the sum for block `g` of the result. -/
abbrev pt (g : Fin 2) (s : Fin 8) : Fin cfg0.N := ⟨8 * g.val + s.val, by show _ < grid0.N; rw [Gen.N_0]; omega⟩

/-- Row `r` and column `d` of block `g` of the result. -/
abbrev row (g : Fin 2) (r : Fin 512) : Fin 1024 := ⟨512 * (g.val / 1) + r.val, by omega⟩
@[inherit_doc row] abbrev col (g : Fin 2) (d : Fin 1024) : Fin 1024 := ⟨1024 * (g.val % 1) + d.val, by omega⟩

variable (g : Fin 2)

/-- The left factor's tile `s` for block `g`. -/
theorem blk_x (s : Fin 8) (r : Fin 512) (k : Fin 1024) : (iblk m c 0 (pt g s) : Vec Ideal S512x1024 .bf16) (ix2 r k)
    = m ((c : Thread nD τ).loc main_arg0) (ix2 (row g r) (Tiles.at' (n := 8) rfl s k)) := by
  have h := idx (pt g s)
  blk_ext! [iblk, V, h]

/-- The right factor's tile `s` for block `g`. -/
theorem blk_y (s : Fin 8) (k : Fin 1024) (d : Fin 1024) : (iblk m c 1 (pt g s) : Vec Ideal S1024x1024 .bf16) (ix2 k d)
    = m ((c : Thread nD τ).loc main_arg1) (ix2 (Tiles.at' (n := 8) rfl s k) (col g d)) := by
  have h := idx (pt g s)
  blk_ext! [iblk, V, h]

/-- What the last tile writes to the result's block. -/
theorem block (r : Fin 512) (d : Fin 1024) : (outsAt0 m c (pt g 7).val (pt g 7).isLt).1 (ix2 r d)
    = Tiles.nn (m ((c : Thread nD τ).loc main_arg0)) (m ((c : Thread nD τ).loc main_arg1)) (ix2 (row g r) (col g d)) := by
  refine Eq.trans ?_ (Tiles.sum_eq (n := 8) (b := 1024) rfl _).symm
  refine (Tiles.fold_out (n := 6) (fun j h => (outsAt0 m c (pt g ⟨j, by omega⟩).val (pt g ⟨j, by omega⟩).isLt).2 (ix2 r d)) _
    (fun s => Tiles.nn (iblk m c 0 (pt g s)) (iblk m c 1 (pt g s)) (ix2 r d)) ?_ (fun j h => ?_) ?_).trans ?_
  · refine (congrArg (fun p => p.2 (ix2 r d)) (outsAt0_A m c (pt g 0) (by dsimp only; omega) (by dsimp only; omega) (by dsimp only; omega))).trans ?_
    refine Eq.trans (congrFun ?_ _) (start_at _ _ r d)
    unfold sout0_A_0
    rw [View.read_writes_eq_canon _ _ _ fun _ => scover0_A_0 ..]
    unfold kernelRun0_A
    dsimp only
    sl_unfold_words
    rw [View.canon_unit_zero Tiles.corner]
    simp only [View.readAt_eq_ld, Memref.IsWhole.read_unread, View.ld_unit_zero (S := S512x1024) Tiles.corner, View.ld_unit_zero (S := S1024x1024) Tiles.corner]
  · refine (congrArg (fun p => p.2 (ix2 r d)) (outsAt0_B m c (pt g ⟨j + 1, by omega⟩) (by dsimp only; omega) (by dsimp only; omega) (by dsimp only; omega))).trans ?_
    refine Eq.trans (congrFun ?_ _) (step_at _ _ _ r d)
    unfold sout0_B_0
    rw [View.read_writes_eq_canon _ _ _ fun _ => scover0_B_0 ..]
    unfold kernelRun0_B
    dsimp only
    sl_unfold_words
    rw [View.canon_unit_zero Tiles.corner]
    simp only [View.readAt_eq_ld, Memref.IsWhole.read_unread, View.ld_unit_zero (S := S512x1024) Tiles.corner, View.ld_unit_zero (S := S1024x1024) Tiles.corner]
    exact congrArg (k0_pay3 _ _) (Memref.IsWhole.read_unread (Memref.isWhole_whole cc0_scratch0) _)
  · refine (congrArg (fun p => p.1 (ix2 r d)) (outsAt0_C m c (pt g 7) (by dsimp only; omega) (by dsimp only; omega) (by dsimp only; omega))).trans ?_
    refine Eq.trans (congrFun ?_ _) (step_at _ _ _ r d)
    unfold out0_C_2
    rw [View.read_writes_eq_canon _ _ _ fun _ => cover0_C_2 ..]
    unfold kernelRun0_C
    dsimp only
    sl_unfold_words
    rw [View.canon_unit_zero Tiles.corner, View.readCov_unit_zero (S := S512x1024) _ Tiles.corner]
    simp only [View.readAt_eq_ld, Memref.IsWhole.read_unread, View.ld_unit_zero (S := S512x1024) Tiles.corner, View.ld_unit_zero (S := S1024x1024) Tiles.corner]
    exact congrArg (k0_pay3 _ _) (Memref.IsWhole.read_unread (Memref.isWhole_whole cc0_scratch0) _)
  · simp only [Tiles.nn, ix2, blk_x, blk_y]

/-- The result's array. -/
theorem final : (dats m 0 c).arrAt 2 cfg0.N
    = Tiles.nn (m ((c : Thread nD τ).loc main_arg0)) (m ((c : Thread nD τ).loc main_arg1)) := by
  refine (dats m 0 c).arrAt_eq_of_covers 2 _ (by decide +kernel) fun t hf y => ?_
  have ht : t.val < 16 := lt_of_lt_of_eq t.isLt Gen.N_0
  have hl : t.val % 8 = 7 := (flush0_2 t).mp hf
  obtain ⟨g, rfl⟩ : ∃ g : Fin 2, t = pt g 7 := ⟨⟨t.val / 8, by omega⟩, Fin.ext (by show _ = 8 * (t.val / 8) + 7; omega)⟩
  have h := idx (pt g 7)
  obtain ⟨r, d, rfl⟩ : ∃ (r : Fin 512) (d : Fin 1024), y = ix2 r d := ⟨y 0, y 1, ValueIdx.eq_ix2 y⟩
  have e : (win0_2.blk (pt g 7)).view.emb (ix2 r d) = ix2 (row g r) (col g d) := by
    blk_ext [h]
  blk_simp
  rw [e, after0_2]
  exact block m c g r d

end

section

open Cert.ReferenceSbOutProjDwIdeal Cert.ReferenceSbOutProjDwIdeal.Read

/-- The reference's result is the same product. -/
theorem reference (x : Tiles.Mat 1024 8192) (y : Tiles.Mat 8192 1024) : val_main_v6 (F := Ideal) x y = Tiles.nn x y := by
  funext i
  rw [val_main_v6_apply, val_main_v5_apply]
  refine Finset.sum_congr rfl fun k _ => (mul_comm _ _).trans (congrArg₂ (· * ·) (congrArg x ?_) (congrArg y ?_)) <;>
  · funext a
    match a with
    | ⟨0, _⟩ => rfl
    | ⟨1, _⟩ => rfl

end

/-- The reference runs, keeps its arguments and ends with its counters at zero. -/
theorem frame_reference : Cert.quiescent_ReferenceSbOutProjDwIdeal := fun m ρ _ =>
  (θ_run _ _ _).mono (fun r h => ⟨fun c => (h c).2, sem_eq_zero_of_no_sems (by decide) r.2⟩) (Cert.ReferenceSbOutProjDwIdeal.Value.run m ρ)

/-- Kernel and reference end with the same product. -/
theorem algebraic : Cert.algebraic_KernelSbOutProjDwIdeal_ReferenceSbOutProjDwIdeal := by
  intro m ρ m' ρ' _ hagree
  refine ⟨_, (θ_run _ _ _).mono (fun _ h c => ⟨(h c).1.trans (final m c), (h c).2⟩) (Cert.KernelSbOutProjDwIdeal.Value.run_blocks m ρ),
    (θ_run _ _ _).mono (fun r h c => ⟨(h c).1.trans (((Cert.ReferenceSbOutProjDwIdeal.Read.val_main_v6_eq _ _).symm.trans (reference _ _)).trans ?_), (h c).2⟩)
      (Cert.ReferenceSbOutProjDwIdeal.Value.run m' ρ')⟩
  rw [(hagree c).1, (hagree c).2]

end SbOutProjDw

end
-- ==== Proof.MemKvDw.lean ====
module

public import proofs.«01_k».proof.Defs
public import proofs.«01_k».proof.Proof.SbOutProjDw
public import proofs.«01_k».proof.Proof.Gen.KernelMemKvDwIdeal.Value
public import proofs.«01_k».proof.Proof.Gen.ReferenceMemKvDwIdeal.Read
public import proofs.«01_k».proof.Proof.Gen.ReferenceMemKvDwIdeal.Run
public import Idealize.ShloMosaic.Lib.Quiescent
public import Idealize.ShloMosaic.Lib.Pipeline.ValueKit.Point
public import Idealize.ShloMosaic.Lib.Pointwise

@[expose] public section

set_option maxRecDepth 16384

/-! The gradient of the memory attention's key matrix, and of its value matrix. -/

noncomputable section

namespace MemKvDw

open Idealize.ShloMosaic Idealize.ShloMosaic.TcCoe Idealize.SL.Sem

section

open Cert.KernelMemKvDwIdeal Cert.KernelMemKvDwIdeal.Gen

/-- What the call writes to a block of its result: the product of its two blocks. -/
theorem out_at (x : Vec Ideal S512x512 .f32) (y : Vec Ideal S512x1024 .f32) (r : Fin 512) (d : Fin 1024) :
    out0_2 x y (ix2 r d) = Tiles.tn x y (ix2 r d) := by
  unfold out0_2 Tiles.tn
  rw [View.canon_unit_zero Tiles.corner, View.ld_unit_zero (S := S512x512) Tiles.corner, View.ld_unit_zero (S := S512x1024) Tiles.corner]
  pointwise [k0_pay1]

variable (m : (ℓ : Loc nD τ sig) → Buf (Elt Ideal) ℓ) (c : Dev nD)

/-- The windows' blocks over the grid. -/
theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- The result's array. -/
theorem final : (dats m 0 c).arrAt 2 cfg0.N
    = Tiles.tn (m ((c : Thread nD τ).loc main_arg0)) (m ((c : Thread nD τ).loc main_arg1)) := by
  refine (dats m 0 c).arrAt_eq_of_covers 2 _ (by decide +kernel) fun t _ y => ?_
  have ht : t.val < 2 := lt_of_lt_of_eq t.isLt Gen.N_0
  have h := idx t
  obtain ⟨r, d, rfl⟩ : ∃ (r : Fin 512) (d : Fin 1024), y = ix2 r d := ⟨y 0, y 1, ValueIdx.eq_ix2 y⟩
  have e : (win0_2.blk t).view.emb (ix2 r d) = ix2 ⟨512 * t.val + r.val, by omega⟩ d := by
    blk_ext [h]
  blk_simp
  rw [e, after0_2]
  refine (out_at _ _ r d).trans (Finset.sum_congr rfl fun k _ => congrArg₂ (· * ·) ?_ ?_)
  · dsimp only [ix2]
    blk_ext! [iblk, V, h]
  · dsimp only [ix2]
    blk_ext! [iblk, V, h]

end

section

open Cert.ReferenceMemKvDwIdeal Cert.ReferenceMemKvDwIdeal.Read

/-- The reference's result is the same product. -/
theorem reference (x : Tiles.Mat 512 1024) (y : Tiles.Mat 512 1024) : val_main_v3 (F := Ideal) x y = Tiles.tn x y := by
  funext i
  rw [val_main_v3_apply, val_main_v2_apply]
  refine Finset.sum_congr rfl fun k _ => (mul_comm _ _).trans (congrArg₂ (· * ·) (congrArg x ?_) (congrArg y ?_)) <;>
  · funext a
    match a with
    | ⟨0, _⟩ => rfl
    | ⟨1, _⟩ => rfl

end

/-- The reference runs, keeps its arguments and ends with its counters at zero. -/
theorem frame_reference : Cert.quiescent_ReferenceMemKvDwIdeal := fun m ρ _ =>
  (θ_run _ _ _).mono (fun r h => ⟨fun c => (h c).2, sem_eq_zero_of_no_sems (by decide) r.2⟩) (Cert.ReferenceMemKvDwIdeal.Value.run m ρ)

/-- Kernel and reference end with the same product. -/
theorem algebraic : Cert.algebraic_KernelMemKvDwIdeal_ReferenceMemKvDwIdeal := by
  intro m ρ m' ρ' _ hagree
  refine ⟨_, (θ_run _ _ _).mono (fun _ h c => ⟨(h c).1.trans (final m c), (h c).2⟩) (Cert.KernelMemKvDwIdeal.Value.run_blocks m ρ),
    (θ_run _ _ _).mono (fun r h c => ⟨(h c).1.trans (((Cert.ReferenceMemKvDwIdeal.Read.val_main_v3_eq _ _).symm.trans (reference _ _)).trans ?_), (h c).2⟩)
      (Cert.ReferenceMemKvDwIdeal.Value.run m' ρ')⟩
  rw [(hagree c).1, (hagree c).2]

end MemKvDw

end
-- ==== Proof.Launches.lean ====
module

public import proofs.«01_k».proof.Proof.MemKvDw
public import Idealize.ShloMosaic.PureOps.Ideal
public import Idealize.ShloMosaic.Lib.Pipeline.Value
public import Idealize.ShloMosaic.Lib.ValueIdx
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

/-! What a program of several launches leaves in memory. -/

noncomputable section

namespace Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- The corner of a block of one layer. -/
theorem corner3 : (![0, 0, 0] : Fin 3 → ℕ) = fun _ => 0 := by decide

/-- Layer `l` of a stack of matrices. -/
abbrev layer {n a b : ℕ} (l : Fin n) (w : (⟨3, ![n, a, b]⟩ : Shape).Idx → EReal) : Tiles.Mat a b := fun i => w (ix3 l (i 0) (i 1))

/-- A sum of two matrices. -/
abbrev plus {a b : ℕ} (x y : Tiles.Mat a b) : Tiles.Mat a b := fun i => x i + y i

/-- A slice of one layer, reshaped to a matrix, is that layer. -/
theorem layer_eq {n a b : ℕ} (l : Fin n) (w : (⟨3, ![n, a, b]⟩ : Shape).Idx → EReal)
    (hs : (⟨3, ![n, a, b]⟩ : Shape).Slices ![l.val, 0, 0] ⟨3, ![1, a, b]⟩) (hc : (⟨3, ![1, a, b]⟩ : Shape).ShapeCasts ⟨2, ![a, b]⟩) :
    shapeCast ⟨2, ![a, b]⟩ (extractStridedSlice ⟨3, ![1, a, b]⟩ ![l.val, 0, 0] w hs) hc = layer l w := by
  funext i
  refine (shapeCast_apply _ hc i (ix3 0 (i 0) (i 1)) ?_).trans (extractStridedSlice_apply _ w hs _ (ix3 l (i 0) (i 1)) fun d => ?_)
  · rw [Shape.rowMajor_val_three, Shape.rowMajor_val_two]
    show (0 * a + (i 0).val) * b + (i 1).val = (i 0).val * b + (i 1).val
    rw [Nat.zero_mul, Nat.zero_add]
  · match d with
    | ⟨0, _⟩ => rfl
    | ⟨1, _⟩ => exact (Nat.zero_add _).symm
    | ⟨2, _⟩ => exact (Nat.zero_add _).symm

variable {nD : ℕ} {τ : Topo} {sig : RefSig} {Λ₀ : Labels} {P : Type} [Fintype P] [DecidableEq P]

/-- The buffers at `W`, the generator's register at some state. -/
abbrev state (W : Dev nD → Valuation τ sig (Elt Ideal)) (c : Dev nD) : sProp (MT nD τ sig Unit (Elt Ideal) ℕ (UR sig nD τ) ℕ) :=
  iprop(StableHlo.held (c : Thread nD τ) (ucRefs τ sig) (W c) ∗ ∃ r, prngReg c r)

/-- Launches that lead from the memory `m` to the buffers `W` end with memory `W`. -/
theorem run (pcs : P → PCfg sig Λ₀ (Elt Ideal)) (a : (p : P) → (pcs p).Adm)
    (dats : (p : P) → (c : Dev nD) → Dat τ (Elt Ideal) Unit ℕ (UR sig nD τ) ℕ (pin pcs a p) c)
    (inj : Function.Injective (cellOf (nD := nD) (τ := τ) (pin pcs a))) (defs₀ : Defs nD τ sig (Elt Ideal) Λ₀)
    (m : (ℓ : Loc nD τ sig) → Buf (Elt Ideal) ℓ) (ρ : Dev nD → PrngReg)
    (main : Dev nD → Prog (TpuEff nD τ sig (Elt Ideal) (Pipeline.Sig Λ₀ P fun p => (pcs p).Adm) .tc) PUnit)
    (segs : List (Seg pcs a dats () defs₀ Variants.none (fun _ => ∅) (fun _ _ => 0)))
    (hmain : ∀ c, main c = Seg.run segs) (hnd : (Seg.pipes segs).Nodup) (W : Dev nD → Valuation τ sig (Elt Ideal))
    (hch : Seg.Chains (fun c => iprop(StableHlo.held (c : Thread nD τ) (ucRefs τ sig) (fun b => m ((c : Dev nD), b))
      ∗ ((∃ r, prngReg c r) ∗ ∃ W, owes (c : Thread nD τ) (0 : CellTallies nD τ sig Unit) W))) segs
      fun c => iprop(state W c ∗ ∃ W, owes (c : Thread nD τ) (0 : CellTallies nD τ sig Unit) W)) :
    θ_run (Pipeline.defs pcs defs₀) (onTc main) ⟨m, fun _ => 0, ρ⟩ fun r => ∀ c : Dev nD, ∀ b ∈ ucRefs τ sig, r.2.mem (c, b) = W c b :=
  θ_run_regions_kit pcs a dats () inj emb₁ defs₀ Variants.none (fun _ => ∅) (fun _ _ => 0) m ρ main segs
    (fun c Q => by rw [hmain c]) hnd (O₀ := 0) (hL := fun _ _ => rfl) (G := fun _ => iprop(emp))
    (u₀ := initOf (cells (pin pcs a) inj) (launchToks (pin pcs a) inj))
    (hu₀ := by
      iintro Hu
      imodintro
      isplitl [Hu]
      · iapply (show (ownU (initOf (cells (pin pcs a) inj) (launchToks (pin pcs a) inj)) : sProp (MT nD τ sig Unit (Elt Ideal) ℕ (UR sig nD τ) ℕ))
            ⊢ BI.own (emb₁ (initOf (cells (pin pcs a) inj) (launchToks (pin pcs a) inj))) from .rfl)
        iexact Hu
      iapply (show (BI.emp : sProp (MT nD τ sig Unit (Elt Ideal) ℕ (UR sig nD τ) ℕ)) ⊢ bigSep Finset.univ (fun _ : Dev nD => BI.emp) from
        by rw [BI.bigSep_emp_const])
      iempintro)
    (T₀ := _) (Tₙ := state W) (hch := hch)
    (hinit := by
      refine initEach (fun _ => ∅) (fun _ _ => 0) fun c => ?_
      rw [show unscopedBufs c (fun b => m ((c : Thread nD τ).loc b)) = StableHlo.held (c : Thread nD τ) (ucRefs τ sig) (fun b => m ((c : Dev nD), b))
        from unscopedBufs_held c (fun b => m ((c : Dev nD), b))]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ ucRefs τ sig, s.mem (c, b) = W c b)
    (hfin := fun c s' => by
      iintro ⟨⟨Hh, -⟩, HSI⟩
      unfold StableHlo.held
      imodintro
      iapply (pointsTo_read_all (ucRefs τ sig) (fun b => ((c : Thread nD τ).1, b)) (W c) s')
      isplitl [Hh] <;> iassumption)
    (hQ := fun s h => h)

end Launches

end
-- ==== Proof.FfnIn.lean ====
module

public import proofs.«01_k».proof.Defs
public import proofs.«01_k».proof.Proof.Launches
public import proofs.«01_k».proof.Proof.Gen.KernelFfnInIdeal.Frame
public import proofs.«01_k».proof.Proof.Gen.ReferenceFfnInIdeal.Read
public import proofs.«01_k».proof.Proof.Gen.ReferenceFfnInIdeal.Run
public import Idealize.ShloMosaic.Lib.Quiescent
public import Idealize.ShloMosaic.Lib.Pipeline.ValueKit.Point
public import Idealize.ShloMosaic.Lib.Pointwise

@[expose] public section

set_option maxRecDepth 16384

/-! The feed-forward layer's first product, in the four layers. -/

noncomputable section

namespace FfnIn

open Idealize.ShloMosaic Idealize.ShloMosaic.TcCoe Idealize.SL.Sem
open Launches (layer corner3 plus)

section

open Cert.KernelFfnInIdeal Cert.KernelFfnInIdeal.Gen

/-- What a launch writes to a block of its result: the product of its two blocks. -/
theorem out_at (x : Vec Ideal S512x1024 .f32) (y : Vec Ideal S1x1024x1024 .bf16) (r : Fin 512) (d : Fin 1024) :
    out0_2 x y (ix2 r d) = ∑ k : Fin 1024, x (ix2 r k) * y (ix3 0 k d) := by
  unfold out0_2
  rw [View.canon_unit_zero Tiles.corner, View.ld_unit_zero (S := S512x1024) Tiles.corner, View.ld_unit_zero (S := S1x1024x1024) corner3]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nn (V c main_arg0) (layer 0 (V c main_arg4)) := by
  refine (dat0 V c).arrAt_eq_of_covers 2 _ (by decide +kernel) fun t _ y => ?_
  have ht : t.val < 96 := lt_of_lt_of_eq t.isLt Gen.N_0
  have h := (by decide +kernel : ∀ t : Fin grid0.N, win0_0.index t = ![t.val / 6, 0] ∧ win0_1.index t = ![0, 0, t.val % 6] ∧ win0_2.index t = ![t.val / 6, t.val % 6]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 6) + r.val, by omega⟩ ⟨1024 * (t.val % 6) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nn (V c main_arg1) (layer 1 (V c main_arg4)) := by
  refine (dat1 V c).arrAt_eq_of_covers 2 _ (by decide +kernel) fun t _ y => ?_
  have ht : t.val < 96 := lt_of_lt_of_eq t.isLt Gen.N_1
  have h := (by decide +kernel : ∀ t : Fin grid1.N, win1_0.index t = ![t.val / 6, 0] ∧ win1_1.index t = ![1, 0, t.val % 6] ∧ win1_2.index t = ![t.val / 6, t.val % 6]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 6) + r.val, by omega⟩ ⟨1024 * (t.val % 6) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

/-- The third launch's result. -/
theorem final2 : (dat2 V c).arrAt 2 cfg2.N = Tiles.nn (V c main_arg2) (layer 2 (V c main_arg4)) := by
  refine (dat2 V c).arrAt_eq_of_covers 2 _ (by decide +kernel) fun t _ y => ?_
  have ht : t.val < 96 := lt_of_lt_of_eq t.isLt Gen.N_2
  have h := (by decide +kernel : ∀ t : Fin grid2.N, win2_0.index t = ![t.val / 6, 0] ∧ win2_1.index t = ![2, 0, t.val % 6] ∧ win2_2.index t = ![t.val / 6, t.val % 6]) t
  obtain ⟨r, d, rfl⟩ : ∃ (r : Fin 512) (d : Fin 1024), y = ix2 r d := ⟨y 0, y 1, ValueIdx.eq_ix2 y⟩
  have e : (win2_2.blk t).view.emb (ix2 r d) = ix2 ⟨512 * (t.val / 6) + r.val, by omega⟩ ⟨1024 * (t.val % 6) + d.val, by omega⟩ := by
    blk_ext [h]
  blk_simp
  rw [e, after2_2]
  refine (out_at _ _ r d).trans (Finset.sum_congr rfl fun k _ => congrArg₂ (· * ·) ?_ ?_) <;>
  · dsimp only [ix2, ix3]
    blk_ext! [iblk2, h]

/-- The fourth launch's result. -/
theorem final3 : (dat3 V c).arrAt 2 cfg3.N = Tiles.nn (V c main_arg3) (layer 3 (V c main_arg4)) := by
  refine (dat3 V c).arrAt_eq_of_covers 2 _ (by decide +kernel) fun t _ y => ?_
  have ht : t.val < 96 := lt_of_lt_of_eq t.isLt Gen.N_3
  have h := (by decide +kernel : ∀ t : Fin grid3.N, win3_0.index t = ![t.val / 6, 0] ∧ win3_1.index t = ![3, 0, t.val % 6] ∧ win3_2.index t = ![t.val / 6, t.val % 6]) t
  obtain ⟨r, d, rfl⟩ : ∃ (r : Fin 512) (d : Fin 1024), y = ix2 r d := ⟨y 0, y 1, ValueIdx.eq_ix2 y⟩
  have e : (win3_2.blk t).view.emb (ix2 r d) = ix2 ⟨512 * (t.val / 6) + r.val, by omega⟩ ⟨1024 * (t.val % 6) + d.val, by omega⟩ := by
    blk_ext [h]
  blk_simp
  rw [e, after3_2]
  refine (out_at _ _ r d).trans (Finset.sum_congr rfl fun k _ => congrArg₂ (· * ·) ?_ ?_) <;>
  · dsimp only [ix2, ix3]
    blk_ext! [iblk3, h]

variable (m : (ℓ : Loc nD τ sig) → Buf (Elt Ideal) ℓ) (ρ : Dev nD → PrngReg)

/-- The first launch's result is in memory at the end. -/
theorem result0 : W4 m ρ c (Proc.devRef .tc main_v0) = Tiles.nn (m ((c : Thread nD τ).loc main_arg0)) (layer 0 (m ((c : Thread nD τ).loc main_arg4))) :=
  (((W4_of m ρ c main_v0 (by decide)).trans ((W3_of m ρ c main_v0 (by decide)).trans ((W2_of m ρ c main_v0 (by decide)).trans (W1_arr m ρ c 2)))).trans (final0 (V0 m ρ) c)).trans (by
    show Tiles.nn (W0 m ρ c (Proc.devRef .tc main_arg0)) (layer 0 (W0 m ρ c (Proc.devRef .tc main_arg4))) = _
    rw [W0_args m ρ c main_arg0 (by decide), W0_args m ρ c main_arg4 (by decide)])

/-- The second launch's result is in memory at the end. -/
theorem result1 : W4 m ρ c (Proc.devRef .tc main_v1) = Tiles.nn (m ((c : Thread nD τ).loc main_arg1)) (layer 1 (m ((c : Thread nD τ).loc main_arg4))) :=
  (((W4_of m ρ c main_v1 (by decide)).trans ((W3_of m ρ c main_v1 (by decide)).trans (W2_arr m ρ c 2))).trans (final1 (V1 m ρ) c)).trans (by
    show Tiles.nn (W1 m ρ c (Proc.devRef .tc main_arg1)) (layer 1 (W1 m ρ c (Proc.devRef .tc main_arg4))) = _
    rw [W1_args m ρ c main_arg1 (by decide), W1_args m ρ c main_arg4 (by decide)])

/-- The third launch's result is in memory at the end. -/
theorem result2 : W4 m ρ c (Proc.devRef .tc main_v2) = Tiles.nn (m ((c : Thread nD τ).loc main_arg2)) (layer 2 (m ((c : Thread nD τ).loc main_arg4))) :=
  (((W4_of m ρ c main_v2 (by decide)).trans (W3_arr m ρ c 2)).trans (final2 (V2 m ρ) c)).trans (by
    show Tiles.nn (W2 m ρ c (Proc.devRef .tc main_arg2)) (layer 2 (W2 m ρ c (Proc.devRef .tc main_arg4))) = _
    rw [W2_args m ρ c main_arg2 (by decide), W2_args m ρ c main_arg4 (by decide)])

/-- The fourth launch's result is in memory at the end. -/
theorem result3 : W4 m ρ c (Proc.devRef .tc main_v3) = Tiles.nn (m ((c : Thread nD τ).loc main_arg3)) (layer 3 (m ((c : Thread nD τ).loc main_arg4))) :=
  ((W4_arr m ρ c 2).trans (final3 (V3 m ρ) c)).trans (by
    show Tiles.nn (W3 m ρ c (Proc.devRef .tc main_arg3)) (layer 3 (W3 m ρ c (Proc.devRef .tc main_arg4))) = _
    rw [W3_args m ρ c main_arg3 (by decide), W3_args m ρ c main_arg4 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nn (m ((c : Thread nD τ).loc main_arg0)) (layer 0 (m ((c : Thread nD τ).loc main_arg4)))
      ∧ r.2.mem ((c : Thread nD τ).loc main_v1) = Tiles.nn (m ((c : Thread nD τ).loc main_arg1)) (layer 1 (m ((c : Thread nD τ).loc main_arg4)))
      ∧ r.2.mem ((c : Thread nD τ).loc main_v2) = Tiles.nn (m ((c : Thread nD τ).loc main_arg2)) (layer 2 (m ((c : Thread nD τ).loc main_arg4)))
      ∧ r.2.mem ((c : Thread nD τ).loc main_v3) = Tiles.nn (m ((c : Thread nD τ).loc main_arg3)) (layer 3 (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => ⟨
      (h c _ (mem_uc main_v0 (by decide))).trans (result0 c m ρ),
      (h c _ (mem_uc main_v1 (by decide))).trans (result1 c m ρ),
      (h c _ (mem_uc main_v2 (by decide))).trans (result2 c m ρ),
      (h c _ (mem_uc main_v3 (by decide))).trans (result3 c m ρ),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W4 m ρ)
      ⟨fun _ => .rfl, fun _ => .rfl, fun _ => .rfl, fun _ => .rfl, fun _ => .rfl⟩)

end

section

open Cert.ReferenceFfnInIdeal Cert.ReferenceFfnInIdeal.Read

/-- The reference's first result. -/
theorem reference0 (x : Tiles.Mat 8192 1024) (w : (⟨3, ![4, 1024, 6144]⟩ : Shape).Idx → EReal) : val_main_v3 (F := Ideal) x w = Tiles.nn x (layer 0 w) := by
  funext i
  rw [val_main_v3_apply]
  exact Finset.sum_congr rfl fun k _ => congrArg₂ (· * ·) (congrArg x (ValueIdx.eq_ix2 _)) (congrFun (Launches.layer_eq 0 w Gen.slices_S4x1024x6144_S1x1024x6144_0_0_0 Gen.shapeCasts_S1x1024x6144_S1024x6144) _)

/-- The reference's second result. -/
theorem reference1 (x : Tiles.Mat 8192 1024) (w : (⟨3, ![4, 1024, 6144]⟩ : Shape).Idx → EReal) : val_main_v7 (F := Ideal) x w = Tiles.nn x (layer 1 w) := by
  funext i
  rw [val_main_v7_apply]
  exact Finset.sum_congr rfl fun k _ => congrArg₂ (· * ·) (congrArg x (ValueIdx.eq_ix2 _)) (congrFun (Launches.layer_eq 1 w Gen.slices_S4x1024x6144_S1x1024x6144_1_0_0 Gen.shapeCasts_S1x1024x6144_S1024x6144) _)

/-- The reference's third result. -/
theorem reference2 (x : Tiles.Mat 8192 1024) (w : (⟨3, ![4, 1024, 6144]⟩ : Shape).Idx → EReal) : val_main_v11 (F := Ideal) x w = Tiles.nn x (layer 2 w) := by
  funext i
  rw [val_main_v11_apply]
  exact Finset.sum_congr rfl fun k _ => congrArg₂ (· * ·) (congrArg x (ValueIdx.eq_ix2 _)) (congrFun (Launches.layer_eq 2 w Gen.slices_S4x1024x6144_S1x1024x6144_2_0_0 Gen.shapeCasts_S1x1024x6144_S1024x6144) _)

/-- The reference's fourth result. -/
theorem reference3 (x : Tiles.Mat 8192 1024) (w : (⟨3, ![4, 1024, 6144]⟩ : Shape).Idx → EReal) : val_main_v15 (F := Ideal) x w = Tiles.nn x (layer 3 w) := by
  funext i
  rw [val_main_v15_apply]
  exact Finset.sum_congr rfl fun k _ => congrArg₂ (· * ·) (congrArg x (ValueIdx.eq_ix2 _)) (congrFun (Launches.layer_eq 3 w Gen.slices_S4x1024x6144_S1x1024x6144_3_0_0 Gen.shapeCasts_S1x1024x6144_S1024x6144) _)

end

/-- The reference runs, keeps its arguments and ends with its counters at zero. -/
theorem frame_reference : Cert.quiescent_ReferenceFfnInIdeal := fun m ρ _ =>
  (θ_run _ _ _).mono (fun r h => ⟨fun c => (h c).2.2.2.2, sem_eq_zero_of_no_sems (by decide) r.2⟩) (Cert.ReferenceFfnInIdeal.Value.run m ρ)

/-- Kernel and reference end with the same products. -/
theorem algebraic : Cert.algebraic_KernelFfnInIdeal_ReferenceFfnInIdeal := by
  intro m ρ m' ρ' _ hagree
  refine ⟨_, _, _, _, kernel m ρ, (θ_run _ _ _).mono (fun r h c => ?_) (Cert.ReferenceFfnInIdeal.Value.run m' ρ')⟩
  obtain ⟨a0, a1, a2, a3, a4⟩ := hagree c
  exact ⟨(h c).1.trans (((Cert.ReferenceFfnInIdeal.Read.val_main_v3_eq _ _).symm.trans (reference0 _ _)).trans (by rw [a0, a4])),
    (h c).2.1.trans (((Cert.ReferenceFfnInIdeal.Read.val_main_v7_eq _ _).symm.trans (reference1 _ _)).trans (by rw [a1, a4])),
    (h c).2.2.1.trans (((Cert.ReferenceFfnInIdeal.Read.val_main_v11_eq _ _).symm.trans (reference2 _ _)).trans (by rw [a2, a4])),
    (h c).2.2.2.1.trans (((Cert.ReferenceFfnInIdeal.Read.val_main_v15_eq _ _).symm.trans (reference3 _ _)).trans (by rw [a3, a4])),
    (h c).2.2.2.2⟩

end FfnIn

end
-- ==== Proof.FfnOutDx.lean ====
module

public import proofs.«01_k».proof.Defs
public import proofs.«01_k».proof.Proof.FfnIn
public import proofs.«01_k».proof.Proof.Gen.KernelFfnOutDxIdeal.Frame
public import proofs.«01_k».proof.Proof.Gen.ReferenceFfnOutDxIdeal.Read
public import proofs.«01_k».proof.Proof.Gen.ReferenceFfnOutDxIdeal.Run
public import Idealize.ShloMosaic.Lib.Quiescent
public import Idealize.ShloMosaic.Lib.Pipeline.ValueKit.Point
public import Idealize.ShloMosaic.Lib.Pointwise

@[expose] public section

set_option maxRecDepth 16384

/-! The gradient with respect to the input of the feed-forward layer's last product, in the four layers. -/

noncomputable section

namespace FfnOutDx

open Idealize.ShloMosaic Idealize.ShloMosaic.TcCoe Idealize.SL.Sem
open Launches (layer corner3 plus)

section

open Cert.KernelFfnOutDxIdeal Cert.KernelFfnOutDxIdeal.Gen

/-- What a launch writes to a block of its result: the product of its two blocks. -/
theorem out_at (x : Vec Ideal S512x1024 .bf16) (y : Vec Ideal S1x1024x1024 .bf16) (r : Fin 512) (d : Fin 1024) :
    out0_2 x y (ix2 r d) = ∑ k : Fin 1024, x (ix2 r k) * y (ix3 0 d k) := by
  unfold out0_2
  rw [View.canon_unit_zero Tiles.corner, View.ld_unit_zero (S := S512x1024) Tiles.corner, View.ld_unit_zero (S := S1x1024x1024) corner3]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nt (V c main_arg0) (layer 0 (V c main_arg4)) := by
  refine (dat0 V c).arrAt_eq_of_covers 2 _ (by decide +kernel) fun t _ y => ?_
  have ht : t.val < 48 := lt_of_lt_of_eq t.isLt Gen.N_0
  have h := (by decide +kernel : ∀ t : Fin grid0.N, win0_0.index t = ![t.val / 3, 0] ∧ win0_1.index t = ![0, t.val % 3, 0] ∧ win0_2.index t = ![t.val / 3, t.val % 3]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 3) + r.val, by omega⟩ ⟨1024 * (t.val % 3) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nt (V c main_arg1) (layer 1 (V c main_arg4)) := by
  refine (dat1 V c).arrAt_eq_of_covers 2 _ (by decide +kernel) fun t _ y => ?_
  have ht : t.val < 48 := lt_of_lt_of_eq t.isLt Gen.N_1
  have h := (by decide +kernel : ∀ t : Fin grid1.N, win1_0.index t = ![t.val / 3, 0] ∧ win1_1.index t = ![1, t.val % 3, 0] ∧ win1_2.index t = ![t.val / 3, t.val % 3]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 3) + r.val, by omega⟩ ⟨1024 * (t.val % 3) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

/-- The third launch's result. -/
theorem final2 : (dat2 V c).arrAt 2 cfg2.N = Tiles.nt (V c main_arg2) (layer 2 (V c main_arg4)) := by
  refine (dat2 V c).arrAt_eq_of_covers 2 _ (by decide +kernel) fun t _ y => ?_
  have ht : t.val < 48 := lt_of_lt_of_eq t.isLt Gen.N_2
  have h := (by decide +kernel : ∀ t : Fin grid2.N, win2_0.index t = ![t.val / 3, 0] ∧ win2_1.index t = ![2, t.val % 3, 0] ∧ win2_2.index t = ![t.val / 3, t.val % 3]) t
  obtain ⟨r, d, rfl⟩ : ∃ (r : Fin 512) (d : Fin 1024), y = ix2 r d := ⟨y 0, y 1, ValueIdx.eq_ix2 y⟩
  have e : (win2_2.blk t).view.emb (ix2 r d) = ix2 ⟨512 * (t.val / 3) + r.val, by omega⟩ ⟨1024 * (t.val % 3) + d.val, by omega⟩ := by
    blk_ext [h]
  blk_simp
  rw [e, after2_2]
  refine (out_at _ _ r d).trans (Finset.sum_congr rfl fun k _ => congrArg₂ (· * ·) ?_ ?_) <;>
  · dsimp only [ix2, ix3]
    blk_ext! [iblk2, h]

/-- The fourth launch's result. -/
theorem final3 : (dat3 V c).arrAt 2 cfg3.N = Tiles.nt (V c main_arg3) (layer 3 (V c main_arg4)) := by
  refine (dat3 V c).arrAt_eq_of_covers 2 _ (by decide +kernel) fun t _ y => ?_
  have ht : t.val < 48 := lt_of_lt_of_eq t.isLt Gen.N_3
  have h := (by decide +kernel : ∀ t : Fin grid3.N, win3_0.index t = ![t.val / 3, 0] ∧ win3_1.index t = ![3, t.val % 3, 0] ∧ win3_2.index t = ![t.val / 3, t.val % 3]) t
  obtain ⟨r, d, rfl⟩ : ∃ (r : Fin 512) (d : Fin 1024), y = ix2 r d := ⟨y 0, y 1, ValueIdx.eq_ix2 y⟩
  have e : (win3_2.blk t).view.emb (ix2 r d) = ix2 ⟨512 * (t.val / 3) + r.val, by omega⟩ ⟨1024 * (t.val % 3) + d.val, by omega⟩ := by
    blk_ext [h]
  blk_simp
  rw [e, after3_2]
  refine (out_at _ _ r d).trans (Finset.sum_congr rfl fun k _ => congrArg₂ (· * ·) ?_ ?_) <;>
  · dsimp only [ix2, ix3]
    blk_ext! [iblk3, h]

variable (m : (ℓ : Loc nD τ sig) → Buf (Elt Ideal) ℓ) (ρ : Dev nD → PrngReg)

/-- The first launch's result is in memory at the end. -/
theorem result0 : W4 m ρ c (Proc.devRef .tc main_v0) = Tiles.nt (m ((c : Thread nD τ).loc main_arg0)) (layer 0 (m ((c : Thread nD τ).loc main_arg4))) :=
  (((W4_of m ρ c main_v0 (by decide)).trans ((W3_of m ρ c main_v0 (by decide)).trans ((W2_of m ρ c main_v0 (by decide)).trans (W1_arr m ρ c 2)))).trans (final0 (V0 m ρ) c)).trans (by
    show Tiles.nt (W0 m ρ c (Proc.devRef .tc main_arg0)) (layer 0 (W0 m ρ c (Proc.devRef .tc main_arg4))) = _
    rw [W0_args m ρ c main_arg0 (by decide), W0_args m ρ c main_arg4 (by decide)])

/-- The second launch's result is in memory at the end. -/
theorem result1 : W4 m ρ c (Proc.devRef .tc main_v1) = Tiles.nt (m ((c : Thread nD τ).loc main_arg1)) (layer 1 (m ((c : Thread nD τ).loc main_arg4))) :=
  (((W4_of m ρ c main_v1 (by decide)).trans ((W3_of m ρ c main_v1 (by decide)).trans (W2_arr m ρ c 2))).trans (final1 (V1 m ρ) c)).trans (by
    show Tiles.nt (W1 m ρ c (Proc.devRef .tc main_arg1)) (layer 1 (W1 m ρ c (Proc.devRef .tc main_arg4))) = _
    rw [W1_args m ρ c main_arg1 (by decide), W1_args m ρ c main_arg4 (by decide)])

/-- The third launch's result is in memory at the end. -/
theorem result2 : W4 m ρ c (Proc.devRef .tc main_v2) = Tiles.nt (m ((c : Thread nD τ).loc main_arg2)) (layer 2 (m ((c : Thread nD τ).loc main_arg4))) :=
  (((W4_of m ρ c main_v2 (by decide)).trans (W3_arr m ρ c 2)).trans (final2 (V2 m ρ) c)).trans (by
    show Tiles.nt (W2 m ρ c (Proc.devRef .tc main_arg2)) (layer 2 (W2 m ρ c (Proc.devRef .tc main_arg4))) = _
    rw [W2_args m ρ c main_arg2 (by decide), W2_args m ρ c main_arg4 (by decide)])

/-- The fourth launch's result is in memory at the end. -/
theorem result3 : W4 m ρ c (Proc.devRef .tc main_v3) = Tiles.nt (m ((c : Thread nD τ).loc main_arg3)) (layer 3 (m ((c : Thread nD τ).loc main_arg4))) :=
  ((W4_arr m ρ c 2).trans (final3 (V3 m ρ) c)).trans (by
    show Tiles.nt (W3 m ρ c (Proc.devRef .tc main_arg3)) (layer 3 (W3 m ρ c (Proc.devRef .tc main_arg4))) = _
    rw [W3_args m ρ c main_arg3 (by decide), W3_args m ρ c main_arg4 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nt (m ((c : Thread nD τ).loc main_arg0)) (layer 0 (m ((c : Thread nD τ).loc main_arg4)))
      ∧ r.2.mem ((c : Thread nD τ).loc main_v1) = Tiles.nt (m ((c : Thread nD τ).loc main_arg1)) (layer 1 (m ((c : Thread nD τ).loc main_arg4)))
      ∧ r.2.mem ((c : Thread nD τ).loc main_v2) = Tiles.nt (m ((c : Thread nD τ).loc main_arg2)) (layer 2 (m ((c : Thread nD τ).loc main_arg4)))
      ∧ r.2.mem ((c : Thread nD τ).loc main_v3) = Tiles.nt (m ((c : Thread nD τ).loc main_arg3)) (layer 3 (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => ⟨
      (h c _ (mem_uc main_v0 (by decide))).trans (result0 c m ρ),
      (h c _ (mem_uc main_v1 (by decide))).trans (result1 c m ρ),
      (h c _ (mem_uc main_v2 (by decide))).trans (result2 c m ρ),
      (h c _ (mem_uc main_v3 (by decide))).trans (result3 c m ρ),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W4 m ρ)
      ⟨fun _ => .rfl, fun _ => .rfl, fun _ => .rfl, fun _ => .rfl, fun _ => .rfl⟩)

end

section

open Cert.ReferenceFfnOutDxIdeal Cert.ReferenceFfnOutDxIdeal.Read

/-- The reference's first result. -/
theorem reference0 (x : Tiles.Mat 8192 1024) (w : (⟨3, ![4, 3072, 1024]⟩ : Shape).Idx → EReal) : val_main_v6 (F := Ideal) x w = Tiles.nt x (layer 0 w) := by
  funext i
  rw [val_main_v6_apply]
  exact Finset.sum_congr rfl fun k _ => congrArg₂ (· * ·) (congrArg x (ValueIdx.eq_ix2 _)) (congrFun (Launches.layer_eq 0 w Gen.slices_S4x3072x1024_S1x3072x1024_0_0_0 Gen.shapeCasts_S1x3072x1024_S3072x1024) _)

/-- The reference's second result. -/
theorem reference1 (x : Tiles.Mat 8192 1024) (w : (⟨3, ![4, 3072, 1024]⟩ : Shape).Idx → EReal) : val_main_v12 (F := Ideal) x w = Tiles.nt x (layer 1 w) := by
  funext i
  rw [val_main_v12_apply]
  exact Finset.sum_congr rfl fun k _ => congrArg₂ (· * ·) (congrArg x (ValueIdx.eq_ix2 _)) (congrFun (Launches.layer_eq 1 w Gen.slices_S4x3072x1024_S1x3072x1024_1_0_0 Gen.shapeCasts_S1x3072x1024_S3072x1024) _)

/-- The reference's third result. -/
theorem reference2 (x : Tiles.Mat 8192 1024) (w : (⟨3, ![4, 3072, 1024]⟩ : Shape).Idx → EReal) : val_main_v18 (F := Ideal) x w = Tiles.nt x (layer 2 w) := by
  funext i
  rw [val_main_v18_apply]
  exact Finset.sum_congr rfl fun k _ => congrArg₂ (· * ·) (congrArg x (ValueIdx.eq_ix2 _)) (congrFun (Launches.layer_eq 2 w Gen.slices_S4x3072x1024_S1x3072x1024_2_0_0 Gen.shapeCasts_S1x3072x1024_S3072x1024) _)

/-- The reference's fourth result. -/
theorem reference3 (x : Tiles.Mat 8192 1024) (w : (⟨3, ![4, 3072, 1024]⟩ : Shape).Idx → EReal) : val_main_v24 (F := Ideal) x w = Tiles.nt x (layer 3 w) := by
  funext i
  rw [val_main_v24_apply]
  exact Finset.sum_congr rfl fun k _ => congrArg₂ (· * ·) (congrArg x (ValueIdx.eq_ix2 _)) (congrFun (Launches.layer_eq 3 w Gen.slices_S4x3072x1024_S1x3072x1024_3_0_0 Gen.shapeCasts_S1x3072x1024_S3072x1024) _)

end

/-- The reference runs, keeps its arguments and ends with its counters at zero. -/
theorem frame_reference : Cert.quiescent_ReferenceFfnOutDxIdeal := fun m ρ _ =>
  (θ_run _ _ _).mono (fun r h => ⟨fun c => (h c).2.2.2.2, sem_eq_zero_of_no_sems (by decide) r.2⟩) (Cert.ReferenceFfnOutDxIdeal.Value.run m ρ)

/-- Kernel and reference end with the same products. -/
theorem algebraic : Cert.algebraic_KernelFfnOutDxIdeal_ReferenceFfnOutDxIdeal := by
  intro m ρ m' ρ' _ hagree
  refine ⟨_, _, _, _, kernel m ρ, (θ_run _ _ _).mono (fun r h c => ?_) (Cert.ReferenceFfnOutDxIdeal.Value.run m' ρ')⟩
  obtain ⟨a0, a1, a2, a3, a4⟩ := hagree c
  exact ⟨(h c).1.trans (((Cert.ReferenceFfnOutDxIdeal.Read.val_main_v6_eq _ _).symm.trans (reference0 _ _)).trans (by rw [a0, a4])),
    (h c).2.1.trans (((Cert.ReferenceFfnOutDxIdeal.Read.val_main_v12_eq _ _).symm.trans (reference1 _ _)).trans (by rw [a1, a4])),
    (h c).2.2.1.trans (((Cert.ReferenceFfnOutDxIdeal.Read.val_main_v18_eq _ _).symm.trans (reference2 _ _)).trans (by rw [a2, a4])),
    (h c).2.2.2.1.trans (((Cert.ReferenceFfnOutDxIdeal.Read.val_main_v24_eq _ _).symm.trans (reference3 _ _)).trans (by rw [a3, a4])),
    (h c).2.2.2.2⟩

end FfnOutDx

end
-- ==== Proof.QkvProj.lean ====
module

public import proofs.«01_k».proof.Defs
public import proofs.«01_k».proof.Proof.FfnOutDx
public import proofs.«01_k».proof.Proof.Gen.KernelQkvProjIdeal.Frame
public import proofs.«01_k».proof.Proof.Gen.ReferenceQkvProjIdeal.Read
public import proofs.«01_k».proof.Proof.Gen.ReferenceQkvProjIdeal.Run
public import Idealize.ShloMosaic.Lib.Quiescent
public import Idealize.ShloMosaic.Lib.Pipeline.ValueKit.Point
public import Idealize.ShloMosaic.Lib.Pointwise

@[expose] public section

set_option maxRecDepth 16384

/-! The attention's queries, keys and values, transposed, in its two layers. -/

noncomputable section

namespace QkvProj

open Idealize.ShloMosaic Idealize.ShloMosaic.TcCoe Idealize.SL.Sem
open Launches (layer corner3 plus)

section

open Cert.KernelQkvProjIdeal Cert.KernelQkvProjIdeal.Gen

/-- What a launch writes to a block of its result: the product of its two blocks. -/
theorem out_at (x : Vec Ideal S1x512x1024 .bf16) (y : Vec Ideal S1024x1024 .f32) (r : Fin 512) (d : Fin 1024) :
    out0_2 x y (ix2 r d) = ∑ k : Fin 1024, x (ix3 0 r k) * y (ix2 d k) := by
  unfold out0_2
  rw [View.canon_unit_zero Tiles.corner, View.ld_unit_zero (S := S1x512x1024) corner3, View.ld_unit_zero (S := S1024x1024) Tiles.corner]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nt (layer 0 (V c main_arg2)) (V c main_arg0) := by
  refine (dat0 V c).arrAt_eq_of_covers 2 _ (by decide +kernel) fun t _ y => ?_
  have ht : t.val < 48 := lt_of_lt_of_eq t.isLt Gen.N_0
  have h := (by decide +kernel : ∀ t : Fin grid0.N, win0_0.index t = ![0, t.val / 8, 0] ∧ win0_1.index t = ![t.val % 8, 0] ∧ win0_2.index t = ![t.val / 8, t.val % 8]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 8) + r.val, by omega⟩ ⟨1024 * (t.val % 8) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nt (layer 1 (V c main_arg2)) (V c main_arg1) := by
  refine (dat1 V c).arrAt_eq_of_covers 2 _ (by decide +kernel) fun t _ y => ?_
  have ht : t.val < 48 := lt_of_lt_of_eq t.isLt Gen.N_1
  have h := (by decide +kernel : ∀ t : Fin grid1.N, win1_0.index t = ![1, t.val / 8, 0] ∧ win1_1.index t = ![t.val % 8, 0] ∧ win1_2.index t = ![t.val / 8, t.val % 8]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 8) + r.val, by omega⟩ ⟨1024 * (t.val % 8) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

variable (m : (ℓ : Loc nD τ sig) → Buf (Elt Ideal) ℓ) (ρ : Dev nD → PrngReg)

/-- The first launch's result is in memory at the end. -/
theorem result0 : W2 m ρ c (Proc.devRef .tc main_v0) = Tiles.nt (layer 0 (m ((c : Thread nD τ).loc main_arg2))) (m ((c : Thread nD τ).loc main_arg0)) :=
  (((W2_of m ρ c main_v0 (by decide)).trans (W1_arr m ρ c 2)).trans (final0 (V0 m ρ) c)).trans (by
    show Tiles.nt (layer 0 (W0 m ρ c (Proc.devRef .tc main_arg2))) (W0 m ρ c (Proc.devRef .tc main_arg0)) = _
    rw [W0_args m ρ c main_arg0 (by decide), W0_args m ρ c main_arg2 (by decide)])

/-- The second launch's result is in memory at the end. -/
theorem result1 : W2 m ρ c (Proc.devRef .tc main_v1) = Tiles.nt (layer 1 (m ((c : Thread nD τ).loc main_arg2))) (m ((c : Thread nD τ).loc main_arg1)) :=
  ((W2_arr m ρ c 2).trans (final1 (V1 m ρ) c)).trans (by
    show Tiles.nt (layer 1 (W1 m ρ c (Proc.devRef .tc main_arg2))) (W1 m ρ c (Proc.devRef .tc main_arg1)) = _
    rw [W1_args m ρ c main_arg1 (by decide), W1_args m ρ c main_arg2 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nt (layer 0 (m ((c : Thread nD τ).loc main_arg2))) (m ((c : Thread nD τ).loc main_arg0))
      ∧ r.2.mem ((c : Thread nD τ).loc main_v1) = Tiles.nt (layer 1 (m ((c : Thread nD τ).loc main_arg2))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => ⟨
      (h c _ (mem_uc main_v0 (by decide))).trans (result0 c m ρ),
      (h c _ (mem_uc main_v1 (by decide))).trans (result1 c m ρ),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W2 m ρ)
      ⟨fun _ => .rfl, fun _ => .rfl, fun _ => .rfl⟩)

end

section

open Cert.ReferenceQkvProjIdeal Cert.ReferenceQkvProjIdeal.Read

/-- The reference's first result. -/
theorem reference0 (x : Tiles.Mat 8192 1024) (w : (⟨3, ![2, 3072, 1024]⟩ : Shape).Idx → EReal) : val_main_v6 (F := Ideal) x w = Tiles.nt (layer 0 w) x := by
  funext i
  rw [val_main_v6_apply, val_main_v5_apply, val_main_v4_apply]
  refine Finset.sum_congr rfl fun k _ => (mul_comm _ _).trans (congrArg₂ (· * ·) ?_ (congrArg x (ValueIdx.eq_ix2 _)))
  rw [val_main_v3_apply, val_main_v2_apply]
  exact congrFun (Launches.layer_eq 0 w Gen.slices_S2x3072x1024_S1x3072x1024_0_0_0 Gen.shapeCasts_S1x3072x1024_S3072x1024) _

/-- The reference's second result. -/
theorem reference1 (x : Tiles.Mat 8192 1024) (w : (⟨3, ![2, 3072, 1024]⟩ : Shape).Idx → EReal) : val_main_v13 (F := Ideal) x w = Tiles.nt (layer 1 w) x := by
  funext i
  rw [val_main_v13_apply, val_main_v12_apply, val_main_v11_apply]
  refine Finset.sum_congr rfl fun k _ => (mul_comm _ _).trans (congrArg₂ (· * ·) ?_ (congrArg x (ValueIdx.eq_ix2 _)))
  rw [val_main_v10_apply, val_main_v9_apply]
  exact congrFun (Launches.layer_eq 1 w Gen.slices_S2x3072x1024_S1x3072x1024_1_0_0 Gen.shapeCasts_S1x3072x1024_S3072x1024) _

end

/-- The reference runs, keeps its arguments and ends with its counters at zero. -/
theorem frame_reference : Cert.quiescent_ReferenceQkvProjIdeal := fun m ρ _ =>
  (θ_run _ _ _).mono (fun r h => ⟨fun c => (h c).2.2, sem_eq_zero_of_no_sems (by decide) r.2⟩) (Cert.ReferenceQkvProjIdeal.Value.run m ρ)

/-- Kernel and reference end with the same products. -/
theorem algebraic : Cert.algebraic_KernelQkvProjIdeal_ReferenceQkvProjIdeal := by
  intro m ρ m' ρ' _ hagree
  refine ⟨_, _, kernel m ρ, (θ_run _ _ _).mono (fun r h c => ?_) (Cert.ReferenceQkvProjIdeal.Value.run m' ρ')⟩
  obtain ⟨a0, a1, a2⟩ := hagree c
  exact ⟨(h c).1.trans (((Cert.ReferenceQkvProjIdeal.Read.val_main_v6_eq _ _).symm.trans (reference0 _ _)).trans (by rw [a0, a2])),
    (h c).2.1.trans (((Cert.ReferenceQkvProjIdeal.Read.val_main_v13_eq _ _).symm.trans (reference1 _ _)).trans (by rw [a1, a2])),
    (h c).2.2⟩

end QkvProj

end
-- ==== Proof.InProj.lean ====
module

public import proofs.«01_k».proof.Defs
public import proofs.«01_k».proof.Proof.QkvProj
public import proofs.«01_k».proof.Proof.Gen.KernelInProjIdeal.Frame
public import proofs.«01_k».proof.Proof.Gen.ReferenceInProjIdeal.Read
public import proofs.«01_k».proof.Proof.Gen.ReferenceInProjIdeal.Run
public import Idealize.ShloMosaic.Lib.Quiescent
public import Idealize.ShloMosaic.Lib.Pipeline.ValueKit.Point
public import Idealize.ShloMosaic.Lib.Pointwise

@[expose] public section

set_option maxRecDepth 16384

/-! The first mixer's input product, in its two layers. -/

noncomputable section

namespace InProj

open Idealize.ShloMosaic Idealize.ShloMosaic.TcCoe Idealize.SL.Sem
open Launches (layer corner3 plus)

section

open Cert.KernelInProjIdeal Cert.KernelInProjIdeal.Gen

/-- What a launch writes to a block of its result: the product of its two blocks. -/
theorem out_at (x : Vec Ideal S512x1024 .f32) (y : Vec Ideal S1x1024x1024 .bf16) (r : Fin 512) (d : Fin 1024) :
    out0_2 x y (ix2 r d) = ∑ k : Fin 1024, x (ix2 r k) * y (ix3 0 k d) := by
  unfold out0_2
  rw [View.canon_unit_zero Tiles.corner, View.ld_unit_zero (S := S512x1024) Tiles.corner, View.ld_unit_zero (S := S1x1024x1024) corner3]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nn (V c main_arg0) (layer 0 (V c main_arg2)) := by
  refine (dat0 V c).arrAt_eq_of_covers 2 _ (by decide +kernel) fun t _ y => ?_
  have ht : t.val < 32 := lt_of_lt_of_eq t.isLt Gen.N_0
  have h := (by decide +kernel : ∀ t : Fin grid0.N, win0_0.index t = ![t.val / 2, 0] ∧ win0_1.index t = ![0, 0, t.val % 2] ∧ win0_2.index t = ![t.val / 2, t.val % 2]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 2) + r.val, by omega⟩ ⟨1024 * (t.val % 2) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nn (V c main_arg1) (layer 1 (V c main_arg2)) := by
  refine (dat1 V c).arrAt_eq_of_covers 2 _ (by decide +kernel) fun t _ y => ?_
  have ht : t.val < 32 := lt_of_lt_of_eq t.isLt Gen.N_1
  have h := (by decide +kernel : ∀ t : Fin grid1.N, win1_0.index t = ![t.val / 2, 0] ∧ win1_1.index t = ![1, 0, t.val % 2] ∧ win1_2.index t = ![t.val / 2, t.val % 2]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 2) + r.val, by omega⟩ ⟨1024 * (t.val % 2) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

variable (m : (ℓ : Loc nD τ sig) → Buf (Elt Ideal) ℓ) (ρ : Dev nD → PrngReg)

/-- The first launch's result is in memory at the end. -/
theorem result0 : W2 m ρ c (Proc.devRef .tc main_v0) = Tiles.nn (m ((c : Thread nD τ).loc main_arg0)) (layer 0 (m ((c : Thread nD τ).loc main_arg2))) :=
  (((W2_of m ρ c main_v0 (by decide)).trans (W1_arr m ρ c 2)).trans (final0 (V0 m ρ) c)).trans (by
    show Tiles.nn (W0 m ρ c (Proc.devRef .tc main_arg0)) (layer 0 (W0 m ρ c (Proc.devRef .tc main_arg2))) = _
    rw [W0_args m ρ c main_arg0 (by decide), W0_args m ρ c main_arg2 (by decide)])

/-- The second launch's result is in memory at the end. -/
theorem result1 : W2 m ρ c (Proc.devRef .tc main_v1) = Tiles.nn (m ((c : Thread nD τ).loc main_arg1)) (layer 1 (m ((c : Thread nD τ).loc main_arg2))) :=
  ((W2_arr m ρ c 2).trans (final1 (V1 m ρ) c)).trans (by
    show Tiles.nn (W1 m ρ c (Proc.devRef .tc main_arg1)) (layer 1 (W1 m ρ c (Proc.devRef .tc main_arg2))) = _
    rw [W1_args m ρ c main_arg1 (by decide), W1_args m ρ c main_arg2 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nn (m ((c : Thread nD τ).loc main_arg0)) (layer 0 (m ((c : Thread nD τ).loc main_arg2)))
      ∧ r.2.mem ((c : Thread nD τ).loc main_v1) = Tiles.nn (m ((c : Thread nD τ).loc main_arg1)) (layer 1 (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => ⟨
      (h c _ (mem_uc main_v0 (by decide))).trans (result0 c m ρ),
      (h c _ (mem_uc main_v1 (by decide))).trans (result1 c m ρ),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W2 m ρ)
      ⟨fun _ => .rfl, fun _ => .rfl, fun _ => .rfl⟩)

end

section

open Cert.ReferenceInProjIdeal Cert.ReferenceInProjIdeal.Read

/-- The reference's first result. -/
theorem reference0 (x : Tiles.Mat 8192 1024) (w : (⟨3, ![2, 1024, 2048]⟩ : Shape).Idx → EReal) : val_main_v3 (F := Ideal) x w = Tiles.nn x (layer 0 w) := by
  funext i
  rw [val_main_v3_apply]
  exact Finset.sum_congr rfl fun k _ => congrArg₂ (· * ·) (congrArg x (ValueIdx.eq_ix2 _)) (congrFun (Launches.layer_eq 0 w Gen.slices_S2x1024x2048_S1x1024x2048_0_0_0 Gen.shapeCasts_S1x1024x2048_S1024x2048) _)

/-- The reference's second result. -/
theorem reference1 (x : Tiles.Mat 8192 1024) (w : (⟨3, ![2, 1024, 2048]⟩ : Shape).Idx → EReal) : val_main_v7 (F := Ideal) x w = Tiles.nn x (layer 1 w) := by
  funext i
  rw [val_main_v7_apply]
  exact Finset.sum_congr rfl fun k _ => congrArg₂ (· * ·) (congrArg x (ValueIdx.eq_ix2 _)) (congrFun (Launches.layer_eq 1 w Gen.slices_S2x1024x2048_S1x1024x2048_1_0_0 Gen.shapeCasts_S1x1024x2048_S1024x2048) _)

end

/-- The reference runs, keeps its arguments and ends with its counters at zero. -/
theorem frame_reference : Cert.quiescent_ReferenceInProjIdeal := fun m ρ _ =>
  (θ_run _ _ _).mono (fun r h => ⟨fun c => (h c).2.2, sem_eq_zero_of_no_sems (by decide) r.2⟩) (Cert.ReferenceInProjIdeal.Value.run m ρ)

/-- Kernel and reference end with the same products. -/
theorem algebraic : Cert.algebraic_KernelInProjIdeal_ReferenceInProjIdeal := by
  intro m ρ m' ρ' _ hagree
  refine ⟨_, _, kernel m ρ, (θ_run _ _ _).mono (fun r h c => ?_) (Cert.ReferenceInProjIdeal.Value.run m' ρ')⟩
  obtain ⟨a0, a1, a2⟩ := hagree c
  exact ⟨(h c).1.trans (((Cert.ReferenceInProjIdeal.Read.val_main_v3_eq _ _).symm.trans (reference0 _ _)).trans (by rw [a0, a2])),
    (h c).2.1.trans (((Cert.ReferenceInProjIdeal.Read.val_main_v7_eq _ _).symm.trans (reference1 _ _)).trans (by rw [a1, a2])),
    (h c).2.2⟩

end InProj

end
-- ==== Proof.MemQ.lean ====
module

public import proofs.«01_k».proof.Defs
public import proofs.«01_k».proof.Proof.InProj
public import proofs.«01_k».proof.Proof.Gen.KernelMemQIdeal.Frame
public import proofs.«01_k».proof.Proof.Gen.ReferenceMemQIdeal.Read
public import proofs.«01_k».proof.Proof.Gen.ReferenceMemQIdeal.Run
public import Idealize.ShloMosaic.Lib.Quiescent
public import Idealize.ShloMosaic.Lib.Pipeline.ValueKit.Point
public import Idealize.ShloMosaic.Lib.Pointwise

@[expose] public section

set_option maxRecDepth 16384

/-! The memory attention's queries, in the four layers. -/

noncomputable section

namespace MemQ

open Idealize.ShloMosaic Idealize.ShloMosaic.TcCoe Idealize.SL.Sem
open Launches (layer corner3 plus)

section

open Cert.KernelMemQIdeal Cert.KernelMemQIdeal.Gen

/-- What a launch writes to a block of its result: the product of its two blocks. -/
theorem out_at (x : Vec Ideal S512x1024 .f32) (y : Vec Ideal S1x1024x1024 .bf16) (r : Fin 512) (d : Fin 1024) :
    out0_2 x y (ix2 r d) = ∑ k : Fin 1024, x (ix2 r k) * y (ix3 0 k d) := by
  unfold out0_2
  rw [View.canon_unit_zero Tiles.corner, View.ld_unit_zero (S := S512x1024) Tiles.corner, View.ld_unit_zero (S := S1x1024x1024) corner3]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nn (V c main_arg0) (layer 0 (V c main_arg4)) := by
  refine (dat0 V c).arrAt_eq_of_covers 2 _ (by decide +kernel) fun t _ y => ?_
  have ht : t.val < 16 := lt_of_lt_of_eq t.isLt Gen.N_0
  have h := (by decide +kernel : ∀ t : Fin grid0.N, win0_0.index t = ![t.val / 1, 0] ∧ win0_1.index t = ![0, 0, t.val % 1] ∧ win0_2.index t = ![t.val / 1, t.val % 1]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 1) + r.val, by omega⟩ ⟨1024 * (t.val % 1) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nn (V c main_arg1) (layer 1 (V c main_arg4)) := by
  refine (dat1 V c).arrAt_eq_of_covers 2 _ (by decide +kernel) fun t _ y => ?_
  have ht : t.val < 16 := lt_of_lt_of_eq t.isLt Gen.N_1
  have h := (by decide +kernel : ∀ t : Fin grid1.N, win1_0.index t = ![t.val / 1, 0] ∧ win1_1.index t = ![1, 0, t.val % 1] ∧ win1_2.index t = ![t.val / 1, t.val % 1]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 1) + r.val, by omega⟩ ⟨1024 * (t.val % 1) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

/-- The third launch's result. -/
theorem final2 : (dat2 V c).arrAt 2 cfg2.N = Tiles.nn (V c main_arg2) (layer 2 (V c main_arg4)) := by
  refine (dat2 V c).arrAt_eq_of_covers 2 _ (by decide +kernel) fun t _ y => ?_
  have ht : t.val < 16 := lt_of_lt_of_eq t.isLt Gen.N_2
  have h := (by decide +kernel : ∀ t : Fin grid2.N, win2_0.index t = ![t.val / 1, 0] ∧ win2_1.index t = ![2, 0, t.val % 1] ∧ win2_2.index t = ![t.val / 1, t.val % 1]) t
  obtain ⟨r, d, rfl⟩ : ∃ (r : Fin 512) (d : Fin 1024), y = ix2 r d := ⟨y 0, y 1, ValueIdx.eq_ix2 y⟩
  have e : (win2_2.blk t).view.emb (ix2 r d) = ix2 ⟨512 * (t.val / 1) + r.val, by omega⟩ ⟨1024 * (t.val % 1) + d.val, by omega⟩ := by
    blk_ext [h]
  blk_simp
  rw [e, after2_2]
  refine (out_at _ _ r d).trans (Finset.sum_congr rfl fun k _ => congrArg₂ (· * ·) ?_ ?_) <;>
  · dsimp only [ix2, ix3]
    blk_ext! [iblk2, h]

/-- The fourth launch's result. -/
theorem final3 : (dat3 V c).arrAt 2 cfg3.N = Tiles.nn (V c main_arg3) (layer 3 (V c main_arg4)) := by
  refine (dat3 V c).arrAt_eq_of_covers 2 _ (by decide +kernel) fun t _ y => ?_
  have ht : t.val < 16 := lt_of_lt_of_eq t.isLt Gen.N_3
  have h := (by decide +kernel : ∀ t : Fin grid3.N, win3_0.index t = ![t.val / 1, 0] ∧ win3_1.index t = ![3, 0, t.val % 1] ∧ win3_2.index t = ![t.val / 1, t.val % 1]) t
  obtain ⟨r, d, rfl⟩ : ∃ (r : Fin 512) (d : Fin 1024), y = ix2 r d := ⟨y 0, y 1, ValueIdx.eq_ix2 y⟩
  have e : (win3_2.blk t).view.emb (ix2 r d) = ix2 ⟨512 * (t.val / 1) + r.val, by omega⟩ ⟨1024 * (t.val % 1) + d.val, by omega⟩ := by
    blk_ext [h]
  blk_simp
  rw [e, after3_2]
  refine (out_at _ _ r d).trans (Finset.sum_congr rfl fun k _ => congrArg₂ (· * ·) ?_ ?_) <;>
  · dsimp only [ix2, ix3]
    blk_ext! [iblk3, h]

variable (m : (ℓ : Loc nD τ sig) → Buf (Elt Ideal) ℓ) (ρ : Dev nD → PrngReg)

/-- The first launch's result is in memory at the end. -/
theorem result0 : W4 m ρ c (Proc.devRef .tc main_v0) = Tiles.nn (m ((c : Thread nD τ).loc main_arg0)) (layer 0 (m ((c : Thread nD τ).loc main_arg4))) :=
  (((W4_of m ρ c main_v0 (by decide)).trans ((W3_of m ρ c main_v0 (by decide)).trans ((W2_of m ρ c main_v0 (by decide)).trans (W1_arr m ρ c 2)))).trans (final0 (V0 m ρ) c)).trans (by
    show Tiles.nn (W0 m ρ c (Proc.devRef .tc main_arg0)) (layer 0 (W0 m ρ c (Proc.devRef .tc main_arg4))) = _
    rw [W0_args m ρ c main_arg0 (by decide), W0_args m ρ c main_arg4 (by decide)])

/-- The second launch's result is in memory at the end. -/
theorem result1 : W4 m ρ c (Proc.devRef .tc main_v1) = Tiles.nn (m ((c : Thread nD τ).loc main_arg1)) (layer 1 (m ((c : Thread nD τ).loc main_arg4))) :=
  (((W4_of m ρ c main_v1 (by decide)).trans ((W3_of m ρ c main_v1 (by decide)).trans (W2_arr m ρ c 2))).trans (final1 (V1 m ρ) c)).trans (by
    show Tiles.nn (W1 m ρ c (Proc.devRef .tc main_arg1)) (layer 1 (W1 m ρ c (Proc.devRef .tc main_arg4))) = _
    rw [W1_args m ρ c main_arg1 (by decide), W1_args m ρ c main_arg4 (by decide)])

/-- The third launch's result is in memory at the end. -/
theorem result2 : W4 m ρ c (Proc.devRef .tc main_v2) = Tiles.nn (m ((c : Thread nD τ).loc main_arg2)) (layer 2 (m ((c : Thread nD τ).loc main_arg4))) :=
  (((W4_of m ρ c main_v2 (by decide)).trans (W3_arr m ρ c 2)).trans (final2 (V2 m ρ) c)).trans (by
    show Tiles.nn (W2 m ρ c (Proc.devRef .tc main_arg2)) (layer 2 (W2 m ρ c (Proc.devRef .tc main_arg4))) = _
    rw [W2_args m ρ c main_arg2 (by decide), W2_args m ρ c main_arg4 (by decide)])

/-- The fourth launch's result is in memory at the end. -/
theorem result3 : W4 m ρ c (Proc.devRef .tc main_v3) = Tiles.nn (m ((c : Thread nD τ).loc main_arg3)) (layer 3 (m ((c : Thread nD τ).loc main_arg4))) :=
  ((W4_arr m ρ c 2).trans (final3 (V3 m ρ) c)).trans (by
    show Tiles.nn (W3 m ρ c (Proc.devRef .tc main_arg3)) (layer 3 (W3 m ρ c (Proc.devRef .tc main_arg4))) = _
    rw [W3_args m ρ c main_arg3 (by decide), W3_args m ρ c main_arg4 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nn (m ((c : Thread nD τ).loc main_arg0)) (layer 0 (m ((c : Thread nD τ).loc main_arg4)))
      ∧ r.2.mem ((c : Thread nD τ).loc main_v1) = Tiles.nn (m ((c : Thread nD τ).loc main_arg1)) (layer 1 (m ((c : Thread nD τ).loc main_arg4)))
      ∧ r.2.mem ((c : Thread nD τ).loc main_v2) = Tiles.nn (m ((c : Thread nD τ).loc main_arg2)) (layer 2 (m ((c : Thread nD τ).loc main_arg4)))
      ∧ r.2.mem ((c : Thread nD τ).loc main_v3) = Tiles.nn (m ((c : Thread nD τ).loc main_arg3)) (layer 3 (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => ⟨
      (h c _ (mem_uc main_v0 (by decide))).trans (result0 c m ρ),
      (h c _ (mem_uc main_v1 (by decide))).trans (result1 c m ρ),
      (h c _ (mem_uc main_v2 (by decide))).trans (result2 c m ρ),
      (h c _ (mem_uc main_v3 (by decide))).trans (result3 c m ρ),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W4 m ρ)
      ⟨fun _ => .rfl, fun _ => .rfl, fun _ => .rfl, fun _ => .rfl, fun _ => .rfl⟩)

end

section

open Cert.ReferenceMemQIdeal Cert.ReferenceMemQIdeal.Read

/-- The reference's first result. -/
theorem reference0 (x : Tiles.Mat 8192 1024) (w : (⟨3, ![4, 1024, 1024]⟩ : Shape).Idx → EReal) : val_main_v4 (F := Ideal) x w = Tiles.nn x (layer 0 w) := by
  funext i
  rw [val_main_v4_apply, val_main_v3_apply]
  exact Finset.sum_congr rfl fun k _ => congrArg₂ (· * ·) (congrArg x (ValueIdx.eq_ix2 _)) (congrFun (Launches.layer_eq 0 w Gen.slices_S4x1024x1024_S1x1024x1024_0_0_0 Gen.shapeCasts_S1x1024x1024_S1024x1024) _)

/-- The reference's second result. -/
theorem reference1 (x : Tiles.Mat 8192 1024) (w : (⟨3, ![4, 1024, 1024]⟩ : Shape).Idx → EReal) : val_main_v9 (F := Ideal) x w = Tiles.nn x (layer 1 w) := by
  funext i
  rw [val_main_v9_apply, val_main_v8_apply]
  exact Finset.sum_congr rfl fun k _ => congrArg₂ (· * ·) (congrArg x (ValueIdx.eq_ix2 _)) (congrFun (Launches.layer_eq 1 w Gen.slices_S4x1024x1024_S1x1024x1024_1_0_0 Gen.shapeCasts_S1x1024x1024_S1024x1024) _)

/-- The reference's third result. -/
theorem reference2 (x : Tiles.Mat 8192 1024) (w : (⟨3, ![4, 1024, 1024]⟩ : Shape).Idx → EReal) : val_main_v14 (F := Ideal) x w = Tiles.nn x (layer 2 w) := by
  funext i
  rw [val_main_v14_apply, val_main_v13_apply]
  exact Finset.sum_congr rfl fun k _ => congrArg₂ (· * ·) (congrArg x (ValueIdx.eq_ix2 _)) (congrFun (Launches.layer_eq 2 w Gen.slices_S4x1024x1024_S1x1024x1024_2_0_0 Gen.shapeCasts_S1x1024x1024_S1024x1024) _)

/-- The reference's fourth result. -/
theorem reference3 (x : Tiles.Mat 8192 1024) (w : (⟨3, ![4, 1024, 1024]⟩ : Shape).Idx → EReal) : val_main_v19 (F := Ideal) x w = Tiles.nn x (layer 3 w) := by
  funext i
  rw [val_main_v19_apply, val_main_v18_apply]
  exact Finset.sum_congr rfl fun k _ => congrArg₂ (· * ·) (congrArg x (ValueIdx.eq_ix2 _)) (congrFun (Launches.layer_eq 3 w Gen.slices_S4x1024x1024_S1x1024x1024_3_0_0 Gen.shapeCasts_S1x1024x1024_S1024x1024) _)

end

/-- The reference runs, keeps its arguments and ends with its counters at zero. -/
theorem frame_reference : Cert.quiescent_ReferenceMemQIdeal := fun m ρ _ =>
  (θ_run _ _ _).mono (fun r h => ⟨fun c => (h c).2.2.2.2, sem_eq_zero_of_no_sems (by decide) r.2⟩) (Cert.ReferenceMemQIdeal.Value.run m ρ)

/-- Kernel and reference end with the same products. -/
theorem algebraic : Cert.algebraic_KernelMemQIdeal_ReferenceMemQIdeal := by
  intro m ρ m' ρ' _ hagree
  refine ⟨_, _, _, _, kernel m ρ, (θ_run _ _ _).mono (fun r h c => ?_) (Cert.ReferenceMemQIdeal.Value.run m' ρ')⟩
  obtain ⟨a0, a1, a2, a3, a4⟩ := hagree c
  exact ⟨(h c).1.trans (((Cert.ReferenceMemQIdeal.Read.val_main_v4_eq _ _).symm.trans (reference0 _ _)).trans (by rw [a0, a4])),
    (h c).2.1.trans (((Cert.ReferenceMemQIdeal.Read.val_main_v9_eq _ _).symm.trans (reference1 _ _)).trans (by rw [a1, a4])),
    (h c).2.2.1.trans (((Cert.ReferenceMemQIdeal.Read.val_main_v14_eq _ _).symm.trans (reference2 _ _)).trans (by rw [a2, a4])),
    (h c).2.2.2.1.trans (((Cert.ReferenceMemQIdeal.Read.val_main_v19_eq _ _).symm.trans (reference3 _ _)).trans (by rw [a3, a4])),
    (h c).2.2.2.2⟩

end MemQ

end
-- ==== Proof.MemO.lean ====
module

public import proofs.«01_k».proof.Defs
public import proofs.«01_k».proof.Proof.MemQ
public import proofs.«01_k».proof.Proof.Gen.KernelMemOIdeal.Frame
public import proofs.«01_k».proof.Proof.Gen.ReferenceMemOIdeal.Read
public import proofs.«01_k».proof.Proof.Gen.ReferenceMemOIdeal.Run
public import Idealize.ShloMosaic.Lib.Quiescent
public import Idealize.ShloMosaic.Lib.Pipeline.ValueKit.Point
public import Idealize.ShloMosaic.Lib.Pointwise

@[expose] public section

set_option maxRecDepth 16384

/-! The memory attention's output product, in the four layers. -/

noncomputable section

namespace MemO

open Idealize.ShloMosaic Idealize.ShloMosaic.TcCoe Idealize.SL.Sem
open Launches (layer corner3 plus)

section

open Cert.KernelMemOIdeal Cert.KernelMemOIdeal.Gen

/-- What a launch writes to a block of its result: the product of its two blocks. -/
theorem out_at (x : Vec Ideal S512x1024 .bf16) (y : Vec Ideal S1x1024x1024 .bf16) (r : Fin 512) (d : Fin 1024) :
    out0_2 x y (ix2 r d) = ∑ k : Fin 1024, x (ix2 r k) * y (ix3 0 k d) := by
  unfold out0_2
  rw [View.canon_unit_zero Tiles.corner, View.ld_unit_zero (S := S512x1024) Tiles.corner, View.ld_unit_zero (S := S1x1024x1024) corner3]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nn (V c main_arg0) (layer 0 (V c main_arg4)) := by
  refine (dat0 V c).arrAt_eq_of_covers 2 _ (by decide +kernel) fun t _ y => ?_
  have ht : t.val < 16 := lt_of_lt_of_eq t.isLt Gen.N_0
  have h := (by decide +kernel : ∀ t : Fin grid0.N, win0_0.index t = ![t.val / 1, 0] ∧ win0_1.index t = ![0, 0, t.val % 1] ∧ win0_2.index t = ![t.val / 1, t.val % 1]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 1) + r.val, by omega⟩ ⟨1024 * (t.val % 1) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nn (V c main_arg1) (layer 1 (V c main_arg4)) := by
  refine (dat1 V c).arrAt_eq_of_covers 2 _ (by decide +kernel) fun t _ y => ?_
  have ht : t.val < 16 := lt_of_lt_of_eq t.isLt Gen.N_1
  have h := (by decide +kernel : ∀ t : Fin grid1.N, win1_0.index t = ![t.val / 1, 0] ∧ win1_1.index t = ![1, 0, t.val % 1] ∧ win1_2.index t = ![t.val / 1, t.val % 1]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 1) + r.val, by omega⟩ ⟨1024 * (t.val % 1) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

/-- The third launch's result. -/
theorem final2 : (dat2 V c).arrAt 2 cfg2.N = Tiles.nn (V c main_arg2) (layer 2 (V c main_arg4)) := by
  refine (dat2 V c).arrAt_eq_of_covers 2 _ (by decide +kernel) fun t _ y => ?_
  have ht : t.val < 16 := lt_of_lt_of_eq t.isLt Gen.N_2
  have h := (by decide +kernel : ∀ t : Fin grid2.N, win2_0.index t = ![t.val / 1, 0] ∧ win2_1.index t = ![2, 0, t.val % 1] ∧ win2_2.index t = ![t.val / 1, t.val % 1]) t
  obtain ⟨r, d, rfl⟩ : ∃ (r : Fin 512) (d : Fin 1024), y = ix2 r d := ⟨y 0, y 1, ValueIdx.eq_ix2 y⟩
  have e : (win2_2.blk t).view.emb (ix2 r d) = ix2 ⟨512 * (t.val / 1) + r.val, by omega⟩ ⟨1024 * (t.val % 1) + d.val, by omega⟩ := by
    blk_ext [h]
  blk_simp
  rw [e, after2_2]
  refine (out_at _ _ r d).trans (Finset.sum_congr rfl fun k _ => congrArg₂ (· * ·) ?_ ?_) <;>
  · dsimp only [ix2, ix3]
    blk_ext! [iblk2, h]

/-- The fourth launch's result. -/
theorem final3 : (dat3 V c).arrAt 2 cfg3.N = Tiles.nn (V c main_arg3) (layer 3 (V c main_arg4)) := by
  refine (dat3 V c).arrAt_eq_of_covers 2 _ (by decide +kernel) fun t _ y => ?_
  have ht : t.val < 16 := lt_of_lt_of_eq t.isLt Gen.N_3
  have h := (by decide +kernel : ∀ t : Fin grid3.N, win3_0.index t = ![t.val / 1, 0] ∧ win3_1.index t = ![3, 0, t.val % 1] ∧ win3_2.index t = ![t.val / 1, t.val % 1]) t
  obtain ⟨r, d, rfl⟩ : ∃ (r : Fin 512) (d : Fin 1024), y = ix2 r d := ⟨y 0, y 1, ValueIdx.eq_ix2 y⟩
  have e : (win3_2.blk t).view.emb (ix2 r d) = ix2 ⟨512 * (t.val / 1) + r.val, by omega⟩ ⟨1024 * (t.val % 1) + d.val, by omega⟩ := by
    blk_ext [h]
  blk_simp
  rw [e, after3_2]
  refine (out_at _ _ r d).trans (Finset.sum_congr rfl fun k _ => congrArg₂ (· * ·) ?_ ?_) <;>
  · dsimp only [ix2, ix3]
    blk_ext! [iblk3, h]

variable (m : (ℓ : Loc nD τ sig) → Buf (Elt Ideal) ℓ) (ρ : Dev nD → PrngReg)

/-- The first launch's result is in memory at the end. -/
theorem result0 : W4 m ρ c (Proc.devRef .tc main_v0) = Tiles.nn (m ((c : Thread nD τ).loc main_arg0)) (layer 0 (m ((c : Thread nD τ).loc main_arg4))) :=
  (((W4_of m ρ c main_v0 (by decide)).trans ((W3_of m ρ c main_v0 (by decide)).trans ((W2_of m ρ c main_v0 (by decide)).trans (W1_arr m ρ c 2)))).trans (final0 (V0 m ρ) c)).trans (by
    show Tiles.nn (W0 m ρ c (Proc.devRef .tc main_arg0)) (layer 0 (W0 m ρ c (Proc.devRef .tc main_arg4))) = _
    rw [W0_args m ρ c main_arg0 (by decide), W0_args m ρ c main_arg4 (by decide)])

/-- The second launch's result is in memory at the end. -/
theorem result1 : W4 m ρ c (Proc.devRef .tc main_v1) = Tiles.nn (m ((c : Thread nD τ).loc main_arg1)) (layer 1 (m ((c : Thread nD τ).loc main_arg4))) :=
  (((W4_of m ρ c main_v1 (by decide)).trans ((W3_of m ρ c main_v1 (by decide)).trans (W2_arr m ρ c 2))).trans (final1 (V1 m ρ) c)).trans (by
    show Tiles.nn (W1 m ρ c (Proc.devRef .tc main_arg1)) (layer 1 (W1 m ρ c (Proc.devRef .tc main_arg4))) = _
    rw [W1_args m ρ c main_arg1 (by decide), W1_args m ρ c main_arg4 (by decide)])

/-- The third launch's result is in memory at the end. -/
theorem result2 : W4 m ρ c (Proc.devRef .tc main_v2) = Tiles.nn (m ((c : Thread nD τ).loc main_arg2)) (layer 2 (m ((c : Thread nD τ).loc main_arg4))) :=
  (((W4_of m ρ c main_v2 (by decide)).trans (W3_arr m ρ c 2)).trans (final2 (V2 m ρ) c)).trans (by
    show Tiles.nn (W2 m ρ c (Proc.devRef .tc main_arg2)) (layer 2 (W2 m ρ c (Proc.devRef .tc main_arg4))) = _
    rw [W2_args m ρ c main_arg2 (by decide), W2_args m ρ c main_arg4 (by decide)])

/-- The fourth launch's result is in memory at the end. -/
theorem result3 : W4 m ρ c (Proc.devRef .tc main_v3) = Tiles.nn (m ((c : Thread nD τ).loc main_arg3)) (layer 3 (m ((c : Thread nD τ).loc main_arg4))) :=
  ((W4_arr m ρ c 2).trans (final3 (V3 m ρ) c)).trans (by
    show Tiles.nn (W3 m ρ c (Proc.devRef .tc main_arg3)) (layer 3 (W3 m ρ c (Proc.devRef .tc main_arg4))) = _
    rw [W3_args m ρ c main_arg3 (by decide), W3_args m ρ c main_arg4 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nn (m ((c : Thread nD τ).loc main_arg0)) (layer 0 (m ((c : Thread nD τ).loc main_arg4)))
      ∧ r.2.mem ((c : Thread nD τ).loc main_v1) = Tiles.nn (m ((c : Thread nD τ).loc main_arg1)) (layer 1 (m ((c : Thread nD τ).loc main_arg4)))
      ∧ r.2.mem ((c : Thread nD τ).loc main_v2) = Tiles.nn (m ((c : Thread nD τ).loc main_arg2)) (layer 2 (m ((c : Thread nD τ).loc main_arg4)))
      ∧ r.2.mem ((c : Thread nD τ).loc main_v3) = Tiles.nn (m ((c : Thread nD τ).loc main_arg3)) (layer 3 (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => ⟨
      (h c _ (mem_uc main_v0 (by decide))).trans (result0 c m ρ),
      (h c _ (mem_uc main_v1 (by decide))).trans (result1 c m ρ),
      (h c _ (mem_uc main_v2 (by decide))).trans (result2 c m ρ),
      (h c _ (mem_uc main_v3 (by decide))).trans (result3 c m ρ),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W4 m ρ)
      ⟨fun _ => .rfl, fun _ => .rfl, fun _ => .rfl, fun _ => .rfl, fun _ => .rfl⟩)

end

section

open Cert.ReferenceMemOIdeal Cert.ReferenceMemOIdeal.Read

/-- The reference's first result. -/
theorem reference0 (x : Tiles.Mat 8192 1024) (w : (⟨3, ![4, 1024, 1024]⟩ : Shape).Idx → EReal) : val_main_v4 (F := Ideal) x w = Tiles.nn x (layer 0 w) := by
  funext i
  rw [val_main_v4_apply]
  exact Finset.sum_congr rfl fun k _ => congrArg₂ (· * ·) (congrArg x (ValueIdx.eq_ix2 _)) (congrFun (Launches.layer_eq 0 w Gen.slices_S4x1024x1024_S1x1024x1024_0_0_0 Gen.shapeCasts_S1x1024x1024_S1024x1024) _)

/-- The reference's second result. -/
theorem reference1 (x : Tiles.Mat 8192 1024) (w : (⟨3, ![4, 1024, 1024]⟩ : Shape).Idx → EReal) : val_main_v9 (F := Ideal) x w = Tiles.nn x (layer 1 w) := by
  funext i
  rw [val_main_v9_apply]
  exact Finset.sum_congr rfl fun k _ => congrArg₂ (· * ·) (congrArg x (ValueIdx.eq_ix2 _)) (congrFun (Launches.layer_eq 1 w Gen.slices_S4x1024x1024_S1x1024x1024_1_0_0 Gen.shapeCasts_S1x1024x1024_S1024x1024) _)

/-- The reference's third result. -/
theorem reference2 (x : Tiles.Mat 8192 1024) (w : (⟨3, ![4, 1024, 1024]⟩ : Shape).Idx → EReal) : val_main_v14 (F := Ideal) x w = Tiles.nn x (layer 2 w) := by
  funext i
  rw [val_main_v14_apply]
  exact Finset.sum_congr rfl fun k _ => congrArg₂ (· * ·) (congrArg x (ValueIdx.eq_ix2 _)) (congrFun (Launches.layer_eq 2 w Gen.slices_S4x1024x1024_S1x1024x1024_2_0_0 Gen.shapeCasts_S1x1024x1024_S1024x1024) _)

/-- The reference's fourth result. -/
theorem reference3 (x : Tiles.Mat 8192 1024) (w : (⟨3, ![4, 1024, 1024]⟩ : Shape).Idx → EReal) : val_main_v19 (F := Ideal) x w = Tiles.nn x (layer 3 w) := by
  funext i
  rw [val_main_v19_apply]
  exact Finset.sum_congr rfl fun k _ => congrArg₂ (· * ·) (congrArg x (ValueIdx.eq_ix2 _)) (congrFun (Launches.layer_eq 3 w Gen.slices_S4x1024x1024_S1x1024x1024_3_0_0 Gen.shapeCasts_S1x1024x1024_S1024x1024) _)

end

/-- The reference runs, keeps its arguments and ends with its counters at zero. -/
theorem frame_reference : Cert.quiescent_ReferenceMemOIdeal := fun m ρ _ =>
  (θ_run _ _ _).mono (fun r h => ⟨fun c => (h c).2.2.2.2, sem_eq_zero_of_no_sems (by decide) r.2⟩) (Cert.ReferenceMemOIdeal.Value.run m ρ)

/-- Kernel and reference end with the same products. -/
theorem algebraic : Cert.algebraic_KernelMemOIdeal_ReferenceMemOIdeal := by
  intro m ρ m' ρ' _ hagree
  refine ⟨_, _, _, _, kernel m ρ, (θ_run _ _ _).mono (fun r h c => ?_) (Cert.ReferenceMemOIdeal.Value.run m' ρ')⟩
  obtain ⟨a0, a1, a2, a3, a4⟩ := hagree c
  exact ⟨(h c).1.trans (((Cert.ReferenceMemOIdeal.Read.val_main_v4_eq _ _).symm.trans (reference0 _ _)).trans (by rw [a0, a4])),
    (h c).2.1.trans (((Cert.ReferenceMemOIdeal.Read.val_main_v9_eq _ _).symm.trans (reference1 _ _)).trans (by rw [a1, a4])),
    (h c).2.2.1.trans (((Cert.ReferenceMemOIdeal.Read.val_main_v14_eq _ _).symm.trans (reference2 _ _)).trans (by rw [a2, a4])),
    (h c).2.2.2.1.trans (((Cert.ReferenceMemOIdeal.Read.val_main_v19_eq _ _).symm.trans (reference3 _ _)).trans (by rw [a3, a4])),
    (h c).2.2.2.2⟩

end MemO

end
-- ==== Proof.MemQDx.lean ====
module

public import proofs.«01_k».proof.Defs
public import proofs.«01_k».proof.Proof.MemO
public import proofs.«01_k».proof.Proof.Gen.KernelMemQDxIdeal.Frame
public import proofs.«01_k».proof.Proof.Gen.ReferenceMemQDxIdeal.Read
public import proofs.«01_k».proof.Proof.Gen.ReferenceMemQDxIdeal.Run
public import Idealize.ShloMosaic.Lib.Quiescent
public import Idealize.ShloMosaic.Lib.Pipeline.ValueKit.Point
public import Idealize.ShloMosaic.Lib.Pointwise

@[expose] public section

set_option maxRecDepth 16384

/-! The gradient with respect to the memory attention's input, in the four layers: the residual's gradient and the one through the queries. -/

noncomputable section

namespace MemQDx

open Idealize.ShloMosaic Idealize.ShloMosaic.TcCoe Idealize.SL.Sem
open Launches (layer corner3 plus)

section

open Cert.KernelMemQDxIdeal Cert.KernelMemQDxIdeal.Gen

/-- What a launch writes to a block of its result: the product of its two blocks, on top of the third block. -/
theorem out_at (x : Vec Ideal S512x1024 .bf16) (y : Vec Ideal S1x1024x1024 .bf16) (z : Vec Ideal S512x1024 .f32) (r : Fin 512) (d : Fin 1024) :
    out0_3 x y z (ix2 r d) = (∑ k : Fin 1024, x (ix2 r k) * y (ix3 0 d k)) + z (ix2 r d) := by
  unfold out0_3
  rw [View.canon_unit_zero Tiles.corner, View.ld_unit_zero (S := S512x1024) Tiles.corner, View.ld_unit_zero (S := S1x1024x1024) corner3, View.ld_unit_zero (S := S512x1024) Tiles.corner]
  pointwise [k0_pay1]

variable (V : (c : Dev nD) → (b : Ref sig .tc) → Buf (Elt Ideal) ((c : Thread nD τ).loc b)) (c : Dev nD)

/-- The first launch's result. -/
theorem final0 : (dat0 V c).arrAt 3 cfg0.N = plus (Tiles.nt (V c main_arg0) (layer 0 (V c main_arg4))) (V c main_arg5) := by
  refine (dat0 V c).arrAt_eq_of_covers 3 _ (by decide +kernel) fun t _ y => ?_
  have ht : t.val < 16 := lt_of_lt_of_eq t.isLt Gen.N_0
  have h := (by decide +kernel : ∀ t : Fin grid0.N, win0_0.index t = ![t.val / 1, 0] ∧ win0_1.index t = ![0, t.val % 1, 0] ∧ win0_2.index t = ![t.val / 1, t.val % 1] ∧ win0_3.index t = ![t.val / 1, t.val % 1]) t
  obtain ⟨r, d, rfl⟩ : ∃ (r : Fin 512) (d : Fin 1024), y = ix2 r d := ⟨y 0, y 1, ValueIdx.eq_ix2 y⟩
  have e : (win0_3.blk t).view.emb (ix2 r d) = ix2 ⟨512 * (t.val / 1) + r.val, by omega⟩ ⟨1024 * (t.val % 1) + d.val, by omega⟩ := by
    blk_ext [h]
  blk_simp
  rw [e, after0_3]
  refine (out_at _ _ _ r d).trans (congrArg₂ (· + ·) (Finset.sum_congr rfl fun k _ => congrArg₂ (· * ·) ?_ ?_) ?_) <;>
  · dsimp only [ix2, ix3]
    blk_ext! [iblk0, h]

/-- The second launch's result. -/
theorem final1 : (dat1 V c).arrAt 3 cfg1.N = plus (Tiles.nt (V c main_arg1) (layer 1 (V c main_arg4))) (V c main_arg6) := by
  refine (dat1 V c).arrAt_eq_of_covers 3 _ (by decide +kernel) fun t _ y => ?_
  have ht : t.val < 16 := lt_of_lt_of_eq t.isLt Gen.N_1
  have h := (by decide +kernel : ∀ t : Fin grid1.N, win1_0.index t = ![t.val / 1, 0] ∧ win1_1.index t = ![1, t.val % 1, 0] ∧ win1_2.index t = ![t.val / 1, t.val % 1] ∧ win1_3.index t = ![t.val / 1, t.val % 1]) t
  obtain ⟨r, d, rfl⟩ : ∃ (r : Fin 512) (d : Fin 1024), y = ix2 r d := ⟨y 0, y 1, ValueIdx.eq_ix2 y⟩
  have e : (win1_3.blk t).view.emb (ix2 r d) = ix2 ⟨512 * (t.val / 1) + r.val, by omega⟩ ⟨1024 * (t.val % 1) + d.val, by omega⟩ := by
    blk_ext [h]
  blk_simp
  rw [e, after1_3]
  refine (out_at _ _ _ r d).trans (congrArg₂ (· + ·) (Finset.sum_congr rfl fun k _ => congrArg₂ (· * ·) ?_ ?_) ?_) <;>
  · dsimp only [ix2, ix3]
    blk_ext! [iblk1, h]

/-- The third launch's result. -/
theorem final2 : (dat2 V c).arrAt 3 cfg2.N = plus (Tiles.nt (V c main_arg2) (layer 2 (V c main_arg4))) (V c main_arg7) := by
  refine (dat2 V c).arrAt_eq_of_covers 3 _ (by decide +kernel) fun t _ y => ?_
  have ht : t.val < 16 := lt_of_lt_of_eq t.isLt Gen.N_2
  have h := (by decide +kernel : ∀ t : Fin grid2.N, win2_0.index t = ![t.val / 1, 0] ∧ win2_1.index t = ![2, t.val % 1, 0] ∧ win2_2.index t = ![t.val / 1, t.val % 1] ∧ win2_3.index t = ![t.val / 1, t.val % 1]) t
  obtain ⟨r, d, rfl⟩ : ∃ (r : Fin 512) (d : Fin 1024), y = ix2 r d := ⟨y 0, y 1, ValueIdx.eq_ix2 y⟩
  have e : (win2_3.blk t).view.emb (ix2 r d) = ix2 ⟨512 * (t.val / 1) + r.val, by omega⟩ ⟨1024 * (t.val % 1) + d.val, by omega⟩ := by
    blk_ext [h]
  blk_simp
  rw [e, after2_3]
  refine (out_at _ _ _ r d).trans (congrArg₂ (· + ·) (Finset.sum_congr rfl fun k _ => congrArg₂ (· * ·) ?_ ?_) ?_) <;>
  · dsimp only [ix2, ix3]
    blk_ext! [iblk2, h]

/-- The fourth launch's result. -/
theorem final3 : (dat3 V c).arrAt 3 cfg3.N = plus (Tiles.nt (V c main_arg3) (layer 3 (V c main_arg4))) (V c main_arg8) := by
  refine (dat3 V c).arrAt_eq_of_covers 3 _ (by decide +kernel) fun t _ y => ?_
  have ht : t.val < 16 := lt_of_lt_of_eq t.isLt Gen.N_3
  have h := (by decide +kernel : ∀ t : Fin grid3.N, win3_0.index t = ![t.val / 1, 0] ∧ win3_1.index t = ![3, t.val % 1, 0] ∧ win3_2.index t = ![t.val / 1, t.val % 1] ∧ win3_3.index t = ![t.val / 1, t.val % 1]) t
  obtain ⟨r, d, rfl⟩ : ∃ (r : Fin 512) (d : Fin 1024), y = ix2 r d := ⟨y 0, y 1, ValueIdx.eq_ix2 y⟩
  have e : (win3_3.blk t).view.emb (ix2 r d) = ix2 ⟨512 * (t.val / 1) + r.val, by omega⟩ ⟨1024 * (t.val % 1) + d.val, by omega⟩ := by
    blk_ext [h]
  blk_simp
  rw [e, after3_3]
  refine (out_at _ _ _ r d).trans (congrArg₂ (· + ·) (Finset.sum_congr rfl fun k _ => congrArg₂ (· * ·) ?_ ?_) ?_) <;>
  · dsimp only [ix2, ix3]
    blk_ext! [iblk3, h]

variable (m : (ℓ : Loc nD τ sig) → Buf (Elt Ideal) ℓ) (ρ : Dev nD → PrngReg)

/-- The first launch's result is in memory at the end. -/
theorem result0 : W4 m ρ c (Proc.devRef .tc main_v0) = plus (Tiles.nt (m ((c : Thread nD τ).loc main_arg0)) (layer 0 (m ((c : Thread nD τ).loc main_arg4)))) (m ((c : Thread nD τ).loc main_arg5)) :=
  (((W4_of m ρ c main_v0 (by decide)).trans ((W3_of m ρ c main_v0 (by decide)).trans ((W2_of m ρ c main_v0 (by decide)).trans (W1_arr m ρ c 3)))).trans (final0 (V0 m ρ) c)).trans (by
    show plus (Tiles.nt (W0 m ρ c (Proc.devRef .tc main_arg0)) (layer 0 (W0 m ρ c (Proc.devRef .tc main_arg4)))) (W0 m ρ c (Proc.devRef .tc main_arg5)) = _
    rw [W0_args m ρ c main_arg0 (by decide), W0_args m ρ c main_arg4 (by decide), W0_args m ρ c main_arg5 (by decide)])

/-- The second launch's result is in memory at the end. -/
theorem result1 : W4 m ρ c (Proc.devRef .tc main_v1) = plus (Tiles.nt (m ((c : Thread nD τ).loc main_arg1)) (layer 1 (m ((c : Thread nD τ).loc main_arg4)))) (m ((c : Thread nD τ).loc main_arg6)) :=
  (((W4_of m ρ c main_v1 (by decide)).trans ((W3_of m ρ c main_v1 (by decide)).trans (W2_arr m ρ c 3))).trans (final1 (V1 m ρ) c)).trans (by
    show plus (Tiles.nt (W1 m ρ c (Proc.devRef .tc main_arg1)) (layer 1 (W1 m ρ c (Proc.devRef .tc main_arg4)))) (W1 m ρ c (Proc.devRef .tc main_arg6)) = _
    rw [W1_args m ρ c main_arg1 (by decide), W1_args m ρ c main_arg4 (by decide), W1_args m ρ c main_arg6 (by decide)])

/-- The third launch's result is in memory at the end. -/
theorem result2 : W4 m ρ c (Proc.devRef .tc main_v2) = plus (Tiles.nt (m ((c : Thread nD τ).loc main_arg2)) (layer 2 (m ((c : Thread nD τ).loc main_arg4)))) (m ((c : Thread nD τ).loc main_arg7)) :=
  (((W4_of m ρ c main_v2 (by decide)).trans (W3_arr m ρ c 3)).trans (final2 (V2 m ρ) c)).trans (by
    show plus (Tiles.nt (W2 m ρ c (Proc.devRef .tc main_arg2)) (layer 2 (W2 m ρ c (Proc.devRef .tc main_arg4)))) (W2 m ρ c (Proc.devRef .tc main_arg7)) = _
    rw [W2_args m ρ c main_arg2 (by decide), W2_args m ρ c main_arg4 (by decide), W2_args m ρ c main_arg7 (by decide)])

/-- The fourth launch's result is in memory at the end. -/
theorem result3 : W4 m ρ c (Proc.devRef .tc main_v3) = plus (Tiles.nt (m ((c : Thread nD τ).loc main_arg3)) (layer 3 (m ((c : Thread nD τ).loc main_arg4)))) (m ((c : Thread nD τ).loc main_arg8)) :=
  ((W4_arr m ρ c 3).trans (final3 (V3 m ρ) c)).trans (by
    show plus (Tiles.nt (W3 m ρ c (Proc.devRef .tc main_arg3)) (layer 3 (W3 m ρ c (Proc.devRef .tc main_arg4)))) (W3 m ρ c (Proc.devRef .tc main_arg8)) = _
    rw [W3_args m ρ c main_arg3 (by decide), W3_args m ρ c main_arg4 (by decide), W3_args m ρ c main_arg8 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = plus (Tiles.nt (m ((c : Thread nD τ).loc main_arg0)) (layer 0 (m ((c : Thread nD τ).loc main_arg4)))) (m ((c : Thread nD τ).loc main_arg5))
      ∧ r.2.mem ((c : Thread nD τ).loc main_v1) = plus (Tiles.nt (m ((c : Thread nD τ).loc main_arg1)) (layer 1 (m ((c : Thread nD τ).loc main_arg4)))) (m ((c : Thread nD τ).loc main_arg6))
      ∧ r.2.mem ((c : Thread nD τ).loc main_v2) = plus (Tiles.nt (m ((c : Thread nD τ).loc main_arg2)) (layer 2 (m ((c : Thread nD τ).loc main_arg4)))) (m ((c : Thread nD τ).loc main_arg7))
      ∧ r.2.mem ((c : Thread nD τ).loc main_v3) = plus (Tiles.nt (m ((c : Thread nD τ).loc main_arg3)) (layer 3 (m ((c : Thread nD τ).loc main_arg4)))) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run _ _ _).mono (fun r h c => ⟨
      (h c _ (mem_uc main_v0 (by decide))).trans (result0 c m ρ),
      (h c _ (mem_uc main_v1 (by decide))).trans (result1 c m ρ),
      (h c _ (mem_uc main_v2 (by decide))).trans (result2 c m ρ),
      (h c _ (mem_uc main_v3 (by decide))).trans (result3 c m ρ),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W4 m ρ)
      ⟨fun _ => .rfl, fun _ => .rfl, fun _ => .rfl, fun _ => .rfl, fun _ => .rfl⟩)

end

section

open Cert.ReferenceMemQDxIdeal Cert.ReferenceMemQDxIdeal.Read

/-- The reference's first result. -/
theorem reference0 (x : Tiles.Mat 8192 1024) (w : (⟨3, ![4, 1024, 1024]⟩ : Shape).Idx → EReal) (z : Tiles.Mat 8192 1024) : val_main_v7 (F := Ideal) x w z = plus (Tiles.nt x (layer 0 w)) z := by
  funext i
  rw [val_main_v7_apply, val_main_v6_apply]
  exact (add_comm _ _).trans (congrArg₂ (· + ·) (Finset.sum_congr rfl fun k _ => congrArg₂ (· * ·) (congrArg x (ValueIdx.eq_ix2 _)) (congrFun (Launches.layer_eq 0 w Gen.slices_S4x1024x1024_S1x1024x1024_0_0_0 Gen.shapeCasts_S1x1024x1024_S1024x1024) _)) rfl)

/-- The reference's second result. -/
theorem reference1 (x : Tiles.Mat 8192 1024) (w : (⟨3, ![4, 1024, 1024]⟩ : Shape).Idx → EReal) (z : Tiles.Mat 8192 1024) : val_main_v15 (F := Ideal) x w z = plus (Tiles.nt x (layer 1 w)) z := by
  funext i
  rw [val_main_v15_apply, val_main_v14_apply]
  exact (add_comm _ _).trans (congrArg₂ (· + ·) (Finset.sum_congr rfl fun k _ => congrArg₂ (· * ·) (congrArg x (ValueIdx.eq_ix2 _)) (congrFun (Launches.layer_eq 1 w Gen.slices_S4x1024x1024_S1x1024x1024_1_0_0 Gen.shapeCasts_S1x1024x1024_S1024x1024) _)) rfl)

/-- The reference's third result. -/
theorem reference2 (x : Tiles.Mat 8192 1024) (w : (⟨3, ![4, 1024, 1024]⟩ : Shape).Idx → EReal) (z : Tiles.Mat 8192 1024) : val_main_v23 (F := Ideal) x w z = plus (Tiles.nt x (layer 2 w)) z := by
  funext i
  rw [val_main_v23_apply, val_main_v22_apply]
  exact (add_comm _ _).trans (congrArg₂ (· + ·) (Finset.sum_congr rfl fun k _ => congrArg₂ (· * ·) (congrArg x (ValueIdx.eq_ix2 _)) (congrFun (Launches.layer_eq 2 w Gen.slices_S4x1024x1024_S1x1024x1024_2_0_0 Gen.shapeCasts_S1x1024x1024_S1024x1024) _)) rfl)

/-- The reference's fourth result. -/
theorem reference3 (x : Tiles.Mat 8192 1024) (w : (⟨3, ![4, 1024, 1024]⟩ : Shape).Idx → EReal) (z : Tiles.Mat 8192 1024) : val_main_v31 (F := Ideal) x w z = plus (Tiles.nt x (layer 3 w)) z := by
  funext i
  rw [val_main_v31_apply, val_main_v30_apply]
  exact (add_comm _ _).trans (congrArg₂ (· + ·) (Finset.sum_congr rfl fun k _ => congrArg₂ (· * ·) (congrArg x (ValueIdx.eq_ix2 _)) (congrFun (Launches.layer_eq 3 w Gen.slices_S4x1024x1024_S1x1024x1024_3_0_0 Gen.shapeCasts_S1x1024x1024_S1024x1024) _)) rfl)

end

/-- The reference runs, keeps its arguments and ends with its counters at zero. -/
theorem frame_reference : Cert.quiescent_ReferenceMemQDxIdeal := fun m ρ _ =>
  (θ_run _ _ _).mono (fun r h => ⟨fun c => (h c).2.2.2.2, sem_eq_zero_of_no_sems (by decide) r.2⟩) (Cert.ReferenceMemQDxIdeal.Value.run m ρ)

/-- Kernel and reference end with the same products. -/
theorem algebraic : Cert.algebraic_KernelMemQDxIdeal_ReferenceMemQDxIdeal := by
  intro m ρ m' ρ' _ hagree
  refine ⟨_, _, _, _, kernel m ρ, (θ_run _ _ _).mono (fun r h c => ?_) (Cert.ReferenceMemQDxIdeal.Value.run m' ρ')⟩
  obtain ⟨a0, a1, a2, a3, a4, a5, a6, a7, a8⟩ := hagree c
  exact ⟨(h c).1.trans (((Cert.ReferenceMemQDxIdeal.Read.val_main_v7_eq _ _ _).symm.trans (reference0 _ _ _)).trans (by rw [a0, a4, a5])),
    (h c).2.1.trans (((Cert.ReferenceMemQDxIdeal.Read.val_main_v15_eq _ _ _).symm.trans (reference1 _ _ _)).trans (by rw [a1, a4, a6])),
    (h c).2.2.1.trans (((Cert.ReferenceMemQDxIdeal.Read.val_main_v23_eq _ _ _).symm.trans (reference2 _ _ _)).trans (by rw [a2, a4, a7])),
    (h c).2.2.2.1.trans (((Cert.ReferenceMemQDxIdeal.Read.val_main_v31_eq _ _ _).symm.trans (reference3 _ _ _)).trans (by rw [a3, a4, a8])),
    (h c).2.2.2.2⟩

end MemQDx

end
-- ==== Proof.MemODx.lean ====
module

public import proofs.«01_k».proof.Defs
public import proofs.«01_k».proof.Proof.MemQDx
public import proofs.«01_k».proof.Proof.Gen.KernelMemODxIdeal.Frame
public import proofs.«01_k».proof.Proof.Gen.ReferenceMemODxIdeal.Read
public import proofs.«01_k».proof.Proof.Gen.ReferenceMemODxIdeal.Run
public import Idealize.ShloMosaic.Lib.Quiescent
public import Idealize.ShloMosaic.Lib.Pipeline.ValueKit.Point
public import Idealize.ShloMosaic.Lib.Pointwise

@[expose] public section

set_option maxRecDepth 16384

/-! The gradient with respect to the input of the memory attention's output product, in the four layers. -/

noncomputable section

namespace MemODx

open Idealize.ShloMosaic Idealize.ShloMosaic.TcCoe Idealize.SL.Sem
open Launches (layer corner3 plus)

section

open Cert.KernelMemODxIdeal Cert.KernelMemODxIdeal.Gen

/-- What a launch writes to a block of its result: the product of its two blocks. -/
theorem out_at (x : Vec Ideal S512x1024 .bf16) (y : Vec Ideal S1x1024x1024 .bf16) (r : Fin 512) (d : Fin 1024) :
    out0_2 x y (ix2 r d) = ∑ k : Fin 1024, x (ix2 r k) * y (ix3 0 d k) := by
  unfold out0_2
  rw [View.canon_unit_zero Tiles.corner, View.ld_unit_zero (S := S512x1024) Tiles.corner, View.ld_unit_zero (S := S1x1024x1024) corner3]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nt (V c main_arg0) (layer 0 (V c main_arg4)) := by
  refine (dat0 V c).arrAt_eq_of_covers 2 _ (by decide +kernel) fun t _ y => ?_
  have ht : t.val < 16 := lt_of_lt_of_eq t.isLt Gen.N_0
  have h := (by decide +kernel : ∀ t : Fin grid0.N, win0_0.index t = ![t.val / 1, 0] ∧ win0_1.index t = ![0, t.val % 1, 0] ∧ win0_2.index t = ![t.val / 1, t.val % 1]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 1) + r.val, by omega⟩ ⟨1024 * (t.val % 1) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nt (V c main_arg1) (layer 1 (V c main_arg4)) := by
  refine (dat1 V c).arrAt_eq_of_covers 2 _ (by decide +kernel) fun t _ y => ?_
  have ht : t.val < 16 := lt_of_lt_of_eq t.isLt Gen.N_1
  have h := (by decide +kernel : ∀ t : Fin grid1.N, win1_0.index t = ![t.val / 1, 0] ∧ win1_1.index t = ![1, t.val % 1, 0] ∧ win1_2.index t = ![t.val / 1, t.val % 1]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 1) + r.val, by omega⟩ ⟨1024 * (t.val % 1) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

/-- The third launch's result. -/
theorem final2 : (dat2 V c).arrAt 2 cfg2.N = Tiles.nt (V c main_arg2) (layer 2 (V c main_arg4)) := by
  refine (dat2 V c).arrAt_eq_of_covers 2 _ (by decide +kernel) fun t _ y => ?_
  have ht : t.val < 16 := lt_of_lt_of_eq t.isLt Gen.N_2
  have h := (by decide +kernel : ∀ t : Fin grid2.N, win2_0.index t = ![t.val / 1, 0] ∧ win2_1.index t = ![2, t.val % 1, 0] ∧ win2_2.index t = ![t.val / 1, t.val % 1]) t
  obtain ⟨r, d, rfl⟩ : ∃ (r : Fin 512) (d : Fin 1024), y = ix2 r d := ⟨y 0, y 1, ValueIdx.eq_ix2 y⟩
  have e : (win2_2.blk t).view.emb (ix2 r d) = ix2 ⟨512 * (t.val / 1) + r.val, by omega⟩ ⟨1024 * (t.val % 1) + d.val, by omega⟩ := by
    blk_ext [h]
  blk_simp
  rw [e, after2_2]
  refine (out_at _ _ r d).trans (Finset.sum_congr rfl fun k _ => congrArg₂ (· * ·) ?_ ?_) <;>
  · dsimp only [ix2, ix3]
    blk_ext! [iblk2, h]

/-- The fourth launch's result. -/
theorem final3 : (dat3 V c).arrAt 2 cfg3.N = Tiles.nt (V c main_arg3) (layer 3 (V c main_arg4)) := by
  refine (dat3 V c).arrAt_eq_of_covers 2 _ (by decide +kernel) fun t _ y => ?_
  have ht : t.val < 16 := lt_of_lt_of_eq t.isLt Gen.N_3
  have h := (by decide +kernel : ∀ t : Fin grid3.N, win3_0.index t = ![t.val / 1, 0] ∧ win3_1.index t = ![3, t.val % 1, 0] ∧ win3_2.index t = ![t.val / 1, t.val % 1]) t
  obtain ⟨r, d, rfl⟩ : ∃ (r : Fin 512) (d : Fin 1024), y = ix2 r d := ⟨y 0, y 1, ValueIdx.eq_ix2 y⟩
  have e : (win3_2.blk t).view.emb (ix2 r d) = ix2 ⟨512 * (t.val / 1) + r.val, by omega⟩ ⟨1024 * (t.val % 1) + d.val, by omega⟩ := by
    blk_ext [h]
  blk_simp
  rw [e, after3_2]
  refine (out_at _ _ r d).trans (Finset.sum_congr rfl fun k _ => congrArg₂ (· * ·) ?_ ?_) <;>
  · dsimp only [ix2, ix3]
    blk_ext! [iblk3, h]

variable (m : (ℓ : Loc nD τ sig) → Buf (Elt Ideal) ℓ) (ρ : Dev nD → PrngReg)

/-- The first launch's result is in memory at the end. -/
theorem result0 : W4 m ρ c (Proc.devRef .tc main_v0) = Tiles.nt (m ((c : Thread nD τ).loc main_arg0)) (layer 0 (m ((c : Thread nD τ).loc main_arg4))) :=
  (((W4_of m ρ c main_v0 (by decide)).trans ((W3_of m ρ c main_v0 (by decide)).trans ((W2_of m ρ c main_v0 (by decide)).trans (W1_arr m ρ c 2)))).trans (final0 (V0 m ρ) c)).trans (by
    show Tiles.nt (W0 m ρ c (Proc.devRef .tc main_arg0)) (layer 0 (W0 m ρ c (Proc.devRef .tc main_arg4))) = _
    rw [W0_args m ρ c main_arg0 (by decide), W0_args m ρ c main_arg4 (by decide)])

/-- The second launch's result is in memory at the end. -/
theorem result1 : W4 m ρ c (Proc.devRef .tc main_v1) = Tiles.nt (m ((c : Thread nD τ).loc main_arg1)) (layer 1 (m ((c : Thread nD τ).loc main_arg4))) :=
  (((W4_of m ρ c main_v1 (by decide)).trans ((W3_of m ρ c main_v1 (by decide)).trans (W2_arr m ρ c 2))).trans (final1 (V1 m ρ) c)).trans (by
    show Tiles.nt (W1 m ρ c (Proc.devRef .tc main_arg1)) (layer 1 (W1 m ρ c (Proc.devRef .tc main_arg4))) = _
    rw [W1_args m ρ c main_arg1 (by decide), W1_args m ρ c main_arg4 (by decide)])

/-- The third launch's result is in memory at the end. -/
theorem result2 : W4 m ρ c (Proc.devRef .tc main_v2) = Tiles.nt (m ((c : Thread nD τ).loc main_arg2)) (layer 2 (m ((c : Thread nD τ).loc main_arg4))) :=
  (((W4_of m ρ c main_v2 (by decide)).trans (W3_arr m ρ c 2)).trans (final2 (V2 m ρ) c)).trans (by
    show Tiles.nt (W2 m ρ c (Proc.devRef .tc main_arg2)) (layer 2 (W2 m ρ c (Proc.devRef .tc main_arg4))) = _
    rw [W2_args m ρ c main_arg2 (by decide), W2_args m ρ c main_arg4 (by decide)])

/-- The fourth launch's result is in memory at the end. -/
theorem result3 : W4 m ρ c (Proc.devRef .tc main_v3) = Tiles.nt (m ((c : Thread nD τ).loc main_arg3)) (layer 3 (m ((c : Thread nD τ).loc main_arg4))) :=
  ((W4_arr m ρ c 2).trans (final3 (V3 m ρ) c)).trans (by
    show Tiles.nt (W3 m ρ c (Proc.devRef .tc main_arg3)) (layer 3 (W3 m ρ c (Proc.devRef .tc main_arg4))) = _
    rw [W3_args m ρ c main_arg3 (by decide), W3_args m ρ c main_arg4 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nt (m ((c : Thread nD τ).loc main_arg0)) (layer 0 (m ((c : Thread nD τ).loc main_arg4)))
      ∧ r.2.mem ((c : Thread nD τ).loc main_v1) = Tiles.nt (m ((c : Thread nD τ).loc main_arg1)) (layer 1 (m ((c : Thread nD τ).loc main_arg4)))
      ∧ r.2.mem ((c : Thread nD τ).loc main_v2) = Tiles.nt (m ((c : Thread nD τ).loc main_arg2)) (layer 2 (m ((c : Thread nD τ).loc main_arg4)))
      ∧ r.2.mem ((c : Thread nD τ).loc main_v3) = Tiles.nt (m ((c : Thread nD τ).loc main_arg3)) (layer 3 (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => ⟨
      (h c _ (mem_uc main_v0 (by decide))).trans (result0 c m ρ),
      (h c _ (mem_uc main_v1 (by decide))).trans (result1 c m ρ),
      (h c _ (mem_uc main_v2 (by decide))).trans (result2 c m ρ),
      (h c _ (mem_uc main_v3 (by decide))).trans (result3 c m ρ),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W4 m ρ)
      ⟨fun _ => .rfl, fun _ => .rfl, fun _ => .rfl, fun _ => .rfl, fun _ => .rfl⟩)

end

section

open Cert.ReferenceMemODxIdeal Cert.ReferenceMemODxIdeal.Read

/-- The reference's first result. -/
theorem reference0 (x : Tiles.Mat 8192 1024) (w : (⟨3, ![4, 1024, 1024]⟩ : Shape).Idx → EReal) : val_main_v7 (F := Ideal) x w = Tiles.nt x (layer 0 w) := by
  funext i
  rw [val_main_v7_apply, val_main_v6_apply]
  exact Finset.sum_congr rfl fun k _ => congrArg₂ (· * ·) (congrArg x (ValueIdx.eq_ix2 _)) (congrFun (Launches.layer_eq 0 w Gen.slices_S4x1024x1024_S1x1024x1024_0_0_0 Gen.shapeCasts_S1x1024x1024_S1024x1024) _)

/-- The reference's second result. -/
theorem reference1 (x : Tiles.Mat 8192 1024) (w : (⟨3, ![4, 1024, 1024]⟩ : Shape).Idx → EReal) : val_main_v14 (F := Ideal) x w = Tiles.nt x (layer 1 w) := by
  funext i
  rw [val_main_v14_apply, val_main_v13_apply]
  exact Finset.sum_congr rfl fun k _ => congrArg₂ (· * ·) (congrArg x (ValueIdx.eq_ix2 _)) (congrFun (Launches.layer_eq 1 w Gen.slices_S4x1024x1024_S1x1024x1024_1_0_0 Gen.shapeCasts_S1x1024x1024_S1024x1024) _)

/-- The reference's third result. -/
theorem reference2 (x : Tiles.Mat 8192 1024) (w : (⟨3, ![4, 1024, 1024]⟩ : Shape).Idx → EReal) : val_main_v21 (F := Ideal) x w = Tiles.nt x (layer 2 w) := by
  funext i
  rw [val_main_v21_apply, val_main_v20_apply]
  exact Finset.sum_congr rfl fun k _ => congrArg₂ (· * ·) (congrArg x (ValueIdx.eq_ix2 _)) (congrFun (Launches.layer_eq 2 w Gen.slices_S4x1024x1024_S1x1024x1024_2_0_0 Gen.shapeCasts_S1x1024x1024_S1024x1024) _)

/-- The reference's fourth result. -/
theorem reference3 (x : Tiles.Mat 8192 1024) (w : (⟨3, ![4, 1024, 1024]⟩ : Shape).Idx → EReal) : val_main_v28 (F := Ideal) x w = Tiles.nt x (layer 3 w) := by
  funext i
  rw [val_main_v28_apply, val_main_v27_apply]
  exact Finset.sum_congr rfl fun k _ => congrArg₂ (· * ·) (congrArg x (ValueIdx.eq_ix2 _)) (congrFun (Launches.layer_eq 3 w Gen.slices_S4x1024x1024_S1x1024x1024_3_0_0 Gen.shapeCasts_S1x1024x1024_S1024x1024) _)

end

/-- The reference runs, keeps its arguments and ends with its counters at zero. -/
theorem frame_reference : Cert.quiescent_ReferenceMemODxIdeal := fun m ρ _ =>
  (θ_run _ _ _).mono (fun r h => ⟨fun c => (h c).2.2.2.2, sem_eq_zero_of_no_sems (by decide) r.2⟩) (Cert.ReferenceMemODxIdeal.Value.run m ρ)

/-- Kernel and reference end with the same products. -/
theorem algebraic : Cert.algebraic_KernelMemODxIdeal_ReferenceMemODxIdeal := by
  intro m ρ m' ρ' _ hagree
  refine ⟨_, _, _, _, kernel m ρ, (θ_run _ _ _).mono (fun r h c => ?_) (Cert.ReferenceMemODxIdeal.Value.run m' ρ')⟩
  obtain ⟨a0, a1, a2, a3, a4⟩ := hagree c
  exact ⟨(h c).1.trans (((Cert.ReferenceMemODxIdeal.Read.val_main_v7_eq _ _).symm.trans (reference0 _ _)).trans (by rw [a0, a4])),
    (h c).2.1.trans (((Cert.ReferenceMemODxIdeal.Read.val_main_v14_eq _ _).symm.trans (reference1 _ _)).trans (by rw [a1, a4])),
    (h c).2.2.1.trans (((Cert.ReferenceMemODxIdeal.Read.val_main_v21_eq _ _).symm.trans (reference2 _ _)).trans (by rw [a2, a4])),
    (h c).2.2.2.1.trans (((Cert.ReferenceMemODxIdeal.Read.val_main_v28_eq _ _).symm.trans (reference3 _ _)).trans (by rw [a3, a4])),
    (h c).2.2.2.2⟩

end MemODx

end
-- ==== Proof.OutProj.lean ====
module

public import proofs.«01_k».proof.Defs
public import proofs.«01_k».proof.Proof.MemODx
public import proofs.«01_k».proof.Proof.Gen.KernelOutProjIdeal.Frame
public import proofs.«01_k».proof.Proof.Gen.ReferenceOutProjIdeal.Read
public import proofs.«01_k».proof.Proof.Gen.ReferenceOutProjIdeal.Run
public import Idealize.ShloMosaic.Lib.Quiescent
public import Idealize.ShloMosaic.Lib.Pipeline.ValueKit.Point
public import Idealize.ShloMosaic.Lib.Pointwise

@[expose] public section

set_option maxRecDepth 16384

/-! The first mixer's output product, in its two layers. -/

noncomputable section

namespace OutProj

open Idealize.ShloMosaic Idealize.ShloMosaic.TcCoe Idealize.SL.Sem
open Launches (layer corner3 plus)

section

open Cert.KernelOutProjIdeal Cert.KernelOutProjIdeal.Gen

/-- What a launch writes to a block of its result: the product of its two blocks. -/
theorem out_at (x : Vec Ideal S512x1024 .bf16) (y : Vec Ideal S1x1024x1024 .bf16) (r : Fin 512) (d : Fin 1024) :
    out0_2 x y (ix2 r d) = ∑ k : Fin 1024, x (ix2 r k) * y (ix3 0 k d) := by
  unfold out0_2
  rw [View.canon_unit_zero Tiles.corner, View.ld_unit_zero (S := S512x1024) Tiles.corner, View.ld_unit_zero (S := S1x1024x1024) corner3]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nn (V c main_arg0) (layer 0 (V c main_arg2)) := by
  refine (dat0 V c).arrAt_eq_of_covers 2 _ (by decide +kernel) fun t _ y => ?_
  have ht : t.val < 16 := lt_of_lt_of_eq t.isLt Gen.N_0
  have h := (by decide +kernel : ∀ t : Fin grid0.N, win0_0.index t = ![t.val / 1, 0] ∧ win0_1.index t = ![0, 0, t.val % 1] ∧ win0_2.index t = ![t.val / 1, t.val % 1]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 1) + r.val, by omega⟩ ⟨1024 * (t.val % 1) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nn (V c main_arg1) (layer 1 (V c main_arg2)) := by
  refine (dat1 V c).arrAt_eq_of_covers 2 _ (by decide +kernel) fun t _ y => ?_
  have ht : t.val < 16 := lt_of_lt_of_eq t.isLt Gen.N_1
  have h := (by decide +kernel : ∀ t : Fin grid1.N, win1_0.index t = ![t.val / 1, 0] ∧ win1_1.index t = ![1, 0, t.val % 1] ∧ win1_2.index t = ![t.val / 1, t.val % 1]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 1) + r.val, by omega⟩ ⟨1024 * (t.val % 1) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

variable (m : (ℓ : Loc nD τ sig) → Buf (Elt Ideal) ℓ) (ρ : Dev nD → PrngReg)

/-- The first launch's result is in memory at the end. -/
theorem result0 : W2 m ρ c (Proc.devRef .tc main_v0) = Tiles.nn (m ((c : Thread nD τ).loc main_arg0)) (layer 0 (m ((c : Thread nD τ).loc main_arg2))) :=
  (((W2_of m ρ c main_v0 (by decide)).trans (W1_arr m ρ c 2)).trans (final0 (V0 m ρ) c)).trans (by
    show Tiles.nn (W0 m ρ c (Proc.devRef .tc main_arg0)) (layer 0 (W0 m ρ c (Proc.devRef .tc main_arg2))) = _
    rw [W0_args m ρ c main_arg0 (by decide), W0_args m ρ c main_arg2 (by decide)])

/-- The second launch's result is in memory at the end. -/
theorem result1 : W2 m ρ c (Proc.devRef .tc main_v1) = Tiles.nn (m ((c : Thread nD τ).loc main_arg1)) (layer 1 (m ((c : Thread nD τ).loc main_arg2))) :=
  ((W2_arr m ρ c 2).trans (final1 (V1 m ρ) c)).trans (by
    show Tiles.nn (W1 m ρ c (Proc.devRef .tc main_arg1)) (layer 1 (W1 m ρ c (Proc.devRef .tc main_arg2))) = _
    rw [W1_args m ρ c main_arg1 (by decide), W1_args m ρ c main_arg2 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nn (m ((c : Thread nD τ).loc main_arg0)) (layer 0 (m ((c : Thread nD τ).loc main_arg2)))
      ∧ r.2.mem ((c : Thread nD τ).loc main_v1) = Tiles.nn (m ((c : Thread nD τ).loc main_arg1)) (layer 1 (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => ⟨
      (h c _ (mem_uc main_v0 (by decide))).trans (result0 c m ρ),
      (h c _ (mem_uc main_v1 (by decide))).trans (result1 c m ρ),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W2 m ρ)
      ⟨fun _ => .rfl, fun _ => .rfl, fun _ => .rfl⟩)

end

section

open Cert.ReferenceOutProjIdeal Cert.ReferenceOutProjIdeal.Read

/-- The reference's first result. -/
theorem reference0 (x : Tiles.Mat 8192 1024) (w : (⟨3, ![2, 1024, 1024]⟩ : Shape).Idx → EReal) : val_main_v4 (F := Ideal) x w = Tiles.nn x (layer 0 w) := by
  funext i
  rw [val_main_v4_apply]
  exact Finset.sum_congr rfl fun k _ => congrArg₂ (· * ·) (congrArg x (ValueIdx.eq_ix2 _)) (congrFun (Launches.layer_eq 0 w Gen.slices_S2x1024x1024_S1x1024x1024_0_0_0 Gen.shapeCasts_S1x1024x1024_S1024x1024) _)

/-- The reference's second result. -/
theorem reference1 (x : Tiles.Mat 8192 1024) (w : (⟨3, ![2, 1024, 1024]⟩ : Shape).Idx → EReal) : val_main_v9 (F := Ideal) x w = Tiles.nn x (layer 1 w) := by
  funext i
  rw [val_main_v9_apply]
  exact Finset.sum_congr rfl fun k _ => congrArg₂ (· * ·) (congrArg x (ValueIdx.eq_ix2 _)) (congrFun (Launches.layer_eq 1 w Gen.slices_S2x1024x1024_S1x1024x1024_1_0_0 Gen.shapeCasts_S1x1024x1024_S1024x1024) _)

end

/-- The reference runs, keeps its arguments and ends with its counters at zero. -/
theorem frame_reference : Cert.quiescent_ReferenceOutProjIdeal := fun m ρ _ =>
  (θ_run _ _ _).mono (fun r h => ⟨fun c => (h c).2.2, sem_eq_zero_of_no_sems (by decide) r.2⟩) (Cert.ReferenceOutProjIdeal.Value.run m ρ)

/-- Kernel and reference end with the same products. -/
theorem algebraic : Cert.algebraic_KernelOutProjIdeal_ReferenceOutProjIdeal := by
  intro m ρ m' ρ' _ hagree
  refine ⟨_, _, kernel m ρ, (θ_run _ _ _).mono (fun r h c => ?_) (Cert.ReferenceOutProjIdeal.Value.run m' ρ')⟩
  obtain ⟨a0, a1, a2⟩ := hagree c
  exact ⟨(h c).1.trans (((Cert.ReferenceOutProjIdeal.Read.val_main_v4_eq _ _).symm.trans (reference0 _ _)).trans (by rw [a0, a2])),
    (h c).2.1.trans (((Cert.ReferenceOutProjIdeal.Read.val_main_v9_eq _ _).symm.trans (reference1 _ _)).trans (by rw [a1, a2])),
    (h c).2.2⟩

end OutProj

end
-- ==== Proof.OutProjDx.lean ====
module

public import proofs.«01_k».proof.Defs
public import proofs.«01_k».proof.Proof.OutProj
public import proofs.«01_k».proof.Proof.Gen.KernelOutProjDxIdeal.Frame
public import proofs.«01_k».proof.Proof.Gen.ReferenceOutProjDxIdeal.Read
public import proofs.«01_k».proof.Proof.Gen.ReferenceOutProjDxIdeal.Run
public import Idealize.ShloMosaic.Lib.Quiescent
public import Idealize.ShloMosaic.Lib.Pipeline.ValueKit.Point
public import Idealize.ShloMosaic.Lib.Pointwise

@[expose] public section

set_option maxRecDepth 16384

/-! The gradient with respect to the input of the first mixer's output product, in its two layers. -/

noncomputable section

namespace OutProjDx

open Idealize.ShloMosaic Idealize.ShloMosaic.TcCoe Idealize.SL.Sem
open Launches (layer corner3 plus)

section

open Cert.KernelOutProjDxIdeal Cert.KernelOutProjDxIdeal.Gen

/-- What a launch writes to a block of its result: the product of its two blocks. -/
theorem out_at (x : Vec Ideal S512x1024 .bf16) (y : Vec Ideal S1x1024x1024 .bf16) (r : Fin 512) (d : Fin 1024) :
    out0_2 x y (ix2 r d) = ∑ k : Fin 1024, x (ix2 r k) * y (ix3 0 d k) := by
  unfold out0_2
  rw [View.canon_unit_zero Tiles.corner, View.ld_unit_zero (S := S512x1024) Tiles.corner, View.ld_unit_zero (S := S1x1024x1024) corner3]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nt (V c main_arg0) (layer 0 (V c main_arg2)) := by
  refine (dat0 V c).arrAt_eq_of_covers 2 _ (by decide +kernel) fun t _ y => ?_
  have ht : t.val < 16 := lt_of_lt_of_eq t.isLt Gen.N_0
  have h := (by decide +kernel : ∀ t : Fin grid0.N, win0_0.index t = ![t.val / 1, 0] ∧ win0_1.index t = ![0, t.val % 1, 0] ∧ win0_2.index t = ![t.val / 1, t.val % 1]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 1) + r.val, by omega⟩ ⟨1024 * (t.val % 1) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nt (V c main_arg1) (layer 1 (V c main_arg2)) := by
  refine (dat1 V c).arrAt_eq_of_covers 2 _ (by decide +kernel) fun t _ y => ?_
  have ht : t.val < 16 := lt_of_lt_of_eq t.isLt Gen.N_1
  have h := (by decide +kernel : ∀ t : Fin grid1.N, win1_0.index t = ![t.val / 1, 0] ∧ win1_1.index t = ![1, t.val % 1, 0] ∧ win1_2.index t = ![t.val / 1, t.val % 1]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 1) + r.val, by omega⟩ ⟨1024 * (t.val % 1) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

variable (m : (ℓ : Loc nD τ sig) → Buf (Elt Ideal) ℓ) (ρ : Dev nD → PrngReg)

/-- The first launch's result is in memory at the end. -/
theorem result0 : W2 m ρ c (Proc.devRef .tc main_v0) = Tiles.nt (m ((c : Thread nD τ).loc main_arg0)) (layer 0 (m ((c : Thread nD τ).loc main_arg2))) :=
  (((W2_of m ρ c main_v0 (by decide)).trans (W1_arr m ρ c 2)).trans (final0 (V0 m ρ) c)).trans (by
    show Tiles.nt (W0 m ρ c (Proc.devRef .tc main_arg0)) (layer 0 (W0 m ρ c (Proc.devRef .tc main_arg2))) = _
    rw [W0_args m ρ c main_arg0 (by decide), W0_args m ρ c main_arg2 (by decide)])

/-- The second launch's result is in memory at the end. -/
theorem result1 : W2 m ρ c (Proc.devRef .tc main_v1) = Tiles.nt (m ((c : Thread nD τ).loc main_arg1)) (layer 1 (m ((c : Thread nD τ).loc main_arg2))) :=
  ((W2_arr m ρ c 2).trans (final1 (V1 m ρ) c)).trans (by
    show Tiles.nt (W1 m ρ c (Proc.devRef .tc main_arg1)) (layer 1 (W1 m ρ c (Proc.devRef .tc main_arg2))) = _
    rw [W1_args m ρ c main_arg1 (by decide), W1_args m ρ c main_arg2 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nt (m ((c : Thread nD τ).loc main_arg0)) (layer 0 (m ((c : Thread nD τ).loc main_arg2)))
      ∧ r.2.mem ((c : Thread nD τ).loc main_v1) = Tiles.nt (m ((c : Thread nD τ).loc main_arg1)) (layer 1 (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => ⟨
      (h c _ (mem_uc main_v0 (by decide))).trans (result0 c m ρ),
      (h c _ (mem_uc main_v1 (by decide))).trans (result1 c m ρ),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W2 m ρ)
      ⟨fun _ => .rfl, fun _ => .rfl, fun _ => .rfl⟩)

end

section

open Cert.ReferenceOutProjDxIdeal Cert.ReferenceOutProjDxIdeal.Read

/-- The reference's first result. -/
theorem reference0 (x : Tiles.Mat 8192 1024) (w : (⟨3, ![2, 1024, 1024]⟩ : Shape).Idx → EReal) : val_main_v6 (F := Ideal) x w = Tiles.nt x (layer 0 w) := by
  funext i
  rw [val_main_v6_apply]
  exact Finset.sum_congr rfl fun k _ => congrArg₂ (· * ·) (congrArg x (ValueIdx.eq_ix2 _)) (congrFun (Launches.layer_eq 0 w Gen.slices_S2x1024x1024_S1x1024x1024_0_0_0 Gen.shapeCasts_S1x1024x1024_S1024x1024) _)

/-- The reference's second result. -/
theorem reference1 (x : Tiles.Mat 8192 1024) (w : (⟨3, ![2, 1024, 1024]⟩ : Shape).Idx → EReal) : val_main_v12 (F := Ideal) x w = Tiles.nt x (layer 1 w) := by
  funext i
  rw [val_main_v12_apply]
  exact Finset.sum_congr rfl fun k _ => congrArg₂ (· * ·) (congrArg x (ValueIdx.eq_ix2 _)) (congrFun (Launches.layer_eq 1 w Gen.slices_S2x1024x1024_S1x1024x1024_1_0_0 Gen.shapeCasts_S1x1024x1024_S1024x1024) _)

end

/-- The reference runs, keeps its arguments and ends with its counters at zero. -/
theorem frame_reference : Cert.quiescent_ReferenceOutProjDxIdeal := fun m ρ _ =>
  (θ_run _ _ _).mono (fun r h => ⟨fun c => (h c).2.2, sem_eq_zero_of_no_sems (by decide) r.2⟩) (Cert.ReferenceOutProjDxIdeal.Value.run m ρ)

/-- Kernel and reference end with the same products. -/
theorem algebraic : Cert.algebraic_KernelOutProjDxIdeal_ReferenceOutProjDxIdeal := by
  intro m ρ m' ρ' _ hagree
  refine ⟨_, _, kernel m ρ, (θ_run _ _ _).mono (fun r h c => ?_) (Cert.ReferenceOutProjDxIdeal.Value.run m' ρ')⟩
  obtain ⟨a0, a1, a2⟩ := hagree c
  exact ⟨(h c).1.trans (((Cert.ReferenceOutProjDxIdeal.Read.val_main_v6_eq _ _).symm.trans (reference0 _ _)).trans (by rw [a0, a2])),
    (h c).2.1.trans (((Cert.ReferenceOutProjDxIdeal.Read.val_main_v12_eq _ _).symm.trans (reference1 _ _)).trans (by rw [a1, a2])),
    (h c).2.2⟩

end OutProjDx

end
-- ==== Proof.SbOutProjDx.lean ====
module

public import proofs.«01_k».proof.Defs
public import proofs.«01_k».proof.Proof.OutProjDx
public import proofs.«01_k».proof.Proof.Gen.KernelSbOutProjDxIdeal.Frame
public import proofs.«01_k».proof.Proof.Gen.ReferenceSbOutProjDxIdeal.Read
public import proofs.«01_k».proof.Proof.Gen.ReferenceSbOutProjDxIdeal.Run
public import Idealize.ShloMosaic.Lib.Quiescent
public import Idealize.ShloMosaic.Lib.Pipeline.ValueKit.Point
public import Idealize.ShloMosaic.Lib.Pointwise

@[expose] public section

set_option maxRecDepth 16384

/-! The gradient, transposed, with respect to the input of the attention's output product, in its two layers. -/

noncomputable section

namespace SbOutProjDx

open Idealize.ShloMosaic Idealize.ShloMosaic.TcCoe Idealize.SL.Sem
open Launches (layer corner3 plus)

section

open Cert.KernelSbOutProjDxIdeal Cert.KernelSbOutProjDxIdeal.Gen

/-- What a launch writes to a block of its result: the product of its two blocks. -/
theorem out_at (x : Vec Ideal S1x512x1024 .bf16) (y : Vec Ideal S1024x1024 .bf16) (r : Fin 512) (d : Fin 1024) :
    out0_2 x y (ix2 r d) = ∑ k : Fin 1024, x (ix3 0 r k) * y (ix2 d k) := by
  unfold out0_2
  rw [View.canon_unit_zero Tiles.corner, View.ld_unit_zero (S := S1x512x1024) corner3, View.ld_unit_zero (S := S1024x1024) Tiles.corner]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nt (layer 0 (V c main_arg2)) (V c main_arg0) := by
  refine (dat0 V c).arrAt_eq_of_covers 2 _ (by decide +kernel) fun t _ y => ?_
  have ht : t.val < 16 := lt_of_lt_of_eq t.isLt Gen.N_0
  have h := (by decide +kernel : ∀ t : Fin grid0.N, win0_0.index t = ![0, t.val / 8, 0] ∧ win0_1.index t = ![t.val % 8, 0] ∧ win0_2.index t = ![t.val / 8, t.val % 8]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 8) + r.val, by omega⟩ ⟨1024 * (t.val % 8) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nt (layer 1 (V c main_arg2)) (V c main_arg1) := by
  refine (dat1 V c).arrAt_eq_of_covers 2 _ (by decide +kernel) fun t _ y => ?_
  have ht : t.val < 16 := lt_of_lt_of_eq t.isLt Gen.N_1
  have h := (by decide +kernel : ∀ t : Fin grid1.N, win1_0.index t = ![1, t.val / 8, 0] ∧ win1_1.index t = ![t.val % 8, 0] ∧ win1_2.index t = ![t.val / 8, t.val % 8]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 8) + r.val, by omega⟩ ⟨1024 * (t.val % 8) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

variable (m : (ℓ : Loc nD τ sig) → Buf (Elt Ideal) ℓ) (ρ : Dev nD → PrngReg)

/-- The first launch's result is in memory at the end. -/
theorem result0 : W2 m ρ c (Proc.devRef .tc main_v0) = Tiles.nt (layer 0 (m ((c : Thread nD τ).loc main_arg2))) (m ((c : Thread nD τ).loc main_arg0)) :=
  (((W2_of m ρ c main_v0 (by decide)).trans (W1_arr m ρ c 2)).trans (final0 (V0 m ρ) c)).trans (by
    show Tiles.nt (layer 0 (W0 m ρ c (Proc.devRef .tc main_arg2))) (W0 m ρ c (Proc.devRef .tc main_arg0)) = _
    rw [W0_args m ρ c main_arg0 (by decide), W0_args m ρ c main_arg2 (by decide)])

/-- The second launch's result is in memory at the end. -/
theorem result1 : W2 m ρ c (Proc.devRef .tc main_v1) = Tiles.nt (layer 1 (m ((c : Thread nD τ).loc main_arg2))) (m ((c : Thread nD τ).loc main_arg1)) :=
  ((W2_arr m ρ c 2).trans (final1 (V1 m ρ) c)).trans (by
    show Tiles.nt (layer 1 (W1 m ρ c (Proc.devRef .tc main_arg2))) (W1 m ρ c (Proc.devRef .tc main_arg1)) = _
    rw [W1_args m ρ c main_arg1 (by decide), W1_args m ρ c main_arg2 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nt (layer 0 (m ((c : Thread nD τ).loc main_arg2))) (m ((c : Thread nD τ).loc main_arg0))
      ∧ r.2.mem ((c : Thread nD τ).loc main_v1) = Tiles.nt (layer 1 (m ((c : Thread nD τ).loc main_arg2))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => ⟨
      (h c _ (mem_uc main_v0 (by decide))).trans (result0 c m ρ),
      (h c _ (mem_uc main_v1 (by decide))).trans (result1 c m ρ),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W2 m ρ)
      ⟨fun _ => .rfl, fun _ => .rfl, fun _ => .rfl⟩)

end

section

open Cert.ReferenceSbOutProjDxIdeal Cert.ReferenceSbOutProjDxIdeal.Read

/-- The reference's first result. -/
theorem reference0 (x : Tiles.Mat 8192 1024) (w : (⟨3, ![2, 1024, 1024]⟩ : Shape).Idx → EReal) : val_main_v8 (F := Ideal) x w = Tiles.nt (layer 0 w) x := by
  funext i
  rw [val_main_v8_apply, val_main_v7_apply, val_main_v6_apply]
  exact Finset.sum_congr rfl fun k _ => (mul_comm _ _).trans (congrArg₂ (· * ·) (congrFun (Launches.layer_eq 0 w Gen.slices_S2x1024x1024_S1x1024x1024_0_0_0 Gen.shapeCasts_S1x1024x1024_S1024x1024) _) (congrArg x (ValueIdx.eq_ix2 _)))

/-- The reference's second result. -/
theorem reference1 (x : Tiles.Mat 8192 1024) (w : (⟨3, ![2, 1024, 1024]⟩ : Shape).Idx → EReal) : val_main_v16 (F := Ideal) x w = Tiles.nt (layer 1 w) x := by
  funext i
  rw [val_main_v16_apply, val_main_v15_apply, val_main_v14_apply]
  exact Finset.sum_congr rfl fun k _ => (mul_comm _ _).trans (congrArg₂ (· * ·) (congrFun (Launches.layer_eq 1 w Gen.slices_S2x1024x1024_S1x1024x1024_1_0_0 Gen.shapeCasts_S1x1024x1024_S1024x1024) _) (congrArg x (ValueIdx.eq_ix2 _)))

end

/-- The reference runs, keeps its arguments and ends with its counters at zero. -/
theorem frame_reference : Cert.quiescent_ReferenceSbOutProjDxIdeal := fun m ρ _ =>
  (θ_run _ _ _).mono (fun r h => ⟨fun c => (h c).2.2, sem_eq_zero_of_no_sems (by decide) r.2⟩) (Cert.ReferenceSbOutProjDxIdeal.Value.run m ρ)

/-- Kernel and reference end with the same products. -/
theorem algebraic : Cert.algebraic_KernelSbOutProjDxIdeal_ReferenceSbOutProjDxIdeal := by
  intro m ρ m' ρ' _ hagree
  refine ⟨_, _, kernel m ρ, (θ_run _ _ _).mono (fun r h c => ?_) (Cert.ReferenceSbOutProjDxIdeal.Value.run m' ρ')⟩
  obtain ⟨a0, a1, a2⟩ := hagree c
  exact ⟨(h c).1.trans (((Cert.ReferenceSbOutProjDxIdeal.Read.val_main_v8_eq _ _).symm.trans (reference0 _ _)).trans (by rw [a0, a2])),
    (h c).2.1.trans (((Cert.ReferenceSbOutProjDxIdeal.Read.val_main_v16_eq _ _).symm.trans (reference1 _ _)).trans (by rw [a1, a2])),
    (h c).2.2⟩

end SbOutProjDx

end
-- ==== Proof.MemKv.lean ====
module

public import proofs.«01_k».proof.Defs
public import proofs.«01_k».proof.Proof.SbOutProjDx
public import proofs.«01_k».proof.Proof.Gen.KernelMemKvIdeal.Frame
public import proofs.«01_k».proof.Proof.Gen.ReferenceMemKvIdeal.Read
public import proofs.«01_k».proof.Proof.Gen.ReferenceMemKvIdeal.Run
public import Idealize.ShloMosaic.Lib.Quiescent
public import Idealize.ShloMosaic.Lib.Pipeline.ValueKit.Point
public import Idealize.ShloMosaic.Lib.Pointwise

@[expose] public section

set_option maxRecDepth 16384

/-! The memory attention's keys and values, in the four layers. -/

noncomputable section

namespace MemKv

open Idealize.ShloMosaic Idealize.ShloMosaic.TcCoe Idealize.SL.Sem
open Launches (layer corner3 plus)

section

open Cert.KernelMemKvIdeal Cert.KernelMemKvIdeal.Gen

/-- What a launch writes to a block of its result: the product of its two blocks. -/
theorem out_at (x : Vec Ideal S512x1024 .f32) (y : Vec Ideal S1x1024x1024 .bf16) (r : Fin 512) (d : Fin 1024) :
    out0_2 x y (ix2 r d) = ∑ k : Fin 1024, x (ix2 r k) * y (ix3 0 k d) := by
  unfold out0_2
  rw [View.canon_unit_zero Tiles.corner, View.ld_unit_zero (S := S512x1024) Tiles.corner, View.ld_unit_zero (S := S1x1024x1024) corner3]
  pointwise [k0_pay1]

variable (V : (c : Dev nD) → (b : Ref sig .tc) → Buf (Elt Ideal) ((c : Thread nD τ).loc b)) (c : Dev nD)

/-- The first launch's result. -/
theorem final0 : (dat0 V c).arrAt 2 cfg0.N = Tiles.nn (V c main_arg0) (layer 0 (V c main_arg1)) := by
  refine (dat0 V c).arrAt_eq_of_covers 2 _ (by decide +kernel) fun t _ y => ?_
  have ht : t.val < 1 := lt_of_lt_of_eq t.isLt Gen.N_0
  have h := (by decide +kernel : ∀ t : Fin grid0.N, win0_0.index t = ![t.val / 1, 0] ∧ win0_1.index t = ![0, 0, t.val % 1] ∧ win0_2.index t = ![t.val / 1, t.val % 1]) t
  obtain ⟨r, d, rfl⟩ : ∃ (r : Fin 512) (d : Fin 1024), y = ix2 r d := ⟨y 0, y 1, ValueIdx.eq_ix2 y⟩
  have e : (win0_2.blk t).view.emb (ix2 r d) = ix2 ⟨512 * (t.val / 1) + r.val, by omega⟩ ⟨1024 * (t.val % 1) + d.val, by omega⟩ := by
    blk_ext [h]
  blk_simp
  rw [e, after0_2]
  refine (out_at _ _ r d).trans (Finset.sum_congr rfl fun k _ => congrArg₂ (· * ·) ?_ ?_) <;>
  · dsimp only [ix2, ix3]
    blk_ext! [iblk0, h]

/-- The second launch's result. -/
theorem final1 : (dat1 V c).arrAt 2 cfg1.N = Tiles.nn (V c main_arg0) (layer 0 (V c main_arg2)) := by
  refine (dat1 V c).arrAt_eq_of_covers 2 _ (by decide +kernel) fun t _ y => ?_
  have ht : t.val < 1 := lt_of_lt_of_eq t.isLt Gen.N_1
  have h := (by decide +kernel : ∀ t : Fin grid1.N, win1_0.index t = ![t.val / 1, 0] ∧ win1_1.index t = ![0, 0, t.val % 1] ∧ win1_2.index t = ![t.val / 1, t.val % 1]) t
  obtain ⟨r, d, rfl⟩ : ∃ (r : Fin 512) (d : Fin 1024), y = ix2 r d := ⟨y 0, y 1, ValueIdx.eq_ix2 y⟩
  have e : (win1_2.blk t).view.emb (ix2 r d) = ix2 ⟨512 * (t.val / 1) + r.val, by omega⟩ ⟨1024 * (t.val % 1) + d.val, by omega⟩ := by
    blk_ext [h]
  blk_simp
  rw [e, after1_2]
  refine (out_at _ _ r d).trans (Finset.sum_congr rfl fun k _ => congrArg₂ (· * ·) ?_ ?_) <;>
  · dsimp only [ix2, ix3]
    blk_ext! [iblk1, h]

/-- The third launch's result. -/
theorem final2 : (dat2 V c).arrAt 2 cfg2.N = Tiles.nn (V c main_arg0) (layer 1 (V c main_arg1)) := by
  refine (dat2 V c).arrAt_eq_of_covers 2 _ (by decide +kernel) fun t _ y => ?_
  have ht : t.val < 1 := lt_of_lt_of_eq t.isLt Gen.N_2
  have h := (by decide +kernel : ∀ t : Fin grid2.N, win2_0.index t = ![t.val / 1, 0] ∧ win2_1.index t = ![1, 0, t.val % 1] ∧ win2_2.index t = ![t.val / 1, t.val % 1]) t
  obtain ⟨r, d, rfl⟩ : ∃ (r : Fin 512) (d : Fin 1024), y = ix2 r d := ⟨y 0, y 1, ValueIdx.eq_ix2 y⟩
  have e : (win2_2.blk t).view.emb (ix2 r d) = ix2 ⟨512 * (t.val / 1) + r.val, by omega⟩ ⟨1024 * (t.val % 1) + d.val, by omega⟩ := by
    blk_ext [h]
  blk_simp
  rw [e, after2_2]
  refine (out_at _ _ r d).trans (Finset.sum_congr rfl fun k _ => congrArg₂ (· * ·) ?_ ?_) <;>
  · dsimp only [ix2, ix3]
    blk_ext! [iblk2, h]

/-- The fourth launch's result. -/
theorem final3 : (dat3 V c).arrAt 2 cfg3.N = Tiles.nn (V c main_arg0) (layer 1 (V c main_arg2)) := by
  refine (dat3 V c).arrAt_eq_of_covers 2 _ (by decide +kernel) fun t _ y => ?_
  have ht : t.val < 1 := lt_of_lt_of_eq t.isLt Gen.N_3
  have h := (by decide +kernel : ∀ t : Fin grid3.N, win3_0.index t = ![t.val / 1, 0] ∧ win3_1.index t = ![1, 0, t.val % 1] ∧ win3_2.index t = ![t.val / 1, t.val % 1]) t
  obtain ⟨r, d, rfl⟩ : ∃ (r : Fin 512) (d : Fin 1024), y = ix2 r d := ⟨y 0, y 1, ValueIdx.eq_ix2 y⟩
  have e : (win3_2.blk t).view.emb (ix2 r d) = ix2 ⟨512 * (t.val / 1) + r.val, by omega⟩ ⟨1024 * (t.val % 1) + d.val, by omega⟩ := by
    blk_ext [h]
  blk_simp
  rw [e, after3_2]
  refine (out_at _ _ r d).trans (Finset.sum_congr rfl fun k _ => congrArg₂ (· * ·) ?_ ?_) <;>
  · dsimp only [ix2, ix3]
    blk_ext! [iblk3, h]

/-- The fifth launch's result. -/
theorem final4 : (dat4 V c).arrAt 2 cfg4.N = Tiles.nn (V c main_arg0) (layer 2 (V c main_arg1)) := by
  refine (dat4 V c).arrAt_eq_of_covers 2 _ (by decide +kernel) fun t _ y => ?_
  have ht : t.val < 1 := lt_of_lt_of_eq t.isLt Gen.N_4
  have h := (by decide +kernel : ∀ t : Fin grid4.N, win4_0.index t = ![t.val / 1, 0] ∧ win4_1.index t = ![2, 0, t.val % 1] ∧ win4_2.index t = ![t.val / 1, t.val % 1]) t
  obtain ⟨r, d, rfl⟩ : ∃ (r : Fin 512) (d : Fin 1024), y = ix2 r d := ⟨y 0, y 1, ValueIdx.eq_ix2 y⟩
  have e : (win4_2.blk t).view.emb (ix2 r d) = ix2 ⟨512 * (t.val / 1) + r.val, by omega⟩ ⟨1024 * (t.val % 1) + d.val, by omega⟩ := by
    blk_ext [h]
  blk_simp
  rw [e, after4_2]
  refine (out_at _ _ r d).trans (Finset.sum_congr rfl fun k _ => congrArg₂ (· * ·) ?_ ?_) <;>
  · dsimp only [ix2, ix3]
    blk_ext! [iblk4, h]

/-- The sixth launch's result. -/
theorem final5 : (dat5 V c).arrAt 2 cfg5.N = Tiles.nn (V c main_arg0) (layer 2 (V c main_arg2)) := by
  refine (dat5 V c).arrAt_eq_of_covers 2 _ (by decide +kernel) fun t _ y => ?_
  have ht : t.val < 1 := lt_of_lt_of_eq t.isLt Gen.N_5
  have h := (by decide +kernel : ∀ t : Fin grid5.N, win5_0.index t = ![t.val / 1, 0] ∧ win5_1.index t = ![2, 0, t.val % 1] ∧ win5_2.index t = ![t.val / 1, t.val % 1]) t
  obtain ⟨r, d, rfl⟩ : ∃ (r : Fin 512) (d : Fin 1024), y = ix2 r d := ⟨y 0, y 1, ValueIdx.eq_ix2 y⟩
  have e : (win5_2.blk t).view.emb (ix2 r d) = ix2 ⟨512 * (t.val / 1) + r.val, by omega⟩ ⟨1024 * (t.val % 1) + d.val, by omega⟩ := by
    blk_ext [h]
  blk_simp
  rw [e, after5_2]
  refine (out_at _ _ r d).trans (Finset.sum_congr rfl fun k _ => congrArg₂ (· * ·) ?_ ?_) <;>
  · dsimp only [ix2, ix3]
    blk_ext! [iblk5, h]

/-- The seventh launch's result. -/
theorem final6 : (dat6 V c).arrAt 2 cfg6.N = Tiles.nn (V c main_arg0) (layer 3 (V c main_arg1)) := by
  refine (dat6 V c).arrAt_eq_of_covers 2 _ (by decide +kernel) fun t _ y => ?_
  have ht : t.val < 1 := lt_of_lt_of_eq t.isLt Gen.N_6
  have h := (by decide +kernel : ∀ t : Fin grid6.N, win6_0.index t = ![t.val / 1, 0] ∧ win6_1.index t = ![3, 0, t.val % 1] ∧ win6_2.index t = ![t.val / 1, t.val % 1]) t
  obtain ⟨r, d, rfl⟩ : ∃ (r : Fin 512) (d : Fin 1024), y = ix2 r d := ⟨y 0, y 1, ValueIdx.eq_ix2 y⟩
  have e : (win6_2.blk t).view.emb (ix2 r d) = ix2 ⟨512 * (t.val / 1) + r.val, by omega⟩ ⟨1024 * (t.val % 1) + d.val, by omega⟩ := by
    blk_ext [h]
  blk_simp
  rw [e, after6_2]
  refine (out_at _ _ r d).trans (Finset.sum_congr rfl fun k _ => congrArg₂ (· * ·) ?_ ?_) <;>
  · dsimp only [ix2, ix3]
    blk_ext! [iblk6, h]

/-- The eighth launch's result. -/
theorem final7 : (dat7 V c).arrAt 2 cfg7.N = Tiles.nn (V c main_arg0) (layer 3 (V c main_arg2)) := by
  refine (dat7 V c).arrAt_eq_of_covers 2 _ (by decide +kernel) fun t _ y => ?_
  have ht : t.val < 1 := lt_of_lt_of_eq t.isLt Gen.N_7
  have h := (by decide +kernel : ∀ t : Fin grid7.N, win7_0.index t = ![t.val / 1, 0] ∧ win7_1.index t = ![3, 0, t.val % 1] ∧ win7_2.index t = ![t.val / 1, t.val % 1]) t
  obtain ⟨r, d, rfl⟩ : ∃ (r : Fin 512) (d : Fin 1024), y = ix2 r d := ⟨y 0, y 1, ValueIdx.eq_ix2 y⟩
  have e : (win7_2.blk t).view.emb (ix2 r d) = ix2 ⟨512 * (t.val / 1) + r.val, by omega⟩ ⟨1024 * (t.val % 1) + d.val, by omega⟩ := by
    blk_ext [h]
  blk_simp
  rw [e, after7_2]
  refine (out_at _ _ r d).trans (Finset.sum_congr rfl fun k _ => congrArg₂ (· * ·) ?_ ?_) <;>
  · dsimp only [ix2, ix3]
    blk_ext! [iblk7, h]

variable (m : (ℓ : Loc nD τ sig) → Buf (Elt Ideal) ℓ) (ρ : Dev nD → PrngReg)

/-- The first launch's result is in memory at the end. -/
theorem result0 : W8 m ρ c (Proc.devRef .tc main_v0) = Tiles.nn (m ((c : Thread nD τ).loc main_arg0)) (layer 0 (m ((c : Thread nD τ).loc main_arg1))) :=
  (((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (W1_arr m ρ c 2)))))))).trans (final0 (V0 m ρ) c)).trans (by
    show Tiles.nn (W0 m ρ c (Proc.devRef .tc main_arg0)) (layer 0 (W0 m ρ c (Proc.devRef .tc main_arg1))) = _
    rw [W0_args m ρ c main_arg0 (by decide), W0_args m ρ c main_arg1 (by decide)])

/-- The second launch's result is in memory at the end. -/
theorem result1 : W8 m ρ c (Proc.devRef .tc main_v1) = Tiles.nn (m ((c : Thread nD τ).loc main_arg0)) (layer 0 (m ((c : Thread nD τ).loc main_arg2))) :=
  (((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_arr m ρ c 2))))))).trans (final1 (V1 m ρ) c)).trans (by
    show Tiles.nn (W1 m ρ c (Proc.devRef .tc main_arg0)) (layer 0 (W1 m ρ c (Proc.devRef .tc main_arg2))) = _
    rw [W1_args m ρ c main_arg0 (by decide), W1_args m ρ c main_arg2 (by decide)])

/-- The third launch's result is in memory at the end. -/
theorem result2 : W8 m ρ c (Proc.devRef .tc main_v2) = Tiles.nn (m ((c : Thread nD τ).loc main_arg0)) (layer 1 (m ((c : Thread nD τ).loc main_arg1))) :=
  (((W8_of m ρ c main_v2 (by decide)).trans ((W7_of m ρ c main_v2 (by decide)).trans ((W6_of m ρ c main_v2 (by decide)).trans ((W5_of m ρ c main_v2 (by decide)).trans ((W4_of m ρ c main_v2 (by decide)).trans (W3_arr m ρ c 2)))))).trans (final2 (V2 m ρ) c)).trans (by
    show Tiles.nn (W2 m ρ c (Proc.devRef .tc main_arg0)) (layer 1 (W2 m ρ c (Proc.devRef .tc main_arg1))) = _
    rw [W2_args m ρ c main_arg0 (by decide), W2_args m ρ c main_arg1 (by decide)])

/-- The fourth launch's result is in memory at the end. -/
theorem result3 : W8 m ρ c (Proc.devRef .tc main_v3) = Tiles.nn (m ((c : Thread nD τ).loc main_arg0)) (layer 1 (m ((c : Thread nD τ).loc main_arg2))) :=
  (((W8_of m ρ c main_v3 (by decide)).trans ((W7_of m ρ c main_v3 (by decide)).trans ((W6_of m ρ c main_v3 (by decide)).trans ((W5_of m ρ c main_v3 (by decide)).trans (W4_arr m ρ c 2))))).trans (final3 (V3 m ρ) c)).trans (by
    show Tiles.nn (W3 m ρ c (Proc.devRef .tc main_arg0)) (layer 1 (W3 m ρ c (Proc.devRef .tc main_arg2))) = _
    rw [W3_args m ρ c main_arg0 (by decide), W3_args m ρ c main_arg2 (by decide)])

/-- The fifth launch's result is in memory at the end. -/
theorem result4 : W8 m ρ c (Proc.devRef .tc main_v4) = Tiles.nn (m ((c : Thread nD τ).loc main_arg0)) (layer 2 (m ((c : Thread nD τ).loc main_arg1))) :=
  (((W8_of m ρ c main_v4 (by decide)).trans ((W7_of m ρ c main_v4 (by decide)).trans ((W6_of m ρ c main_v4 (by decide)).trans (W5_arr m ρ c 2)))).trans (final4 (V4 m ρ) c)).trans (by
    show Tiles.nn (W4 m ρ c (Proc.devRef .tc main_arg0)) (layer 2 (W4 m ρ c (Proc.devRef .tc main_arg1))) = _
    rw [W4_args m ρ c main_arg0 (by decide), W4_args m ρ c main_arg1 (by decide)])

/-- The sixth launch's result is in memory at the end. -/
theorem result5 : W8 m ρ c (Proc.devRef .tc main_v5) = Tiles.nn (m ((c : Thread nD τ).loc main_arg0)) (layer 2 (m ((c : Thread nD τ).loc main_arg2))) :=
  (((W8_of m ρ c main_v5 (by decide)).trans ((W7_of m ρ c main_v5 (by decide)).trans (W6_arr m ρ c 2))).trans (final5 (V5 m ρ) c)).trans (by
    show Tiles.nn (W5 m ρ c (Proc.devRef .tc main_arg0)) (layer 2 (W5 m ρ c (Proc.devRef .tc main_arg2))) = _
    rw [W5_args m ρ c main_arg0 (by decide), W5_args m ρ c main_arg2 (by decide)])

/-- The seventh launch's result is in memory at the end. -/
theorem result6 : W8 m ρ c (Proc.devRef .tc main_v6) = Tiles.nn (m ((c : Thread nD τ).loc main_arg0)) (layer 3 (m ((c : Thread nD τ).loc main_arg1))) :=
  (((W8_of m ρ c main_v6 (by decide)).trans (W7_arr m ρ c 2)).trans (final6 (V6 m ρ) c)).trans (by
    show Tiles.nn (W6 m ρ c (Proc.devRef .tc main_arg0)) (layer 3 (W6 m ρ c (Proc.devRef .tc main_arg1))) = _
    rw [W6_args m ρ c main_arg0 (by decide), W6_args m ρ c main_arg1 (by decide)])

/-- The eighth launch's result is in memory at the end. -/
theorem result7 : W8 m ρ c (Proc.devRef .tc main_v7) = Tiles.nn (m ((c : Thread nD τ).loc main_arg0)) (layer 3 (m ((c : Thread nD τ).loc main_arg2))) :=
  ((W8_arr m ρ c 2).trans (final7 (V7 m ρ) c)).trans (by
    show Tiles.nn (W7 m ρ c (Proc.devRef .tc main_arg0)) (layer 3 (W7 m ρ c (Proc.devRef .tc main_arg2))) = _
    rw [W7_args m ρ c main_arg0 (by decide), W7_args m ρ c main_arg2 (by decide)])

set_option backward.isDefEq.respectTransparency.types false in
/-- The launches end with their results in memory and their arguments as they were. -/
theorem kernel : θ_run (defs (F := Ideal)) (onTc (τ := τ) (main (F := Ideal))) ⟨m, fun _ => 0, ρ⟩ fun r => ∀ c : Dev nD,
      r.2.mem ((c : Thread nD τ).loc main_v0) = Tiles.nn (m ((c : Thread nD τ).loc main_arg0)) (layer 0 (m ((c : Thread nD τ).loc main_arg1)))
      ∧ r.2.mem ((c : Thread nD τ).loc main_v1) = Tiles.nn (m ((c : Thread nD τ).loc main_arg0)) (layer 0 (m ((c : Thread nD τ).loc main_arg2)))
      ∧ r.2.mem ((c : Thread nD τ).loc main_v2) = Tiles.nn (m ((c : Thread nD τ).loc main_arg0)) (layer 1 (m ((c : Thread nD τ).loc main_arg1)))
      ∧ r.2.mem ((c : Thread nD τ).loc main_v3) = Tiles.nn (m ((c : Thread nD τ).loc main_arg0)) (layer 1 (m ((c : Thread nD τ).loc main_arg2)))
      ∧ r.2.mem ((c : Thread nD τ).loc main_v4) = Tiles.nn (m ((c : Thread nD τ).loc main_arg0)) (layer 2 (m ((c : Thread nD τ).loc main_arg1)))
      ∧ r.2.mem ((c : Thread nD τ).loc main_v5) = Tiles.nn (m ((c : Thread nD τ).loc main_arg0)) (layer 2 (m ((c : Thread nD τ).loc main_arg2)))
      ∧ r.2.mem ((c : Thread nD τ).loc main_v6) = Tiles.nn (m ((c : Thread nD τ).loc main_arg0)) (layer 3 (m ((c : Thread nD τ).loc main_arg1)))
      ∧ r.2.mem ((c : Thread nD τ).loc main_v7) = Tiles.nn (m ((c : Thread nD τ).loc main_arg0)) (layer 3 (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => ⟨
      (h c _ (mem_uc main_v0 (by decide))).trans (result0 c m ρ),
      (h c _ (mem_uc main_v1 (by decide))).trans (result1 c m ρ),
      (h c _ (mem_uc main_v2 (by decide))).trans (result2 c m ρ),
      (h c _ (mem_uc main_v3 (by decide))).trans (result3 c m ρ),
      (h c _ (mem_uc main_v4 (by decide))).trans (result4 c m ρ),
      (h c _ (mem_uc main_v5 (by decide))).trans (result5 c m ρ),
      (h c _ (mem_uc main_v6 (by decide))).trans (result6 c m ρ),
      (h c _ (mem_uc main_v7 (by decide))).trans (result7 c m ρ),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c)⟩)
    (Launches.run pcfgs adm (pdats m ρ) cellOf_inj defs₀ m ρ main (segs m ρ) (main_run m ρ)
      (by simp only [segs, Pipeline.Seg.pipes_host, Pipeline.Seg.pipes_region, Pipeline.Seg.pipes_nil]; decide) (W8 m ρ)
      ⟨fun _ => .rfl, fun _ => .rfl, fun _ => .rfl, fun _ => .rfl, fun _ => .rfl, fun _ => .rfl, fun _ => .rfl, fun _ => .rfl, fun _ => .rfl⟩)

end

section

open Cert.ReferenceMemKvIdeal Cert.ReferenceMemKvIdeal.Read

/-- The reference's first result. -/
theorem reference0 (x : Tiles.Mat 512 1024) (w : (⟨3, ![4, 1024, 1024]⟩ : Shape).Idx → EReal) : val_main_v4 (F := Ideal) x w = Tiles.nn x (layer 0 w) := by
  funext i
  rw [val_main_v4_apply, val_main_v3_apply]
  exact Finset.sum_congr rfl fun k _ => congrArg₂ (· * ·) (congrArg x (ValueIdx.eq_ix2 _)) (congrFun (Launches.layer_eq 0 w Gen.slices_S4x1024x1024_S1x1024x1024_0_0_0 Gen.shapeCasts_S1x1024x1024_S1024x1024) _)

/-- The reference's second result. -/
theorem reference1 (x : Tiles.Mat 512 1024) (w : (⟨3, ![4, 1024, 1024]⟩ : Shape).Idx → EReal) : val_main_v9 (F := Ideal) x w = Tiles.nn x (layer 0 w) := by
  funext i
  rw [val_main_v9_apply, val_main_v8_apply]
  exact Finset.sum_congr rfl fun k _ => congrArg₂ (· * ·) (congrArg x (ValueIdx.eq_ix2 _)) (congrFun (Launches.layer_eq 0 w Gen.slices_S4x1024x1024_S1x1024x1024_0_0_0 Gen.shapeCasts_S1x1024x1024_S1024x1024) _)

/-- The reference's third result. -/
theorem reference2 (x : Tiles.Mat 512 1024) (w : (⟨3, ![4, 1024, 1024]⟩ : Shape).Idx → EReal) : val_main_v14 (F := Ideal) x w = Tiles.nn x (layer 1 w) := by
  funext i
  rw [val_main_v14_apply, val_main_v13_apply]
  exact Finset.sum_congr rfl fun k _ => congrArg₂ (· * ·) (congrArg x (ValueIdx.eq_ix2 _)) (congrFun (Launches.layer_eq 1 w Gen.slices_S4x1024x1024_S1x1024x1024_1_0_0 Gen.shapeCasts_S1x1024x1024_S1024x1024) _)

/-- The reference's fourth result. -/
theorem reference3 (x : Tiles.Mat 512 1024) (w : (⟨3, ![4, 1024, 1024]⟩ : Shape).Idx → EReal) : val_main_v19 (F := Ideal) x w = Tiles.nn x (layer 1 w) := by
  funext i
  rw [val_main_v19_apply, val_main_v18_apply]
  exact Finset.sum_congr rfl fun k _ => congrArg₂ (· * ·) (congrArg x (ValueIdx.eq_ix2 _)) (congrFun (Launches.layer_eq 1 w Gen.slices_S4x1024x1024_S1x1024x1024_1_0_0 Gen.shapeCasts_S1x1024x1024_S1024x1024) _)

/-- The reference's fifth result. -/
theorem reference4 (x : Tiles.Mat 512 1024) (w : (⟨3, ![4, 1024, 1024]⟩ : Shape).Idx → EReal) : val_main_v24 (F := Ideal) x w = Tiles.nn x (layer 2 w) := by
  funext i
  rw [val_main_v24_apply, val_main_v23_apply]
  exact Finset.sum_congr rfl fun k _ => congrArg₂ (· * ·) (congrArg x (ValueIdx.eq_ix2 _)) (congrFun (Launches.layer_eq 2 w Gen.slices_S4x1024x1024_S1x1024x1024_2_0_0 Gen.shapeCasts_S1x1024x1024_S1024x1024) _)

/-- The reference's sixth result. -/
theorem reference5 (x : Tiles.Mat 512 1024) (w : (⟨3, ![4, 1024, 1024]⟩ : Shape).Idx → EReal) : val_main_v29 (F := Ideal) x w = Tiles.nn x (layer 2 w) := by
  funext i
  rw [val_main_v29_apply, val_main_v28_apply]
  exact Finset.sum_congr rfl fun k _ => congrArg₂ (· * ·) (congrArg x (ValueIdx.eq_ix2 _)) (congrFun (Launches.layer_eq 2 w Gen.slices_S4x1024x1024_S1x1024x1024_2_0_0 Gen.shapeCasts_S1x1024x1024_S1024x1024) _)

/-- The reference's seventh result. -/
theorem reference6 (x : Tiles.Mat 512 1024) (w : (⟨3, ![4, 1024, 1024]⟩ : Shape).Idx → EReal) : val_main_v34 (F := Ideal) x w = Tiles.nn x (layer 3 w) := by
  funext i
  rw [val_main_v34_apply, val_main_v33_apply]
  exact Finset.sum_congr rfl fun k _ => congrArg₂ (· * ·) (congrArg x (ValueIdx.eq_ix2 _)) (congrFun (Launches.layer_eq 3 w Gen.slices_S4x1024x1024_S1x1024x1024_3_0_0 Gen.shapeCasts_S1x1024x1024_S1024x1024) _)

/-- The reference's eighth result. -/
theorem reference7 (x : Tiles.Mat 512 1024) (w : (⟨3, ![4, 1024, 1024]⟩ : Shape).Idx → EReal) : val_main_v39 (F := Ideal) x w = Tiles.nn x (layer 3 w) := by
  funext i
  rw [val_main_v39_apply, val_main_v38_apply]
  exact Finset.sum_congr rfl fun k _ => congrArg₂ (· * ·) (congrArg x (ValueIdx.eq_ix2 _)) (congrFun (Launches.layer_eq 3 w Gen.slices_S4x1024x1024_S1x1024x1024_3_0_0 Gen.shapeCasts_S1x1024x1024_S1024x1024) _)

end

/-- The reference runs, keeps its arguments and ends with its counters at zero. -/
theorem frame_reference : Cert.quiescent_ReferenceMemKvIdeal := fun m ρ _ =>
  (θ_run _ _ _).mono (fun r h => ⟨fun c => (h c).2.2.2.2.2.2.2.2, sem_eq_zero_of_no_sems (by decide) r.2⟩) (Cert.ReferenceMemKvIdeal.Value.run m ρ)

/-- Kernel and reference end with the same products. -/
theorem algebraic : Cert.algebraic_KernelMemKvIdeal_ReferenceMemKvIdeal := by
  intro m ρ m' ρ' _ hagree
  refine ⟨_, _, _, _, _, _, _, _, kernel m ρ, (θ_run _ _ _).mono (fun r h c => ?_) (Cert.ReferenceMemKvIdeal.Value.run m' ρ')⟩
  obtain ⟨a0, a1, a2⟩ := hagree c
  exact ⟨(h c).1.trans (((Cert.ReferenceMemKvIdeal.Read.val_main_v4_eq _ _).symm.trans (reference0 _ _)).trans (by rw [a0, a1])),
    (h c).2.1.trans (((Cert.ReferenceMemKvIdeal.Read.val_main_v9_eq _ _).symm.trans (reference1 _ _)).trans (by rw [a0, a2])),
    (h c).2.2.1.trans (((Cert.ReferenceMemKvIdeal.Read.val_main_v14_eq _ _).symm.trans (reference2 _ _)).trans (by rw [a0, a1])),
    (h c).2.2.2.1.trans (((Cert.ReferenceMemKvIdeal.Read.val_main_v19_eq _ _).symm.trans (reference3 _ _)).trans (by rw [a0, a2])),
    (h c).2.2.2.2.1.trans (((Cert.ReferenceMemKvIdeal.Read.val_main_v24_eq _ _).symm.trans (reference4 _ _)).trans (by rw [a0, a1])),
    (h c).2.2.2.2.2.1.trans (((Cert.ReferenceMemKvIdeal.Read.val_main_v29_eq _ _).symm.trans (reference5 _ _)).trans (by rw [a0, a2])),
    (h c).2.2.2.2.2.2.1.trans (((Cert.ReferenceMemKvIdeal.Read.val_main_v34_eq _ _).symm.trans (reference6 _ _)).trans (by rw [a0, a1])),
    (h c).2.2.2.2.2.2.2.1.trans (((Cert.ReferenceMemKvIdeal.Read.val_main_v39_eq _ _).symm.trans (reference7 _ _)).trans (by rw [a0, a2])),
    (h c).2.2.2.2.2.2.2.2⟩

end MemKv

end
-- ==== Proof.FfnInDx0.lean ====
module

public import proofs.«01_k».proof.Defs
public import proofs.«01_k».proof.Proof.MemKv
public import proofs.«01_k».proof.Proof.Gen.KernelFfnInDx0Ideal.Value
public import proofs.«01_k».proof.Proof.Gen.ReferenceFfnInDx0Ideal.Read
public import proofs.«01_k».proof.Proof.Gen.ReferenceFfnInDx0Ideal.Run
public import Idealize.ShloMosaic.Lib.Quiescent
public import Idealize.ShloMosaic.Lib.Pipeline.ValueKit.Point
public import Idealize.ShloMosaic.Lib.Pointwise

@[expose] public section

set_option maxRecDepth 16384

/-! The gradient with respect to the feed-forward layer's input in the first layer: the residual's gradient and the one through the layer's first product. -/

noncomputable section

namespace FfnInDx0

open Idealize.ShloMosaic Idealize.ShloMosaic.TcCoe Idealize.SL.Sem
open Launches (layer corner3 plus)

section

open Cert.KernelFfnInDx0Ideal Cert.KernelFfnInDx0Ideal.Gen

/-- The accumulator's first value: the product of the first two tiles. -/
theorem start_at (x : Vec Ideal S512x1024 .bf16) (y : Vec Ideal S1x1024x1024 .bf16) (r : Fin 512) (d : Fin 1024) :
    k0_pay2 x y (ix2 r d) = Tiles.nt x (layer (n := 1) 0 y) (ix2 r d) := by
  unfold Tiles.nt
  pointwise [k0_pay2, k0_pay1]
  rfl

/-- Its next value: the product of the next two tiles is added. -/
theorem step_at (x : Vec Ideal S512x1024 .bf16) (y : Vec Ideal S1x1024x1024 .bf16) (a : Vec Ideal S512x1024 .f32) (r : Fin 512) (d : Fin 1024) :
    k0_pay3 x y a (ix2 r d) = a (ix2 r d) + Tiles.nt x (layer (n := 1) 0 y) (ix2 r d) := by
  unfold Tiles.nt
  pointwise [k0_pay3, k0_pay1]
  rfl

/-- What the last tile writes: the accumulator and the third block. -/
theorem last_at (x : Vec Ideal S512x1024 .bf16) (y : Vec Ideal S1x1024x1024 .bf16) (a z : Vec Ideal S512x1024 .f32) (r : Fin 512) (d : Fin 1024) :
    k0_pay4 (k0_pay3 x y a) z (ix2 r d) = a (ix2 r d) + Tiles.nt x (layer (n := 1) 0 y) (ix2 r d) + z (ix2 r d) := by
  refine Eq.trans ?_ (congrArg (· + z (ix2 r d)) (step_at x y a r d))
  generalize k0_pay3 x y a = b
  pointwise [k0_pay4]

variable (m : (ℓ : Loc nD τ sig) → Buf (Elt Ideal) ℓ) (c : Dev nD)

/-- The windows' blocks over the grid. -/
theorem idx : ∀ t : Fin cfg0.N, win0_0.index t = ![t.val / 6, t.val % 6] ∧ win0_1.index t = ![0, 0, t.val % 6]
    ∧ win0_2.index t = ![t.val / 6, 0] ∧ win0_3.index t = ![t.val / 6, 0] :=
  (by decide +kernel : ∀ t : Fin grid0.N, win0_0.index t = ![t.val / 6, t.val % 6] ∧ win0_1.index t = ![0, 0, t.val % 6]
    ∧ win0_2.index t = ![t.val / 6, 0] ∧ win0_3.index t = ![t.val / 6, 0])

/-- The grid point of tile `s` of the sum for block `g` of the result. -/
abbrev pt (g : Fin 16) (s : Fin 6) : Fin cfg0.N := ⟨6 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 6) (r : Fin 512) (k : Fin 1024) : (iblk m c 0 (pt g s) : Vec Ideal S512x1024 .bf16) (ix2 r k)
    = m ((c : Thread nD τ).loc main_arg0) (ix2 (row g r) (Tiles.at' (n := 6) rfl s k)) := by
  have h := idx (pt g s)
  blk_ext! [iblk, V, h]

/-- The right factor's tile `s`. -/
theorem blk_y (s : Fin 6) (d : Fin 1024) (k : Fin 1024) : (iblk m c 1 (pt g s) : Vec Ideal S1x1024x1024 .bf16) (ix3 0 d k)
    = m ((c : Thread nD τ).loc main_arg1) (ix3 0 d (Tiles.at' (n := 6) rfl s k)) := by
  have h := idx (pt g s)
  blk_ext! [iblk, V, h]

/-- Block `g` of what is added. -/
theorem blk_z (s : Fin 6) (r : Fin 512) (d : Fin 1024) : (iblk m c 2 (pt g s) : Vec Ideal S512x1024 .f32) (ix2 r d)
    = m ((c : Thread nD τ).loc main_arg2) (ix2 (row g r) d) := by
  have h := idx (pt g s)
  blk_ext! [iblk, V, h]

/-- What the last tile writes to the result's block. -/
theorem block (r : Fin 512) (d : Fin 1024) : (outsAt0 m c (pt g 5).val (pt g 5).isLt).1 (ix2 r d)
    = plus (Tiles.nt (m ((c : Thread nD τ).loc main_arg0)) (layer 0 (m ((c : Thread nD τ).loc main_arg1)))) (m ((c : Thread nD τ).loc main_arg2)) (ix2 (row g r) d) := by
  have hs : (outsAt0 m c (pt g 4).val (pt g 4).isLt).2 (ix2 r d) + Tiles.nt (iblk m c 0 (pt g 5)) (layer (n := 1) 0 (iblk m c 1 (pt g 5))) (ix2 r d)
      = Tiles.nt (m ((c : Thread nD τ).loc main_arg0)) (layer 0 (m ((c : Thread nD τ).loc main_arg1))) (ix2 (row g r) d) := by
    refine Eq.trans ?_ (Tiles.sum_eq (n := 6) (b := 1024) rfl _).symm
    refine (Tiles.fold_out (n := 4) (fun j h => (outsAt0 m c (pt g ⟨j, by omega⟩).val (pt g ⟨j, by omega⟩).isLt).2 (ix2 r d)) _
      (fun s => Tiles.nt (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
    · refine (congrArg (fun p => p.2 (ix2 r d)) (outsAt0_B m c (pt g ⟨j + 1, by omega⟩) (by dsimp only; omega) (by dsimp only; omega) (by dsimp only; omega))).trans ?_
      refine Eq.trans (congrFun ?_ _) (step_at _ _ _ r d)
      unfold sout0_B_0
      rw [View.read_writes_eq_canon _ _ _ fun _ => scover0_B_0 ..]
      unfold kernelRun0_B
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
      exact congrArg (k0_pay3 _ _) (Memref.IsWhole.read_unread (Memref.isWhole_whole cc0_scratch0) _)
    · simp only [Tiles.nt, layer, ix2, ix3, blk_x, blk_y]
  refine (congrArg (fun p => p.1 (ix2 r d)) (outsAt0_C m c (pt g 5) (by dsimp only; omega) (by dsimp only; omega) (by dsimp only; omega))).trans ?_
  refine Eq.trans (congrFun ?_ _) ((last_at _ _ _ _ r d).trans (congrArg₂ (· + ·) hs (blk_z m c g 5 r d)))
  unfold out0_C_3
  rw [View.read_writes_eq_canon _ _ _ fun _ => cover0_C_3 ..]
  unfold kernelRun0_C
  dsimp only
  sl_unfold_words
  rw [View.canon_unit_zero Tiles.corner, View.readCov_unit_zero (S := S512x1024) _ Tiles.corner]
  simp only [View.readAt_eq_ld, Memref.IsWhole.read_unread, View.ld_unit_zero (S := S512x1024) Tiles.corner, View.ld_unit_zero (S := S1x1024x1024) corner3]
  exact congrArg (fun a => k0_pay4 (k0_pay3 _ _ a) _) (Memref.IsWhole.read_unread (Memref.isWhole_whole cc0_scratch0) _)

/-- The result's array. -/
theorem final : (dats m 0 c).arrAt 3 cfg0.N = plus (Tiles.nt (m ((c : Thread nD τ).loc main_arg0)) (layer 0 (m ((c : Thread nD τ).loc main_arg1)))) (m ((c : Thread nD τ).loc main_arg2)) := by
  refine (dats m 0 c).arrAt_eq_of_covers 3 _ (by decide +kernel) fun t hf y => ?_
  have ht : t.val < 96 := lt_of_lt_of_eq t.isLt Gen.N_0
  have hl : t.val % 6 = 5 := (flush0_3 t).mp hf
  obtain ⟨g, rfl⟩ : ∃ g : Fin 16, t = pt g 5 := ⟨⟨t.val / 6, by omega⟩, Fin.ext (by show _ = 6 * (t.val / 6) + 5; omega)⟩
  have h := idx (pt g 5)
  obtain ⟨r, d, rfl⟩ : ∃ (r : Fin 512) (d : Fin 1024), y = ix2 r d := ⟨y 0, y 1, ValueIdx.eq_ix2 y⟩
  have e : (win0_3.blk (pt g 5)).view.emb (ix2 r d) = ix2 (row g r) d := by
    blk_ext [h]
  blk_simp
  rw [e, after0_3]
  exact block m c g r d

end

section

open Cert.ReferenceFfnInDx0Ideal Cert.ReferenceFfnInDx0Ideal.Read

/-- The reference's result. -/
theorem reference (x : Tiles.Mat 8192 6144) (w : (⟨3, ![4, 1024, 6144]⟩ : Shape).Idx → EReal) (z : Tiles.Mat 8192 1024) : val_main_v7 (F := Ideal) x w z = plus (Tiles.nt x (layer 0 w)) z := by
  funext i
  rw [val_main_v7_apply, val_main_v6_apply]
  exact (add_comm _ _).trans (congrArg₂ (· + ·) (Finset.sum_congr rfl fun k _ => congrArg₂ (· * ·) (congrArg x (ValueIdx.eq_ix2 _)) (congrFun (Launches.layer_eq 0 w Gen.slices_S4x1024x6144_S1x1024x6144_0_0_0 Gen.shapeCasts_S1x1024x6144_S1024x6144) _)) rfl)

end

/-- The reference runs, keeps its arguments and ends with its counters at zero. -/
theorem frame_reference : Cert.quiescent_ReferenceFfnInDx0Ideal := fun m ρ _ =>
  (θ_run _ _ _).mono (fun r h => ⟨fun c => (h c).2, sem_eq_zero_of_no_sems (by decide) r.2⟩) (Cert.ReferenceFfnInDx0Ideal.Value.run m ρ)

/-- Kernel and reference end with the same sum. -/
theorem algebraic : Cert.algebraic_KernelFfnInDx0Ideal_ReferenceFfnInDx0Ideal := by
  intro m ρ m' ρ' _ hagree
  refine ⟨_, (θ_run _ _ _).mono (fun _ h c => ⟨(h c).1.trans (final m c), (h c).2⟩) (Cert.KernelFfnInDx0Ideal.Value.run_blocks m ρ),
    (θ_run _ _ _).mono (fun r h c => ⟨(h c).1.trans (((Cert.ReferenceFfnInDx0Ideal.Read.val_main_v7_eq _ _ _).symm.trans (reference _ _ _)).trans ?_), (h c).2⟩)
      (Cert.ReferenceFfnInDx0Ideal.Value.run m' ρ')⟩
  rw [(hagree c).1, (hagree c).2.1, (hagree c).2.2]

end FfnInDx0

end
-- ==== Proof.FfnInDx1.lean ====
module

public import proofs.«01_k».proof.Defs
public import proofs.«01_k».proof.Proof.FfnInDx0
public import proofs.«01_k».proof.Proof.Gen.KernelFfnInDx1Ideal.Value
public import proofs.«01_k».proof.Proof.Gen.ReferenceFfnInDx1Ideal.Read
public import proofs.«01_k».proof.Proof.Gen.ReferenceFfnInDx1Ideal.Run
public import Idealize.ShloMosaic.Lib.Quiescent
public import Idealize.ShloMosaic.Lib.Pipeline.ValueKit.Point
public import Idealize.ShloMosaic.Lib.Pointwise

@[expose] public section

set_option maxRecDepth 16384

/-! The gradient with respect to the feed-forward layer's input in the second layer: the residual's gradient and the one through the layer's first product. -/

noncomputable section

namespace FfnInDx1

open Idealize.ShloMosaic Idealize.ShloMosaic.TcCoe Idealize.SL.Sem
open Launches (layer corner3 plus)

section

open Cert.KernelFfnInDx1Ideal Cert.KernelFfnInDx1Ideal.Gen

/-- The accumulator's first value: the product of the first two tiles. -/
theorem start_at (x : Vec Ideal S512x1024 .bf16) (y : Vec Ideal S1x1024x1024 .bf16) (r : Fin 512) (d : Fin 1024) :
    k0_pay2 x y (ix2 r d) = Tiles.nt x (layer (n := 1) 0 y) (ix2 r d) := by
  unfold Tiles.nt
  pointwise [k0_pay2, k0_pay1]
  rfl

/-- Its next value: the product of the next two tiles is added. -/
theorem step_at (x : Vec Ideal S512x1024 .bf16) (y : Vec Ideal S1x1024x1024 .bf16) (a : Vec Ideal S512x1024 .f32) (r : Fin 512) (d : Fin 1024) :
    k0_pay3 x y a (ix2 r d) = a (ix2 r d) + Tiles.nt x (layer (n := 1) 0 y) (ix2 r d) := by
  unfold Tiles.nt
  pointwise [k0_pay3, k0_pay1]
  rfl

/-- What the last tile writes: the accumulator and the third block. -/
theorem last_at (x : Vec Ideal S512x1024 .bf16) (y : Vec Ideal S1x1024x1024 .bf16) (a z : Vec Ideal S512x1024 .f32) (r : Fin 512) (d : Fin 1024) :
    k0_pay4 (k0_pay3 x y a) z (ix2 r d) = a (ix2 r d) + Tiles.nt x (layer (n := 1) 0 y) (ix2 r d) + z (ix2 r d) := by
  refine Eq.trans ?_ (congrArg (· + z (ix2 r d)) (step_at x y a r d))
  generalize k0_pay3 x y a = b
  pointwise [k0_pay4]

variable (m : (ℓ : Loc nD τ sig) → Buf (Elt Ideal) ℓ) (c : Dev nD)

/-- The windows' blocks over the grid. -/
theorem idx : ∀ t : Fin cfg0.N, win0_0.index t = ![t.val / 6, t.val % 6] ∧ win0_1.index t = ![1, 0, t.val % 6]
    ∧ win0_2.index t = ![t.val / 6, 0] ∧ win0_3.index t = ![t.val / 6, 0] :=
  (by decide +kernel : ∀ t : Fin grid0.N, win0_0.index t = ![t.val / 6, t.val % 6] ∧ win0_1.index t = ![1, 0, t.val % 6]
    ∧ win0_2.index t = ![t.val / 6, 0] ∧ win0_3.index t = ![t.val / 6, 0])

/-- The grid point of tile `s` of the sum for block `g` of the result. -/
abbrev pt (g : Fin 16) (s : Fin 6) : Fin cfg0.N := ⟨6 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 6) (r : Fin 512) (k : Fin 1024) : (iblk m c 0 (pt g s) : Vec Ideal S512x1024 .bf16) (ix2 r k)
    = m ((c : Thread nD τ).loc main_arg0) (ix2 (row g r) (Tiles.at' (n := 6) rfl s k)) := by
  have h := idx (pt g s)
  blk_ext! [iblk, V, h]

/-- The right factor's tile `s`. -/
theorem blk_y (s : Fin 6) (d : Fin 1024) (k : Fin 1024) : (iblk m c 1 (pt g s) : Vec Ideal S1x1024x1024 .bf16) (ix3 0 d k)
    = m ((c : Thread nD τ).loc main_arg1) (ix3 1 d (Tiles.at' (n := 6) rfl s k)) := by
  have h := idx (pt g s)
  blk_ext! [iblk, V, h]

/-- Block `g` of what is added. -/
theorem blk_z (s : Fin 6) (r : Fin 512) (d : Fin 1024) : (iblk m c 2 (pt g s) : Vec Ideal S512x1024 .f32) (ix2 r d)
    = m ((c : Thread nD τ).loc main_arg2) (ix2 (row g r) d) := by
  have h := idx (pt g s)
  blk_ext! [iblk, V, h]

/-- What the last tile writes to the result's block. -/
theorem block (r : Fin 512) (d : Fin 1024) : (outsAt0 m c (pt g 5).val (pt g 5).isLt).1 (ix2 r d)
    = plus (Tiles.nt (m ((c : Thread nD τ).loc main_arg0)) (layer 1 (m ((c : Thread nD τ).loc main_arg1)))) (m ((c : Thread nD τ).loc main_arg2)) (ix2 (row g r) d) := by
  have hs : (outsAt0 m c (pt g 4).val (pt g 4).isLt).2 (ix2 r d) + Tiles.nt (iblk m c 0 (pt g 5)) (layer (n := 1) 0 (iblk m c 1 (pt g 5))) (ix2 r d)
      = Tiles.nt (m ((c : Thread nD τ).loc main_arg0)) (layer 1 (m ((c : Thread nD τ).loc main_arg1))) (ix2 (row g r) d) := by
    refine Eq.trans ?_ (Tiles.sum_eq (n := 6) (b := 1024) rfl _).symm
    refine (Tiles.fold_out (n := 4) (fun j h => (outsAt0 m c (pt g ⟨j, by omega⟩).val (pt g ⟨j, by omega⟩).isLt).2 (ix2 r d)) _
      (fun s => Tiles.nt (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
    · refine (congrArg (fun p => p.2 (ix2 r d)) (outsAt0_B m c (pt g ⟨j + 1, by omega⟩) (by dsimp only; omega) (by dsimp only; omega) (by dsimp only; omega))).trans ?_
      refine Eq.trans (congrFun ?_ _) (step_at _ _ _ r d)
      unfold sout0_B_0
      rw [View.read_writes_eq_canon _ _ _ fun _ => scover0_B_0 ..]
      unfold kernelRun0_B
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
      exact congrArg (k0_pay3 _ _) (Memref.IsWhole.read_unread (Memref.isWhole_whole cc0_scratch0) _)
    · simp only [Tiles.nt, layer, ix2, ix3, blk_x, blk_y]
  refine (congrArg (fun p => p.1 (ix2 r d)) (outsAt0_C m c (pt g 5) (by dsimp only; omega) (by dsimp only; omega) (by dsimp only; omega))).trans ?_
  refine Eq.trans (congrFun ?_ _) ((last_at _ _ _ _ r d).trans (congrArg₂ (· + ·) hs (blk_z m c g 5 r d)))
  unfold out0_C_3
  rw [View.read_writes_eq_canon _ _ _ fun _ => cover0_C_3 ..]
  unfold kernelRun0_C
  dsimp only
  sl_unfold_words
  rw [View.canon_unit_zero Tiles.corner, View.readCov_unit_zero (S := S512x1024) _ Tiles.corner]
  simp only [View.readAt_eq_ld, Memref.IsWhole.read_unread, View.ld_unit_zero (S := S512x1024) Tiles.corner, View.ld_unit_zero (S := S1x1024x1024) corner3]
  exact congrArg (fun a => k0_pay4 (k0_pay3 _ _ a) _) (Memref.IsWhole.read_unread (Memref.isWhole_whole cc0_scratch0) _)

/-- The result's array. -/
theorem final : (dats m 0 c).arrAt 3 cfg0.N = plus (Tiles.nt (m ((c : Thread nD τ).loc main_arg0)) (layer 1 (m ((c : Thread nD τ).loc main_arg1)))) (m ((c : Thread nD τ).loc main_arg2)) := by
  refine (dats m 0 c).arrAt_eq_of_covers 3 _ (by decide +kernel) fun t hf y => ?_
  have ht : t.val < 96 := lt_of_lt_of_eq t.isLt Gen.N_0
  have hl : t.val % 6 = 5 := (flush0_3 t).mp hf
  obtain ⟨g, rfl⟩ : ∃ g : Fin 16, t = pt g 5 := ⟨⟨t.val / 6, by omega⟩, Fin.ext (by show _ = 6 * (t.val / 6) + 5; omega)⟩
  have h := idx (pt g 5)
  obtain ⟨r, d, rfl⟩ : ∃ (r : Fin 512) (d : Fin 1024), y = ix2 r d := ⟨y 0, y 1, ValueIdx.eq_ix2 y⟩
  have e : (win0_3.blk (pt g 5)).view.emb (ix2 r d) = ix2 (row g r) d := by
    blk_ext [h]
  blk_simp
  rw [e, after0_3]
  exact block m c g r d

end

section

open Cert.ReferenceFfnInDx1Ideal Cert.ReferenceFfnInDx1Ideal.Read

/-- The reference's result. -/
theorem reference (x : Tiles.Mat 8192 6144) (w : (⟨3, ![4, 1024, 6144]⟩ : Shape).Idx → EReal) (z : Tiles.Mat 8192 1024) : val_main_v7 (F := Ideal) x w z = plus (Tiles.nt x (layer 1 w)) z := by
  funext i
  rw [val_main_v7_apply, val_main_v6_apply]
  exact (add_comm _ _).trans (congrArg₂ (· + ·) (Finset.sum_congr rfl fun k _ => congrArg₂ (· * ·) (congrArg x (ValueIdx.eq_ix2 _)) (congrFun (Launches.layer_eq 1 w Gen.slices_S4x1024x6144_S1x1024x6144_1_0_0 Gen.shapeCasts_S1x1024x6144_S1024x6144) _)) rfl)

end

/-- The reference runs, keeps its arguments and ends with its counters at zero. -/
theorem frame_reference : Cert.quiescent_ReferenceFfnInDx1Ideal := fun m ρ _ =>
  (θ_run _ _ _).mono (fun r h => ⟨fun c => (h c).2, sem_eq_zero_of_no_sems (by decide) r.2⟩) (Cert.ReferenceFfnInDx1Ideal.Value.run m ρ)

/-- Kernel and reference end with the same sum. -/
theorem algebraic : Cert.algebraic_KernelFfnInDx1Ideal_ReferenceFfnInDx1Ideal := by
  intro m ρ m' ρ' _ hagree
  refine ⟨_, (θ_run _ _ _).mono (fun _ h c => ⟨(h c).1.trans (final m c), (h c).2⟩) (Cert.KernelFfnInDx1Ideal.Value.run_blocks m ρ),
    (θ_run _ _ _).mono (fun r h c => ⟨(h c).1.trans (((Cert.ReferenceFfnInDx1Ideal.Read.val_main_v7_eq _ _ _).symm.trans (reference _ _ _)).trans ?_), (h c).2⟩)
      (Cert.ReferenceFfnInDx1Ideal.Value.run m' ρ')⟩
  rw [(hagree c).1, (hagree c).2.1, (hagree c).2.2]

end FfnInDx1

end
-- ==== Proof.FfnInDx2.lean ====
module

public import proofs.«01_k».proof.Defs
public import proofs.«01_k».proof.Proof.FfnInDx1
public import proofs.«01_k».proof.Proof.Gen.KernelFfnInDx2Ideal.Value
public import proofs.«01_k».proof.Proof.Gen.ReferenceFfnInDx2Ideal.Read
public import proofs.«01_k».proof.Proof.Gen.ReferenceFfnInDx2Ideal.Run
public import Idealize.ShloMosaic.Lib.Quiescent
public import Idealize.ShloMosaic.Lib.Pipeline.ValueKit.Point
public import Idealize.ShloMosaic.Lib.Pointwise

@[expose] public section

set_option maxRecDepth 16384

/-! The gradient with respect to the feed-forward layer's input in the third layer: the residual's gradient and the one through the layer's first product. -/

noncomputable section

namespace FfnInDx2

open Idealize.ShloMosaic Idealize.ShloMosaic.TcCoe Idealize.SL.Sem
open Launches (layer corner3 plus)

section

open Cert.KernelFfnInDx2Ideal Cert.KernelFfnInDx2Ideal.Gen

/-- The accumulator's first value: the product of the first two tiles. -/
theorem start_at (x : Vec Ideal S512x1024 .bf16) (y : Vec Ideal S1x1024x1024 .bf16) (r : Fin 512) (d : Fin 1024) :
    k0_pay2 x y (ix2 r d) = Tiles.nt x (layer (n := 1) 0 y) (ix2 r d) := by
  unfold Tiles.nt
  pointwise [k0_pay2, k0_pay1]
  rfl

/-- Its next value: the product of the next two tiles is added. -/
theorem step_at (x : Vec Ideal S512x1024 .bf16) (y : Vec Ideal S1x1024x1024 .bf16) (a : Vec Ideal S512x1024 .f32) (r : Fin 512) (d : Fin 1024) :
    k0_pay3 x y a (ix2 r d) = a (ix2 r d) + Tiles.nt x (layer (n := 1) 0 y) (ix2 r d) := by
  unfold Tiles.nt
  pointwise [k0_pay3, k0_pay1]
  rfl

/-- What the last tile writes: the accumulator and the third block. -/
theorem last_at (x : Vec Ideal S512x1024 .bf16) (y : Vec Ideal S1x1024x1024 .bf16) (a z : Vec Ideal S512x1024 .f32) (r : Fin 512) (d : Fin 1024) :
    k0_pay4 (k0_pay3 x y a) z (ix2 r d) = a (ix2 r d) + Tiles.nt x (layer (n := 1) 0 y) (ix2 r d) + z (ix2 r d) := by
  refine Eq.trans ?_ (congrArg (· + z (ix2 r d)) (step_at x y a r d))
  generalize k0_pay3 x y a = b
  pointwise [k0_pay4]

variable (m : (ℓ : Loc nD τ sig) → Buf (Elt Ideal) ℓ) (c : Dev nD)

/-- The windows' blocks over the grid. -/
theorem idx : ∀ t : Fin cfg0.N, win0_0.index t = ![t.val / 6, t.val % 6] ∧ win0_1.index t = ![2, 0, t.val % 6]
    ∧ win0_2.index t = ![t.val / 6, 0] ∧ win0_3.index t = ![t.val / 6, 0] :=
  (by decide +kernel : ∀ t : Fin grid0.N, win0_0.index t = ![t.val / 6, t.val % 6] ∧ win0_1.index t = ![2, 0, t.val % 6]
    ∧ win0_2.index t = ![t.val / 6, 0] ∧ win0_3.index t = ![t.val / 6, 0])

/-- The grid point of tile `s` of the sum for block `g` of the result. -/
abbrev pt (g : Fin 16) (s : Fin 6) : Fin cfg0.N := ⟨6 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 6) (r : Fin 512) (k : Fin 1024) : (iblk m c 0 (pt g s) : Vec Ideal S512x1024 .bf16) (ix2 r k)
    = m ((c : Thread nD τ).loc main_arg0) (ix2 (row g r) (Tiles.at' (n := 6) rfl s k)) := by
  have h := idx (pt g s)
  blk_ext! [iblk, V, h]

/-- The right factor's tile `s`. -/
theorem blk_y (s : Fin 6) (d : Fin 1024) (k : Fin 1024) : (iblk m c 1 (pt g s) : Vec Ideal S1x1024x1024 .bf16) (ix3 0 d k)
    = m ((c : Thread nD τ).loc main_arg1) (ix3 2 d (Tiles.at' (n := 6) rfl s k)) := by
  have h := idx (pt g s)
  blk_ext! [iblk, V, h]

/-- Block `g` of what is added. -/
theorem blk_z (s : Fin 6) (r : Fin 512) (d : Fin 1024) : (iblk m c 2 (pt g s) : Vec Ideal S512x1024 .f32) (ix2 r d)
    = m ((c : Thread nD τ).loc main_arg2) (ix2 (row g r) d) := by
  have h := idx (pt g s)
  blk_ext! [iblk, V, h]

/-- What the last tile writes to the result's block. -/
theorem block (r : Fin 512) (d : Fin 1024) : (outsAt0 m c (pt g 5).val (pt g 5).isLt).1 (ix2 r d)
    = plus (Tiles.nt (m ((c : Thread nD τ).loc main_arg0)) (layer 2 (m ((c : Thread nD τ).loc main_arg1)))) (m ((c : Thread nD τ).loc main_arg2)) (ix2 (row g r) d) := by
  have hs : (outsAt0 m c (pt g 4).val (pt g 4).isLt).2 (ix2 r d) + Tiles.nt (iblk m c 0 (pt g 5)) (layer (n := 1) 0 (iblk m c 1 (pt g 5))) (ix2 r d)
      = Tiles.nt (m ((c : Thread nD τ).loc main_arg0)) (layer 2 (m ((c : Thread nD τ).loc main_arg1))) (ix2 (row g r) d) := by
    refine Eq.trans ?_ (Tiles.sum_eq (n := 6) (b := 1024) rfl _).symm
    refine (Tiles.fold_out (n := 4) (fun j h => (outsAt0 m c (pt g ⟨j, by omega⟩).val (pt g ⟨j, by omega⟩).isLt).2 (ix2 r d)) _
      (fun s => Tiles.nt (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
    · refine (congrArg (fun p => p.2 (ix2 r d)) (outsAt0_B m c (pt g ⟨j + 1, by omega⟩) (by dsimp only; omega) (by dsimp only; omega) (by dsimp only; omega))).trans ?_
      refine Eq.trans (congrFun ?_ _) (step_at _ _ _ r d)
      unfold sout0_B_0
      rw [View.read_writes_eq_canon _ _ _ fun _ => scover0_B_0 ..]
      unfold kernelRun0_B
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
      exact congrArg (k0_pay3 _ _) (Memref.IsWhole.read_unread (Memref.isWhole_whole cc0_scratch0) _)
    · simp only [Tiles.nt, layer, ix2, ix3, blk_x, blk_y]
  refine (congrArg (fun p => p.1 (ix2 r d)) (outsAt0_C m c (pt g 5) (by dsimp only; omega) (by dsimp only; omega) (by dsimp only; omega))).trans ?_
  refine Eq.trans (congrFun ?_ _) ((last_at _ _ _ _ r d).trans (congrArg₂ (· + ·) hs (blk_z m c g 5 r d)))
  unfold out0_C_3
  rw [View.read_writes_eq_canon _ _ _ fun _ => cover0_C_3 ..]
  unfold kernelRun0_C
  dsimp only
  sl_unfold_words
  rw [View.canon_unit_zero Tiles.corner, View.readCov_unit_zero (S := S512x1024) _ Tiles.corner]
  simp only [View.readAt_eq_ld, Memref.IsWhole.read_unread, View.ld_unit_zero (S := S512x1024) Tiles.corner, View.ld_unit_zero (S := S1x1024x1024) corner3]
  exact congrArg (fun a => k0_pay4 (k0_pay3 _ _ a) _) (Memref.IsWhole.read_unread (Memref.isWhole_whole cc0_scratch0) _)

/-- The result's array. -/
theorem final : (dats m 0 c).arrAt 3 cfg0.N = plus (Tiles.nt (m ((c : Thread nD τ).loc main_arg0)) (layer 2 (m ((c : Thread nD τ).loc main_arg1)))) (m ((c : Thread nD τ).loc main_arg2)) := by
  refine (dats m 0 c).arrAt_eq_of_covers 3 _ (by decide +kernel) fun t hf y => ?_
  have ht : t.val < 96 := lt_of_lt_of_eq t.isLt Gen.N_0
  have hl : t.val % 6 = 5 := (flush0_3 t).mp hf
  obtain ⟨g, rfl⟩ : ∃ g : Fin 16, t = pt g 5 := ⟨⟨t.val / 6, by omega⟩, Fin.ext (by show _ = 6 * (t.val / 6) + 5; omega)⟩
  have h := idx (pt g 5)
  obtain ⟨r, d, rfl⟩ : ∃ (r : Fin 512) (d : Fin 1024), y = ix2 r d := ⟨y 0, y 1, ValueIdx.eq_ix2 y⟩
  have e : (win0_3.blk (pt g 5)).view.emb (ix2 r d) = ix2 (row g r) d := by
    blk_ext [h]
  blk_simp
  rw [e, after0_3]
  exact block m c g r d

end

section

open Cert.ReferenceFfnInDx2Ideal Cert.ReferenceFfnInDx2Ideal.Read

/-- The reference's result. -/
theorem reference (x : Tiles.Mat 8192 6144) (w : (⟨3, ![4, 1024, 6144]⟩ : Shape).Idx → EReal) (z : Tiles.Mat 8192 1024) : val_main_v7 (F := Ideal) x w z = plus (Tiles.nt x (layer 2 w)) z := by
  funext i
  rw [val_main_v7_apply, val_main_v6_apply]
  exact (add_comm _ _).trans (congrArg₂ (· + ·) (Finset.sum_congr rfl fun k _ => congrArg₂ (· * ·) (congrArg x (ValueIdx.eq_ix2 _)) (congrFun (Launches.layer_eq 2 w Gen.slices_S4x1024x6144_S1x1024x6144_2_0_0 Gen.shapeCasts_S1x1024x6144_S1024x6144) _)) rfl)

end

/-- The reference runs, keeps its arguments and ends with its counters at zero. -/
theorem frame_reference : Cert.quiescent_ReferenceFfnInDx2Ideal := fun m ρ _ =>
  (θ_run _ _ _).mono (fun r h => ⟨fun c => (h c).2, sem_eq_zero_of_no_sems (by decide) r.2⟩) (Cert.ReferenceFfnInDx2Ideal.Value.run m ρ)

/-- Kernel and reference end with the same sum. -/
theorem algebraic : Cert.algebraic_KernelFfnInDx2Ideal_ReferenceFfnInDx2Ideal := by
  intro m ρ m' ρ' _ hagree
  refine ⟨_, (θ_run _ _ _).mono (fun _ h c => ⟨(h c).1.trans (final m c), (h c).2⟩) (Cert.KernelFfnInDx2Ideal.Value.run_blocks m ρ),
    (θ_run _ _ _).mono (fun r h c => ⟨(h c).1.trans (((Cert.ReferenceFfnInDx2Ideal.Read.val_main_v7_eq _ _ _).symm.trans (reference _ _ _)).trans ?_), (h c).2⟩)
      (Cert.ReferenceFfnInDx2Ideal.Value.run m' ρ')⟩
  rw [(hagree c).1, (hagree c).2.1, (hagree c).2.2]

end FfnInDx2

end
-- ==== Proof.FfnInDx3.lean ====
module

public import proofs.«01_k».proof.Defs
public import proofs.«01_k».proof.Proof.FfnInDx2
public import proofs.«01_k».proof.Proof.Gen.KernelFfnInDx3Ideal.Value
public import proofs.«01_k».proof.Proof.Gen.ReferenceFfnInDx3Ideal.Read
public import proofs.«01_k».proof.Proof.Gen.ReferenceFfnInDx3Ideal.Run
public import Idealize.ShloMosaic.Lib.Quiescent
public import Idealize.ShloMosaic.Lib.Pipeline.ValueKit.Point
public import Idealize.ShloMosaic.Lib.Pointwise

@[expose] public section

set_option maxRecDepth 16384

/-! The gradient with respect to the feed-forward layer's input in the fourth layer: the residual's gradient and the one through the layer's first product. -/

noncomputable section

namespace FfnInDx3

open Idealize.ShloMosaic Idealize.ShloMosaic.TcCoe Idealize.SL.Sem
open Launches (layer corner3 plus)

section

open Cert.KernelFfnInDx3Ideal Cert.KernelFfnInDx3Ideal.Gen

/-- The accumulator's first value: the product of the first two tiles. -/
theorem start_at (x : Vec Ideal S512x1024 .bf16) (y : Vec Ideal S1x1024x1024 .bf16) (r : Fin 512) (d : Fin 1024) :
    k0_pay2 x y (ix2 r d) = Tiles.nt x (layer (n := 1) 0 y) (ix2 r d) := by
  unfold Tiles.nt
  pointwise [k0_pay2, k0_pay1]
  rfl

/-- Its next value: the product of the next two tiles is added. -/
theorem step_at (x : Vec Ideal S512x1024 .bf16) (y : Vec Ideal S1x1024x1024 .bf16) (a : Vec Ideal S512x1024 .f32) (r : Fin 512) (d : Fin 1024) :
    k0_pay3 x y a (ix2 r d) = a (ix2 r d) + Tiles.nt x (layer (n := 1) 0 y) (ix2 r d) := by
  unfold Tiles.nt
  pointwise [k0_pay3, k0_pay1]
  rfl

/-- What the last tile writes: the accumulator and the third block. -/
theorem last_at (x : Vec Ideal S512x1024 .bf16) (y : Vec Ideal S1x1024x1024 .bf16) (a z : Vec Ideal S512x1024 .f32) (r : Fin 512) (d : Fin 1024) :
    k0_pay4 (k0_pay3 x y a) z (ix2 r d) = a (ix2 r d) + Tiles.nt x (layer (n := 1) 0 y) (ix2 r d) + z (ix2 r d) := by
  refine Eq.trans ?_ (congrArg (· + z (ix2 r d)) (step_at x y a r d))
  generalize k0_pay3 x y a = b
  pointwise [k0_pay4]

variable (m : (ℓ : Loc nD τ sig) → Buf (Elt Ideal) ℓ) (c : Dev nD)

/-- The windows' blocks over the grid. -/
theorem idx : ∀ t : Fin cfg0.N, win0_0.index t = ![t.val / 6, t.val % 6] ∧ win0_1.index t = ![3, 0, t.val % 6]
    ∧ win0_2.index t = ![t.val / 6, 0] ∧ win0_3.index t = ![t.val / 6, 0] :=
  (by decide +kernel : ∀ t : Fin grid0.N, win0_0.index t = ![t.val / 6, t.val % 6] ∧ win0_1.index t = ![3, 0, t.val % 6]
    ∧ win0_2.index t = ![t.val / 6, 0] ∧ win0_3.index t = ![t.val / 6, 0])

/-- The grid point of tile `s` of the sum for block `g` of the result. -/
abbrev pt (g : Fin 16) (s : Fin 6) : Fin cfg0.N := ⟨6 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 6) (r : Fin 512) (k : Fin 1024) : (iblk m c 0 (pt g s) : Vec Ideal S512x1024 .bf16) (ix2 r k)
    = m ((c : Thread nD τ).loc main_arg0) (ix2 (row g r) (Tiles.at' (n := 6) rfl s k)) := by
  have h := idx (pt g s)
  blk_ext! [iblk, V, h]

/-- The right factor's tile `s`. -/
theorem blk_y (s : Fin 6) (d : Fin 1024) (k : Fin 1024) : (iblk m c 1 (pt g s) : Vec Ideal S1x1024x1024 .bf16) (ix3 0 d k)
    = m ((c : Thread nD τ).loc main_arg1) (ix3 3 d (Tiles.at' (n := 6) rfl s k)) := by
  have h := idx (pt g s)
  blk_ext! [iblk, V, h]

/-- Block `g` of what is added. -/
theorem blk_z (s : Fin 6) (r : Fin 512) (d : Fin 1024) : (iblk m c 2 (pt g s) : Vec Ideal S512x1024 .f32) (ix2 r d)
    = m ((c : Thread nD τ).loc main_arg2) (ix2 (row g r) d) := by
  have h := idx (pt g s)
  blk_ext! [iblk, V, h]

/-- What the last tile writes to the result's block. -/
theorem block (r : Fin 512) (d : Fin 1024) : (outsAt0 m c (pt g 5).val (pt g 5).isLt).1 (ix2 r d)
    = plus (Tiles.nt (m ((c : Thread nD τ).loc main_arg0)) (layer 3 (m ((c : Thread nD τ).loc main_arg1)))) (m ((c : Thread nD τ).loc main_arg2)) (ix2 (row g r) d) := by
  have hs : (outsAt0 m c (pt g 4).val (pt g 4).isLt).2 (ix2 r d) + Tiles.nt (iblk m c 0 (pt g 5)) (layer (n := 1) 0 (iblk m c 1 (pt g 5))) (ix2 r d)
      = Tiles.nt (m ((c : Thread nD τ).loc main_arg0)) (layer 3 (m ((c : Thread nD τ).loc main_arg1))) (ix2 (row g r) d) := by
    refine Eq.trans ?_ (Tiles.sum_eq (n := 6) (b := 1024) rfl _).symm
    refine (Tiles.fold_out (n := 4) (fun j h => (outsAt0 m c (pt g ⟨j, by omega⟩).val (pt g ⟨j, by omega⟩).isLt).2 (ix2 r d)) _
      (fun s => Tiles.nt (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
    · refine (congrArg (fun p => p.2 (ix2 r d)) (outsAt0_B m c (pt g ⟨j + 1, by omega⟩) (by dsimp only; omega) (by dsimp only; omega) (by dsimp only; omega))).trans ?_
      refine Eq.trans (congrFun ?_ _) (step_at _ _ _ r d)
      unfold sout0_B_0
      rw [View.read_writes_eq_canon _ _ _ fun _ => scover0_B_0 ..]
      unfold kernelRun0_B
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
      exact congrArg (k0_pay3 _ _) (Memref.IsWhole.read_unread (Memref.isWhole_whole cc0_scratch0) _)
    · simp only [Tiles.nt, layer, ix2, ix3, blk_x, blk_y]
  refine (congrArg (fun p => p.1 (ix2 r d)) (outsAt0_C m c (pt g 5) (by dsimp only; omega) (by dsimp only; omega) (by dsimp only; omega))).trans ?_
  refine Eq.trans (congrFun ?_ _) ((last_at _ _ _ _ r d).trans (congrArg₂ (· + ·) hs (blk_z m c g 5 r d)))
  unfold out0_C_3
  rw [View.read_writes_eq_canon _ _ _ fun _ => cover0_C_3 ..]
  unfold kernelRun0_C
  dsimp only
  sl_unfold_words
  rw [View.canon_unit_zero Tiles.corner, View.readCov_unit_zero (S := S512x1024) _ Tiles.corner]
  simp only [View.readAt_eq_ld, Memref.IsWhole.read_unread, View.ld_unit_zero (S := S512x1024) Tiles.corner, View.ld_unit_zero (S := S1x1024x1024) corner3]
  exact congrArg (fun a => k0_pay4 (k0_pay3 _ _ a) _) (Memref.IsWhole.read_unread (Memref.isWhole_whole cc0_scratch0) _)

/-- The result's array. -/
theorem final : (dats m 0 c).arrAt 3 cfg0.N = plus (Tiles.nt (m ((c : Thread nD τ).loc main_arg0)) (layer 3 (m ((c : Thread nD τ).loc main_arg1)))) (m ((c : Thread nD τ).loc main_arg2)) := by
  refine (dats m 0 c).arrAt_eq_of_covers 3 _ (by decide +kernel) fun t hf y => ?_
  have ht : t.val < 96 := lt_of_lt_of_eq t.isLt Gen.N_0
  have hl : t.val % 6 = 5 := (flush0_3 t).mp hf
  obtain ⟨g, rfl⟩ : ∃ g : Fin 16, t = pt g 5 := ⟨⟨t.val / 6, by omega⟩, Fin.ext (by show _ = 6 * (t.val / 6) + 5; omega)⟩
  have h := idx (pt g 5)
  obtain ⟨r, d, rfl⟩ : ∃ (r : Fin 512) (d : Fin 1024), y = ix2 r d := ⟨y 0, y 1, ValueIdx.eq_ix2 y⟩
  have e : (win0_3.blk (pt g 5)).view.emb (ix2 r d) = ix2 (row g r) d := by
    blk_ext [h]
  blk_simp
  rw [e, after0_3]
  exact block m c g r d

end

section

open Cert.ReferenceFfnInDx3Ideal Cert.ReferenceFfnInDx3Ideal.Read

/-- The reference's result. -/
theorem reference (x : Tiles.Mat 8192 6144) (w : (⟨3, ![4, 1024, 6144]⟩ : Shape).Idx → EReal) (z : Tiles.Mat 8192 1024) : val_main_v7 (F := Ideal) x w z = plus (Tiles.nt x (layer 3 w)) z := by
  funext i
  rw [val_main_v7_apply, val_main_v6_apply]
  exact (add_comm _ _).trans (congrArg₂ (· + ·) (Finset.sum_congr rfl fun k _ => congrArg₂ (· * ·) (congrArg x (ValueIdx.eq_ix2 _)) (congrFun (Launches.layer_eq 3 w Gen.slices_S4x1024x6144_S1x1024x6144_3_0_0 Gen.shapeCasts_S1x1024x6144_S1024x6144) _)) rfl)

end

/-- The reference runs, keeps its arguments and ends with its counters at zero. -/
theorem frame_reference : Cert.quiescent_ReferenceFfnInDx3Ideal := fun m ρ _ =>
  (θ_run _ _ _).mono (fun r h => ⟨fun c => (h c).2, sem_eq_zero_of_no_sems (by decide) r.2⟩) (Cert.ReferenceFfnInDx3Ideal.Value.run m ρ)

/-- Kernel and reference end with the same sum. -/
theorem algebraic : Cert.algebraic_KernelFfnInDx3Ideal_ReferenceFfnInDx3Ideal := by
  intro m ρ m' ρ' _ hagree
  refine ⟨_, (θ_run _ _ _).mono (fun _ h c => ⟨(h c).1.trans (final m c), (h c).2⟩) (Cert.KernelFfnInDx3Ideal.Value.run_blocks m ρ),
    (θ_run _ _ _).mono (fun r h c => ⟨(h c).1.trans (((Cert.ReferenceFfnInDx3Ideal.Read.val_main_v7_eq _ _ _).symm.trans (reference _ _ _)).trans ?_), (h c).2⟩)
      (Cert.ReferenceFfnInDx3Ideal.Value.run m' ρ')⟩
  rw [(hagree c).1, (hagree c).2.1, (hagree c).2.2]

end FfnInDx3

end
-- ==== Proof.FfnOut0.lean ====
module

public import proofs.«01_k».proof.Defs
public import proofs.«01_k».proof.Proof.FfnInDx3
public import proofs.«01_k».proof.Proof.Gen.KernelFfnOut0Ideal.Value
public import proofs.«01_k».proof.Proof.Gen.ReferenceFfnOut0Ideal.Read
public import proofs.«01_k».proof.Proof.Gen.ReferenceFfnOut0Ideal.Run
public import Idealize.ShloMosaic.Lib.Quiescent
public import Idealize.ShloMosaic.Lib.Pipeline.ValueKit.Point
public import Idealize.ShloMosaic.Lib.Pointwise

@[expose] public section

set_option maxRecDepth 16384

/-! The feed-forward layer's last product in the first layer. -/

noncomputable section

namespace FfnOut0

open Idealize.ShloMosaic Idealize.ShloMosaic.TcCoe Idealize.SL.Sem
open Launches (layer corner3 plus)

section

open Cert.KernelFfnOut0Ideal Cert.KernelFfnOut0Ideal.Gen

/-- The accumulator's first value: the product of the first two tiles. -/
theorem start_at (x : Vec Ideal S512x1024 .bf16) (y : Vec Ideal S1x1024x1024 .bf16) (r : Fin 512) (d : Fin 1024) :
    k0_pay2 x y (ix2 r d) = Tiles.nn x (layer (n := 1) 0 y) (ix2 r d) := by
  unfold Tiles.nn
  pointwise [k0_pay2, k0_pay1]
  rfl

/-- Its next value: the product of the next two tiles is added. -/
theorem step_at (x : Vec Ideal S512x1024 .bf16) (y : Vec Ideal S1x1024x1024 .bf16) (a : Vec Ideal S512x1024 .f32) (r : Fin 512) (d : Fin 1024) :
    k0_pay3 x y a (ix2 r d) = a (ix2 r d) + Tiles.nn x (layer (n := 1) 0 y) (ix2 r d) := by
  unfold Tiles.nn
  pointwise [k0_pay3, k0_pay1]
  rfl

variable (m : (ℓ : Loc nD τ sig) → Buf (Elt Ideal) ℓ) (c : Dev nD)

/-- The windows' blocks over the grid. -/
theorem idx : ∀ t : Fin cfg0.N, win0_0.index t = ![t.val / 3, t.val % 3] ∧ win0_1.index t = ![0, t.val % 3, 0]
    ∧ win0_2.index t = ![t.val / 3, 0] :=
  (by decide +kernel : ∀ t : Fin grid0.N, win0_0.index t = ![t.val / 3, t.val % 3] ∧ win0_1.index t = ![0, t.val % 3, 0]
    ∧ win0_2.index t = ![t.val / 3, 0])

/-- The grid point of tile `s` of the sum for block `g` of the result. -/
abbrev pt (g : Fin 16) (s : Fin 3) : Fin cfg0.N := ⟨3 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 3) (r : Fin 512) (k : Fin 1024) : (iblk m c 0 (pt g s) : Vec Ideal S512x1024 .bf16) (ix2 r k)
    = m ((c : Thread nD τ).loc main_arg0) (ix2 (row g r) (Tiles.at' (n := 3) rfl s k)) := by
  have h := idx (pt g s)
  blk_ext! [iblk, V, h]

/-- The right factor's tile `s`. -/
theorem blk_y (s : Fin 3) (k : Fin 1024) (d : Fin 1024) : (iblk m c 1 (pt g s) : Vec Ideal S1x1024x1024 .bf16) (ix3 0 k d)
    = m ((c : Thread nD τ).loc main_arg1) (ix3 0 (Tiles.at' (n := 3) rfl s k) d) := by
  have h := idx (pt g s)
  blk_ext! [iblk, V, h]

/-- What the last tile writes to the result's block. -/
theorem block (r : Fin 512) (d : Fin 1024) : (outsAt0 m c (pt g 2).val (pt g 2).isLt).1 (ix2 r d)
    = Tiles.nn (m ((c : Thread nD τ).loc main_arg0)) (layer 0 (m ((c : Thread nD τ).loc main_arg1))) (ix2 (row g r) d) := by
  have hs : (outsAt0 m c (pt g 1).val (pt g 1).isLt).2 (ix2 r d) + Tiles.nn (iblk m c 0 (pt g 2)) (layer (n := 1) 0 (iblk m c 1 (pt g 2))) (ix2 r d)
      = Tiles.nn (m ((c : Thread nD τ).loc main_arg0)) (layer 0 (m ((c : Thread nD τ).loc main_arg1))) (ix2 (row g r) d) := by
    refine Eq.trans ?_ (Tiles.sum_eq (n := 3) (b := 1024) rfl _).symm
    refine (Tiles.fold_out (n := 1) (fun j h => (outsAt0 m c (pt g ⟨j, by omega⟩).val (pt g ⟨j, by omega⟩).isLt).2 (ix2 r d)) _
      (fun s => Tiles.nn (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
    · refine (congrArg (fun p => p.2 (ix2 r d)) (outsAt0_B m c (pt g ⟨j + 1, by omega⟩) (by dsimp only; omega) (by dsimp only; omega) (by dsimp only; omega))).trans ?_
      refine Eq.trans (congrFun ?_ _) (step_at _ _ _ r d)
      unfold sout0_B_0
      rw [View.read_writes_eq_canon _ _ _ fun _ => scover0_B_0 ..]
      unfold kernelRun0_B
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
      exact congrArg (k0_pay3 _ _) (Memref.IsWhole.read_unread (Memref.isWhole_whole cc0_scratch0) _)
    · simp only [Tiles.nn, layer, ix2, ix3, blk_x, blk_y]
  refine (congrArg (fun p => p.1 (ix2 r d)) (outsAt0_C m c (pt g 2) (by dsimp only; omega) (by dsimp only; omega) (by dsimp only; omega))).trans ?_
  refine Eq.trans (congrFun ?_ _) ((step_at _ _ _ r d).trans hs)
  unfold out0_C_2
  rw [View.read_writes_eq_canon _ _ _ fun _ => cover0_C_2 ..]
  unfold kernelRun0_C
  dsimp only
  sl_unfold_words
  rw [View.canon_unit_zero Tiles.corner, View.readCov_unit_zero (S := S512x1024) _ Tiles.corner]
  simp only [View.readAt_eq_ld, Memref.IsWhole.read_unread, View.ld_unit_zero (S := S512x1024) Tiles.corner, View.ld_unit_zero (S := S1x1024x1024) corner3]
  exact congrArg (k0_pay3 _ _) (Memref.IsWhole.read_unread (Memref.isWhole_whole cc0_scratch0) _)

/-- The result's array. -/
theorem final : (dats m 0 c).arrAt 2 cfg0.N = Tiles.nn (m ((c : Thread nD τ).loc main_arg0)) (layer 0 (m ((c : Thread nD τ).loc main_arg1))) := by
  refine (dats m 0 c).arrAt_eq_of_covers 2 _ (by decide +kernel) fun t hf y => ?_
  have ht : t.val < 48 := lt_of_lt_of_eq t.isLt Gen.N_0
  have hl : t.val % 3 = 2 := (flush0_2 t).mp hf
  obtain ⟨g, rfl⟩ : ∃ g : Fin 16, t = pt g 2 := ⟨⟨t.val / 3, by omega⟩, Fin.ext (by show _ = 3 * (t.val / 3) + 2; omega)⟩
  have h := idx (pt g 2)
  obtain ⟨r, d, rfl⟩ : ∃ (r : Fin 512) (d : Fin 1024), y = ix2 r d := ⟨y 0, y 1, ValueIdx.eq_ix2 y⟩
  have e : (win0_2.blk (pt g 2)).view.emb (ix2 r d) = ix2 (row g r) d := by
    blk_ext [h]
  blk_simp
  rw [e, after0_2]
  exact block m c g r d

end

section

open Cert.ReferenceFfnOut0Ideal Cert.ReferenceFfnOut0Ideal.Read

/-- The reference's result. -/
theorem reference (x : Tiles.Mat 8192 3072) (w : (⟨3, ![4, 3072, 1024]⟩ : Shape).Idx → EReal) : val_main_v4 (F := Ideal) x w = Tiles.nn x (layer 0 w) := by
  funext i
  rw [val_main_v4_apply]
  exact Finset.sum_congr rfl fun k _ => congrArg₂ (· * ·) (congrArg x (ValueIdx.eq_ix2 _)) (congrFun (Launches.layer_eq 0 w Gen.slices_S4x3072x1024_S1x3072x1024_0_0_0 Gen.shapeCasts_S1x3072x1024_S3072x1024) _)

end

/-- The reference runs, keeps its arguments and ends with its counters at zero. -/
theorem frame_reference : Cert.quiescent_ReferenceFfnOut0Ideal := fun m ρ _ =>
  (θ_run _ _ _).mono (fun r h => ⟨fun c => (h c).2, sem_eq_zero_of_no_sems (by decide) r.2⟩) (Cert.ReferenceFfnOut0Ideal.Value.run m ρ)

/-- Kernel and reference end with the same product. -/
theorem algebraic : Cert.algebraic_KernelFfnOut0Ideal_ReferenceFfnOut0Ideal := by
  intro m ρ m' ρ' _ hagree
  refine ⟨_, (θ_run _ _ _).mono (fun _ h c => ⟨(h c).1.trans (final m c), (h c).2⟩) (Cert.KernelFfnOut0Ideal.Value.run_blocks m ρ),
    (θ_run _ _ _).mono (fun r h c => ⟨(h c).1.trans (((Cert.ReferenceFfnOut0Ideal.Read.val_main_v4_eq _ _).symm.trans (reference _ _)).trans ?_), (h c).2⟩)
      (Cert.ReferenceFfnOut0Ideal.Value.run m' ρ')⟩
  rw [(hagree c).1, (hagree c).2]

end FfnOut0

end
-- ==== Proof.FfnOut1.lean ====
module

public import proofs.«01_k».proof.Defs
public import proofs.«01_k».proof.Proof.FfnOut0
public import proofs.«01_k».proof.Proof.Gen.KernelFfnOut1Ideal.Value
public import proofs.«01_k».proof.Proof.Gen.ReferenceFfnOut1Ideal.Read
public import proofs.«01_k».proof.Proof.Gen.ReferenceFfnOut1Ideal.Run
public import Idealize.ShloMosaic.Lib.Quiescent
public import Idealize.ShloMosaic.Lib.Pipeline.ValueKit.Point
public import Idealize.ShloMosaic.Lib.Pointwise

@[expose] public section

set_option maxRecDepth 16384

/-! The feed-forward layer's last product in the second layer. -/

noncomputable section

namespace FfnOut1

open Idealize.ShloMosaic Idealize.ShloMosaic.TcCoe Idealize.SL.Sem
open Launches (layer corner3 plus)

section

open Cert.KernelFfnOut1Ideal Cert.KernelFfnOut1Ideal.Gen

/-- The accumulator's first value: the product of the first two tiles. -/
theorem start_at (x : Vec Ideal S512x1024 .bf16) (y : Vec Ideal S1x1024x1024 .bf16) (r : Fin 512) (d : Fin 1024) :
    k0_pay2 x y (ix2 r d) = Tiles.nn x (layer (n := 1) 0 y) (ix2 r d) := by
  unfold Tiles.nn
  pointwise [k0_pay2, k0_pay1]
  rfl

/-- Its next value: the product of the next two tiles is added. -/
theorem step_at (x : Vec Ideal S512x1024 .bf16) (y : Vec Ideal S1x1024x1024 .bf16) (a : Vec Ideal S512x1024 .f32) (r : Fin 512) (d : Fin 1024) :
    k0_pay3 x y a (ix2 r d) = a (ix2 r d) + Tiles.nn x (layer (n := 1) 0 y) (ix2 r d) := by
  unfold Tiles.nn
  pointwise [k0_pay3, k0_pay1]
  rfl

variable (m : (ℓ : Loc nD τ sig) → Buf (Elt Ideal) ℓ) (c : Dev nD)

/-- The windows' blocks over the grid. -/
theorem idx : ∀ t : Fin cfg0.N, win0_0.index t = ![t.val / 3, t.val % 3] ∧ win0_1.index t = ![1, t.val % 3, 0]
    ∧ win0_2.index t = ![t.val / 3, 0] :=
  (by decide +kernel : ∀ t : Fin grid0.N, win0_0.index t = ![t.val / 3, t.val % 3] ∧ win0_1.index t = ![1, t.val % 3, 0]
    ∧ win0_2.index t = ![t.val / 3, 0])

/-- The grid point of tile `s` of the sum for block `g` of the result. -/
abbrev pt (g : Fin 16) (s : Fin 3) : Fin cfg0.N := ⟨3 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 3) (r : Fin 512) (k : Fin 1024) : (iblk m c 0 (pt g s) : Vec Ideal S512x1024 .bf16) (ix2 r k)
    = m ((c : Thread nD τ).loc main_arg0) (ix2 (row g r) (Tiles.at' (n := 3) rfl s k)) := by
  have h := idx (pt g s)
  blk_ext! [iblk, V, h]

/-- The right factor's tile `s`. -/
theorem blk_y (s : Fin 3) (k : Fin 1024) (d : Fin 1024) : (iblk m c 1 (pt g s) : Vec Ideal S1x1024x1024 .bf16) (ix3 0 k d)
    = m ((c : Thread nD τ).loc main_arg1) (ix3 1 (Tiles.at' (n := 3) rfl s k) d) := by
  have h := idx (pt g s)
  blk_ext! [iblk, V, h]

/-- What the last tile writes to the result's block. -/
theorem block (r : Fin 512) (d : Fin 1024) : (outsAt0 m c (pt g 2).val (pt g 2).isLt).1 (ix2 r d)
    = Tiles.nn (m ((c : Thread nD τ).loc main_arg0)) (layer 1 (m ((c : Thread nD τ).loc main_arg1))) (ix2 (row g r) d) := by
  have hs : (outsAt0 m c (pt g 1).val (pt g 1).isLt).2 (ix2 r d) + Tiles.nn (iblk m c 0 (pt g 2)) (layer (n := 1) 0 (iblk m c 1 (pt g 2))) (ix2 r d)
      = Tiles.nn (m ((c : Thread nD τ).loc main_arg0)) (layer 1 (m ((c : Thread nD τ).loc main_arg1))) (ix2 (row g r) d) := by
    refine Eq.trans ?_ (Tiles.sum_eq (n := 3) (b := 1024) rfl _).symm
    refine (Tiles.fold_out (n := 1) (fun j h => (outsAt0 m c (pt g ⟨j, by omega⟩).val (pt g ⟨j, by omega⟩).isLt).2 (ix2 r d)) _
      (fun s => Tiles.nn (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
    · refine (congrArg (fun p => p.2 (ix2 r d)) (outsAt0_B m c (pt g ⟨j + 1, by omega⟩) (by dsimp only; omega) (by dsimp only; omega) (by dsimp only; omega))).trans ?_
      refine Eq.trans (congrFun ?_ _) (step_at _ _ _ r d)
      unfold sout0_B_0
      rw [View.read_writes_eq_canon _ _ _ fun _ => scover0_B_0 ..]
      unfold kernelRun0_B
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
      exact congrArg (k0_pay3 _ _) (Memref.IsWhole.read_unread (Memref.isWhole_whole cc0_scratch0) _)
    · simp only [Tiles.nn, layer, ix2, ix3, blk_x, blk_y]
  refine (congrArg (fun p => p.1 (ix2 r d)) (outsAt0_C m c (pt g 2) (by dsimp only; omega) (by dsimp only; omega) (by dsimp only; omega))).trans ?_
  refine Eq.trans (congrFun ?_ _) ((step_at _ _ _ r d).trans hs)
  unfold out0_C_2
  rw [View.read_writes_eq_canon _ _ _ fun _ => cover0_C_2 ..]
  unfold kernelRun0_C
  dsimp only
  sl_unfold_words
  rw [View.canon_unit_zero Tiles.corner, View.readCov_unit_zero (S := S512x1024) _ Tiles.corner]
  simp only [View.readAt_eq_ld, Memref.IsWhole.read_unread, View.ld_unit_zero (S := S512x1024) Tiles.corner, View.ld_unit_zero (S := S1x1024x1024) corner3]
  exact congrArg (k0_pay3 _ _) (Memref.IsWhole.read_unread (Memref.isWhole_whole cc0_scratch0) _)

/-- The result's array. -/
theorem final : (dats m 0 c).arrAt 2 cfg0.N = Tiles.nn (m ((c : Thread nD τ).loc main_arg0)) (layer 1 (m ((c : Thread nD τ).loc main_arg1))) := by
  refine (dats m 0 c).arrAt_eq_of_covers 2 _ (by decide +kernel) fun t hf y => ?_
  have ht : t.val < 48 := lt_of_lt_of_eq t.isLt Gen.N_0
  have hl : t.val % 3 = 2 := (flush0_2 t).mp hf
  obtain ⟨g, rfl⟩ : ∃ g : Fin 16, t = pt g 2 := ⟨⟨t.val / 3, by omega⟩, Fin.ext (by show _ = 3 * (t.val / 3) + 2; omega)⟩
  have h := idx (pt g 2)
  obtain ⟨r, d, rfl⟩ : ∃ (r : Fin 512) (d : Fin 1024), y = ix2 r d := ⟨y 0, y 1, ValueIdx.eq_ix2 y⟩
  have e : (win0_2.blk (pt g 2)).view.emb (ix2 r d) = ix2 (row g r) d := by
    blk_ext [h]
  blk_simp
  rw [e, after0_2]
  exact block m c g r d

end

section

open Cert.ReferenceFfnOut1Ideal Cert.ReferenceFfnOut1Ideal.Read

/-- The reference's result. -/
theorem reference (x : Tiles.Mat 8192 3072) (w : (⟨3, ![4, 3072, 1024]⟩ : Shape).Idx → EReal) : val_main_v4 (F := Ideal) x w = Tiles.nn x (layer 1 w) := by
  funext i
  rw [val_main_v4_apply]
  exact Finset.sum_congr rfl fun k _ => congrArg₂ (· * ·) (congrArg x (ValueIdx.eq_ix2 _)) (congrFun (Launches.layer_eq 1 w Gen.slices_S4x3072x1024_S1x3072x1024_1_0_0 Gen.shapeCasts_S1x3072x1024_S3072x1024) _)

end

/-- The reference runs, keeps its arguments and ends with its counters at zero. -/
theorem frame_reference : Cert.quiescent_ReferenceFfnOut1Ideal := fun m ρ _ =>
  (θ_run _ _ _).mono (fun r h => ⟨fun c => (h c).2, sem_eq_zero_of_no_sems (by decide) r.2⟩) (Cert.ReferenceFfnOut1Ideal.Value.run m ρ)

/-- Kernel and reference end with the same product. -/
theorem algebraic : Cert.algebraic_KernelFfnOut1Ideal_ReferenceFfnOut1Ideal := by
  intro m ρ m' ρ' _ hagree
  refine ⟨_, (θ_run _ _ _).mono (fun _ h c => ⟨(h c).1.trans (final m c), (h c).2⟩) (Cert.KernelFfnOut1Ideal.Value.run_blocks m ρ),
    (θ_run _ _ _).mono (fun r h c => ⟨(h c).1.trans (((Cert.ReferenceFfnOut1Ideal.Read.val_main_v4_eq _ _).symm.trans (reference _ _)).trans ?_), (h c).2⟩)
      (Cert.ReferenceFfnOut1Ideal.Value.run m' ρ')⟩
  rw [(hagree c).1, (hagree c).2]

end FfnOut1

end
-- ==== Proof.FfnOut2.lean ====
module

public import proofs.«01_k».proof.Defs
public import proofs.«01_k».proof.Proof.FfnOut1
public import proofs.«01_k».proof.Proof.Gen.KernelFfnOut2Ideal.Value
public import proofs.«01_k».proof.Proof.Gen.ReferenceFfnOut2Ideal.Read
public import proofs.«01_k».proof.Proof.Gen.ReferenceFfnOut2Ideal.Run
public import Idealize.ShloMosaic.Lib.Quiescent
public import Idealize.ShloMosaic.Lib.Pipeline.ValueKit.Point
public import Idealize.ShloMosaic.Lib.Pointwise

@[expose] public section

set_option maxRecDepth 16384

/-! The feed-forward layer's last product in the third layer. -/

noncomputable section

namespace FfnOut2

open Idealize.ShloMosaic Idealize.ShloMosaic.TcCoe Idealize.SL.Sem
open Launches (layer corner3 plus)

section

open Cert.KernelFfnOut2Ideal Cert.KernelFfnOut2Ideal.Gen

/-- The accumulator's first value: the product of the first two tiles. -/
theorem start_at (x : Vec Ideal S512x1024 .bf16) (y : Vec Ideal S1x1024x1024 .bf16) (r : Fin 512) (d : Fin 1024) :
    k0_pay2 x y (ix2 r d) = Tiles.nn x (layer (n := 1) 0 y) (ix2 r d) := by
  unfold Tiles.nn
  pointwise [k0_pay2, k0_pay1]
  rfl

/-- Its next value: the product of the next two tiles is added. -/
theorem step_at (x : Vec Ideal S512x1024 .bf16) (y : Vec Ideal S1x1024x1024 .bf16) (a : Vec Ideal S512x1024 .f32) (r : Fin 512) (d : Fin 1024) :
    k0_pay3 x y a (ix2 r d) = a (ix2 r d) + Tiles.nn x (layer (n := 1) 0 y) (ix2 r d) := by
  unfold Tiles.nn
  pointwise [k0_pay3, k0_pay1]
  rfl

variable (m : (ℓ : Loc nD τ sig) → Buf (Elt Ideal) ℓ) (c : Dev nD)

/-- The windows' blocks over the grid. -/
theorem idx : ∀ t : Fin cfg0.N, win0_0.index t = ![t.val / 3, t.val % 3] ∧ win0_1.index t = ![2, t.val % 3, 0]
    ∧ win0_2.index t = ![t.val / 3, 0] :=
  (by decide +kernel : ∀ t : Fin grid0.N, win0_0.index t = ![t.val / 3, t.val % 3] ∧ win0_1.index t = ![2, t.val % 3, 0]
    ∧ win0_2.index t = ![t.val / 3, 0])

/-- The grid point of tile `s` of the sum for block `g` of the result. -/
abbrev pt (g : Fin 16) (s : Fin 3) : Fin cfg0.N := ⟨3 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 3) (r : Fin 512) (k : Fin 1024) : (iblk m c 0 (pt g s) : Vec Ideal S512x1024 .bf16) (ix2 r k)
    = m ((c : Thread nD τ).loc main_arg0) (ix2 (row g r) (Tiles.at' (n := 3) rfl s k)) := by
  have h := idx (pt g s)
  blk_ext! [iblk, V, h]

/-- The right factor's tile `s`. -/
theorem blk_y (s : Fin 3) (k : Fin 1024) (d : Fin 1024) : (iblk m c 1 (pt g s) : Vec Ideal S1x1024x1024 .bf16) (ix3 0 k d)
    = m ((c : Thread nD τ).loc main_arg1) (ix3 2 (Tiles.at' (n := 3) rfl s k) d) := by
  have h := idx (pt g s)
  blk_ext! [iblk, V, h]

/-- What the last tile writes to the result's block. -/
theorem block (r : Fin 512) (d : Fin 1024) : (outsAt0 m c (pt g 2).val (pt g 2).isLt).1 (ix2 r d)
    = Tiles.nn (m ((c : Thread nD τ).loc main_arg0)) (layer 2 (m ((c : Thread nD τ).loc main_arg1))) (ix2 (row g r) d) := by
  have hs : (outsAt0 m c (pt g 1).val (pt g 1).isLt).2 (ix2 r d) + Tiles.nn (iblk m c 0 (pt g 2)) (layer (n := 1) 0 (iblk m c 1 (pt g 2))) (ix2 r d)
      = Tiles.nn (m ((c : Thread nD τ).loc main_arg0)) (layer 2 (m ((c : Thread nD τ).loc main_arg1))) (ix2 (row g r) d) := by
    refine Eq.trans ?_ (Tiles.sum_eq (n := 3) (b := 1024) rfl _).symm
    refine (Tiles.fold_out (n := 1) (fun j h => (outsAt0 m c (pt g ⟨j, by omega⟩).val (pt g ⟨j, by omega⟩).isLt).2 (ix2 r d)) _
      (fun s => Tiles.nn (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
    · refine (congrArg (fun p => p.2 (ix2 r d)) (outsAt0_B m c (pt g ⟨j + 1, by omega⟩) (by dsimp only; omega) (by dsimp only; omega) (by dsimp only; omega))).trans ?_
      refine Eq.trans (congrFun ?_ _) (step_at _ _ _ r d)
      unfold sout0_B_0
      rw [View.read_writes_eq_canon _ _ _ fun _ => scover0_B_0 ..]
      unfold kernelRun0_B
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
      exact congrArg (k0_pay3 _ _) (Memref.IsWhole.read_unread (Memref.isWhole_whole cc0_scratch0) _)
    · simp only [Tiles.nn, layer, ix2, ix3, blk_x, blk_y]
  refine (congrArg (fun p => p.1 (ix2 r d)) (outsAt0_C m c (pt g 2) (by dsimp only; omega) (by dsimp only; omega) (by dsimp only; omega))).trans ?_
  refine Eq.trans (congrFun ?_ _) ((step_at _ _ _ r d).trans hs)
  unfold out0_C_2
  rw [View.read_writes_eq_canon _ _ _ fun _ => cover0_C_2 ..]
  unfold kernelRun0_C
  dsimp only
  sl_unfold_words
  rw [View.canon_unit_zero Tiles.corner, View.readCov_unit_zero (S := S512x1024) _ Tiles.corner]
  simp only [View.readAt_eq_ld, Memref.IsWhole.read_unread, View.ld_unit_zero (S := S512x1024) Tiles.corner, View.ld_unit_zero (S := S1x1024x1024) corner3]
  exact congrArg (k0_pay3 _ _) (Memref.IsWhole.read_unread (Memref.isWhole_whole cc0_scratch0) _)

/-- The result's array. -/
theorem final : (dats m 0 c).arrAt 2 cfg0.N = Tiles.nn (m ((c : Thread nD τ).loc main_arg0)) (layer 2 (m ((c : Thread nD τ).loc main_arg1))) := by
  refine (dats m 0 c).arrAt_eq_of_covers 2 _ (by decide +kernel) fun t hf y => ?_
  have ht : t.val < 48 := lt_of_lt_of_eq t.isLt Gen.N_0
  have hl : t.val % 3 = 2 := (flush0_2 t).mp hf
  obtain ⟨g, rfl⟩ : ∃ g : Fin 16, t = pt g 2 := ⟨⟨t.val / 3, by omega⟩, Fin.ext (by show _ = 3 * (t.val / 3) + 2; omega)⟩
  have h := idx (pt g 2)
  obtain ⟨r, d, rfl⟩ : ∃ (r : Fin 512) (d : Fin 1024), y = ix2 r d := ⟨y 0, y 1, ValueIdx.eq_ix2 y⟩
  have e : (win0_2.blk (pt g 2)).view.emb (ix2 r d) = ix2 (row g r) d := by
    blk_ext [h]
  blk_simp
  rw [e, after0_2]
  exact block m c g r d

end

section

open Cert.ReferenceFfnOut2Ideal Cert.ReferenceFfnOut2Ideal.Read

/-- The reference's result. -/
theorem reference (x : Tiles.Mat 8192 3072) (w : (⟨3, ![4, 3072, 1024]⟩ : Shape).Idx → EReal) : val_main_v4 (F := Ideal) x w = Tiles.nn x (layer 2 w) := by
  funext i
  rw [val_main_v4_apply]
  exact Finset.sum_congr rfl fun k _ => congrArg₂ (· * ·) (congrArg x (ValueIdx.eq_ix2 _)) (congrFun (Launches.layer_eq 2 w Gen.slices_S4x3072x1024_S1x3072x1024_2_0_0 Gen.shapeCasts_S1x3072x1024_S3072x1024) _)

end

/-- The reference runs, keeps its arguments and ends with its counters at zero. -/
theorem frame_reference : Cert.quiescent_ReferenceFfnOut2Ideal := fun m ρ _ =>
  (θ_run _ _ _).mono (fun r h => ⟨fun c => (h c).2, sem_eq_zero_of_no_sems (by decide) r.2⟩) (Cert.ReferenceFfnOut2Ideal.Value.run m ρ)

/-- Kernel and reference end with the same product. -/
theorem algebraic : Cert.algebraic_KernelFfnOut2Ideal_ReferenceFfnOut2Ideal := by
  intro m ρ m' ρ' _ hagree
  refine ⟨_, (θ_run _ _ _).mono (fun _ h c => ⟨(h c).1.trans (final m c), (h c).2⟩) (Cert.KernelFfnOut2Ideal.Value.run_blocks m ρ),
    (θ_run _ _ _).mono (fun r h c => ⟨(h c).1.trans (((Cert.ReferenceFfnOut2Ideal.Read.val_main_v4_eq _ _).symm.trans (reference _ _)).trans ?_), (h c).2⟩)
      (Cert.ReferenceFfnOut2Ideal.Value.run m' ρ')⟩
  rw [(hagree c).1, (hagree c).2]

end FfnOut2

end
-- ==== Proof.FfnOut3.lean ====
module

public import proofs.«01_k».proof.Defs
public import proofs.«01_k».proof.Proof.FfnOut2
public import proofs.«01_k».proof.Proof.Gen.KernelFfnOut3Ideal.Value
public import proofs.«01_k».proof.Proof.Gen.ReferenceFfnOut3Ideal.Read
public import proofs.«01_k».proof.Proof.Gen.ReferenceFfnOut3Ideal.Run
public import Idealize.ShloMosaic.Lib.Quiescent
public import Idealize.ShloMosaic.Lib.Pipeline.ValueKit.Point
public import Idealize.ShloMosaic.Lib.Pointwise

@[expose] public section

set_option maxRecDepth 16384

/-! The feed-forward layer's last product in the fourth layer. -/

noncomputable section

namespace FfnOut3

open Idealize.ShloMosaic Idealize.ShloMosaic.TcCoe Idealize.SL.Sem
open Launches (layer corner3 plus)

section

open Cert.KernelFfnOut3Ideal Cert.KernelFfnOut3Ideal.Gen

/-- The accumulator's first value: the product of the first two tiles. -/
theorem start_at (x : Vec Ideal S512x1024 .bf16) (y : Vec Ideal S1x1024x1024 .bf16) (r : Fin 512) (d : Fin 1024) :
    k0_pay2 x y (ix2 r d) = Tiles.nn x (layer (n := 1) 0 y) (ix2 r d) := by
  unfold Tiles.nn
  pointwise [k0_pay2, k0_pay1]
  rfl

/-- Its next value: the product of the next two tiles is added. -/
theorem step_at (x : Vec Ideal S512x1024 .bf16) (y : Vec Ideal S1x1024x1024 .bf16) (a : Vec Ideal S512x1024 .f32) (r : Fin 512) (d : Fin 1024) :
    k0_pay3 x y a (ix2 r d) = a (ix2 r d) + Tiles.nn x (layer (n := 1) 0 y) (ix2 r d) := by
  unfold Tiles.nn
  pointwise [k0_pay3, k0_pay1]
  rfl

variable (m : (ℓ : Loc nD τ sig) → Buf (Elt Ideal) ℓ) (c : Dev nD)

/-- The windows' blocks over the grid. -/
theorem idx : ∀ t : Fin cfg0.N, win0_0.index t = ![t.val / 3, t.val % 3] ∧ win0_1.index t = ![3, t.val % 3, 0]
    ∧ win0_2.index t = ![t.val / 3, 0] :=
  (by decide +kernel : ∀ t : Fin grid0.N, win0_0.index t = ![t.val / 3, t.val % 3] ∧ win0_1.index t = ![3, t.val % 3, 0]
    ∧ win0_2.index t = ![t.val / 3, 0])

/-- The grid point of tile `s` of the sum for block `g` of the result. -/
abbrev pt (g : Fin 16) (s : Fin 3) : Fin cfg0.N := ⟨3 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 3) (r : Fin 512) (k : Fin 1024) : (iblk m c 0 (pt g s) : Vec Ideal S512x1024 .bf16) (ix2 r k)
    = m ((c : Thread nD τ).loc main_arg0) (ix2 (row g r) (Tiles.at' (n := 3) rfl s k)) := by
  have h := idx (pt g s)
  blk_ext! [iblk, V, h]

/-- The right factor's tile `s`. -/
theorem blk_y (s : Fin 3) (k : Fin 1024) (d : Fin 1024) : (iblk m c 1 (pt g s) : Vec Ideal S1x1024x1024 .bf16) (ix3 0 k d)
    = m ((c : Thread nD τ).loc main_arg1) (ix3 3 (Tiles.at' (n := 3) rfl s k) d) := by
  have h := idx (pt g s)
  blk_ext! [iblk, V, h]

/-- What the last tile writes to the result's block. -/
theorem block (r : Fin 512) (d : Fin 1024) : (outsAt0 m c (pt g 2).val (pt g 2).isLt).1 (ix2 r d)
    = Tiles.nn (m ((c : Thread nD τ).loc main_arg0)) (layer 3 (m ((c : Thread nD τ).loc main_arg1))) (ix2 (row g r) d) := by
  have hs : (outsAt0 m c (pt g 1).val (pt g 1).isLt).2 (ix2 r d) + Tiles.nn (iblk m c 0 (pt g 2)) (layer (n := 1) 0 (iblk m c 1 (pt g 2))) (ix2 r d)
      = Tiles.nn (m ((c : Thread nD τ).loc main_arg0)) (layer 3 (m ((c : Thread nD τ).loc main_arg1))) (ix2 (row g r) d) := by
    refine Eq.trans ?_ (Tiles.sum_eq (n := 3) (b := 1024) rfl _).symm
    refine (Tiles.fold_out (n := 1) (fun j h => (outsAt0 m c (pt g ⟨j, by omega⟩).val (pt g ⟨j, by omega⟩).isLt).2 (ix2 r d)) _
      (fun s => Tiles.nn (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
    · refine (congrArg (fun p => p.2 (ix2 r d)) (outsAt0_B m c (pt g ⟨j + 1, by omega⟩) (by dsimp only; omega) (by dsimp only; omega) (by dsimp only; omega))).trans ?_
      refine Eq.trans (congrFun ?_ _) (step_at _ _ _ r d)
      unfold sout0_B_0
      rw [View.read_writes_eq_canon _ _ _ fun _ => scover0_B_0 ..]
      unfold kernelRun0_B
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
      exact congrArg (k0_pay3 _ _) (Memref.IsWhole.read_unread (Memref.isWhole_whole cc0_scratch0) _)
    · simp only [Tiles.nn, layer, ix2, ix3, blk_x, blk_y]
  refine (congrArg (fun p => p.1 (ix2 r d)) (outsAt0_C m c (pt g 2) (by dsimp only; omega) (by dsimp only; omega) (by dsimp only; omega))).trans ?_
  refine Eq.trans (congrFun ?_ _) ((step_at _ _ _ r d).trans hs)
  unfold out0_C_2
  rw [View.read_writes_eq_canon _ _ _ fun _ => cover0_C_2 ..]
  unfold kernelRun0_C
  dsimp only
  sl_unfold_words
  rw [View.canon_unit_zero Tiles.corner, View.readCov_unit_zero (S := S512x1024) _ Tiles.corner]
  simp only [View.readAt_eq_ld, Memref.IsWhole.read_unread, View.ld_unit_zero (S := S512x1024) Tiles.corner, View.ld_unit_zero (S := S1x1024x1024) corner3]
  exact congrArg (k0_pay3 _ _) (Memref.IsWhole.read_unread (Memref.isWhole_whole cc0_scratch0) _)

/-- The result's array. -/
theorem final : (dats m 0 c).arrAt 2 cfg0.N = Tiles.nn (m ((c : Thread nD τ).loc main_arg0)) (layer 3 (m ((c : Thread nD τ).loc main_arg1))) := by
  refine (dats m 0 c).arrAt_eq_of_covers 2 _ (by decide +kernel) fun t hf y => ?_
  have ht : t.val < 48 := lt_of_lt_of_eq t.isLt Gen.N_0
  have hl : t.val % 3 = 2 := (flush0_2 t).mp hf
  obtain ⟨g, rfl⟩ : ∃ g : Fin 16, t = pt g 2 := ⟨⟨t.val / 3, by omega⟩, Fin.ext (by show _ = 3 * (t.val / 3) + 2; omega)⟩
  have h := idx (pt g 2)
  obtain ⟨r, d, rfl⟩ : ∃ (r : Fin 512) (d : Fin 1024), y = ix2 r d := ⟨y 0, y 1, ValueIdx.eq_ix2 y⟩
  have e : (win0_2.blk (pt g 2)).view.emb (ix2 r d) = ix2 (row g r) d := by
    blk_ext [h]
  blk_simp
  rw [e, after0_2]
  exact block m c g r d

end

section

open Cert.ReferenceFfnOut3Ideal Cert.ReferenceFfnOut3Ideal.Read

/-- The reference's result. -/
theorem reference (x : Tiles.Mat 8192 3072) (w : (⟨3, ![4, 3072, 1024]⟩ : Shape).Idx → EReal) : val_main_v4 (F := Ideal) x w = Tiles.nn x (layer 3 w) := by
  funext i
  rw [val_main_v4_apply]
  exact Finset.sum_congr rfl fun k _ => congrArg₂ (· * ·) (congrArg x (ValueIdx.eq_ix2 _)) (congrFun (Launches.layer_eq 3 w Gen.slices_S4x3072x1024_S1x3072x1024_3_0_0 Gen.shapeCasts_S1x3072x1024_S3072x1024) _)

end

/-- The reference runs, keeps its arguments and ends with its counters at zero. -/
theorem frame_reference : Cert.quiescent_ReferenceFfnOut3Ideal := fun m ρ _ =>
  (θ_run _ _ _).mono (fun r h => ⟨fun c => (h c).2, sem_eq_zero_of_no_sems (by decide) r.2⟩) (Cert.ReferenceFfnOut3Ideal.Value.run m ρ)

/-- Kernel and reference end with the same product. -/
theorem algebraic : Cert.algebraic_KernelFfnOut3Ideal_ReferenceFfnOut3Ideal := by
  intro m ρ m' ρ' _ hagree
  refine ⟨_, (θ_run _ _ _).mono (fun _ h c => ⟨(h c).1.trans (final m c), (h c).2⟩) (Cert.KernelFfnOut3Ideal.Value.run_blocks m ρ),
    (θ_run _ _ _).mono (fun r h c => ⟨(h c).1.trans (((Cert.ReferenceFfnOut3Ideal.Read.val_main_v4_eq _ _).symm.trans (reference _ _)).trans ?_), (h c).2⟩)
      (Cert.ReferenceFfnOut3Ideal.Value.run m' ρ')⟩
  rw [(hagree c).1, (hagree c).2]

end FfnOut3

end
-- ==== Proof.QkvProjDx0.lean ====
module

public import proofs.«01_k».proof.Defs
public import proofs.«01_k».proof.Proof.FfnOut3
public import proofs.«01_k».proof.Proof.Gen.KernelQkvProjDx0Ideal.Value
public import proofs.«01_k».proof.Proof.Gen.ReferenceQkvProjDx0Ideal.Read
public import proofs.«01_k».proof.Proof.Gen.ReferenceQkvProjDx0Ideal.Run
public import Idealize.ShloMosaic.Lib.Quiescent
public import Idealize.ShloMosaic.Lib.Pipeline.ValueKit.Point
public import Idealize.ShloMosaic.Lib.Pointwise

@[expose] public section

set_option maxRecDepth 16384

/-! The gradient with respect to the attention's input in the first of its two layers: the residual's gradient and the one through the queries, keys and values. -/

noncomputable section

namespace QkvProjDx0

open Idealize.ShloMosaic Idealize.ShloMosaic.TcCoe Idealize.SL.Sem
open Launches (layer corner3 plus)

section

open Cert.KernelQkvProjDx0Ideal Cert.KernelQkvProjDx0Ideal.Gen

/-- The accumulator's first value: the product of the first two tiles. -/
theorem start_at (x : Vec Ideal S512x512 .bf16) (y : Vec Ideal S1x512x1024 .bf16) (r : Fin 512) (d : Fin 1024) :
    k0_pay2 x y (ix2 r d) = Tiles.tn x (layer (n := 1) 0 y) (ix2 r d) := by
  unfold Tiles.tn
  pointwise [k0_pay2, k0_pay1]
  rfl

/-- Its next value: the product of the next two tiles is added. -/
theorem step_at (x : Vec Ideal S512x512 .bf16) (y : Vec Ideal S1x512x1024 .bf16) (a : Vec Ideal S512x1024 .f32) (r : Fin 512) (d : Fin 1024) :
    k0_pay3 x y a (ix2 r d) = a (ix2 r d) + Tiles.tn x (layer (n := 1) 0 y) (ix2 r d) := by
  unfold Tiles.tn
  pointwise [k0_pay3, k0_pay1]
  rfl

/-- What the last tile writes: the accumulator and the third block. -/
theorem last_at (x : Vec Ideal S512x512 .bf16) (y : Vec Ideal S1x512x1024 .bf16) (a z : Vec Ideal S512x1024 .f32) (r : Fin 512) (d : Fin 1024) :
    k0_pay4 (k0_pay3 x y a) z (ix2 r d) = a (ix2 r d) + Tiles.tn x (layer (n := 1) 0 y) (ix2 r d) + z (ix2 r d) := by
  refine Eq.trans ?_ (congrArg (· + z (ix2 r d)) (step_at x y a r d))
  generalize k0_pay3 x y a = b
  pointwise [k0_pay4]

variable (m : (ℓ : Loc nD τ sig) → Buf (Elt Ideal) ℓ) (c : Dev nD)

/-- The windows' blocks over the grid. -/
theorem idx : ∀ t : Fin cfg0.N, win0_0.index t = ![t.val % 6, t.val / 6] ∧ win0_1.index t = ![0, t.val % 6, 0]
    ∧ win0_2.index t = ![t.val / 6, 0] ∧ win0_3.index t = ![t.val / 6, 0] :=
  (by decide +kernel : ∀ t : Fin grid0.N, win0_0.index t = ![t.val % 6, t.val / 6] ∧ win0_1.index t = ![0, t.val % 6, 0]
    ∧ win0_2.index t = ![t.val / 6, 0] ∧ win0_3.index t = ![t.val / 6, 0])

/-- The grid point of tile `s` of the sum for block `g` of the result. -/
abbrev pt (g : Fin 16) (s : Fin 6) : Fin cfg0.N := ⟨6 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 6) (k : Fin 512) (r : Fin 512) : (iblk m c 0 (pt g s) : Vec Ideal S512x512 .bf16) (ix2 k r)
    = m ((c : Thread nD τ).loc main_arg0) (ix2 (Tiles.at' (n := 6) rfl s k) (row g r)) := by
  have h := idx (pt g s)
  blk_ext! [iblk, V, h]

/-- The right factor's tile `s`. -/
theorem blk_y (s : Fin 6) (k : Fin 512) (d : Fin 1024) : (iblk m c 1 (pt g s) : Vec Ideal S1x512x1024 .bf16) (ix3 0 k d)
    = m ((c : Thread nD τ).loc main_arg1) (ix3 0 (Tiles.at' (n := 6) rfl s k) d) := by
  have h := idx (pt g s)
  blk_ext! [iblk, V, h]

/-- Block `g` of what is added. -/
theorem blk_z (s : Fin 6) (r : Fin 512) (d : Fin 1024) : (iblk m c 2 (pt g s) : Vec Ideal S512x1024 .f32) (ix2 r d)
    = m ((c : Thread nD τ).loc main_arg2) (ix2 (row g r) d) := by
  have h := idx (pt g s)
  blk_ext! [iblk, V, h]

/-- What the last tile writes to the result's block. -/
theorem block (r : Fin 512) (d : Fin 1024) : (outsAt0 m c (pt g 5).val (pt g 5).isLt).1 (ix2 r d)
    = plus (Tiles.tn (m ((c : Thread nD τ).loc main_arg0)) (layer 0 (m ((c : Thread nD τ).loc main_arg1)))) (m ((c : Thread nD τ).loc main_arg2)) (ix2 (row g r) d) := by
  have hs : (outsAt0 m c (pt g 4).val (pt g 4).isLt).2 (ix2 r d) + Tiles.tn (iblk m c 0 (pt g 5)) (layer (n := 1) 0 (iblk m c 1 (pt g 5))) (ix2 r d)
      = Tiles.tn (m ((c : Thread nD τ).loc main_arg0)) (layer 0 (m ((c : Thread nD τ).loc main_arg1))) (ix2 (row g r) d) := by
    refine Eq.trans ?_ (Tiles.sum_eq (n := 6) (b := 512) rfl _).symm
    refine (Tiles.fold_out (n := 4) (fun j h => (outsAt0 m c (pt g ⟨j, by omega⟩).val (pt g ⟨j, by omega⟩).isLt).2 (ix2 r d)) _
      (fun s => Tiles.tn (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x512) Tiles.corner, View.ld_unit_zero (S := S512x1024) Tiles.corner, View.ld_unit_zero (S := S1x512x1024) corner3]
    · refine (congrArg (fun p => p.2 (ix2 r d)) (outsAt0_B m c (pt g ⟨j + 1, by omega⟩) (by dsimp only; omega) (by dsimp only; omega) (by dsimp only; omega))).trans ?_
      refine Eq.trans (congrFun ?_ _) (step_at _ _ _ r d)
      unfold sout0_B_0
      rw [View.read_writes_eq_canon _ _ _ fun _ => scover0_B_0 ..]
      unfold kernelRun0_B
      dsimp only
      sl_unfold_words
      rw [View.canon_unit_zero Tiles.corner]
      simp only [View.readAt_eq_ld, Memref.IsWhole.read_unread, View.ld_unit_zero (S := S512x512) Tiles.corner, View.ld_unit_zero (S := S512x1024) Tiles.corner, View.ld_unit_zero (S := S1x512x1024) corner3]
      exact congrArg (k0_pay3 _ _) (Memref.IsWhole.read_unread (Memref.isWhole_whole cc0_scratch0) _)
    · simp only [Tiles.tn, layer, ix2, ix3, blk_x, blk_y]
  refine (congrArg (fun p => p.1 (ix2 r d)) (outsAt0_C m c (pt g 5) (by dsimp only; omega) (by dsimp only; omega) (by dsimp only; omega))).trans ?_
  refine Eq.trans (congrFun ?_ _) ((last_at _ _ _ _ r d).trans (congrArg₂ (· + ·) hs (blk_z m c g 5 r d)))
  unfold out0_C_3
  rw [View.read_writes_eq_canon _ _ _ fun _ => cover0_C_3 ..]
  unfold kernelRun0_C
  dsimp only
  sl_unfold_words
  rw [View.canon_unit_zero Tiles.corner, View.readCov_unit_zero (S := S512x1024) _ Tiles.corner]
  simp only [View.readAt_eq_ld, Memref.IsWhole.read_unread, View.ld_unit_zero (S := S512x512) Tiles.corner, View.ld_unit_zero (S := S512x1024) Tiles.corner, View.ld_unit_zero (S := S1x512x1024) corner3]
  exact congrArg (fun a => k0_pay4 (k0_pay3 _ _ a) _) (Memref.IsWhole.read_unread (Memref.isWhole_whole cc0_scratch0) _)

/-- The result's array. -/
theorem final : (dats m 0 c).arrAt 3 cfg0.N = plus (Tiles.tn (m ((c : Thread nD τ).loc main_arg0)) (layer 0 (m ((c : Thread nD τ).loc main_arg1)))) (m ((c : Thread nD τ).loc main_arg2)) := by
  refine (dats m 0 c).arrAt_eq_of_covers 3 _ (by decide +kernel) fun t hf y => ?_
  have ht : t.val < 96 := lt_of_lt_of_eq t.isLt Gen.N_0
  have hl : t.val % 6 = 5 := (flush0_3 t).mp hf
  obtain ⟨g, rfl⟩ : ∃ g : Fin 16, t = pt g 5 := ⟨⟨t.val / 6, by omega⟩, Fin.ext (by show _ = 6 * (t.val / 6) + 5; omega)⟩
  have h := idx (pt g 5)
  obtain ⟨r, d, rfl⟩ : ∃ (r : Fin 512) (d : Fin 1024), y = ix2 r d := ⟨y 0, y 1, ValueIdx.eq_ix2 y⟩
  have e : (win0_3.blk (pt g 5)).view.emb (ix2 r d) = ix2 (row g r) d := by
    blk_ext [h]
  blk_simp
  rw [e, after0_3]
  exact block m c g r d

end

section

open Cert.ReferenceQkvProjDx0Ideal Cert.ReferenceQkvProjDx0Ideal.Read

/-- The reference's result. -/
theorem reference (x : Tiles.Mat 3072 8192) (w : (⟨3, ![2, 3072, 1024]⟩ : Shape).Idx → EReal) (z : Tiles.Mat 8192 1024) : val_main_v9 (F := Ideal) x w z = plus (Tiles.tn x (layer 0 w)) z := by
  funext i
  rw [val_main_v9_apply, val_main_v8_apply]
  refine (add_comm _ _).trans (congrArg₂ (· + ·) (Finset.sum_congr rfl fun k _ => congrArg₂ (· * ·) ?_ ?_) rfl)
  · rw [val_main_v7_apply, val_main_v3_apply]
    exact congrArg x (ValueIdx.eq_ix2 _)
  · rw [val_main_v5_apply, val_main_v2_apply]
    exact congrFun (Launches.layer_eq 0 w Gen.slices_S2x3072x1024_S1x3072x1024_0_0_0 Gen.shapeCasts_S1x3072x1024_S3072x1024) _

end

/-- The reference runs, keeps its arguments and ends with its counters at zero. -/
theorem frame_reference : Cert.quiescent_ReferenceQkvProjDx0Ideal := fun m ρ _ =>
  (θ_run _ _ _).mono (fun r h => ⟨fun c => (h c).2, sem_eq_zero_of_no_sems (by decide) r.2⟩) (Cert.ReferenceQkvProjDx0Ideal.Value.run m ρ)

/-- Kernel and reference end with the same sum. -/
theorem algebraic : Cert.algebraic_KernelQkvProjDx0Ideal_ReferenceQkvProjDx0Ideal := by
  intro m ρ m' ρ' _ hagree
  refine ⟨_, (θ_run _ _ _).mono (fun _ h c => ⟨(h c).1.trans (final m c), (h c).2⟩) (Cert.KernelQkvProjDx0Ideal.Value.run_blocks m ρ),
    (θ_run _ _ _).mono (fun r h c => ⟨(h c).1.trans (((Cert.ReferenceQkvProjDx0Ideal.Read.val_main_v9_eq _ _ _).symm.trans (reference _ _ _)).trans ?_), (h c).2⟩)
      (Cert.ReferenceQkvProjDx0Ideal.Value.run m' ρ')⟩
  rw [(hagree c).1, (hagree c).2.1, (hagree c).2.2]

end QkvProjDx0

end
-- ==== Proof.QkvProjDx1.lean ====
module

public import proofs.«01_k».proof.Defs
public import proofs.«01_k».proof.Proof.QkvProjDx0
public import proofs.«01_k».proof.Proof.Gen.KernelQkvProjDx1Ideal.Value
public import proofs.«01_k».proof.Proof.Gen.ReferenceQkvProjDx1Ideal.Read
public import proofs.«01_k».proof.Proof.Gen.ReferenceQkvProjDx1Ideal.Run
public import Idealize.ShloMosaic.Lib.Quiescent
public import Idealize.ShloMosaic.Lib.Pipeline.ValueKit.Point
public import Idealize.ShloMosaic.Lib.Pointwise

@[expose] public section

set_option maxRecDepth 16384

/-! The gradient with respect to the attention's input in the second of its two layers: the residual's gradient and the one through the queries, keys and values. -/

noncomputable section

namespace QkvProjDx1

open Idealize.ShloMosaic Idealize.ShloMosaic.TcCoe Idealize.SL.Sem
open Launches (layer corner3 plus)

section

open Cert.KernelQkvProjDx1Ideal Cert.KernelQkvProjDx1Ideal.Gen

/-- The accumulator's first value: the product of the first two tiles. -/
theorem start_at (x : Vec Ideal S512x512 .bf16) (y : Vec Ideal S1x512x1024 .bf16) (r : Fin 512) (d : Fin 1024) :
    k0_pay2 x y (ix2 r d) = Tiles.tn x (layer (n := 1) 0 y) (ix2 r d) := by
  unfold Tiles.tn
  pointwise [k0_pay2, k0_pay1]
  rfl

/-- Its next value: the product of the next two tiles is added. -/
theorem step_at (x : Vec Ideal S512x512 .bf16) (y : Vec Ideal S1x512x1024 .bf16) (a : Vec Ideal S512x1024 .f32) (r : Fin 512) (d : Fin 1024) :
    k0_pay3 x y a (ix2 r d) = a (ix2 r d) + Tiles.tn x (layer (n := 1) 0 y) (ix2 r d) := by
  unfold Tiles.tn
  pointwise [k0_pay3, k0_pay1]
  rfl

/-- What the last tile writes: the accumulator and the third block. -/
theorem last_at (x : Vec Ideal S512x512 .bf16) (y : Vec Ideal S1x512x1024 .bf16) (a z : Vec Ideal S512x1024 .f32) (r : Fin 512) (d : Fin 1024) :
    k0_pay4 (k0_pay3 x y a) z (ix2 r d) = a (ix2 r d) + Tiles.tn x (layer (n := 1) 0 y) (ix2 r d) + z (ix2 r d) := by
  refine Eq.trans ?_ (congrArg (· + z (ix2 r d)) (step_at x y a r d))
  generalize k0_pay3 x y a = b
  pointwise [k0_pay4]

variable (m : (ℓ : Loc nD τ sig) → Buf (Elt Ideal) ℓ) (c : Dev nD)

/-- The windows' blocks over the grid. -/
theorem idx : ∀ t : Fin cfg0.N, win0_0.index t = ![t.val % 6, t.val / 6] ∧ win0_1.index t = ![1, t.val % 6, 0]
    ∧ win0_2.index t = ![t.val / 6, 0] ∧ win0_3.index t = ![t.val / 6, 0] :=
  (by decide +kernel : ∀ t : Fin grid0.N, win0_0.index t = ![t.val % 6, t.val / 6] ∧ win0_1.index t = ![1, t.val % 6, 0]
    ∧ win0_2.index t = ![t.val / 6, 0] ∧ win0_3.index t = ![t.val / 6, 0])

/-- The grid point of tile `s` of the sum for block `g` of the result. -/
abbrev pt (g : Fin 16) (s : Fin 6) : Fin cfg0.N := ⟨6 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 6) (k : Fin 512) (r : Fin 512) : (iblk m c 0 (pt g s) : Vec Ideal S512x512 .bf16) (ix2 k r)
    = m ((c : Thread nD τ).loc main_arg0) (ix2 (Tiles.at' (n := 6) rfl s k) (row g r)) := by
  have h := idx (pt g s)
  blk_ext! [iblk, V, h]

/-- The right factor's tile `s`. -/
theorem blk_y (s : Fin 6) (k : Fin 512) (d : Fin 1024) : (iblk m c 1 (pt g s) : Vec Ideal S1x512x1024 .bf16) (ix3 0 k d)
    = m ((c : Thread nD τ).loc main_arg1) (ix3 1 (Tiles.at' (n := 6) rfl s k) d) := by
  have h := idx (pt g s)
  blk_ext! [iblk, V, h]

/-- Block `g` of what is added. -/
theorem blk_z (s : Fin 6) (r : Fin 512) (d : Fin 1024) : (iblk m c 2 (pt g s) : Vec Ideal S512x1024 .f32) (ix2 r d)
    = m ((c : Thread nD τ).loc main_arg2) (ix2 (row g r) d) := by
  have h := idx (pt g s)
  blk_ext! [iblk, V, h]

/-- What the last tile writes to the result's block. -/
theorem block (r : Fin 512) (d : Fin 1024) : (outsAt0 m c (pt g 5).val (pt g 5).isLt).1 (ix2 r d)
    = plus (Tiles.tn (m ((c : Thread nD τ).loc main_arg0)) (layer 1 (m ((c : Thread nD τ).loc main_arg1)))) (m ((c : Thread nD τ).loc main_arg2)) (ix2 (row g r) d) := by
  have hs : (outsAt0 m c (pt g 4).val (pt g 4).isLt).2 (ix2 r d) + Tiles.tn (iblk m c 0 (pt g 5)) (layer (n := 1) 0 (iblk m c 1 (pt g 5))) (ix2 r d)
      = Tiles.tn (m ((c : Thread nD τ).loc main_arg0)) (layer 1 (m ((c : Thread nD τ).loc main_arg1))) (ix2 (row g r) d) := by
    refine Eq.trans ?_ (Tiles.sum_eq (n := 6) (b := 512) rfl _).symm
    refine (Tiles.fold_out (n := 4) (fun j h => (outsAt0 m c (pt g ⟨j, by omega⟩).val (pt g ⟨j, by omega⟩).isLt).2 (ix2 r d)) _
      (fun s => Tiles.tn (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x512) Tiles.corner, View.ld_unit_zero (S := S512x1024) Tiles.corner, View.ld_unit_zero (S := S1x512x1024) corner3]
    · refine (congrArg (fun p => p.2 (ix2 r d)) (outsAt0_B m c (pt g ⟨j + 1, by omega⟩) (by dsimp only; omega) (by dsimp only; omega) (by dsimp only; omega))).trans ?_
      refine Eq.trans (congrFun ?_ _) (step_at _ _ _ r d)
      unfold sout0_B_0
      rw [View.read_writes_eq_canon _ _ _ fun _ => scover0_B_0 ..]
      unfold kernelRun0_B
      dsimp only
      sl_unfold_words
      rw [View.canon_unit_zero Tiles.corner]
      simp only [View.readAt_eq_ld, Memref.IsWhole.read_unread, View.ld_unit_zero (S := S512x512) Tiles.corner, View.ld_unit_zero (S := S512x1024) Tiles.corner, View.ld_unit_zero (S := S1x512x1024) corner3]
      exact congrArg (k0_pay3 _ _) (Memref.IsWhole.read_unread (Memref.isWhole_whole cc0_scratch0) _)
    · simp only [Tiles.tn, layer, ix2, ix3, blk_x, blk_y]
  refine (congrArg (fun p => p.1 (ix2 r d)) (outsAt0_C m c (pt g 5) (by dsimp only; omega) (by dsimp only; omega) (by dsimp only; omega))).trans ?_
  refine Eq.trans (congrFun ?_ _) ((last_at _ _ _ _ r d).trans (congrArg₂ (· + ·) hs (blk_z m c g 5 r d)))
  unfold out0_C_3
  rw [View.read_writes_eq_canon _ _ _ fun _ => cover0_C_3 ..]
  unfold kernelRun0_C
  dsimp only
  sl_unfold_words
  rw [View.canon_unit_zero Tiles.corner, View.readCov_unit_zero (S := S512x1024) _ Tiles.corner]
  simp only [View.readAt_eq_ld, Memref.IsWhole.read_unread, View.ld_unit_zero (S := S512x512) Tiles.corner, View.ld_unit_zero (S := S512x1024) Tiles.corner, View.ld_unit_zero (S := S1x512x1024) corner3]
  exact congrArg (fun a => k0_pay4 (k0_pay3 _ _ a) _) (Memref.IsWhole.read_unread (Memref.isWhole_whole cc0_scratch0) _)

/-- The result's array. -/
theorem final : (dats m 0 c).arrAt 3 cfg0.N = plus (Tiles.tn (m ((c : Thread nD τ).loc main_arg0)) (layer 1 (m ((c : Thread nD τ).loc main_arg1)))) (m ((c : Thread nD τ).loc main_arg2)) := by
  refine (dats m 0 c).arrAt_eq_of_covers 3 _ (by decide +kernel) fun t hf y => ?_
  have ht : t.val < 96 := lt_of_lt_of_eq t.isLt Gen.N_0
  have hl : t.val % 6 = 5 := (flush0_3 t).mp hf
  obtain ⟨g, rfl⟩ : ∃ g : Fin 16, t = pt g 5 := ⟨⟨t.val / 6, by omega⟩, Fin.ext (by show _ = 6 * (t.val / 6) + 5; omega)⟩
  have h := idx (pt g 5)
  obtain ⟨r, d, rfl⟩ : ∃ (r : Fin 512) (d : Fin 1024), y = ix2 r d := ⟨y 0, y 1, ValueIdx.eq_ix2 y⟩
  have e : (win0_3.blk (pt g 5)).view.emb (ix2 r d) = ix2 (row g r) d := by
    blk_ext [h]
  blk_simp
  rw [e, after0_3]
  exact block m c g r d

end

section

open Cert.ReferenceQkvProjDx1Ideal Cert.ReferenceQkvProjDx1Ideal.Read

/-- The reference's result. -/
theorem reference (x : Tiles.Mat 3072 8192) (w : (⟨3, ![2, 3072, 1024]⟩ : Shape).Idx → EReal) (z : Tiles.Mat 8192 1024) : val_main_v9 (F := Ideal) x w z = plus (Tiles.tn x (layer 1 w)) z := by
  funext i
  rw [val_main_v9_apply, val_main_v8_apply]
  refine (add_comm _ _).trans (congrArg₂ (· + ·) (Finset.sum_congr rfl fun k _ => congrArg₂ (· * ·) ?_ ?_) rfl)
  · rw [val_main_v7_apply, val_main_v3_apply]
    exact congrArg x (ValueIdx.eq_ix2 _)
  · rw [val_main_v5_apply, val_main_v2_apply]
    exact congrFun (Launches.layer_eq 1 w Gen.slices_S2x3072x1024_S1x3072x1024_1_0_0 Gen.shapeCasts_S1x3072x1024_S3072x1024) _

end

/-- The reference runs, keeps its arguments and ends with its counters at zero. -/
theorem frame_reference : Cert.quiescent_ReferenceQkvProjDx1Ideal := fun m ρ _ =>
  (θ_run _ _ _).mono (fun r h => ⟨fun c => (h c).2, sem_eq_zero_of_no_sems (by decide) r.2⟩) (Cert.ReferenceQkvProjDx1Ideal.Value.run m ρ)

/-- Kernel and reference end with the same sum. -/
theorem algebraic : Cert.algebraic_KernelQkvProjDx1Ideal_ReferenceQkvProjDx1Ideal := by
  intro m ρ m' ρ' _ hagree
  refine ⟨_, (θ_run _ _ _).mono (fun _ h c => ⟨(h c).1.trans (final m c), (h c).2⟩) (Cert.KernelQkvProjDx1Ideal.Value.run_blocks m ρ),
    (θ_run _ _ _).mono (fun r h c => ⟨(h c).1.trans (((Cert.ReferenceQkvProjDx1Ideal.Read.val_main_v9_eq _ _ _).symm.trans (reference _ _ _)).trans ?_), (h c).2⟩)
      (Cert.ReferenceQkvProjDx1Ideal.Value.run m' ρ')⟩
  rw [(hagree c).1, (hagree c).2.1, (hagree c).2.2]

end QkvProjDx1

end
-- ==== Proof.InProjDx0.lean ====
module

public import proofs.«01_k».proof.Defs
public import proofs.«01_k».proof.Proof.QkvProjDx1
public import proofs.«01_k».proof.Proof.Gen.KernelInProjDx0Ideal.Value
public import proofs.«01_k».proof.Proof.Gen.ReferenceInProjDx0Ideal.Read
public import proofs.«01_k».proof.Proof.Gen.ReferenceInProjDx0Ideal.Run
public import Idealize.ShloMosaic.Lib.Quiescent
public import Idealize.ShloMosaic.Lib.Pipeline.ValueKit.Point
public import Idealize.ShloMosaic.Lib.Pointwise

@[expose] public section

set_option maxRecDepth 16384

/-! The gradient with respect to the first mixer's input in the first of its two layers: the residual's gradient and the one through the input product. -/

noncomputable section

namespace InProjDx0

open Idealize.ShloMosaic Idealize.ShloMosaic.TcCoe Idealize.SL.Sem
open Launches (layer corner3 plus)

section

open Cert.KernelInProjDx0Ideal Cert.KernelInProjDx0Ideal.Gen

/-- The accumulator's first value: the product of the first two tiles. -/
theorem start_at (x : Vec Ideal S512x1024 .bf16) (y : Vec Ideal S1x1024x1024 .bf16) (r : Fin 512) (d : Fin 1024) :
    k0_pay2 x y (ix2 r d) = Tiles.nt x (layer (n := 1) 0 y) (ix2 r d) := by
  unfold Tiles.nt
  pointwise [k0_pay2, k0_pay1]
  rfl

/-- Its next value: the product of the next two tiles is added. -/
theorem step_at (x : Vec Ideal S512x1024 .bf16) (y : Vec Ideal S1x1024x1024 .bf16) (a : Vec Ideal S512x1024 .f32) (r : Fin 512) (d : Fin 1024) :
    k0_pay3 x y a (ix2 r d) = a (ix2 r d) + Tiles.nt x (layer (n := 1) 0 y) (ix2 r d) := by
  unfold Tiles.nt
  pointwise [k0_pay3, k0_pay1]
  rfl

/-- What the last tile writes: the accumulator and the third block. -/
theorem last_at (x : Vec Ideal S512x1024 .bf16) (y : Vec Ideal S1x1024x1024 .bf16) (a z : Vec Ideal S512x1024 .f32) (r : Fin 512) (d : Fin 1024) :
    k0_pay4 (k0_pay3 x y a) z (ix2 r d) = a (ix2 r d) + Tiles.nt x (layer (n := 1) 0 y) (ix2 r d) + z (ix2 r d) := by
  refine Eq.trans ?_ (congrArg (· + z (ix2 r d)) (step_at x y a r d))
  generalize k0_pay3 x y a = b
  pointwise [k0_pay4]

variable (m : (ℓ : Loc nD τ sig) → Buf (Elt Ideal) ℓ) (c : Dev nD)

/-- The windows' blocks over the grid. -/
theorem idx : ∀ t : Fin cfg0.N, win0_0.index t = ![t.val / 2, t.val % 2] ∧ win0_1.index t = ![0, 0, t.val % 2]
    ∧ win0_2.index t = ![t.val / 2, 0] ∧ win0_3.index t = ![t.val / 2, 0] :=
  (by decide +kernel : ∀ t : Fin grid0.N, win0_0.index t = ![t.val / 2, t.val % 2] ∧ win0_1.index t = ![0, 0, t.val % 2]
    ∧ win0_2.index t = ![t.val / 2, 0] ∧ win0_3.index t = ![t.val / 2, 0])

/-- The grid point of tile `s` of the sum for block `g` of the result. -/
abbrev pt (g : Fin 16) (s : Fin 2) : Fin cfg0.N := ⟨2 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 2) (r : Fin 512) (k : Fin 1024) : (iblk m c 0 (pt g s) : Vec Ideal S512x1024 .bf16) (ix2 r k)
    = m ((c : Thread nD τ).loc main_arg0) (ix2 (row g r) (Tiles.at' (n := 2) rfl s k)) := by
  have h := idx (pt g s)
  blk_ext! [iblk, V, h]

/-- The right factor's tile `s`. -/
theorem blk_y (s : Fin 2) (d : Fin 1024) (k : Fin 1024) : (iblk m c 1 (pt g s) : Vec Ideal S1x1024x1024 .bf16) (ix3 0 d k)
    = m ((c : Thread nD τ).loc main_arg1) (ix3 0 d (Tiles.at' (n := 2) rfl s k)) := by
  have h := idx (pt g s)
  blk_ext! [iblk, V, h]

/-- Block `g` of what is added. -/
theorem blk_z (s : Fin 2) (r : Fin 512) (d : Fin 1024) : (iblk m c 2 (pt g s) : Vec Ideal S512x1024 .f32) (ix2 r d)
    = m ((c : Thread nD τ).loc main_arg2) (ix2 (row g r) d) := by
  have h := idx (pt g s)
  blk_ext! [iblk, V, h]

/-- What the last tile writes to the result's block. -/
theorem block (r : Fin 512) (d : Fin 1024) : (outsAt0 m c (pt g 1).val (pt g 1).isLt).1 (ix2 r d)
    = plus (Tiles.nt (m ((c : Thread nD τ).loc main_arg0)) (layer 0 (m ((c : Thread nD τ).loc main_arg1)))) (m ((c : Thread nD τ).loc main_arg2)) (ix2 (row g r) d) := by
  have hs : (outsAt0 m c (pt g 0).val (pt g 0).isLt).2 (ix2 r d) + Tiles.nt (iblk m c 0 (pt g 1)) (layer (n := 1) 0 (iblk m c 1 (pt g 1))) (ix2 r d)
      = Tiles.nt (m ((c : Thread nD τ).loc main_arg0)) (layer 0 (m ((c : Thread nD τ).loc main_arg1))) (ix2 (row g r) d) := by
    refine Eq.trans ?_ (Tiles.sum_eq (n := 2) (b := 1024) rfl _).symm
    refine (Tiles.fold_out (n := 0) (fun j h => (outsAt0 m c (pt g ⟨j, by omega⟩).val (pt g ⟨j, by omega⟩).isLt).2 (ix2 r d)) _
      (fun s => Tiles.nt (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
    · omega
    · simp only [Tiles.nt, layer, ix2, ix3, blk_x, blk_y]
  refine (congrArg (fun p => p.1 (ix2 r d)) (outsAt0_B m c (pt g 1) (by dsimp only; omega) (by dsimp only; omega) (by dsimp only; omega))).trans ?_
  refine Eq.trans (congrFun ?_ _) ((last_at _ _ _ _ r d).trans (congrArg₂ (· + ·) hs (blk_z m c g 1 r d)))
  unfold out0_B_3
  rw [View.read_writes_eq_canon _ _ _ fun _ => cover0_B_3 ..]
  unfold kernelRun0_B
  dsimp only
  sl_unfold_words
  rw [View.canon_unit_zero Tiles.corner, View.readCov_unit_zero (S := S512x1024) _ Tiles.corner]
  simp only [View.readAt_eq_ld, Memref.IsWhole.read_unread, View.ld_unit_zero (S := S512x1024) Tiles.corner, View.ld_unit_zero (S := S1x1024x1024) corner3]
  exact congrArg (fun a => k0_pay4 (k0_pay3 _ _ a) _) (Memref.IsWhole.read_unread (Memref.isWhole_whole cc0_scratch0) _)

/-- The result's array. -/
theorem final : (dats m 0 c).arrAt 3 cfg0.N = plus (Tiles.nt (m ((c : Thread nD τ).loc main_arg0)) (layer 0 (m ((c : Thread nD τ).loc main_arg1)))) (m ((c : Thread nD τ).loc main_arg2)) := by
  refine (dats m 0 c).arrAt_eq_of_covers 3 _ (by decide +kernel) fun t hf y => ?_
  have ht : t.val < 32 := lt_of_lt_of_eq t.isLt Gen.N_0
  have hl : t.val % 2 = 1 := (flush0_3 t).mp hf
  obtain ⟨g, rfl⟩ : ∃ g : Fin 16, t = pt g 1 := ⟨⟨t.val / 2, by omega⟩, Fin.ext (by show _ = 2 * (t.val / 2) + 1; omega)⟩
  have h := idx (pt g 1)
  obtain ⟨r, d, rfl⟩ : ∃ (r : Fin 512) (d : Fin 1024), y = ix2 r d := ⟨y 0, y 1, ValueIdx.eq_ix2 y⟩
  have e : (win0_3.blk (pt g 1)).view.emb (ix2 r d) = ix2 (row g r) d := by
    blk_ext [h]
  blk_simp
  rw [e, after0_3]
  exact block m c g r d

end

section

open Cert.ReferenceInProjDx0Ideal Cert.ReferenceInProjDx0Ideal.Read

/-- The reference's result. -/
theorem reference (x : Tiles.Mat 8192 2048) (w : (⟨3, ![2, 1024, 2048]⟩ : Shape).Idx → EReal) (z : Tiles.Mat 8192 1024) : val_main_v7 (F := Ideal) x w z = plus (Tiles.nt x (layer 0 w)) z := by
  funext i
  rw [val_main_v7_apply, val_main_v6_apply]
  exact (add_comm _ _).trans (congrArg₂ (· + ·) (Finset.sum_congr rfl fun k _ => congrArg₂ (· * ·) (congrArg x (ValueIdx.eq_ix2 _)) (congrFun (Launches.layer_eq 0 w Gen.slices_S2x1024x2048_S1x1024x2048_0_0_0 Gen.shapeCasts_S1x1024x2048_S1024x2048) _)) rfl)

end

/-- The reference runs, keeps its arguments and ends with its counters at zero. -/
theorem frame_reference : Cert.quiescent_ReferenceInProjDx0Ideal := fun m ρ _ =>
  (θ_run _ _ _).mono (fun r h => ⟨fun c => (h c).2, sem_eq_zero_of_no_sems (by decide) r.2⟩) (Cert.ReferenceInProjDx0Ideal.Value.run m ρ)

/-- Kernel and reference end with the same sum. -/
theorem algebraic : Cert.algebraic_KernelInProjDx0Ideal_ReferenceInProjDx0Ideal := by
  intro m ρ m' ρ' _ hagree
  refine ⟨_, (θ_run _ _ _).mono (fun _ h c => ⟨(h c).1.trans (final m c), (h c).2⟩) (Cert.KernelInProjDx0Ideal.Value.run_blocks m ρ),
    (θ_run _ _ _).mono (fun r h c => ⟨(h c).1.trans (((Cert.ReferenceInProjDx0Ideal.Read.val_main_v7_eq _ _ _).symm.trans (reference _ _ _)).trans ?_), (h c).2⟩)
      (Cert.ReferenceInProjDx0Ideal.Value.run m' ρ')⟩
  rw [(hagree c).1, (hagree c).2.1, (hagree c).2.2]

end InProjDx0

end
-- ==== Proof.InProjDx1.lean ====
module

public import proofs.«01_k».proof.Defs
public import proofs.«01_k».proof.Proof.InProjDx0
public import proofs.«01_k».proof.Proof.Gen.KernelInProjDx1Ideal.Value
public import proofs.«01_k».proof.Proof.Gen.ReferenceInProjDx1Ideal.Read
public import proofs.«01_k».proof.Proof.Gen.ReferenceInProjDx1Ideal.Run
public import Idealize.ShloMosaic.Lib.Quiescent
public import Idealize.ShloMosaic.Lib.Pipeline.ValueKit.Point
public import Idealize.ShloMosaic.Lib.Pointwise

@[expose] public section

set_option maxRecDepth 16384

/-! The gradient with respect to the first mixer's input in the second of its two layers: the residual's gradient and the one through the input product. -/

noncomputable section

namespace InProjDx1

open Idealize.ShloMosaic Idealize.ShloMosaic.TcCoe Idealize.SL.Sem
open Launches (layer corner3 plus)

section

open Cert.KernelInProjDx1Ideal Cert.KernelInProjDx1Ideal.Gen

/-- The accumulator's first value: the product of the first two tiles. -/
theorem start_at (x : Vec Ideal S512x1024 .bf16) (y : Vec Ideal S1x1024x1024 .bf16) (r : Fin 512) (d : Fin 1024) :
    k0_pay2 x y (ix2 r d) = Tiles.nt x (layer (n := 1) 0 y) (ix2 r d) := by
  unfold Tiles.nt
  pointwise [k0_pay2, k0_pay1]
  rfl

/-- Its next value: the product of the next two tiles is added. -/
theorem step_at (x : Vec Ideal S512x1024 .bf16) (y : Vec Ideal S1x1024x1024 .bf16) (a : Vec Ideal S512x1024 .f32) (r : Fin 512) (d : Fin 1024) :
    k0_pay3 x y a (ix2 r d) = a (ix2 r d) + Tiles.nt x (layer (n := 1) 0 y) (ix2 r d) := by
  unfold Tiles.nt
  pointwise [k0_pay3, k0_pay1]
  rfl

/-- What the last tile writes: the accumulator and the third block. -/
theorem last_at (x : Vec Ideal S512x1024 .bf16) (y : Vec Ideal S1x1024x1024 .bf16) (a z : Vec Ideal S512x1024 .f32) (r : Fin 512) (d : Fin 1024) :
    k0_pay4 (k0_pay3 x y a) z (ix2 r d) = a (ix2 r d) + Tiles.nt x (layer (n := 1) 0 y) (ix2 r d) + z (ix2 r d) := by
  refine Eq.trans ?_ (congrArg (· + z (ix2 r d)) (step_at x y a r d))
  generalize k0_pay3 x y a = b
  pointwise [k0_pay4]

variable (m : (ℓ : Loc nD τ sig) → Buf (Elt Ideal) ℓ) (c : Dev nD)

/-- The windows' blocks over the grid. -/
theorem idx : ∀ t : Fin cfg0.N, win0_0.index t = ![t.val / 2, t.val % 2] ∧ win0_1.index t = ![1, 0, t.val % 2]
    ∧ win0_2.index t = ![t.val / 2, 0] ∧ win0_3.index t = ![t.val / 2, 0] :=
  (by decide +kernel : ∀ t : Fin grid0.N, win0_0.index t = ![t.val / 2, t.val % 2] ∧ win0_1.index t = ![1, 0, t.val % 2]
    ∧ win0_2.index t = ![t.val / 2, 0] ∧ win0_3.index t = ![t.val / 2, 0])

/-- The grid point of tile `s` of the sum for block `g` of the result. -/
abbrev pt (g : Fin 16) (s : Fin 2) : Fin cfg0.N := ⟨2 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 2) (r : Fin 512) (k : Fin 1024) : (iblk m c 0 (pt g s) : Vec Ideal S512x1024 .bf16) (ix2 r k)
    = m ((c : Thread nD τ).loc main_arg0) (ix2 (row g r) (Tiles.at' (n := 2) rfl s k)) := by
  have h := idx (pt g s)
  blk_ext! [iblk, V, h]

/-- The right factor's tile `s`. -/
theorem blk_y (s : Fin 2) (d : Fin 1024) (k : Fin 1024) : (iblk m c 1 (pt g s) : Vec Ideal S1x1024x1024 .bf16) (ix3 0 d k)
    = m ((c : Thread nD τ).loc main_arg1) (ix3 1 d (Tiles.at' (n := 2) rfl s k)) := by
  have h := idx (pt g s)
  blk_ext! [iblk, V, h]

/-- Block `g` of what is added. -/
theorem blk_z (s : Fin 2) (r : Fin 512) (d : Fin 1024) : (iblk m c 2 (pt g s) : Vec Ideal S512x1024 .f32) (ix2 r d)
    = m ((c : Thread nD τ).loc main_arg2) (ix2 (row g r) d) := by
  have h := idx (pt g s)
  blk_ext! [iblk, V, h]

/-- What the last tile writes to the result's block. -/
theorem block (r : Fin 512) (d : Fin 1024) : (outsAt0 m c (pt g 1).val (pt g 1).isLt).1 (ix2 r d)
    = plus (Tiles.nt (m ((c : Thread nD τ).loc main_arg0)) (layer 1 (m ((c : Thread nD τ).loc main_arg1)))) (m ((c : Thread nD τ).loc main_arg2)) (ix2 (row g r) d) := by
  have hs : (outsAt0 m c (pt g 0).val (pt g 0).isLt).2 (ix2 r d) + Tiles.nt (iblk m c 0 (pt g 1)) (layer (n := 1) 0 (iblk m c 1 (pt g 1))) (ix2 r d)
      = Tiles.nt (m ((c : Thread nD τ).loc main_arg0)) (layer 1 (m ((c : Thread nD τ).loc main_arg1))) (ix2 (row g r) d) := by
    refine Eq.trans ?_ (Tiles.sum_eq (n := 2) (b := 1024) rfl _).symm
    refine (Tiles.fold_out (n := 0) (fun j h => (outsAt0 m c (pt g ⟨j, by omega⟩).val (pt g ⟨j, by omega⟩).isLt).2 (ix2 r d)) _
      (fun s => Tiles.nt (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x1024) Tiles.corner, View.ld_unit_zero (S := S1x1024x1024) corner3]
    · omega
    · simp only [Tiles.nt, layer, ix2, ix3, blk_x, blk_y]
  refine (congrArg (fun p => p.1 (ix2 r d)) (outsAt0_B m c (pt g 1) (by dsimp only; omega) (by dsimp only; omega) (by dsimp only; omega))).trans ?_
  refine Eq.trans (congrFun ?_ _) ((last_at _ _ _ _ r d).trans (congrArg₂ (· + ·) hs (blk_z m c g 1 r d)))
  unfold out0_B_3
  rw [View.read_writes_eq_canon _ _ _ fun _ => cover0_B_3 ..]
  unfold kernelRun0_B
  dsimp only
  sl_unfold_words
  rw [View.canon_unit_zero Tiles.corner, View.readCov_unit_zero (S := S512x1024) _ Tiles.corner]
  simp only [View.readAt_eq_ld, Memref.IsWhole.read_unread, View.ld_unit_zero (S := S512x1024) Tiles.corner, View.ld_unit_zero (S := S1x1024x1024) corner3]
  exact congrArg (fun a => k0_pay4 (k0_pay3 _ _ a) _) (Memref.IsWhole.read_unread (Memref.isWhole_whole cc0_scratch0) _)

/-- The result's array. -/
theorem final : (dats m 0 c).arrAt 3 cfg0.N = plus (Tiles.nt (m ((c : Thread nD τ).loc main_arg0)) (layer 1 (m ((c : Thread nD τ).loc main_arg1)))) (m ((c : Thread nD τ).loc main_arg2)) := by
  refine (dats m 0 c).arrAt_eq_of_covers 3 _ (by decide +kernel) fun t hf y => ?_
  have ht : t.val < 32 := lt_of_lt_of_eq t.isLt Gen.N_0
  have hl : t.val % 2 = 1 := (flush0_3 t).mp hf
  obtain ⟨g, rfl⟩ : ∃ g : Fin 16, t = pt g 1 := ⟨⟨t.val / 2, by omega⟩, Fin.ext (by show _ = 2 * (t.val / 2) + 1; omega)⟩
  have h := idx (pt g 1)
  obtain ⟨r, d, rfl⟩ : ∃ (r : Fin 512) (d : Fin 1024), y = ix2 r d := ⟨y 0, y 1, ValueIdx.eq_ix2 y⟩
  have e : (win0_3.blk (pt g 1)).view.emb (ix2 r d) = ix2 (row g r) d := by
    blk_ext [h]
  blk_simp
  rw [e, after0_3]
  exact block m c g r d

end

section

open Cert.ReferenceInProjDx1Ideal Cert.ReferenceInProjDx1Ideal.Read

/-- The reference's result. -/
theorem reference (x : Tiles.Mat 8192 2048) (w : (⟨3, ![2, 1024, 2048]⟩ : Shape).Idx → EReal) (z : Tiles.Mat 8192 1024) : val_main_v7 (F := Ideal) x w z = plus (Tiles.nt x (layer 1 w)) z := by
  funext i
  rw [val_main_v7_apply, val_main_v6_apply]
  exact (add_comm _ _).trans (congrArg₂ (· + ·) (Finset.sum_congr rfl fun k _ => congrArg₂ (· * ·) (congrArg x (ValueIdx.eq_ix2 _)) (congrFun (Launches.layer_eq 1 w Gen.slices_S2x1024x2048_S1x1024x2048_1_0_0 Gen.shapeCasts_S1x1024x2048_S1024x2048) _)) rfl)

end

/-- The reference runs, keeps its arguments and ends with its counters at zero. -/
theorem frame_reference : Cert.quiescent_ReferenceInProjDx1Ideal := fun m ρ _ =>
  (θ_run _ _ _).mono (fun r h => ⟨fun c => (h c).2, sem_eq_zero_of_no_sems (by decide) r.2⟩) (Cert.ReferenceInProjDx1Ideal.Value.run m ρ)

/-- Kernel and reference end with the same sum. -/
theorem algebraic : Cert.algebraic_KernelInProjDx1Ideal_ReferenceInProjDx1Ideal := by
  intro m ρ m' ρ' _ hagree
  refine ⟨_, (θ_run _ _ _).mono (fun _ h c => ⟨(h c).1.trans (final m c), (h c).2⟩) (Cert.KernelInProjDx1Ideal.Value.run_blocks m ρ),
    (θ_run _ _ _).mono (fun r h c => ⟨(h c).1.trans (((Cert.ReferenceInProjDx1Ideal.Read.val_main_v7_eq _ _ _).symm.trans (reference _ _ _)).trans ?_), (h c).2⟩)
      (Cert.ReferenceInProjDx1Ideal.Value.run m' ρ')⟩
  rw [(hagree c).1, (hagree c).2.1, (hagree c).2.2]

end InProjDx1

end
-- ==== Proof.SbOutProj0.lean ====
module

public import proofs.«01_k».proof.Defs
public import proofs.«01_k».proof.Proof.InProjDx1
public import proofs.«01_k».proof.Proof.Gen.KernelSbOutProj0Ideal.Value
public import proofs.«01_k».proof.Proof.Gen.ReferenceSbOutProj0Ideal.Read
public import proofs.«01_k».proof.Proof.Gen.ReferenceSbOutProj0Ideal.Run
public import Idealize.ShloMosaic.Lib.Quiescent
public import Idealize.ShloMosaic.Lib.Pipeline.ValueKit.Point
public import Idealize.ShloMosaic.Lib.Pointwise

@[expose] public section

set_option maxRecDepth 16384

/-! The attention's output product in the first of its two layers. -/

noncomputable section

namespace SbOutProj0

open Idealize.ShloMosaic Idealize.ShloMosaic.TcCoe Idealize.SL.Sem
open Launches (layer corner3 plus)

section

open Cert.KernelSbOutProj0Ideal Cert.KernelSbOutProj0Ideal.Gen

/-- The accumulator's first value: the product of the first two tiles. -/
theorem start_at (x : Vec Ideal S512x512 .bf16) (y : Vec Ideal S1x512x1024 .bf16) (r : Fin 512) (d : Fin 1024) :
    k0_pay2 x y (ix2 r d) = Tiles.tn x (layer (n := 1) 0 y) (ix2 r d) := by
  unfold Tiles.tn
  pointwise [k0_pay2, k0_pay1]
  rfl

/-- Its next value: the product of the next two tiles is added. -/
theorem step_at (x : Vec Ideal S512x512 .bf16) (y : Vec Ideal S1x512x1024 .bf16) (a : Vec Ideal S512x1024 .f32) (r : Fin 512) (d : Fin 1024) :
    k0_pay3 x y a (ix2 r d) = a (ix2 r d) + Tiles.tn x (layer (n := 1) 0 y) (ix2 r d) := by
  unfold Tiles.tn
  pointwise [k0_pay3, k0_pay1]
  rfl

variable (m : (ℓ : Loc nD τ sig) → Buf (Elt Ideal) ℓ) (c : Dev nD)

/-- The windows' blocks over the grid. -/
theorem idx : ∀ t : Fin cfg0.N, win0_0.index t = ![t.val % 2, t.val / 2] ∧ win0_1.index t = ![0, t.val % 2, 0]
    ∧ win0_2.index t = ![t.val / 2, 0] :=
  (by decide +kernel : ∀ t : Fin grid0.N, win0_0.index t = ![t.val % 2, t.val / 2] ∧ win0_1.index t = ![0, t.val % 2, 0]
    ∧ win0_2.index t = ![t.val / 2, 0])

/-- The grid point of tile `s` of the sum for block `g` of the result. -/
abbrev pt (g : Fin 16) (s : Fin 2) : Fin cfg0.N := ⟨2 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 2) (k : Fin 512) (r : Fin 512) : (iblk m c 0 (pt g s) : Vec Ideal S512x512 .bf16) (ix2 k r)
    = m ((c : Thread nD τ).loc main_arg0) (ix2 (Tiles.at' (n := 2) rfl s k) (row g r)) := by
  have h := idx (pt g s)
  blk_ext! [iblk, V, h]

/-- The right factor's tile `s`. -/
theorem blk_y (s : Fin 2) (k : Fin 512) (d : Fin 1024) : (iblk m c 1 (pt g s) : Vec Ideal S1x512x1024 .bf16) (ix3 0 k d)
    = m ((c : Thread nD τ).loc main_arg1) (ix3 0 (Tiles.at' (n := 2) rfl s k) d) := by
  have h := idx (pt g s)
  blk_ext! [iblk, V, h]

/-- What the last tile writes to the result's block. -/
theorem block (r : Fin 512) (d : Fin 1024) : (outsAt0 m c (pt g 1).val (pt g 1).isLt).1 (ix2 r d)
    = Tiles.tn (m ((c : Thread nD τ).loc main_arg0)) (layer 0 (m ((c : Thread nD τ).loc main_arg1))) (ix2 (row g r) d) := by
  have hs : (outsAt0 m c (pt g 0).val (pt g 0).isLt).2 (ix2 r d) + Tiles.tn (iblk m c 0 (pt g 1)) (layer (n := 1) 0 (iblk m c 1 (pt g 1))) (ix2 r d)
      = Tiles.tn (m ((c : Thread nD τ).loc main_arg0)) (layer 0 (m ((c : Thread nD τ).loc main_arg1))) (ix2 (row g r) d) := by
    refine Eq.trans ?_ (Tiles.sum_eq (n := 2) (b := 512) rfl _).symm
    refine (Tiles.fold_out (n := 0) (fun j h => (outsAt0 m c (pt g ⟨j, by omega⟩).val (pt g ⟨j, by omega⟩).isLt).2 (ix2 r d)) _
      (fun s => Tiles.tn (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x512) Tiles.corner, View.ld_unit_zero (S := S512x1024) Tiles.corner, View.ld_unit_zero (S := S1x512x1024) corner3]
    · omega
    · simp only [Tiles.tn, layer, ix2, ix3, blk_x, blk_y]
  refine (congrArg (fun p => p.1 (ix2 r d)) (outsAt0_B m c (pt g 1) (by dsimp only; omega) (by dsimp only; omega) (by dsimp only; omega))).trans ?_
  refine Eq.trans (congrFun ?_ _) ((step_at _ _ _ r d).trans hs)
  unfold out0_B_2
  rw [View.read_writes_eq_canon _ _ _ fun _ => cover0_B_2 ..]
  unfold kernelRun0_B
  dsimp only
  sl_unfold_words
  rw [View.canon_unit_zero Tiles.corner, View.readCov_unit_zero (S := S512x1024) _ Tiles.corner]
  simp only [View.readAt_eq_ld, Memref.IsWhole.read_unread, View.ld_unit_zero (S := S512x512) Tiles.corner, View.ld_unit_zero (S := S512x1024) Tiles.corner, View.ld_unit_zero (S := S1x512x1024) corner3]
  exact congrArg (k0_pay3 _ _) (Memref.IsWhole.read_unread (Memref.isWhole_whole cc0_scratch0) _)

/-- The result's array. -/
theorem final : (dats m 0 c).arrAt 2 cfg0.N = Tiles.tn (m ((c : Thread nD τ).loc main_arg0)) (layer 0 (m ((c : Thread nD τ).loc main_arg1))) := by
  refine (dats m 0 c).arrAt_eq_of_covers 2 _ (by decide +kernel) fun t hf y => ?_
  have ht : t.val < 32 := lt_of_lt_of_eq t.isLt Gen.N_0
  have hl : t.val % 2 = 1 := (flush0_2 t).mp hf
  obtain ⟨g, rfl⟩ : ∃ g : Fin 16, t = pt g 1 := ⟨⟨t.val / 2, by omega⟩, Fin.ext (by show _ = 2 * (t.val / 2) + 1; omega)⟩
  have h := idx (pt g 1)
  obtain ⟨r, d, rfl⟩ : ∃ (r : Fin 512) (d : Fin 1024), y = ix2 r d := ⟨y 0, y 1, ValueIdx.eq_ix2 y⟩
  have e : (win0_2.blk (pt g 1)).view.emb (ix2 r d) = ix2 (row g r) d := by
    blk_ext [h]
  blk_simp
  rw [e, after0_2]
  exact block m c g r d

end

section

open Cert.ReferenceSbOutProj0Ideal Cert.ReferenceSbOutProj0Ideal.Read

/-- The reference's result. -/
theorem reference (x : Tiles.Mat 1024 8192) (w : (⟨3, ![2, 1024, 1024]⟩ : Shape).Idx → EReal) : val_main_v5 (F := Ideal) x w = Tiles.tn x (layer 0 w) := by
  funext i
  rw [val_main_v5_apply]
  refine Finset.sum_congr rfl fun k _ => congrArg₂ (· * ·) ?_ (congrFun (Launches.layer_eq 0 w Gen.slices_S2x1024x1024_S1x1024x1024_0_0_0 Gen.shapeCasts_S1x1024x1024_S1024x1024) _)
  · rw [val_main_v1_apply, val_main_v0_apply]
    exact congrArg x (ValueIdx.eq_ix2 _)

end

/-- The reference runs, keeps its arguments and ends with its counters at zero. -/
theorem frame_reference : Cert.quiescent_ReferenceSbOutProj0Ideal := fun m ρ _ =>
  (θ_run _ _ _).mono (fun r h => ⟨fun c => (h c).2, sem_eq_zero_of_no_sems (by decide) r.2⟩) (Cert.ReferenceSbOutProj0Ideal.Value.run m ρ)

/-- Kernel and reference end with the same product. -/
theorem algebraic : Cert.algebraic_KernelSbOutProj0Ideal_ReferenceSbOutProj0Ideal := by
  intro m ρ m' ρ' _ hagree
  refine ⟨_, (θ_run _ _ _).mono (fun _ h c => ⟨(h c).1.trans (final m c), (h c).2⟩) (Cert.KernelSbOutProj0Ideal.Value.run_blocks m ρ),
    (θ_run _ _ _).mono (fun r h c => ⟨(h c).1.trans (((Cert.ReferenceSbOutProj0Ideal.Read.val_main_v5_eq _ _).symm.trans (reference _ _)).trans ?_), (h c).2⟩)
      (Cert.ReferenceSbOutProj0Ideal.Value.run m' ρ')⟩
  rw [(hagree c).1, (hagree c).2]

end SbOutProj0

end
-- ==== Proof.SbOutProj1.lean ====
module

public import proofs.«01_k».proof.Defs
public import proofs.«01_k».proof.Proof.SbOutProj0
public import proofs.«01_k».proof.Proof.Gen.KernelSbOutProj1Ideal.Value
public import proofs.«01_k».proof.Proof.Gen.ReferenceSbOutProj1Ideal.Read
public import proofs.«01_k».proof.Proof.Gen.ReferenceSbOutProj1Ideal.Run
public import Idealize.ShloMosaic.Lib.Quiescent
public import Idealize.ShloMosaic.Lib.Pipeline.ValueKit.Point
public import Idealize.ShloMosaic.Lib.Pointwise

@[expose] public section

set_option maxRecDepth 16384

/-! The attention's output product in the second of its two layers. -/

noncomputable section

namespace SbOutProj1

open Idealize.ShloMosaic Idealize.ShloMosaic.TcCoe Idealize.SL.Sem
open Launches (layer corner3 plus)

section

open Cert.KernelSbOutProj1Ideal Cert.KernelSbOutProj1Ideal.Gen

/-- The accumulator's first value: the product of the first two tiles. -/
theorem start_at (x : Vec Ideal S512x512 .bf16) (y : Vec Ideal S1x512x1024 .bf16) (r : Fin 512) (d : Fin 1024) :
    k0_pay2 x y (ix2 r d) = Tiles.tn x (layer (n := 1) 0 y) (ix2 r d) := by
  unfold Tiles.tn
  pointwise [k0_pay2, k0_pay1]
  rfl

/-- Its next value: the product of the next two tiles is added. -/
theorem step_at (x : Vec Ideal S512x512 .bf16) (y : Vec Ideal S1x512x1024 .bf16) (a : Vec Ideal S512x1024 .f32) (r : Fin 512) (d : Fin 1024) :
    k0_pay3 x y a (ix2 r d) = a (ix2 r d) + Tiles.tn x (layer (n := 1) 0 y) (ix2 r d) := by
  unfold Tiles.tn
  pointwise [k0_pay3, k0_pay1]
  rfl

variable (m : (ℓ : Loc nD τ sig) → Buf (Elt Ideal) ℓ) (c : Dev nD)

/-- The windows' blocks over the grid. -/
theorem idx : ∀ t : Fin cfg0.N, win0_0.index t = ![t.val % 2, t.val / 2] ∧ win0_1.index t = ![1, t.val % 2, 0]
    ∧ win0_2.index t = ![t.val / 2, 0] :=
  (by decide +kernel : ∀ t : Fin grid0.N, win0_0.index t = ![t.val % 2, t.val / 2] ∧ win0_1.index t = ![1, t.val % 2, 0]
    ∧ win0_2.index t = ![t.val / 2, 0])

/-- The grid point of tile `s` of the sum for block `g` of the result. -/
abbrev pt (g : Fin 16) (s : Fin 2) : Fin cfg0.N := ⟨2 * g.val + s.val, by show _ < grid0.N; rw [Gen.N_0]; omega⟩

/-- Row `r` of block `g` of the result. -/
abbrev row (g : Fin 16) (r : Fin 512) : Fin 8192 := ⟨512 * g.val + r.val, by omega⟩

variable (g : Fin 16)

/-- The left factor's tile `s` for block `g`. -/
theorem blk_x (s : Fin 2) (k : Fin 512) (r : Fin 512) : (iblk m c 0 (pt g s) : Vec Ideal S512x512 .bf16) (ix2 k r)
    = m ((c : Thread nD τ).loc main_arg0) (ix2 (Tiles.at' (n := 2) rfl s k) (row g r)) := by
  have h := idx (pt g s)
  blk_ext! [iblk, V, h]

/-- The right factor's tile `s`. -/
theorem blk_y (s : Fin 2) (k : Fin 512) (d : Fin 1024) : (iblk m c 1 (pt g s) : Vec Ideal S1x512x1024 .bf16) (ix3 0 k d)
    = m ((c : Thread nD τ).loc main_arg1) (ix3 1 (Tiles.at' (n := 2) rfl s k) d) := by
  have h := idx (pt g s)
  blk_ext! [iblk, V, h]

/-- What the last tile writes to the result's block. -/
theorem block (r : Fin 512) (d : Fin 1024) : (outsAt0 m c (pt g 1).val (pt g 1).isLt).1 (ix2 r d)
    = Tiles.tn (m ((c : Thread nD τ).loc main_arg0)) (layer 1 (m ((c : Thread nD τ).loc main_arg1))) (ix2 (row g r) d) := by
  have hs : (outsAt0 m c (pt g 0).val (pt g 0).isLt).2 (ix2 r d) + Tiles.tn (iblk m c 0 (pt g 1)) (layer (n := 1) 0 (iblk m c 1 (pt g 1))) (ix2 r d)
      = Tiles.tn (m ((c : Thread nD τ).loc main_arg0)) (layer 1 (m ((c : Thread nD τ).loc main_arg1))) (ix2 (row g r) d) := by
    refine Eq.trans ?_ (Tiles.sum_eq (n := 2) (b := 512) rfl _).symm
    refine (Tiles.fold_out (n := 0) (fun j h => (outsAt0 m c (pt g ⟨j, by omega⟩).val (pt g ⟨j, by omega⟩).isLt).2 (ix2 r d)) _
      (fun s => Tiles.tn (iblk m c 0 (pt g s)) (layer (n := 1) 0 (iblk m c 1 (pt g s))) (ix2 r d)) ?_ (fun j h => ?_) rfl).trans ?_
    · refine (congrArg (fun p => p.2 (ix2 r d)) (outsAt0_A m c (pt g 0) (by dsimp only; omega) (by dsimp only; omega) (by dsimp only; omega))).trans ?_
      refine Eq.trans (congrFun ?_ _) (start_at _ _ r d)
      unfold sout0_A_0
      rw [View.read_writes_eq_canon _ _ _ fun _ => scover0_A_0 ..]
      unfold kernelRun0_A
      dsimp only
      sl_unfold_words
      rw [View.canon_unit_zero Tiles.corner]
      simp only [View.readAt_eq_ld, Memref.IsWhole.read_unread, View.ld_unit_zero (S := S512x512) Tiles.corner, View.ld_unit_zero (S := S512x1024) Tiles.corner, View.ld_unit_zero (S := S1x512x1024) corner3]
    · omega
    · simp only [Tiles.tn, layer, ix2, ix3, blk_x, blk_y]
  refine (congrArg (fun p => p.1 (ix2 r d)) (outsAt0_B m c (pt g 1) (by dsimp only; omega) (by dsimp only; omega) (by dsimp only; omega))).trans ?_
  refine Eq.trans (congrFun ?_ _) ((step_at _ _ _ r d).trans hs)
  unfold out0_B_2
  rw [View.read_writes_eq_canon _ _ _ fun _ => cover0_B_2 ..]
  unfold kernelRun0_B
  dsimp only
  sl_unfold_words
  rw [View.canon_unit_zero Tiles.corner, View.readCov_unit_zero (S := S512x1024) _ Tiles.corner]
  simp only [View.readAt_eq_ld, Memref.IsWhole.read_unread, View.ld_unit_zero (S := S512x512) Tiles.corner, View.ld_unit_zero (S := S512x1024) Tiles.corner, View.ld_unit_zero (S := S1x512x1024) corner3]
  exact congrArg (k0_pay3 _ _) (Memref.IsWhole.read_unread (Memref.isWhole_whole cc0_scratch0) _)

/-- The result's array. -/
theorem final : (dats m 0 c).arrAt 2 cfg0.N = Tiles.tn (m ((c : Thread nD τ).loc main_arg0)) (layer 1 (m ((c : Thread nD τ).loc main_arg1))) := by
  refine (dats m 0 c).arrAt_eq_of_covers 2 _ (by decide +kernel) fun t hf y => ?_
  have ht : t.val < 32 := lt_of_lt_of_eq t.isLt Gen.N_0
  have hl : t.val % 2 = 1 := (flush0_2 t).mp hf
  obtain ⟨g, rfl⟩ : ∃ g : Fin 16, t = pt g 1 := ⟨⟨t.val / 2, by omega⟩, Fin.ext (by show _ = 2 * (t.val / 2) + 1; omega)⟩
  have h := idx (pt g 1)
  obtain ⟨r, d, rfl⟩ : ∃ (r : Fin 512) (d : Fin 1024), y = ix2 r d := ⟨y 0, y 1, ValueIdx.eq_ix2 y⟩
  have e : (win0_2.blk (pt g 1)).view.emb (ix2 r d) = ix2 (row g r) d := by
    blk_ext [h]
  blk_simp
  rw [e, after0_2]
  exact block m c g r d

end

section

open Cert.ReferenceSbOutProj1Ideal Cert.ReferenceSbOutProj1Ideal.Read

/-- The reference's result. -/
theorem reference (x : Tiles.Mat 1024 8192) (w : (⟨3, ![2, 1024, 1024]⟩ : Shape).Idx → EReal) : val_main_v5 (F := Ideal) x w = Tiles.tn x (layer 1 w) := by
  funext i
  rw [val_main_v5_apply]
  refine Finset.sum_congr rfl fun k _ => congrArg₂ (· * ·) ?_ (congrFun (Launches.layer_eq 1 w Gen.slices_S2x1024x1024_S1x1024x1024_1_0_0 Gen.shapeCasts_S1x1024x1024_S1024x1024) _)
  · rw [val_main_v1_apply, val_main_v0_apply]
    exact congrArg x (ValueIdx.eq_ix2 _)

end

/-- The reference runs, keeps its arguments and ends with its counters at zero. -/
theorem frame_reference : Cert.quiescent_ReferenceSbOutProj1Ideal := fun m ρ _ =>
  (θ_run _ _ _).mono (fun r h => ⟨fun c => (h c).2, sem_eq_zero_of_no_sems (by decide) r.2⟩) (Cert.ReferenceSbOutProj1Ideal.Value.run m ρ)

/-- Kernel and reference end with the same product. -/
theorem algebraic : Cert.algebraic_KernelSbOutProj1Ideal_ReferenceSbOutProj1Ideal := by
  intro m ρ m' ρ' _ hagree
  refine ⟨_, (θ_run _ _ _).mono (fun _ h c => ⟨(h c).1.trans (final m c), (h c).2⟩) (Cert.KernelSbOutProj1Ideal.Value.run_blocks m ρ),
    (θ_run _ _ _).mono (fun r h c => ⟨(h c).1.trans (((Cert.ReferenceSbOutProj1Ideal.Read.val_main_v5_eq _ _).symm.trans (reference _ _)).trans ?_), (h c).2⟩)
      (Cert.ReferenceSbOutProj1Ideal.Value.run m' ρ')⟩
  rw [(hagree c).1, (hagree c).2]

end SbOutProj1

end
-- ==== Proof.SwigluFwd.lean ====
module

public import proofs.«01_k».proof.Defs
public import proofs.«01_k».proof.Proof.SbOutProj1
public import proofs.«01_k».proof.Proof.Gen.KernelSwigluFwdIdeal.Value
public import proofs.«01_k».proof.Proof.Gen.ReferenceSwigluFwdIdeal.Read
public import proofs.«01_k».proof.Proof.Gen.ReferenceSwigluFwdIdeal.Run
public import Idealize.ShloMosaic.Lib.Quiescent
public import Idealize.ShloMosaic.Lib.Pipeline.ValueKit.Point
public import Idealize.ShloMosaic.Lib.Pointwise

@[expose] public section

set_option maxRecDepth 16384

/-! The gated unit of the feed-forward layer. -/

noncomputable section

namespace SwigluFwd

open Idealize.ShloMosaic Idealize.ShloMosaic.TcCoe Idealize.SL.Sem

/-- The gate's half of a row and the other half. -/
abbrev left (d : Fin 3072) : Fin 6144 := ⟨d.val, by omega⟩
@[inherit_doc left] abbrev right (d : Fin 3072) : Fin 6144 := ⟨3072 + d.val, by omega⟩

/-- Each row's second half, weighted by the gate of its first half. -/
def act (x : Tiles.Mat 8192 6144) : Tiles.Mat 8192 3072 := fun i =>
  x (ix2 (i 0) (left (i 1))) * Ideal.logistic (x (ix2 (i 0) (left (i 1)))) * x (ix2 (i 0) (right (i 1)))

section

open Cert.KernelSwigluFwdIdeal Cert.KernelSwigluFwdIdeal.Gen

/-- What the kernel writes to a block of its result. -/
theorem out_at (x y : Vec Ideal S256x3072 .f32) (r : Fin 256) (d : Fin 3072) :
    out0_2 x y (ix2 r d) = x (ix2 r d) * Ideal.logistic (x (ix2 r d)) * y (ix2 r d) := by
  unfold out0_2
  rw [View.canon_unit_zero Tiles.corner, View.ld_unit_zero (S := S256x3072) Tiles.corner, View.ld_unit_zero (S := S256x3072) Tiles.corner]
  pointwise [k0_pay1]

variable (m : (ℓ : Loc nD τ sig) → Buf (Elt Ideal) ℓ) (c : Dev nD)

/-- The result's array. -/
theorem final : (dats m 0 c).arrAt 2 cfg0.N = act (m ((c : Thread nD τ).loc main_arg0)) := by
  refine (dats m 0 c).arrAt_eq_of_covers 2 _ (by decide +kernel) fun t _ y => ?_
  have ht : t.val < 32 := lt_of_lt_of_eq t.isLt Gen.N_0
  have h := (by decide +kernel : ∀ t : Fin grid0.N, win0_0.index t = ![t.val, 0] ∧ win0_1.index t = ![t.val, 1] ∧ win0_2.index t = ![t.val, 0]) t
  obtain ⟨r, d, rfl⟩ : ∃ (r : Fin 256) (d : Fin 3072), y = ix2 r d := ⟨y 0, y 1, ValueIdx.eq_ix2 y⟩
  have e : (win0_2.blk t).view.emb (ix2 r d) = ix2 ⟨256 * t.val + r.val, by omega⟩ d := by
    blk_ext [h]
  have hx : (iblk m c 0 t : Vec Ideal S256x3072 .f32) (ix2 r d) = m ((c : Thread nD τ).loc main_arg0) (ix2 ⟨256 * t.val + r.val, by omega⟩ (left d)) := by
    blk_ext! [iblk, V, h]
  have hy : (iblk m c 1 t : Vec Ideal S256x3072 .f32) (ix2 r d) = m ((c : Thread nD τ).loc main_arg0) (ix2 ⟨256 * t.val + r.val, by omega⟩ (right d)) := by
    blk_ext! [iblk, V, h]
  blk_simp
  rw [e, after0_2]
  refine (out_at _ _ r d).trans ?_
  rw [hx, hy]
  rfl

end

section

open Cert.ReferenceSwigluFwdIdeal Cert.ReferenceSwigluFwdIdeal.Read

/-- The reference's result is the same gated unit. -/
theorem reference (x : Tiles.Mat 8192 6144) : val_main_v4 (F := Ideal) x = act x := by
  funext i
  obtain ⟨r, d, rfl⟩ : ∃ (r : Fin 8192) (d : Fin 3072), i = ix2 r d := ⟨i 0, i 1, ValueIdx.eq_ix2 i⟩
  unfold act Ideal.logistic
  pointwise [val_main_v4, val_main_v3, val_main_v2, val_main_v1, val_main_v0, val_main_call0_v5, val_main_call0_v4, val_main_call0_v3,
    val_main_call0_v2, val_main_call0_v1, val_main_call0_v0, val_main_call0_cst, val_main_call0_cst_0]

end

/-- The reference runs, keeps its arguments and ends with its counters at zero. -/
theorem frame_reference : Cert.quiescent_ReferenceSwigluFwdIdeal := fun m ρ _ =>
  (θ_run _ _ _).mono (fun r h => ⟨fun c => (h c).2, sem_eq_zero_of_no_sems (by decide) r.2⟩) (Cert.ReferenceSwigluFwdIdeal.Value.run m ρ)

/-- Kernel and reference end with the same array. -/
theorem algebraic : Cert.algebraic_KernelSwigluFwdIdeal_ReferenceSwigluFwdIdeal := by
  intro m ρ m' ρ' _ hagree
  refine ⟨_, (θ_run _ _ _).mono (fun _ h c => ⟨(h c).1.trans (final m c), (h c).2⟩) (Cert.KernelSwigluFwdIdeal.Value.run_blocks m ρ),
    (θ_run _ _ _).mono (fun r h c => ⟨(h c).1.trans (((Cert.ReferenceSwigluFwdIdeal.Read.val_main_v4_eq _).symm.trans (reference _)).trans ?_), (h c).2⟩)
      (Cert.ReferenceSwigluFwdIdeal.Value.run m' ρ')⟩
  rw [hagree c]

end SwigluFwd

end
-- ==== Proof.SwigluBwd.lean ====
module

public import proofs.«01_k».proof.Defs
public import proofs.«01_k».proof.Proof.SwigluFwd
public import proofs.«01_k».proof.Proof.Gen.KernelSwigluBwdIdeal.Value
public import proofs.«01_k».proof.Proof.Gen.ReferenceSwigluBwdIdeal.Read
public import proofs.«01_k».proof.Proof.Gen.ReferenceSwigluBwdIdeal.Run
public import Idealize.ShloMosaic.Lib.Quiescent
public import Idealize.ShloMosaic.Lib.Pipeline.ValueKit.Point
public import Idealize.ShloMosaic.Lib.Pointwise

@[expose] public section

set_option maxRecDepth 16384

/-! The gradient of the gated unit of the feed-forward layer. -/

noncomputable section

namespace SwigluBwd

open Idealize.ShloMosaic Idealize.ShloMosaic.TcCoe Idealize.SL.Sem
open SwigluFwd (left right)

/-- The gradient with respect to the gate, from the gate, the other half and the result's gradient. -/
def dgate (g u w : EReal) : EReal :=
  w * u * Ideal.logistic g + g * (w * u) * (Ideal.logistic g * (1 - Ideal.logistic g))

/-- The gradient with respect to the other half. -/
def dother (g w : EReal) : EReal := g * Ideal.logistic g * w

/-- The gradient with respect to the gated unit's argument. -/
def dact (x : Tiles.Mat 8192 6144) (w : Tiles.Mat 8192 3072) : Tiles.Mat 8192 6144 := fun i =>
  if h : (i 1).val < 3072 then dgate (x (ix2 (i 0) (left ⟨(i 1).val, h⟩))) (x (ix2 (i 0) (right ⟨(i 1).val, h⟩))) (w (ix2 (i 0) ⟨(i 1).val, h⟩))
  else dother (x (ix2 (i 0) (left ⟨(i 1).val - 3072, by have : (i 1).val < 6144 := (i 1).isLt; omega⟩))) (w (ix2 (i 0) ⟨(i 1).val - 3072, by have : (i 1).val < 6144 := (i 1).isLt; omega⟩))

/-- That gradient in the gate's half. -/
theorem dact_left (x : Tiles.Mat 8192 6144) (w : Tiles.Mat 8192 3072) (r : Fin 8192) (d : Fin 3072) :
    dact x w (ix2 r (left d)) = dgate (x (ix2 r (left d))) (x (ix2 r (right d))) (w (ix2 r d)) :=
  dif_pos d.isLt

/-- That gradient in the other half. -/
theorem dact_right (x : Tiles.Mat 8192 6144) (w : Tiles.Mat 8192 3072) (r : Fin 8192) (d : Fin 3072) :
    dact x w (ix2 r (right d)) = dother (x (ix2 r (left d))) (w (ix2 r d)) := by
  have h : (⟨3072 + d.val - 3072, by omega⟩ : Fin 3072) = d := Fin.ext (by show 3072 + d.val - 3072 = d.val; omega)
  have h' : ¬ ((ix2 r (right d) : (⟨2, ![8192, 6144]⟩ : Shape).Idx) 1).val < 3072 := by show ¬ 3072 + d.val < 3072; omega
  refine (dif_neg h').trans ?_
  show dother (x (ix2 r (left ⟨3072 + d.val - 3072, _⟩))) (w (ix2 r ⟨3072 + d.val - 3072, _⟩)) = _
  rw [h]

/-- A column is in the gate's half or in the other half. -/
theorem halves (e : Fin 6144) : (∃ d, e = left d) ∨ ∃ d, e = right d := by
  by_cases h : e.val < 3072
  · exact Or.inl ⟨⟨e.val, h⟩, rfl⟩
  · exact Or.inr ⟨⟨e.val - 3072, by omega⟩, Fin.ext (by show e.val = 3072 + (e.val - 3072); omega)⟩

section

open Cert.KernelSwigluBwdIdeal Cert.KernelSwigluBwdIdeal.Gen

/-- What the kernel computes for the gate's half. -/
theorem pay2_at (x y w : Vec Ideal S256x3072 .f32) (r : Fin 256) (d : Fin 3072) :
    k0_pay2 x y w (ix2 r d) = dgate (x (ix2 r d)) (y (ix2 r d)) (w (ix2 r d)) := by
  unfold dgate
  pointwise [k0_pay2, k0_pay1]

/-- What the kernel computes for the other half. -/
theorem pay3_at (x w : Vec Ideal S256x3072 .f32) (r : Fin 256) (d : Fin 3072) :
    k0_pay3 x w (ix2 r d) = dother (x (ix2 r d)) (w (ix2 r d)) := by
  unfold dother
  pointwise [k0_pay3, k0_pay1]

/-- What the kernel writes to the gate's half of a block of its result. -/
theorem out_left (x y w : Vec Ideal S256x3072 .f32) (r : Fin 256) (d : Fin 3072) :
    out0_3 x y w (ix2 r (left d)) = dgate (x (ix2 r d)) (y (ix2 r d)) (w (ix2 r d)) := by
  unfold out0_3
  have hn : (ix2 r (left d) : S256x6144.Idx) ∉ (r0_2 : Rect S256x6144).set :=
    Rect.not_mem_set_of_axis _ _ 1 3072 3072 rfl rfl rfl (Or.inl d.isLt)
  have he : (ix2 r (left d) : S256x6144.Idx) = r0_1.emb (ix2 r d) := by
    funext a
    match a with
    | ⟨0, _⟩ => exact Fin.ext (by show r.val = 0 + 1 * r.val; omega)
    | ⟨1, _⟩ => exact Fin.ext (by show d.val = 0 + 1 * d.val; omega)
  refine (View.canon_cons_of_not_mem ⟨r0_2, _⟩ _ hn).trans ((congrArg _ he).trans ((View.canon_cons_emb r0_1 _ _ (ix2 r d)).trans ?_))
  rw [View.ld_unit_zero (S := S256x3072) Tiles.corner, View.ld_unit_zero (S := S256x3072) Tiles.corner, View.ld_unit_zero (S := S256x3072) Tiles.corner]
  exact pay2_at x y w r d

/-- What it writes to the other half. -/
theorem out_right (x y w : Vec Ideal S256x3072 .f32) (r : Fin 256) (d : Fin 3072) :
    out0_3 x y w (ix2 r (right d)) = dother (x (ix2 r d)) (w (ix2 r d)) := by
  unfold out0_3
  have he : (ix2 r (right d) : S256x6144.Idx) = r0_2.emb (ix2 r d) := by
    funext a
    match a with
    | ⟨0, _⟩ => exact Fin.ext (by show r.val = 0 + 1 * r.val; omega)
    | ⟨1, _⟩ => exact Fin.ext (by show 3072 + d.val = 3072 + 1 * d.val; omega)
  refine (congrArg _ he).trans ((View.canon_cons_emb r0_2 _ _ (ix2 r d)).trans ?_)
  rw [View.ld_unit_zero (S := S256x3072) Tiles.corner, View.ld_unit_zero (S := S256x3072) Tiles.corner]
  exact pay3_at x w r d

variable (m : (ℓ : Loc nD τ sig) → Buf (Elt Ideal) ℓ) (c : Dev nD)

/-- The result's array. -/
theorem final : (dats m 0 c).arrAt 3 cfg0.N = dact (m ((c : Thread nD τ).loc main_arg0)) (m ((c : Thread nD τ).loc main_arg1)) := by
  refine (dats m 0 c).arrAt_eq_of_covers 3 _ (by decide +kernel) fun t _ y => ?_
  have ht : t.val < 32 := lt_of_lt_of_eq t.isLt Gen.N_0
  have h := (by decide +kernel : ∀ t : Fin grid0.N, win0_0.index t = ![t.val, 0] ∧ win0_1.index t = ![t.val, 1] ∧ win0_2.index t = ![t.val, 0]
    ∧ win0_3.index t = ![t.val, 0]) t
  obtain ⟨r, q, rfl⟩ : ∃ (r : Fin 256) (q : Fin 6144), y = ix2 r q := ⟨y 0, y 1, ValueIdx.eq_ix2 y⟩
  have e : (win0_3.blk t).view.emb (ix2 r q) = ix2 ⟨256 * t.val + r.val, by omega⟩ q := by
    blk_ext [h]
  have hx : ∀ d : Fin 3072, (iblk m c 0 t : Vec Ideal S256x3072 .f32) (ix2 r d) = m ((c : Thread nD τ).loc main_arg0) (ix2 ⟨256 * t.val + r.val, by omega⟩ (left d)) := by
    intro d
    blk_ext! [iblk, V, h]
  have hy : ∀ d : Fin 3072, (iblk m c 1 t : Vec Ideal S256x3072 .f32) (ix2 r d) = m ((c : Thread nD τ).loc main_arg0) (ix2 ⟨256 * t.val + r.val, by omega⟩ (right d)) := by
    intro d
    blk_ext! [iblk, V, h]
  have hw : ∀ d : Fin 3072, (iblk m c 2 t : Vec Ideal S256x3072 .f32) (ix2 r d) = m ((c : Thread nD τ).loc main_arg1) (ix2 ⟨256 * t.val + r.val, by omega⟩ d) := by
    intro d
    blk_ext! [iblk, V, h]
  blk_simp
  rw [e, after0_3]
  rcases halves q with ⟨d, rfl⟩ | ⟨d, rfl⟩
  · refine (out_left _ _ _ r d).trans ?_
    rw [hx, hy, hw]
    exact (dact_left _ _ _ d).symm
  · refine (out_right _ _ _ r d).trans ?_
    rw [hx, hw]
    exact (dact_right _ _ _ d).symm

end

section

open Cert.ReferenceSwigluBwdIdeal Cert.ReferenceSwigluBwdIdeal.Read

/-- The reference's gradient with respect to the gate. -/
theorem gate_at (x : Tiles.Mat 8192 6144) (w : Tiles.Mat 8192 3072) (r : Fin 8192) (d : Fin 3072) :
    val_main_v6 (F := Ideal) x w (ix2 r d) = dgate (x (ix2 r (left d))) (x (ix2 r (right d))) (w (ix2 r d)) := by
  unfold dgate Ideal.logistic
  pointwise [val_main_v6, val_main_call1_v2, val_main_call1_v1, val_main_call1_v0, val_main_v5, val_main_v2_1, val_main_v2_2, val_main_v1, val_main_v0,
    val_main_call0_v7, val_main_call0_v6, val_main_call0_v4, val_main_call0_v3, val_main_call0_v2, val_main_call0_v1, val_main_call0_v0,
    val_main_call0_cst, val_main_call0_cst_0, val_main_call0_cst_1]

/-- The reference's gradient with respect to the other half. -/
theorem other_at (x : Tiles.Mat 8192 6144) (w : Tiles.Mat 8192 3072) (r : Fin 8192) (d : Fin 3072) :
    val_main_v4 (F := Ideal) x w (ix2 r d) = dother (x (ix2 r (left d))) (w (ix2 r d)) := by
  unfold dother Ideal.logistic
  pointwise [val_main_v4, val_main_v2_0, val_main_v2_2, val_main_v0, val_main_call0_v4, val_main_call0_v3, val_main_call0_v2, val_main_call0_v1,
    val_main_call0_v0, val_main_call0_cst, val_main_call0_cst_0]

/-- The reference's result is the same gradient. -/
theorem reference (x : Tiles.Mat 8192 6144) (w : Tiles.Mat 8192 3072) : val_main_v8 (F := Ideal) x w = dact x w := by
  funext i
  obtain ⟨r, q, rfl⟩ : ∃ (r : Fin 8192) (q : Fin 6144), i = ix2 r q := ⟨i 0, i 1, ValueIdx.eq_ix2 i⟩
  rw [val_main_v8_apply]
  rcases halves q with ⟨d, rfl⟩ | ⟨d, rfl⟩
  · change concatenate S8192x6144 1 [⟨S8192x3072, val_main_v6 (F := Ideal) x w⟩, ⟨S8192x3072, val_main_v4 (F := Ideal) x w⟩]
      Gen.concatenates_S8192x3072_S8192x3072_S8192x6144_d1 (ix2 r (left d)) = _
    refine (concatenate_pair_apply_left (t := S8192x6144) (s₁ := S8192x3072) 1 _ _ _ _ rfl (ix2 r d) (fun b => ?_)).trans
      ((gate_at x w r d).trans (dact_left x w r d).symm)
    match b with
    | ⟨0, _⟩ => rfl
    | ⟨1, _⟩ => rfl
  · change concatenate S8192x6144 1 [⟨S8192x3072, val_main_v6 (F := Ideal) x w⟩, ⟨S8192x3072, val_main_v4 (F := Ideal) x w⟩]
      Gen.concatenates_S8192x3072_S8192x3072_S8192x6144_d1 (ix2 r (right d)) = _
    refine (concatenate_pair_apply_right (t := S8192x6144) (s₁ := S8192x3072) (s₂ := S8192x3072) 1 _ _ _ _ rfl rfl (ix2 r d) (fun b hb => ?_) ?_).trans
      ((other_at x w r d).trans (dact_right x w r d).symm)
    · match b with
      | ⟨0, _⟩ => rfl
      | ⟨1, _⟩ => exact absurd rfl hb
    · exact Nat.add_comm _ _

end

/-- The reference runs, keeps its arguments and ends with its counters at zero. -/
theorem frame_reference : Cert.quiescent_ReferenceSwigluBwdIdeal := fun m ρ _ =>
  (θ_run _ _ _).mono (fun r h => ⟨fun c => (h c).2, sem_eq_zero_of_no_sems (by decide) r.2⟩) (Cert.ReferenceSwigluBwdIdeal.Value.run m ρ)

/-- Kernel and reference end with the same array. -/
theorem algebraic : Cert.algebraic_KernelSwigluBwdIdeal_ReferenceSwigluBwdIdeal := by
  intro m ρ m' ρ' _ hagree
  refine ⟨_, (θ_run _ _ _).mono (fun _ h c => ⟨(h c).1.trans (final m c), (h c).2⟩) (Cert.KernelSwigluBwdIdeal.Value.run_blocks m ρ),
    (θ_run _ _ _).mono (fun r h c => ⟨(h c).1.trans (((Cert.ReferenceSwigluBwdIdeal.Read.val_main_v8_eq _ _).symm.trans (reference _ _)).trans ?_), (h c).2⟩)
      (Cert.ReferenceSwigluBwdIdeal.Value.run m' ρ')⟩
  rw [(hagree c).1, (hagree c).2]

end SwigluBwd

end
-- ==== Proof.LnFwd.lean ====
module

public import proofs.«01_k».proof.Defs
public import proofs.«01_k».proof.Proof.SwigluBwd
public import proofs.«01_k».proof.Proof.Gen.KernelLnFwdIdeal.Value
public import proofs.«01_k».proof.Proof.Gen.ReferenceLnFwdIdeal.Read
public import proofs.«01_k».proof.Proof.Gen.ReferenceLnFwdIdeal.Run
public import Idealize.ShloMosaic.Lib.Quiescent
public import Idealize.ShloMosaic.Lib.Pipeline.ValueKit.Point
public import Idealize.ShloMosaic.Lib.Pointwise

@[expose] public section

set_option maxRecDepth 16384

/-! The layer normalization after a residual sum. -/

noncomputable section

namespace LnFwd

open Idealize.ShloMosaic Idealize.ShloMosaic.TcCoe Idealize.SL.Sem

/-- The factor of the residual stream, the width and the constant under the root. -/
abbrev alpha : EReal := Ideal.ofBits .f32 0x3FD744FD#32
@[inherit_doc alpha] abbrev width : EReal := Ideal.ofBits .f32 0x44800000#32
@[inherit_doc alpha] abbrev eps : EReal := Ideal.ofBits .f32 0x3727C5AC#32

/-- A row less its mean. -/
def centred (v : Fin 1024 → EReal) (d : Fin 1024) : EReal := v d - Ideal.div (∑ k : Fin 1024, v k) width

/-- The normalized row. -/
def normal (v : Fin 1024 → EReal) (d : Fin 1024) : EReal :=
  centred v d * Ideal.rsqrt (Ideal.div (∑ k : Fin 1024, centred v k * centred v k) width + eps)

/-- The rows of the residual sum, normalized, scaled and shifted. -/
def norm (x f : Tiles.Mat 8192 1024) (g b : (⟨1, ![1024]⟩ : Shape).Idx → EReal) : Tiles.Mat 8192 1024 := fun i =>
  normal (fun d => alpha * x (ix2 (i 0) d) + f (ix2 (i 0) d)) (i 1) * g (ix1 (i 1)) + b (ix1 (i 1))

section

open Cert.KernelLnFwdIdeal Cert.KernelLnFwdIdeal.Gen

/-- What the kernel writes to a block of its result. -/
theorem out_at (x f : Vec Ideal S256x1024 .f32) (g b : Vec Ideal S1x1024 .f32) (r : Fin 256) (d : Fin 1024) :
    out0_4 x f g b (ix2 r d) = normal (fun d => alpha * x (ix2 r d) + f (ix2 r d)) d * g (ix2 0 d) + b (ix2 0 d) := by
  unfold out0_4
  rw [View.canon_unit_zero Tiles.corner, View.ld_unit_zero (S := S256x1024) Tiles.corner, View.ld_unit_zero (S := S256x1024) Tiles.corner,
    View.ld_unit_zero (S := S1x1024) Tiles.corner, View.ld_unit_zero (S := S1x1024) Tiles.corner]
  unfold normal centred
  pointwise [k0_pay1]

variable (m : (ℓ : Loc nD τ sig) → Buf (Elt Ideal) ℓ) (c : Dev nD)

/-- The gain and the shift as the kernel reads them: one row each. -/
theorem V_gain (d : Fin 1024) : (V m c main_v0 : Vec Ideal S1x1024 .f32) (ix2 0 d) = m ((c : Thread nD τ).loc main_arg2) (ix1 d) := by
  have h : V m c main_v0 = shapeCast S1x1024 (m ((c : Thread nD τ).loc main_arg2)) shapeCasts_S1024_S1x1024 := by
    dsimp only [V, hostOps0]
    after_results
    rfl
  rw [h]
  pointwise []

@[inherit_doc V_gain] theorem V_shift (d : Fin 1024) : (V m c main_v1 : Vec Ideal S1x1024 .f32) (ix2 0 d) = m ((c : Thread nD τ).loc main_arg3) (ix1 d) := by
  have h : V m c main_v1 = shapeCast S1x1024 (m ((c : Thread nD τ).loc main_arg3)) shapeCasts_S1024_S1x1024 := by
    dsimp only [V, hostOps0]
    after_results
    rfl
  rw [h]
  pointwise []

/-- The result's array. -/
theorem final : (dats m 0 c).arrAt 4 cfg0.N = norm (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  have ht : t.val < 32 := lt_of_lt_of_eq t.isLt Gen.N_0
  have h := (by decide +kernel : ∀ t : Fin grid0.N, win0_0.index t = ![t.val, 0] ∧ win0_1.index t = ![t.val, 0] ∧ win0_2.index t = ![0, 0]
    ∧ win0_3.index t = ![0, 0] ∧ win0_4.index t = ![t.val, 0]) t
  obtain ⟨r, d, rfl⟩ : ∃ (r : Fin 256) (d : Fin 1024), y = ix2 r d := ⟨y 0, y 1, ValueIdx.eq_ix2 y⟩
  have e : (win0_4.blk t).view.emb (ix2 r d) = ix2 ⟨256 * t.val + r.val, by omega⟩ d := by
    blk_ext [h]
  have hx : ∀ d : Fin 1024, (iblk m c 0 t : Vec Ideal S256x1024 .f32) (ix2 r d) = m ((c : Thread nD τ).loc main_arg0) (ix2 ⟨256 * t.val + r.val, by omega⟩ d) := by
    intro d
    rw [← V_main_arg0 m c]
    blk_ext! [iblk, h]
  have hf : ∀ d : Fin 1024, (iblk m c 1 t : Vec Ideal S256x1024 .f32) (ix2 r d) = m ((c : Thread nD τ).loc main_arg1) (ix2 ⟨256 * t.val + r.val, by omega⟩ d) := by
    intro d
    rw [← V_main_arg1 m c]
    blk_ext! [iblk, h]
  have hg : ∀ d : Fin 1024, (iblk m c 2 t : Vec Ideal S1x1024 .f32) (ix2 0 d) = m ((c : Thread nD τ).loc main_arg2) (ix1 d) := by
    intro d
    rw [← V_gain m c]
    blk_ext! [iblk, h]
  have hb : ∀ d : Fin 1024, (iblk m c 3 t : Vec Ideal S1x1024 .f32) (ix2 0 d) = m ((c : Thread nD τ).loc main_arg3) (ix1 d) := by
    intro d
    rw [← V_shift m c]
    blk_ext! [iblk, h]
  blk_simp
  rw [e, after0_4]
  refine (out_at _ _ _ _ r d).trans ?_
  simp only [hx, hf, hg, hb]
  rfl

end

section

open Cert.ReferenceLnFwdIdeal Cert.ReferenceLnFwdIdeal.Read

/-- The reference's result is the same normalization. -/
theorem reference (x f : Tiles.Mat 8192 1024) (g b : (⟨1, ![1024]⟩ : Shape).Idx → EReal) : val_main_v26 (F := Ideal) x f g b = norm x f g b := by
  funext i
  obtain ⟨r, d, rfl⟩ : ∃ (r : Fin 8192) (d : Fin 1024), i = ix2 r d := ⟨i 0, i 1, ValueIdx.eq_ix2 i⟩
  unfold norm normal centred
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, val_main_cst_2, val_main_cst_3, val_main_cst_4]

end

/-- The reference runs, keeps its arguments and ends with its counters at zero. -/
theorem frame_reference : Cert.quiescent_ReferenceLnFwdIdeal := fun m ρ _ =>
  (θ_run _ _ _).mono (fun r h => ⟨fun c => (h c).2, sem_eq_zero_of_no_sems (by decide) r.2⟩) (Cert.ReferenceLnFwdIdeal.Value.run m ρ)

/-- Kernel and reference end with the same array. -/
theorem algebraic : Cert.algebraic_KernelLnFwdIdeal_ReferenceLnFwdIdeal := by
  intro m ρ m' ρ' _ hagree
  refine ⟨_, (θ_run _ _ _).mono (fun _ h c => ⟨(h c).1.trans (final m c), (h c).2⟩) (Cert.KernelLnFwdIdeal.Value.run_blocks m ρ),
    (θ_run _ _ _).mono (fun r h c => ⟨(h c).1.trans (((Cert.ReferenceLnFwdIdeal.Read.val_main_v26_eq _ _ _ _).symm.trans (reference _ _ _ _)).trans ?_), (h c).2⟩)
      (Cert.ReferenceLnFwdIdeal.Value.run m' ρ')⟩
  rw [(hagree c).1, (hagree c).2.1, (hagree c).2.2.1, (hagree c).2.2.2]

end LnFwd

end
-- ==== Proof.XattnFwd.lean ====
module

public import proofs.«01_k».proof.Defs
public import proofs.«01_k».proof.Proof.LnFwd
public import proofs.«01_k».proof.Proof.Gen.KernelXattnFwdIdeal.Value
public import proofs.«01_k».proof.Proof.Gen.ReferenceXattnFwdIdeal.Read
public import proofs.«01_k».proof.Proof.Gen.ReferenceXattnFwdIdeal.Run
public import Idealize.ShloMosaic.Lib.Quiescent
public import Idealize.ShloMosaic.Lib.Pipeline.ValueKit.Point
public import Idealize.ShloMosaic.Lib.Pointwise

@[expose] public section

set_option maxRecDepth 16384

/-! The attention of the tokens to the memory. -/

noncomputable section

namespace XattnFwd

open Idealize.ShloMosaic Idealize.ShloMosaic.TcCoe Idealize.SL.Sem

/-- The factor of the scores and the value a maximum starts from. -/
abbrev factor : EReal := Ideal.ofBits .f32 0x3D800000#32
@[inherit_doc factor] abbrev lowest : EReal := Ideal.ofBits .f32 0xFF800000#32

/-- The largest score. -/
def top (s : Fin 256 → EReal) : EReal := Finset.univ.fold max lowest s

/-- The weights of the softmax. -/
def weight (s : Fin 256 → EReal) (j : Fin 256) : EReal :=
  Ideal.div (Ideal.exp (s j - top s)) (∑ l : Fin 256, Ideal.exp (s l - top s))

/-- Row `r` of example `b`, row `j` of that example's memory and column `e` of head `h`. -/
abbrev tok (b : Fin 2) (r : Fin 4096) : Fin 8192 := ⟨4096 * b.val + r.val, by omega⟩
@[inherit_doc tok] abbrev mem (b : Fin 2) (j : Fin 256) : Fin 512 := ⟨256 * b.val + j.val, by omega⟩
@[inherit_doc tok] abbrev col (h : Fin 4) (e : Fin 256) : Fin 1024 := ⟨256 * h.val + e.val, by omega⟩

/-- The scores of a token against its example's memory, for one head. -/
def score (q : Tiles.Mat 8192 1024) (k : Tiles.Mat 512 1024) (b : Fin 2) (h : Fin 4) (r : Fin 4096) (j : Fin 256) : EReal :=
  (∑ e : Fin 256, q (ix2 (tok b r) (col h e)) * k (ix2 (mem b j) (col h e))) * factor

/-- The example of a row, its place in the example, the head of a column and its place in the head. -/
abbrev ex (n : Fin 8192) : Fin 2 := ⟨n.val / 4096, by omega⟩
@[inherit_doc ex] abbrev place (n : Fin 8192) : Fin 4096 := ⟨n.val % 4096, by omega⟩
@[inherit_doc ex] abbrev head (p : Fin 1024) : Fin 4 := ⟨p.val / 256, by omega⟩
@[inherit_doc ex] abbrev dim (p : Fin 1024) : Fin 256 := ⟨p.val % 256, by omega⟩

/-- The attention: each head's values weighted by its softmax. -/
def attn (q : Tiles.Mat 8192 1024) (k v : Tiles.Mat 512 1024) : Tiles.Mat 8192 1024 := fun i =>
  ∑ j : Fin 256, weight (score q k (ex (i 0)) (head (i 1)) (place (i 0))) j * v (ix2 (mem (ex (i 0)) j) (col (head (i 1)) (dim (i 1))))

/-- The attention at a token and a column of a head. -/
theorem attn_at (q : Tiles.Mat 8192 1024) (k v : Tiles.Mat 512 1024) (b : Fin 2) (h : Fin 4) (r : Fin 4096) (d : Fin 256) :
    attn q k v (ix2 (tok b r) (col h d)) = ∑ j : Fin 256, weight (score q k b h r) j * v (ix2 (mem b j) (col h d)) := by
  have h1 : ex (tok b r) = b := Fin.ext (by show (4096 * b.val + r.val) / 4096 = b.val; omega)
  have h2 : place (tok b r) = r := Fin.ext (by show (4096 * b.val + r.val) % 4096 = r.val; omega)
  have h3 : head (col h d) = h := Fin.ext (by show (256 * h.val + d.val) / 256 = h.val; omega)
  have h4 : dim (col h d) = d := Fin.ext (by show (256 * h.val + d.val) % 256 = d.val; omega)
  show ∑ j : Fin 256, weight (score q k (ex (tok b r)) (head (col h d)) (place (tok b r))) j
    * v (ix2 (mem (ex (tok b r)) j) (col (head (col h d)) (dim (col h d)))) = _
  rw [h1, h2, h3, h4]

section

open Cert.KernelXattnFwdIdeal Cert.KernelXattnFwdIdeal.Gen

/-- What the kernel writes to a block of its result. -/
theorem out_at (x : Vec Ideal S1024x256 .bf16) (y z : Vec Ideal S256x256 .bf16) (r : Fin 1024) (d : Fin 256) :
    out0_3 x y z (ix2 r d) = ∑ j : Fin 256, weight (fun l => (∑ e : Fin 256, x (ix2 r e) * y (ix2 l e)) * factor) j * z (ix2 j d) := by
  unfold out0_3
  rw [View.canon_unit_zero Tiles.corner, View.ld_unit_zero (S := S1024x256) Tiles.corner, View.ld_unit_zero (S := S256x256) Tiles.corner,
    View.ld_unit_zero (S := S256x256) Tiles.corner]
  unfold weight top
  pointwise [k0_pay1]

variable (m : (ℓ : Loc nD τ sig) → Buf (Elt Ideal) ℓ) (c : Dev nD)

/-- The result's array. -/
theorem final : (dats m 0 c).arrAt 3 cfg0.N = attn (m ((c : Thread nD τ).loc main_arg0)) (m ((c : Thread nD τ).loc main_arg1))
    (m ((c : Thread nD τ).loc main_arg2)) := by
  refine (dats m 0 c).arrAt_eq_of_covers 3 _ (by decide +kernel) fun t _ y => ?_
  have ht : t.val < 32 := lt_of_lt_of_eq t.isLt Gen.N_0
  have h := (by decide +kernel : ∀ t : Fin grid0.N, win0_0.index t = ![t.val / 4, t.val % 4] ∧ win0_1.index t = ![t.val / 16, t.val % 4]
    ∧ win0_2.index t = ![t.val / 16, t.val % 4] ∧ win0_3.index t = ![t.val / 4, t.val % 4]) t
  obtain ⟨r, d, rfl⟩ : ∃ (r : Fin 1024) (d : Fin 256), y = ix2 r d := ⟨y 0, y 1, ValueIdx.eq_ix2 y⟩
  obtain ⟨b, hb⟩ : ∃ b : Fin 2, b.val = t.val / 16 := ⟨⟨t.val / 16, by omega⟩, rfl⟩
  obtain ⟨o, ho⟩ : ∃ o : Fin 4096, o.val = 1024 * (t.val / 4 % 4) + r.val := ⟨⟨1024 * (t.val / 4 % 4) + r.val, by omega⟩, rfl⟩
  obtain ⟨g, hg⟩ : ∃ g : Fin 4, g.val = t.val % 4 := ⟨⟨t.val % 4, by omega⟩, rfl⟩
  have e : (win0_3.blk t).view.emb (ix2 r d) = ix2 (tok b o) (col g d) := by
    blk_ext [h]
  have hx : ∀ d : Fin 256, (iblk m c 0 t : Vec Ideal S1024x256 .bf16) (ix2 r d) = m ((c : Thread nD τ).loc main_arg0) (ix2 (tok b o) (col g d)) := by
    intro d
    blk_ext! [iblk, V, h]
  have hy : ∀ j d : Fin 256, (iblk m c 1 t : Vec Ideal S256x256 .bf16) (ix2 j d) = m ((c : Thread nD τ).loc main_arg1) (ix2 (mem b j) (col g d)) := by
    intro j d
    blk_ext! [iblk, V, h]
  have hz : ∀ j d : Fin 256, (iblk m c 2 t : Vec Ideal S256x256 .bf16) (ix2 j d) = m ((c : Thread nD τ).loc main_arg2) (ix2 (mem b j) (col g d)) := by
    intro j d
    blk_ext! [iblk, V, h]
  blk_simp
  rw [e, after0_3]
  refine ((out_at _ _ _ r d).trans ?_).trans (attn_at _ _ _ b g o d).symm
  simp only [hx, hy, hz]
  rfl

end

section

open Cert.ReferenceXattnFwdIdeal Cert.ReferenceXattnFwdIdeal.Read

variable (q : Tiles.Mat 8192 1024) (k v : Tiles.Mat 512 1024)

/-- The reference's scores. -/
theorem score_at (b : Fin 2) (h : Fin 4) (r : Fin 4096) (j : Fin 256) : val_main_v8 (F := Ideal) q k (ix4 b h r j) = score q k b h r j := by
  rw [val_main_v8_apply, val_main_v6_apply]
  refine congrArg (· * factor) (Finset.sum_congr rfl fun e _ => ?_)
  rw [val_main_v3_apply, val_main_v4_apply]
  refine congrArg₂ (· * ·) (congrArg q ?_) (congrArg k ?_)
  · funext a
    match a with
    | ⟨0, _⟩ => exact Fin.ext (by show (((b.val * 4096 + r.val) * 4 + h.val) * 256 + e.val) / 1024 = 4096 * b.val + r.val; omega)
    | ⟨1, _⟩ => exact Fin.ext (by show (((b.val * 4096 + r.val) * 4 + h.val) * 256 + e.val) % 1024 = 256 * h.val + e.val; omega)
  · funext a
    match a with
    | ⟨0, _⟩ => exact Fin.ext (by show (((b.val * 256 + j.val) * 4 + h.val) * 256 + e.val) / 1024 = 256 * b.val + j.val; omega)
    | ⟨1, _⟩ => exact Fin.ext (by show (((b.val * 256 + j.val) * 4 + h.val) * 256 + e.val) % 1024 = 256 * h.val + e.val; omega)

/-- A maximum that starts from the lowest value is not below it. -/
theorem max_top (s : Fin 256 → EReal) : max lowest (top s) = top s :=
  max_eq_right ((Finset.le_fold_max _).2 (Or.inl le_rfl))

/-- The reference's largest score. -/
theorem top_at (b : Fin 2) (h : Fin 4) (r : Fin 4096) : val_main_v11 (F := Ideal) q k (ix3 b h r) = top (score q k b h r) := by
  refine Eq.trans ?_ (max_top _)
  have e : val_main_v9 (F := Ideal) q k (ix3 b h r) = top (fun j => val_main_v8 (F := Ideal) q k (ix4 b h r j)) := by
    unfold top
    pointwise [val_main_v9, val_main_cst_0]
  rw [val_main_v11_apply, val_main_v10_apply, e]
  simp only [score_at]
  rfl

/-- The reference's exponentials. -/
theorem exp_at (b : Fin 2) (h : Fin 4) (r : Fin 4096) (j : Fin 256) :
    val_main_v15 (F := Ideal) q k (ix4 b h r j) = Ideal.exp (score q k b h r j - top (score q k b h r)) := by
  have e : val_main_v15 (F := Ideal) q k (ix4 b h r j) = Ideal.exp (val_main_v8 (F := Ideal) q k (ix4 b h r j) - val_main_v11 (F := Ideal) q k (ix3 b h r)) := by
    pointwise [val_main_v15, val_main_v14, val_main_v13, val_main_v12]
  rw [e, score_at, top_at]

/-- The reference's weights. -/
theorem weight_at (b : Fin 2) (h : Fin 4) (r : Fin 4096) (j : Fin 256) :
    val_main_v19 (F := Ideal) q k (ix4 b h r j) = weight (score q k b h r) j := by
  have e : val_main_v19 (F := Ideal) q k (ix4 b h r j)
      = Ideal.div (val_main_v15 (F := Ideal) q k (ix4 b h r j)) (∑ l : Fin 256, val_main_v15 (F := Ideal) q k (ix4 b h r l)) := by
    pointwise [val_main_v19, val_main_v18, val_main_v17, val_main_v16, val_main_cst_2]
  rw [e]
  simp only [exp_at]
  rfl

/-- The reference's result is the same attention. -/
theorem reference : val_main_v23 (F := Ideal) q k v = attn q k v := by
  funext i
  obtain ⟨n, p, rfl⟩ : ∃ (n : Fin 8192) (p : Fin 1024), i = ix2 n p := ⟨i 0, i 1, ValueIdx.eq_ix2 i⟩
  have e : idx_main_v21 (idx_main_v22 (ix2 n p)) = ix4 (ex n) (head p) (dim p) (place n) := by
    funext a
    match a with
    | ⟨0, _⟩ => exact Fin.ext (by show (n.val * 1024 + p.val) / 4194304 = n.val / 4096; omega)
    | ⟨1, _⟩ => exact Fin.ext (by show (n.val * 1024 + p.val) / 256 % 4 = p.val / 256; omega)
    | ⟨2, _⟩ => exact Fin.ext (by show (n.val * 1024 + p.val) % 256 = p.val % 256; omega)
    | ⟨3, _⟩ => exact Fin.ext (by show (n.val * 1024 + p.val) / 1024 % 4096 = n.val % 4096; omega)
  rw [val_main_v23_apply, val_main_v22_apply, val_main_v21_apply, e]
  refine (val_main_v20_apply q k v _).trans (Finset.sum_congr rfl fun j _ => (mul_comm _ _).trans (congrArg₂ (· * ·) ?_ ?_))
  · refine Eq.trans (congrArg (val_main_v19 (F := Ideal) q k) ?_) (weight_at q k (ex n) (head p) (place n) j)
    funext a
    match a with
    | ⟨0, _⟩ => rfl
    | ⟨1, _⟩ => rfl
    | ⟨2, _⟩ => rfl
    | ⟨3, _⟩ => rfl
  · rw [val_main_v5_apply]
    refine congrArg v ?_
    funext a
    match a with
    | ⟨0, _⟩ => exact Fin.ext (by show (((n.val / 4096 * 256 + j.val) * 4 + p.val / 256) * 256 + p.val % 256) / 1024 = 256 * (n.val / 4096) + j.val; omega)
    | ⟨1, _⟩ => exact Fin.ext (by show (((n.val / 4096 * 256 + j.val) * 4 + p.val / 256) * 256 + p.val % 256) % 1024 = 256 * (p.val / 256) + p.val % 256; omega)

end

/-- The reference runs, keeps its arguments and ends with its counters at zero. -/
theorem frame_reference : Cert.quiescent_ReferenceXattnFwdIdeal := fun m ρ _ =>
  (θ_run _ _ _).mono (fun r h => ⟨fun c => (h c).2, sem_eq_zero_of_no_sems (by decide) r.2⟩) (Cert.ReferenceXattnFwdIdeal.Value.run m ρ)

/-- Kernel and reference end with the same array. -/
theorem algebraic : Cert.algebraic_KernelXattnFwdIdeal_ReferenceXattnFwdIdeal := by
  intro m ρ m' ρ' _ hagree
  refine ⟨_, (θ_run _ _ _).mono (fun _ h c => ⟨(h c).1.trans (final m c), (h c).2⟩) (Cert.KernelXattnFwdIdeal.Value.run_blocks m ρ),
    (θ_run _ _ _).mono (fun r h c => ⟨(h c).1.trans (((Cert.ReferenceXattnFwdIdeal.Read.val_main_v23_eq _ _ _).symm.trans (reference _ _ _)).trans ?_), (h c).2⟩)
      (Cert.ReferenceXattnFwdIdeal.Value.run m' ρ')⟩
  rw [(hagree c).1, (hagree c).2.1, (hagree c).2.2]

end XattnFwd

end
-- ==== Proof.lean ====
/- The proof of every claim of the certificate. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.KernelFfnInDw.Frame
public import proofs.«01_k».proof.Proof.Gen.KernelFfnInDwIdeal.Frame
public import proofs.«01_k».proof.Proof.Gen.KernelFfnInDwIdeal.Value
public import proofs.«01_k».proof.Proof.Gen.ReferenceFfnInDwIdeal.Read
public import proofs.«01_k».proof.Proof.Gen.ReferenceFfnInDwIdeal.Run
public import proofs.«01_k».proof.Proof.Gen.KernelFfnOutDw.Frame
public import proofs.«01_k».proof.Proof.Gen.KernelFfnOutDwIdeal.Frame
public import proofs.«01_k».proof.Proof.Gen.KernelFfnOutDwIdeal.Value
public import proofs.«01_k».proof.Proof.Gen.ReferenceFfnOutDwIdeal.Read
public import proofs.«01_k».proof.Proof.Gen.ReferenceFfnOutDwIdeal.Run
public import proofs.«01_k».proof.Proof.Gen.KernelMemODw.Frame
public import proofs.«01_k».proof.Proof.Gen.KernelMemODwIdeal.Frame
public import proofs.«01_k».proof.Proof.Gen.KernelMemODwIdeal.Value
public import proofs.«01_k».proof.Proof.Gen.ReferenceMemODwIdeal.Read
public import proofs.«01_k».proof.Proof.Gen.ReferenceMemODwIdeal.Run
public import proofs.«01_k».proof.Proof.Gen.KernelMemQDw.Frame
public import proofs.«01_k».proof.Proof.Gen.KernelMemQDwIdeal.Frame
public import proofs.«01_k».proof.Proof.Gen.KernelMemQDwIdeal.Value
public import proofs.«01_k».proof.Proof.Gen.ReferenceMemQDwIdeal.Read
public import proofs.«01_k».proof.Proof.Gen.ReferenceMemQDwIdeal.Run
public import proofs.«01_k».proof.Proof.Gen.KernelMemKvDw.Frame
public import proofs.«01_k».proof.Proof.Gen.KernelMemKvDwIdeal.Frame
public import proofs.«01_k».proof.Proof.Gen.KernelMemKvDwIdeal.Value
public import proofs.«01_k».proof.Proof.Gen.ReferenceMemKvDwIdeal.Read
public import proofs.«01_k».proof.Proof.Gen.ReferenceMemKvDwIdeal.Run
public import proofs.«01_k».proof.Proof.Gen.KernelInProjDw.Frame
public import proofs.«01_k».proof.Proof.Gen.KernelInProjDwIdeal.Frame
public import proofs.«01_k».proof.Proof.Gen.KernelInProjDwIdeal.Value
public import proofs.«01_k».proof.Proof.Gen.ReferenceInProjDwIdeal.Read
public import proofs.«01_k».proof.Proof.Gen.ReferenceInProjDwIdeal.Run
public import proofs.«01_k».proof.Proof.Gen.KernelQkvProjDw.Frame
public import proofs.«01_k».proof.Proof.Gen.KernelQkvProjDwIdeal.Frame
public import proofs.«01_k».proof.Proof.Gen.KernelQkvProjDwIdeal.Value
public import proofs.«01_k».proof.Proof.Gen.ReferenceQkvProjDwIdeal.Read
public import proofs.«01_k».proof.Proof.Gen.ReferenceQkvProjDwIdeal.Run
public import proofs.«01_k».proof.Proof.Gen.KernelSbOutProjDw.Frame
public import proofs.«01_k».proof.Proof.Gen.KernelSbOutProjDwIdeal.Frame
public import proofs.«01_k».proof.Proof.Gen.KernelSbOutProjDwIdeal.Value
public import proofs.«01_k».proof.Proof.Gen.ReferenceSbOutProjDwIdeal.Read
public import proofs.«01_k».proof.Proof.Gen.ReferenceSbOutProjDwIdeal.Run
public import proofs.«01_k».proof.Proof.Gen.KernelFfnIn.Frame
public import proofs.«01_k».proof.Proof.Gen.KernelFfnInIdeal.Frame
public import proofs.«01_k».proof.Proof.Gen.ReferenceFfnInIdeal.Read
public import proofs.«01_k».proof.Proof.Gen.ReferenceFfnInIdeal.Run
public import proofs.«01_k».proof.Proof.Gen.KernelFfnOutDx.Frame
public import proofs.«01_k».proof.Proof.Gen.KernelFfnOutDxIdeal.Frame
public import proofs.«01_k».proof.Proof.Gen.ReferenceFfnOutDxIdeal.Read
public import proofs.«01_k».proof.Proof.Gen.ReferenceFfnOutDxIdeal.Run
public import proofs.«01_k».proof.Proof.Gen.KernelQkvProj.Frame
public import proofs.«01_k».proof.Proof.Gen.KernelQkvProjIdeal.Frame
public import proofs.«01_k».proof.Proof.Gen.ReferenceQkvProjIdeal.Read
public import proofs.«01_k».proof.Proof.Gen.ReferenceQkvProjIdeal.Run
public import proofs.«01_k».proof.Proof.Gen.KernelInProj.Frame
public import proofs.«01_k».proof.Proof.Gen.KernelInProjIdeal.Frame
public import proofs.«01_k».proof.Proof.Gen.ReferenceInProjIdeal.Read
public import proofs.«01_k».proof.Proof.Gen.ReferenceInProjIdeal.Run
public import proofs.«01_k».proof.Proof.Gen.KernelMemQ.Frame
public import proofs.«01_k».proof.Proof.Gen.KernelMemQIdeal.Frame
public import proofs.«01_k».proof.Proof.Gen.ReferenceMemQIdeal.Read
public import proofs.«01_k».proof.Proof.Gen.ReferenceMemQIdeal.Run
public import proofs.«01_k».proof.Proof.Gen.KernelMemO.Frame
public import proofs.«01_k».proof.Proof.Gen.KernelMemOIdeal.Frame
public import proofs.«01_k».proof.Proof.Gen.ReferenceMemOIdeal.Read
public import proofs.«01_k».proof.Proof.Gen.ReferenceMemOIdeal.Run
public import proofs.«01_k».proof.Proof.Gen.KernelMemQDx.Frame
public import proofs.«01_k».proof.Proof.Gen.KernelMemQDxIdeal.Frame
public import proofs.«01_k».proof.Proof.Gen.ReferenceMemQDxIdeal.Read
public import proofs.«01_k».proof.Proof.Gen.ReferenceMemQDxIdeal.Run
public import proofs.«01_k».proof.Proof.Gen.KernelMemODx.Frame
public import proofs.«01_k».proof.Proof.Gen.KernelMemODxIdeal.Frame
public import proofs.«01_k».proof.Proof.Gen.ReferenceMemODxIdeal.Read
public import proofs.«01_k».proof.Proof.Gen.ReferenceMemODxIdeal.Run
public import proofs.«01_k».proof.Proof.Gen.KernelOutProj.Frame
public import proofs.«01_k».proof.Proof.Gen.KernelOutProjIdeal.Frame
public import proofs.«01_k».proof.Proof.Gen.ReferenceOutProjIdeal.Read
public import proofs.«01_k».proof.Proof.Gen.ReferenceOutProjIdeal.Run
public import proofs.«01_k».proof.Proof.Gen.KernelOutProjDx.Frame
public import proofs.«01_k».proof.Proof.Gen.KernelOutProjDxIdeal.Frame
public import proofs.«01_k».proof.Proof.Gen.ReferenceOutProjDxIdeal.Read
public import proofs.«01_k».proof.Proof.Gen.ReferenceOutProjDxIdeal.Run
public import proofs.«01_k».proof.Proof.Gen.KernelSbOutProjDx.Frame
public import proofs.«01_k».proof.Proof.Gen.KernelSbOutProjDxIdeal.Frame
public import proofs.«01_k».proof.Proof.Gen.ReferenceSbOutProjDxIdeal.Read
public import proofs.«01_k».proof.Proof.Gen.ReferenceSbOutProjDxIdeal.Run
public import proofs.«01_k».proof.Proof.Gen.KernelMemKv.Frame
public import proofs.«01_k».proof.Proof.Gen.KernelMemKvIdeal.Frame
public import proofs.«01_k».proof.Proof.Gen.ReferenceMemKvIdeal.Read
public import proofs.«01_k».proof.Proof.Gen.ReferenceMemKvIdeal.Run
public import proofs.«01_k».proof.Proof.Gen.KernelSwigluFwd.Frame
public import proofs.«01_k».proof.Proof.Gen.KernelSwigluFwdIdeal.Frame
public import proofs.«01_k».proof.Proof.Gen.KernelSwigluFwdIdeal.Value
public import proofs.«01_k».proof.Proof.Gen.ReferenceSwigluFwdIdeal.Read
public import proofs.«01_k».proof.Proof.Gen.ReferenceSwigluFwdIdeal.Run
public import proofs.«01_k».proof.Proof.Gen.KernelSwigluBwd.Frame
public import proofs.«01_k».proof.Proof.Gen.KernelSwigluBwdIdeal.Frame
public import proofs.«01_k».proof.Proof.Gen.KernelSwigluBwdIdeal.Value
public import proofs.«01_k».proof.Proof.Gen.ReferenceSwigluBwdIdeal.Read
public import proofs.«01_k».proof.Proof.Gen.ReferenceSwigluBwdIdeal.Run
public import proofs.«01_k».proof.Proof.Gen.KernelLnFwd.Frame
public import proofs.«01_k».proof.Proof.Gen.KernelLnFwdIdeal.Frame
public import proofs.«01_k».proof.Proof.Gen.KernelLnFwdIdeal.Value
public import proofs.«01_k».proof.Proof.Gen.ReferenceLnFwdIdeal.Read
public import proofs.«01_k».proof.Proof.Gen.ReferenceLnFwdIdeal.Run
public import proofs.«01_k».proof.Proof.Gen.KernelXattnFwd.Frame
public import proofs.«01_k».proof.Proof.Gen.KernelXattnFwdIdeal.Frame
public import proofs.«01_k».proof.Proof.Gen.KernelXattnFwdIdeal.Value
public import proofs.«01_k».proof.Proof.Gen.ReferenceXattnFwdIdeal.Read
public import proofs.«01_k».proof.Proof.Gen.ReferenceXattnFwdIdeal.Run
public import proofs.«01_k».proof.Proof.Gen.KernelFfnInDx0.Frame
public import proofs.«01_k».proof.Proof.Gen.KernelFfnInDx0Ideal.Frame
public import proofs.«01_k».proof.Proof.Gen.KernelFfnInDx0Ideal.Value
public import proofs.«01_k».proof.Proof.Gen.ReferenceFfnInDx0Ideal.Read
public import proofs.«01_k».proof.Proof.Gen.ReferenceFfnInDx0Ideal.Run
public import proofs.«01_k».proof.Proof.Gen.KernelFfnInDx1.Frame
public import proofs.«01_k».proof.Proof.Gen.KernelFfnInDx1Ideal.Frame
public import proofs.«01_k».proof.Proof.Gen.KernelFfnInDx1Ideal.Value
public import proofs.«01_k».proof.Proof.Gen.ReferenceFfnInDx1Ideal.Read
public import proofs.«01_k».proof.Proof.Gen.ReferenceFfnInDx1Ideal.Run
public import proofs.«01_k».proof.Proof.Gen.KernelFfnInDx2.Frame
public import proofs.«01_k».proof.Proof.Gen.KernelFfnInDx2Ideal.Frame
public import proofs.«01_k».proof.Proof.Gen.KernelFfnInDx2Ideal.Value
public import proofs.«01_k».proof.Proof.Gen.ReferenceFfnInDx2Ideal.Read
public import proofs.«01_k».proof.Proof.Gen.ReferenceFfnInDx2Ideal.Run
public import proofs.«01_k».proof.Proof.Gen.KernelFfnInDx3.Frame
public import proofs.«01_k».proof.Proof.Gen.KernelFfnInDx3Ideal.Frame
public import proofs.«01_k».proof.Proof.Gen.KernelFfnInDx3Ideal.Value
public import proofs.«01_k».proof.Proof.Gen.ReferenceFfnInDx3Ideal.Read
public import proofs.«01_k».proof.Proof.Gen.ReferenceFfnInDx3Ideal.Run
public import proofs.«01_k».proof.Proof.Gen.KernelFfnOut0.Frame
public import proofs.«01_k».proof.Proof.Gen.KernelFfnOut0Ideal.Frame
public import proofs.«01_k».proof.Proof.Gen.KernelFfnOut0Ideal.Value
public import proofs.«01_k».proof.Proof.Gen.ReferenceFfnOut0Ideal.Read
public import proofs.«01_k».proof.Proof.Gen.ReferenceFfnOut0Ideal.Run
public import proofs.«01_k».proof.Proof.Gen.KernelFfnOut1.Frame
public import proofs.«01_k».proof.Proof.Gen.KernelFfnOut1Ideal.Frame
public import proofs.«01_k».proof.Proof.Gen.KernelFfnOut1Ideal.Value
public import proofs.«01_k».proof.Proof.Gen.ReferenceFfnOut1Ideal.Read
public import proofs.«01_k».proof.Proof.Gen.ReferenceFfnOut1Ideal.Run
public import proofs.«01_k».proof.Proof.Gen.KernelFfnOut2.Frame
public import proofs.«01_k».proof.Proof.Gen.KernelFfnOut2Ideal.Frame
public import proofs.«01_k».proof.Proof.Gen.KernelFfnOut2Ideal.Value
public import proofs.«01_k».proof.Proof.Gen.ReferenceFfnOut2Ideal.Read
public import proofs.«01_k».proof.Proof.Gen.ReferenceFfnOut2Ideal.Run
public import proofs.«01_k».proof.Proof.Gen.KernelFfnOut3.Frame
public import proofs.«01_k».proof.Proof.Gen.KernelFfnOut3Ideal.Frame
public import proofs.«01_k».proof.Proof.Gen.KernelFfnOut3Ideal.Value
public import proofs.«01_k».proof.Proof.Gen.ReferenceFfnOut3Ideal.Read
public import proofs.«01_k».proof.Proof.Gen.ReferenceFfnOut3Ideal.Run
public import proofs.«01_k».proof.Proof.Gen.KernelQkvProjDx0.Frame
public import proofs.«01_k».proof.Proof.Gen.KernelQkvProjDx0Ideal.Frame
public import proofs.«01_k».proof.Proof.Gen.KernelQkvProjDx0Ideal.Value
public import proofs.«01_k».proof.Proof.Gen.ReferenceQkvProjDx0Ideal.Read
public import proofs.«01_k».proof.Proof.Gen.ReferenceQkvProjDx0Ideal.Run
public import proofs.«01_k».proof.Proof.Gen.KernelQkvProjDx1.Frame
public import proofs.«01_k».proof.Proof.Gen.KernelQkvProjDx1Ideal.Frame
public import proofs.«01_k».proof.Proof.Gen.KernelQkvProjDx1Ideal.Value
public import proofs.«01_k».proof.Proof.Gen.ReferenceQkvProjDx1Ideal.Read
public import proofs.«01_k».proof.Proof.Gen.ReferenceQkvProjDx1Ideal.Run
public import proofs.«01_k».proof.Proof.Gen.KernelInProjDx0.Frame
public import proofs.«01_k».proof.Proof.Gen.KernelInProjDx0Ideal.Frame
public import proofs.«01_k».proof.Proof.Gen.KernelInProjDx0Ideal.Value
public import proofs.«01_k».proof.Proof.Gen.ReferenceInProjDx0Ideal.Read
public import proofs.«01_k».proof.Proof.Gen.ReferenceInProjDx0Ideal.Run
public import proofs.«01_k».proof.Proof.Gen.KernelInProjDx1.Frame
public import proofs.«01_k».proof.Proof.Gen.KernelInProjDx1Ideal.Frame
public import proofs.«01_k».proof.Proof.Gen.KernelInProjDx1Ideal.Value
public import proofs.«01_k».proof.Proof.Gen.ReferenceInProjDx1Ideal.Read
public import proofs.«01_k».proof.Proof.Gen.ReferenceInProjDx1Ideal.Run
public import proofs.«01_k».proof.Proof.Gen.KernelSbOutProj0.Frame
public import proofs.«01_k».proof.Proof.Gen.KernelSbOutProj0Ideal.Frame
public import proofs.«01_k».proof.Proof.Gen.KernelSbOutProj0Ideal.Value
public import proofs.«01_k».proof.Proof.Gen.ReferenceSbOutProj0Ideal.Read
public import proofs.«01_k».proof.Proof.Gen.ReferenceSbOutProj0Ideal.Run
public import proofs.«01_k».proof.Proof.Gen.KernelSbOutProj1.Frame
public import proofs.«01_k».proof.Proof.Gen.KernelSbOutProj1Ideal.Frame
public import proofs.«01_k».proof.Proof.Gen.KernelSbOutProj1Ideal.Value
public import proofs.«01_k».proof.Proof.Gen.ReferenceSbOutProj1Ideal.Read
public import proofs.«01_k».proof.Proof.Gen.ReferenceSbOutProj1Ideal.Run
public import proofs.«01_k».proof.Proof.XattnFwd
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

section

open Cert.ReferenceIdeal

/-- The reference runs, keeps its arguments and ends with its counters at zero. -/
theorem frame_reference (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2.2.2.2.2, sem_eq_zero_of_no_sems (by decide) r.2⟩)
    (Value.run (F := Ideal) m ρ)

/-- The reference's six results as functions of arguments that are real where they are read. -/
theorem reference_run (m : (ℓ : Loc nD τ sig) → Buf (Elt Ideal) ℓ) (ρ : Dev nD → PrngReg) (A : Dev nD → Gmlp.Args)
    (hA : ∀ c, Gmlp.rargs (StableHlo.launchContents m c) = A c) (hf : ∀ c, (A c).Finite) :
    θ_run defs (onTc (τ := τ) (main (F := Ideal))) ⟨m, fun _ => 0, ρ⟩ fun r => ∀ c : Dev nD,
      r.2.mem ((c.tc : Thread nD τ).loc main_v144) = (A c).duR
      ∧ r.2.mem ((c.tc : Thread nD τ).loc main_v146) = (A c).dvR
      ∧ r.2.mem ((c.tc : Thread nD τ).loc main_v147) = (A c).dgainR
      ∧ r.2.mem ((c.tc : Thread nD τ).loc main_v148) = (A c).dbiasR
      ∧ r.2.mem ((c.tc : Thread nD τ).loc main_v84) = (A c).dWR
      ∧ r.2.mem ((c.tc : Thread nD τ).loc main_v149) = (A c).dbR
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (Value.run (F := Ideal) m ρ)
  have hc : (Gmlp.rargs (StableHlo.launchContents m c)).Finite := (hA c).symm ▸ hf c
  obtain ⟨h0, h1, h2, h3, h4, h5, h⟩ := h c
  rw [← hA c]
  exact ⟨h0.trans ((Value.val4_main_v144 _).symm.trans (Gmlp.v144_at _)),
    h1.trans ((Value.val4_main_v146 _).symm.trans (Gmlp.v146_at _ hc)),
    h2.trans ((Value.val4_main_v147 _).symm.trans (Gmlp.v147_at _)),
    h3.trans ((Value.val4_main_v148 _).symm.trans (Gmlp.v148_at _)),
    h4.trans ((Value.val4_main_v84 _).symm.trans (Gmlp.v84_at _)),
    h5.trans ((Value.val4_main_v149 _).symm.trans (Gmlp.v149_at _)), h⟩

end

/-- On arguments that are real where they are read the kernel's six results are the reference's. -/
theorem algebraic [Cert.Pre_finite.Facts] : Cert.algebraic_KernelIdeal_ReferenceIdeal_pre_finite := by
  intro m ρ m' ρ' hpre hagree
  refine ⟨fun c => (Gmlp.args m c).duR, fun c => (Gmlp.args m c).dvR, fun c => (Gmlp.args m c).dgainR,
    fun c => (Gmlp.args m c).dbiasR, fun c => (Gmlp.args m c).dWR, fun c => (Gmlp.args m c).dbR, Gmlp.kernel_run m ρ,
    reference_run m' ρ' (Gmlp.args m) (fun c => ?_) fun c => Gmlp.args_finite hpre c⟩
  obtain ⟨h0, h1, h2, h3, h4, h5⟩ := hagree c
  have e : ∀ {x0 y0 x1 y1 x2 y2 x3 y3 x4 y4 x5 y5}, x0 = y0 → x1 = y1 → x2 = y2 → x3 = y3 → x4 = y4 → x5 = y5 →
      Gmlp.Args.mk x0 x1 x2 x3 x4 x5 = Gmlp.Args.mk y0 y1 y2 y3 y4 y5 := by
    rintro _ _ _ _ _ _ _ _ _ _ _ _ rfl rfl rfl rfl rfl rfl
    rfl
  exact e h0 h1 h2 h3 h4 h5

/-- Every claim of the certificate. -/
theorem claim : Cert.Claim := ⟨Cert.Kernel.Gen.facts, Cert.KernelIdeal.Gen.facts, Cert.ReferenceIdeal.Gen.facts,
  Cert.KernelFfnInDw.Gen.facts, Cert.KernelFfnInDwIdeal.Gen.facts, Cert.ReferenceFfnInDwIdeal.Gen.facts,
  Cert.KernelFfnOutDw.Gen.facts, Cert.KernelFfnOutDwIdeal.Gen.facts, Cert.ReferenceFfnOutDwIdeal.Gen.facts,
  Cert.KernelMemODw.Gen.facts, Cert.KernelMemODwIdeal.Gen.facts, Cert.ReferenceMemODwIdeal.Gen.facts,
  Cert.KernelMemQDw.Gen.facts, Cert.KernelMemQDwIdeal.Gen.facts, Cert.ReferenceMemQDwIdeal.Gen.facts,
  Cert.KernelMemKvDw.Gen.facts, Cert.KernelMemKvDwIdeal.Gen.facts, Cert.ReferenceMemKvDwIdeal.Gen.facts,
  Cert.KernelInProjDw.Gen.facts, Cert.KernelInProjDwIdeal.Gen.facts, Cert.ReferenceInProjDwIdeal.Gen.facts,
  Cert.KernelQkvProjDw.Gen.facts, Cert.KernelQkvProjDwIdeal.Gen.facts, Cert.ReferenceQkvProjDwIdeal.Gen.facts,
  Cert.KernelSbOutProjDw.Gen.facts, Cert.KernelSbOutProjDwIdeal.Gen.facts, Cert.ReferenceSbOutProjDwIdeal.Gen.facts,
  Cert.KernelFfnIn.Gen.facts, Cert.KernelFfnInIdeal.Gen.facts, Cert.ReferenceFfnInIdeal.Gen.facts,
  Cert.KernelFfnOutDx.Gen.facts, Cert.KernelFfnOutDxIdeal.Gen.facts, Cert.ReferenceFfnOutDxIdeal.Gen.facts,
  Cert.KernelQkvProj.Gen.facts, Cert.KernelQkvProjIdeal.Gen.facts, Cert.ReferenceQkvProjIdeal.Gen.facts,
  Cert.KernelInProj.Gen.facts, Cert.KernelInProjIdeal.Gen.facts, Cert.ReferenceInProjIdeal.Gen.facts,
  Cert.KernelMemQ.Gen.facts, Cert.KernelMemQIdeal.Gen.facts, Cert.ReferenceMemQIdeal.Gen.facts,
  Cert.KernelMemO.Gen.facts, Cert.KernelMemOIdeal.Gen.facts, Cert.ReferenceMemOIdeal.Gen.facts,
  Cert.KernelMemQDx.Gen.facts, Cert.KernelMemQDxIdeal.Gen.facts, Cert.ReferenceMemQDxIdeal.Gen.facts,
  Cert.KernelMemODx.Gen.facts, Cert.KernelMemODxIdeal.Gen.facts, Cert.ReferenceMemODxIdeal.Gen.facts,
  Cert.KernelOutProj.Gen.facts, Cert.KernelOutProjIdeal.Gen.facts, Cert.ReferenceOutProjIdeal.Gen.facts,
  Cert.KernelOutProjDx.Gen.facts, Cert.KernelOutProjDxIdeal.Gen.facts, Cert.ReferenceOutProjDxIdeal.Gen.facts,
  Cert.KernelSbOutProjDx.Gen.facts, Cert.KernelSbOutProjDxIdeal.Gen.facts, Cert.ReferenceSbOutProjDxIdeal.Gen.facts,
  Cert.KernelMemKv.Gen.facts, Cert.KernelMemKvIdeal.Gen.facts, Cert.ReferenceMemKvIdeal.Gen.facts,
  Cert.KernelSwigluFwd.Gen.facts, Cert.KernelSwigluFwdIdeal.Gen.facts, Cert.ReferenceSwigluFwdIdeal.Gen.facts,
  Cert.KernelSwigluBwd.Gen.facts, Cert.KernelSwigluBwdIdeal.Gen.facts, Cert.ReferenceSwigluBwdIdeal.Gen.facts,
  Cert.KernelLnFwd.Gen.facts, Cert.KernelLnFwdIdeal.Gen.facts, Cert.ReferenceLnFwdIdeal.Gen.facts,
  Cert.KernelXattnFwd.Gen.facts, Cert.KernelXattnFwdIdeal.Gen.facts, Cert.ReferenceXattnFwdIdeal.Gen.facts,
  Cert.KernelFfnInDx0.Gen.facts, Cert.KernelFfnInDx0Ideal.Gen.facts, Cert.ReferenceFfnInDx0Ideal.Gen.facts,
  Cert.KernelFfnInDx1.Gen.facts, Cert.KernelFfnInDx1Ideal.Gen.facts, Cert.ReferenceFfnInDx1Ideal.Gen.facts,
  Cert.KernelFfnInDx2.Gen.facts, Cert.KernelFfnInDx2Ideal.Gen.facts, Cert.ReferenceFfnInDx2Ideal.Gen.facts,
  Cert.KernelFfnInDx3.Gen.facts, Cert.KernelFfnInDx3Ideal.Gen.facts, Cert.ReferenceFfnInDx3Ideal.Gen.facts,
  Cert.KernelFfnOut0.Gen.facts, Cert.KernelFfnOut0Ideal.Gen.facts, Cert.ReferenceFfnOut0Ideal.Gen.facts,
  Cert.KernelFfnOut1.Gen.facts, Cert.KernelFfnOut1Ideal.Gen.facts, Cert.ReferenceFfnOut1Ideal.Gen.facts,
  Cert.KernelFfnOut2.Gen.facts, Cert.KernelFfnOut2Ideal.Gen.facts, Cert.ReferenceFfnOut2Ideal.Gen.facts,
  Cert.KernelFfnOut3.Gen.facts, Cert.KernelFfnOut3Ideal.Gen.facts, Cert.ReferenceFfnOut3Ideal.Gen.facts,
  Cert.KernelQkvProjDx0.Gen.facts, Cert.KernelQkvProjDx0Ideal.Gen.facts, Cert.ReferenceQkvProjDx0Ideal.Gen.facts,
  Cert.KernelQkvProjDx1.Gen.facts, Cert.KernelQkvProjDx1Ideal.Gen.facts, Cert.ReferenceQkvProjDx1Ideal.Gen.facts,
  Cert.KernelInProjDx0.Gen.facts, Cert.KernelInProjDx0Ideal.Gen.facts, Cert.ReferenceInProjDx0Ideal.Gen.facts,
  Cert.KernelInProjDx1.Gen.facts, Cert.KernelInProjDx1Ideal.Gen.facts, Cert.ReferenceInProjDx1Ideal.Gen.facts,
  Cert.KernelSbOutProj0.Gen.facts, Cert.KernelSbOutProj0Ideal.Gen.facts, Cert.ReferenceSbOutProj0Ideal.Gen.facts,
  Cert.KernelSbOutProj1.Gen.facts, Cert.KernelSbOutProj1Ideal.Gen.facts, Cert.ReferenceSbOutProj1Ideal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.KernelFfnInDw.Gen.frame m ρ, fun m ρ _ => Cert.KernelFfnInDwIdeal.Gen.frame m ρ, FfnInDw.frame_reference,
  fun m ρ _ => Cert.KernelFfnOutDw.Gen.frame m ρ, fun m ρ _ => Cert.KernelFfnOutDwIdeal.Gen.frame m ρ, FfnOutDw.frame_reference,
  fun m ρ _ => Cert.KernelMemODw.Gen.frame m ρ, fun m ρ _ => Cert.KernelMemODwIdeal.Gen.frame m ρ, MemODw.frame_reference,
  fun m ρ _ => Cert.KernelMemQDw.Gen.frame m ρ, fun m ρ _ => Cert.KernelMemQDwIdeal.Gen.frame m ρ, MemQDw.frame_reference,
  fun m ρ _ => Cert.KernelMemKvDw.Gen.frame m ρ, fun m ρ _ => Cert.KernelMemKvDwIdeal.Gen.frame m ρ, MemKvDw.frame_reference,
  fun m ρ _ => Cert.KernelInProjDw.Gen.frame m ρ, fun m ρ _ => Cert.KernelInProjDwIdeal.Gen.frame m ρ, InProjDw.frame_reference,
  fun m ρ _ => Cert.KernelQkvProjDw.Gen.frame m ρ, fun m ρ _ => Cert.KernelQkvProjDwIdeal.Gen.frame m ρ, QkvProjDw.frame_reference,
  fun m ρ _ => Cert.KernelSbOutProjDw.Gen.frame m ρ, fun m ρ _ => Cert.KernelSbOutProjDwIdeal.Gen.frame m ρ, SbOutProjDw.frame_reference,
  fun m ρ _ => Cert.KernelFfnIn.Gen.frame m ρ, fun m ρ _ => Cert.KernelFfnInIdeal.Gen.frame m ρ, FfnIn.frame_reference,
  fun m ρ _ => Cert.KernelFfnOutDx.Gen.frame m ρ, fun m ρ _ => Cert.KernelFfnOutDxIdeal.Gen.frame m ρ, FfnOutDx.frame_reference,
  fun m ρ _ => Cert.KernelQkvProj.Gen.frame m ρ, fun m ρ _ => Cert.KernelQkvProjIdeal.Gen.frame m ρ, QkvProj.frame_reference,
  fun m ρ _ => Cert.KernelInProj.Gen.frame m ρ, fun m ρ _ => Cert.KernelInProjIdeal.Gen.frame m ρ, InProj.frame_reference,
  fun m ρ _ => Cert.KernelMemQ.Gen.frame m ρ, fun m ρ _ => Cert.KernelMemQIdeal.Gen.frame m ρ, MemQ.frame_reference,
  fun m ρ _ => Cert.KernelMemO.Gen.frame m ρ, fun m ρ _ => Cert.KernelMemOIdeal.Gen.frame m ρ, MemO.frame_reference,
  fun m ρ _ => Cert.KernelMemQDx.Gen.frame m ρ, fun m ρ _ => Cert.KernelMemQDxIdeal.Gen.frame m ρ, MemQDx.frame_reference,
  fun m ρ _ => Cert.KernelMemODx.Gen.frame m ρ, fun m ρ _ => Cert.KernelMemODxIdeal.Gen.frame m ρ, MemODx.frame_reference,
  fun m ρ _ => Cert.KernelOutProj.Gen.frame m ρ, fun m ρ _ => Cert.KernelOutProjIdeal.Gen.frame m ρ, OutProj.frame_reference,
  fun m ρ _ => Cert.KernelOutProjDx.Gen.frame m ρ, fun m ρ _ => Cert.KernelOutProjDxIdeal.Gen.frame m ρ, OutProjDx.frame_reference,
  fun m ρ _ => Cert.KernelSbOutProjDx.Gen.frame m ρ, fun m ρ _ => Cert.KernelSbOutProjDxIdeal.Gen.frame m ρ, SbOutProjDx.frame_reference,
  fun m ρ _ => Cert.KernelMemKv.Gen.frame m ρ, fun m ρ _ => Cert.KernelMemKvIdeal.Gen.frame m ρ, MemKv.frame_reference,
  fun m ρ _ => Cert.KernelSwigluFwd.Gen.frame m ρ, fun m ρ _ => Cert.KernelSwigluFwdIdeal.Gen.frame m ρ, SwigluFwd.frame_reference,
  fun m ρ _ => Cert.KernelSwigluBwd.Gen.frame m ρ, fun m ρ _ => Cert.KernelSwigluBwdIdeal.Gen.frame m ρ, SwigluBwd.frame_reference,
  fun m ρ _ => Cert.KernelLnFwd.Gen.frame m ρ, fun m ρ _ => Cert.KernelLnFwdIdeal.Gen.frame m ρ, LnFwd.frame_reference,
  fun m ρ _ => Cert.KernelXattnFwd.Gen.frame m ρ, fun m ρ _ => Cert.KernelXattnFwdIdeal.Gen.frame m ρ, XattnFwd.frame_reference,
  fun m ρ _ => Cert.KernelFfnInDx0.Gen.frame m ρ, fun m ρ _ => Cert.KernelFfnInDx0Ideal.Gen.frame m ρ, FfnInDx0.frame_reference,
  fun m ρ _ => Cert.KernelFfnInDx1.Gen.frame m ρ, fun m ρ _ => Cert.KernelFfnInDx1Ideal.Gen.frame m ρ, FfnInDx1.frame_reference,
  fun m ρ _ => Cert.KernelFfnInDx2.Gen.frame m ρ, fun m ρ _ => Cert.KernelFfnInDx2Ideal.Gen.frame m ρ, FfnInDx2.frame_reference,
  fun m ρ _ => Cert.KernelFfnInDx3.Gen.frame m ρ, fun m ρ _ => Cert.KernelFfnInDx3Ideal.Gen.frame m ρ, FfnInDx3.frame_reference,
  fun m ρ _ => Cert.KernelFfnOut0.Gen.frame m ρ, fun m ρ _ => Cert.KernelFfnOut0Ideal.Gen.frame m ρ, FfnOut0.frame_reference,
  fun m ρ _ => Cert.KernelFfnOut1.Gen.frame m ρ, fun m ρ _ => Cert.KernelFfnOut1Ideal.Gen.frame m ρ, FfnOut1.frame_reference,
  fun m ρ _ => Cert.KernelFfnOut2.Gen.frame m ρ, fun m ρ _ => Cert.KernelFfnOut2Ideal.Gen.frame m ρ, FfnOut2.frame_reference,
  fun m ρ _ => Cert.KernelFfnOut3.Gen.frame m ρ, fun m ρ _ => Cert.KernelFfnOut3Ideal.Gen.frame m ρ, FfnOut3.frame_reference,
  fun m ρ _ => Cert.KernelQkvProjDx0.Gen.frame m ρ, fun m ρ _ => Cert.KernelQkvProjDx0Ideal.Gen.frame m ρ, QkvProjDx0.frame_reference,
  fun m ρ _ => Cert.KernelQkvProjDx1.Gen.frame m ρ, fun m ρ _ => Cert.KernelQkvProjDx1Ideal.Gen.frame m ρ, QkvProjDx1.frame_reference,
  fun m ρ _ => Cert.KernelInProjDx0.Gen.frame m ρ, fun m ρ _ => Cert.KernelInProjDx0Ideal.Gen.frame m ρ, InProjDx0.frame_reference,
  fun m ρ _ => Cert.KernelInProjDx1.Gen.frame m ρ, fun m ρ _ => Cert.KernelInProjDx1Ideal.Gen.frame m ρ, InProjDx1.frame_reference,
  fun m ρ _ => Cert.KernelSbOutProj0.Gen.frame m ρ, fun m ρ _ => Cert.KernelSbOutProj0Ideal.Gen.frame m ρ, SbOutProj0.frame_reference,
  fun m ρ _ => Cert.KernelSbOutProj1.Gen.frame m ρ, fun m ρ _ => Cert.KernelSbOutProj1Ideal.Gen.frame m ρ, SbOutProj1.frame_reference,
  trivial, algebraic,
  trivial, FfnInDw.algebraic,
  trivial, FfnOutDw.algebraic,
  trivial, MemODw.algebraic,
  trivial, MemQDw.algebraic,
  trivial, MemKvDw.algebraic,
  trivial, InProjDw.algebraic,
  trivial, QkvProjDw.algebraic,
  trivial, SbOutProjDw.algebraic,
  trivial, FfnIn.algebraic,
  trivial, FfnOutDx.algebraic,
  trivial, QkvProj.algebraic,
  trivial, InProj.algebraic,
  trivial, MemQ.algebraic,
  trivial, MemO.algebraic,
  trivial, MemQDx.algebraic,
  trivial, MemODx.algebraic,
  trivial, OutProj.algebraic,
  trivial, OutProjDx.algebraic,
  trivial, SbOutProjDx.algebraic,
  trivial, MemKv.algebraic,
  trivial, SwigluFwd.algebraic,
  trivial, SwigluBwd.algebraic,
  trivial, LnFwd.algebraic,
  trivial, XattnFwd.algebraic,
  trivial, FfnInDx0.algebraic,
  trivial, FfnInDx1.algebraic,
  trivial, FfnInDx2.algebraic,
  trivial, FfnInDx3.algebraic,
  trivial, FfnOut0.algebraic,
  trivial, FfnOut1.algebraic,
  trivial, FfnOut2.algebraic,
  trivial, FfnOut3.algebraic,
  trivial, QkvProjDx0.algebraic,
  trivial, QkvProjDx1.algebraic,
  trivial, InProjDx0.algebraic,
  trivial, InProjDx1.algebraic,
  trivial, SbOutProj0.algebraic,
  trivial, SbOutProj1.algebraic⟩

end Cert.Proof

end
